-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_powers_finite [hPre_powers_finite : Cert.Pre_powers_finite.Facts] (m : (ℓ : Loc Cert.KernelIdeal.nD Cert.KernelIdeal.τ Cert.KernelIdeal.sig) → Buf (Elt Ideal) ℓ) : Prop :=
  ∀ c : Dev Cert.KernelIdeal.nD,
    (Cert.Pre_powers_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_powers_finite [hPre_powers_finite : Cert.Pre_powers_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_powers_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_powers_finite [hKernelIdeal : Cert.KernelIdeal.Facts] [hPre_powers_finite : Cert.Pre_powers_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_powers_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_powers_finite [hReferenceIdeal : Cert.ReferenceIdeal.Facts] [hPre_powers_finite : Cert.Pre_powers_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_powers_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal_pre_powers_finite [hKernelIdeal : Cert.KernelIdeal.Facts] [hReferenceIdeal : Cert.ReferenceIdeal.Facts] [hPre_powers_finite : Cert.Pre_powers_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_powers_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v97_0)) (v1 : (c : Dev Cert.KernelIdeal.nD) → Buf (Elt Ideal) ((c.tc : Thread Cert.KernelIdeal.nD Cert.KernelIdeal.τ).loc Cert.KernelIdeal.main_v97_1)) (v2 : (c : Dev Cert.KernelIdeal.nD) → Buf (Elt Ideal) ((c.tc : Thread Cert.KernelIdeal.nD Cert.KernelIdeal.τ).loc Cert.KernelIdeal.main_v97_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97_0) = v0 c
          ∧ r.2.mem ((c.tc : Thread Cert.KernelIdeal.nD Cert.KernelIdeal.τ).loc Cert.KernelIdeal.main_v97_1) = v1 c
          ∧ r.2.mem ((c.tc : Thread Cert.KernelIdeal.nD Cert.KernelIdeal.τ).loc Cert.KernelIdeal.main_v97_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v10) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_v29) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)) (v4 : (c : Dev Cert.Kernel5Ideal.nD) → Buf (Elt Ideal) ((c.tc : Thread Cert.Kernel5Ideal.nD Cert.Kernel5Ideal.τ).loc Cert.Kernel5Ideal.main_v5_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_v5_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_v25) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v101_1)) (v1 : (c : Dev Cert.Kernel7Ideal.nD) → Buf (Elt Ideal) ((c.tc : Thread Cert.Kernel7Ideal.nD Cert.Kernel7Ideal.τ).loc Cert.Kernel7Ideal.main_v101_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v101_1) = v0 c
          ∧ r.2.mem ((c.tc : Thread Cert.Kernel7Ideal.nD Cert.Kernel7Ideal.τ).loc Cert.Kernel7Ideal.main_v101_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v13_0)) (v1 : (c : Dev Cert.Kernel8Ideal.nD) → Buf (Elt Ideal) ((c.tc : Thread Cert.Kernel8Ideal.nD Cert.Kernel8Ideal.τ).loc Cert.Kernel8Ideal.main_v17)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v13_0) = v0 c
          ∧ r.2.mem ((c.tc : Thread Cert.Kernel8Ideal.nD Cert.Kernel8Ideal.τ).loc Cert.Kernel8Ideal.main_v17) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v61) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_powers_finite : Cert.Pre_powers_finite.Facts),
    quiescent_Kernel (hKernel := hKernel)
    ∧ quiescent_KernelIdeal (hKernelIdeal := hKernelIdeal)
    ∧ quiescent_KernelIdeal_pre_powers_finite (hKernelIdeal := hKernelIdeal) (hPre_powers_finite := hPre_powers_finite)
    ∧ quiescent_ReferenceIdeal (hReferenceIdeal := hReferenceIdeal)
    ∧ quiescent_ReferenceIdeal_pre_powers_finite (hReferenceIdeal := hReferenceIdeal) (hPre_powers_finite := hPre_powers_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_powers_finite (hKernelIdeal := hKernelIdeal) (hReferenceIdeal := hReferenceIdeal) (hPre_powers_finite := hPre_powers_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_powers_finite.lean ====
abbrev S16384x3072 : Shape := ⟨2, ![16384, 3072]⟩
abbrev S8x64x64 : Shape := ⟨3, ![8, 64, 64]⟩
abbrev S64x1024 : Shape := ⟨2, ![64, 1024]⟩
abbrev S1x64x16x64 : Shape := ⟨4, ![1, 64, 16, 64]⟩
abbrev S1x1024 : Shape := ⟨2, ![1, 1024]⟩
abbrev S7x64x64 : Shape := ⟨3, ![7, 64, 64]⟩
abbrev S1x64x64 : Shape := ⟨3, ![1, 64, 64]⟩
abbrev S64x64 : Shape := ⟨2, ![64, 64]⟩
abbrev S_ : Shape := ⟨0, ![]⟩
abbrev S16384x1024 : Shape := ⟨2, ![16384, 1024]⟩

class Facts : Prop where
  slices_S8x64x64_S7x64x64_1_0_0 : S8x64x64.Slices ![1, 0, 0] S7x64x64
  slices_S8x64x64_S7x64x64_0_0_0 : S8x64x64.Slices ![0, 0, 0] S7x64x64
  slices_S8x64x64_S1x64x64_0_0_0 : S8x64x64.Slices ![0, 0, 0] S1x64x64
  shapeCasts_S1x64x64_S64x64 : S1x64x64.ShapeCasts S64x64
  bcast_S64x64_S1x64x64_1_2 : S64x64.BroadcastsInDim S1x64x64 (![1, 2] : Fin 2 → Fin S1x64x64.rank)
  bcast_S1x64x64_S7x64x64_0_1_2 : S1x64x64.BroadcastsInDim S7x64x64 (![0, 1, 2] : Fin 3 → Fin S7x64x64.rank)
  reducesTo_S7x64x64_S_d0_1_2 : S7x64x64.ReducesTo [0, 1, 2] S_
  h_S_ : 0 < S_.numel
  slices_S16384x3072_S16384x1024_0_0 : S16384x3072.Slices ![0, 0] S16384x1024
  bcast_S_S16384x1024 : S_.BroadcastsInDim S16384x1024 (![] : Fin 0 → Fin S16384x1024.rank)
  reducesTo_S16384x1024_S_d0_1 : S16384x1024.ReducesTo [0, 1] S_
  bcast_S_S64x64 : S_.BroadcastsInDim S64x64 (![] : Fin 0 → Fin S64x64.rank)
  reducesTo_S64x64_S_d0_1 : S64x64.ReducesTo [0, 1] S_
  bcast_S_S64x1024 : S_.BroadcastsInDim S64x1024 (![] : Fin 0 → Fin S64x1024.rank)
  reducesTo_S64x1024_S_d0_1 : S64x1024.ReducesTo [0, 1] S_
  bcast_S_S1x64x16x64 : S_.BroadcastsInDim S1x64x16x64 (![] : Fin 0 → Fin S1x64x16x64.rank)
  reducesTo_S1x64x16x64_S_d0_1_2_3 : S1x64x16x64.ReducesTo [0, 1, 2, 3] S_

variable [Facts]

def fn_part3 {F : FTy → Type} [FloatOps F] (main_arg6 : FVec F S1x64x16x64 .f32) (main_v57 : IVec S_ 1) (main_v60 : IVec S64x1024 1) : IVec S_ 1 :=
  let main_c_9 : IVec S_ 1 := constantI S_ 1 1#1
  let main_v61 : IVec S_ 1 := (fun x v => Host.reduce IntOp.andi x v reducesTo_S64x1024_S_d0_1 h_S_) main_v60 main_c_9
  let main_v62 : IVec S_ 1 := andi main_v57 main_v61
  let main_v63 : FVec F S1x64x16x64 .f32 := Host.absf main_arg6
  let main_cst_10 : FVec F S_ .f32 := constant S_ .f32 0x7F800000#32
  let main_v64 : FVec F S1x64x16x64 .f32 := broadcastInDim S1x64x16x64 ![] bcast_S_S1x64x16x64 main_cst_10
  let main_v65 : IVec S1x64x16x64 1 := cmpf .olt main_v63 main_v64
  let main_c_11 : IVec S_ 1 := constantI S_ 1 1#1
  let main_v66 : IVec S_ 1 := (fun x v => Host.reduce IntOp.andi x v reducesTo_S1x64x16x64_S_d0_1_2_3 h_S_) main_v65 main_c_11
  let main_v67 : IVec S_ 1 := andi main_v62 main_v66
  main_v67

def fn_part2 {F : FTy → Type} [FloatOps F] (main_arg2 : FVec F S8x64x64 .f32) (main_arg3 : FVec F S64x1024 .f32) (main_arg4 : FVec F S64x1024 .f32) (main_arg6 : FVec F S1x64x16x64 .f32) (main_v38 : IVec S_ 1) (main_v41 : FVec F S64x64 .f32) (main_v42 : FVec F S64x64 .f32) : IVec S_ 1 :=
  let main_v43 : IVec S64x64 1 := cmpf .olt main_v41 main_v42
  let main_c_3 : IVec S_ 1 := constantI S_ 1 1#1
  let main_v44 : IVec S_ 1 := (fun x v => Host.reduce IntOp.andi x v reducesTo_S64x64_S_d0_1 h_S_) main_v43 main_c_3
  let main_v45 : IVec S_ 1 := andi main_v38 main_v44
  let main_v46 : FVec F S1x64x64 .f32 := (extractStridedSlice S1x64x64 ![0, 0, 0] · slices_S8x64x64_S1x64x64_0_0_0) main_arg2
  let main_v47 : FVec F S64x64 .f32 := shapeCast S64x64 main_v46 shapeCasts_S1x64x64_S64x64
  let main_v48 : FVec F S64x64 .f32 := Host.absf main_v47
  let main_cst_4 : FVec F S_ .f32 := constant S_ .f32 0x7F800000#32
  let main_v49 : FVec F S64x64 .f32 := broadcastInDim S64x64 ![] bcast_S_S64x64 main_cst_4
  let main_v50 : IVec S64x64 1 := cmpf .olt main_v48 main_v49
  let main_c_5 : IVec S_ 1 := constantI S_ 1 1#1
  let main_v51 : IVec S_ 1 := (fun x v => Host.reduce IntOp.andi x v reducesTo_S64x64_S_d0_1 h_S_) main_v50 main_c_5
  let main_v52 : IVec S_ 1 := andi main_v45 main_v51
  let main_v53 : FVec F S64x1024 .f32 := Host.absf main_arg3
  let main_cst_6 : FVec F S_ .f32 := constant S_ .f32 0x7F800000#32
  let main_v54 : FVec F S64x1024 .f32 := broadcastInDim S64x1024 ![] bcast_S_S64x1024 main_cst_6
  let main_v55 : IVec S64x1024 1 := cmpf .olt main_v53 main_v54
  let main_c_7 : IVec S_ 1 := constantI S_ 1 1#1
  let main_v56 : IVec S_ 1 := (fun x v => Host.reduce IntOp.andi x v reducesTo_S64x1024_S_d0_1 h_S_) main_v55 main_c_7
  let main_v57 : IVec S_ 1 := andi main_v52 main_v56
  let main_v58 : FVec F S64x1024 .f32 := Host.absf main_arg4
  let main_cst_8 : FVec F S_ .f32 := constant S_ .f32 0x7F800000#32
  let main_v59 : FVec F S64x1024 .f32 := broadcastInDim S64x1024 ![] bcast_S_S64x1024 main_cst_8
  let main_v60 : IVec S64x1024 1 := cmpf .olt main_v58 main_v59
  fn_part3 (F := F) main_arg6 main_v57 main_v60

def fn_part1 {F : FTy → Type} [FloatOps F] (main_arg0 : FVec F S16384x3072 .f32) (main_arg1 : FVec F S8x64x64 .f32) (main_arg2 : FVec F S8x64x64 .f32) (main_arg3 : FVec F S64x1024 .f32) (main_arg4 : FVec F S64x1024 .f32) (main_arg6 : FVec F S1x64x16x64 .f32) (main_v15 : IVec S_ 1) (main_v16 : FVec F S7x64x64 .f32) (main_v22 : FVec F S7x64x64 .f32) : IVec S_ 1 :=
  let main_v23 : FVec F S7x64x64 .f32 := (extractStridedSlice S7x64x64 ![0, 0, 0] · slices_S8x64x64_S7x64x64_0_0_0) main_arg2
  let main_v24 : FVec F S1x64x64 .f32 := (extractStridedSlice S1x64x64 ![0, 0, 0] · slices_S8x64x64_S1x64x64_0_0_0) main_arg1
  let main_v25 : FVec F S64x64 .f32 := shapeCast S64x64 main_v24 shapeCasts_S1x64x64_S64x64
  let main_v26 : FVec F S1x64x64 .f32 := broadcastInDim S1x64x64 ![1, 2] bcast_S64x64_S1x64x64_1_2 main_v25
  let main_v27 : FVec F S7x64x64 .f32 := broadcastInDim S7x64x64 ![0, 1, 2] bcast_S1x64x64_S7x64x64_0_1_2 main_v26
  let main_v28 : FVec F S7x64x64 .f32 := mulf main_v23 main_v27
  let main_v29 : FVec F S7x64x64 .f32 := addf main_v22 main_v28
  let main_v30 : IVec S7x64x64 1 := cmpf .oeq main_v16 main_v29
  let main_c_0 : IVec S_ 1 := constantI S_ 1 1#1
  let main_v31 : IVec S_ 1 := (fun x v => Host.reduce IntOp.andi x v reducesTo_S7x64x64_S_d0_1_2 h_S_) main_v30 main_c_0
  let main_v32 : IVec S_ 1 := andi main_v15 main_v31
  let main_v33 : FVec F S16384x1024 .f32 := (extractStridedSlice S16384x1024 ![0, 0] · slices_S16384x3072_S16384x1024_0_0) main_arg0
  let main_v34 : FVec F S16384x1024 .f32 := Host.absf main_v33
  let main_cst : FVec F S_ .f32 := constant S_ .f32 0x7F800000#32
  let main_v35 : FVec F S16384x1024 .f32 := broadcastInDim S16384x1024 ![] bcast_S_S16384x1024 main_cst
  let main_v36 : IVec S16384x1024 1 := cmpf .olt main_v34 main_v35
  let main_c_1 : IVec S_ 1 := constantI S_ 1 1#1
  let main_v37 : IVec S_ 1 := (fun x v => Host.reduce IntOp.andi x v reducesTo_S16384x1024_S_d0_1 h_S_) main_v36 main_c_1
  let main_v38 : IVec S_ 1 := andi main_v32 main_v37
  let main_v39 : FVec F S1x64x64 .f32 := (extractStridedSlice S1x64x64 ![0, 0, 0] · slices_S8x64x64_S1x64x64_0_0_0) main_arg1
  let main_v40 : FVec F S64x64 .f32 := shapeCast S64x64 main_v39 shapeCasts_S1x64x64_S64x64
  let main_v41 : FVec F S64x64 .f32 := Host.absf main_v40
  let main_cst_2 : FVec F S_ .f32 := constant S_ .f32 0x7F800000#32
  let main_v42 : FVec F S64x64 .f32 := broadcastInDim S64x64 ![] bcast_S_S64x64 main_cst_2
  fn_part2 (F := F) main_arg2 main_arg3 main_arg4 main_arg6 main_v38 main_v41 main_v42

def fn {F : FTy → Type} [FloatOps F] (main_arg0 : FVec F S16384x3072 .f32) (main_arg1 : FVec F S8x64x64 .f32) (main_arg2 : FVec F S8x64x64 .f32) (main_arg3 : FVec F S64x1024 .f32) (main_arg4 : FVec F S64x1024 .f32) (main_arg5 : FVec F S1x64x16x64 .f32) (main_arg6 : FVec F S1x64x16x64 .f32) (main_arg7 : FVec F S1x1024 .f32) (main_arg8 : FVec F S1x1024 .f32) : IVec S_ 1 :=
  let main_v0 : FVec F S7x64x64 .f32 := (extractStridedSlice S7x64x64 ![1, 0, 0] · slices_S8x64x64_S7x64x64_1_0_0) main_arg1
  let main_v1 : FVec F S7x64x64 .f32 := (extractStridedSlice S7x64x64 ![0, 0, 0] · slices_S8x64x64_S7x64x64_0_0_0) main_arg1
  let main_v2 : FVec F S1x64x64 .f32 := (extractStridedSlice S1x64x64 ![0, 0, 0] · slices_S8x64x64_S1x64x64_0_0_0) main_arg1
  let main_v3 : FVec F S64x64 .f32 := shapeCast S64x64 main_v2 shapeCasts_S1x64x64_S64x64
  let main_v4 : FVec F S1x64x64 .f32 := broadcastInDim S1x64x64 ![1, 2] bcast_S64x64_S1x64x64_1_2 main_v3
  let main_v5 : FVec F S7x64x64 .f32 := broadcastInDim S7x64x64 ![0, 1, 2] bcast_S1x64x64_S7x64x64_0_1_2 main_v4
  let main_v6 : FVec F S7x64x64 .f32 := mulf main_v1 main_v5
  let main_v7 : FVec F S7x64x64 .f32 := (extractStridedSlice S7x64x64 ![0, 0, 0] · slices_S8x64x64_S7x64x64_0_0_0) main_arg2
  let main_v8 : FVec F S1x64x64 .f32 := (extractStridedSlice S1x64x64 ![0, 0, 0] · slices_S8x64x64_S1x64x64_0_0_0) main_arg2
  let main_v9 : FVec F S64x64 .f32 := shapeCast S64x64 main_v8 shapeCasts_S1x64x64_S64x64
  let main_v10 : FVec F S1x64x64 .f32 := broadcastInDim S1x64x64 ![1, 2] bcast_S64x64_S1x64x64_1_2 main_v9
  let main_v11 : FVec F S7x64x64 .f32 := broadcastInDim S7x64x64 ![0, 1, 2] bcast_S1x64x64_S7x64x64_0_1_2 main_v10
  let main_v12 : FVec F S7x64x64 .f32 := mulf main_v7 main_v11
  let main_v13 : FVec F S7x64x64 .f32 := subf main_v6 main_v12
  let main_v14 : IVec S7x64x64 1 := cmpf .oeq main_v0 main_v13
  let main_c : IVec S_ 1 := constantI S_ 1 1#1
  let main_v15 : IVec S_ 1 := (fun x v => Host.reduce IntOp.andi x v reducesTo_S7x64x64_S_d0_1_2 h_S_) main_v14 main_c
  let main_v16 : FVec F S7x64x64 .f32 := (extractStridedSlice S7x64x64 ![1, 0, 0] · slices_S8x64x64_S7x64x64_1_0_0) main_arg2
  let main_v17 : FVec F S7x64x64 .f32 := (extractStridedSlice S7x64x64 ![0, 0, 0] · slices_S8x64x64_S7x64x64_0_0_0) main_arg1
  let main_v18 : FVec F S1x64x64 .f32 := (extractStridedSlice S1x64x64 ![0, 0, 0] · slices_S8x64x64_S1x64x64_0_0_0) main_arg2
  let main_v19 : FVec F S64x64 .f32 := shapeCast S64x64 main_v18 shapeCasts_S1x64x64_S64x64
  let main_v20 : FVec F S1x64x64 .f32 := broadcastInDim S1x64x64 ![1, 2] bcast_S64x64_S1x64x64_1_2 main_v19
  let main_v21 : FVec F S7x64x64 .f32 := broadcastInDim S7x64x64 ![0, 1, 2] bcast_S1x64x64_S7x64x64_0_1_2 main_v20
  let main_v22 : FVec F S7x64x64 .f32 := mulf main_v17 main_v21
  fn_part1 (F := F) main_arg0 main_arg1 main_arg2 main_arg3 main_arg4 main_arg6 main_v15 main_v16 main_v22
-- ==== Kernel.lean ====
abbrev S16384x3072 : Shape := ⟨2, ![16384, 3072]⟩
abbrev S8x64x64 : Shape := ⟨3, ![8, 64, 64]⟩
abbrev S64x1024 : Shape := ⟨2, ![64, 1024]⟩
abbrev S1x64x16x64 : Shape := ⟨4, ![1, 64, 16, 64]⟩
abbrev S1x1024 : Shape := ⟨2, ![1, 1024]⟩
abbrev S64x16x64 : Shape := ⟨3, ![64, 16, 64]⟩
abbrev S8x8 : Shape := ⟨2, ![8, 8]⟩
abbrev S_ : Shape := ⟨0, ![]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S8x4096 : Shape := ⟨2, ![8, 4096]⟩
abbrev S8 : Shape := ⟨1, ![8]⟩
abbrev S8x1 : Shape := ⟨2, ![8, 1]⟩
abbrev S1x4096 : Shape := ⟨2, ![1, 4096]⟩
abbrev S4096 : Shape := ⟨1, ![4096]⟩
abbrev S1x8x4096 : Shape := ⟨3, ![1, 8, 4096]⟩
abbrev S3x8x4096 : Shape := ⟨3, ![3, 8, 4096]⟩
abbrev S1024 : Shape := ⟨1, ![1024]⟩
abbrev S16384x1024 : Shape := ⟨2, ![16384, 1024]⟩
abbrev S4x1x4096 : Shape := ⟨3, ![4, 1, 4096]⟩
abbrev S256x1024 : Shape := ⟨2, ![256, 1024]⟩
abbrev S1x1x4096 : Shape := ⟨3, ![1, 1, 4096]⟩
abbrev S256x512 : Shape := ⟨2, ![256, 512]⟩
abbrev S256x128 : Shape := ⟨2, ![256, 128]⟩
abbrev S1x128x1024 : Shape := ⟨3, ![1, 128, 1024]⟩
abbrev S128x1024 : Shape := ⟨2, ![128, 1024]⟩
abbrev S32x8x512 : Shape := ⟨3, ![32, 8, 512]⟩
abbrev S1x8x512 : Shape := ⟨3, ![1, 8, 512]⟩
abbrev S8x512 : Shape := ⟨2, ![8, 512]⟩
abbrev S1x512 : Shape := ⟨2, ![1, 512]⟩
abbrev S1x1024x128 : Shape := ⟨3, ![1, 1024, 128]⟩
abbrev S1024x128 : Shape := ⟨2, ![1024, 128]⟩
abbrev S256 : Shape := ⟨1, ![256]⟩
abbrev S256x1 : Shape := ⟨2, ![256, 1]⟩

abbrev nBuf : Space → Nat
  | .hbm => 146
  | .vmem => 23
  | .smem => 0
  | _ => 0

abbrev hbmTy0_0 (i : Nat) : BufTy := match i % 128 with
  | 0 => ⟨S16384x3072, .f32⟩
  | 1 => ⟨S8x64x64, .f32⟩
  | 2 => ⟨S8x64x64, .f32⟩
  | 3 => ⟨S64x1024, .f32⟩
  | 4 => ⟨S64x1024, .f32⟩
  | 5 => ⟨S1x64x16x64, .f32⟩
  | 6 => ⟨S1x64x16x64, .f32⟩
  | 7 => ⟨S1x1024, .f32⟩
  | 8 => ⟨S1x1024, .f32⟩
  | 9 => ⟨S64x16x64, .f32⟩
  | 10 => ⟨S64x16x64, .f32⟩
  | 11 => ⟨S8x8, .i32⟩
  | 12 => ⟨S8x8, .i32⟩
  | 13 => ⟨S_, .i32⟩
  | 14 => ⟨S8x8, .i32⟩
  | 15 => ⟨S8x8, .i32⟩
  | 16 => ⟨S8x8, .i1⟩
  | 17 => ⟨S8x8, .f32⟩
  | 18 => ⟨S8x8x64x16, .f32⟩
  | 19 => ⟨S8x8x16x64, .f32⟩
  | 20 => ⟨S8x8x16x1x64, .f32⟩
  | 21 => ⟨S1x8x1x8x1, .f32⟩
  | 22 => ⟨S8x8x16x8x64, .f32⟩
  | 23 => ⟨S8x8x16x8x64, .f32⟩
  | 24 => ⟨S8x8x16x8x64, .f32⟩
  | 25 => ⟨S8x128x512, .f32⟩
  | 26 => ⟨S8x8x64x16, .f32⟩
  | 27 => ⟨S8x8x16x64, .f32⟩
  | 28 => ⟨S8x8x16x1x64, .f32⟩
  | 29 => ⟨S1x8x1x8x1, .f32⟩
  | 30 => ⟨S8x8x16x8x64, .f32⟩
  | 31 => ⟨S8x8x16x8x64, .f32⟩
  | 32 => ⟨S8x8x16x8x64, .f32⟩
  | 33 => ⟨S8x128x512, .f32⟩
  | 34 => ⟨S8x128x1024, .f32⟩
  | 35 => ⟨S8x128x1024, .bf16⟩
  | 36 => ⟨S8x8x16x64, .f32⟩
  | 37 => ⟨S8x8x64x16, .f32⟩
  | 38 => ⟨S8x8x64x1x16, .f32⟩
  | 39 => ⟨S1x8x1x8x1, .f32⟩
  | 40 => ⟨S8x8x64x8x16, .f32⟩
  | 41 => ⟨S8x8x64x8x16, .f32⟩
  | 42 => ⟨S8x8x64x8x16, .f32⟩
  | 43 => ⟨S8x512x128, .f32⟩
  | 44 => ⟨S64x16x64, .f32⟩
  | 45 => ⟨S8x8x16x64, .f32⟩
  | 46 => ⟨S8x8x64x16, .f32⟩
  | 47 => ⟨S8x8x64x1x16, .f32⟩
  | 48 => ⟨S1x8x1x8x1, .f32⟩
  | 49 => ⟨S8x8x64x8x16, .f32⟩
  | 50 => ⟨S8x8x64x8x16, .f32⟩
  | 51 => ⟨S8x8x64x8x16, .f32⟩
  | 52 => ⟨S8x512x128, .f32⟩
  | 53 => ⟨S8x1024x128, .f32⟩
  | 54 => ⟨S8x1024x128, .bf16⟩
  | 55 => ⟨S8x4096, .f32⟩
  | 56 => ⟨S8x4096, .f32⟩
  | 57 => ⟨S8, .i32⟩
  | 58 => ⟨S8x1, .i32⟩
  | 59 => ⟨S_, .i32⟩
  | 60 => ⟨S8x1, .i32⟩
  | 61 => ⟨S8x1, .i1⟩
  | 62 => ⟨S1x4096, .f32⟩
  | 63 => ⟨S4096, .f32⟩
  | 64 => ⟨S1x4096, .f32⟩
  | 65 => ⟨S_, .f32⟩
  | 66 => ⟨S_, .f32⟩
  | 67 => ⟨S8x4096, .i1⟩
  | 68 => ⟨S8x4096, .f32⟩
  | 69 => ⟨S8x4096, .f32⟩
  | 70 => ⟨S8x4096, .f32⟩
  | 71 => ⟨S_, .i32⟩
  | 72 => ⟨S8x1, .i32⟩
  | 73 => ⟨S8x1, .i1⟩
  | 74 => ⟨S1x4096, .f32⟩
  | 75 => ⟨S4096, .f32⟩
  | 76 => ⟨S1x4096, .f32⟩
  | 77 => ⟨S_, .f32⟩
  | 78 => ⟨S_, .f32⟩
  | 79 => ⟨S8x4096, .i1⟩
  | 80 => ⟨S8x4096, .f32⟩
  | 81 => ⟨S8x4096, .f32⟩
  | 82 => ⟨S8x4096, .f32⟩
  | 83 => ⟨S_, .i32⟩
  | 84 => ⟨S8x1, .i32⟩
  | 85 => ⟨S8x1, .i1⟩
  | 86 => ⟨S1x4096, .f32⟩
  | 87 => ⟨S4096, .f32⟩
  | 88 => ⟨S1x4096, .f32⟩
  | 89 => ⟨S_, .f32⟩
  | 90 => ⟨S_, .f32⟩
  | 91 => ⟨S8x4096, .i1⟩
  | 92 => ⟨S8x4096, .f32⟩
  | 93 => ⟨S8x4096, .f32⟩
  | 94 => ⟨S8x4096, .f32⟩
  | 95 => ⟨S1x8x4096, .f32⟩
  | 96 => ⟨S1x8x4096, .f32⟩
  | 97 => ⟨S1x8x4096, .f32⟩
  | 98 => ⟨S3x8x4096, .f32⟩
  | 99 => ⟨S_, .i32⟩
  | 100 => ⟨S8x1, .i32⟩
  | 101 => ⟨S8x1, .i1⟩
  | 102 => ⟨S1x4096, .f32⟩
  | 103 => ⟨S4096, .f32⟩
  | 104 => ⟨S1x4096, .f32⟩
  | 105 => ⟨S_, .f32⟩
  | 106 => ⟨S_, .f32⟩
  | 107 => ⟨S8x4096, .i1⟩
  | 108 => ⟨S8x4096, .f32⟩
  | 109 => ⟨S8x4096, .f32⟩
  | 110 => ⟨S8x4096, .f32⟩
  | 111 => ⟨S_, .i32⟩
  | 112 => ⟨S8x1, .i32⟩
  | 113 => ⟨S8x1, .i1⟩
  | 114 => ⟨S1x4096, .f32⟩
  | 115 => ⟨S4096, .f32⟩
  | 116 => ⟨S1x4096, .f32⟩
  | 117 => ⟨S_, .f32⟩
  | 118 => ⟨S_, .f32⟩
  | 119 => ⟨S8x4096, .i1⟩
  | 120 => ⟨S8x4096, .f32⟩
  | 121 => ⟨S8x4096, .f32⟩
  | 122 => ⟨S8x4096, .f32⟩
  | 123 => ⟨S_, .i32⟩
  | 124 => ⟨S8x1, .i32⟩
  | 125 => ⟨S8x1, .i1⟩
  | 126 => ⟨S1x4096, .f32⟩
  | 127 => ⟨S4096, .f32⟩
  | _ => ⟨S16384x3072, .f32⟩

abbrev hbmTy0_1 (i : Nat) : BufTy := match i % 128 with
  | 0 => ⟨S1x4096, .f32⟩
  | 1 => ⟨S_, .f32⟩
  | 2 => ⟨S_, .f32⟩
  | 3 => ⟨S8x4096, .i1⟩
  | 4 => ⟨S8x4096, .f32⟩
  | 5 => ⟨S8x4096, .f32⟩
  | 6 => ⟨S8x4096, .f32⟩
  | 7 => ⟨S1x8x4096, .f32⟩
  | 8 => ⟨S1x8x4096, .f32⟩
  | 9 => ⟨S1x8x4096, .f32⟩
  | 10 => ⟨S3x8x4096, .f32⟩
  | 11 => ⟨S1024, .f32⟩
  | 12 => ⟨S1024, .f32⟩
  | 13 => ⟨S1x1024, .f32⟩
  | 14 => ⟨S1x1024, .f32⟩
  | 15 => ⟨S16384x1024, .bf16⟩
  | 16 => ⟨S4x1x4096, .f32⟩
  | 17 => ⟨S4x1x4096, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x128x1024, .bf16⟩
  | .local _ .vmem, ⟨5, _⟩ => ⟨S8x1024x128, .bf16⟩
  | .local _ .vmem, ⟨6, _⟩ => ⟨S3x8x4096, .f32⟩
  | .local _ .vmem, ⟨7, _⟩ => ⟨S3x8x4096, .f32⟩
  | .local _ .vmem, ⟨8, _⟩ => ⟨S8x4096, .f32⟩
  | .local _ .vmem, ⟨9, _⟩ => ⟨S8x4096, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S1x1x4096, .f32⟩
  | .local _ .vmem, ⟨15, _⟩ => ⟨S1x1x4096, .f32⟩
  | .local _ .vmem, ⟨16, _⟩ => ⟨S1x1x4096, .f32⟩
  | .local _ .vmem, ⟨17, _⟩ => ⟨S1x1x4096, .f32⟩
  | .local _ .vmem, ⟨18, _⟩ => ⟨S256x512, .f32⟩
  | .local _ .vmem, ⟨19, _⟩ => ⟨S256x512, .f32⟩
  | .local _ .vmem, ⟨20, _⟩ => ⟨S256x1024, .f32⟩
  | .local _ .vmem, ⟨21, _⟩ => ⟨S1x4096, .f32⟩
  | .local _ .vmem, ⟨22, _⟩ => ⟨S1x4096, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_0 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_v54 : Ref sig .tc := ⟨.hbm, 70, rfl⟩
abbrev main_c_1 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_2 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_v60 : Ref sig .tc := ⟨.hbm, 82, rfl⟩
abbrev main_c_3 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_4 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_5 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_6 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_v76 : Ref sig .tc := ⟨.hbm, 110, rfl⟩
abbrev main_c_7 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_8 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_call4_v3 : Ref sig .tc := ⟨.hbm, 121, rfl⟩
abbrev main_v82 : Ref sig .tc := ⟨.hbm, 122, rfl⟩
abbrev main_c_9 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_10 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97_0 : Ref sig .tc := ⟨.hbm, 143, rfl⟩
abbrev main_v97_1 : Ref sig .tc := ⟨.hbm, 144, rfl⟩
abbrev main_v97_2 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg20 : BitVec 32 := Scf.iv c0_i32_1 c1_i32 k0_t1
  let c512_i32 : BitVec 32 := 512#32
  let v51 : BitVec 32 := Scalar.muli arg20 c512_i32
  v51
def k0_mult2 (k0_t1 : Fin k0_t1_loop.trips) : BitVec 32 :=
  let c0_i32_1 : BitVec 32 := 0#32
  let c1_i32 : BitVec 32 := 1#32
  let arg20 : BitVec 32 := Scf.iv c0_i32_1 c1_i32 k0_t1
  let c128_i32 : BitVec 32 := 128#32
  let v53 : BitVec 32 := Scalar.muli arg20 c128_i32
  v53
def k0_off1 (k0_t1 : Fin k0_t1_loop.trips) : Fin 2 → Nat :=
  let c0_30 : Index := 0#32
  let c0_i32_1 : BitVec 32 := 0#32
  let c1_i32 : BitVec 32 := 1#32
  let arg20 : BitVec 32 := Scf.iv c0_i32_1 c1_i32 k0_t1
  let c128_i32 : BitVec 32 := 128#32
  let v53 : BitVec 32 := Scalar.muli arg20 c128_i32
  let v54 : BitVec 32 := v53
  let v55 : Index := Scalar.indexCast v54
  ![0, v55.toNat]
def k0_off2 (k0_t1 : Fin k0_t1_loop.trips) : Fin 3 → Nat :=
  let c0_i32_1 : BitVec 32 := 0#32
  let c1_i32 : BitVec 32 := 1#32
  let arg20 : BitVec 32 := Scf.iv c0_i32_1 c1_i32 k0_t1
  let v58 : Index := Scalar.indexCast arg20
  let c0_31 : Index := 0#32
  let c0_32 : Index := 0#32
  ![v58.toNat, 0, 0]
def k0_off3 (k0_t1 : Fin k0_t1_loop.trips) : Fin 3 → Nat :=
  let c0_34 : Index := 0#32
  let c0_35 : Index := 0#32
  let c0_i32_1 : BitVec 32 := 0#32
  let c1_i32 : BitVec 32 := 1#32
  let arg20 : BitVec 32 := Scf.iv c0_i32_1 c1_i32 k0_t1
  let c512_i32 : BitVec 32 := 512#32
  let v51 : BitVec 32 := Scalar.muli arg20 c512_i32
  let v52 : BitVec 32 := v51
  let v66 : Index := Scalar.indexCast v52
  ![0, 0, v66.toNat]
def k0_off4 (k0_t1 : Fin k0_t1_loop.trips) : Fin 3 → Nat :=
  let c1 : Index := 1#32
  let c0_40 : Index := 0#32
  let c0_i32_1 : BitVec 32 := 0#32
  let c1_i32 : BitVec 32 := 1#32
  let arg20 : BitVec 32 := Scf.iv c0_i32_1 c1_i32 k0_t1
  let c512_i32 : BitVec 32 := 512#32
  let v51 : BitVec 32 := Scalar.muli arg20 c512_i32
  let v52 : BitVec 32 := v51
  let v90 : Index := Scalar.indexCast v52
  ![1, 0, v90.toNat]
def k0_off5 (k0_t1 : Fin k0_t1_loop.trips) : Fin 3 → Nat :=
  let c2 : Index := 2#32
  let c0_44 : Index := 0#32
  let c0_i32_1 : BitVec 32 := 0#32
  let c1_i32 : BitVec 32 := 1#32
  let arg20 : BitVec 32 := Scf.iv c0_i32_1 c1_i32 k0_t1
  let c512_i32 : BitVec 32 := 512#32
  let v51 : BitVec 32 := Scalar.muli arg20 c512_i32
  let v52 : BitVec 32 := v51
  let v114 : Index := Scalar.indexCast v52
  ![2, 0, v114.toNat]
def k0_off6 (k0_t1 : Fin k0_t1_loop.trips) : Fin 2 → Nat :=
  let c0_52 : Index := 0#32
  let c0_i32_1 : BitVec 32 := 0#32
  let c1_i32 : BitVec 32 := 1#32
  let arg20 : BitVec 32 := Scf.iv c0_i32_1 c1_i32 k0_t1
  let c512_i32 : BitVec 32 := 512#32
  let v51 : BitVec 32 := Scalar.muli arg20 c512_i32
  let v52 : BitVec 32 := v51
  let v146 : Index := Scalar.indexCast v52
  ![0, v146.toNat]
def k0_off7 (k0_t1 : Fin k0_t1_loop.trips) : Fin 2 → Nat :=
  let c0_54 : Index := 0#32
  let c0_i32_1 : BitVec 32 := 0#32
  let c1_i32 : BitVec 32 := 1#32
  let arg20 : BitVec 32 := Scf.iv c0_i32_1 c1_i32 k0_t1
  let c512_i32 : BitVec 32 := 512#32
  let v51 : BitVec 32 := Scalar.muli arg20 c512_i32
  let v52 : BitVec 32 := v51
  let v152 : Index := Scalar.indexCast v52
  ![0, v152.toNat]
@[reducible] def k0_t2_loop : Scf.Loop 32 :=
  let c0_i32_56 : BitVec 32 := 0#32
  let c32_i32 : BitVec 32 := 32#32
  let v156 : BitVec 32 := Scalar.addi c0_i32_56 c32_i32
  let c1_i32_57 : BitVec 32 := 1#32
  ⟨c0_i32_56, v156, c1_i32_57⟩
def k0_mult3 (k0_t2 : Fin k0_t2_loop.trips) : BitVec 32 :=
  let c0_i32_56 : BitVec 32 := 0#32
  let c1_i32_57 : BitVec 32 := 1#32
  let arg21 : BitVec 32 := Scf.iv c0_i32_56 c1_i32_57 k0_t2
  let c8_i32_69 : BitVec 32 := 8#32
  let v178 : BitVec 32 := Scalar.muli arg21 c8_i32_69
  v178
def k0_off8 (k0_t2 : Fin k0_t2_loop.trips) : Fin 2 → Nat :=
  let c0_i32_56 : BitVec 32 := 0#32
  let c1_i32_57 : BitVec 32 := 1#32
  let arg21 : BitVec 32 := Scf.iv c0_i32_56 c1_i32_57 k0_t2
  let c8_i32_69 : BitVec 32 := 8#32
  let v178 : BitVec 32 := Scalar.muli arg21 c8_i32_69
  let v179 : BitVec 32 := v178
  let v180 : Index := Scalar.indexCast v179
  let c0_70 : Index := 0#32
  ![v180.toNat, 0]
def k0_off9 (k0_t1 : Fin k0_t1_loop.trips) : Fin 3 → Nat :=
  let c0_i32_1 : BitVec 32 := 0#32
  let c1_i32 : BitVec 32 := 1#32
  let arg20 : BitVec 32 := Scf.iv c0_i32_1 c1_i32 k0_t1
  let v170 : Index := Scalar.indexCast arg20
  let c0_65 : Index := 0#32
  let c0_66 : Index := 0#32
  ![v170.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S16384x3072 : Shape := ⟨2, ![16384, 3072]⟩
abbrev S8x64x64 : Shape := ⟨3, ![8, 64, 64]⟩
abbrev S64x1024 : Shape := ⟨2, ![64, 1024]⟩
abbrev S1x64x16x64 : Shape := ⟨4, ![1, 64, 16, 64]⟩
abbrev S1x1024 : Shape := ⟨2, ![1, 1024]⟩
abbrev S1x64x64 : Shape := ⟨3, ![1, 64, 64]⟩
abbrev S64x64 : Shape := ⟨2, ![64, 64]⟩
abbrev S64x64x16 : Shape := ⟨3, ![64, 64, 16]⟩
abbrev S16384x1024 : Shape := ⟨2, ![16384, 1024]⟩
abbrev S4x4096x64x16 : Shape := ⟨4, ![4, 4096, 64, 16]⟩
abbrev S64x64x4x4096 : Shape := ⟨4, ![64, 64, 4, 4096]⟩
abbrev S4x4096x64x64 : Shape := ⟨4, ![4, 4096, 64, 64]⟩
abbrev S_ : Shape := ⟨0, ![]⟩
abbrev S4x64x64 : Shape := ⟨3, ![4, 64, 64]⟩
abbrev S4096x4x64x64 : Shape := ⟨4, ![4096, 4, 64, 64]⟩
abbrev S1x4x64x64 : Shape := ⟨4, ![1, 4, 64, 64]⟩
abbrev S64x16x64 : Shape := ⟨3, ![64, 16, 64]⟩
abbrev S64x16x4096x4 : Shape := ⟨4, ![64, 16, 4096, 4]⟩
abbrev S1024 : Shape := ⟨1, ![1024]⟩
abbrev S64x16 : Shape := ⟨2, ![64, 16]⟩
abbrev S1x1x64x16 : Shape := ⟨4, ![1, 1, 64, 16]⟩
abbrev S16384 : Shape := ⟨1, ![16384]⟩
abbrev S16384x1 : Shape := ⟨2, ![16384, 1]⟩
abbrev S4x1x4096 : Shape := ⟨3, ![4, 1, 4096]⟩

abbrev nBuf : Space → Nat
  | .hbm => 140
  | .vmem => 0
  | .smem => 0
  | _ => 0

abbrev hbmTy0_0 (i : Nat) : BufTy := match i % 128 with
  | 0 => ⟨S16384x3072, .f32⟩
  | 1 => ⟨S8x64x64, .f32⟩
  | 2 => ⟨S8x64x64, .f32⟩
  | 3 => ⟨S64x1024, .f32⟩
  | 4 => ⟨S64x1024, .f32⟩
  | 5 => ⟨S1x64x16x64, .f32⟩
  | 6 => ⟨S1x64x16x64, .f32⟩
  | 7 => ⟨S1x1024, .f32⟩
  | 8 => ⟨S1x1024, .f32⟩
  | 9 => ⟨S1x64x64, .f32⟩
  | 10 => ⟨S64x64, .f32⟩
  | 11 => ⟨S1x64x64, .f32⟩
  | 12 => ⟨S64x64, .f32⟩
  | 13 => ⟨S64x64x16, .f32⟩
  | 14 => ⟨S64x64x16, .f32⟩
  | 15 => ⟨S16384x1024, .f32⟩
  | 16 => ⟨S4x4096x64x16, .f32⟩
  | 17 => ⟨S16384x1024, .f32⟩
  | 18 => ⟨S64x64x4x4096, .f32⟩
  | 19 => ⟨S4x4096x64x64, .f32⟩
  | 20 => ⟨S64x64x4x4096, .f32⟩
  | 21 => ⟨S4x4096x64x64, .f32⟩
  | 22 => ⟨S_, .f32⟩
  | 23 => ⟨S4x64x64, .f32⟩
  | 24 => ⟨S4096x4x64x64, .f32⟩
  | 25 => ⟨S4096x4x64x64, .f32⟩
  | 26 => ⟨S_, .f32⟩
  | 27 => ⟨S4096x4x64x64, .f32⟩
  | 28 => ⟨S_, .f32⟩
  | 29 => ⟨S4096x4x64x64, .f32⟩
  | 30 => ⟨S_, .i32⟩
  | 31 => ⟨S4096x4x64x64, .f32⟩
  | 32 => ⟨S4096x4x64x64, .f32⟩
  | 33 => ⟨S64x64, .f32⟩
  | 34 => ⟨S64x64, .f32⟩
  | 35 => ⟨S_, .i32⟩
  | 36 => ⟨S4x64x64, .f32⟩
  | 37 => ⟨S4x64x64, .f32⟩
  | 38 => ⟨S4096x4x64x64, .f32⟩
  | 39 => ⟨S4096x4x64x64, .f32⟩
  | 40 => ⟨S_, .i32⟩
  | 41 => ⟨S_, .i1⟩
  | 42 => ⟨S_, .i32⟩
  | 43 => ⟨S_, .i32⟩
  | 44 => ⟨S_, .i32⟩
  | 45 => ⟨S1x4x64x64, .f32⟩
  | 46 => ⟨S4x64x64, .f32⟩
  | 47 => ⟨S_, .i32⟩
  | 48 => ⟨S_, .i32⟩
  | 49 => ⟨S_, .i32⟩
  | 50 => ⟨S1x4x64x64, .f32⟩
  | 51 => ⟨S4x64x64, .f32⟩
  | 52 => ⟨S1x64x64, .f32⟩
  | 53 => ⟨S4x64x64, .f32⟩
  | 54 => ⟨S4x64x64, .f32⟩
  | 55 => ⟨S1x64x64, .f32⟩
  | 56 => ⟨S4x64x64, .f32⟩
  | 57 => ⟨S4x64x64, .f32⟩
  | 58 => ⟨S4x64x64, .f32⟩
  | 59 => ⟨S4x64x64, .f32⟩
  | 60 => ⟨S1x64x64, .f32⟩
  | 61 => ⟨S4x64x64, .f32⟩
  | 62 => ⟨S4x64x64, .f32⟩
  | 63 => ⟨S1x64x64, .f32⟩
  | 64 => ⟨S4x64x64, .f32⟩
  | 65 => ⟨S4x64x64, .f32⟩
  | 66 => ⟨S4x64x64, .f32⟩
  | 67 => ⟨S4x64x64, .f32⟩
  | 68 => ⟨S1x4x64x64, .f32⟩
  | 69 => ⟨S_, .i32⟩
  | 70 => ⟨S_, .i32⟩
  | 71 => ⟨S_, .i32⟩
  | 72 => ⟨S4096x4x64x64, .f32⟩
  | 73 => ⟨S1x4x64x64, .f32⟩
  | 74 => ⟨S_, .i32⟩
  | 75 => ⟨S_, .i32⟩
  | 76 => ⟨S_, .i32⟩
  | 77 => ⟨S4096x4x64x64, .f32⟩
  | 78 => ⟨S_, .i32⟩
  | 79 => ⟨S_, .i32⟩
  | 80 => ⟨S64x16x64, .f32⟩
  | 81 => ⟨S64x16x4096x4, .f32⟩
  | 82 => ⟨S4x4096x64x16, .f32⟩
  | 83 => ⟨S64x16x64, .f32⟩
  | 84 => ⟨S64x16x4096x4, .f32⟩
  | 85 => ⟨S4x4096x64x16, .f32⟩
  | 86 => ⟨S4x4096x64x16, .f32⟩
  | 87 => ⟨S1024, .f32⟩
  | 88 => ⟨S64x16, .f32⟩
  | 89 => ⟨S1x1x64x16, .f32⟩
  | 90 => ⟨S4x4096x64x16, .f32⟩
  | 91 => ⟨S4x4096x64x16, .f32⟩
  | 92 => ⟨S4x4096x64x16, .f32⟩
  | 93 => ⟨S16384x1024, .f32⟩
  | 94 => ⟨S16384x1024, .f32⟩
  | 95 => ⟨S16384x1024, .f32⟩
  | 96 => ⟨S_, .f32⟩
  | 97 => ⟨S16384x1024, .f32⟩
  | 98 => ⟨S16384x1024, .f32⟩
  | 99 => ⟨S16384x1024, .f32⟩
  | 100 => ⟨S_, .f32⟩
  | 101 => ⟨S16384x1024, .f32⟩
  | 102 => ⟨S16384x1024, .f32⟩
  | 103 => ⟨S16384x1024, .f32⟩
  | 104 => ⟨S_, .f32⟩
  | 105 => ⟨S16384x1024, .f32⟩
  | 106 => ⟨S16384x1024, .f32⟩
  | 107 => ⟨S_, .f32⟩
  | 108 => ⟨S16384x1024, .f32⟩
  | 109 => ⟨S16384x1024, .f32⟩
  | 110 => ⟨S16384x1024, .f32⟩
  | 111 => ⟨S16384x1024, .f32⟩
  | 112 => ⟨S16384x1024, .f32⟩
  | 113 => ⟨S_, .f32⟩
  | 114 => ⟨S16384x1024, .f32⟩
  | 115 => ⟨S16384x1024, .f32⟩
  | 116 => ⟨S_, .f32⟩
  | 117 => ⟨S16384x1024, .f32⟩
  | 118 => ⟨S16384x1024, .f32⟩
  | 119 => ⟨S16384x1024, .f32⟩
  | 120 => ⟨S16384x1024, .f32⟩
  | 121 => ⟨S_, .f32⟩
  | 122 => ⟨S16384, .f32⟩
  | 123 => ⟨S16384x1, .f32⟩
  | 124 => ⟨S_, .f32⟩
  | 125 => ⟨S16384x1, .f32⟩
  | 126 => ⟨S16384x1, .f32⟩
  | 127 => ⟨S_, .f32⟩
  | _ => ⟨S16384x3072, .f32⟩

abbrev hbmTy0_1 (i : Nat) : BufTy := match i % 128 with
  | 0 => ⟨S16384x1, .f32⟩
  | 1 => ⟨S16384x1, .f32⟩
  | 2 => ⟨S16384x1, .f32⟩
  | 3 => ⟨S16384x1024, .f32⟩
  | 4 => ⟨S16384x1024, .f32⟩
  | 5 => ⟨S1024, .f32⟩
  | 6 => ⟨S1x1024, .f32⟩
  | 7 => ⟨S16384x1024, .f32⟩
  | 8 => ⟨S16384x1024, .f32⟩
  | 9 => ⟨S16384x1024, .bf16⟩
  | 10 => ⟨S4x1x4096, .f32⟩
  | 11 => ⟨S4x1x4096, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_c : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v18_5 : Ref sig .tc := ⟨.hbm, 36, rfl⟩
abbrev main_v18_6 : Ref sig .tc := ⟨.hbm, 37, rfl⟩
abbrev main_v18_7 : Ref sig .tc := ⟨.hbm, 38, rfl⟩
abbrev main_v18_8 : Ref sig .tc := ⟨.hbm, 39, rfl⟩
abbrev main_while0c_c_19 : Ref sig .tc := ⟨.hbm, 40, rfl⟩
abbrev main_while0c_v70 : Ref sig .tc := ⟨.hbm, 41, rfl⟩
abbrev main_while0b_call0_c : Ref sig .tc := ⟨.hbm, 42, rfl⟩
abbrev main_while0b_call0_c_0 : Ref sig .tc := ⟨.hbm, 43, rfl⟩
abbrev main_while0b_call0_c_1 : Ref sig .tc := ⟨.hbm, 44, rfl⟩
abbrev main_while0b_call0_v0 : Ref sig .tc := ⟨.hbm, 45, rfl⟩
abbrev main_while0b_v70 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_c_1 : Ref sig .tc := ⟨.hbm, 49, rfl⟩
abbrev main_while0b_call1_v0 : Ref sig .tc := ⟨.hbm, 50, rfl⟩
abbrev main_while0b_v71 : Ref sig .tc := ⟨.hbm, 51, rfl⟩
abbrev main_while0b_v72 : Ref sig .tc := ⟨.hbm, 52, rfl⟩
abbrev main_while0b_v73 : Ref sig .tc := ⟨.hbm, 53, rfl⟩
abbrev main_while0b_v74 : Ref sig .tc := ⟨.hbm, 54, rfl⟩
abbrev main_while0b_v75 : Ref sig .tc := ⟨.hbm, 55, rfl⟩
abbrev main_while0b_v76 : Ref sig .tc := ⟨.hbm, 56, rfl⟩
abbrev main_while0b_v77 : Ref sig .tc := ⟨.hbm, 57, rfl⟩
abbrev main_while0b_v78 : Ref sig .tc := ⟨.hbm, 58, rfl⟩
abbrev main_while0b_v79 : Ref sig .tc := ⟨.hbm, 59, rfl⟩
abbrev main_while0b_v80 : Ref sig .tc := ⟨.hbm, 60, rfl⟩
abbrev main_while0b_v81 : Ref sig .tc := ⟨.hbm, 61, rfl⟩
abbrev main_while0b_v82 : Ref sig .tc := ⟨.hbm, 62, rfl⟩
abbrev main_while0b_v83 : Ref sig .tc := ⟨.hbm, 63, rfl⟩
abbrev main_while0b_v84 : Ref sig .tc := ⟨.hbm, 64, rfl⟩
abbrev main_while0b_v85 : Ref sig .tc := ⟨.hbm, 65, rfl⟩
abbrev main_while0b_v86 : Ref sig .tc := ⟨.hbm, 66, rfl⟩
abbrev main_while0b_v87 : Ref sig .tc := ⟨.hbm, 67, rfl⟩
abbrev main_while0b_call2_v0 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_v88 : Ref sig .tc := ⟨.hbm, 72, rfl⟩
abbrev main_while0b_call3_v0 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_c_1 : Ref sig .tc := ⟨.hbm, 76, rfl⟩
abbrev main_while0b_v89 : Ref sig .tc := ⟨.hbm, 77, rfl⟩
abbrev main_while0b_c_19 : Ref sig .tc := ⟨.hbm, 78, rfl⟩
abbrev main_while0b_v90 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_2 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_cst_3 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_cst_4 : Ref sig .tc := ⟨.hbm, 104, rfl⟩
abbrev main_v41 : Ref sig .tc := ⟨.hbm, 105, rfl⟩
abbrev main_v42 : Ref sig .tc := ⟨.hbm, 106, rfl⟩
abbrev main_cst_5 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_cst_6 : Ref sig .tc := ⟨.hbm, 113, rfl⟩
abbrev main_v48 : Ref sig .tc := ⟨.hbm, 114, rfl⟩
abbrev main_v49 : Ref sig .tc := ⟨.hbm, 115, rfl⟩
abbrev main_cst_7 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_cst_8 : Ref sig .tc := ⟨.hbm, 121, rfl⟩
abbrev main_v54 : Ref sig .tc := ⟨.hbm, 122, rfl⟩
abbrev main_v55 : Ref sig .tc := ⟨.hbm, 123, rfl⟩
abbrev main_cst_9 : Ref sig .tc := ⟨.hbm, 124, rfl⟩
abbrev main_v56 : Ref sig .tc := ⟨.hbm, 125, rfl⟩
abbrev main_v57 : Ref sig .tc := ⟨.hbm, 126, rfl⟩
abbrev main_cst_10 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S16384x2048 : Shape := ⟨2, ![16384, 2048]⟩
abbrev S4x1x2048 : Shape := ⟨3, ![4, 1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S1x2048 : Shape := ⟨2, ![1, 2048]⟩
abbrev S16x2x5632 : Shape := ⟨3, ![16, 2, 5632]⟩
abbrev S1024x2048 : Shape := ⟨2, ![1024, 2048]⟩
abbrev S1x1x2048 : Shape := ⟨3, ![1, 1, 2048]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S1x2x512 : Shape := ⟨3, ![1, 2, 512]⟩
abbrev S1032x512 : Shape := ⟨2, ![1032, 512]⟩
abbrev S11x8x512 : Shape := ⟨3, ![11, 8, 512]⟩
abbrev S8x512 : Shape := ⟨2, ![8, 512]⟩
abbrev S1x8x512 : Shape := ⟨3, ![1, 8, 512]⟩
abbrev S256x2048 : Shape := ⟨2, ![256, 2048]⟩
abbrev S256x512 : Shape := ⟨2, ![256, 512]⟩
abbrev S2x512 : Shape := ⟨2, ![2, 512]⟩
abbrev S1024 : Shape := ⟨1, ![1024]⟩
abbrev S1024x1 : Shape := ⟨2, ![1024, 1]⟩
abbrev S16x2x11264 : Shape := ⟨3, ![16, 2, 11264]⟩
abbrev S4x2x11264 : Shape := ⟨3, ![4, 2, 11264]⟩

abbrev nBuf : Space → Nat
  | .hbm => 21
  | .vmem => 30
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x1x2048, .f32⟩
  | .hbm, ⟨3, _⟩ => ⟨S1x2048x11264, .f32⟩
  | .hbm, ⟨4, _⟩ => ⟨S1x3x11264, .f32⟩
  | .hbm, ⟨5, _⟩ => ⟨S1x11264, .f32⟩
  | .hbm, ⟨6, _⟩ => ⟨S1x5632x2048, .f32⟩
  | .hbm, ⟨7, _⟩ => ⟨S2048, .f32⟩
  | .hbm, ⟨8, _⟩ => ⟨S2048x11264, .f32⟩
  | .hbm, ⟨9, _⟩ => ⟨S2048x11264, .bf16⟩
  | .hbm, ⟨10, _⟩ => ⟨S3x11264, .f32⟩
  | .hbm, ⟨11, _⟩ => ⟨S11264, .f32⟩
  | .hbm, ⟨12, _⟩ => ⟨S5632x2048, .f32⟩
  | .hbm, ⟨13, _⟩ => ⟨S5632x2048, .bf16⟩
  | .hbm, ⟨14, _⟩ => ⟨S1x11264, .f32⟩
  | .hbm, ⟨15, _⟩ => ⟨S1x2048, .f32⟩
  | .hbm, ⟨16, _⟩ => ⟨S16384x2048, .f32⟩
  | .hbm, ⟨17, _⟩ => ⟨S16x2x5632, .f32⟩
  | .hbm, ⟨18, _⟩ => ⟨S16x2x5632, .f32⟩
  | .hbm, ⟨19, _⟩ => ⟨S16x2x11264, .f32⟩
  | .hbm, ⟨20, _⟩ => ⟨S4x2x11264, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x2048, .bf16⟩
  | .local _ .vmem, ⟨19, _⟩ => ⟨S512x2048, .bf16⟩
  | .local _ .vmem, ⟨20, _⟩ => ⟨S1x2048, .f32⟩
  | .local _ .vmem, ⟨21, _⟩ => ⟨S1024x2048, .f32⟩
  | .local _ .vmem, ⟨22, _⟩ => ⟨S1x2x512, .f32⟩
  | .local _ .vmem, ⟨23, _⟩ => ⟨S1x2x512, .f32⟩
  | .local _ .vmem, ⟨24, _⟩ => ⟨S1x2x512, .f32⟩
  | .local _ .vmem, ⟨25, _⟩ => ⟨S1x2x512, .f32⟩
  | .local _ .vmem, ⟨26, _⟩ => ⟨S1032x512, .f32⟩
  | .local _ .vmem, ⟨27, _⟩ => ⟨S1032x512, .f32⟩
  | .local _ .vmem, ⟨28, _⟩ => ⟨S11x8x512, .f32⟩
  | .local _ .vmem, ⟨29, _⟩ => ⟨S11x8x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg1 : BitVec 32 := BitVec.ofNat 32 (i 1).val
  let v314 : Index := Scalar.indexCast arg1
  let c0_202 : Index := 0#32
  let c0_203 : Index := 0#32
  ![v314.toNat, 0, 0]
def k0_off2 (i : grid0.Coords) : Fin 3 → Nat :=
  let arg1 : BitVec 32 := BitVec.ofNat 32 (i 1).val
  let v16 : Index := Scalar.indexCast arg1
  let c0 : Index := 0#32
  let c0_7 : Index := 0#32
  ![v16.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S1x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S16384x2048 : Shape := ⟨2, ![16384, 2048]⟩
abbrev S4x1x2048 : Shape := ⟨3, ![4, 1, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S2048 : Shape := ⟨1, ![2048]⟩
abbrev S4x4096x2048 : Shape := ⟨3, ![4, 4096, 2048]⟩
abbrev S_ : Shape := ⟨0, ![]⟩
abbrev S4x2x11264 : Shape := ⟨3, ![4, 2, 11264]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S4x4096x11264 : Shape := ⟨3, ![4, 4096, 11264]⟩
abbrev S4x4098x11264 : Shape := ⟨3, ![4, 4098, 11264]⟩
abbrev S1x1x11264 : Shape := ⟨3, ![1, 1, 11264]⟩
abbrev S4x4096x5632 : Shape := ⟨3, ![4, 4096, 5632]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x1x2048, .f32⟩
  | .hbm, ⟨3, _⟩ => ⟨S1x2048x11264, .f32⟩
  | .hbm, ⟨4, _⟩ => ⟨S1x3x11264, .f32⟩
  | .hbm, ⟨5, _⟩ => ⟨S1x11264, .f32⟩
  | .hbm, ⟨6, _⟩ => ⟨S1x5632x2048, .f32⟩
  | .hbm, ⟨7, _⟩ => ⟨S2048, .f32⟩
  | .hbm, ⟨8, _⟩ => ⟨S16384x2048, .f32⟩
  | .hbm, ⟨9, _⟩ => ⟨S4x4096x2048, .f32⟩
  | .hbm, ⟨10, _⟩ => ⟨S_, .f32⟩
  | .hbm, ⟨11, _⟩ => ⟨S4x2x11264, .f32⟩
  | .hbm, ⟨12, _⟩ => ⟨S2048x11264, .f32⟩
  | .hbm, ⟨13, _⟩ => ⟨S3x11264, .f32⟩
  | .hbm, ⟨14, _⟩ => ⟨S11264, .f32⟩
  | .hbm, ⟨15, _⟩ => ⟨S5632x2048, .f32⟩
  | .hbm, ⟨16, _⟩ => ⟨S4x4096x11264, .f32⟩
  | .hbm, ⟨17, _⟩ => ⟨S4x4098x11264, .f32⟩
  | .hbm, ⟨18, _⟩ => ⟨S1x11264, .f32⟩
  | .hbm, ⟨19, _⟩ => ⟨S11264, .f32⟩
  | .hbm, ⟨20, _⟩ => ⟨S4x4096x11264, .f32⟩
  | .hbm, ⟨21, _⟩ => ⟨S1x1x11264, .f32⟩
  | .hbm, ⟨22, _⟩ => ⟨S4x4096x11264, .f32⟩
  | .hbm, ⟨23, _⟩ => ⟨S4x4096x11264, .f32⟩
  | .hbm, ⟨24, _⟩ => ⟨S1x1x11264, .f32⟩
  | .hbm, ⟨25, _⟩ => ⟨S4x4096x11264, .f32⟩
  | .hbm, ⟨26, _⟩ => ⟨S4x4096x11264, .f32⟩
  | .hbm, ⟨27, _⟩ => ⟨S1x11264, .f32⟩
  | .hbm, ⟨28, _⟩ => ⟨S11264, .f32⟩
  | .hbm, ⟨29, _⟩ => ⟨S4x4096x11264, .f32⟩
  | .hbm, ⟨30, _⟩ => ⟨S1x1x11264, .f32⟩
  | .hbm, ⟨31, _⟩ => ⟨S4x4096x11264, .f32⟩
  | .hbm, ⟨32, _⟩ => ⟨S4x4096x11264, .f32⟩
  | .hbm, ⟨33, _⟩ => ⟨S4x4096x11264, .f32⟩
  | .hbm, ⟨34, _⟩ => ⟨S1x11264, .f32⟩
  | .hbm, ⟨35, _⟩ => ⟨S11264, .f32⟩
  | .hbm, ⟨36, _⟩ => ⟨S4x4096x11264, .f32⟩
  | .hbm, ⟨37, _⟩ => ⟨S1x1x11264, .f32⟩
  | .hbm, ⟨38, _⟩ => ⟨S4x4096x11264, .f32⟩
  | .hbm, ⟨39, _⟩ => ⟨S4x4096x11264, .f32⟩
  | .hbm, ⟨40, _⟩ => ⟨S4x4096x11264, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S4x4096x5632, .f32⟩
  | .hbm, ⟨45, _⟩ => ⟨S_, .f32⟩
  | .hbm, ⟨46, _⟩ => ⟨S4x4096x5632, .f32⟩
  | .hbm, ⟨47, _⟩ => ⟨S4x4096x5632, .f32⟩
  | .hbm, ⟨48, _⟩ => ⟨S_, .f32⟩
  | .hbm, ⟨49, _⟩ => ⟨S4x4096x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S4x4096x2048, .f32⟩
  | .hbm, ⟨54, _⟩ => ⟨S4x2x11264, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S4x4096x1, .f32⟩
  | .hbm, ⟨70, _⟩ => ⟨S4x4096x2048, .f32⟩
  | .hbm, ⟨71, _⟩ => ⟨S4x4096x2048, .f32⟩
  | .hbm, ⟨72, _⟩ => ⟨S1x1x2048, .f32⟩
  | .hbm, ⟨73, _⟩ => ⟨S4x4096x2048, .f32⟩
  | .hbm, ⟨74, _⟩ => ⟨S4x4096x2048, .f32⟩
  | .hbm, ⟨75, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_2 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_v52 : Ref sig .tc := ⟨.hbm, 65, rfl⟩
abbrev main_cst_4 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Kernel3.lean ====
abbrev S16384x2048 : Shape := ⟨2, ![16384, 2048]⟩
abbrev S4x1x2048 : Shape := ⟨3, ![4, 1, 2048]⟩
abbrev S1x2048 : Shape := ⟨2, ![1, 2048]⟩
abbrev S1x2048x4656 : Shape := ⟨3, ![1, 2048, 4656]⟩
abbrev S2048x4656 : Shape := ⟨2, ![2048, 4656]⟩
abbrev S_ : Shape := ⟨0, ![]⟩
abbrev S2048x5120 : Shape := ⟨2, ![2048, 5120]⟩
abbrev S2048 : Shape := ⟨1, ![2048]⟩
abbrev S16384x3072 : Shape := ⟨2, ![16384, 3072]⟩
abbrev S16384x512 : Shape := ⟨2, ![16384, 512]⟩
abbrev S16384x128 : Shape := ⟨2, ![16384, 128]⟩
abbrev S256x2048 : Shape := ⟨2, ![256, 2048]⟩
abbrev S1x1x2048 : Shape := ⟨3, ![1, 1, 2048]⟩
abbrev S256x3072 : Shape := ⟨2, ![256, 3072]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S2048x512 : Shape := ⟨2, ![2048, 512]⟩

abbrev nBuf : Space → Nat
  | .hbm => 17
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S1x2048, .f32⟩
  | .hbm, ⟨4, _⟩ => ⟨S1x2048x4656, .f32⟩
  | .hbm, ⟨5, _⟩ => ⟨S2048x4656, .f32⟩
  | .hbm, ⟨6, _⟩ => ⟨S_, .i32⟩
  | .hbm, ⟨7, _⟩ => ⟨S_, .f32⟩
  | .hbm, ⟨8, _⟩ => ⟨S2048x5120, .f32⟩
  | .hbm, ⟨9, _⟩ => ⟨S2048x5120, .bf16⟩
  | .hbm, ⟨10, _⟩ => ⟨S2048, .f32⟩
  | .hbm, ⟨11, _⟩ => ⟨S1x2048, .f32⟩
  | .hbm, ⟨12, _⟩ => ⟨S16384x3072, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x5120, .bf16⟩
  | .local _ .vmem, ⟨8, _⟩ => ⟨S256x3072, .f32⟩
  | .local _ .vmem, ⟨9, _⟩ => ⟨S256x3072, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x128, .f32⟩
  | .local _ .vmem, ⟨17, _⟩ => ⟨S256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x2048 : Shape := ⟨2, ![16384, 2048]⟩
abbrev S4x1x2048 : Shape := ⟨3, ![4, 1, 2048]⟩
abbrev S1x2048 : Shape := ⟨2, ![1, 2048]⟩
abbrev S1x2048x4656 : Shape := ⟨3, ![1, 2048, 4656]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x4656 : Shape := ⟨2, ![2048, 4656]⟩
abbrev S4x4096x4656 : Shape := ⟨3, ![4, 4096, 4656]⟩
abbrev S16384x4656 : Shape := ⟨2, ![16384, 4656]⟩
abbrev S16384x48 : Shape := ⟨2, ![16384, 48]⟩
abbrev S16384x128 : Shape := ⟨2, ![16384, 128]⟩
abbrev S16384x3072 : Shape := ⟨2, ![16384, 3072]⟩
abbrev S16384x512 : Shape := ⟨2, ![16384, 512]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x1x2048, .f32⟩
  | .hbm, ⟨2, _⟩ => ⟨S4x1x2048, .f32⟩
  | .hbm, ⟨3, _⟩ => ⟨S1x2048, .f32⟩
  | .hbm, ⟨4, _⟩ => ⟨S1x2048x4656, .f32⟩
  | .hbm, ⟨5, _⟩ => ⟨S4x4096x2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S2048x4656, .f32⟩
  | .hbm, ⟨31, _⟩ => ⟨S4x4096x4656, .f32⟩
  | .hbm, ⟨32, _⟩ => ⟨S16384x4656, .f32⟩
  | .hbm, ⟨33, _⟩ => ⟨S16384x48, .f32⟩
  | .hbm, ⟨34, _⟩ => ⟨S_, .i32⟩
  | .hbm, ⟨35, _⟩ => ⟨S_, .f32⟩
  | .hbm, ⟨36, _⟩ => ⟨S16384x128, .f32⟩
  | .hbm, ⟨37, _⟩ => ⟨S16384x3072, .f32⟩
  | .hbm, ⟨38, _⟩ => ⟨S16384x512, .f32⟩
  | .hbm, ⟨39, _⟩ => ⟨S16384x512, .f32⟩
  | .hbm, ⟨40, _⟩ => ⟨S16384x512, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S1x2048x2048 : Shape := ⟨3, ![1, 2048, 2048]⟩
abbrev S4x1x2048 : Shape := ⟨3, ![4, 1, 2048]⟩
abbrev S1x2048 : Shape := ⟨2, ![1, 2048]⟩
abbrev S2048x2048 : Shape := ⟨2, ![2048, 2048]⟩
abbrev S2048 : Shape := ⟨1, ![2048]⟩
abbrev S512x2048 : Shape := ⟨2, ![512, 2048]⟩
abbrev S512x1024 : Shape := ⟨2, ![512, 1024]⟩
abbrev S1x1x2048 : Shape := ⟨3, ![1, 1, 2048]⟩
abbrev S512 : Shape := ⟨1, ![512]⟩
abbrev S512x1 : Shape := ⟨2, ![512, 1]⟩

abbrev nBuf : Space → Nat
  | .hbm => 14
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x2048 : Shape := ⟨2, ![16384, 2048]⟩
abbrev S16384x1024 : Shape := ⟨2, ![16384, 1024]⟩
abbrev S1x2048x2048 : Shape := ⟨3, ![1, 2048, 2048]⟩
abbrev S4x1x2048 : Shape := ⟨3, ![4, 1, 2048]⟩
abbrev S1x2048 : Shape := ⟨2, ![1, 2048]⟩
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S1x2048, .f32⟩
  | .hbm, ⟨8, _⟩ => ⟨S16384x2048, .bf16⟩
  | .hbm, ⟨9, _⟩ => ⟨S16384x2048, .f32⟩
  | .hbm, ⟨10, _⟩ => ⟨S4x4096x2048, .f32⟩
  | .hbm, ⟨11, _⟩ => ⟨S4x4096x2048, .f32⟩
  | .hbm, ⟨12, _⟩ => ⟨S2048x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S16384x2048, .f32⟩
  | .hbm, ⟨42, _⟩ => ⟨S16384x2048, .f32⟩
  | .hbm, ⟨43, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel5.lean ====
abbrev S32x2048 : Shape := ⟨2, ![32, 2048]⟩
abbrev S1x32x2048 : Shape := ⟨3, ![1, 32, 2048]⟩
abbrev S1x2048 : Shape := ⟨2, ![1, 2048]⟩
abbrev S1x2048x4656 : Shape := ⟨3, ![1, 2048, 4656]⟩
abbrev S2048x4656 : Shape := ⟨2, ![2048, 4656]⟩
abbrev S_ : Shape := ⟨0, ![]⟩
abbrev S2048x5120 : Shape := ⟨2, ![2048, 5120]⟩
abbrev S2048 : Shape := ⟨1, ![2048]⟩
abbrev S32x3072 : Shape := ⟨2, ![32, 3072]⟩
abbrev S32x512 : Shape := ⟨2, ![32, 512]⟩
abbrev S32x128 : Shape := ⟨2, ![32, 128]⟩
abbrev S32 : Shape := ⟨1, ![32]⟩
abbrev S32x1 : Shape := ⟨2, ![32, 1]⟩
abbrev S2048x512 : Shape := ⟨2, ![2048, 512]⟩

abbrev nBuf : Space → Nat
  | .hbm => 17
  | .vmem => 10
  | .smem => 0
  | _ => 0

abbrev bufTy : (tb : Table) → Fin (tcTables nBuf tb) → BufTy
  | .hbm, ⟨0, _⟩ => ⟨S32x2048, .f32⟩
  | .hbm, ⟨1, _⟩ => ⟨S1x32x2048, .f32⟩
  | .hbm, ⟨2, _⟩ => ⟨S1x32x2048, .f32⟩
  | .hbm, ⟨3, _⟩ => ⟨S1x2048, .f32⟩
  | .hbm, ⟨4, _⟩ => ⟨S1x2048x4656, .f32⟩
  | .hbm, ⟨5, _⟩ => ⟨S2048x4656, .f32⟩
  | .hbm, ⟨6, _⟩ => ⟨S_, .i32⟩
  | .hbm, ⟨7, _⟩ => ⟨S_, .f32⟩
  | .hbm, ⟨8, _⟩ => ⟨S2048x5120, .f32⟩
  | .hbm, ⟨9, _⟩ => ⟨S2048x5120, .bf16⟩
  | .hbm, ⟨10, _⟩ => ⟨S2048, .f32⟩
  | .hbm, ⟨11, _⟩ => ⟨S1x2048, .f32⟩
  | .hbm, ⟨12, _⟩ => ⟨S32x3072, .f32⟩
  | .hbm, ⟨13, _⟩ => ⟨S32x512, .f32⟩
  | .hbm, ⟨14, _⟩ => ⟨S32x512, .f32⟩
  | .hbm, ⟨15, _⟩ => ⟨S32x512, .f32⟩
  | .hbm, ⟨16, _⟩ => ⟨S32x128, .f32⟩
  | .local _ .vmem, ⟨0, _⟩ => ⟨S32x2048, .f32⟩
  | .local _ .vmem, ⟨1, _⟩ => ⟨S1x32x2048, .f32⟩
  | .local _ .vmem, ⟨2, _⟩ => ⟨S1x32x2048, .f32⟩
  | .local _ .vmem, ⟨3, _⟩ => ⟨S1x2048, .f32⟩
  | .local _ .vmem, ⟨4, _⟩ => ⟨S2048x5120, .bf16⟩
  | .local _ .vmem, ⟨5, _⟩ => ⟨S32x3072, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x128, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S32x2048 : Shape := ⟨2, ![32, 2048]⟩
abbrev S1x32x2048 : Shape := ⟨3, ![1, 32, 2048]⟩
abbrev S1x2048 : Shape := ⟨2, ![1, 2048]⟩
abbrev S1x2048x4656 : Shape := ⟨3, ![1, 2048, 4656]⟩
abbrev S32x1x2048 : Shape := ⟨3, ![32, 1, 2048]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x4656 : Shape := ⟨2, ![2048, 4656]⟩
abbrev S32x1x4656 : Shape := ⟨3, ![32, 1, 4656]⟩
abbrev S32x4656 : Shape := ⟨2, ![32, 4656]⟩
abbrev S32x48 : Shape := ⟨2, ![32, 48]⟩
abbrev S32x128 : Shape := ⟨2, ![32, 128]⟩
abbrev S32x3072 : Shape := ⟨2, ![32, 3072]⟩
abbrev S32x512 : Shape := ⟨2, ![32, 512]⟩

abbrev nBuf : Space → Nat
  | .hbm => 41
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x32x2048, .f32⟩
  | .hbm, ⟨2, _⟩ => ⟨S1x32x2048, .f32⟩
  | .hbm, ⟨3, _⟩ => ⟨S1x2048, .f32⟩
  | .hbm, ⟨4, _⟩ => ⟨S1x2048x4656, .f32⟩
  | .hbm, ⟨5, _⟩ => ⟨S32x1x2048, .f32⟩
  | .hbm, ⟨6, _⟩ => ⟨S2048, .f32⟩
  | .hbm, ⟨7, _⟩ => ⟨S32x1x2048, .f32⟩
  | .hbm, ⟨8, _⟩ => ⟨S_, .f32⟩
  | .hbm, ⟨9, _⟩ => ⟨S32x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S_, .f32⟩
  | .hbm, ⟨15, _⟩ => ⟨S32x1x1, .f32⟩
  | .hbm, ⟨16, _⟩ => ⟨S32x1x1, .f32⟩
  | .hbm, ⟨17, _⟩ => ⟨S32x1x1, .f32⟩
  | .hbm, ⟨18, _⟩ => ⟨S32x1x2048, .f32⟩
  | .hbm, ⟨19, _⟩ => ⟨S32x1x2048, .f32⟩
  | .hbm, ⟨20, _⟩ => ⟨S1x1x2048, .f32⟩
  | .hbm, ⟨21, _⟩ => ⟨S32x1x2048, .f32⟩
  | .hbm, ⟨22, _⟩ => ⟨S32x1x2048, .f32⟩
  | .hbm, ⟨23, _⟩ => ⟨S32x1x2048, .f32⟩
  | .hbm, ⟨24, _⟩ => ⟨S_, .f32⟩
  | .hbm, ⟨25, _⟩ => ⟨S32x1x2048, .f32⟩
  | .hbm, ⟨26, _⟩ => ⟨S32x1x2048, .f32⟩
  | .hbm, ⟨27, _⟩ => ⟨S32x1x2048, .f32⟩
  | .hbm, ⟨28, _⟩ => ⟨S32x1x2048, .f32⟩
  | .hbm, ⟨29, _⟩ => ⟨S32x1x2048, .f32⟩
  | .hbm, ⟨30, _⟩ => ⟨S2048x4656, .f32⟩
  | .hbm, ⟨31, _⟩ => ⟨S32x1x4656, .f32⟩
  | .hbm, ⟨32, _⟩ => ⟨S32x4656, .f32⟩
  | .hbm, ⟨33, _⟩ => ⟨S32x48, .f32⟩
  | .hbm, ⟨34, _⟩ => ⟨S_, .i32⟩
  | .hbm, ⟨35, _⟩ => ⟨S_, .f32⟩
  | .hbm, ⟨36, _⟩ => ⟨S32x128, .f32⟩
  | .hbm, ⟨37, _⟩ => ⟨S32x3072, .f32⟩
  | .hbm, ⟨38, _⟩ => ⟨S32x512, .f32⟩
  | .hbm, ⟨39, _⟩ => ⟨S32x512, .f32⟩
  | .hbm, ⟨40, _⟩ => ⟨S32x512, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel6.lean ====
abbrev S16384x512 : Shape := ⟨2, ![16384, 512]⟩
abbrev S4x2x4x64x4096 : Shape := ⟨5, ![4, 2, 4, 64, 4096]⟩
abbrev S4x4096x512 : Shape := ⟨3, ![4, 4096, 512]⟩
abbrev S4x4x64x4096 : Shape := ⟨4, ![4, 4, 64, 4096]⟩
abbrev S4x4096x256 : Shape := ⟨3, ![4, 4096, 256]⟩
abbrev S512x512 : Shape := ⟨2, ![512, 512]⟩
abbrev S1x2x4x64x512 : Shape := ⟨5, ![1, 2, 4, 64, 512]⟩
abbrev S1x512x512 : Shape := ⟨3, ![1, 512, 512]⟩
abbrev S1x4x64x512 : Shape := ⟨4, ![1, 4, 64, 512]⟩
abbrev S1x512x256 : Shape := ⟨3, ![1, 512, 256]⟩
abbrev S2x4x64x512 : Shape := ⟨4, ![2, 4, 64, 512]⟩
abbrev S4x64x512 : Shape := ⟨3, ![4, 64, 512]⟩
abbrev S512x64 : Shape := ⟨2, ![512, 64]⟩
abbrev S512x256 : Shape := ⟨2, ![512, 256]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S4x2x4x64x4096, .f32⟩
  | .hbm, ⟨4, _⟩ => ⟨S4x2x4x64x4096, .f32⟩
  | .hbm, ⟨5, _⟩ => ⟨S4x4096x512, .bf16⟩
  | .hbm, ⟨6, _⟩ => ⟨S4x4x64x4096, .bf16⟩
  | .hbm, ⟨7, _⟩ => ⟨S4x4096x256, .bf16⟩
  | .hbm, ⟨8, _⟩ => ⟨S4x4x64x4096, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x2x4x64x512, .f32⟩
  | .local _ .vmem, ⟨7, _⟩ => ⟨S1x2x4x64x512, .f32⟩
  | .local _ .vmem, ⟨8, _⟩ => ⟨S1x2x4x64x512, .f32⟩
  | .local _ .vmem, ⟨9, _⟩ => ⟨S1x2x4x64x512, .f32⟩
  | .local _ .vmem, ⟨10, _⟩ => ⟨S1x512x512, .bf16⟩
  | .local _ .vmem, ⟨11, _⟩ => ⟨S1x512x512, .bf16⟩
  | .local _ .vmem, ⟨12, _⟩ => ⟨S1x4x64x512, .bf16⟩
  | .local _ .vmem, ⟨13, _⟩ => ⟨S1x4x64x512, .bf16⟩
  | .local _ .vmem, ⟨14, _⟩ => ⟨S1x512x256, .bf16⟩
  | .local _ .vmem, ⟨15, _⟩ => ⟨S1x512x256, .bf16⟩
  | .local _ .vmem, ⟨16, _⟩ => ⟨S1x4x64x512, .bf16⟩
  | .local _ .vmem, ⟨17, _⟩ => ⟨S1x4x64x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S16384x512 : Shape := ⟨2, ![16384, 512]⟩
abbrev S4x4096x2x4x64 : Shape := ⟨5, ![4, 4096, 2, 4, 64]⟩
abbrev S4x2x4x64x4096 : Shape := ⟨5, ![4, 2, 4, 64, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S4x4096x2x4x64, .f32⟩
  | .hbm, ⟨4, _⟩ => ⟨S4x2x4x64x4096, .f32⟩
  | .hbm, ⟨5, _⟩ => ⟨S4x4096x2x4x64, .f32⟩
  | .hbm, ⟨6, _⟩ => ⟨S4x2x4x64x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S32x3072 : Shape := ⟨2, ![32, 3072]⟩
abbrev S1x32x64x64 : Shape := ⟨4, ![1, 32, 64, 64]⟩
abbrev S8x64x64 : Shape := ⟨3, ![8, 64, 64]⟩
abbrev S64x1024 : Shape := ⟨2, ![64, 1024]⟩
abbrev S1x64x16x64 : Shape := ⟨4, ![1, 64, 16, 64]⟩
abbrev S1x1024 : Shape := ⟨2, ![1, 1024]⟩
abbrev S64x16x64 : Shape := ⟨3, ![64, 16, 64]⟩
abbrev S8x8 : Shape := ⟨2, ![8, 8]⟩
abbrev S_ : Shape := ⟨0, ![]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S8x4096 : Shape := ⟨2, ![8, 4096]⟩
abbrev S8 : Shape := ⟨1, ![8]⟩
abbrev S8x1 : Shape := ⟨2, ![8, 1]⟩
abbrev S1x4096 : Shape := ⟨2, ![1, 4096]⟩
abbrev S4096 : Shape := ⟨1, ![4096]⟩
abbrev S1x8x4096 : Shape := ⟨3, ![1, 8, 4096]⟩
abbrev S3x8x4096 : Shape := ⟨3, ![3, 8, 4096]⟩
abbrev S32x64x64 : Shape := ⟨3, ![32, 64, 64]⟩
abbrev S32x4096 : Shape := ⟨2, ![32, 4096]⟩
abbrev S1024 : Shape := ⟨1, ![1024]⟩
abbrev S32x1024 : Shape := ⟨2, ![32, 1024]⟩
abbrev S32x128 : Shape := ⟨2, ![32, 128]⟩
abbrev S1x128x1024 : Shape := ⟨3, ![1, 128, 1024]⟩
abbrev S128x1024 : Shape := ⟨2, ![128, 1024]⟩
abbrev S1x512 : Shape := ⟨2, ![1, 512]⟩
abbrev S32x512 : Shape := ⟨2, ![32, 512]⟩
abbrev S1x1024x128 : Shape := ⟨3, ![1, 1024, 128]⟩
abbrev S1024x128 : Shape := ⟨2, ![1024, 128]⟩
abbrev S32 : Shape := ⟨1, ![32]⟩
abbrev S32x1 : Shape := ⟨2, ![32, 1]⟩

abbrev nBuf : Space → Nat
  | .hbm => 152
  | .vmem => 14
  | .smem => 0
  | _ => 0

abbrev hbmTy0_0 (i : Nat) : BufTy := match i % 128 with
  | 0 => ⟨S32x3072, .f32⟩
  | 1 => ⟨S1x32x64x64, .f32⟩
  | 2 => ⟨S1x32x64x64, .f32⟩
  | 3 => ⟨S8x64x64, .f32⟩
  | 4 => ⟨S8x64x64, .f32⟩
  | 5 => ⟨S64x1024, .f32⟩
  | 6 => ⟨S64x1024, .f32⟩
  | 7 => ⟨S1x64x16x64, .f32⟩
  | 8 => ⟨S1x64x16x64, .f32⟩
  | 9 => ⟨S1x1024, .f32⟩
  | 10 => ⟨S1x1024, .f32⟩
  | 11 => ⟨S64x16x64, .f32⟩
  | 12 => ⟨S64x16x64, .f32⟩
  | 13 => ⟨S8x8, .i32⟩
  | 14 => ⟨S8x8, .i32⟩
  | 15 => ⟨S_, .i32⟩
  | 16 => ⟨S8x8, .i32⟩
  | 17 => ⟨S8x8, .i32⟩
  | 18 => ⟨S8x8, .i1⟩
  | 19 => ⟨S8x8, .f32⟩
  | 20 => ⟨S8x8x64x16, .f32⟩
  | 21 => ⟨S8x8x16x64, .f32⟩
  | 22 => ⟨S8x8x16x1x64, .f32⟩
  | 23 => ⟨S1x8x1x8x1, .f32⟩
  | 24 => ⟨S8x8x16x8x64, .f32⟩
  | 25 => ⟨S8x8x16x8x64, .f32⟩
  | 26 => ⟨S8x8x16x8x64, .f32⟩
  | 27 => ⟨S8x128x512, .f32⟩
  | 28 => ⟨S8x8x64x16, .f32⟩
  | 29 => ⟨S8x8x16x64, .f32⟩
  | 30 => ⟨S8x8x16x1x64, .f32⟩
  | 31 => ⟨S1x8x1x8x1, .f32⟩
  | 32 => ⟨S8x8x16x8x64, .f32⟩
  | 33 => ⟨S8x8x16x8x64, .f32⟩
  | 34 => ⟨S8x8x16x8x64, .f32⟩
  | 35 => ⟨S8x128x512, .f32⟩
  | 36 => ⟨S8x128x1024, .f32⟩
  | 37 => ⟨S8x128x1024, .bf16⟩
  | 38 => ⟨S8x8x16x64, .f32⟩
  | 39 => ⟨S8x8x64x16, .f32⟩
  | 40 => ⟨S8x8x64x1x16, .f32⟩
  | 41 => ⟨S1x8x1x8x1, .f32⟩
  | 42 => ⟨S8x8x64x8x16, .f32⟩
  | 43 => ⟨S8x8x64x8x16, .f32⟩
  | 44 => ⟨S8x8x64x8x16, .f32⟩
  | 45 => ⟨S8x512x128, .f32⟩
  | 46 => ⟨S64x16x64, .f32⟩
  | 47 => ⟨S8x8x16x64, .f32⟩
  | 48 => ⟨S8x8x64x16, .f32⟩
  | 49 => ⟨S8x8x64x1x16, .f32⟩
  | 50 => ⟨S1x8x1x8x1, .f32⟩
  | 51 => ⟨S8x8x64x8x16, .f32⟩
  | 52 => ⟨S8x8x64x8x16, .f32⟩
  | 53 => ⟨S8x8x64x8x16, .f32⟩
  | 54 => ⟨S8x512x128, .f32⟩
  | 55 => ⟨S8x1024x128, .f32⟩
  | 56 => ⟨S8x1024x128, .bf16⟩
  | 57 => ⟨S8x4096, .f32⟩
  | 58 => ⟨S8x4096, .f32⟩
  | 59 => ⟨S8, .i32⟩
  | 60 => ⟨S8x1, .i32⟩
  | 61 => ⟨S_, .i32⟩
  | 62 => ⟨S8x1, .i32⟩
  | 63 => ⟨S8x1, .i1⟩
  | 64 => ⟨S1x4096, .f32⟩
  | 65 => ⟨S4096, .f32⟩
  | 66 => ⟨S1x4096, .f32⟩
  | 67 => ⟨S_, .f32⟩
  | 68 => ⟨S_, .f32⟩
  | 69 => ⟨S8x4096, .i1⟩
  | 70 => ⟨S8x4096, .f32⟩
  | 71 => ⟨S8x4096, .f32⟩
  | 72 => ⟨S8x4096, .f32⟩
  | 73 => ⟨S_, .i32⟩
  | 74 => ⟨S8x1, .i32⟩
  | 75 => ⟨S8x1, .i1⟩
  | 76 => ⟨S1x4096, .f32⟩
  | 77 => ⟨S4096, .f32⟩
  | 78 => ⟨S1x4096, .f32⟩
  | 79 => ⟨S_, .f32⟩
  | 80 => ⟨S_, .f32⟩
  | 81 => ⟨S8x4096, .i1⟩
  | 82 => ⟨S8x4096, .f32⟩
  | 83 => ⟨S8x4096, .f32⟩
  | 84 => ⟨S8x4096, .f32⟩
  | 85 => ⟨S_, .i32⟩
  | 86 => ⟨S8x1, .i32⟩
  | 87 => ⟨S8x1, .i1⟩
  | 88 => ⟨S1x4096, .f32⟩
  | 89 => ⟨S4096, .f32⟩
  | 90 => ⟨S1x4096, .f32⟩
  | 91 => ⟨S_, .f32⟩
  | 92 => ⟨S_, .f32⟩
  | 93 => ⟨S8x4096, .i1⟩
  | 94 => ⟨S8x4096, .f32⟩
  | 95 => ⟨S8x4096, .f32⟩
  | 96 => ⟨S8x4096, .f32⟩
  | 97 => ⟨S1x8x4096, .f32⟩
  | 98 => ⟨S1x8x4096, .f32⟩
  | 99 => ⟨S1x8x4096, .f32⟩
  | 100 => ⟨S3x8x4096, .f32⟩
  | 101 => ⟨S_, .i32⟩
  | 102 => ⟨S8x1, .i32⟩
  | 103 => ⟨S8x1, .i1⟩
  | 104 => ⟨S1x4096, .f32⟩
  | 105 => ⟨S4096, .f32⟩
  | 106 => ⟨S1x4096, .f32⟩
  | 107 => ⟨S_, .f32⟩
  | 108 => ⟨S_, .f32⟩
  | 109 => ⟨S8x4096, .i1⟩
  | 110 => ⟨S8x4096, .f32⟩
  | 111 => ⟨S8x4096, .f32⟩
  | 112 => ⟨S8x4096, .f32⟩
  | 113 => ⟨S_, .i32⟩
  | 114 => ⟨S8x1, .i32⟩
  | 115 => ⟨S8x1, .i1⟩
  | 116 => ⟨S1x4096, .f32⟩
  | 117 => ⟨S4096, .f32⟩
  | 118 => ⟨S1x4096, .f32⟩
  | 119 => ⟨S_, .f32⟩
  | 120 => ⟨S_, .f32⟩
  | 121 => ⟨S8x4096, .i1⟩
  | 122 => ⟨S8x4096, .f32⟩
  | 123 => ⟨S8x4096, .f32⟩
  | 124 => ⟨S8x4096, .f32⟩
  | 125 => ⟨S_, .i32⟩
  | 126 => ⟨S8x1, .i32⟩
  | 127 => ⟨S8x1, .i1⟩
  | _ => ⟨S32x3072, .f32⟩

abbrev hbmTy0_1 (i : Nat) : BufTy := match i % 128 with
  | 0 => ⟨S1x4096, .f32⟩
  | 1 => ⟨S4096, .f32⟩
  | 2 => ⟨S1x4096, .f32⟩
  | 3 => ⟨S_, .f32⟩
  | 4 => ⟨S_, .f32⟩
  | 5 => ⟨S8x4096, .i1⟩
  | 6 => ⟨S8x4096, .f32⟩
  | 7 => ⟨S8x4096, .f32⟩
  | 8 => ⟨S8x4096, .f32⟩
  | 9 => ⟨S1x8x4096, .f32⟩
  | 10 => ⟨S1x8x4096, .f32⟩
  | 11 => ⟨S1x8x4096, .f32⟩
  | 12 => ⟨S3x8x4096, .f32⟩
  | 13 => ⟨S32x64x64, .f32⟩
  | 14 => ⟨S32x4096, .f32⟩
  | 15 => ⟨S32x64x64, .f32⟩
  | 16 => ⟨S32x4096, .f32⟩
  | 17 => ⟨S1024, .f32⟩
  | 18 => ⟨S1024, .f32⟩
  | 19 => ⟨S1x1024, .f32⟩
  | 20 => ⟨S1x1024, .f32⟩
  | 21 => ⟨S32x1024, .bf16⟩
  | 22 => ⟨S32x4096, .f32⟩
  | 23 => ⟨S32x4096, .f32⟩
  | _ => ⟨S32x3072, .f32⟩

abbrev hbmTy (i : Nat) : BufTy := match i / 128 with
  | 0 => hbmTy0_0 i
  | 1 => hbmTy0_1 i
  | _ => ⟨S32x3072, .f32⟩

abbrev bufTy : (tb : Table) → Fin (tcTables nBuf tb) → BufTy
  | .hbm, ⟨i, _⟩ => hbmTy i
  | .local _ .vmem, ⟨0, _⟩ => ⟨S32x1024, .f32⟩
  | .local _ .vmem, ⟨1, _⟩ => ⟨S32x1024, .f32⟩
  | .local _ .vmem, ⟨2, _⟩ => ⟨S32x4096, .f32⟩
  | .local _ .vmem, ⟨3, _⟩ => ⟨S32x4096, .f32⟩
  | .local _ .vmem, ⟨4, _⟩ => ⟨S8x128x1024, .bf16⟩
  | .local _ .vmem, ⟨5, _⟩ => ⟨S8x1024x128, .bf16⟩
  | .local _ .vmem, ⟨6, _⟩ => ⟨S8x4096, .f32⟩
  | .local _ .vmem, ⟨7, _⟩ => ⟨S8x4096, .f32⟩
  | .local _ .vmem, ⟨8, _⟩ => ⟨S1x1024, .f32⟩
  | .local _ .vmem, ⟨9, _⟩ => ⟨S1x1024, .f32⟩
  | .local _ .vmem, ⟨10, _⟩ => ⟨S32x1024, .bf16⟩
  | .local _ .vmem, ⟨11, _⟩ => ⟨S32x4096, .f32⟩
  | .local _ .vmem, ⟨12, _⟩ => ⟨S32x4096, .f32⟩
  | .local _ .vmem, ⟨13, _⟩ => ⟨S32x1024, .f32⟩
  | _, _ => ⟨S32x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_0 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_v54 : Ref sig .tc := ⟨.hbm, 72, rfl⟩
abbrev main_c_1 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_2 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_v60 : Ref sig .tc := ⟨.hbm, 84, rfl⟩
abbrev main_c_3 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_4 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_5 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_6 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_v76 : Ref sig .tc := ⟨.hbm, 112, rfl⟩
abbrev main_c_7 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_8 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_v82 : Ref sig .tc := ⟨.hbm, 124, rfl⟩
abbrev main_c_9 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_10 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101_0 : Ref sig .tc := ⟨.hbm, 149, rfl⟩
abbrev main_v101_1 : Ref sig .tc := ⟨.hbm, 150, rfl⟩
abbrev main_v101_2 : Ref sig .tc := ⟨.hbm, 151, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference7Ideal.lean ====
abbrev S32x3072 : Shape := ⟨2, ![32, 3072]⟩
abbrev S1x32x64x64 : Shape := ⟨4, ![1, 32, 64, 64]⟩
abbrev S8x64x64 : Shape := ⟨3, ![8, 64, 64]⟩
abbrev S64x1024 : Shape := ⟨2, ![64, 1024]⟩
abbrev S1x64x16x64 : Shape := ⟨4, ![1, 64, 16, 64]⟩
abbrev S1x1024 : Shape := ⟨2, ![1, 1024]⟩
abbrev S1x64x64 : Shape := ⟨3, ![1, 64, 64]⟩
abbrev S64x64 : Shape := ⟨2, ![64, 64]⟩
abbrev S64x64x16 : Shape := ⟨3, ![64, 64, 16]⟩
abbrev S32x1024 : Shape := ⟨2, ![32, 1024]⟩
abbrev S32x64x16 : Shape := ⟨3, ![32, 64, 16]⟩
abbrev S32x64x64 : Shape := ⟨3, ![32, 64, 64]⟩
abbrev S64x64x32 : Shape := ⟨3, ![64, 64, 32]⟩
abbrev S32x4096 : Shape := ⟨2, ![32, 4096]⟩

abbrev nBuf : Space → Nat
  | .hbm => 43
  | .vmem => 0
  | .smem => 0
  | _ => 0

abbrev bufTy : (tb : Table) → Fin (tcTables nBuf tb) → BufTy
  | .hbm, ⟨0, _⟩ => ⟨S32x3072, .f32⟩
  | .hbm, ⟨1, _⟩ => ⟨S1x32x64x64, .f32⟩
  | .hbm, ⟨2, _⟩ => ⟨S1x32x64x64, .f32⟩
  | .hbm, ⟨3, _⟩ => ⟨S8x64x64, .f32⟩
  | .hbm, ⟨4, _⟩ => ⟨S8x64x64, .f32⟩
  | .hbm, ⟨5, _⟩ => ⟨S64x1024, .f32⟩
  | .hbm, ⟨6, _⟩ => ⟨S64x1024, .f32⟩
  | .hbm, ⟨7, _⟩ => ⟨S1x64x16x64, .f32⟩
  | .hbm, ⟨8, _⟩ => ⟨S1x64x16x64, .f32⟩
  | .hbm, ⟨9, _⟩ => ⟨S1x1024, .f32⟩
  | .hbm, ⟨10, _⟩ => ⟨S1x1024, .f32⟩
  | .hbm, ⟨11, _⟩ => ⟨S1x64x64, .f32⟩
  | .hbm, ⟨12, _⟩ => ⟨S64x64, .f32⟩
  | .hbm, ⟨13, _⟩ => ⟨S1x64x64, .f32⟩
  | .hbm, ⟨14, _⟩ => ⟨S64x64, .f32⟩
  | .hbm, ⟨15, _⟩ => ⟨S64x64x16, .f32⟩
  | .hbm, ⟨16, _⟩ => ⟨S64x64x16, .f32⟩
  | .hbm, ⟨17, _⟩ => ⟨S32x1024, .f32⟩
  | .hbm, ⟨18, _⟩ => ⟨S32x64x16, .f32⟩
  | .hbm, ⟨19, _⟩ => ⟨S32x64x64, .f32⟩
  | .hbm, ⟨20, _⟩ => ⟨S32x64x64, .f32⟩
  | .hbm, ⟨21, _⟩ => ⟨S64x64x32, .f32⟩
  | .hbm, ⟨22, _⟩ => ⟨S32x64x64, .f32⟩
  | .hbm, ⟨23, _⟩ => ⟨S1x64x64, .f32⟩
  | .hbm, ⟨24, _⟩ => ⟨S32x64x64, .f32⟩
  | .hbm, ⟨25, _⟩ => ⟨S32x64x64, .f32⟩
  | .hbm, ⟨26, _⟩ => ⟨S1x64x64, .f32⟩
  | .hbm, ⟨27, _⟩ => ⟨S32x64x64, .f32⟩
  | .hbm, ⟨28, _⟩ => ⟨S32x64x64, .f32⟩
  | .hbm, ⟨29, _⟩ => ⟨S32x64x64, .f32⟩
  | .hbm, ⟨30, _⟩ => ⟨S32x64x64, .f32⟩
  | .hbm, ⟨31, _⟩ => ⟨S64x64x32, .f32⟩
  | .hbm, ⟨32, _⟩ => ⟨S32x64x64, .f32⟩
  | .hbm, ⟨33, _⟩ => ⟨S1x64x64, .f32⟩
  | .hbm, ⟨34, _⟩ => ⟨S32x64x64, .f32⟩
  | .hbm, ⟨35, _⟩ => ⟨S32x64x64, .f32⟩
  | .hbm, ⟨36, _⟩ => ⟨S1x64x64, .f32⟩
  | .hbm, ⟨37, _⟩ => ⟨S32x64x64, .f32⟩
  | .hbm, ⟨38, _⟩ => ⟨S32x64x64, .f32⟩
  | .hbm, ⟨39, _⟩ => ⟨S32x64x64, .f32⟩
  | .hbm, ⟨40, _⟩ => ⟨S32x64x64, .f32⟩
  | .hbm, ⟨41, _⟩ => ⟨S32x4096, .f32⟩
  | .hbm, ⟨42, _⟩ => ⟨S32x4096, .f32⟩
  | _, _ => ⟨S32x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel8.lean ====
abbrev S32x2048 : Shape := ⟨2, ![32, 2048]⟩
abbrev S1x32x2048 : Shape := ⟨3, ![1, 32, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S2048 : Shape := ⟨1, ![2048]⟩
abbrev S1x32x2x11264 : Shape := ⟨4, ![1, 32, 2, 11264]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S32x2x11264 : Shape := ⟨3, ![32, 2, 11264]⟩
abbrev S32x1x11264 : Shape := ⟨3, ![32, 1, 11264]⟩
abbrev S32x11264 : Shape := ⟨2, ![32, 11264]⟩
abbrev S1x2048 : Shape := ⟨2, ![1, 2048]⟩
abbrev S32x5632 : Shape := ⟨2, ![32, 5632]⟩
abbrev S2048x512 : Shape := ⟨2, ![2048, 512]⟩
abbrev S3x512 : Shape := ⟨2, ![3, 512]⟩
abbrev S1x512 : Shape := ⟨2, ![1, 512]⟩
abbrev S512x2048 : Shape := ⟨2, ![512, 2048]⟩
abbrev S32x512 : Shape := ⟨2, ![32, 512]⟩
abbrev S32 : Shape := ⟨1, ![32]⟩
abbrev S32x1 : Shape := ⟨2, ![32, 1]⟩

abbrev nBuf : Space → Nat
  | .hbm => 29
  | .vmem => 31
  | .smem => 0
  | _ => 0

abbrev bufTy : (tb : Table) → Fin (tcTables nBuf tb) → BufTy
  | .hbm, ⟨0, _⟩ => ⟨S32x2048, .bf16⟩
  | .hbm, ⟨1, _⟩ => ⟨S32x2048, .f32⟩
  | .hbm, ⟨2, _⟩ => ⟨S1x32x2048, .f32⟩
  | .hbm, ⟨3, _⟩ => ⟨S1x2048x11264, .f32⟩
  | .hbm, ⟨4, _⟩ => ⟨S1x3x11264, .f32⟩
  | .hbm, ⟨5, _⟩ => ⟨S1x11264, .f32⟩
  | .hbm, ⟨6, _⟩ => ⟨S1x5632x2048, .f32⟩
  | .hbm, ⟨7, _⟩ => ⟨S2048, .f32⟩
  | .hbm, ⟨8, _⟩ => ⟨S1x32x2x11264, .f32⟩
  | .hbm, ⟨9, _⟩ => ⟨S2048x11264, .f32⟩
  | .hbm, ⟨10, _⟩ => ⟨S2048x11264, .bf16⟩
  | .hbm, ⟨11, _⟩ => ⟨S3x11264, .f32⟩
  | .hbm, ⟨12, _⟩ => ⟨S11264, .f32⟩
  | .hbm, ⟨13, _⟩ => ⟨S5632x2048, .f32⟩
  | .hbm, ⟨14, _⟩ => ⟨S5632x2048, .bf16⟩
  | .hbm, ⟨15, _⟩ => ⟨S32x2x11264, .f32⟩
  | .hbm, ⟨16, _⟩ => ⟨S1x11264, .f32⟩
  | .hbm, ⟨17, _⟩ => ⟨S32x1x11264, .f32⟩
  | .hbm, ⟨18, _⟩ => ⟨S32x11264, .f32⟩
  | .hbm, ⟨19, _⟩ => ⟨S32x1x11264, .f32⟩
  | .hbm, ⟨20, _⟩ => ⟨S32x11264, .f32⟩
  | .hbm, ⟨21, _⟩ => ⟨S1x2048, .f32⟩
  | .hbm, ⟨22, _⟩ => ⟨S32x2048, .f32⟩
  | .hbm, ⟨23, _⟩ => ⟨S32x5632, .f32⟩
  | .hbm, ⟨24, _⟩ => ⟨S32x5632, .f32⟩
  | .hbm, ⟨25, _⟩ => ⟨S32x11264, .f32⟩
  | .hbm, ⟨26, _⟩ => ⟨S32x1x11264, .f32⟩
  | .hbm, ⟨27, _⟩ => ⟨S32x1x11264, .f32⟩
  | .hbm, ⟨28, _⟩ => ⟨S32x2x11264, .f32⟩
  | .local _ .vmem, ⟨0, _⟩ => ⟨S32x2048, .bf16⟩
  | .local _ .vmem, ⟨1, _⟩ => ⟨S32x2048, .f32⟩
  | .local _ .vmem, ⟨2, _⟩ => ⟨S1x32x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S32x512, .f32⟩
  | .local _ .vmem, ⟨19, _⟩ => ⟨S32x512, .f32⟩
  | .local _ .vmem, ⟨20, _⟩ => ⟨S32x512, .f32⟩
  | .local _ .vmem, ⟨21, _⟩ => ⟨S32x512, .f32⟩
  | .local _ .vmem, ⟨22, _⟩ => ⟨S32x512, .f32⟩
  | .local _ .vmem, ⟨23, _⟩ => ⟨S32x512, .f32⟩
  | .local _ .vmem, ⟨24, _⟩ => ⟨S32x512, .f32⟩
  | .local _ .vmem, ⟨25, _⟩ => ⟨S32x512, .f32⟩
  | .local _ .vmem, ⟨26, _⟩ => ⟨S32x2048, .f32⟩
  | .local _ .vmem, ⟨27, _⟩ => ⟨S32x512, .f32⟩
  | .local _ .vmem, ⟨28, _⟩ => ⟨S32x512, .f32⟩
  | .local _ .vmem, ⟨29, _⟩ => ⟨S32x512, .f32⟩
  | .local _ .vmem, ⟨30, _⟩ => ⟨S32x512, .f32⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v60 : BitVec 1 := Scalar.cmpi .eq arg1 c0_i32
  let v61 : BitVec 32 := Scalar.extui v60
  let c0_i32_35 : BitVec 32 := 0#32
  let v62 : BitVec 1 := Scalar.cmpi .ne v61 c0_i32_35
  v62

def k0_cond2 (i : grid0.Coords) : BitVec 1 :=
  let arg1 : BitVec 32 := BitVec.ofNat 32 (i 1).val
  let c0_i32_36 : BitVec 32 := 0#32
  let v63 : BitVec 1 := Scalar.cmpi .sgt arg1 c0_i32_36
  let v64 : BitVec 32 := Scalar.extui v63
  let c0_i32_37 : BitVec 32 := 0#32
  let v65 : BitVec 1 := Scalar.cmpi .ne v64 c0_i32_37
  v65

def k0_cond3 (i : grid0.Coords) : BitVec 1 :=
  let arg1 : BitVec 32 := BitVec.ofNat 32 (i 1).val
  let c10_i32 : BitVec 32 := 10#32
  let v66 : BitVec 1 := Scalar.cmpi .eq arg1 c10_i32
  let v67 : BitVec 32 := Scalar.extui v66
  let c0_i32_38 : BitVec 32 := 0#32
  let v68 : BitVec 1 := Scalar.cmpi .ne v67 c0_i32_38
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S32x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S32x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S32x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S32x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S32x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]
-- ==== Reference8Ideal.lean ====
abbrev S32x2048 : Shape := ⟨2, ![32, 2048]⟩
abbrev S1x32x2048 : Shape := ⟨3, ![1, 32, 2048]⟩
abbrev S1x2048x11264 : Shape := ⟨3, ![1, 2048, 11264]⟩
abbrev S1x3x11264 : Shape := ⟨3, ![1, 3, 11264]⟩
abbrev S1x11264 : Shape := ⟨2, ![1, 11264]⟩
abbrev S1x5632x2048 : Shape := ⟨3, ![1, 5632, 2048]⟩
abbrev S2048 : Shape := ⟨1, ![2048]⟩
abbrev S1x32x2x11264 : Shape := ⟨4, ![1, 32, 2, 11264]⟩
abbrev S32x1x2048 : Shape := ⟨3, ![32, 1, 2048]⟩
abbrev S32x2x11264 : Shape := ⟨3, ![32, 2, 11264]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S32x1x11264 : Shape := ⟨3, ![32, 1, 11264]⟩
abbrev S32x3x11264 : Shape := ⟨3, ![32, 3, 11264]⟩
abbrev S1x1x11264 : Shape := ⟨3, ![1, 1, 11264]⟩
abbrev S32x1x5632 : Shape := ⟨3, ![32, 1, 5632]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S32x2048, .f32⟩
  | .hbm, ⟨2, _⟩ => ⟨S1x32x2048, .f32⟩
  | .hbm, ⟨3, _⟩ => ⟨S1x2048x11264, .f32⟩
  | .hbm, ⟨4, _⟩ => ⟨S1x3x11264, .f32⟩
  | .hbm, ⟨5, _⟩ => ⟨S1x11264, .f32⟩
  | .hbm, ⟨6, _⟩ => ⟨S1x5632x2048, .f32⟩
  | .hbm, ⟨7, _⟩ => ⟨S2048, .f32⟩
  | .hbm, ⟨8, _⟩ => ⟨S1x32x2x11264, .f32⟩
  | .hbm, ⟨9, _⟩ => ⟨S32x2048, .f32⟩
  | .hbm, ⟨10, _⟩ => ⟨S32x1x2048, .f32⟩
  | .hbm, ⟨11, _⟩ => ⟨S32x2x11264, .f32⟩
  | .hbm, ⟨12, _⟩ => ⟨S2048x11264, .f32⟩
  | .hbm, ⟨13, _⟩ => ⟨S3x11264, .f32⟩
  | .hbm, ⟨14, _⟩ => ⟨S11264, .f32⟩
  | .hbm, ⟨15, _⟩ => ⟨S5632x2048, .f32⟩
  | .hbm, ⟨16, _⟩ => ⟨S32x1x11264, .f32⟩
  | .hbm, ⟨17, _⟩ => ⟨S32x3x11264, .f32⟩
  | .hbm, ⟨18, _⟩ => ⟨S1x11264, .f32⟩
  | .hbm, ⟨19, _⟩ => ⟨S11264, .f32⟩
  | .hbm, ⟨20, _⟩ => ⟨S32x1x11264, .f32⟩
  | .hbm, ⟨21, _⟩ => ⟨S1x1x11264, .f32⟩
  | .hbm, ⟨22, _⟩ => ⟨S32x1x11264, .f32⟩
  | .hbm, ⟨23, _⟩ => ⟨S32x1x11264, .f32⟩
  | .hbm, ⟨24, _⟩ => ⟨S1x1x11264, .f32⟩
  | .hbm, ⟨25, _⟩ => ⟨S32x1x11264, .f32⟩
  | .hbm, ⟨26, _⟩ => ⟨S32x1x11264, .f32⟩
  | .hbm, ⟨27, _⟩ => ⟨S1x11264, .f32⟩
  | .hbm, ⟨28, _⟩ => ⟨S11264, .f32⟩
  | .hbm, ⟨29, _⟩ => ⟨S32x1x11264, .f32⟩
  | .hbm, ⟨30, _⟩ => ⟨S1x1x11264, .f32⟩
  | .hbm, ⟨31, _⟩ => ⟨S32x1x11264, .f32⟩
  | .hbm, ⟨32, _⟩ => ⟨S32x1x11264, .f32⟩
  | .hbm, ⟨33, _⟩ => ⟨S32x1x11264, .f32⟩
  | .hbm, ⟨34, _⟩ => ⟨S1x11264, .f32⟩
  | .hbm, ⟨35, _⟩ => ⟨S11264, .f32⟩
  | .hbm, ⟨36, _⟩ => ⟨S32x1x11264, .f32⟩
  | .hbm, ⟨37, _⟩ => ⟨S1x1x11264, .f32⟩
  | .hbm, ⟨38, _⟩ => ⟨S32x1x11264, .f32⟩
  | .hbm, ⟨39, _⟩ => ⟨S32x1x11264, .f32⟩
  | .hbm, ⟨40, _⟩ => ⟨S32x1x11264, .f32⟩
  | .hbm, ⟨41, _⟩ => ⟨S32x1x5632, .f32⟩
  | .hbm, ⟨42, _⟩ => ⟨S32x1x5632, .f32⟩
  | .hbm, ⟨43, _⟩ => ⟨S32x1x5632, .f32⟩
  | .hbm, ⟨44, _⟩ => ⟨S32x1x5632, .f32⟩
  | .hbm, ⟨45, _⟩ => ⟨S_, .f32⟩
  | .hbm, ⟨46, _⟩ => ⟨S32x1x5632, .f32⟩
  | .hbm, ⟨47, _⟩ => ⟨S32x1x5632, .f32⟩
  | .hbm, ⟨48, _⟩ => ⟨S_, .f32⟩
  | .hbm, ⟨49, _⟩ => ⟨S32x1x5632, .f32⟩
  | .hbm, ⟨50, _⟩ => ⟨S32x1x5632, .f32⟩
  | .hbm, ⟨51, _⟩ => ⟨S32x1x5632, .f32⟩
  | .hbm, ⟨52, _⟩ => ⟨S32x1x5632, .f32⟩
  | .hbm, ⟨53, _⟩ => ⟨S32x1x2048, .f32⟩
  | .hbm, ⟨54, _⟩ => ⟨S32x2x11264, .f32⟩
  | .hbm, ⟨55, _⟩ => ⟨S32x1x2048, .f32⟩
  | .hbm, ⟨56, _⟩ => ⟨S32x1x2048, .f32⟩
  | .hbm, ⟨57, _⟩ => ⟨S32x1x2048, .f32⟩
  | .hbm, ⟨58, _⟩ => ⟨S32x1x2048, .f32⟩
  | .hbm, ⟨59, _⟩ => ⟨S32x1x2048, .f32⟩
  | .hbm, ⟨60, _⟩ => ⟨S_, .f32⟩
  | .hbm, ⟨61, _⟩ => ⟨S32x1, .f32⟩
  | .hbm, ⟨62, _⟩ => ⟨S32x1x1, .f32⟩
  | .hbm, ⟨63, _⟩ => ⟨S_, .f32⟩
  | .hbm, ⟨64, _⟩ => ⟨S32x1x1, .f32⟩
  | .hbm, ⟨65, _⟩ => ⟨S32x1x1, .f32⟩
  | .hbm, ⟨66, _⟩ => ⟨S_, .f32⟩
  | .hbm, ⟨67, _⟩ => ⟨S32x1x1, .f32⟩
  | .hbm, ⟨68, _⟩ => ⟨S32x1x1, .f32⟩
  | .hbm, ⟨69, _⟩ => ⟨S32x1x1, .f32⟩
  | .hbm, ⟨70, _⟩ => ⟨S32x1x2048, .f32⟩
  | .hbm, ⟨71, _⟩ => ⟨S32x1x2048, .f32⟩
  | .hbm, ⟨72, _⟩ => ⟨S1x1x2048, .f32⟩
  | .hbm, ⟨73, _⟩ => ⟨S32x1x2048, .f32⟩
  | .hbm, ⟨74, _⟩ => ⟨S32x1x2048, .f32⟩
  | .hbm, ⟨75, _⟩ => ⟨S32x2048, .f32⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst : Ref sig .tc := ⟨.hbm, 45, rfl⟩
abbrev main_v36 : Ref sig .tc := ⟨.hbm, 46, rfl⟩
abbrev main_v37 : Ref sig .tc := ⟨.hbm, 47, rfl⟩
abbrev main_cst_0 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_1 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Proof.ScanRef.lean ====
/-
  The reference of the recurrence runs to its end, keeps its arguments and leaves every counter at zero.
-/
module

public import proofs.«01_k».proof.Defs
public import proofs.«01_k».proof.Proof.Gen.ReferenceIdeal.Run
public import Idealize.ShloMosaic.Lib.Quiescent

@[expose] public section

set_option maxRecDepth 16384

noncomputable section

namespace Cert.Proof.ScanRef

open Idealize.ShloMosaic Idealize.ShloMosaic.TcCoe Idealize.SL.Sem
open Idealize.ShloMosaic.StableHlo Cert.ReferenceIdeal Cert.ReferenceIdeal.Gen Cert.ReferenceIdeal.Value

variable {F : FTy → Type} [FloatOps F]

/-- What the operations before the loop, its condition and its body write. -/
abbrev writtenW : List (Ref sig .tc) := condOps_W ++ hostOps0_W ++ while0Ops0_W ++ while0Ops0_1_W ++ while0Ops0_2_W ++ while0Ops0_3_W ++ while0Ops0_4_W ++ while0Ops0_5_W

/-- What no operation writes is at the end what it was at the launch. -/
theorem kept (r : Ref sig .tc) (h : r ∉ writtenW) (hp : ∀ V : Valuation τ sig (Elt F), after hostOps0_1 V (Proc.devRef .tc r) = V (Proc.devRef .tc r)) (n : ℕ)
    (m : (ℓ : Loc nD τ sig) → Buf (Elt F) ℓ) (c : Dev nD) :
    finalContents condOps preI bodyI postI n m c (Proc.devRef .tc r) = m ((c.tc : Thread nD τ).loc r) := by
  simp only [writtenW, List.mem_append, not_or] at h
  obtain ⟨⟨⟨⟨⟨⟨⟨hc, h0⟩, hw0⟩, hw1⟩, hw2⟩, hw3⟩, hw4⟩, hw5⟩ := h
  have b : ∀ k, atTrip condOps bodyI (entryContents preI m) k c (Proc.devRef .tc r) = launchContents m c (Proc.devRef .tc r) := by
    intro k
    induction k with
    | zero => exact after_of_writes_sub _ _ hostOps0_writes h0
    | succ k ih =>
      rw [atTrip_succ]
      simp only [bodyI, afterL_cons, afterL_nil]
      rw [after_of_writes_sub _ _ while0Ops0_5_writes hw5, after_of_writes_sub _ _ while0Ops0_4_writes hw4, after_of_writes_sub _ _ while0Ops0_3_writes hw3,
        after_of_writes_sub _ _ while0Ops0_2_writes hw2, after_of_writes_sub _ _ while0Ops0_1_writes hw1, after_of_writes_sub _ _ while0Ops0_writes hw0,
        after_of_writes_sub _ _ condOps_writes hc, ih]
  show afterL [hostOps0_1] _ _ = _
  simp only [afterL_cons, afterL_nil]
  rw [hp, after_of_writes_sub _ _ condOps_writes hc, b]

theorem kept_main_arg0 (m : (ℓ : Loc nD τ sig) → Buf (Elt F) ℓ) (c : Dev nD) :
    finalContents condOps preI bodyI postI 4096 m c (Proc.devRef .tc main_arg0) = m ((c.tc : Thread nD τ).loc main_arg0) :=
  kept main_arg0 (by decide) (fun V => by after_results_simp) 4096 m c

theorem kept_main_arg1 (m : (ℓ : Loc nD τ sig) → Buf (Elt F) ℓ) (c : Dev nD) :
    finalContents condOps preI bodyI postI 4096 m c (Proc.devRef .tc main_arg1) = m ((c.tc : Thread nD τ).loc main_arg1) :=
  kept main_arg1 (by decide) (fun V => by after_results_simp) 4096 m c

theorem kept_main_arg2 (m : (ℓ : Loc nD τ sig) → Buf (Elt F) ℓ) (c : Dev nD) :
    finalContents condOps preI bodyI postI 4096 m c (Proc.devRef .tc main_arg2) = m ((c.tc : Thread nD τ).loc main_arg2) :=
  kept main_arg2 (by decide) (fun V => by after_results_simp) 4096 m c

theorem kept_main_arg3 (m : (ℓ : Loc nD τ sig) → Buf (Elt F) ℓ) (c : Dev nD) :
    finalContents condOps preI bodyI postI 4096 m c (Proc.devRef .tc main_arg3) = m ((c.tc : Thread nD τ).loc main_arg3) :=
  kept main_arg3 (by decide) (fun V => by after_results_simp) 4096 m c

theorem kept_main_arg4 (m : (ℓ : Loc nD τ sig) → Buf (Elt F) ℓ) (c : Dev nD) :
    finalContents condOps preI bodyI postI 4096 m c (Proc.devRef .tc main_arg4) = m ((c.tc : Thread nD τ).loc main_arg4) :=
  kept main_arg4 (by decide) (fun V => by after_results_simp) 4096 m c

theorem kept_main_arg5 (m : (ℓ : Loc nD τ sig) → Buf (Elt F) ℓ) (c : Dev nD) :
    finalContents condOps preI bodyI postI 4096 m c (Proc.devRef .tc main_arg5) = m ((c.tc : Thread nD τ).loc main_arg5) :=
  kept main_arg5 (by decide) (fun V => by after_results_simp) 4096 m c

theorem kept_main_arg6 (m : (ℓ : Loc nD τ sig) → Buf (Elt F) ℓ) (c : Dev nD) :
    finalContents condOps preI bodyI postI 4096 m c (Proc.devRef .tc main_arg6) = m ((c.tc : Thread nD τ).loc main_arg6) :=
  kept main_arg6 (by decide) (fun V => by after_results_simp) 4096 m c

theorem kept_main_arg7 (m : (ℓ : Loc nD τ sig) → Buf (Elt F) ℓ) (c : Dev nD) :
    finalContents condOps preI bodyI postI 4096 m c (Proc.devRef .tc main_arg7) = m ((c.tc : Thread nD τ).loc main_arg7) :=
  kept main_arg7 (by decide) (fun V => by after_results_simp) 4096 m c

theorem kept_main_arg8 (m : (ℓ : Loc nD τ sig) → Buf (Elt F) ℓ) (c : Dev nD) :
    finalContents condOps preI bodyI postI 4096 m c (Proc.devRef .tc main_arg8) = m ((c.tc : Thread nD τ).loc main_arg8) :=
  kept main_arg8 (by decide) (fun V => by after_results_simp) 4096 m c

/-- The reference keeps its arguments, from any contents. -/
theorem run_args (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run defs _ _).mono (fun r h => ⟨fun c => ⟨(h c main_arg0 rfl).trans (kept_main_arg0 m c), (h c main_arg1 rfl).trans (kept_main_arg1 m c), (h c main_arg2 rfl).trans (kept_main_arg2 m c), (h c main_arg3 rfl).trans (kept_main_arg3 m c), (h c main_arg4 rfl).trans (kept_main_arg4 m c), (h c main_arg5 rfl).trans (kept_main_arg5 m c), (h c main_arg6 rfl).trans (kept_main_arg6 m c), (h c main_arg7 rfl).trans (kept_main_arg7 m c), (h c main_arg8 rfl).trans (kept_main_arg8 m c)⟩,
    sem_eq_zero_of_no_sems (by decide) r.2⟩) (run_fold m ρ)

theorem frame : Cert.quiescent_ReferenceIdeal (hReferenceIdeal := Cert.ReferenceIdeal.Gen.facts) := fun m g _ => run_args (F := Ideal) m g

end Cert.Proof.ScanRef

end
-- ==== Proof.ScanMath.lean ====
/-
  The recurrence as arithmetic: a pair of extended reals is the complex number `z` when both are real and are its parts; the state after
  `n` steps; and the eight-step scan by doubling, which from the state before a tile gives the state after each step of it.
-/
module

public import Mathlib.Data.Complex.Basic
public import Mathlib.Data.EReal.Operations
public import Mathlib.Algebra.BigOperators.Fin
public import Mathlib.Data.Fintype.BigOperators
public import Mathlib.Tactic.FinCases
public import Mathlib.Tactic.Ring

@[expose] public section

noncomputable section

namespace Cert.Proof.Scan

open scoped BigOperators

/-- The two extended reals are the parts of `z`. -/
def Is (z : ℂ) (x y : EReal) : Prop := x = ((z.re : ℝ) : EReal) ∧ y = ((z.im : ℝ) : EReal)

theorem Is.step {a h x : ℂ} {ar ai hr hi xr xi : EReal} (ha : Is a ar ai) (hh : Is h hr hi) (hx : Is x xr xi) :
    Is (a * h + x) (ar * hr - ai * hi + xr) (ar * hi + ai * hr + xi) := by
  obtain ⟨rfl, rfl⟩ := ha
  obtain ⟨rfl, rfl⟩ := hh
  obtain ⟨rfl, rfl⟩ := hx
  exact ⟨by simp only [Complex.add_re, Complex.mul_re]; push_cast; rfl, by simp only [Complex.add_im, Complex.mul_im]; push_cast; rfl⟩

theorem Is.mul_add {a h x : ℂ} {ar ai hr hi xr xi : EReal} (ha : Is a ar ai) (hh : Is h hr hi) (hx : Is x xr xi) :
    Is (x + a * h) (xr + ar * hr - ai * hi) (xi + ar * hi + ai * hr) := by
  obtain ⟨rfl, rfl⟩ := ha
  obtain ⟨rfl, rfl⟩ := hh
  obtain ⟨rfl, rfl⟩ := hx
  refine ⟨?_, ?_⟩
  · simp only [← EReal.coe_mul, ← EReal.coe_add, ← EReal.coe_sub]
    refine congrArg _ ?_
    simp only [Complex.add_re, Complex.mul_re]; ring
  · simp only [← EReal.coe_mul, ← EReal.coe_add, ← EReal.coe_sub]
    refine congrArg _ ?_
    simp only [Complex.add_im, Complex.mul_im]; ring

theorem Is.mul {a h : ℂ} {ar ai hr hi : EReal} (ha : Is a ar ai) (hh : Is h hr hi) :
    Is (a * h) (ar * hr - ai * hi) (ar * hi + ai * hr) := by
  obtain ⟨rfl, rfl⟩ := ha
  obtain ⟨rfl, rfl⟩ := hh
  refine ⟨?_, ?_⟩
  · simp only [← EReal.coe_mul, ← EReal.coe_add, ← EReal.coe_sub]
    refine congrArg _ ?_
    simp only [Complex.mul_re]
  · simp only [← EReal.coe_mul, ← EReal.coe_add, ← EReal.coe_sub]
    refine congrArg _ ?_
    simp only [Complex.mul_im]

theorem Is.zero : Is 0 0 0 := ⟨by simp, by simp⟩

/-- An extended real that is a real. -/
def Real1 (x : EReal) : Prop := ∃ r : ℝ, x = (r : EReal)

theorem Real1.mul {x y : EReal} (hx : Real1 x) (hy : Real1 y) : Real1 (x * y) := by
  obtain ⟨r, rfl⟩ := hx
  obtain ⟨s, rfl⟩ := hy
  exact ⟨r * s, (EReal.coe_mul r s).symm⟩

theorem Real1.sum {ι : Type} (s : Finset ι) (f : ι → EReal) (h : ∀ i, Real1 (f i)) : Real1 (∑ i ∈ s, f i) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

/-- The sum of the negatives of reals. -/
theorem sum_neg {ι : Type} (s : Finset ι) (f : ι → EReal) (h : ∀ i, Real1 (f i)) : ∑ i ∈ s, -f i = -∑ i ∈ s, f i := by
  classical
  induction s using Finset.induction_on with
  | empty => simp
  | insert a s ha ih =>
    obtain ⟨r, hr⟩ := Real1.sum s f h
    obtain ⟨q, hq⟩ := h a
    rw [Finset.sum_insert ha, Finset.sum_insert ha, ih, hr, hq]
    simp only [← EReal.coe_neg, ← EReal.coe_add]
    exact congrArg _ (by ring)

theorem Real1.is {x y : EReal} (hx : Real1 x) (hy : Real1 y) : Is ⟨x.toReal, y.toReal⟩ x y := by
  obtain ⟨r, rfl⟩ := hx
  obtain ⟨s, rfl⟩ := hy
  exact ⟨by simp, by simp⟩

/-- The state after `n` steps of `h ↦ a h + x`, from nothing. -/
def st (a : ℂ) (x : ℕ → ℂ) : ℕ → ℂ
  | 0 => 0
  | n + 1 => a * st a x n + x n

theorem back_lt (τ : Fin 8) (d : ℕ) : (τ.val + 8 - d) % 8 < 8 := Nat.mod_lt _ (by decide)

/-- One level of the scan by doubling: each step adds the multiple by `L` of the value `d` steps back, cyclically. -/
def lev (d : ℕ) (L X : Fin 8 → ℂ) (τ : Fin 8) : ℂ := X τ + L τ * X ⟨(τ.val + 8 - d) % 8, back_lt τ d⟩

/-- A level's multipliers: the power, and nothing for the steps that have none `d` back. -/
def pw (a : ℂ) (d : ℕ) (τ : Fin 8) : ℂ := if d ≤ τ.val then a ^ d else 0

/-- The three levels and the carried state together are the recurrence. -/
theorem tile_step (a : ℂ) (x : ℕ → ℂ) (n : ℕ) (τ : Fin 8) :
    lev 4 (pw a 4) (lev 2 (pw a 2) (lev 1 (pw a 1) (fun i => x (n + i.val)))) τ + a ^ (τ.val + 1) * st a x n = st a x (n + τ.val + 1) := by
  fin_cases τ <;> simp [lev, pw, st] <;> ring

/-- A sum over blocks that is nothing outside block `g`. -/
theorem sum_block {m n : ℕ} (g : Fin m) (f : Fin m → Fin n → EReal) :
    ∑ q : Fin m, ∑ c : Fin n, f q c * (if q = g then 1 else 0) = ∑ c : Fin n, f g c := by
  rw [Finset.sum_eq_single g]
  · simp
  · intro b _ hb
    simp [hb]
  · intro h
    exact absurd (Finset.mem_univ g) h

end Cert.Proof.Scan

end
-- ==== Proof.ScanModel.lean ====
/-
  What the scan computes, over the nine argument arrays alone: the input of the recurrence (one dot product per state), the state after
  each step as a complex number, the read-out of the states, and the output row.
-/
module

public import proofs.«01_k».proof.Proof.ScanMath
public import Idealize.ShloMosaic.Lib.Pointwise

@[expose] public section

noncomputable section

namespace Cert.Proof.Scan

open Idealize.ShloMosaic
open scoped BigOperators

/-- The argument arrays. -/
structure Arr where
  za : Fin 16384 → Fin 3072 → EReal
  pr : Fin 8 → Fin 64 → Fin 64 → EReal
  pi : Fin 8 → Fin 64 → Fin 64 → EReal
  br : Fin 64 → Fin 1024 → EReal
  bi : Fin 64 → Fin 1024 → EReal
  cr : Fin 64 → Fin 16 → Fin 64 → EReal
  ci : Fin 64 → Fin 16 → Fin 64 → EReal
  d : Fin 1024 → EReal
  g : Fin 1024 → EReal

theorem grp_lt (C : Fin 4096) : C.val / 64 < 64 := by have := C.isLt; omega
theorem mode_lt (C : Fin 4096) : C.val % 64 < 64 := Nat.mod_lt _ (by decide)
theorem chn_lt (g : Fin 64) (h : Fin 16) : g.val * 16 + h.val < 1024 := by have := g.isLt; have := h.isLt; omega
theorem sta_lt (g : Fin 64) (p : Fin 64) : g.val * 64 + p.val < 4096 := by have := g.isLt; have := p.isLt; omega
theorem bcol_lt (p : Fin 64) (h : Fin 16) : p.val * 16 + h.val < 1024 := by have := p.isLt; have := h.isLt; omega
theorem wide_lt (l : Fin 1024) : l.val < 3072 := by have := l.isLt; omega
theorem gate_lt (l : Fin 1024) : 1024 + l.val < 3072 := by have := l.isLt; omega
theorem lgrp_lt (l : Fin 1024) : l.val / 16 < 64 := by have := l.isLt; omega
theorem lch_lt (l : Fin 1024) : l.val % 16 < 16 := Nat.mod_lt _ (by decide)
theorem row_lt (n : ℕ) : n % 16384 < 16384 := Nat.mod_lt _ (by decide)

/-- The group and the mode of a state; the state of a group and a mode; the input column of a group's channel. -/
def grp (C : Fin 4096) : Fin 64 := ⟨C.val / 64, grp_lt C⟩
def mode (C : Fin 4096) : Fin 64 := ⟨C.val % 64, mode_lt C⟩
def sta (g p : Fin 64) : Fin 4096 := ⟨g.val * 64 + p.val, sta_lt g p⟩
def chn (g : Fin 64) (h : Fin 16) : Fin 1024 := ⟨g.val * 16 + h.val, chn_lt g h⟩
def bcol (p : Fin 64) (h : Fin 16) : Fin 1024 := ⟨p.val * 16 + h.val, bcol_lt p h⟩
def wide (l : Fin 1024) : Fin 3072 := ⟨l.val, wide_lt l⟩
def gatec (l : Fin 1024) : Fin 3072 := ⟨1024 + l.val, gate_lt l⟩
def lgrp (l : Fin 1024) : Fin 64 := ⟨l.val / 16, lgrp_lt l⟩
def lch (l : Fin 1024) : Fin 16 := ⟨l.val % 16, lch_lt l⟩
def row (n : ℕ) : Fin 16384 := ⟨n % 16384, row_lt n⟩

theorem grp_sta (g p : Fin 64) : grp (sta g p) = g := Fin.ext (by show (g.val * 64 + p.val) / 64 = g.val; have := p.isLt; omega)
theorem mode_sta (g p : Fin 64) : mode (sta g p) = p := Fin.ext (by show (g.val * 64 + p.val) % 64 = p.val; have := p.isLt; omega)
theorem sta_grp (C : Fin 4096) : sta (grp C) (mode C) = C := Fin.ext (by show C.val / 64 * 64 + C.val % 64 = C.val; omega)
theorem lgrp_chn (g : Fin 64) (h : Fin 16) : lgrp (chn g h) = g := Fin.ext (by show (g.val * 16 + h.val) / 16 = g.val; have := h.isLt; omega)
theorem lch_chn (g : Fin 64) (h : Fin 16) : lch (chn g h) = h := Fin.ext (by show (g.val * 16 + h.val) % 16 = h.val; have := h.isLt; omega)

/-- The gelu of the read-out times the gate; the norm of a row. -/
def gel (x gt : EReal) : EReal :=
  x * (Ideal.ofBits FTy.f32 1056964608#32 * (1 + Ideal.tanh (Ideal.ofBits FTy.f32 1061962282#32 * (x + Ideal.ofBits FTy.f32 1027024659#32 * (x * (x * x)))))) * Ideal.logistic gt
def nrm (z g : Fin 1024 → EReal) (l : Fin 1024) : EReal :=
  z l * Ideal.rsqrt (Ideal.div (∑ x, z x * z x) (Ideal.ofBits FTy.f32 1149239296#32) + Ideal.ofBits FTy.f32 897988541#32) * g l

namespace Arr

variable (A : Arr)

/-- What the claim supposes of the arrays: the powers are the powers of the first, and the recurrence's arrays are real. -/
structure Ok : Prop where
  za : ∀ r l, Real1 (A.za r (wide l))
  pr : ∀ g p, Real1 (A.pr 0 g p)
  pi : ∀ g p, Real1 (A.pi 0 g p)
  br : ∀ g p, Real1 (A.br g p)
  bi : ∀ g p, Real1 (A.bi g p)
  ci : ∀ g h p, Real1 (A.ci g h p)
  prs : ∀ (τ : Fin 7) g p, A.pr τ.succ g p = A.pr τ.castSucc g p * A.pr 0 g p - A.pi τ.castSucc g p * A.pi 0 g p
  pis : ∀ (τ : Fin 7) g p, A.pi τ.succ g p = A.pr τ.castSucc g p * A.pi 0 g p + A.pi τ.castSucc g p * A.pr 0 g p

/-- The decay of a state. -/
def a (C : Fin 4096) : ℂ := ⟨(A.pr 0 (grp C) (mode C)).toReal, (A.pi 0 (grp C) (mode C)).toReal⟩

/-- The recurrence's input at a row and a state. -/
def inR (r : ℕ) (C : Fin 4096) : EReal := ∑ h : Fin 16, A.za (row r) (wide (chn (grp C) h)) * A.br (grp C) (bcol (mode C) h)
def inI (r : ℕ) (C : Fin 4096) : EReal := ∑ h : Fin 16, A.za (row r) (wide (chn (grp C) h)) * A.bi (grp C) (bcol (mode C) h)
def inp (r : ℕ) (C : Fin 4096) : ℂ := ⟨(A.inR r C).toReal, (A.inI r C).toReal⟩

/-- The state of batch `b` after `n` of its steps. -/
def state (b : ℕ) (C : Fin 4096) (n : ℕ) : ℂ := st (A.a C) (fun s => A.inp (4096 * b + s) C) n

/-- The read-out of the states at batch `b`, step `s`, before and after the skip. -/
def read (b s : ℕ) (l : Fin 1024) : EReal :=
  (∑ p : Fin 64, ((A.state b (sta (lgrp l) p) (s + 1)).re : EReal) * A.cr (lgrp l) (lch l) p)
    - ∑ p : Fin 64, ((A.state b (sta (lgrp l) p) (s + 1)).im : EReal) * A.ci (lgrp l) (lch l) p
def hid (b s : ℕ) (l : Fin 1024) : EReal := A.read b s l + A.d l * A.za (row (4096 * b + s)) (wide l)

/-- The output row. -/
def out (b s : ℕ) (l : Fin 1024) : EReal := nrm (fun x => gel (A.hid b s x) (A.za (row (4096 * b + s)) (gatec x))) A.g l

variable {A}

theorem Ok.is_a (h : A.Ok) (C : Fin 4096) : Is (A.a C) (A.pr 0 (grp C) (mode C)) (A.pi 0 (grp C) (mode C)) := (h.pr _ _).is (h.pi _ _)

theorem Ok.is_inp (h : A.Ok) (r : ℕ) (C : Fin 4096) : Is (A.inp r C) (A.inR r C) (A.inI r C) :=
  (Real1.sum _ _ fun i => (h.za _ _).mul (h.br _ _)).is (Real1.sum _ _ fun i => (h.za _ _).mul (h.bi _ _))

theorem Ok.is_pow (h : A.Ok) (C : Fin 4096) : ∀ τ : Fin 8, Is (A.a C ^ (τ.val + 1)) (A.pr τ (grp C) (mode C)) (A.pi τ (grp C) (mode C)) := by
  intro τ
  induction τ using Fin.induction with
  | zero => simpa using h.is_a C
  | succ i ih =>
    rw [h.prs, h.pis]
    have e := Is.mul ih (h.is_a C)
    rw [Fin.val_succ, pow_succ]
    rw [Fin.val_castSucc] at e
    exact e

end Arr

end Cert.Proof.Scan

end
-- ==== Proof.ScanRefValue.lean ====
/-
  The reference of the recurrence in exact arithmetic: its loop carries the recurrence's states and stacks them, and what follows the loop
  reads them out.
-/
module

public import proofs.«01_k».proof.Proof.ScanRef
public import proofs.«01_k».proof.Proof.ScanModel
public import Idealize.ShloMosaic.Lib.StableHlo.ReadAt
public import Idealize.ShloMosaic.Lib.Pointwise
public import Idealize.ShloMosaic.Lib.DynamicIndex

@[expose] public section

set_option maxRecDepth 16384

noncomputable section

namespace Cert.Proof.ScanRef

open Idealize.ShloMosaic Idealize.ShloMosaic.TcCoe Idealize.SL.Sem
open Idealize.ShloMosaic.StableHlo Cert.ReferenceIdeal Cert.ReferenceIdeal.Gen Cert.ReferenceIdeal.Value
open Cert.Proof.Scan
open scoped BigOperators

variable (m : (ℓ : Loc nD τ sig) → Buf (Elt Ideal) ℓ) (c : Dev nD)

/-- The argument arrays. -/
def arrR : Arr where
  za r l := m ((c : Thread nD τ).loc main_arg0) (ix2 r l)
  pr t g p := m ((c : Thread nD τ).loc main_arg1) (ix3 t g p)
  pi t g p := m ((c : Thread nD τ).loc main_arg2) (ix3 t g p)
  br g p := m ((c : Thread nD τ).loc main_arg3) (ix2 g p)
  bi g p := m ((c : Thread nD τ).loc main_arg4) (ix2 g p)
  cr g h p := m ((c : Thread nD τ).loc main_arg5) (ix4 (0 : Fin 1) g h p)
  ci g h p := m ((c : Thread nD τ).loc main_arg6) (ix4 (0 : Fin 1) g h p)
  d l := m ((c : Thread nD τ).loc main_arg7) (ix2 (0 : Fin 1) l)
  g l := m ((c : Thread nD τ).loc main_arg8) (ix2 (0 : Fin 1) l)

/-! ## The arrays of the loop -/

section Arrays

variable (V : Valuation τ sig (Elt Ideal))

abbrev xR : S4096x4x64x64.Idx → EReal := V (Proc.devRef .tc main_v18_0)
abbrev xI : S4096x4x64x64.Idx → EReal := V (Proc.devRef .tc main_v18_1)
abbrev aR : S64x64.Idx → EReal := V (Proc.devRef .tc main_v18_2)
abbrev aI : S64x64.Idx → EReal := V (Proc.devRef .tc main_v18_3)
abbrev hR : S4x64x64.Idx → EReal := V (Proc.devRef .tc main_v18_5)
abbrev hI : S4x64x64.Idx → EReal := V (Proc.devRef .tc main_v18_6)
abbrev sR : S4096x4x64x64.Idx → EReal := V (Proc.devRef .tc main_v18_7)
abbrev sI : S4096x4x64x64.Idx → EReal := V (Proc.devRef .tc main_v18_8)
abbrev uu : S4x4096x64x16.Idx → EReal := V (Proc.devRef .tc main_v7)
abbrev gg : S16384x1024.Idx → EReal := V (Proc.devRef .tc main_v8)
abbrev cR : S1x64x16x64.Idx → EReal := V (Proc.devRef .tc main_arg5)
abbrev cI : S1x64x16x64.Idx → EReal := V (Proc.devRef .tc main_arg6)
abbrev dd : S1x1024.Idx → EReal := V (Proc.devRef .tc main_arg7)

end Arrays

/-! ## Before the loop -/

theorem row_ok (b : Fin 4) (k : Fin 4096) : 4096 * b.val + k.val < 16384 := by have := b.isLt; have := k.isLt; omega
theorem row_bk (b : Fin 4) (k : Fin 4096) (h : b.val * 4096 + k.val < 16384) : (⟨b.val * 4096 + k.val, h⟩ : Fin 16384) = Scan.row (4096 * b.val + k.val) :=
  Fin.ext ((congrArg (· + k.val) (Nat.mul_comm b.val 4096)).trans (Nat.mod_eq_of_lt (row_ok b k)).symm)

theorem ent0 (k : Fin 4096) (b : Fin 4) (g p : Fin 64) :
    xR (after hostOps0 (launchContents m c)) (ix4 k b g p) = (arrR m c).inR (4096 * b.val + k.val) (sta g p) := by
  unfold hostOps0 xR
  after_reads_at
  unfold id
  pointwise
  unfold Arr.inR
  rw [grp_sta, mode_sta]
  refine Finset.sum_congr rfl fun x _ => ?_
  rw [row_bk, mul_comm]
  rfl

theorem ent1 (k : Fin 4096) (b : Fin 4) (g p : Fin 64) :
    xI (after hostOps0 (launchContents m c)) (ix4 k b g p) = (arrR m c).inI (4096 * b.val + k.val) (sta g p) := by
  unfold hostOps0 xI
  after_reads_at
  unfold id
  pointwise
  unfold Arr.inI
  rw [grp_sta, mode_sta]
  refine Finset.sum_congr rfl fun x _ => ?_
  rw [row_bk, mul_comm]
  rfl

theorem ent_uu (b : Fin 4) (k : Fin 4096) (g : Fin 64) (h : Fin 16) :
    uu (after hostOps0 (launchContents m c)) (ix4 b k g h) = (arrR m c).za (Scan.row (4096 * b.val + k.val)) (wide (chn g h)) := by
  unfold hostOps0 uu
  after_reads_at
  rw [row_bk]
  rfl

theorem ent_gg (r : Fin 16384) (l : Fin 1024) :
    gg (after hostOps0 (launchContents m c)) (ix2 r l) = (arrR m c).za r (gatec l) := by
  unfold hostOps0 gg
  after_reads_at
  rfl

theorem ent2 (V : Valuation τ sig (Elt Ideal)) (g p : Fin 64) :
    (after hostOps0 V (Proc.devRef .tc main_v18_2) : S64x64.Idx → EReal) (ix2 g p) = (V (Proc.devRef .tc main_arg1) : S8x64x64.Idx → EReal) (ix3 (0 : Fin 8) g p) := by
  unfold hostOps0
  after_reads_at
  rfl

theorem ent3 (V : Valuation τ sig (Elt Ideal)) (g p : Fin 64) :
    (after hostOps0 V (Proc.devRef .tc main_v18_3) : S64x64.Idx → EReal) (ix2 g p) = (V (Proc.devRef .tc main_arg2) : S8x64x64.Idx → EReal) (ix3 (0 : Fin 8) g p) := by
  unfold hostOps0
  after_reads_at
  rfl

theorem ent5 (V : Valuation τ sig (Elt Ideal)) (b : Fin 4) (g p : Fin 64) :
    (after hostOps0 V (Proc.devRef .tc main_v18_5) : S4x64x64.Idx → EReal) (ix3 b g p) = (0 : EReal) := by
  unfold hostOps0
  after_reads_at
  unfold id
  pointwise

theorem ent6 (V : Valuation τ sig (Elt Ideal)) (b : Fin 4) (g p : Fin 64) :
    (after hostOps0 V (Proc.devRef .tc main_v18_6) : S4x64x64.Idx → EReal) (ix3 b g p) = (0 : EReal) := by
  unfold hostOps0
  after_reads_at
  unfold id
  pointwise

/-! ## One trip -/

theorem iv_int (k : Fin 4096) : (Scf.iv 0#32 1#32 k.val).toInt = (k.val : ℤ) := by
  have hk := k.isLt
  rw [Scf.iv_eq_ofInt]
  have e : (0#32 : BitVec 32).toInt + (k.val : ℤ) * (1#32 : BitVec 32).toInt = (k.val : ℤ) := by
    rw [show (0#32 : BitVec 32).toInt = 0 from rfl, show (1#32 : BitVec 32).toInt = 1 from rfl, zero_add, mul_one]
  rw [e, BitVec.ofInt_natCast]
  exact toInt_ofNat_of_lt (Nat.lt_trans hk (by decide))

/-- Where one trip reads and writes. -/
def startOf (n : S_.Idx → BitVec 32) : Fin 4 → Int := fun k => (((![n, constantI S_ 32 0#32, constantI S_ 32 0#32, constantI S_ 32 0#32] : Fin 4 → (⟨S_, .i32⟩ : BufTy).Contents (Elt Ideal))) k (Shape.Idx.first h_S_)).toInt

section Start

variable {n : S_.Idx → BitVec 32} {k : Fin 4096} (hn : n = fun _ => Scf.iv 0#32 1#32 k.val)

include hn

theorem cl0 : Host.clampedStart S4096x4x64x64 S1x4x64x64 rfl (startOf n) 0 = k.val := by
  have hk := k.isLt
  refine Host.clampedStart_of_le (s := S4096x4x64x64) (t := S1x4x64x64) rfl _ 0 k.val ?_ ?_
  · subst hn; exact iv_int k
  · show k.val + 1 ≤ 4096; omega
omit hn in
theorem cl1 : Host.clampedStart S4096x4x64x64 S1x4x64x64 rfl (startOf n) 1 = 0 := Host.clampedStart_of_le (s := S4096x4x64x64) (t := S1x4x64x64) rfl _ 1 0 rfl (Nat.le_of_eq rfl)
omit hn in
theorem cl2 : Host.clampedStart S4096x4x64x64 S1x4x64x64 rfl (startOf n) 2 = 0 := Host.clampedStart_of_le (s := S4096x4x64x64) (t := S1x4x64x64) rfl _ 2 0 rfl (Nat.le_of_eq rfl)
omit hn in
theorem cl3 : Host.clampedStart S4096x4x64x64 S1x4x64x64 rfl (startOf n) 3 = 0 := Host.clampedStart_of_le (s := S4096x4x64x64) (t := S1x4x64x64) rfl _ 3 0 rfl (Nat.le_of_eq rfl)

theorem slice_at (X : S4096x4x64x64.Idx → EReal) (b : Fin 4) (g p : Fin 64) :
    Host.dynamicSlice S1x4x64x64 X (startOf n) sliceFits_S4096x4x64x64_S1x4x64x64 (ix4 (0 : Fin 1) b g p) = X (ix4 k b g p) := by
  rw [Host.dynamicSlice_apply]
  refine congrArg X ?_
  funext a
  apply Fin.ext
  match a with
  | ⟨0, _⟩ => show Host.clampedStart S4096x4x64x64 S1x4x64x64 rfl (startOf n) 0 + 0 = k.val; rw [cl0 hn, Nat.add_zero]
  | ⟨1, _⟩ => show Host.clampedStart S4096x4x64x64 S1x4x64x64 rfl (startOf n) 1 + b.val = b.val; rw [cl1, Nat.zero_add]
  | ⟨2, _⟩ => show Host.clampedStart S4096x4x64x64 S1x4x64x64 rfl (startOf n) 2 + g.val = g.val; rw [cl2, Nat.zero_add]
  | ⟨3, _⟩ => show Host.clampedStart S4096x4x64x64 S1x4x64x64 rfl (startOf n) 3 + p.val = p.val; rw [cl3, Nat.zero_add]

theorem update_eq (X : S4096x4x64x64.Idx → EReal) (U : S1x4x64x64.Idx → EReal) (b : Fin 4) (g p : Fin 64) :
    Host.dynamicUpdateSlice X U (startOf n) updateFits_S4096x4x64x64_S1x4x64x64 (ix4 k b g p) = U (ix4 (0 : Fin 1) b g p) := by
  have hb := b.isLt
  have hg := g.isLt
  have hp := p.isLt
  rw [Host.dynamicUpdateSlice_apply, dif_pos]
  · refine congrArg U ?_
    funext a
    apply Fin.ext
    match a with
    | ⟨0, _⟩ => show k.val - Host.clampedStart S4096x4x64x64 S1x4x64x64 rfl (startOf n) 0 = 0; rw [cl0 hn, Nat.sub_self]
    | ⟨1, _⟩ => show b.val - Host.clampedStart S4096x4x64x64 S1x4x64x64 rfl (startOf n) 1 = b.val; rw [cl1, Nat.sub_zero]
    | ⟨2, _⟩ => show g.val - Host.clampedStart S4096x4x64x64 S1x4x64x64 rfl (startOf n) 2 = g.val; rw [cl2, Nat.sub_zero]
    | ⟨3, _⟩ => show p.val - Host.clampedStart S4096x4x64x64 S1x4x64x64 rfl (startOf n) 3 = p.val; rw [cl3, Nat.sub_zero]
  · intro a
    match a with
    | ⟨0, _⟩ => show Host.clampedStart S4096x4x64x64 S1x4x64x64 rfl (startOf n) 0 ≤ k.val ∧ k.val < Host.clampedStart S4096x4x64x64 S1x4x64x64 rfl (startOf n) 0 + 1; rw [cl0 hn]; omega
    | ⟨1, _⟩ => show Host.clampedStart S4096x4x64x64 S1x4x64x64 rfl (startOf n) 1 ≤ b.val ∧ b.val < Host.clampedStart S4096x4x64x64 S1x4x64x64 rfl (startOf n) 1 + 4; rw [cl1]; omega
    | ⟨2, _⟩ => show Host.clampedStart S4096x4x64x64 S1x4x64x64 rfl (startOf n) 2 ≤ g.val ∧ g.val < Host.clampedStart S4096x4x64x64 S1x4x64x64 rfl (startOf n) 2 + 64; rw [cl2]; omega
    | ⟨3, _⟩ => show Host.clampedStart S4096x4x64x64 S1x4x64x64 rfl (startOf n) 3 ≤ p.val ∧ p.val < Host.clampedStart S4096x4x64x64 S1x4x64x64 rfl (startOf n) 3 + 64; rw [cl3]; omega

theorem update_ne (X : S4096x4x64x64.Idx → EReal) (U : S1x4x64x64.Idx → EReal) (t : Fin 4096) (ht : t ≠ k) (b : Fin 4) (g p : Fin 64) :
    Host.dynamicUpdateSlice X U (startOf n) updateFits_S4096x4x64x64_S1x4x64x64 (ix4 t b g p) = X (ix4 t b g p) := by
  rw [Host.dynamicUpdateSlice_apply, dif_neg]
  intro hin
  have e := hin 0
  have e' : Host.clampedStart S4096x4x64x64 S1x4x64x64 rfl (startOf n) 0 ≤ t.val ∧ t.val < Host.clampedStart S4096x4x64x64 S1x4x64x64 rfl (startOf n) 0 + 1 := e
  rw [cl0 hn] at e'
  exact ht (Fin.ext (by omega))

end Start

theorem cast_at (Y : S1x4x64x64.Idx → EReal) (b : Fin 4) (g p : Fin 64) :
    shapeCast S4x64x64 Y shapeCasts_S1x4x64x64_S4x64x64 (ix3 b g p) = Y (ix4 (0 : Fin 1) b g p) := by
  pointwise
theorem up_at (Y : S4x64x64.Idx → EReal) (b : Fin 4) (g p : Fin 64) :
    broadcastInDim S1x4x64x64 ![1, 2, 3] bcast_S4x64x64_S1x4x64x64_1_2_3 Y (ix4 (0 : Fin 1) b g p) = Y (ix3 b g p) := by
  pointwise
theorem bc_at (Y : S64x64.Idx → EReal) (b : Fin 4) (g p : Fin 64) :
    broadcastInDim S4x64x64 ![0, 1, 2] bcast_S1x64x64_S4x64x64_0_1_2 (broadcastInDim S1x64x64 ![1, 2] bcast_S64x64_S1x64x64_1_2 Y) (ix3 b g p) = Y (ix2 g p) := by
  pointwise

section Trip

variable (V : Valuation τ sig (Elt Ideal)) (k : Fin 4096) (hk : V (Proc.devRef .tc main_v18_4) = fun _ => Scf.iv 0#32 1#32 k.val)

include hk

theorem new_re (b : Fin 4) (g p : Fin 64) :
    (res_main_while0b_v79 V : S4x64x64.Idx → EReal) (ix3 b g p)
      = (aR V (ix2 g p) * hR V (ix3 b g p)
        - aI V (ix2 g p) * hI V (ix3 b g p)
        + xR V (ix4 k b g p) : EReal) := by
  refine Eq.trans ?_ (congrArg₂ (· + ·) (congrArg₂ (· - ·) (congrArg₂ (· * ·) (bc_at _ b g p) rfl) (congrArg₂ (· * ·) (bc_at _ b g p) rfl)) ((cast_at _ b g p).trans (slice_at hk (V (Proc.devRef .tc main_v18_0)) b g p)))
  rfl

theorem new_im (b : Fin 4) (g p : Fin 64) :
    (res_main_while0b_v87 V : S4x64x64.Idx → EReal) (ix3 b g p)
      = (aR V (ix2 g p) * hI V (ix3 b g p)
        + aI V (ix2 g p) * hR V (ix3 b g p)
        + xI V (ix4 k b g p) : EReal) := by
  refine Eq.trans ?_ (congrArg₂ (· + ·) (congrArg₂ (· + ·) (congrArg₂ (· * ·) (bc_at _ b g p) rfl) (congrArg₂ (· * ·) (bc_at _ b g p) rfl)) ((cast_at _ b g p).trans (slice_at hk (V (Proc.devRef .tc main_v18_1)) b g p)))
  rfl

theorem stack_re (t : Fin 4096) (b : Fin 4) (g p : Fin 64) :
    (step_main_v18_7 V : S4096x4x64x64.Idx → EReal) (ix4 t b g p)
      = if t = k then (res_main_while0b_v79 V : S4x64x64.Idx → EReal) (ix3 b g p) else sR V (ix4 t b g p) := by
  unfold step_main_v18_7 id
  by_cases e : t = k
  · rw [if_pos e]
    subst e
    exact (update_eq hk _ _ b g p).trans (up_at _ b g p)
  · rw [if_neg e]
    exact update_ne hk _ _ t e b g p

theorem stack_im (t : Fin 4096) (b : Fin 4) (g p : Fin 64) :
    (step_main_v18_8 V : S4096x4x64x64.Idx → EReal) (ix4 t b g p)
      = if t = k then (res_main_while0b_v87 V : S4x64x64.Idx → EReal) (ix3 b g p) else sI V (ix4 t b g p) := by
  unfold step_main_v18_8 id
  by_cases e : t = k
  · rw [if_pos e]
    subst e
    exact (update_eq hk _ _ b g p).trans (up_at _ b g p)
  · rw [if_neg e]
    exact update_ne hk _ _ t e b g p

end Trip

/-! ## After the loop -/

theorem fin68 (V : Valuation τ sig (Elt Ideal)) (b : Fin 4) (C : Fin 4096) :
    (after hostOps0_1 V (Proc.devRef .tc main_v68) : S4x1x4096.Idx → EReal) (ix3 b (0 : Fin 1) C) = hR V (ix3 b (grp C) (mode C)) := by
  unfold hostOps0_1
  after_reads_at
  rfl

theorem fin69 (V : Valuation τ sig (Elt Ideal)) (b : Fin 4) (C : Fin 4096) :
    (after hostOps0_1 V (Proc.devRef .tc main_v69) : S4x1x4096.Idx → EReal) (ix3 b (0 : Fin 1) C) = hI V (ix3 b (grp C) (mode C)) := by
  unfold hostOps0_1
  after_reads_at
  rfl

theorem gel_eq (x gt : EReal) : gel x gt = x * (Ideal.ofBits FTy.f32 1056964608#32 * (1 + Ideal.tanh (Ideal.ofBits FTy.f32 1061962282#32 * (x + Ideal.ofBits FTy.f32 1027024659#32 * (x * x * x))))) * Ideal.div 1 (1 + Ideal.exp (-gt)) := by
  unfold gel Ideal.logistic
  rw [mul_assoc x x x]

theorem rt_lt (r : Fin 16384) : r.val % 4096 < 4096 := Nat.mod_lt _ (by decide)
theorem rb_lt (r : Fin 16384) : r.val / 4096 < 4 := by have := r.isLt; omega
/-- The step and the batch of a row. -/
def rt (r : Fin 16384) : Fin 4096 := ⟨r.val % 4096, rt_lt r⟩
def rb (r : Fin 16384) : Fin 4 := ⟨r.val / 4096, rb_lt r⟩
theorem chn_lt (l : Fin 1024) : l.val / 16 * 16 + l.val % 16 < 1024 := by have := l.isLt; omega

/-- The read-out with the skip. -/
def hidV (V : Valuation τ sig (Elt Ideal)) (r : Fin 16384) (l : Fin 1024) : EReal :=
  (∑ p : Fin 64, cR V (ix4 (0 : Fin 1) (lgrp l) (lch l) p) * sR V (ix4 (rt r) (rb r) (lgrp l) p))
    - (∑ p : Fin 64, cI V (ix4 (0 : Fin 1) (lgrp l) (lch l) p) * sI V (ix4 (rt r) (rb r) (lgrp l) p))
    + dd V (ix2 (0 : Fin 1) (⟨l.val / 16 * 16 + l.val % 16, chn_lt l⟩ : Fin 1024)) * uu V (ix4 (rb r) (rt r) (lgrp l) (lch l))

theorem fin67 (V : Valuation τ sig (Elt Ideal)) (r : Fin 16384) (l : Fin 1024) :
    (after hostOps0_1 V (Proc.devRef .tc main_v67) : S16384x1024.Idx → EReal) (ix2 r l)
      = nrm (fun x => gel (hidV V r x) (gg V (ix2 r x))) (fun x => (V (Proc.devRef .tc main_arg8) : S1x1024.Idx → EReal) (ix2 (0 : Fin 1) x)) l := by
  unfold hostOps0_1
  after_reads_at
  simp only [nrm, gel_eq, hidV, lgrp, lch, rt, rb]

/-! ## The loop -/

/-- The contents after `k` trips, as one trip reads them. -/
abbrev W (k : ℕ) : Valuation τ sig (Elt Ideal) := STEP^[k] (entryContents preI m c)

theorem W_succ (k : ℕ) : W m c (k + 1) = STEP (W m c k) := Function.iterate_succ_apply' STEP k _

theorem W_ctr (k : ℕ) : W m c k (Proc.devRef .tc main_v18_4) = fun _ => Scf.iv 0#32 1#32 k :=
  (atK_agree m c k main_v18_4 (by decide)).symm.trans (atK_ctr m c k)

/-- What the loop holds after `k` trips. -/
structure Inv (k : ℕ) : Prop where
  ar : ∀ g p, aR (W m c k) (ix2 g p) = (arrR m c).pr 0 g p
  ai : ∀ g p, aI (W m c k) (ix2 g p) = (arrR m c).pi 0 g p
  xr : ∀ (t : Fin 4096) (b : Fin 4) g p, xR (W m c k) (ix4 t b g p) = (arrR m c).inR (4096 * b.val + t.val) (sta g p)
  xi : ∀ (t : Fin 4096) (b : Fin 4) g p, xI (W m c k) (ix4 t b g p) = (arrR m c).inI (4096 * b.val + t.val) (sta g p)
  h : ∀ (b : Fin 4) g p, Is ((arrR m c).state b.val (sta g p) k) (hR (W m c k) (ix3 b g p)) (hI (W m c k) (ix3 b g p))
  s : ∀ (t : Fin 4096) (b : Fin 4) g p, t.val < k → Is ((arrR m c).state b.val (sta g p) (t.val + 1)) (sR (W m c k) (ix4 t b g p)) (sI (W m c k) (ix4 t b g p))

theorem inv (hOk : (arrR m c).Ok) (k : ℕ) : k ≤ 4096 → Inv m c k := by
  induction k with
  | zero =>
    intro _
    refine ⟨fun g p => ent2 _ g p, fun g p => ent3 _ g p, fun t b g p => ent0 m c t b g p, fun t b g p => ent1 m c t b g p, fun b g p => ?_, fun t b g p ht => absurd ht (Nat.not_lt_zero _)⟩
    have e1 : hR (W m c 0) (ix3 b g p) = 0 := ent5 _ b g p
    have e2 : hI (W m c 0) (ix3 b g p) = 0 := ent6 _ b g p
    rw [e1, e2]
    exact Is.zero
  | succ k ih =>
    intro hk
    have I := ih (Nat.le_of_succ_le hk)
    obtain ⟨q, hq⟩ : ∃ q : Fin 4096, q.val = k := ⟨⟨k, hk⟩, rfl⟩
    have hc : W m c k (Proc.devRef .tc main_v18_4) = fun _ => Scf.iv 0#32 1#32 q.val := by rw [hq]; exact W_ctr m c k
    have hstep : ∀ (b : Fin 4) g p, Is ((arrR m c).state b.val (sta g p) (k + 1))
        ((res_main_while0b_v79 (W m c k) : S4x64x64.Idx → EReal) (ix3 b g p)) ((res_main_while0b_v87 (W m c k) : S4x64x64.Idx → EReal) (ix3 b g p)) := by
      intro b g p
      rw [new_re (W m c k) q hc b g p, new_im (W m c k) q hc b g p, I.ar, I.ai, I.xr, I.xi, hq]
      have ha := hOk.is_a (sta g p)
      rw [grp_sta, mode_sta] at ha
      exact Is.step ha (I.h b g p) (hOk.is_inp _ _)
    have e : W m c (k + 1) = STEP (W m c k) := W_succ m c k
    refine ⟨fun g p => (congrFun ((congrFun e _).trans (STEP_main_v18_2 _)) (ix2 g p)).trans (I.ar g p),
      fun g p => (congrFun ((congrFun e _).trans (STEP_main_v18_3 _)) (ix2 g p)).trans (I.ai g p),
      fun t b g p => (congrFun ((congrFun e _).trans (STEP_main_v18_0 _)) (ix4 t b g p)).trans (I.xr t b g p),
      fun t b g p => (congrFun ((congrFun e _).trans (STEP_main_v18_1 _)) (ix4 t b g p)).trans (I.xi t b g p),
      fun b g p => ⟨(congrFun ((congrFun e _).trans (STEP_main_v18_5 _)) (ix3 b g p)).trans (hstep b g p).1,
        (congrFun ((congrFun e _).trans (STEP_main_v18_6 _)) (ix3 b g p)).trans (hstep b g p).2⟩, fun t b g p ht => ?_⟩
    have e7 := (congrFun ((congrFun e _).trans (STEP_main_v18_7 _)) (ix4 t b g p)).trans (stack_re (W m c k) q hc t b g p)
    have e8 := (congrFun ((congrFun e _).trans (STEP_main_v18_8 _)) (ix4 t b g p)).trans (stack_im (W m c k) q hc t b g p)
    by_cases h : t = q
    · rw [if_pos h] at e7 e8
      have ek : t.val = k := (congrArg Fin.val h).trans hq
      rw [ek]
      exact ⟨e7.trans (hstep b g p).1, e8.trans (hstep b g p).2⟩
    · rw [if_neg h] at e7 e8
      have hlt : t.val < k := Nat.lt_of_le_of_ne (Nat.le_of_lt_succ ht) fun ek => h (Fin.ext (ek.trans hq.symm))
      exact ⟨e7.trans (I.s t b g p hlt).1, e8.trans (I.s t b g p hlt).2⟩

/-! ## The results -/

/-- The contents after the loop. -/
abbrev L : Valuation τ sig (Elt Ideal) := after condOps (atTrip condOps bodyI (entryContents preI m) 4096 c)

theorem L_carried (j : Ref sig .tc) (h : j ∈ carriedRefs) : L m c (Proc.devRef .tc j) = W m c 4096 (Proc.devRef .tc j) :=
  (cond_keeps _ j h).trans (atK_agree m c 4096 j h)

/-- What the loop writes. -/
abbrev loopW : List (Ref sig .tc) := condOps_W ++ while0Ops0_W ++ while0Ops0_1_W ++ while0Ops0_2_W ++ while0Ops0_3_W ++ while0Ops0_4_W ++ while0Ops0_5_W

theorem L_kept (r : Ref sig .tc) (h : r ∉ loopW) : L m c (Proc.devRef .tc r) = after hostOps0 (launchContents m c) (Proc.devRef .tc r) := by
  simp only [loopW, List.mem_append, not_or] at h
  obtain ⟨⟨⟨⟨⟨⟨hc, hw0⟩, hw1⟩, hw2⟩, hw3⟩, hw4⟩, hw5⟩ := h
  have b : ∀ k, atTrip condOps bodyI (entryContents preI m) k c (Proc.devRef .tc r) = after hostOps0 (launchContents m c) (Proc.devRef .tc r) := by
    intro k
    induction k with
    | zero => rfl
    | succ k ih =>
      rw [atTrip_succ]
      simp only [bodyI, afterL_cons, afterL_nil]
      rw [after_of_writes_sub _ _ while0Ops0_5_writes hw5, after_of_writes_sub _ _ while0Ops0_4_writes hw4, after_of_writes_sub _ _ while0Ops0_3_writes hw3,
        after_of_writes_sub _ _ while0Ops0_2_writes hw2, after_of_writes_sub _ _ while0Ops0_1_writes hw1, after_of_writes_sub _ _ while0Ops0_writes hw0,
        after_of_writes_sub _ _ condOps_writes hc, ih]
  exact (after_of_writes_sub _ _ condOps_writes hc).trans (b 4096)

theorem L_arg (r : Ref sig .tc) (h : r ∉ loopW) (h0 : r ∉ hostOps0_W) : L m c (Proc.devRef .tc r) = m ((c : Thread nD τ).loc r) :=
  (L_kept m c r h).trans (after_of_writes_sub _ _ hostOps0_writes h0)

theorem row_rb (r : Fin 16384) : Scan.row (4096 * (rb r).val + (rt r).val) = r := Fin.ext (by
  show (4096 * (r.val / 4096) + r.val % 4096) % 16384 = r.val
  have := r.isLt
  omega)

theorem chn_l (l : Fin 1024) : chn (lgrp l) (lch l) = l := Fin.ext (by show l.val / 16 * 16 + l.val % 16 = l.val; omega)
theorem chn_l' (l : Fin 1024) (h : l.val / 16 * 16 + l.val % 16 < 1024) : (⟨l.val / 16 * 16 + l.val % 16, h⟩ : Fin 1024) = l := Fin.ext (by show l.val / 16 * 16 + l.val % 16 = l.val; omega)

theorem hid_at (hOk : (arrR m c).Ok) (r : Fin 16384) (l : Fin 1024) : hidV (L m c) r l = (arrR m c).hid (rb r).val (rt r).val l := by
  have I := inv m c hOk 4096 (Nat.le_refl _)
  unfold hidV Arr.hid Arr.read
  rw [row_rb]
  refine congrArg₂ (· + ·) (congrArg₂ (· - ·) ?_ ?_) (congrArg₂ (· * ·) ?_ ?_)
  · refine Finset.sum_congr rfl fun p _ => ?_
    rw [mul_comm]
    refine congrArg₂ (· * ·) ((congrFun (L_carried m c main_v18_7 (by decide)) _).trans (I.s (rt r) (rb r) (lgrp l) p (rt r).isLt).1) (congrFun (L_arg m c main_arg5 (by decide) (by decide)) _)
  · refine Finset.sum_congr rfl fun p _ => ?_
    rw [mul_comm]
    refine congrArg₂ (· * ·) ((congrFun (L_carried m c main_v18_8 (by decide)) _).trans (I.s (rt r) (rb r) (lgrp l) p (rt r).isLt).2) (congrFun (L_arg m c main_arg6 (by decide) (by decide)) _)
  · rw [chn_l']
    exact congrFun (L_arg m c main_arg7 (by decide) (by decide)) _
  · refine (congrFun (L_kept m c main_v7 (by decide)) _).trans ((ent_uu m c (rb r) (rt r) (lgrp l) (lch l)).trans ?_)
    rw [row_rb, chn_l]

theorem res_y (hOk : (arrR m c).Ok) (r : Fin 16384) (l : Fin 1024) :
    (finalContents condOps preI bodyI postI 4096 m c (Proc.devRef .tc main_v67) : S16384x1024.Idx → EReal) (ix2 r l) = (arrR m c).out (rb r).val (rt r).val l := by
  refine (fin67 (L m c) r l).trans ?_
  unfold Arr.out
  have eg : (fun x => (L m c (Proc.devRef .tc main_arg8) : S1x1024.Idx → EReal) (ix2 (0 : Fin 1) x)) = (arrR m c).g :=
    funext fun x => congrFun (L_arg m c main_arg8 (by decide) (by decide)) _
  refine congrFun (congrArg₂ nrm ?_ eg) l
  funext x
  refine congrArg₂ gel (hid_at m c hOk r x) ?_
  rw [row_rb]
  exact (congrFun (L_kept m c main_v8 (by decide)) _).trans (ent_gg m c r x)

theorem res_re (hOk : (arrR m c).Ok) (b : Fin 4) (C : Fin 4096) :
    (finalContents condOps preI bodyI postI 4096 m c (Proc.devRef .tc main_v68) : S4x1x4096.Idx → EReal) (ix3 b (0 : Fin 1) C) = (((arrR m c).state b.val C 4096).re : EReal) := by
  refine (fin68 (L m c) b C).trans ((congrFun (L_carried m c main_v18_5 (by decide)) _).trans ?_)
  have e := ((inv m c hOk 4096 (Nat.le_refl _)).h b (grp C) (mode C)).1
  rw [sta_grp] at e
  exact e

theorem res_im (hOk : (arrR m c).Ok) (b : Fin 4) (C : Fin 4096) :
    (finalContents condOps preI bodyI postI 4096 m c (Proc.devRef .tc main_v69) : S4x1x4096.Idx → EReal) (ix3 b (0 : Fin 1) C) = (((arrR m c).state b.val C 4096).im : EReal) := by
  refine (fin69 (L m c) b C).trans ((congrFun (L_carried m c main_v18_6 (by decide)) _).trans ?_)
  have e := ((inv m c hOk 4096 (Nat.le_refl _)).h b (grp C) (mode C)).2
  rw [sta_grp] at e
  exact e

end Cert.Proof.ScanRef

end
-- ==== Proof.ScanVec.lean ====
/-
  Arrays that a counted loop fills a strip at a time: what the array holds before trip `k` is the new array on the strips of the
  trips before and the old array elsewhere (`mixc` by columns, `mixr` by rows), one trip's store moves it a strip on, and the
  strip that trip reads is still the old array's.
-/
module

public import proofs.«01_k».proof.Proof.Gen.KernelIdeal.Frame
public import Idealize.ShloMosaic.Lib.VecWindow

@[expose] public section

noncomputable section

namespace Cert.Proof.Scan

open Idealize.ShloMosaic

variable {α : Type} {R C : ℕ}

/-- A matrix shape. -/
abbrev Mat (R C : ℕ) : Shape := ⟨2, ![R, C]⟩

/-- The index of a matrix's element. -/
def at2 (r : Fin R) (c : Fin C) : (Mat R C).Idx := fun a => match a with
  | 0 => r
  | 1 => c

/-- `N` on the first `n` columns, `x` on the others. -/
def mixc (n : ℕ) (N x : (Mat R C).Idx → α) : (Mat R C).Idx → α := fun y => if (y 1).val < n then N y else x y

/-- `N` on the first `n` rows, `x` on the others. -/
def mixr (n : ℕ) (N x : (Mat R C).Idx → α) : (Mat R C).Idx → α := fun y => if (y 0).val < n then N y else x y

theorem mixc_zero (N x : (Mat R C).Idx → α) : mixc 0 N x = x := funext fun y => if_neg (Nat.not_lt_zero _)
theorem mixr_zero (N x : (Mat R C).Idx → α) : mixr 0 N x = x := funext fun y => if_neg (Nat.not_lt_zero _)
theorem mixc_all {n : ℕ} (h : C ≤ n) (N x : (Mat R C).Idx → α) : mixc n N x = N :=
  funext fun y => if_pos (lt_of_lt_of_le (y 1).isLt h)
theorem mixr_all {n : ℕ} (h : R ≤ n) (N x : (Mat R C).Idx → α) : mixr n N x = N :=
  funext fun y => if_pos (lt_of_lt_of_le (y 0).isLt h)

/-- The array whose strips of `W` columns are `w 0`, `w 1`, …. -/
def newc (W : ℕ) (hW : 0 < W) (w : ℕ → (Mat R W).Idx → α) : (Mat R C).Idx → α :=
  fun y => w ((y 1).val / W) (at2 (y 0) ⟨(y 1).val % W, Nat.mod_lt _ hW⟩)

/-- The array whose strips of `W` rows are `w 0`, `w 1`, …. -/
def newr (W : ℕ) (hW : 0 < W) (w : ℕ → (Mat W C).Idx → α) : (Mat R C).Idx → α :=
  fun y => w ((y 0).val / W) (at2 ⟨(y 0).val % W, Nat.mod_lt _ hW⟩ (y 1))

theorem put_mixc {W : ℕ} (hW : 0 < W) (k : ℕ) (w : ℕ → (Mat R W).Idx → α) (x : (Mat R C).Idx → α) {n n' : ℕ} (hn : n = W * k) (hn' : n' = W * (k + 1)) :
    VecWindow.put (mixc n (newc W hW w) x) ![0, n] ![R, W] (w k) = mixc n' (newc W hW w) x := by
  subst hn hn'
  funext y
  unfold VecWindow.put mixc
  by_cases h : ∀ a : Fin 2, (![0, W * k] : Fin 2 → ℕ) a ≤ (y a).val ∧ (y a).val < (![0, W * k] : Fin 2 → ℕ) a + (![R, W] : Fin 2 → ℕ) a
  · rw [dif_pos h]
    have h1 := h 1
    simp only [Matrix.cons_val_one, Matrix.cons_val_fin_one] at h1
    have e : (y 1).val / W = k := by
      apply Nat.div_eq_of_lt_le
      · rw [Nat.mul_comm]; exact h1.1
      · rw [Nat.mul_comm, Nat.mul_add]; omega
    have hlt : (y 1).val < W * (k + 1) := by rw [Nat.mul_add]; omega
    rw [if_pos hlt]
    unfold newc
    have hm : (y 1).val % W = (y 1).val - W * k := by
      have := Nat.div_add_mod (y 1).val W
      rw [e] at this; omega
    rw [e]
    refine congrArg (w k) (funext fun a => ?_)
    match a with
    | 0 => exact Fin.ext (by show (y 0).val - 0 = (y 0).val; omega)
    | 1 => exact Fin.ext (by show (y 1).val - W * k = (y 1).val % W; omega)
  · rw [dif_neg h]
    have hlt : ((y 1).val < W * k) ↔ ((y 1).val < W * (k + 1)) := by
      rw [Nat.mul_add]
      constructor
      · intro; omega
      · intro h2
        by_contra h3
        refine h fun a => ?_
        match a with
        | 0 => exact ⟨Nat.zero_le _, by have : (y 0).val < R := (y 0).isLt
                                        show (y 0).val < 0 + R; omega⟩
        | 1 => exact ⟨by show W * k ≤ (y 1).val; omega, by show (y 1).val < W * k + W; omega⟩
    simp only [hlt]

theorem put_mixr {W : ℕ} (hW : 0 < W) (k : ℕ) (w : ℕ → (Mat W C).Idx → α) (x : (Mat R C).Idx → α) {n n' : ℕ} (hn : n = W * k) (hn' : n' = W * (k + 1)) :
    VecWindow.put (mixr n (newr W hW w) x) ![n, 0] ![W, C] (w k) = mixr n' (newr W hW w) x := by
  subst hn hn'
  funext y
  unfold VecWindow.put mixr
  by_cases h : ∀ a : Fin 2, (![W * k, 0] : Fin 2 → ℕ) a ≤ (y a).val ∧ (y a).val < (![W * k, 0] : Fin 2 → ℕ) a + (![W, C] : Fin 2 → ℕ) a
  · rw [dif_pos h]
    have h1 := h 0
    simp only [Matrix.cons_val_zero] at h1
    have e : (y 0).val / W = k := by
      apply Nat.div_eq_of_lt_le
      · rw [Nat.mul_comm]; exact h1.1
      · rw [Nat.mul_comm, Nat.mul_add]; omega
    have hlt : (y 0).val < W * (k + 1) := by rw [Nat.mul_add]; omega
    rw [if_pos hlt]
    unfold newr
    have hm : (y 0).val % W = (y 0).val - W * k := by
      have := Nat.div_add_mod (y 0).val W
      rw [e] at this; omega
    rw [e]
    refine congrArg (w k) (funext fun a => ?_)
    match a with
    | 0 => exact Fin.ext (by show (y 0).val - W * k = (y 0).val % W; omega)
    | 1 => exact Fin.ext (by show (y 1).val - 0 = (y 1).val; omega)
  · rw [dif_neg h]
    have hlt : ((y 0).val < W * k) ↔ ((y 0).val < W * (k + 1)) := by
      rw [Nat.mul_add]
      constructor
      · intro; omega
      · intro h2
        by_contra h3
        refine h fun a => ?_
        match a with
        | 1 => exact ⟨Nat.zero_le _, by have : (y 1).val < C := (y 1).isLt
                                        show (y 1).val < 0 + C; omega⟩
        | 0 => exact ⟨by show W * k ≤ (y 0).val; omega, by show (y 0).val < W * k + W; omega⟩
    simp only [hlt]

theorem window_mixc {n : ℕ} (N x : (Mat R C).Idx → α) {size : Fin 2 → ℕ} (inb : ∀ a : Fin 2, (![0, n] : Fin 2 → ℕ) a + size a ≤ (Mat R C).size a) :
    VecWindow.window (mixc n N x) ![0, n] size inb = VecWindow.window x ![0, n] size inb := by
  funext y
  have e : ((Rect.unit (s := Mat R C) ![0, n] size inb).emb y 1).val = n + 1 * (y 1).val := rfl
  unfold VecWindow.window mixc
  exact if_neg (by omega)

theorem window_mixr {n : ℕ} (N x : (Mat R C).Idx → α) {size : Fin 2 → ℕ} (inb : ∀ a : Fin 2, (![n, 0] : Fin 2 → ℕ) a + size a ≤ (Mat R C).size a) :
    VecWindow.window (mixr n N x) ![n, 0] size inb = VecWindow.window x ![n, 0] size inb := by
  funext y
  have e : ((Rect.unit (s := Mat R C) ![n, 0] size inb).emb y 0).val = n + 1 * (y 0).val := rfl
  unfold VecWindow.window mixr
  exact if_neg (by omega)

theorem window_congr {s : Shape} (x : s.Idx → α) {off off' size : Fin s.rank → ℕ} (h : off = off') (inb : ∀ a, off a + size a ≤ s.size a)
    (inb' : ∀ a, off' a + size a ≤ s.size a) : VecWindow.window x off size inb = VecWindow.window x off' size inb' := by
  subst h; rfl

end Cert.Proof.Scan

end
-- ==== Proof.ScanLoop.lean ====
/-
  The loop over the tiles of a chunk: trip `k` reads tile `k` (eight steps) of the two arrays that hold the eight-step partial sums,
  adds the carried state times its powers, stores the tile back and carries its last row on. What the loop leaves is stated
  on whole arrays: tile `k` of the new arrays is a function of tile `k` of the old ones and of the state carried to it.
-/
module

public import proofs.«01_k».proof.Proof.ScanVec
public import proofs.«01_k».proof.Proof.Gen.KernelIdeal.Skeleton
public import Idealize.ShloMosaic.Lib.Scf

@[expose] public section

set_option maxRecDepth 8192
set_option maxHeartbeats 4000000

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem tile_inb (k : ℕ) : ∀ a : Fin 2, (![8 * (k % 32), 0] : Fin 2 → ℕ) a + S8x512.size a ≤ S256x512.size a := by
  have := Nat.mod_lt k (show 0 < 32 by decide)
  intro a
  match a with
  | 0 => show 8 * (k % 32) + 8 ≤ 256; omega
  | 1 => show 0 + 512 ≤ 512; omega

/-- Tile `k` of an array of 256 steps. -/
def tile (X : Vec F S256x512 .f32) (k : ℕ) : Vec F S8x512 .f32 := VecWindow.window X ![8 * (k % 32), 0] S8x512.size (tile_inb k)

section Defs
variable (pr pi : Vec F S8x512 .f32) (Xr Xi : Vec F S256x512 .f32) (h : Vec F S1x512 .f32 × Vec F S1x512 .f32)

/-- The state carried to tile `k`. -/
def carry : ℕ → Vec F S1x512 .f32 × Vec F S1x512 .f32
  | 0 => h
  | k + 1 => (k0_pay32 pr pi (carry k).1 (carry k).2 (tile Xr k), k0_pay33 pr pi (carry k).1 (carry k).2 (tile Xi k))

/-- What the loop leaves of the real parts. -/
def outR : Vec F S256x512 .f32 :=
  newr (R := 256) (C := 512) 8 (by decide) (fun k => k0_pay30 pr pi (carry pr pi Xr Xi h k).1 (carry pr pi Xr Xi h k).2 (tile Xr k))

/-- What the loop leaves of the imaginary parts. -/
def outI : Vec F S256x512 .f32 :=
  newr (R := 256) (C := 512) 8 (by decide) (fun k => k0_pay31 pr pi (carry pr pi Xr Xi h k).1 (carry pr pi Xr Xi h k).2 (tile Xi k))

end Defs

/-- What the memory holds before trip `k`. -/
def innerInv (c : Dev nD) (arg15 arg16 : Memref sig .tc .vmem S256x512 .f32) (pr pi : Vec F S8x512 .f32) (Xr Xi : Vec F S256x512 .f32)
    (h : Vec F S1x512 .f32 × Vec F S1x512 .f32) (k : ℕ) (acc : Vec F S1x512 .f32 × Vec F S1x512 .f32) : sProp 𝕄 :=
  iprop(∃ f15, ∃ f16, (arg15.view.loc (c : Thread nD τ) ↦[arg15.view.set]{fullShare} f15) ∗ (arg16.view.loc (c : Thread nD τ) ↦[arg16.view.set]{fullShare} f16)
    ∗ ⌜arg15.view.read (Elt F) f15 = mixr (R := 256) (C := 512) (8 * k) (outR pr pi Xr Xi h) Xr
      ∧ arg16.view.read (Elt F) f16 = mixr (R := 256) (C := 512) (8 * k) (outI pr pi Xr Xi h) Xi ∧ acc = carry pr pi Xr Xi h k⌝)

theorem inner_step (𝒱 : Variants) (c : Dev nD) (bd : Option 𝒱.V) (E : Set ℕ) (i : grid0.Coords) (arg2 : Memref sig .tc .vmem S256x1024 .f32) (harg2 : arg2.IsWhole) (arg3 : Memref sig .tc .vmem S256x1024 .f32) (harg3 : arg3.IsWhole) (arg4 : Memref sig .tc .vmem S8x128x1024 .bf16) (harg4 : arg4.IsWhole) (arg5 : Memref sig .tc .vmem S8x1024x128 .bf16) (harg5 : arg5.IsWhole) (arg6 : Memref sig .tc .vmem S3x8x4096 .f32) (harg6 : arg6.IsWhole) (arg7 : Memref sig .tc .vmem S3x8x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x1024 .f32) (harg17 : arg17.IsWhole) (arg18 : Memref sig .tc .vmem S1x4096 .f32) (harg18 : arg18.IsWhole) (arg19 : Memref sig .tc .vmem S1x4096 .f32) (harg19 : arg19.IsWhole) (w1 w2 : BitVec 32) (k1 : Fin k0_t1_loop.trips)
    (pr pi : Vec F S8x512 .f32) (Xr Xi : Vec F S256x512 .f32) (h : Vec F S1x512 .f32 × Vec F S1x512 .f32)
    (k : Fin k0_t2_loop.trips) (acc : Vec F S1x512 .f32 × Vec F S1x512 .f32) :
    (innerInv c arg15 arg16 pr pi Xr Xi h k.val acc : sProp 𝕄)
    ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 w1 w2 k1 pr pi k acc)
        (innerInv c arg15 arg16 pr pi Xr Xi h (k.val + 1)) := by
  have hk : k.val < 32 := Nat.lt_of_lt_of_le k.isLt k0_t2_abs.2.1
  have hkm : k.val % 32 = k.val := Nat.mod_eq_of_lt hk
  have hoff : k0_off8 k = ![8 * k.val, 0] := k0_off8_eq k
  have hinb : ∀ a : Fin 2, (![8 * k.val, 0] : Fin 2 → ℕ) a + S8x512.size a ≤ S256x512.size a := by
    have := tile_inb k.val; rwa [hkm] at this
  unfold innerInv k0_t2_body
  iintro ⟨%f15, %f16, H15, H16, %hh⟩
  obtain ⟨h15, h16, rfl⟩ := hh
  have e15 : arg15.view.readAt (Elt F) (Rect.unit (s := S256x512) (k0_off8 k) S8x512.size (k0_off8_inb k)).toLoadRect f15 = tile Xr k.val := by
    refine (View.readAt_unit (s := S256x512) (off' := ![8 * k.val, 0]) _ _ (k0_off8_inb k) hoff hinb).trans ?_
    rw [h15, window_mixr]
    exact window_congr _ (by rw [hkm]) _ _
  have e16 : arg16.view.readAt (Elt F) (Rect.unit (s := S256x512) (k0_off8 k) S8x512.size (k0_off8_inb k)).toLoadRect f16 = tile Xi k.val := by
    refine (View.readAt_unit (s := S256x512) (off' := ![8 * k.val, 0]) _ _ (k0_off8_inb k) hoff hinb).trans ?_
    rw [h16, window_mixr]
    exact window_congr _ (by rw [hkm]) _ _
  sl_exec
  sl_step
  iexists _; iexists _
  isplitl [H15]
  · iexact H15
  isplitl [H16]
  · iexact H16
  ipureintro
  sl_unfold_run_names
  refine ⟨?_, ?_, rfl⟩
  · refine (View.read_writes_cons_put _ _ _ _ _ hoff).trans ?_
    rw [View.writes_nil, h15]
    exact put_mixr (by decide) k.val _ _ rfl rfl
  · refine (View.read_writes_cons_put _ _ _ _ _ hoff).trans ?_
    rw [View.writes_nil, h16]
    exact put_mixr (by decide) k.val _ _ rfl rfl

theorem trips2 : k0_t2_loop.trips = 32 := by decide +kernel

/-- The whole loop. -/
theorem inner_for (𝒱 : Variants) (c : Dev nD) (bd : Option 𝒱.V) (E : Set ℕ) (i : grid0.Coords) (arg2 : Memref sig .tc .vmem S256x1024 .f32) (harg2 : arg2.IsWhole) (arg3 : Memref sig .tc .vmem S256x1024 .f32) (harg3 : arg3.IsWhole) (arg4 : Memref sig .tc .vmem S8x128x1024 .bf16) (harg4 : arg4.IsWhole) (arg5 : Memref sig .tc .vmem S8x1024x128 .bf16) (harg5 : arg5.IsWhole) (arg6 : Memref sig .tc .vmem S3x8x4096 .f32) (harg6 : arg6.IsWhole) (arg7 : Memref sig .tc .vmem S3x8x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x1024 .f32) (harg17 : arg17.IsWhole) (arg18 : Memref sig .tc .vmem S1x4096 .f32) (harg18 : arg18.IsWhole) (arg19 : Memref sig .tc .vmem S1x4096 .f32) (harg19 : arg19.IsWhole) (w1 w2 : BitVec 32) (k1 : Fin k0_t1_loop.trips)
    (pr pi : Vec F S8x512 .f32) (Xr Xi : Vec F S256x512 .f32) (h : Vec F S1x512 .f32 × Vec F S1x512 .f32) :
    (iprop(∃ f15, ∃ f16, (arg15.view.loc (c : Thread nD τ) ↦[arg15.view.set]{fullShare} f15) ∗ (arg16.view.loc (c : Thread nD τ) ↦[arg16.view.set]{fullShare} f16)
      ∗ ⌜arg15.view.read (Elt F) f15 = Xr ∧ arg16.view.read (Elt F) f16 = Xi⌝) : sProp 𝕄)
    ⊢ wp frame (wpE (defs₀ (F := F)) 𝒱 (c : Thread nD τ) bd) E (Scf.Loop.for k0_t2_loop k0_t2_ok h (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 w1 w2 k1 pr pi))
        (fun acc => iprop(⌜acc = carry pr pi Xr Xi h 32⌝ ∗ ∃ g15, ∃ g16, (arg15.view.loc (c : Thread nD τ) ↦[arg15.view.set]{fullShare} g15) ∗ (arg16.view.loc (c : Thread nD τ) ↦[arg16.view.set]{fullShare} g16)
          ∗ ⌜arg15.view.read (Elt F) g15 = outR pr pi Xr Xi h ∧ arg16.view.read (Elt F) g16 = outI pr pi Xr Xi h⌝)) := by
  refine BIBase.Entails.trans ?_ (Scf.wp_for frame _ E k0_t2_loop.lb k0_t2_loop.ub k0_t2_loop.st k0_t2_ok h _ (innerInv c arg15 arg16 pr pi Xr Xi h)
    (inner_step 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 w1 w2 k1 pr pi Xr Xi h))
  have ht : Scf.trips k0_t2_loop.lb k0_t2_loop.ub k0_t2_loop.st = 32 := trips2
  rw [ht]
  unfold innerInv
  iintro ⟨%f15, %f16, H15, H16, %hx⟩
  obtain ⟨h15, h16⟩ := hx
  isplitl
  · iexists f15; iexists f16
    isplitl [H15]; · iexact H15
    isplitl [H16]; · iexact H16
    ipureintro
    exact ⟨by rw [h15]; exact (mixr_zero _ _).symm, by rw [h16]; exact (mixr_zero _ _).symm, rfl⟩
  · iintro %acc ⟨%g15, %g16, H15, H16, %hh⟩
    obtain ⟨e15, e16, rfl⟩ := hh
    isplitr; · ipureintro; rfl
    iexists g15; iexists g16
    isplitl [H15]; · iexact H15
    isplitl [H16]; · iexact H16
    ipureintro
    exact ⟨e15.trans (mixr_all (by decide) _ _), e16.trans (mixr_all (by decide) _ _)⟩

end Cert.Proof.Scan

end
-- ==== Proof.ScanTrip.lean ====
/-
  The loop over the chunks of the state: trip `k` does chunk `k` (128 input columns, 512 states). It builds the eight-step partial
  sums of the chunk, runs the loop over the tiles from the chunk's carried state, stores the new state back and the chunk's
  128 output columns. What the loop leaves is stated on whole arrays.
-/
module

public import proofs.«01_k».proof.Proof.ScanLoop

@[expose] public section

set_option maxRecDepth 8192
set_option maxHeartbeats 4000000

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem inbU (k : ℕ) : ∀ a : Fin 2, (![0, 128 * (k % 8)] : Fin 2 → ℕ) a + S256x128.size a ≤ S256x1024.size a := by
  have := Nat.mod_lt k (show 0 < 8 by decide)
  intro a
  match a with
  | 0 => show 0 + 256 ≤ 256; omega
  | 1 => show 128 * (k % 8) + 128 ≤ 1024; omega
theorem inbW1 (k : ℕ) : ∀ a : Fin 3, (![k % 8, 0, 0] : Fin 3 → ℕ) a + S1x128x1024.size a ≤ S8x128x1024.size a := by
  have := Nat.mod_lt k (show 0 < 8 by decide)
  intro a
  match a with
  | 0 => show k % 8 + 1 ≤ 8; omega
  | 1 => show 0 + 128 ≤ 128; omega
  | 2 => show 0 + 1024 ≤ 1024; omega
theorem inbW2 (k : ℕ) : ∀ a : Fin 3, (![k % 8, 0, 0] : Fin 3 → ℕ) a + S1x1024x128.size a ≤ S8x1024x128.size a := by
  have := Nat.mod_lt k (show 0 < 8 by decide)
  intro a
  match a with
  | 0 => show k % 8 + 1 ≤ 8; omega
  | 1 => show 0 + 1024 ≤ 1024; omega
  | 2 => show 0 + 128 ≤ 128; omega
theorem inbL (n : Fin 3) (k : ℕ) : ∀ a : Fin 3, (![n.val, 0, 512 * (k % 8)] : Fin 3 → ℕ) a + S1x8x512.size a ≤ S3x8x4096.size a := by
  have := Nat.mod_lt k (show 0 < 8 by decide)
  intro a
  match a with
  | 0 => show n.val + 1 ≤ 3; omega
  | 1 => show 0 + 8 ≤ 8; omega
  | 2 => show 512 * (k % 8) + 512 ≤ 4096; omega
theorem inbP (k : ℕ) : ∀ a : Fin 2, (![0, 512 * (k % 8)] : Fin 2 → ℕ) a + S8x512.size a ≤ S8x4096.size a := by
  have := Nat.mod_lt k (show 0 < 8 by decide)
  intro a
  match a with
  | 0 => show 0 + 8 ≤ 8; omega
  | 1 => show 512 * (k % 8) + 512 ≤ 4096; omega
theorem inbH (k : ℕ) : ∀ a : Fin 2, (![0, 512 * (k % 8)] : Fin 2 → ℕ) a + S1x512.size a ≤ S1x4096.size a := by
  have := Nat.mod_lt k (show 0 < 8 by decide)
  intro a
  match a with
  | 0 => show 0 + 1 ≤ 1; omega
  | 1 => show 512 * (k % 8) + 512 ≤ 4096; omega

/-- Chunk `k` of the input columns, of the two weight arrays, of a level's multipliers, of a power array, of a state. -/
def uC (u : Vec F S256x1024 .f32) (k : ℕ) : Vec F S256x128 .f32 := VecWindow.window u ![0, 128 * (k % 8)] S256x128.size (inbU k)
def w1C (w : Vec F S8x128x1024 .bf16) (k : ℕ) : Vec F S1x128x1024 .bf16 := VecWindow.window w ![k % 8, 0, 0] S1x128x1024.size (inbW1 k)
def w2C (w : Vec F S8x1024x128 .bf16) (k : ℕ) : Vec F S1x1024x128 .bf16 := VecWindow.window w ![k % 8, 0, 0] S1x1024x128.size (inbW2 k)
def lC (l : Vec F S3x8x4096 .f32) (n : Fin 3) (k : ℕ) : Vec F S1x8x512 .f32 := VecWindow.window l ![n.val, 0, 512 * (k % 8)] S1x8x512.size (inbL n k)
def pC (p : Vec F S8x4096 .f32) (k : ℕ) : Vec F S8x512 .f32 := VecWindow.window p ![0, 512 * (k % 8)] S8x512.size (inbP k)
def hC (h : Vec F S1x4096 .f32) (k : ℕ) : Vec F S1x512 .f32 := VecWindow.window h ![0, 512 * (k % 8)] S1x512.size (inbH k)

/-- The arrays one grid point reads: the input block, the two weights, the levels' multipliers and the powers. -/
structure Ins (F : FTy → Type) [FloatOps F] where
  u : Vec F S256x1024 .f32
  w1 : Vec F S8x128x1024 .bf16
  w2 : Vec F S8x1024x128 .bf16
  lr : Vec F S3x8x4096 .f32
  li : Vec F S3x8x4096 .f32
  pr : Vec F S8x4096 .f32
  pi : Vec F S8x4096 .f32

section Defs
variable (I : Ins F) (hr hi : Vec F S1x4096 .f32) (k : ℕ)

/-- The partial sums after the first level. -/
def lv1R : Vec F S32x8x512 .f32 := k0_pay11 (uC I.u k) (w1C I.w1 k) (lC I.lr 0 k) (lC I.li 0 k)
def lv1I : Vec F S32x8x512 .f32 := k0_pay12 (uC I.u k) (w1C I.w1 k) (lC I.lr 0 k) (lC I.li 0 k)

/-- The eight-step partial sums of chunk `k`. -/
def sumR : Vec F S256x512 .f32 := k0_pay23 (lv1R I k) (lv1I I k) (k0_pay13 (lC I.lr 1 k)) (lC I.li 1 k) (lC I.lr 2 k) (lC I.li 2 k)
def sumI : Vec F S256x512 .f32 := k0_pay25 (k0_pay24 (lv1R I k) (lv1I I k) (k0_pay13 (lC I.lr 1 k)) (lC I.li 1 k) (lC I.lr 2 k) (lC I.li 2 k))

/-- The states of chunk `k` at the 256 steps. -/
def stR : Vec F S256x512 .f32 := outR (pC I.pr k) (pC I.pi k) (sumR I k) (sumI I k) (hC hr k, hC hi k)
def stI : Vec F S256x512 .f32 := outI (pC I.pr k) (pC I.pi k) (sumR I k) (sumI I k) (hC hr k, hC hi k)

/-- The state chunk `k` carries out of the point. -/
def lastC : Vec F S1x512 .f32 × Vec F S1x512 .f32 := carry (pC I.pr k) (pC I.pi k) (sumR I k) (sumI I k) (hC hr k, hC hi k) 32

end Defs

/-- The output columns and the state, of all chunks. -/
def newY (I : Ins F) (hr hi : Vec F S1x4096 .f32) : Vec F S256x1024 .f32 :=
  newc (R := 256) (C := 1024) 128 (by decide) (fun k => k0_pay36 (stR I hr hi k) (stI I hr hi k) (w2C I.w2 k))
def newHr (I : Ins F) (hr hi : Vec F S1x4096 .f32) : Vec F S1x4096 .f32 :=
  newc (R := 1) (C := 4096) 512 (by decide) (fun k => k0_pay34 (lastC I hr hi k).1)
def newHi (I : Ins F) (hr hi : Vec F S1x4096 .f32) : Vec F S1x4096 .f32 :=
  newc (R := 1) (C := 4096) 512 (by decide) (fun k => k0_pay35 (lastC I hr hi k).2)

/-- What the memory holds before trip `k`: the inputs as they are, the output columns and the state of the chunks before at their new values. -/
def outerInv (c : Dev nD) (arg2 : Memref sig .tc .vmem S256x1024 .f32) (arg4 : Memref sig .tc .vmem S8x128x1024 .bf16) (arg5 : Memref sig .tc .vmem S8x1024x128 .bf16)
    (arg6 arg7 : Memref sig .tc .vmem S3x8x4096 .f32) (arg8 arg9 : Memref sig .tc .vmem S8x4096 .f32) (arg15 arg16 : Memref sig .tc .vmem S256x512 .f32)
    (arg17 : Memref sig .tc .vmem S256x1024 .f32) (arg18 arg19 : Memref sig .tc .vmem S1x4096 .f32)
    (I : Ins F) (y : Vec F S256x1024 .f32) (hr hi : Vec F S1x4096 .f32) (k : ℕ) : sProp 𝕄 :=
  iprop(owns (c : Thread nD τ) arg2 fullShare I.u ∗ owns (c : Thread nD τ) arg4 fullShare I.w1 ∗ owns (c : Thread nD τ) arg5 fullShare I.w2
    ∗ owns (c : Thread nD τ) arg6 fullShare I.lr ∗ owns (c : Thread nD τ) arg7 fullShare I.li ∗ owns (c : Thread nD τ) arg8 fullShare I.pr ∗ owns (c : Thread nD τ) arg9 fullShare I.pi
    ∗ (∃ f15, arg15.view.loc (c : Thread nD τ) ↦[arg15.view.set]{fullShare} f15) ∗ (∃ f16, arg16.view.loc (c : Thread nD τ) ↦[arg16.view.set]{fullShare} f16)
    ∗ owns (c : Thread nD τ) arg17 fullShare (mixc (R := 256) (C := 1024) (128 * k) (newY I hr hi) y)
    ∗ owns (c : Thread nD τ) arg18 fullShare (mixc (R := 1) (C := 4096) (512 * k) (newHr I hr hi) hr)
    ∗ owns (c : Thread nD τ) arg19 fullShare (mixc (R := 1) (C := 4096) (512 * k) (newHi I hr hi) hi))

theorem outer_step (𝒱 : Variants) (c : Dev nD) (bd : Option 𝒱.V) (E : Set ℕ) (i : grid0.Coords) (arg2 : Memref sig .tc .vmem S256x1024 .f32) (harg2 : arg2.IsWhole) (arg3 : Memref sig .tc .vmem S256x1024 .f32) (harg3 : arg3.IsWhole) (arg4 : Memref sig .tc .vmem S8x128x1024 .bf16) (harg4 : arg4.IsWhole) (arg5 : Memref sig .tc .vmem S8x1024x128 .bf16) (harg5 : arg5.IsWhole) (arg6 : Memref sig .tc .vmem S3x8x4096 .f32) (harg6 : arg6.IsWhole) (arg7 : Memref sig .tc .vmem S3x8x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x1024 .f32) (harg17 : arg17.IsWhole) (arg18 : Memref sig .tc .vmem S1x4096 .f32) (harg18 : arg18.IsWhole) (arg19 : Memref sig .tc .vmem S1x4096 .f32) (harg19 : arg19.IsWhole)
    (I : Ins F) (y : Vec F S256x1024 .f32) (hr hi : Vec F S1x4096 .f32) (k : Fin k0_t1_loop.trips) (acc : Unit) :
    (outerInv c arg2 arg4 arg5 arg6 arg7 arg8 arg9 arg15 arg16 arg17 arg18 arg19 I y hr hi k.val : sProp 𝕄)
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k acc)
        (fun _ => outerInv c arg2 arg4 arg5 arg6 arg7 arg8 arg9 arg15 arg16 arg17 arg18 arg19 I y hr hi (k.val + 1)) := by
  have hk : k.val < 8 := Nat.lt_of_lt_of_le k.isLt k0_t1_abs.2.1
  have hkm : k.val % 8 = k.val := Nat.mod_eq_of_lt hk
  unfold outerInv k0_t1_body
  simp only [k0_part3_eq_skeleton]
  unfold k0_part3_skel
  simp only [k0_part1_eq_skeleton, k0_part2_eq_skeleton]
  unfold k0_part1_skel k0_part2_skel
  unfold owns
  iintro ⟨⟨%f2, %h2, H2⟩, ⟨%f4, %h4, H4⟩, ⟨%f5, %h5, H5⟩, ⟨%f6, %h6, H6⟩, ⟨%f7, %h7, H7⟩, ⟨%f8, %h8, H8⟩, ⟨%f9, %h9, H9⟩, ⟨%f15, H15⟩, ⟨%f16, H16⟩, ⟨%f17, %h17, H17⟩, ⟨%f18, %h18, H18⟩, ⟨%f19, %h19, H19⟩⟩
  have e2 : arg2.view.readAt (Elt F) (Rect.unit (s := S256x1024) (k0_off1 k) S256x128.size (k0_off1_inb k)).toLoadRect f2 = uC I.u k.val := by
    refine (View.readAt_unit (s := S256x1024) (off' := ![0, 128 * k.val]) _ _ (k0_off1_inb k) (k0_off1_eq k) (by have := inbU k.val; rwa [hkm] at this)).trans ?_
    rw [h2]; exact window_congr _ (by rw [hkm]) _ _
  have e4 : arg4.view.readAt (Elt F) (Rect.unit (s := S8x128x1024) (k0_off2 k) S1x128x1024.size (k0_off2_inb k)).toLoadRect f4 = w1C I.w1 k.val := by
    refine (View.readAt_unit (s := S8x128x1024) (off' := ![k.val, 0, 0]) _ _ (k0_off2_inb k) (k0_off2_eq k) (by have := inbW1 k.val; rwa [hkm] at this)).trans ?_
    rw [h4]; exact window_congr _ (by rw [hkm]) _ _
  have e5 : arg5.view.readAt (Elt F) (Rect.unit (s := S8x1024x128) (k0_off9 k) S1x1024x128.size (k0_off9_inb k)).toLoadRect f5 = w2C I.w2 k.val := by
    refine (View.readAt_unit (s := S8x1024x128) (off' := ![k.val, 0, 0]) _ _ (k0_off9_inb k) (k0_off9_eq k) (by have := inbW2 k.val; rwa [hkm] at this)).trans ?_
    rw [h5]; exact window_congr _ (by rw [hkm]) _ _
  have e60 : arg6.view.readAt (Elt F) (Rect.unit (s := S3x8x4096) (k0_off3 k) S1x8x512.size (k0_off3_inb k)).toLoadRect f6 = lC I.lr 0 k.val := by
    refine (View.readAt_unit (s := S3x8x4096) (off' := ![0, 0, 512 * k.val]) _ _ (k0_off3_inb k) (k0_off3_eq k) (by have := inbL 0 k.val; rwa [hkm] at this)).trans ?_
    rw [h6]; exact window_congr _ (by rw [hkm]; rfl) _ _
  have e61 : arg6.view.readAt (Elt F) (Rect.unit (s := S3x8x4096) (k0_off4 k) S1x8x512.size (k0_off4_inb k)).toLoadRect f6 = lC I.lr 1 k.val := by
    refine (View.readAt_unit (s := S3x8x4096) (off' := ![1, 0, 512 * k.val]) _ _ (k0_off4_inb k) (k0_off4_eq k) (by have := inbL 1 k.val; rwa [hkm] at this)).trans ?_
    rw [h6]; exact window_congr _ (by rw [hkm]; rfl) _ _
  have e62 : arg6.view.readAt (Elt F) (Rect.unit (s := S3x8x4096) (k0_off5 k) S1x8x512.size (k0_off5_inb k)).toLoadRect f6 = lC I.lr 2 k.val := by
    refine (View.readAt_unit (s := S3x8x4096) (off' := ![2, 0, 512 * k.val]) _ _ (k0_off5_inb k) (k0_off5_eq k) (by have := inbL 2 k.val; rwa [hkm] at this)).trans ?_
    rw [h6]; exact window_congr _ (by rw [hkm]; rfl) _ _
  have e70 : arg7.view.readAt (Elt F) (Rect.unit (s := S3x8x4096) (k0_off3 k) S1x8x512.size (k0_off3_inb k)).toLoadRect f7 = lC I.li 0 k.val := by
    refine (View.readAt_unit (s := S3x8x4096) (off' := ![0, 0, 512 * k.val]) _ _ (k0_off3_inb k) (k0_off3_eq k) (by have := inbL 0 k.val; rwa [hkm] at this)).trans ?_
    rw [h7]; exact window_congr _ (by rw [hkm]; rfl) _ _
  have e71 : arg7.view.readAt (Elt F) (Rect.unit (s := S3x8x4096) (k0_off4 k) S1x8x512.size (k0_off4_inb k)).toLoadRect f7 = lC I.li 1 k.val := by
    refine (View.readAt_unit (s := S3x8x4096) (off' := ![1, 0, 512 * k.val]) _ _ (k0_off4_inb k) (k0_off4_eq k) (by have := inbL 1 k.val; rwa [hkm] at this)).trans ?_
    rw [h7]; exact window_congr _ (by rw [hkm]; rfl) _ _
  have e72 : arg7.view.readAt (Elt F) (Rect.unit (s := S3x8x4096) (k0_off5 k) S1x8x512.size (k0_off5_inb k)).toLoadRect f7 = lC I.li 2 k.val := by
    refine (View.readAt_unit (s := S3x8x4096) (off' := ![2, 0, 512 * k.val]) _ _ (k0_off5_inb k) (k0_off5_eq k) (by have := inbL 2 k.val; rwa [hkm] at this)).trans ?_
    rw [h7]; exact window_congr _ (by rw [hkm]; rfl) _ _
  have e8 : arg8.view.readAt (Elt F) (Rect.unit (s := S8x4096) (k0_off6 k) S8x512.size (k0_off6_inb k)).toLoadRect f8 = pC I.pr k.val := by
    refine (View.readAt_unit (s := S8x4096) (off' := ![0, 512 * k.val]) _ _ (k0_off6_inb k) (k0_off6_eq k) (by have := inbP k.val; rwa [hkm] at this)).trans ?_
    rw [h8]; exact window_congr _ (by rw [hkm]) _ _
  have e9 : arg9.view.readAt (Elt F) (Rect.unit (s := S8x4096) (k0_off6 k) S8x512.size (k0_off6_inb k)).toLoadRect f9 = pC I.pi k.val := by
    refine (View.readAt_unit (s := S8x4096) (off' := ![0, 512 * k.val]) _ _ (k0_off6_inb k) (k0_off6_eq k) (by have := inbP k.val; rwa [hkm] at this)).trans ?_
    rw [h9]; exact window_congr _ (by rw [hkm]) _ _
  have e18 : arg18.view.readAt (Elt F) (Rect.unit (s := S1x4096) (k0_off7 k) S1x512.size (k0_off7_inb k)).toLoadRect f18 = hC hr k.val := by
    refine (View.readAt_unit (s := S1x4096) (off' := ![0, 512 * k.val]) _ _ (k0_off7_inb k) (k0_off7_eq k) (by have := inbH k.val; rwa [hkm] at this)).trans ?_
    rw [h18, window_mixc]; exact window_congr _ (by rw [hkm]) _ _
  have e19 : arg19.view.readAt (Elt F) (Rect.unit (s := S1x4096) (k0_off7 k) S1x512.size (k0_off7_inb k)).toLoadRect f19 = hC hi k.val := by
    refine (View.readAt_unit (s := S1x4096) (off' := ![0, 512 * k.val]) _ _ (k0_off7_inb k) (k0_off7_eq k) (by have := inbH k.val; rwa [hkm] at this)).trans ?_
    rw [h19, window_mixc]; exact window_congr _ (by rw [hkm]) _ _
  sl_exec
  rw [wp_bind, wp_bind]
  iapply (wp_wand_r frame _ E)
  isplitl [H15 H16]
  · iapply (inner_for 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 0#32 1#32 k (pC I.pr k.val) (pC I.pi k.val) (sumR I k.val) (sumI I k.val) (hC hr k.val, hC hi k.val))
    iexists _; iexists _
    isplitl [H15]; · iexact H15
    isplitl [H16]; · iexact H16
    ipureintro
    exact ⟨(View.read_writes_full _ _ _ _ _).trans rfl, (View.read_writes_full _ _ _ _ _).trans rfl⟩
  iintro %acc2 ⟨%hacc, %g15, %g16, H15, H16, %hh⟩
  obtain ⟨h15, h16⟩ := hh
  subst hacc
  have e15 : arg15.view.readAt (Elt F) (Rect.unit (s := S256x512) ![0, 0] S256x512.size inb_S256x512_S256x512_0_0).toLoadRect g15 = stR I hr hi k.val :=
    (View.readAt_full _ _ _).trans h15
  have e16 : arg16.view.readAt (Elt F) (Rect.unit (s := S256x512) ![0, 0] S256x512.size inb_S256x512_S256x512_0_0).toLoadRect g16 = stI I hr hi k.val :=
    (View.readAt_full _ _ _).trans h16
  sl_exec
  sl_step
  isplitl [H2]; · iexists f2; isplitr; · ipureintro; exact h2
                  iexact H2
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  isplitl [H8]; · iexists f8; isplitr; · ipureintro; exact h8
                  iexact H8
  isplitl [H9]; · iexists f9; isplitr; · ipureintro; exact h9
                  iexact H9
  isplitl [H15]; · iexists _; iexact H15
  isplitl [H16]; · iexists _; iexact H16
  isplitl [H17]
  · iexists _; isplitr
    swap
    · iexact H17
    · ipureintro
      sl_unfold_run_names
      refine (View.read_writes_cons_put (s := S256x1024) (off' := ![0, 128 * k.val]) _ _ (k0_off1_inb k) _ _ (k0_off1_eq k)).trans ?_
      rw [View.writes_nil, h17]
      exact put_mixc (by decide) k.val _ _ rfl rfl
  isplitl [H18]
  · iexists _; isplitr
    swap
    · iexact H18
    · ipureintro
      sl_unfold_run_names
      refine (View.read_writes_cons_put (s := S1x4096) (off' := ![0, 512 * k.val]) _ _ (k0_off7_inb k) _ _ (k0_off7_eq k)).trans ?_
      rw [View.writes_nil, h18]
      exact put_mixc (by decide) k.val _ _ rfl rfl
  · iexists _; isplitr
    swap
    · iexact H19
    · ipureintro
      sl_unfold_run_names
      refine (View.read_writes_cons_put (s := S1x4096) (off' := ![0, 512 * k.val]) _ _ (k0_off7_inb k) _ _ (k0_off7_eq k)).trans ?_
      rw [View.writes_nil, h19]
      exact put_mixc (by decide) k.val _ _ rfl rfl

theorem trips1 : k0_t1_loop.trips = 8 := by decide +kernel

/-- The whole loop: whatever the output scratch held, it holds the new columns. -/
theorem outer_for (𝒱 : Variants) (c : Dev nD) (bd : Option 𝒱.V) (E : Set ℕ) (i : grid0.Coords) (arg2 : Memref sig .tc .vmem S256x1024 .f32) (harg2 : arg2.IsWhole) (arg3 : Memref sig .tc .vmem S256x1024 .f32) (harg3 : arg3.IsWhole) (arg4 : Memref sig .tc .vmem S8x128x1024 .bf16) (harg4 : arg4.IsWhole) (arg5 : Memref sig .tc .vmem S8x1024x128 .bf16) (harg5 : arg5.IsWhole) (arg6 : Memref sig .tc .vmem S3x8x4096 .f32) (harg6 : arg6.IsWhole) (arg7 : Memref sig .tc .vmem S3x8x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x1024 .f32) (harg17 : arg17.IsWhole) (arg18 : Memref sig .tc .vmem S1x4096 .f32) (harg18 : arg18.IsWhole) (arg19 : Memref sig .tc .vmem S1x4096 .f32) (harg19 : arg19.IsWhole)
    (I : Ins F) (y : Vec F S256x1024 .f32) (hr hi : Vec F S1x4096 .f32) :
    (outerInv c arg2 arg4 arg5 arg6 arg7 arg8 arg9 arg15 arg16 arg17 arg18 arg19 I y hr hi 0 : sProp 𝕄)
    ⊢ wp frame (wpE (defs₀ (F := F)) 𝒱 (c : Thread nD τ) bd) E (Scf.Loop.for k0_t1_loop k0_t1_ok (⟨⟩ : Unit) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19))
        (fun _ => outerInv c arg2 arg4 arg5 arg6 arg7 arg8 arg9 arg15 arg16 arg17 arg18 arg19 I y hr hi 8) := by
  refine BIBase.Entails.trans ?_ (Scf.wp_for frame _ E k0_t1_loop.lb k0_t1_loop.ub k0_t1_loop.st k0_t1_ok (⟨⟩ : Unit) _
    (fun k _ => outerInv c arg2 arg4 arg5 arg6 arg7 arg8 arg9 arg15 arg16 arg17 arg18 arg19 I y hr hi k)
    (outer_step 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I y hr hi))
  have ht : Scf.trips k0_t1_loop.lb k0_t1_loop.ub k0_t1_loop.st = 8 := trips1
  rw [ht]
  iintro H
  isplitl
  · iexact H
  · iintro %acc H
    iexact H

end Cert.Proof.Scan

end
-- ==== Proof.ScanBody.lean ====
/-
  The scan's body at a grid point: from the block of inputs and the state carried in (zero at a batch's first block) to the output
  block, the new state in the two state outputs, and the new state in the scratch.
-/
module

public import proofs.«01_k».proof.Proof.ScanTrip

@[expose] public section

set_option maxRecDepth 8192
set_option maxHeartbeats 4000000

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is its batch's first block. -/
abbrev first (i : grid0.Coords) : Prop := (Scalar.cmpi .ne (Scalar.extui (Scalar.cmpi .eq (BitVec.ofNat 32 (i 1).val) 0#32)) 0#32) = 1#1

/-- The output block. -/
def outO (I : Ins F) (gate : Vec F S256x1024 .f32) (d g : Vec F S1x1024 .f32) (hr hi : Vec F S1x4096 .f32) : Vec F S256x1024 .bf16 :=
  k0_pay1 (k0_pay39 g) (k0_pay40 (newY I hr hi) I.u gate d) (k0_pay41 (newY I hr hi) I.u gate d)

/-- What the body is handed and leaves: the inputs, then the three outputs and the two carried scratch buffers at what is said, and the other scratch at anything. -/
def bodyRes (c : Dev nD) (arg2 arg3 : Memref sig .tc .vmem S256x1024 .f32) (arg4 : Memref sig .tc .vmem S8x128x1024 .bf16) (arg5 : Memref sig .tc .vmem S8x1024x128 .bf16)
    (arg6 arg7 : Memref sig .tc .vmem S3x8x4096 .f32) (arg8 arg9 : Memref sig .tc .vmem S8x4096 .f32) (arg10 arg11 : Memref sig .tc .vmem S1x1024 .f32)
    (arg12 : Memref sig .tc .vmem S256x1024 .bf16) (arg13 arg14 : Memref sig .tc .vmem S1x1x4096 .f32) (arg15 arg16 : Memref sig .tc .vmem S256x512 .f32)
    (arg17 : Memref sig .tc .vmem S256x1024 .f32) (arg18 arg19 : Memref sig .tc .vmem S1x4096 .f32)
    (I : Ins F) (gate : Vec F S256x1024 .f32) (d g : Vec F S1x1024 .f32) (o : Vec F S256x1024 .bf16) (sr si : Vec F S1x1x4096 .f32) (hr hi : Vec F S1x4096 .f32) : sProp 𝕄 :=
  iprop(owns (c : Thread nD τ) arg2 fullShare I.u ∗ owns (c : Thread nD τ) arg3 fullShare gate ∗ owns (c : Thread nD τ) arg4 fullShare I.w1 ∗ owns (c : Thread nD τ) arg5 fullShare I.w2
    ∗ owns (c : Thread nD τ) arg6 fullShare I.lr ∗ owns (c : Thread nD τ) arg7 fullShare I.li ∗ owns (c : Thread nD τ) arg8 fullShare I.pr ∗ owns (c : Thread nD τ) arg9 fullShare I.pi
    ∗ owns (c : Thread nD τ) arg10 fullShare d ∗ owns (c : Thread nD τ) arg11 fullShare g
    ∗ owns (c : Thread nD τ) arg12 fullShare o ∗ owns (c : Thread nD τ) arg13 fullShare sr ∗ owns (c : Thread nD τ) arg14 fullShare si
    ∗ (∃ x, owns (c : Thread nD τ) arg15 fullShare x) ∗ (∃ x, owns (c : Thread nD τ) arg16 fullShare x) ∗ (∃ x, owns (c : Thread nD τ) arg17 fullShare x)
    ∗ owns (c : Thread nD τ) arg18 fullShare hr ∗ owns (c : Thread nD τ) arg19 fullShare hi)

theorem body_run (c : Dev nD) (E : Set ℕ) (i : grid0.Coords) (arg2 : Memref sig .tc .vmem S256x1024 .f32) (harg2 : arg2.IsWhole) (arg3 : Memref sig .tc .vmem S256x1024 .f32) (harg3 : arg3.IsWhole) (arg4 : Memref sig .tc .vmem S8x128x1024 .bf16) (harg4 : arg4.IsWhole) (arg5 : Memref sig .tc .vmem S8x1024x128 .bf16) (harg5 : arg5.IsWhole) (arg6 : Memref sig .tc .vmem S3x8x4096 .f32) (harg6 : arg6.IsWhole) (arg7 : Memref sig .tc .vmem S3x8x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S1x1x4096 .f32) (harg13 : arg13.IsWhole) (arg14 : Memref sig .tc .vmem S1x1x4096 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x1024 .f32) (harg17 : arg17.IsWhole) (arg18 : Memref sig .tc .vmem S1x4096 .f32) (harg18 : arg18.IsWhole) (arg19 : Memref sig .tc .vmem S1x4096 .f32) (harg19 : arg19.IsWhole)
    (I : Ins F) (gate : Vec F S256x1024 .f32) (d g : Vec F S1x1024 .f32) (o : Vec F S256x1024 .bf16) (sr si : Vec F S1x1x4096 .f32) (s18 s19 hr hi : Vec F S1x4096 .f32)
    (hs : (first i ∧ hr = k0_pay37 ∧ hi = k0_pay38) ∨ (¬ first i ∧ s18 = hr ∧ s19 = hi)) :
    (bodyRes c arg2 arg3 arg4 arg5 arg6 arg7 arg8 arg9 arg10 arg11 arg12 arg13 arg14 arg15 arg16 arg17 arg18 arg19 I gate d g o sr si s18 s19 : sProp 𝕄)
    ⊢ wp frame (wpE (defs₀ (F := F)) Variants.none (c : Thread nD τ) none) E (cc0_s5_prompt (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => bodyRes c arg2 arg3 arg4 arg5 arg6 arg7 arg8 arg9 arg10 arg11 arg12 arg13 arg14 arg15 arg16 arg17 arg18 arg19 I gate d g
          (outO I gate d g hr hi) (k0_pay2 (newHr I hr hi)) (k0_pay3 (newHi I hr hi)) (newHr I hr hi) (newHi I hr hi)) := by
  simp only [cc0_s5_prompt_eq_skeleton]
  unfold cc0_s5_prompt_skel
  simp only [k0_part4_eq_skeleton]
  unfold k0_part4_skel
  unfold bodyRes owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%x15, %f15, %h15, H15⟩, ⟨%x16, %f16, %h16, H16⟩, ⟨%x17, %f17, %h17, H17⟩, ⟨%f18, %h18, H18⟩, ⟨%f19, %h19, H19⟩⟩
  obtain ⟨hc, rfl, rfl⟩ | ⟨hc, rfl, rfl⟩ := hs
  · sl_exec (disch := first | sl_exact hc)
    rw [wp_bind, wp_bind]
    iapply (wp_wand_r frame _ E)
    isplitl [H2 H4 H5 H6 H7 H8 H9 H15 H16 H17 H18 H19]
    · iapply (outer_for Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I (arg17.view.read (Elt F) f17) k0_pay37 k0_pay38)
      unfold outerInv owns
      isplitl [H2]
      · iexists f2; isplitr; swap; · iexact H2
        ipureintro; exact h2
      isplitl [H4]
      · iexists f4; isplitr; swap; · iexact H4
        ipureintro; exact h4
      isplitl [H5]
      · iexists f5; isplitr; swap; · iexact H5
        ipureintro; exact h5
      isplitl [H6]
      · iexists f6; isplitr; swap; · iexact H6
        ipureintro; exact h6
      isplitl [H7]
      · iexists f7; isplitr; swap; · iexact H7
        ipureintro; exact h7
      isplitl [H8]
      · iexists f8; isplitr; swap; · iexact H8
        ipureintro; exact h8
      isplitl [H9]
      · iexists f9; isplitr; swap; · iexact H9
        ipureintro; exact h9
      isplitl [H15]; · iexists _; iexact H15
      isplitl [H16]; · iexists _; iexact H16
      isplitl [H17]
      · iexists _; isplitr; swap; · iexact H17
        ipureintro; exact (mixc_zero _ _).symm
      isplitl [H18]
      · iexists _; isplitr; swap; · iexact H18
        ipureintro; exact ((View.read_writes_full _ _ _ _ _).trans rfl).trans (mixc_zero _ _).symm
      · iexists _; isplitr; swap; · iexact H19
        ipureintro; exact ((View.read_writes_full _ _ _ _ _).trans rfl).trans (mixc_zero _ _).symm
    clear h2 h4 h5 h6 h7 h8 h9
    unfold outerInv owns
    iintro %acc ⟨⟨%f2', %h2, H2⟩, ⟨%f4', %h4, H4⟩, ⟨%f5', %h5, H5⟩, ⟨%f6', %h6, H6⟩, ⟨%f7', %h7, H7⟩, ⟨%f8', %h8, H8⟩, ⟨%f9', %h9, H9⟩, ⟨%f15', H15⟩, ⟨%f16', H16⟩, ⟨%g17, %k17, H17⟩, ⟨%g18, %k18, H18⟩, ⟨%g19, %k19, H19⟩⟩
    rw [mixc_all (by decide)] at k17 k18 k19
    have e17 : arg17.view.readAt (Elt F) (Rect.unit (s := S256x1024) ![0, 0] S256x1024.size inb_S256x1024_S256x1024_0_0).toLoadRect g17 = _ := (View.readAt_full _ _ _).trans k17
    have e2 : arg2.view.readAt (Elt F) (Rect.unit (s := S256x1024) ![0, 0] S256x1024.size inb_S256x1024_S256x1024_0_0).toLoadRect f2' = _ := (View.readAt_full _ _ _).trans h2
    have e3 : arg3.view.readAt (Elt F) (Rect.unit (s := S256x1024) ![0, 0] S256x1024.size inb_S256x1024_S256x1024_0_0).toLoadRect f3 = _ := (View.readAt_full _ _ _).trans h3
    have e10 : arg10.view.readAt (Elt F) (Rect.unit (s := S1x1024) ![0, 0] S1x1024.size inb_S1x1024_S1x1024_0_0).toLoadRect f10 = _ := (View.readAt_full _ _ _).trans h10
    have e11 : arg11.view.readAt (Elt F) (Rect.unit (s := S1x1024) ![0, 0] S1x1024.size inb_S1x1024_S1x1024_0_0).toLoadRect f11 = _ := (View.readAt_full _ _ _).trans h11
    have e18 : arg18.view.readAt (Elt F) (Rect.unit (s := S1x4096) ![0, 0] S1x4096.size inb_S1x4096_S1x4096_0_0).toLoadRect g18 = _ := (View.readAt_full _ _ _).trans k18
    have e19 : arg19.view.readAt (Elt F) (Rect.unit (s := S1x4096) ![0, 0] S1x4096.size inb_S1x4096_S1x4096_0_0).toLoadRect g19 = _ := (View.readAt_full _ _ _).trans k19
    sl_exec
    sl_step
    isplitl [H2]
    · iexists f2'; isplitr; swap; · iexact H2
      ipureintro; exact h2
    isplitl [H3]
    · iexists f3; isplitr; swap; · iexact H3
      ipureintro; exact h3
    isplitl [H4]
    · iexists f4'; isplitr; swap; · iexact H4
      ipureintro; exact h4
    isplitl [H5]
    · iexists f5'; isplitr; swap; · iexact H5
      ipureintro; exact h5
    isplitl [H6]
    · iexists f6'; isplitr; swap; · iexact H6
      ipureintro; exact h6
    isplitl [H7]
    · iexists f7'; isplitr; swap; · iexact H7
      ipureintro; exact h7
    isplitl [H8]
    · iexists f8'; isplitr; swap; · iexact H8
      ipureintro; exact h8
    isplitl [H9]
    · iexists f9'; isplitr; swap; · iexact H9
      ipureintro; exact h9
    isplitl [H10]
    · iexists f10; isplitr; swap; · iexact H10
      ipureintro; exact h10
    isplitl [H11]
    · iexists f11; isplitr; swap; · iexact H11
      ipureintro; exact h11
    isplitl [H12]
    · iexists _; isplitr; swap; · iexact H12
      ipureintro; sl_unfold_run_names; exact (View.read_writes_full _ _ _ _ _).trans rfl
    isplitl [H13]
    · iexists _; isplitr; swap; · iexact H13
      ipureintro; sl_unfold_run_names; exact (View.read_writes_full _ _ _ _ _).trans rfl
    isplitl [H14]
    · iexists _; isplitr; swap; · iexact H14
      ipureintro; sl_unfold_run_names; exact (View.read_writes_full _ _ _ _ _).trans rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; isplitr; swap; · iexact H18
      ipureintro; exact k18
    iexists _; isplitr; swap; · iexact H19
    ipureintro; exact k19
  · sl_exec (disch := first | sl_exact hc)
    rw [wp_bind, wp_bind]
    iapply (wp_wand_r frame _ E)
    isplitl [H2 H4 H5 H6 H7 H8 H9 H15 H16 H17 H18 H19]
    · iapply (outer_for Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I (arg17.view.read (Elt F) f17) s18 s19)
      unfold outerInv owns
      isplitl [H2]
      · iexists f2; isplitr; swap; · iexact H2
        ipureintro; exact h2
      isplitl [H4]
      · iexists f4; isplitr; swap; · iexact H4
        ipureintro; exact h4
      isplitl [H5]
      · iexists f5; isplitr; swap; · iexact H5
        ipureintro; exact h5
      isplitl [H6]
      · iexists f6; isplitr; swap; · iexact H6
        ipureintro; exact h6
      isplitl [H7]
      · iexists f7; isplitr; swap; · iexact H7
        ipureintro; exact h7
      isplitl [H8]
      · iexists f8; isplitr; swap; · iexact H8
        ipureintro; exact h8
      isplitl [H9]
      · iexists f9; isplitr; swap; · iexact H9
        ipureintro; exact h9
      isplitl [H15]; · iexists _; iexact H15
      isplitl [H16]; · iexists _; iexact H16
      isplitl [H17]
      · iexists _; isplitr; swap; · iexact H17
        ipureintro; exact (mixc_zero _ _).symm
      isplitl [H18]
      · iexists _; isplitr; swap; · iexact H18
        ipureintro; exact h18.trans (mixc_zero _ _).symm
      · iexists _; isplitr; swap; · iexact H19
        ipureintro; exact h19.trans (mixc_zero _ _).symm
    clear h2 h4 h5 h6 h7 h8 h9
    unfold outerInv owns
    iintro %acc ⟨⟨%f2', %h2, H2⟩, ⟨%f4', %h4, H4⟩, ⟨%f5', %h5, H5⟩, ⟨%f6', %h6, H6⟩, ⟨%f7', %h7, H7⟩, ⟨%f8', %h8, H8⟩, ⟨%f9', %h9, H9⟩, ⟨%f15', H15⟩, ⟨%f16', H16⟩, ⟨%g17, %k17, H17⟩, ⟨%g18, %k18, H18⟩, ⟨%g19, %k19, H19⟩⟩
    rw [mixc_all (by decide)] at k17 k18 k19
    have e17 : arg17.view.readAt (Elt F) (Rect.unit (s := S256x1024) ![0, 0] S256x1024.size inb_S256x1024_S256x1024_0_0).toLoadRect g17 = _ := (View.readAt_full _ _ _).trans k17
    have e2 : arg2.view.readAt (Elt F) (Rect.unit (s := S256x1024) ![0, 0] S256x1024.size inb_S256x1024_S256x1024_0_0).toLoadRect f2' = _ := (View.readAt_full _ _ _).trans h2
    have e3 : arg3.view.readAt (Elt F) (Rect.unit (s := S256x1024) ![0, 0] S256x1024.size inb_S256x1024_S256x1024_0_0).toLoadRect f3 = _ := (View.readAt_full _ _ _).trans h3
    have e10 : arg10.view.readAt (Elt F) (Rect.unit (s := S1x1024) ![0, 0] S1x1024.size inb_S1x1024_S1x1024_0_0).toLoadRect f10 = _ := (View.readAt_full _ _ _).trans h10
    have e11 : arg11.view.readAt (Elt F) (Rect.unit (s := S1x1024) ![0, 0] S1x1024.size inb_S1x1024_S1x1024_0_0).toLoadRect f11 = _ := (View.readAt_full _ _ _).trans h11
    have e18 : arg18.view.readAt (Elt F) (Rect.unit (s := S1x4096) ![0, 0] S1x4096.size inb_S1x4096_S1x4096_0_0).toLoadRect g18 = _ := (View.readAt_full _ _ _).trans k18
    have e19 : arg19.view.readAt (Elt F) (Rect.unit (s := S1x4096) ![0, 0] S1x4096.size inb_S1x4096_S1x4096_0_0).toLoadRect g19 = _ := (View.readAt_full _ _ _).trans k19
    sl_exec
    sl_step
    isplitl [H2]
    · iexists f2'; isplitr; swap; · iexact H2
      ipureintro; exact h2
    isplitl [H3]
    · iexists f3; isplitr; swap; · iexact H3
      ipureintro; exact h3
    isplitl [H4]
    · iexists f4'; isplitr; swap; · iexact H4
      ipureintro; exact h4
    isplitl [H5]
    · iexists f5'; isplitr; swap; · iexact H5
      ipureintro; exact h5
    isplitl [H6]
    · iexists f6'; isplitr; swap; · iexact H6
      ipureintro; exact h6
    isplitl [H7]
    · iexists f7'; isplitr; swap; · iexact H7
      ipureintro; exact h7
    isplitl [H8]
    · iexists f8'; isplitr; swap; · iexact H8
      ipureintro; exact h8
    isplitl [H9]
    · iexists f9'; isplitr; swap; · iexact H9
      ipureintro; exact h9
    isplitl [H10]
    · iexists f10; isplitr; swap; · iexact H10
      ipureintro; exact h10
    isplitl [H11]
    · iexists f11; isplitr; swap; · iexact H11
      ipureintro; exact h11
    isplitl [H12]
    · iexists _; isplitr; swap; · iexact H12
      ipureintro; sl_unfold_run_names; exact (View.read_writes_full _ _ _ _ _).trans rfl
    isplitl [H13]
    · iexists _; isplitr; swap; · iexact H13
      ipureintro; sl_unfold_run_names; exact (View.read_writes_full _ _ _ _ _).trans rfl
    isplitl [H14]
    · iexists _; isplitr; swap; · iexact H14
      ipureintro; sl_unfold_run_names; exact (View.read_writes_full _ _ _ _ _).trans rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; isplitr; swap; · iexact H18
      ipureintro; exact k18
    iexists _; isplitr; swap; · iexact H19
    ipureintro; exact k19

end Cert.Proof.Scan

end
-- ==== Proof.ScanFrame.lean ====
/-
  The scan's frame: the pipeline's proof data (the state carried from point to point by `stateAt`), the body's obligation at a
  point from `Scan.body_run`, the run of the launch and the frame.
-/
module

public import proofs.«01_k».proof.Proof.ScanBody
public import Idealize.ShloMosaic.Lib.Claim

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is a batch's first block when its number is a multiple of sixteen. -/
theorem first_iff (t : Fin cfg0.N) : first (grid0.coords t) ↔ t.val % 16 = 0 := by
  have ht : t.val < 64 := Nat.lt_of_lt_of_eq t.isLt N_0
  have e1 : (grid0.coords t 1).val = t.val / 1 % 16 := Pipeline.Grid.coords_val t 1 (by decide) rfl
  simp only [first, e1]
  word_cmp

/-- The inputs the scan reads at point `t`. -/
def insAt (c : Dev nD) (t : Fin cfg0.N) : Ins F where
  u := iblk m c 0 t
  w1 := iblk m c 2 t
  w2 := iblk m c 3 t
  lr := iblk m c 4 t
  li := iblk m c 5 t
  pr := iblk m c 6 t
  pi := iblk m c 7 t

/-- Point `n` of the grid, for any number. -/
def pt (n : ℕ) : Fin cfg0.N := ⟨n % 64, Nat.lt_of_lt_of_eq (Nat.mod_lt _ (by decide)) N_0.symm⟩

theorem pt_val (t : Fin cfg0.N) : pt t.val = t := Fin.ext (Nat.mod_eq_of_lt (Nat.lt_of_lt_of_eq t.isLt N_0))

/-- The state a point starts from, when the point before left `s`: nothing at a batch's first block. -/
def startOf (n : ℕ) (s : Vec F S1x4096 .f32 × Vec F S1x4096 .f32) : Vec F S1x4096 .f32 × Vec F S1x4096 .f32 := if n % 16 = 0 then (k0_pay37, k0_pay38) else s

/-- The state before point `n`. -/
def stateAt (c : Dev nD) : ℕ → Vec F S1x4096 .f32 × Vec F S1x4096 .f32
  | 0 => (k0_pay37, k0_pay38)
  | n + 1 => (newHr (insAt m c (pt n)) (startOf n (stateAt c n)).1 (startOf n (stateAt c n)).2, newHi (insAt m c (pt n)) (startOf n (stateAt c n)).1 (startOf n (stateAt c n)).2)

/-- The state point `t` starts from. -/
def startAt (c : Dev nD) (t : Fin cfg0.N) : Vec F S1x4096 .f32 × Vec F S1x4096 .f32 := startOf t.val (stateAt m c t.val)

theorem stateAt_succ (c : Dev nD) (t : Fin cfg0.N) : stateAt m c (t.val + 1) = (newHr (insAt m c t) (startAt m c t).1 (startAt m c t).2, newHi (insAt m c t) (startAt m c t).1 (startAt m c t).2) := by
  rw [stateAt, pt_val]; rfl

abbrev st0 (t : Fin cfg0.N) : Memref sig .tc .vmem S256x1024 .f32 := win0_0.stage (cfg0.slots t 0)
theorem wh0 (t : Fin cfg0.N) : (st0 t).IsWhole := hstage0_0 ((cfg0.slots t 0).cast nbuf0_0)
abbrev st1 (t : Fin cfg0.N) : Memref sig .tc .vmem S256x1024 .f32 := win0_1.stage (cfg0.slots t 1)
theorem wh1 (t : Fin cfg0.N) : (st1 t).IsWhole := hstage0_1 ((cfg0.slots t 1).cast nbuf0_1)
abbrev st2 (t : Fin cfg0.N) : Memref sig .tc .vmem S8x128x1024 .bf16 := win0_2.stage (cfg0.slots t 2)
theorem wh2 (t : Fin cfg0.N) : (st2 t).IsWhole := hstage0_2 ((cfg0.slots t 2).cast nbuf0_2)
abbrev st3 (t : Fin cfg0.N) : Memref sig .tc .vmem S8x1024x128 .bf16 := win0_3.stage (cfg0.slots t 3)
theorem wh3 (t : Fin cfg0.N) : (st3 t).IsWhole := hstage0_3 ((cfg0.slots t 3).cast nbuf0_3)
abbrev st4 (t : Fin cfg0.N) : Memref sig .tc .vmem S3x8x4096 .f32 := win0_4.stage (cfg0.slots t 4)
theorem wh4 (t : Fin cfg0.N) : (st4 t).IsWhole := hstage0_4 ((cfg0.slots t 4).cast nbuf0_4)
abbrev st5 (t : Fin cfg0.N) : Memref sig .tc .vmem S3x8x4096 .f32 := win0_5.stage (cfg0.slots t 5)
theorem wh5 (t : Fin cfg0.N) : (st5 t).IsWhole := hstage0_5 ((cfg0.slots t 5).cast nbuf0_5)
abbrev st6 (t : Fin cfg0.N) : Memref sig .tc .vmem S8x4096 .f32 := win0_6.stage (cfg0.slots t 6)
theorem wh6 (t : Fin cfg0.N) : (st6 t).IsWhole := hstage0_6 ((cfg0.slots t 6).cast nbuf0_6)
abbrev st7 (t : Fin cfg0.N) : Memref sig .tc .vmem S8x4096 .f32 := win0_7.stage (cfg0.slots t 7)
theorem wh7 (t : Fin cfg0.N) : (st7 t).IsWhole := hstage0_7 ((cfg0.slots t 7).cast nbuf0_7)
abbrev st8 (t : Fin cfg0.N) : Memref sig .tc .vmem S1x1024 .f32 := win0_8.stage (cfg0.slots t 8)
theorem wh8 (t : Fin cfg0.N) : (st8 t).IsWhole := hstage0_8 ((cfg0.slots t 8).cast nbuf0_8)
abbrev st9 (t : Fin cfg0.N) : Memref sig .tc .vmem S1x1024 .f32 := win0_9.stage (cfg0.slots t 9)
theorem wh9 (t : Fin cfg0.N) : (st9 t).IsWhole := hstage0_9 ((cfg0.slots t 9).cast nbuf0_9)
abbrev st10 (t : Fin cfg0.N) : Memref sig .tc .vmem S256x1024 .bf16 := win0_10.stage (cfg0.slots t 10)
theorem wh10 (t : Fin cfg0.N) : (st10 t).IsWhole := hstage0_10 ((cfg0.slots t 10).cast nbuf0_10)
abbrev st11 (t : Fin cfg0.N) : Memref sig .tc .vmem S1x1x4096 .f32 := win0_11.stage (cfg0.slots t 11)
theorem wh11 (t : Fin cfg0.N) : (st11 t).IsWhole := hstage0_11 ((cfg0.slots t 11).cast nbuf0_11)
abbrev st12 (t : Fin cfg0.N) : Memref sig .tc .vmem S1x1x4096 .f32 := win0_12.stage (cfg0.slots t 12)
theorem wh12 (t : Fin cfg0.N) : (st12 t).IsWhole := hstage0_12 ((cfg0.slots t 12).cast nbuf0_12)
abbrev sc0 : Memref sig .tc .vmem S256x512 .f32 := Memref.whole cc0_scratch0
abbrev sc1 : Memref sig .tc .vmem S256x512 .f32 := Memref.whole cc0_scratch1
abbrev sc2 : Memref sig .tc .vmem S256x1024 .f32 := Memref.whole cc0_scratch2
abbrev sc3 : Memref sig .tc .vmem S1x4096 .f32 := Memref.whole cc0_scratch3
abbrev sc4 : Memref sig .tc .vmem S1x4096 .f32 := Memref.whole cc0_scratch4

theorem rest_eq (c : Dev nD) : (Pipeline.ΦA spec0 c : sProp 𝕄) = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The invariant before point `n`: the carried scratch at the state before it. -/
def PhiS (c : Dev nD) : ℕ → sProp 𝕄
  | 0 => Pipeline.ΦA spec0 c
  | n + 1 => iprop(((∃ d, owns (c : Thread nD τ) sc0 fullShare d) ∗ (∃ d, owns (c : Thread nD τ) sc1 fullShare d) ∗ (∃ d, owns (c : Thread nD τ) sc2 fullShare d) ∗ owns (c : Thread nD τ) sc3 fullShare (stateAt m c (n + 1)).1 ∗ owns (c : Thread nD τ) sc4 fullShare (stateAt m c (n + 1)).2) ∗ (∃ r, prngReg c r))

theorem PhiS_out (c : Dev nD) (n : ℕ) : PhiS m c n ⊢ Pipeline.ΦA spec0 c := by
  cases n with
  | zero => exact .rfl
  | succ n =>
    rw [PhiS, rest_eq]
    iintro ⟨⟨H0, H1, H2, H3, H4⟩, Hg⟩
    isplitr [Hg]
    · isplitl [H0]; · iexact H0
      isplitl [H1]; · iexact H1
      isplitl [H2]; · iexact H2
      isplitl [H3]; · iexists _; iexact H3
      iexists _; iexact H4
    iexact Hg

/-- What the body leaves at point `t`. -/
def outAt (c : Dev nD) (t : Fin cfg0.N) : Vec F S256x1024 .bf16 := outO (insAt m c t) (iblk m c 1 t) (iblk m c 8 t) (iblk m c 9 t) (startAt m c t).1 (startAt m c t).2

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
    | ⟨11, _⟩ => k0_pay2 (stateAt m c (t.val + 1)).1
    | ⟨12, _⟩ => k0_pay3 (stateAt m c (t.val + 1)).2
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt m c t := by dsimp only [dats]
theorem after11 (c : Dev nD) (t : Fin cfg0.N) : (dats m 0 c).after 11 t = k0_pay2 (stateAt m c (t.val + 1)).1 := by dsimp only [dats]
theorem after12 (c : Dev nD) (t : Fin cfg0.N) : (dats m 0 c).after 12 t = k0_pay3 (stateAt m c (t.val + 1)).2 := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t))

/-- The state a point starts from: fresh at a batch's first block, else what the point before left. -/
theorem start_cases (c : Dev nD) (t : Fin cfg0.N) (s18 s19 : Vec F S1x4096 .f32) (h : t.val = 0 ∨ (s18 = (stateAt m c t.val).1 ∧ s19 = (stateAt m c t.val).2)) :
    (first (grid0.coords t) ∧ (startAt m c t).1 = k0_pay37 ∧ (startAt m c t).2 = k0_pay38) ∨ (¬ first (grid0.coords t) ∧ s18 = (startAt m c t).1 ∧ s19 = (startAt m c t).2) := by
  unfold startAt startOf
  by_cases h0 : t.val % 16 = 0
  · exact Or.inl ⟨(first_iff t).mpr h0, by rw [if_pos h0], by rw [if_pos h0]⟩
  · rcases h with h | h
    · exact absurd (by rw [h]) h0
    · exact Or.inr ⟨fun hf => h0 ((first_iff t).mp hf), by rw [if_neg h0]; exact h.1, by rw [if_neg h0]; exact h.2⟩

/-- The invariant before a point gives the scratch, the carried ones at contents `start_cases` takes. -/
theorem PhiS_in (c : Dev nD) (t : Fin cfg0.N) : PhiS m c t.val ⊢ iprop(∃ s18, ∃ s19, ⌜t.val = 0 ∨ (s18 = (stateAt m c t.val).1 ∧ s19 = (stateAt m c t.val).2)⌝
    ∗ ((∃ d, owns (c : Thread nD τ) sc0 fullShare d) ∗ (∃ d, owns (c : Thread nD τ) sc1 fullShare d) ∗ (∃ d, owns (c : Thread nD τ) sc2 fullShare d) ∗ owns (c : Thread nD τ) sc3 fullShare s18 ∗ owns (c : Thread nD τ) sc4 fullShare s19) ∗ (∃ r, prngReg c r)) := by
  obtain ⟨n, hn⟩ := t
  cases n with
  | zero =>
    rw [PhiS, rest_eq]
    iintro ⟨⟨H0, H1, H2, ⟨%d3, H3⟩, ⟨%d4, H4⟩⟩, Hg⟩
    iexists d3; iexists d4
    isplitr; · ipureintro; exact Or.inl rfl
    isplitr [Hg]
    · isplitl [H0]; · iexact H0
      isplitl [H1]; · iexact H1
      isplitl [H2]; · iexact H2
      isplitl [H3]; · iexact H3
      iexact H4
    iexact Hg
  | succ n =>
    rw [PhiS]
    iintro H
    iexists _; iexists _
    isplitr
    swap
    · iexact H
    · ipureintro; exact Or.inr ⟨rfl, rfl⟩

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = PhiS m c (t.val + 1) from rfl, show (dats m 0 c).Φ t.castSucc = PhiS m c t.val from rfl,
    show (dats m 0 c).owesAt () t.succ = (dats m 0 c).owesAt () t.castSucc from rfl,
    after0, after1, after2, after3, after4, after5, after6, after7, after8, after9, after10, after11, after12, PhiS, stateAt_succ]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HP := (PhiS_in m c t) $$ HP
  icases HP with ⟨%s18, %s19, %hs, ⟨S0, S1, S2, S3, S4⟩, Hg⟩
  iapply (wp_wand_r frame _ Set.univ)
  isplitl [H0 H1 H2 H3 H4 H5 H6 H7 H8 H9 H10 H11 H12 S0 S1 S2 S3 S4]
  · iapply (body_run c Set.univ (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) sc0 (Memref.isWhole_whole _) sc1 (Memref.isWhole_whole _) sc2 (Memref.isWhole_whole _) sc3 (Memref.isWhole_whole _) sc4 (Memref.isWhole_whole _)
      (insAt m c t) (iblk m c 1 t) (iblk m c 8 t) (iblk m c 9 t) _ _ _ s18 s19 (startAt m c t).1 (startAt m c t).2 (start_cases m c t s18 s19 hs))
    unfold bodyRes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    iexact S4
  unfold bodyRes
  iintro %r ⟨H0, H1, H2, H3, H4, H5, H6, H7, H8, H9, H10, H11, H12, S0, S1, S2, S3, S4⟩
  isplitl [S0 S1 S2 S3 S4 Hg]
  · isplitr [Hg]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hout (c : Dev nD) : (dats m 0 c).Φ (Fin.last cfg0.N) ⊢ Pipeline.ΦA spec0 c := PhiS_out m c (Fin.last cfg0.N).val

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := hout m)

theorem run_main : θ_run defs (onTc (τ := τ) (main (F := F))) (s₀ m ρ) (Pipeline.FramePost cfgs (dats m) 0 (V m)) :=
  (θ_run defs _ _).mono (fun _ h => h.1) (run_quiescent m ρ)

theorem scan_frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.Proof.Scan

end
-- ==== Proof.ScanHost.lean ====
/-
  The arrays the scan's region reads: each window's block at a grid point, and the weight, level and power arrays that the host
  operations before the region build, over the argument arrays.
-/
module

public import proofs.«01_k».proof.Proof.ScanFrame
public import proofs.«01_k».proof.Proof.ScanModel
public import Idealize.ShloMosaic.Lib.StableHlo.ReadAt
public import Idealize.ShloMosaic.Lib.Pointwise

@[expose] public section

set_option maxRecDepth 16384

noncomputable section

namespace Cert.Proof.Scan

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The arguments of the kernel's memory. -/
def arrK (c : Dev nD) : Arr where
  za r l := m ((c : Thread nD τ).loc main_arg0) (ix2 r l)
  pr t g p := m ((c : Thread nD τ).loc main_arg1) (ix3 t g p)
  pi t g p := m ((c : Thread nD τ).loc main_arg2) (ix3 t g p)
  br g p := m ((c : Thread nD τ).loc main_arg3) (ix2 g p)
  bi g p := m ((c : Thread nD τ).loc main_arg4) (ix2 g p)
  cr g h p := m ((c : Thread nD τ).loc main_arg5) (ix4 (0 : Fin 1) g h p)
  ci g h p := m ((c : Thread nD τ).loc main_arg6) (ix4 (0 : Fin 1) g h p)
  d l := m ((c : Thread nD τ).loc main_arg7) (ix2 (0 : Fin 1) l)
  g l := m ((c : Thread nD τ).loc main_arg8) (ix2 (0 : Fin 1) l)

/-! ## The host arrays -/

theorem pr_host (c : Dev nD) (t : Fin 8) (C : Fin 4096) :
    (V m c (Pipeline.arrRef spec0 6) : S8x4096.Idx → EReal) (ix2 t C) = (arrK m c).pr t (grp C) (mode C) := by
  unfold V hostOps0 hostOps0_1 hostOps0_2 hostOps0_3 hostOps0_4 hostOps0_5 hostOps0_6 hostOps0_7 hostOps0_8 hostOps0_9 hostOps0_10 hostOps0_11 hostOps0_12
  after_reads_at
  rfl

theorem pi_host (c : Dev nD) (t : Fin 8) (C : Fin 4096) :
    (V m c (Pipeline.arrRef spec0 7) : S8x4096.Idx → EReal) (ix2 t C) = (arrK m c).pi t (grp C) (mode C) := by
  unfold V hostOps0 hostOps0_1 hostOps0_2 hostOps0_3 hostOps0_4 hostOps0_5 hostOps0_6 hostOps0_7 hostOps0_8 hostOps0_9 hostOps0_10 hostOps0_11 hostOps0_12
  after_reads_at
  rfl

theorem sel_ge (a b : BitVec 32) (p : Prop) [Decidable p] (x y y' : EReal) (h : IntOp.cmpi CmpIPredicate.sge a b = if p then 1#1 else 0#1) (hy : y = y') :
    Scalar.select (IntOp.cmpi CmpIPredicate.sge a b) x y = if p then x else y' := by
  rw [h, hy]
  by_cases hp : p
  · simp [hp, Scalar.select]
  · simp [hp, Scalar.select]

theorem zero_at : (id (constant (F := Ideal) S_ FTy.f32 0#32) ix0 : EReal) = 0 := by
  show (constant (F := Ideal) S_ FTy.f32 0#32) ix0 = (0 : EReal)
  pointwise

theorem lr0_host (c : Dev nD) (t : Fin 8) (C : Fin 4096) :
    (V m c (Pipeline.arrRef spec0 4) : S3x8x4096.Idx → EReal) (ix3 (0 : Fin 3) t C) = if 1 ≤ t.val then (arrK m c).pr 0 (grp C) (mode C) else 0 := by
  unfold V hostOps0 hostOps0_1 hostOps0_2 hostOps0_3 hostOps0_4 hostOps0_5 hostOps0_6 hostOps0_7 hostOps0_8 hostOps0_9 hostOps0_10 hostOps0_11 hostOps0_12
  repeat after_reads_at
  refine sel_ge _ _ (1 ≤ t.val) _ _ _ ?_ zero_at
  revert t; decide

theorem lr1_host (c : Dev nD) (t : Fin 8) (C : Fin 4096) :
    (V m c (Pipeline.arrRef spec0 4) : S3x8x4096.Idx → EReal) (ix3 (1 : Fin 3) t C) = if 2 ≤ t.val then (arrK m c).pr 1 (grp C) (mode C) else 0 := by
  unfold V hostOps0 hostOps0_1 hostOps0_2 hostOps0_3 hostOps0_4 hostOps0_5 hostOps0_6 hostOps0_7 hostOps0_8 hostOps0_9 hostOps0_10 hostOps0_11 hostOps0_12
  repeat after_reads_at
  refine sel_ge _ _ (2 ≤ t.val) _ _ _ ?_ zero_at
  revert t; decide

theorem lr2_host (c : Dev nD) (t : Fin 8) (C : Fin 4096) :
    (V m c (Pipeline.arrRef spec0 4) : S3x8x4096.Idx → EReal) (ix3 (2 : Fin 3) t C) = if 4 ≤ t.val then (arrK m c).pr 3 (grp C) (mode C) else 0 := by
  unfold V hostOps0 hostOps0_1 hostOps0_2 hostOps0_3 hostOps0_4 hostOps0_5 hostOps0_6 hostOps0_7 hostOps0_8 hostOps0_9 hostOps0_10 hostOps0_11 hostOps0_12
  repeat after_reads_at
  refine sel_ge _ _ (4 ≤ t.val) _ _ _ ?_ zero_at
  revert t; decide

theorem li0_host (c : Dev nD) (t : Fin 8) (C : Fin 4096) :
    (V m c (Pipeline.arrRef spec0 5) : S3x8x4096.Idx → EReal) (ix3 (0 : Fin 3) t C) = if 1 ≤ t.val then (arrK m c).pi 0 (grp C) (mode C) else 0 := by
  unfold V hostOps0 hostOps0_1 hostOps0_2 hostOps0_3 hostOps0_4 hostOps0_5 hostOps0_6 hostOps0_7 hostOps0_8 hostOps0_9 hostOps0_10 hostOps0_11 hostOps0_12
  repeat after_reads_at
  refine sel_ge _ _ (1 ≤ t.val) _ _ _ ?_ zero_at
  revert t; decide

theorem li1_host (c : Dev nD) (t : Fin 8) (C : Fin 4096) :
    (V m c (Pipeline.arrRef spec0 5) : S3x8x4096.Idx → EReal) (ix3 (1 : Fin 3) t C) = if 2 ≤ t.val then (arrK m c).pi 1 (grp C) (mode C) else 0 := by
  unfold V hostOps0 hostOps0_1 hostOps0_2 hostOps0_3 hostOps0_4 hostOps0_5 hostOps0_6 hostOps0_7 hostOps0_8 hostOps0_9 hostOps0_10 hostOps0_11 hostOps0_12
  repeat after_reads_at
  refine sel_ge _ _ (2 ≤ t.val) _ _ _ ?_ zero_at
  revert t; decide

theorem li2_host (c : Dev nD) (t : Fin 8) (C : Fin 4096) :
    (V m c (Pipeline.arrRef spec0 5) : S3x8x4096.Idx → EReal) (ix3 (2 : Fin 3) t C) = if 4 ≤ t.val then (arrK m c).pi 3 (grp C) (mode C) else 0 := by
  unfold V hostOps0 hostOps0_1 hostOps0_2 hostOps0_3 hostOps0_4 hostOps0_5 hostOps0_6 hostOps0_7 hostOps0_8 hostOps0_9 hostOps0_10 hostOps0_11 hostOps0_12
  repeat after_reads_at
  refine sel_ge _ _ (4 ≤ t.val) _ _ _ ?_ zero_at
  revert t; decide

/-- The block-diagonal pattern's element. -/
theorem eye_at (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal) = if a = b then 1 else 0 := by
  have h : IntOp.cmpi CmpIPredicate.eq (IntOp.addi (BitVec.ofNat 32 a) 0#32) (BitVec.ofNat 32 b) = if a = b then 1#1 else 0#1 := by
    have : ∀ a b : Fin 8, IntOp.cmpi CmpIPredicate.eq (IntOp.addi (BitVec.ofNat 32 a.val) 0#32) (BitVec.ofNat 32 b.val) = if a.val = b.val then 1#1 else 0#1 := by decide
    exact this ⟨a, ha⟩ ⟨b, hb⟩
  rw [h]
  show (((if a = b then 1#1 else 0#1 : BitVec 1).toNat : ℝ) : EReal) = _
  by_cases e : a = b
  · simp [e]
  · simp [e]

theorem lo_lt (l : Fin 512) : l.val < 1024 := by have := l.isLt; omega
theorem hi_lt (l : Fin 512) : 512 + l.val < 1024 := by have := l.isLt; omega
theorem g8_lt (j a : Fin 8) : j.val * 8 + a.val < 64 := by have := j.isLt; have := a.isLt; omega
theorem m64_lt (l : Fin 512) : l.val % 64 < 64 := Nat.mod_lt _ (by decide)

/-- A column's place among the real and among the imaginary parts; the group of a chunk's place; a column's mode. -/
def lo (l : Fin 512) : Fin 1024 := ⟨l.val, lo_lt l⟩
def hi (l : Fin 512) : Fin 1024 := ⟨512 + l.val, hi_lt l⟩
def g8 (j a : Fin 8) : Fin 64 := ⟨j.val * 8 + a.val, g8_lt j a⟩
def m64 (l : Fin 512) : Fin 64 := ⟨l.val % 64, m64_lt l⟩

theorem dite_lo {l : Fin 512} {n : ℕ} (hn : n = l.val) (x : n < 512 → EReal) (y : ¬ n < 512 → EReal) (z : EReal)
    (h : ∀ e, x e = z) : (if e : n < 512 then x e else y e) = z := by
  have e : n < 512 := by have := l.isLt; omega
  rw [dif_pos e]; exact h e

theorem dite_hi {l : Fin 512} {n : ℕ} (hn : n = 512 + l.val) (x : n < 512 → EReal) (y : ¬ n < 512 → EReal) (z : EReal)
    (h : ∀ e, y e = z) : (if e : n < 512 then x e else y e) = z := by
  have e : ¬ n < 512 := by omega
  rw [dif_neg e]; exact h e

theorem w1R_host (c : Dev nD) (j : Fin 8) (q : Fin 128) (l : Fin 512) (a : Fin 8) (h : Fin 16) (ha : q.val / 16 = a.val) (hh : q.val % 16 = h.val) :
    (V m c (Pipeline.arrRef spec0 2) : S8x128x1024.Idx → EReal) (ix3 j q (lo l))
      = (arrK m c).br (g8 j a) (bcol (m64 l) h) * (if a.val = l.val / 64 then 1 else 0) := by
  unfold V hostOps0 hostOps0_1 hostOps0_2 hostOps0_3 hostOps0_4 hostOps0_5 hostOps0_6 hostOps0_7 hostOps0_8 hostOps0_9 hostOps0_10 hostOps0_11 hostOps0_12
  repeat after_reads_at
  have hq := q.isLt
  have hl := l.isLt
  refine dite_lo (l := l) (rfl : (lo l).val = l.val) _ _ _ fun e => ?_
  refine congrArg₂ (· * ·) (congrArg _ (congrArg₂ ix2 (Fin.ext ?_) (Fin.ext ?_))) ((eye_at _ _ ?_ ?_).trans ?_)
  · show j.val * 8 + q.val / 16 = j.val * 8 + a.val
    rw [ha]
  · show l.val % 64 * 16 + q.val % 16 = l.val % 64 * 16 + h.val
    rw [hh]
  · omega
  · show l.val / 64 < 8
    omega
  · have e2 : l.val / 64 = l.val / 64 := by omega
    show (if q.val / 16 = l.val / 64 then (1 : EReal) else 0) = _
    rw [ha, e2]

theorem w1I_host (c : Dev nD) (j : Fin 8) (q : Fin 128) (l : Fin 512) (a : Fin 8) (h : Fin 16) (ha : q.val / 16 = a.val) (hh : q.val % 16 = h.val) :
    (V m c (Pipeline.arrRef spec0 2) : S8x128x1024.Idx → EReal) (ix3 j q (hi l))
      = (arrK m c).bi (g8 j a) (bcol (m64 l) h) * (if a.val = l.val / 64 then 1 else 0) := by
  unfold V hostOps0 hostOps0_1 hostOps0_2 hostOps0_3 hostOps0_4 hostOps0_5 hostOps0_6 hostOps0_7 hostOps0_8 hostOps0_9 hostOps0_10 hostOps0_11 hostOps0_12
  repeat after_reads_at
  have hq := q.isLt
  have hl := l.isLt
  refine dite_hi (l := l) (rfl : (hi l).val = 512 + l.val) _ _ _ fun e => ?_
  refine congrArg₂ (· * ·) (congrArg _ (congrArg₂ ix2 (Fin.ext ?_) (Fin.ext ?_))) ((eye_at _ _ ?_ ?_).trans ?_)
  · show j.val * 8 + q.val / 16 = j.val * 8 + a.val
    rw [ha]
  · show (512 + l.val - 512) % 64 * 16 + q.val % 16 = l.val % 64 * 16 + h.val
    rw [hh] <;> omega
  · omega
  · show (512 + l.val - 512) / 64 < 8
    omega
  · have e2 : (512 + l.val - 512) / 64 = l.val / 64 := by omega
    show (if q.val / 16 = (512 + l.val - 512) / 64 then (1 : EReal) else 0) = _
    rw [ha, e2]

theorem w2R_host (c : Dev nD) (j : Fin 8) (l : Fin 512) (C : Fin 128) (a : Fin 8) (p : Fin 64) (b : Fin 8) (h : Fin 16) (ha : l.val / 64 = a.val) (hp : l.val % 64 = p.val)
    (hb : C.val / 16 = b.val) (hh : C.val % 16 = h.val) :
    (V m c (Pipeline.arrRef spec0 3) : S8x1024x128.Idx → EReal) (ix3 j (lo l) C)
      = (arrK m c).cr (g8 j a) h p * (if a.val = b.val then 1 else 0) := by
  unfold V hostOps0 hostOps0_1 hostOps0_2 hostOps0_3 hostOps0_4 hostOps0_5 hostOps0_6 hostOps0_7 hostOps0_8 hostOps0_9 hostOps0_10 hostOps0_11 hostOps0_12
  repeat after_reads_at
  have hq := C.isLt
  have hl := l.isLt
  refine dite_lo (l := l) (rfl : (lo l).val = l.val) _ _ _ fun e => ?_
  refine congrArg₂ (· * ·) (congrArg _ (congr (congr (congrArg (ix4 (0 : Fin 1)) (Fin.ext ?_)) (Fin.ext ?_)) (Fin.ext ?_))) ((eye_at _ _ ?_ ?_).trans ?_)
  · show j.val * 8 + l.val / 64 = j.val * 8 + a.val
    omega
  · exact hh
  · show l.val % 64 = p.val
    omega
  · show l.val / 64 < 8
    omega
  · omega
  · have e2 : l.val / 64 = a.val := by omega
    show (if l.val / 64 = C.val / 16 then (1 : EReal) else 0) = _
    rw [hb, e2]

theorem w2I_host (c : Dev nD) (j : Fin 8) (l : Fin 512) (C : Fin 128) (a : Fin 8) (p : Fin 64) (b : Fin 8) (h : Fin 16) (ha : l.val / 64 = a.val) (hp : l.val % 64 = p.val)
    (hb : C.val / 16 = b.val) (hh : C.val % 16 = h.val) :
    (V m c (Pipeline.arrRef spec0 3) : S8x1024x128.Idx → EReal) (ix3 j (hi l) C)
      = -(arrK m c).ci (g8 j a) h p * (if a.val = b.val then 1 else 0) := by
  unfold V hostOps0 hostOps0_1 hostOps0_2 hostOps0_3 hostOps0_4 hostOps0_5 hostOps0_6 hostOps0_7 hostOps0_8 hostOps0_9 hostOps0_10 hostOps0_11 hostOps0_12
  repeat after_reads_at
  have hq := C.isLt
  have hl := l.isLt
  refine dite_hi (l := l) (rfl : (hi l).val = 512 + l.val) _ _ _ fun e => ?_
  refine congrArg₂ (· * ·) (congrArg Neg.neg (congrArg _ (congr (congr (congrArg (ix4 (0 : Fin 1)) (Fin.ext ?_)) (Fin.ext ?_)) (Fin.ext ?_)))) ((eye_at _ _ ?_ ?_).trans ?_)
  · show j.val * 8 + (512 + l.val - 512) / 64 = j.val * 8 + a.val
    omega
  · exact hh
  · show (512 + l.val - 512) % 64 = p.val
    omega
  · show (512 + l.val - 512) / 64 < 8
    omega
  · omega
  · have e2 : (512 + l.val - 512) / 64 = a.val := by omega
    show (if (512 + l.val - 512) / 64 = C.val / 16 then (1 : EReal) else 0) = _
    rw [hb, e2]

theorem d_host (c : Dev nD) (l : Fin 1024) :
    (V m c (Pipeline.arrRef spec0 8) : S1x1024.Idx → EReal) (ix2 (0 : Fin 1) l) = (arrK m c).d l := by
  unfold V hostOps0 hostOps0_1 hostOps0_2 hostOps0_3 hostOps0_4 hostOps0_5 hostOps0_6 hostOps0_7 hostOps0_8 hostOps0_9 hostOps0_10 hostOps0_11 hostOps0_12
  after_reads_at
  rfl

theorem g_host (c : Dev nD) (l : Fin 1024) :
    (V m c (Pipeline.arrRef spec0 9) : S1x1024.Idx → EReal) (ix2 (0 : Fin 1) l) = (arrK m c).g l := by
  unfold V hostOps0 hostOps0_1 hostOps0_2 hostOps0_3 hostOps0_4 hostOps0_5 hostOps0_6 hostOps0_7 hostOps0_8 hostOps0_9 hostOps0_10 hostOps0_11 hostOps0_12
  after_reads_at
  rfl

/-! ## The windows' blocks -/

/-- Where each window's block stands at each point. -/
theorem idx_facts : ∀ t : Fin cfg0.N,
    (win0_0.index t 0 = t.val ∧ win0_0.index t 1 = 0) ∧ (win0_1.index t 0 = t.val ∧ win0_1.index t 1 = 1)
    ∧ (win0_2.index t 0 = 0 ∧ win0_2.index t 1 = 0 ∧ win0_2.index t 2 = 0) ∧ (win0_3.index t 0 = 0 ∧ win0_3.index t 1 = 0 ∧ win0_3.index t 2 = 0)
    ∧ (win0_4.index t 0 = 0 ∧ win0_4.index t 1 = 0 ∧ win0_4.index t 2 = 0) ∧ (win0_5.index t 0 = 0 ∧ win0_5.index t 1 = 0 ∧ win0_5.index t 2 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = t.val ∧ win0_10.index t 1 = 0)
    ∧ (win0_11.index t 0 = t.val / 16 ∧ win0_11.index t 1 = 0 ∧ win0_11.index t 2 = 0)
    ∧ (win0_12.index t 0 = t.val / 16 ∧ win0_12.index t 1 = 0 ∧ win0_12.index t 2 = 0) :=
  (by decide +kernel : ∀ t : Fin grid0.N, _)

theorem brow_lt (t : Fin cfg0.N) (r : Fin 256) : 256 * t.val + r.val < 16384 := by have h : t.val < 64 := t.isLt; have := r.isLt; omega

/-- The array row under row `r` of block `t`. -/
def brow (t : Fin cfg0.N) (r : Fin 256) : Fin 16384 := ⟨256 * t.val + r.val, brow_lt t r⟩

theorem blk0 (c : Dev nD) (t : Fin cfg0.N) (r : Fin 256) (l : Fin 1024) :
    (iblk m c 0 t : Vec Ideal S256x1024 .f32) (ix2 r l) = (arrK m c).za (brow t r) (wide l) := by
  obtain ⟨⟨e0, e1⟩, -⟩ := idx_facts t
  unfold iblk
  rw [View.read_apply]
  have hi : ((cfg0.win 0).blk t).view.emb (ix2 r l) = (ix2 (brow t r) (wide l)) := by
    funext a
    apply Fin.ext
    match a with
    | ⟨0, _⟩ => show win0_0.index t 0 * 256 + 1 * (r.val : Nat) = 256 * t.val + r.val; rw [e0] <;> omega
    | ⟨1, _⟩ => show win0_0.index t 1 * 1024 + 1 * (l.val : Nat) = l.val; rw [e1] <;> omega
  rw [hi]
  show V m c main_arg0 (ix2 (brow t r) (wide l)) = _
  rw [V_main_arg0]
  rfl

theorem blk1 (c : Dev nD) (t : Fin cfg0.N) (r : Fin 256) (l : Fin 1024) :
    (iblk m c 1 t : Vec Ideal S256x1024 .f32) (ix2 r l) = (arrK m c).za (brow t r) (gatec l) := by
  obtain ⟨-, ⟨e0, e1⟩, -⟩ := idx_facts t
  unfold iblk
  rw [View.read_apply]
  have hi : ((cfg0.win 1).blk t).view.emb (ix2 r l) = (ix2 (brow t r) (gatec l)) := by
    funext a
    apply Fin.ext
    match a with
    | ⟨0, _⟩ => show win0_1.index t 0 * 256 + 1 * (r.val : Nat) = 256 * t.val + r.val; rw [e0] <;> omega
    | ⟨1, _⟩ => show win0_1.index t 1 * 1024 + 1 * (l.val : Nat) = 1024 + l.val; rw [e1] <;> omega
  rw [hi]
  show V m c main_arg0 (ix2 (brow t r) (gatec l)) = _
  rw [V_main_arg0]
  rfl

theorem blk2 (c : Dev nD) (t : Fin cfg0.N) (j : Fin 8) (q : Fin 128) (l : Fin 1024) :
    (iblk m c 2 t : Vec Ideal S8x128x1024 .bf16) (ix3 j q l) = (V m c (Pipeline.arrRef spec0 2) : S8x128x1024.Idx → EReal) (ix3 j q l) := by
  obtain ⟨-, -, ⟨e0, e1, e2⟩, -⟩ := idx_facts t
  unfold iblk
  rw [View.read_apply]
  have hi : ((cfg0.win 2).blk t).view.emb (ix3 j q l) = (ix3 j q l) := by
    funext a
    apply Fin.ext
    match a with
    | ⟨0, _⟩ => show win0_2.index t 0 * 8 + 1 * (j.val : Nat) = j.val; rw [e0] <;> omega
    | ⟨1, _⟩ => show win0_2.index t 1 * 128 + 1 * (q.val : Nat) = q.val; rw [e1] <;> omega
    | ⟨2, _⟩ => show win0_2.index t 2 * 1024 + 1 * (l.val : Nat) = l.val; rw [e2] <;> omega
  exact congrArg (V m c (Pipeline.arrRef spec0 2) : S8x128x1024.Idx → EReal) hi

theorem blk3 (c : Dev nD) (t : Fin cfg0.N) (j : Fin 8) (q : Fin 1024) (l : Fin 128) :
    (iblk m c 3 t : Vec Ideal S8x1024x128 .bf16) (ix3 j q l) = (V m c (Pipeline.arrRef spec0 3) : S8x1024x128.Idx → EReal) (ix3 j q l) := by
  obtain ⟨-, -, -, ⟨e0, e1, e2⟩, -⟩ := idx_facts t
  unfold iblk
  rw [View.read_apply]
  have hi : ((cfg0.win 3).blk t).view.emb (ix3 j q l) = (ix3 j q l) := by
    funext a
    apply Fin.ext
    match a with
    | ⟨0, _⟩ => show win0_3.index t 0 * 8 + 1 * (j.val : Nat) = j.val; rw [e0] <;> omega
    | ⟨1, _⟩ => show win0_3.index t 1 * 1024 + 1 * (q.val : Nat) = q.val; rw [e1] <;> omega
    | ⟨2, _⟩ => show win0_3.index t 2 * 128 + 1 * (l.val : Nat) = l.val; rw [e2] <;> omega
  exact congrArg (V m c (Pipeline.arrRef spec0 3) : S8x1024x128.Idx → EReal) hi

theorem blk4 (c : Dev nD) (t : Fin cfg0.N) (j : Fin 3) (q : Fin 8) (l : Fin 4096) :
    (iblk m c 4 t : Vec Ideal S3x8x4096 .f32) (ix3 j q l) = (V m c (Pipeline.arrRef spec0 4) : S3x8x4096.Idx → EReal) (ix3 j q l) := by
  obtain ⟨-, -, -, -, ⟨e0, e1, e2⟩, -⟩ := idx_facts t
  unfold iblk
  rw [View.read_apply]
  have hi : ((cfg0.win 4).blk t).view.emb (ix3 j q l) = (ix3 j q l) := by
    funext a
    apply Fin.ext
    match a with
    | ⟨0, _⟩ => show win0_4.index t 0 * 3 + 1 * (j.val : Nat) = j.val; rw [e0] <;> omega
    | ⟨1, _⟩ => show win0_4.index t 1 * 8 + 1 * (q.val : Nat) = q.val; rw [e1] <;> omega
    | ⟨2, _⟩ => show win0_4.index t 2 * 4096 + 1 * (l.val : Nat) = l.val; rw [e2] <;> omega
  exact congrArg (V m c (Pipeline.arrRef spec0 4) : S3x8x4096.Idx → EReal) hi

theorem blk5 (c : Dev nD) (t : Fin cfg0.N) (j : Fin 3) (q : Fin 8) (l : Fin 4096) :
    (iblk m c 5 t : Vec Ideal S3x8x4096 .f32) (ix3 j q l) = (V m c (Pipeline.arrRef spec0 5) : S3x8x4096.Idx → EReal) (ix3 j q l) := by
  obtain ⟨-, -, -, -, -, ⟨e0, e1, e2⟩, -⟩ := idx_facts t
  unfold iblk
  rw [View.read_apply]
  have hi : ((cfg0.win 5).blk t).view.emb (ix3 j q l) = (ix3 j q l) := by
    funext a
    apply Fin.ext
    match a with
    | ⟨0, _⟩ => show win0_5.index t 0 * 3 + 1 * (j.val : Nat) = j.val; rw [e0] <;> omega
    | ⟨1, _⟩ => show win0_5.index t 1 * 8 + 1 * (q.val : Nat) = q.val; rw [e1] <;> omega
    | ⟨2, _⟩ => show win0_5.index t 2 * 4096 + 1 * (l.val : Nat) = l.val; rw [e2] <;> omega
  exact congrArg (V m c (Pipeline.arrRef spec0 5) : S3x8x4096.Idx → EReal) hi

theorem blk6 (c : Dev nD) (t : Fin cfg0.N) (q : Fin 8) (l : Fin 4096) :
    (iblk m c 6 t : Vec Ideal S8x4096 .f32) (ix2 q l) = (V m c (Pipeline.arrRef spec0 6) : S8x4096.Idx → EReal) (ix2 q l) := by
  obtain ⟨-, -, -, -, -, -, ⟨e0, e1⟩, -⟩ := idx_facts t
  unfold iblk
  rw [View.read_apply]
  have hi : ((cfg0.win 6).blk t).view.emb (ix2 q l) = (ix2 q l) := by
    funext a
    apply Fin.ext
    match a with
    | ⟨0, _⟩ => show win0_6.index t 0 * 8 + 1 * (q.val : Nat) = q.val; rw [e0] <;> omega
    | ⟨1, _⟩ => show win0_6.index t 1 * 4096 + 1 * (l.val : Nat) = l.val; rw [e1] <;> omega
  exact congrArg (V m c (Pipeline.arrRef spec0 6) : S8x4096.Idx → EReal) hi

theorem blk7 (c : Dev nD) (t : Fin cfg0.N) (q : Fin 8) (l : Fin 4096) :
    (iblk m c 7 t : Vec Ideal S8x4096 .f32) (ix2 q l) = (V m c (Pipeline.arrRef spec0 7) : S8x4096.Idx → EReal) (ix2 q l) := by
  obtain ⟨-, -, -, -, -, -, -, ⟨e0, e1⟩, -⟩ := idx_facts t
  unfold iblk
  rw [View.read_apply]
  have hi : ((cfg0.win 7).blk t).view.emb (ix2 q l) = (ix2 q l) := by
    funext a
    apply Fin.ext
    match a with
    | ⟨0, _⟩ => show win0_7.index t 0 * 8 + 1 * (q.val : Nat) = q.val; rw [e0] <;> omega
    | ⟨1, _⟩ => show win0_7.index t 1 * 4096 + 1 * (l.val : Nat) = l.val; rw [e1] <;> omega
  exact congrArg (V m c (Pipeline.arrRef spec0 7) : S8x4096.Idx → EReal) hi

theorem blk8 (c : Dev nD) (t : Fin cfg0.N) (q : Fin 1) (l : Fin 1024) :
    (iblk m c 8 t : Vec Ideal S1x1024 .f32) (ix2 q l) = (V m c (Pipeline.arrRef spec0 8) : S1x1024.Idx → EReal) (ix2 q l) := by
  obtain ⟨-, -, -, -, -, -, -, -, ⟨e0, e1⟩, -⟩ := idx_facts t
  unfold iblk
  rw [View.read_apply]
  have hi : ((cfg0.win 8).blk t).view.emb (ix2 q l) = (ix2 q l) := by
    funext a
    apply Fin.ext
    match a with
    | ⟨0, _⟩ => show win0_8.index t 0 * 1 + 1 * (q.val : Nat) = q.val; rw [e0] <;> omega
    | ⟨1, _⟩ => show win0_8.index t 1 * 1024 + 1 * (l.val : Nat) = l.val; rw [e1] <;> omega
  exact congrArg (V m c (Pipeline.arrRef spec0 8) : S1x1024.Idx → EReal) hi

theorem blk9 (c : Dev nD) (t : Fin cfg0.N) (q : Fin 1) (l : Fin 1024) :
    (iblk m c 9 t : Vec Ideal S1x1024 .f32) (ix2 q l) = (V m c (Pipeline.arrRef spec0 9) : S1x1024.Idx → EReal) (ix2 q l) := by
  obtain ⟨-, -, -, -, -, -, -, -, -, ⟨e0, e1⟩, -⟩ := idx_facts t
  unfold iblk
  rw [View.read_apply]
  have hi : ((cfg0.win 9).blk t).view.emb (ix2 q l) = (ix2 q l) := by
    funext a
    apply Fin.ext
    match a with
    | ⟨0, _⟩ => show win0_9.index t 0 * 1 + 1 * (q.val : Nat) = q.val; rw [e0] <;> omega
    | ⟨1, _⟩ => show win0_9.index t 1 * 1024 + 1 * (l.val : Nat) = l.val; rw [e1] <;> omega
  exact congrArg (V m c (Pipeline.arrRef spec0 9) : S1x1024.Idx → EReal) hi

end Cert.Proof.Scan

end
-- ==== Proof.ScanPay.lean ====
/-
  The scan kernel's payloads at an index, in exact arithmetic, over whatever arrays they read.
-/
module

public import proofs.«01_k».proof.Proof.ScanFrame
public import proofs.«01_k».proof.Proof.ScanModel
public import Idealize.ShloMosaic.Lib.Pointwise

@[expose] public section

set_option maxRecDepth 16384

noncomputable section

namespace Cert.Proof.Scan

open Cert.KernelIdeal Cert.KernelIdeal.Gen
open Idealize.ShloMosaic Idealize.ShloMosaic.TcCoe Idealize.SL.Sem
open scoped BigOperators

/-! ## The windows -/

theorem cu_lt (k : Fin 8) (q : Fin 128) : 128 * k.val + q.val < 1024 := by have := k.isLt; have := q.isLt; omega
theorem cs_lt (k : Fin 8) (l : Fin 512) : 512 * k.val + l.val < 4096 := by have := k.isLt; have := l.isLt; omega

/-- Column `q` of chunk `k`, among the inputs and among the states. -/
def ucol (k : Fin 8) (q : Fin 128) : Fin 1024 := ⟨128 * k.val + q.val, cu_lt k q⟩
def scol (k : Fin 8) (l : Fin 512) : Fin 4096 := ⟨512 * k.val + l.val, cs_lt k l⟩

theorem uC_at (u : Vec Ideal S256x1024 .f32) (k : Fin 8) (r : Fin 256) (q : Fin 128) : uC u k.val (ix2 r q) = u (ix2 r (ucol k q)) := by
  refine congrArg u (funext fun a => Fin.ext ?_)
  match a with
  | ⟨0, _⟩ => show 0 + 1 * r.val = r.val; omega
  | ⟨1, _⟩ => show 128 * (k.val % 8) + 1 * q.val = 128 * k.val + q.val; have := k.isLt; omega
theorem w1C_at (w : Vec Ideal S8x128x1024 .bf16) (k : Fin 8) (q : Fin 128) (l : Fin 1024) : w1C w k.val (ix3 (0 : Fin 1) q l) = w (ix3 k q l) := by
  refine congrArg w (funext fun a => Fin.ext ?_)
  match a with
  | ⟨0, _⟩ => show k.val % 8 + 1 * 0 = k.val; have := k.isLt; omega
  | ⟨1, _⟩ => show 0 + 1 * q.val = q.val; omega
  | ⟨2, _⟩ => show 0 + 1 * l.val = l.val; omega
theorem w2C_at (w : Vec Ideal S8x1024x128 .bf16) (k : Fin 8) (q : Fin 1024) (l : Fin 128) : w2C w k.val (ix3 (0 : Fin 1) q l) = w (ix3 k q l) := by
  refine congrArg w (funext fun a => Fin.ext ?_)
  match a with
  | ⟨0, _⟩ => show k.val % 8 + 1 * 0 = k.val; have := k.isLt; omega
  | ⟨1, _⟩ => show 0 + 1 * q.val = q.val; omega
  | ⟨2, _⟩ => show 0 + 1 * l.val = l.val; omega
theorem lC_at (w : Vec Ideal S3x8x4096 .f32) (n : Fin 3) (k : Fin 8) (t : Fin 8) (l : Fin 512) : lC w n k.val (ix3 (0 : Fin 1) t l) = w (ix3 n t (scol k l)) := by
  refine congrArg w (funext fun a => Fin.ext ?_)
  match a with
  | ⟨0, _⟩ => show n.val + 1 * 0 = n.val; omega
  | ⟨1, _⟩ => show 0 + 1 * t.val = t.val; omega
  | ⟨2, _⟩ => show 512 * (k.val % 8) + 1 * l.val = 512 * k.val + l.val; have := k.isLt; omega
theorem pC_at (w : Vec Ideal S8x4096 .f32) (k : Fin 8) (t : Fin 8) (l : Fin 512) : pC w k.val (ix2 t l) = w (ix2 t (scol k l)) := by
  refine congrArg w (funext fun a => Fin.ext ?_)
  match a with
  | ⟨0, _⟩ => show 0 + 1 * t.val = t.val; omega
  | ⟨1, _⟩ => show 512 * (k.val % 8) + 1 * l.val = 512 * k.val + l.val; have := k.isLt; omega
theorem hC_at (w : Vec Ideal S1x4096 .f32) (k : Fin 8) (l : Fin 512) : hC w k.val (ix2 (0 : Fin 1) l) = w (ix2 (0 : Fin 1) (scol k l)) := by
  refine congrArg w (funext fun a => Fin.ext ?_)
  match a with
  | ⟨0, _⟩ => show 0 + 1 * 0 = 0; omega
  | ⟨1, _⟩ => show 512 * (k.val % 8) + 1 * l.val = 512 * k.val + l.val; have := k.isLt; omega

theorem r32_lt (q : Fin 32) (t : Fin 8) : q.val * 8 + t.val < 256 := by have := q.isLt; have := t.isLt; omega

/-- Row `t` of tile `q`. -/
def r32 (q : Fin 32) (t : Fin 8) : Fin 256 := ⟨q.val * 8 + t.val, r32_lt q t⟩

theorem tile_at (X : Vec Ideal S256x512 .f32) (q : Fin 32) (t : Fin 8) (l : Fin 512) : tile X q.val (ix2 t l) = X (ix2 (r32 q t) l) := by
  refine congrArg X (funext fun a => Fin.ext ?_)
  match a with
  | ⟨0, _⟩ => show 8 * (q.val % 32) + 1 * t.val = q.val * 8 + t.val; have := q.isLt; omega
  | ⟨1, _⟩ => show 0 + 1 * l.val = l.val; omega

theorem at2_eq {R C : ℕ} (r : Fin R) (c : Fin C) : (at2 r c : (Mat R C).Idx) = ix2 r c := by
  funext a
  match a with
  | ⟨0, _⟩ => rfl
  | ⟨1, _⟩ => rfl

/-! ## The payloads -/

theorem lo_ix (l : Fin 512) : l.val < 1024 := by have := l.isLt; omega
theorem hi_ix (l : Fin 512) : 512 + l.val < 1024 := by have := l.isLt; omega

theorem pay5_at (u : Vec Ideal S256x128 .f32) (w : Vec Ideal S1x128x1024 .bf16) (q : Fin 32) (t : Fin 8) (l : Fin 512) :
    k0_pay5 u w (ix3 q t l) = ∑ x : Fin 128, (u (ix2 (r32 q t) x) * w (ix3 (0 : Fin 1) x ⟨l.val, lo_ix l⟩) : EReal) := by
  unfold_payloads
  pointwise
  rfl
theorem pay6_at (u : Vec Ideal S256x128 .f32) (w : Vec Ideal S1x128x1024 .bf16) (q : Fin 32) (t : Fin 8) (l : Fin 512) :
    k0_pay6 u w (ix3 q t l) = ∑ x : Fin 128, (u (ix2 (r32 q t) x) * w (ix3 (0 : Fin 1) x ⟨512 + l.val, hi_ix l⟩) : EReal) := by
  unfold_payloads
  pointwise
  rfl

theorem pay11_at (u : Vec Ideal S256x128 .f32) (w : Vec Ideal S1x128x1024 .bf16) (a b : Vec Ideal S1x8x512 .f32) (q : Fin 32) (t : Fin 8) (l : Fin 512) :
    k0_pay11 u w a b (ix3 q t l) = (k0_pay5 u w (ix3 q t l) + a (ix3 (0 : Fin 1) t l) * k0_pay5 u w (ix3 q ⟨(t.val + 8 - 1) % 8, back_lt t 1⟩ l)
      - b (ix3 (0 : Fin 1) t l) * k0_pay6 u w (ix3 q ⟨(t.val + 8 - 1) % 8, back_lt t 1⟩ l) : EReal) := by
  unfold_payloads
  pointwise
theorem pay12_at (u : Vec Ideal S256x128 .f32) (w : Vec Ideal S1x128x1024 .bf16) (a b : Vec Ideal S1x8x512 .f32) (q : Fin 32) (t : Fin 8) (l : Fin 512) :
    k0_pay12 u w a b (ix3 q t l) = (k0_pay6 u w (ix3 q t l) + a (ix3 (0 : Fin 1) t l) * k0_pay6 u w (ix3 q ⟨(t.val + 8 - 1) % 8, back_lt t 1⟩ l)
      + b (ix3 (0 : Fin 1) t l) * k0_pay5 u w (ix3 q ⟨(t.val + 8 - 1) % 8, back_lt t 1⟩ l) : EReal) := by
  unfold_payloads
  pointwise
theorem pay17_at (x y : FVec Ideal S32x8x512 .f32) (a b : Vec Ideal S1x8x512 .f32) (q : Fin 32) (t : Fin 8) (l : Fin 512) :
    k0_pay17 x y (k0_pay13 a) b (ix3 q t l) = (x (ix3 q t l) + a (ix3 (0 : Fin 1) t l) * x (ix3 q ⟨(t.val + 8 - 2) % 8, back_lt t 2⟩ l)
      - b (ix3 (0 : Fin 1) t l) * y (ix3 q ⟨(t.val + 8 - 2) % 8, back_lt t 2⟩ l) : EReal) := by
  unfold_payloads
  pointwise
theorem pay18_at (x y : FVec Ideal S32x8x512 .f32) (a b : Vec Ideal S1x8x512 .f32) (q : Fin 32) (t : Fin 8) (l : Fin 512) :
    k0_pay18 x y (k0_pay13 a) b (ix3 q t l) = (y (ix3 q t l) + a (ix3 (0 : Fin 1) t l) * y (ix3 q ⟨(t.val + 8 - 2) % 8, back_lt t 2⟩ l)
      + b (ix3 (0 : Fin 1) t l) * x (ix3 q ⟨(t.val + 8 - 2) % 8, back_lt t 2⟩ l) : EReal) := by
  unfold_payloads
  pointwise

theorem q_of (q : Fin 32) (t : Fin 8) : (q.val * 8 + t.val) / 8 = q.val := by have := t.isLt; omega
theorem t_of (q : Fin 32) (t : Fin 8) : (q.val * 8 + t.val) % 8 = t.val := by have := t.isLt; omega

theorem pay23_at (x y : FVec Ideal S32x8x512 .f32) (a b d e : Vec Ideal S1x8x512 .f32) (r : Fin 256) (q : Fin 32) (t : Fin 8) (l : Fin 512) (hq : q.val = r.val / 8) (ht : t.val = r.val % 8) :
    k0_pay23 x y (k0_pay13 a) b d e (ix2 r l) = (k0_pay17 x y (k0_pay13 a) b (ix3 q t l)
      + d (ix3 (0 : Fin 1) t l) * k0_pay17 x y (k0_pay13 a) b (ix3 q ⟨(t.val + 8 - 4) % 8, back_lt t 4⟩ l)
      - e (ix3 (0 : Fin 1) t l) * k0_pay18 x y (k0_pay13 a) b (ix3 q ⟨(t.val + 8 - 4) % 8, back_lt t 4⟩ l) : EReal) := by
  obtain ⟨q, hq'⟩ := q
  obtain ⟨t, ht'⟩ := t
  obtain rfl : q = r.val / 8 := hq
  obtain rfl : t = r.val % 8 := ht
  unfold_payloads
  pointwise
theorem pay25_at (x y : FVec Ideal S32x8x512 .f32) (a b d e : Vec Ideal S1x8x512 .f32) (r : Fin 256) (q : Fin 32) (t : Fin 8) (l : Fin 512) (hq : q.val = r.val / 8) (ht : t.val = r.val % 8) :
    k0_pay25 (k0_pay24 x y (k0_pay13 a) b d e) (ix2 r l) = (k0_pay18 x y (k0_pay13 a) b (ix3 q t l)
      + d (ix3 (0 : Fin 1) t l) * k0_pay18 x y (k0_pay13 a) b (ix3 q ⟨(t.val + 8 - 4) % 8, back_lt t 4⟩ l)
      + e (ix3 (0 : Fin 1) t l) * k0_pay17 x y (k0_pay13 a) b (ix3 q ⟨(t.val + 8 - 4) % 8, back_lt t 4⟩ l) : EReal) := by
  obtain ⟨q, hq'⟩ := q
  obtain ⟨t, ht'⟩ := t
  obtain rfl : q = r.val / 8 := hq
  obtain rfl : t = r.val % 8 := ht
  unfold_payloads
  pointwise

theorem pay30_at (a b : Vec Ideal S8x512 .f32) (x y : Vec Ideal S1x512 .f32) (z : Vec Ideal S8x512 .f32) (t : Fin 8) (l : Fin 512) :
    k0_pay30 a b x y z (ix2 t l) = (z (ix2 t l) + a (ix2 t l) * x (ix2 (0 : Fin 1) l) - b (ix2 t l) * y (ix2 (0 : Fin 1) l) : EReal) := by
  unfold_payloads
  pointwise
theorem pay31_at (a b : Vec Ideal S8x512 .f32) (x y : Vec Ideal S1x512 .f32) (z : Vec Ideal S8x512 .f32) (t : Fin 8) (l : Fin 512) :
    k0_pay31 a b x y z (ix2 t l) = (z (ix2 t l) + a (ix2 t l) * y (ix2 (0 : Fin 1) l) + b (ix2 t l) * x (ix2 (0 : Fin 1) l) : EReal) := by
  unfold_payloads
  pointwise
theorem pay32_at (a b : Vec Ideal S8x512 .f32) (x y : Vec Ideal S1x512 .f32) (z : Vec Ideal S8x512 .f32) (l : Fin 512) :
    k0_pay32 a b x y z (ix2 (0 : Fin 1) l) = (z (ix2 (7 : Fin 8) l) + a (ix2 (7 : Fin 8) l) * x (ix2 (0 : Fin 1) l) - b (ix2 (7 : Fin 8) l) * y (ix2 (0 : Fin 1) l) : EReal) := by
  unfold_payloads
  pointwise
theorem pay33_at (a b : Vec Ideal S8x512 .f32) (x y : Vec Ideal S1x512 .f32) (z : Vec Ideal S8x512 .f32) (l : Fin 512) :
    k0_pay33 a b x y z (ix2 (0 : Fin 1) l) = (z (ix2 (7 : Fin 8) l) + a (ix2 (7 : Fin 8) l) * y (ix2 (0 : Fin 1) l) + b (ix2 (7 : Fin 8) l) * x (ix2 (0 : Fin 1) l) : EReal) := by
  unfold_payloads
  pointwise
theorem pay34_at (x : Vec Ideal S1x512 .f32) (l : Fin 512) : k0_pay34 x (ix2 (0 : Fin 1) l) = x (ix2 (0 : Fin 1) l) := by
  unfold_payloads
  pointwise
theorem pay35_at (x : Vec Ideal S1x512 .f32) (l : Fin 512) : k0_pay35 x (ix2 (0 : Fin 1) l) = x (ix2 (0 : Fin 1) l) := by
  unfold_payloads
  pointwise
theorem pay36_at (x y : Vec Ideal S256x512 .f32) (w : Vec Ideal S1x1024x128 .bf16) (r : Fin 256) (l : Fin 128) :
    k0_pay36 x y w (ix2 r l) = ((∑ p : Fin 512, x (ix2 r p) * w (ix3 (0 : Fin 1) ⟨p.val, lo_ix p⟩ l)) + ∑ p : Fin 512, y (ix2 r p) * w (ix3 (0 : Fin 1) ⟨512 + p.val, hi_ix p⟩ l) : EReal) := by
  unfold_payloads
  pointwise
theorem pay37_at (C : Fin 4096) : k0_pay37 (F := Ideal) (ix2 (0 : Fin 1) C) = (0 : EReal) := by
  unfold_payloads
  pointwise
theorem pay38_at (C : Fin 4096) : k0_pay38 (F := Ideal) (ix2 (0 : Fin 1) C) = (0 : EReal) := by
  unfold_payloads
  pointwise
theorem pay2_at (x : Vec Ideal S1x4096 .f32) (C : Fin 4096) : k0_pay2 x (ix3 (0 : Fin 1) (0 : Fin 1) C) = x (ix2 (0 : Fin 1) C) := by
  unfold_payloads
  pointwise
theorem pay3_at (x : Vec Ideal S1x4096 .f32) (C : Fin 4096) : k0_pay3 x (ix3 (0 : Fin 1) (0 : Fin 1) C) = x (ix2 (0 : Fin 1) C) := by
  unfold_payloads
  pointwise
theorem out_at (y u gt : Vec Ideal S256x1024 .f32) (d g : Vec Ideal S1x1024 .f32) (r : Fin 256) (l : Fin 1024) :
    k0_pay1 (k0_pay39 g) (k0_pay40 y u gt d) (k0_pay41 y u gt d) (ix2 r l)
      = nrm (fun x => gel (y (ix2 r x) + d (ix2 (0 : Fin 1) x) * u (ix2 r x)) (gt (ix2 r x))) (fun x => g (ix2 (0 : Fin 1) x)) l := by
  unfold nrm gel
  unfold_payloads
  pointwise

end Cert.Proof.Scan

end
-- ==== Proof.ScanPoint.lean ====
/-
  One grid point of the scan in exact arithmetic: the block-diagonal products are the recurrence's inputs, the three levels and the carried
  state are the states, and the block-diagonal read-out is the states' read-out. By induction over the points, every point starts from and
  leaves the recurrence's state.
-/
module

public import proofs.«01_k».proof.Proof.ScanHost
public import proofs.«01_k».proof.Proof.ScanPay

@[expose] public section

set_option maxRecDepth 16384

noncomputable section

namespace Cert.Proof.Scan

open Cert.KernelIdeal Cert.KernelIdeal.Gen
open Idealize.ShloMosaic Idealize.ShloMosaic.TcCoe Idealize.SL.Sem
open scoped BigOperators

/-! ## Sums by blocks -/

theorem p128_lt (a : Fin 8) (h : Fin 16) : a.val * 16 + h.val < 128 := by have := a.isLt; have := h.isLt; omega
theorem p512_lt (a : Fin 8) (p : Fin 64) : a.val * 64 + p.val < 512 := by have := a.isLt; have := p.isLt; omega
def p128 (a : Fin 8) (h : Fin 16) : Fin 128 := ⟨a.val * 16 + h.val, p128_lt a h⟩
def p512 (a : Fin 8) (p : Fin 64) : Fin 512 := ⟨a.val * 64 + p.val, p512_lt a p⟩

theorem split128 (f : Fin 128 → EReal) : ∑ x, f x = ∑ a : Fin 8, ∑ h : Fin 16, f (p128 a h) := by
  rw [← Equiv.sum_comp (finProdFinEquiv (m := 8) (n := 16)) f, Fintype.sum_prod_type]
  refine Finset.sum_congr rfl fun a _ => Finset.sum_congr rfl fun h _ => congrArg f (Fin.ext ?_)
  show h.val + 16 * a.val = a.val * 16 + h.val
  omega

theorem split512 (f : Fin 512 → EReal) : ∑ x, f x = ∑ a : Fin 8, ∑ p : Fin 64, f (p512 a p) := by
  rw [← Equiv.sum_comp (finProdFinEquiv (m := 8) (n := 64)) f, Fintype.sum_prod_type]
  refine Finset.sum_congr rfl fun a _ => Finset.sum_congr rfl fun h _ => congrArg f (Fin.ext ?_)
  show h.val + 64 * a.val = a.val * 64 + h.val
  omega

theorem sum_blk {n : ℕ} (g : Fin 8) (f : Fin 8 → Fin n → EReal) :
    ∑ q : Fin 8, ∑ c : Fin n, f q c * (if q.val = g.val then 1 else 0) = ∑ c : Fin n, f g c := by
  rw [← sum_block g f]
  refine Finset.sum_congr rfl fun q _ => Finset.sum_congr rfl fun c _ => ?_
  by_cases h : q = g
  · rw [if_pos h, if_pos (congrArg Fin.val h)]
  · rw [if_neg h, if_neg fun e => h (Fin.ext e)]

variable (m : (ℓ : Loc nD τ sig) → Buf (Elt Ideal) ℓ) (c : Dev nD)

/-! ## The recurrence's input -/

theorem lb_lt (l : Fin 512) : l.val / 64 < 8 := by have := l.isLt; omega

/-- The block of a column. -/
def lb (l : Fin 512) : Fin 8 := ⟨l.val / 64, lb_lt l⟩

theorem g8_lb (k : Fin 8) (l : Fin 512) : g8 k (lb l) = grp (scol k l) :=
  Fin.ext (by show k.val * 8 + l.val / 64 = (512 * k.val + l.val) / 64; omega)
theorem m64_eq (k : Fin 8) (l : Fin 512) : m64 l = mode (scol k l) :=
  Fin.ext (by show l.val % 64 = (512 * k.val + l.val) % 64; omega)
theorem ucol_eq (k a : Fin 8) (h : Fin 16) : ucol k (p128 a h) = chn (g8 k a) h :=
  Fin.ext (by show 128 * k.val + (a.val * 16 + h.val) = (k.val * 8 + a.val) * 16 + h.val; omega)
theorem brow_eq (t : Fin cfg0.N) (r : Fin 256) : brow t r = Scan.row (256 * t.val + r.val) :=
  Fin.ext (Nat.mod_eq_of_lt (brow_lt t r)).symm

theorem inR_at (t : Fin cfg0.N) (k : Fin 8) (q : Fin 32) (τ : Fin 8) (l : Fin 512) :
    k0_pay5 (uC (insAt m c t).u k.val) (w1C (insAt m c t).w1 k.val) (ix3 q τ l) = (arrK m c).inR (256 * t.val + (r32 q τ).val) (scol k l) := by
  rw [pay5_at, split128]
  refine Eq.trans ?_ (sum_blk (lb l) (fun a h => (arrK m c).za (Scan.row (256 * t.val + (r32 q τ).val)) (wide (chn (g8 k a) h)) * (arrK m c).br (g8 k a) (bcol (m64 l) h))) |>.trans ?_
  · refine Finset.sum_congr rfl fun a _ => Finset.sum_congr rfl fun h _ => ?_
    have hh := h.isLt
    rw [uC_at, w1C_at, mul_assoc]
    refine congrArg₂ (· * ·) ?_ ?_
    · refine (blk0 m c t (r32 q τ) (ucol k (p128 a h))).trans ?_
      rw [ucol_eq, brow_eq]
    · refine (blk2 m c t k (p128 a h) _).trans ?_
      refine w1R_host m c k (p128 a h) l a h ?_ ?_
      · show (a.val * 16 + h.val) / 16 = a.val; omega
      · show (a.val * 16 + h.val) % 16 = h.val; omega
  · show _ = Arr.inR _ _ _
    unfold Arr.inR
    refine Finset.sum_congr rfl fun h _ => ?_
    simp only [g8_lb, m64_eq k l]

theorem inI_at (t : Fin cfg0.N) (k : Fin 8) (q : Fin 32) (τ : Fin 8) (l : Fin 512) :
    k0_pay6 (uC (insAt m c t).u k.val) (w1C (insAt m c t).w1 k.val) (ix3 q τ l) = (arrK m c).inI (256 * t.val + (r32 q τ).val) (scol k l) := by
  rw [pay6_at, split128]
  refine Eq.trans ?_ (sum_blk (lb l) (fun a h => (arrK m c).za (Scan.row (256 * t.val + (r32 q τ).val)) (wide (chn (g8 k a) h)) * (arrK m c).bi (g8 k a) (bcol (m64 l) h))) |>.trans ?_
  · refine Finset.sum_congr rfl fun a _ => Finset.sum_congr rfl fun h _ => ?_
    have hh := h.isLt
    rw [uC_at, w1C_at, mul_assoc]
    refine congrArg₂ (· * ·) ?_ ?_
    · refine (blk0 m c t (r32 q τ) (ucol k (p128 a h))).trans ?_
      rw [ucol_eq, brow_eq]
    · refine (blk2 m c t k (p128 a h) _).trans ?_
      refine w1I_host m c k (p128 a h) l a h ?_ ?_
      · show (a.val * 16 + h.val) / 16 = a.val; omega
      · show (a.val * 16 + h.val) % 16 = h.val; omega
  · show _ = Arr.inI _ _ _
    unfold Arr.inI
    refine Finset.sum_congr rfl fun h _ => ?_
    simp only [g8_lb, m64_eq k l]

/-! ## The three levels -/

variable {m c}

/-- The inputs of a tile. -/
def tin (A : Arr) (n : ℕ) (C : Fin 4096) (τ : Fin 8) : ℂ := A.inp (n + τ.val) C

theorem lvl_is {A : Arr} (h : A.Ok) (C : Fin 4096) (d : ℕ) (j τ : Fin 8) (hd : d = j.val + 1) :
    Is (pw (A.a C) d τ) (if d ≤ τ.val then A.pr j (grp C) (mode C) else 0) (if d ≤ τ.val then A.pi j (grp C) (mode C) else 0) := by
  unfold pw
  subst hd
  by_cases e : j.val + 1 ≤ τ.val
  · rw [if_pos e, if_pos e, if_pos e]; exact h.is_pow C j
  · rw [if_neg e, if_neg e, if_neg e]; exact Is.zero

variable (m c)

theorem tile_row (t : Fin cfg0.N) (q : Fin 32) (τ : Fin 8) : 256 * t.val + (r32 q τ).val = 256 * t.val + 8 * q.val + τ.val := by
  show 256 * t.val + (q.val * 8 + τ.val) = _
  omega

theorem x_is (h : (arrK m c).Ok) (t : Fin cfg0.N) (k : Fin 8) (q : Fin 32) (τ : Fin 8) (l : Fin 512) :
    Is (tin (arrK m c) (256 * t.val + 8 * q.val) (scol k l) τ) (k0_pay5 (uC (insAt m c t).u k.val) (w1C (insAt m c t).w1 k.val) (ix3 q τ l))
      (k0_pay6 (uC (insAt m c t).u k.val) (w1C (insAt m c t).w1 k.val) (ix3 q τ l)) := by
  rw [inR_at, inI_at, tile_row]
  exact h.is_inp _ _

theorem lr_at (t : Fin cfg0.N) (k : Fin 8) (n : Fin 3) (τ : Fin 8) (l : Fin 512) :
    lC (insAt m c t).lr n k.val (ix3 (0 : Fin 1) τ l) = (V m c (Pipeline.arrRef spec0 4) : S3x8x4096.Idx → EReal) (ix3 n τ (scol k l)) :=
  (lC_at _ n k τ l).trans (blk4 m c t n τ (scol k l))
theorem li_at (t : Fin cfg0.N) (k : Fin 8) (n : Fin 3) (τ : Fin 8) (l : Fin 512) :
    lC (insAt m c t).li n k.val (ix3 (0 : Fin 1) τ l) = (V m c (Pipeline.arrRef spec0 5) : S3x8x4096.Idx → EReal) (ix3 n τ (scol k l)) :=
  (lC_at _ n k τ l).trans (blk5 m c t n τ (scol k l))

/-- A tile after one level, two, three. -/
def t1 (A : Arr) (n : ℕ) (C : Fin 4096) : Fin 8 → ℂ := lev 1 (pw (A.a C) 1) (tin A n C)
def t2 (A : Arr) (n : ℕ) (C : Fin 4096) : Fin 8 → ℂ := lev 2 (pw (A.a C) 2) (t1 A n C)
def t3 (A : Arr) (n : ℕ) (C : Fin 4096) : Fin 8 → ℂ := lev 4 (pw (A.a C) 4) (t2 A n C)

theorem lv1_is (h : (arrK m c).Ok) (t : Fin cfg0.N) (k : Fin 8) (q : Fin 32) (τ : Fin 8) (l : Fin 512) :
    Is (t1 (arrK m c) (256 * t.val + 8 * q.val) (scol k l) τ) (lv1R (insAt m c t) k.val (ix3 q τ l)) (lv1I (insAt m c t) k.val (ix3 q τ l)) := by
  unfold lv1R lv1I
  rw [pay11_at, pay12_at]
  refine Is.mul_add ?_ (x_is m c h t k q _ l) (x_is m c h t k q τ l)
  rw [lr_at, li_at, lr0_host, li0_host]
  exact lvl_is h _ 1 0 τ rfl

theorem lv2_is (h : (arrK m c).Ok) (t : Fin cfg0.N) (k : Fin 8) (q : Fin 32) (τ : Fin 8) (l : Fin 512) :
    Is (t2 (arrK m c) (256 * t.val + 8 * q.val) (scol k l) τ)
      (k0_pay17 (lv1R (insAt m c t) k.val) (lv1I (insAt m c t) k.val) (k0_pay13 (lC (insAt m c t).lr 1 k.val)) (lC (insAt m c t).li 1 k.val) (ix3 q τ l))
      (k0_pay18 (lv1R (insAt m c t) k.val) (lv1I (insAt m c t) k.val) (k0_pay13 (lC (insAt m c t).lr 1 k.val)) (lC (insAt m c t).li 1 k.val) (ix3 q τ l)) := by
  rw [pay17_at, pay18_at]
  refine Is.mul_add ?_ (lv1_is m c h t k q _ l) (lv1_is m c h t k q τ l)
  rw [lr_at, li_at, lr1_host, li1_host]
  exact lvl_is h _ 2 1 τ rfl

theorem sum_is (h : (arrK m c).Ok) (t : Fin cfg0.N) (k : Fin 8) (q : Fin 32) (τ : Fin 8) (l : Fin 512) :
    Is (t3 (arrK m c) (256 * t.val + 8 * q.val) (scol k l) τ) (sumR (insAt m c t) k.val (ix2 (r32 q τ) l)) (sumI (insAt m c t) k.val (ix2 (r32 q τ) l)) := by
  unfold sumR sumI
  have hτ := τ.isLt
  rw [pay23_at _ _ _ _ _ _ (r32 q τ) q τ l (q_of q τ).symm (t_of q τ).symm, pay25_at _ _ _ _ _ _ (r32 q τ) q τ l (q_of q τ).symm (t_of q τ).symm]
  refine Is.mul_add ?_ (lv2_is m c h t k q _ l) (lv2_is m c h t k q τ l)
  rw [lr_at, li_at, lr2_host, li2_host]
  exact lvl_is h _ 4 3 τ rfl

/-! ## The carried state -/

theorem state_step (A : Arr) (b n : ℕ) (C : Fin 4096) (τ : Fin 8) :
    t3 A (4096 * b + n) C τ + A.a C ^ (τ.val + 1) * A.state b C n = A.state b C (n + τ.val + 1) := by
  have e := tile_step (A.a C) (fun s => A.inp (4096 * b + s) C) n τ
  have hx : (fun i : Fin 8 => (fun s => A.inp (4096 * b + s) C) (n + i.val)) = tin A (4096 * b + n) C := by
    funext i
    show A.inp (4096 * b + (n + i.val)) C = A.inp (4096 * b + n + i.val) C
    rw [Nat.add_assoc]
  rw [hx] at e
  exact e

theorem pt_base (t : ℕ) (q : ℕ) : 256 * t + 8 * q = 4096 * (t / 16) + (256 * (t % 16) + 8 * q) := by omega

theorem p_is (h : (arrK m c).Ok) (t : Fin cfg0.N) (k : Fin 8) (τ : Fin 8) (l : Fin 512) :
    Is ((arrK m c).a (scol k l) ^ (τ.val + 1)) (pC (insAt m c t).pr k.val (ix2 τ l)) (pC (insAt m c t).pi k.val (ix2 τ l)) := by
  rw [pC_at, pC_at]
  have e1 : (insAt m c t).pr (ix2 τ (scol k l)) = (arrK m c).pr τ (grp (scol k l)) (mode (scol k l)) := (blk6 m c t τ (scol k l)).trans (pr_host m c τ _)
  have e2 : (insAt m c t).pi (ix2 τ (scol k l)) = (arrK m c).pi τ (grp (scol k l)) (mode (scol k l)) := (blk7 m c t τ (scol k l)).trans (pi_host m c τ _)
  rw [e1, e2]
  exact h.is_pow _ τ

section Point

variable (h : (arrK m c).Ok) (t : Fin cfg0.N) (hr hi : Vec Ideal S1x4096 .f32)
  (hs : ∀ C, Is ((arrK m c).state (t.val / 16) C (256 * (t.val % 16))) (hr (ix2 (0 : Fin 1) C)) (hi (ix2 (0 : Fin 1) C)))

include h hs

theorem step_is (k : Fin 8) (q : Fin 32) (τ : Fin 8) (l : Fin 512) (x y : EReal)
    (hxy : Is ((arrK m c).state (t.val / 16) (scol k l) (256 * (t.val % 16) + 8 * q.val)) x y) :
    Is ((arrK m c).state (t.val / 16) (scol k l) (256 * (t.val % 16) + 8 * q.val + τ.val + 1))
      (tile (sumR (insAt m c t) k.val) q.val (ix2 τ l) + pC (insAt m c t).pr k.val (ix2 τ l) * x - pC (insAt m c t).pi k.val (ix2 τ l) * y)
      (tile (sumI (insAt m c t) k.val) q.val (ix2 τ l) + pC (insAt m c t).pr k.val (ix2 τ l) * y + pC (insAt m c t).pi k.val (ix2 τ l) * x) := by
  rw [← state_step, ← pt_base, tile_at, tile_at]
  exact Is.mul_add (p_is m c h t k τ l) hxy (sum_is m c h t k q τ l)

theorem carry_is (k : Fin 8) (l : Fin 512) : ∀ q : ℕ, q ≤ 32 →
    Is ((arrK m c).state (t.val / 16) (scol k l) (256 * (t.val % 16) + 8 * q))
      ((carry (pC (insAt m c t).pr k.val) (pC (insAt m c t).pi k.val) (sumR (insAt m c t) k.val) (sumI (insAt m c t) k.val) (hC hr k.val, hC hi k.val) q).1 (ix2 (0 : Fin 1) l))
      ((carry (pC (insAt m c t).pr k.val) (pC (insAt m c t).pi k.val) (sumR (insAt m c t) k.val) (sumI (insAt m c t) k.val) (hC hr k.val, hC hi k.val) q).2 (ix2 (0 : Fin 1) l)) := by
  intro q
  induction q with
  | zero =>
    intro _
    show Is _ (hC hr k.val (ix2 (0 : Fin 1) l)) (hC hi k.val (ix2 (0 : Fin 1) l))
    rw [hC_at, hC_at]
    exact hs (scol k l)
  | succ q ih =>
    intro hq
    have e := step_is m c h t hr hi hs k ⟨q, by omega⟩ 7 l _ _ (ih (by omega))
    unfold carry
    show Is _ (k0_pay32 (F := Ideal) _ _ _ _ _ (ix2 (0 : Fin 1) l)) (k0_pay33 (F := Ideal) _ _ _ _ _ (ix2 (0 : Fin 1) l))
    rw [pay32_at, pay33_at]
    exact e

theorem st_is (k : Fin 8) (r : Fin 256) (l : Fin 512) :
    Is ((arrK m c).state (t.val / 16) (scol k l) (256 * (t.val % 16) + r.val + 1)) (stR (insAt m c t) hr hi k.val (ix2 r l)) (stI (insAt m c t) hr hi k.val (ix2 r l)) := by
  have hr' := r.isLt
  have e := step_is m c h t hr hi hs k ⟨r.val / 8, by omega⟩ ⟨r.val % 8, by omega⟩ l _ _ (carry_is m c h t hr hi hs k l (r.val / 8) (by omega))
  unfold stR stI outR outI newr
  show Is _ (k0_pay30 (F := Ideal) _ _ _ _ _ (at2 ⟨r.val % 8, _⟩ l)) (k0_pay31 (F := Ideal) _ _ _ _ _ (at2 ⟨r.val % 8, _⟩ l))
  rw [at2_eq, pay30_at, pay31_at]
  have en : 256 * (t.val % 16) + 8 * (r.val / 8) + r.val % 8 + 1 = 256 * (t.val % 16) + r.val + 1 := by omega
  rw [← en]
  exact e

theorem new_is (C : Fin 4096) :
    Is ((arrK m c).state (t.val / 16) C (256 * (t.val % 16) + 256)) (newHr (insAt m c t) hr hi (ix2 (0 : Fin 1) C)) (newHi (insAt m c t) hr hi (ix2 (0 : Fin 1) C)) := by
  have hC := C.isLt
  have e := carry_is m c h t hr hi hs ⟨C.val / 512, by omega⟩ ⟨C.val % 512, by omega⟩ 32 (le_refl _)
  have ec : scol ⟨C.val / 512, by omega⟩ ⟨C.val % 512, by omega⟩ = C := Fin.ext (by show 512 * (C.val / 512) + C.val % 512 = C.val; omega)
  rw [ec] at e
  unfold newHr newHi newc
  show Is _ (k0_pay34 (F := Ideal) _ (at2 (0 : Fin 1) ⟨C.val % 512, _⟩)) (k0_pay35 (F := Ideal) _ (at2 (0 : Fin 1) ⟨C.val % 512, _⟩))
  rw [at2_eq, pay34_at, pay35_at]
  exact e

/-! ## The read-out -/

theorem y_at (r : Fin 256) (l : Fin 1024) :
    newY (insAt m c t) hr hi (ix2 r l) = (arrK m c).read (t.val / 16) (256 * (t.val % 16) + r.val) l := by
  have hl := l.isLt
  unfold newY newc
  show k0_pay36 (F := Ideal) _ _ _ (at2 r ⟨l.val % 128, _⟩) = _
  rw [at2_eq, pay36_at, split512, split512]
  obtain ⟨k, hk⟩ : ∃ k : Fin 8, k.val = l.val / 128 := ⟨⟨l.val / 128, by omega⟩, rfl⟩
  show (∑ a : Fin 8, ∑ p : Fin 64, stR _ hr hi (l.val / 128) _ * w2C _ (l.val / 128) _) + (∑ a : Fin 8, ∑ p : Fin 64, stI _ hr hi (l.val / 128) _ * w2C _ (l.val / 128) _) = _
  rw [← hk]
  have hb : l.val % 128 / 16 < 8 := by omega
  have hg : g8 k ⟨l.val % 128 / 16, hb⟩ = lgrp l := Fin.ext (by show k.val * 8 + l.val % 128 / 16 = l.val / 16; omega)
  have hc : ∀ (a : Fin 8) (p : Fin 64), scol k (p512 a p) = sta (g8 k a) p := fun a p => Fin.ext (by show 512 * k.val + (a.val * 64 + p.val) = (k.val * 8 + a.val) * 64 + p.val; omega)
  have hh : l.val % 128 % 16 = (lch l).val := by show _ = l.val % 16; omega
  have e1 := sum_blk ⟨l.val % 128 / 16, hb⟩ (fun a p => ((((arrK m c).state (t.val / 16) (sta (g8 k a) p) (256 * (t.val % 16) + r.val + 1)).re : ℝ) : EReal) * (arrK m c).cr (g8 k a) (lch l) p)
  have e2 := sum_blk ⟨l.val % 128 / 16, hb⟩ (fun a p => ((((arrK m c).state (t.val / 16) (sta (g8 k a) p) (256 * (t.val % 16) + r.val + 1)).im : ℝ) : EReal) * -(arrK m c).ci (g8 k a) (lch l) p)
  unfold Arr.read
  rw [hg] at e1 e2
  rw [sub_eq_add_neg]
  refine congrArg₂ (· + ·) (Eq.trans ?_ e1) ((Eq.trans ?_ e2).trans ?_)
  · refine Finset.sum_congr rfl fun a _ => Finset.sum_congr rfl fun p _ => ?_
    have hp := p.isLt
    have e := st_is m c h t hr hi hs k r (p512 a p)
    rw [e.1, w2C_at, mul_assoc, hc]
    refine congrArg₂ (· * ·) rfl ?_
    refine (blk3 m c t k _ _).trans ?_
    refine w2R_host m c k (p512 a p) _ a p ⟨l.val % 128 / 16, hb⟩ (lch l) ?_ ?_ rfl hh
    · show (a.val * 64 + p.val) / 64 = a.val; omega
    · show (a.val * 64 + p.val) % 64 = p.val; omega
  · refine Finset.sum_congr rfl fun a _ => Finset.sum_congr rfl fun p _ => ?_
    have hp := p.isLt
    have e := st_is m c h t hr hi hs k r (p512 a p)
    rw [e.2, w2C_at, mul_assoc, hc]
    refine congrArg₂ (· * ·) rfl ?_
    refine (blk3 m c t k _ _).trans ?_
    refine w2I_host m c k (p512 a p) _ a p ⟨l.val % 128 / 16, hb⟩ (lch l) ?_ ?_ rfl hh
    · show (a.val * 64 + p.val) / 64 = a.val; omega
    · show (a.val * 64 + p.val) % 64 = p.val; omega
  · rw [← sum_neg]
    · exact Finset.sum_congr rfl fun p _ => mul_neg _ _
    · exact fun p => Real1.mul ⟨_, rfl⟩ (h.ci _ _ _)

theorem o_at (r : Fin 256) (l : Fin 1024) :
    outO (insAt m c t) (iblk m c 1 t) (iblk m c 8 t) (iblk m c 9 t) hr hi (ix2 r l) = (arrK m c).out (t.val / 16) (256 * (t.val % 16) + r.val) l := by
  unfold outO
  rw [out_at]
  have er : brow t r = Scan.row (4096 * (t.val / 16) + (256 * (t.val % 16) + r.val)) := by
    rw [brow_eq]; exact congrArg Scan.row (by omega)
  have eg : (fun x => (iblk m c 9 t : Vec Ideal S1x1024 .bf16) (ix2 (0 : Fin 1) x)) = (arrK m c).g := by
    funext x; exact (blk9 m c t (0 : Fin 1) x).trans (g_host m c x)
  unfold Arr.out Arr.hid
  refine congrFun (congrArg₂ nrm ?_ eg) l
  funext x
  rw [y_at m c h t hr hi hs r x, ← er]
  refine congrArg₂ gel (congrArg₂ (· + ·) rfl (congrArg₂ (· * ·) ((blk8 m c t (0 : Fin 1) x).trans (d_host m c x)) (blk0 m c t r x))) (blk1 m c t r x)

end Point

/-! ## Every point -/

theorem start_is (h : (arrK m c).Ok) (n : ℕ)
    (ih : n = 0 ∨ ∀ C, Is ((arrK m c).state ((n - 1) / 16) C (256 * ((n - 1) % 16) + 256)) ((stateAt m c n).1 (ix2 (0 : Fin 1) C)) ((stateAt m c n).2 (ix2 (0 : Fin 1) C))) (C : Fin 4096) :
    Is ((arrK m c).state (n / 16) C (256 * (n % 16))) ((startOf n (stateAt m c n)).1 (ix2 (0 : Fin 1) C)) ((startOf n (stateAt m c n)).2 (ix2 (0 : Fin 1) C)) := by
  unfold startOf
  by_cases e : n % 16 = 0
  · rw [if_pos e, e]
    show Is _ (k0_pay37 (F := Ideal) (ix2 (0 : Fin 1) C)) (k0_pay38 (F := Ideal) (ix2 (0 : Fin 1) C))
    rw [pay37_at, pay38_at]
    exact Is.zero
  · rw [if_neg e]
    rcases ih with rfl | ih
    · exact absurd rfl e
    · have e1 : (n - 1) / 16 = n / 16 := by omega
      have e2 : 256 * ((n - 1) % 16) + 256 = 256 * (n % 16) := by omega
      have := ih C
      rw [e1, e2] at this
      exact this

theorem state_is (h : (arrK m c).Ok) (n : ℕ) : ∀ t : Fin cfg0.N, t.val = n → ∀ C,
    Is ((arrK m c).state (t.val / 16) C (256 * (t.val % 16) + 256)) ((stateAt m c (t.val + 1)).1 (ix2 (0 : Fin 1) C)) ((stateAt m c (t.val + 1)).2 (ix2 (0 : Fin 1) C)) := by
  induction n with
  | zero =>
    intro t ht C
    rw [stateAt_succ]
    exact new_is m c h t _ _ (fun C => start_is m c h t.val (Or.inl ht) C) C
  | succ n ih =>
    intro t ht C
    obtain ⟨s, hs⟩ : ∃ s : Fin cfg0.N, s.val = n := ⟨⟨n, Nat.lt_of_succ_lt (ht.symm.trans_lt t.isLt)⟩, rfl⟩
    have ih' := ih s hs
    rw [stateAt_succ]
    refine new_is m c h t _ _ (fun C => start_is m c h t.val (Or.inr ?_) C) C
    rw [ht, Nat.add_sub_cancel, ← hs]
    exact ih'

theorem startAt_is (h : (arrK m c).Ok) (t : Fin cfg0.N) (C : Fin 4096) :
    Is ((arrK m c).state (t.val / 16) C (256 * (t.val % 16))) ((startAt m c t).1 (ix2 (0 : Fin 1) C)) ((startAt m c t).2 (ix2 (0 : Fin 1) C)) := by
  refine start_is m c h t.val ?_ C
  rcases Nat.eq_zero_or_pos t.val with e | e
  · exact Or.inl e
  · refine Or.inr fun C => ?_
    obtain ⟨s, hs⟩ : ∃ s : Fin cfg0.N, s.val = t.val - 1 := ⟨⟨t.val - 1, Nat.lt_of_le_of_lt (Nat.sub_le _ _) t.isLt⟩, rfl⟩
    have := state_is m c h _ s rfl C
    rw [hs, Nat.sub_add_cancel e] at this
    exact this

theorem outAt_at (h : (arrK m c).Ok) (t : Fin cfg0.N) (r : Fin 256) (l : Fin 1024) :
    outAt m c t (ix2 r l) = (arrK m c).out (t.val / 16) (256 * (t.val % 16) + r.val) l :=
  o_at m c h t _ _ (startAt_is m c h t) r l

end Cert.Proof.Scan

end
-- ==== Proof.ScanValue.lean ====
/-
  The scan kernel's results: the rows' outputs and the states after the last step, as functions of the argument arrays.
-/
module

public import proofs.«01_k».proof.Proof.ScanPoint
public import Idealize.ShloMosaic.Lib.Claim

@[expose] public section

set_option maxRecDepth 16384

noncomputable section

namespace Cert.Proof.Scan

open Cert.KernelIdeal Cert.KernelIdeal.Gen
open Idealize.ShloMosaic Idealize.ShloMosaic.TcCoe Idealize.SL.Sem

theorem ix_exhaust2 {a b : Nat} (j : (⟨2, ![a, b]⟩ : Shape).Idx) : ∃ (r : Fin a) (l : Fin b), j = ix2 r l :=
  ⟨j 0, j 1, by funext k; match k with | ⟨0, _⟩ => rfl | ⟨1, _⟩ => rfl⟩
theorem ix_exhaust3 {a b d : Nat} (j : (⟨3, ![a, b, d]⟩ : Shape).Idx) : ∃ (q : Fin a) (r : Fin b) (l : Fin d), j = ix3 q r l :=
  ⟨j 0, j 1, j 2, by funext k; match k with | ⟨0, _⟩ => rfl | ⟨1, _⟩ => rfl | ⟨2, _⟩ => rfl⟩

variable (m : (ℓ : Loc nD τ sig) → Buf (Elt Ideal) ℓ) (c : Dev nD)

/-- The output array. -/
def GO : S16384x1024.Idx → EReal := fun x => (arrK m c).out ((x 0 : Nat) / 4096) ((x 0 : Nat) % 4096) (x 1)

/-- The states' real and imaginary parts after the last step. -/
def GRe : S4x1x4096.Idx → EReal := fun x => (((arrK m c).state (x 0 : Nat) (x 2) 4096).re : EReal)
def GIm : S4x1x4096.Idx → EReal := fun x => (((arrK m c).state (x 0 : Nat) (x 2) 4096).im : EReal)

theorem seq_lt (t : Fin cfg0.N) : t.val / 16 < 4 := by have h : t.val < 64 := t.isLt; omega

/-- The sequence of a point. -/
def seq (t : Fin cfg0.N) : Fin 4 := ⟨t.val / 16, seq_lt t⟩

theorem flushed10 (h : (arrK m c).Ok) (t : Fin cfg0.N) :
    (dats m 0 c).flushed 10 t = ((cfg0.win 10).blk t).view.read (Elt Ideal) (GO m c) := by
  show (cfg0.win 10).cut (grid0.coords t) ((dats m 0 c).after 10 t) = _
  rw [after10]
  obtain ⟨-, -, -, -, -, -, -, -, -, -, ⟨e0, e1⟩, -⟩ := idx_facts t
  funext j
  obtain ⟨q, l, rfl⟩ := (ix_exhaust2 j : ∃ (q : Fin 256) (l : Fin 1024), j = ix2 q l)
  rw [View.read_apply]
  have hi : ((cfg0.win 10).blk t).view.emb (ix2 q l) = ix2 (brow t q) l := by
    funext a
    apply Fin.ext
    match a with
    | ⟨0, _⟩ => show win0_10.index t 0 * 256 + 1 * (q.val : Nat) = 256 * t.val + q.val; rw [e0] <;> omega
    | ⟨1, _⟩ => show win0_10.index t 1 * 1024 + 1 * (l.val : Nat) = l.val; rw [e1] <;> omega
  rw [hi]
  refine (outAt_at m c h t q l).trans ?_
  show (arrK m c).out (t.val / 16) (256 * (t.val % 16) + q.val) l = (arrK m c).out ((256 * t.val + q.val) / 4096) ((256 * t.val + q.val) % 4096) l
  have ea : t.val / 16 = (256 * t.val + q.val) / 4096 := by omega
  have eb : 256 * (t.val % 16) + q.val = (256 * t.val + q.val) % 4096 := by omega
  rw [ea, eb]

theorem cover10 (x : S16384x1024.Idx) : ∃ t, (cfg0.win 10).flush t = true ∧ x ∈ ((cfg0.win 10).blk t).view.set := by
  have h0 : (x 0 : Nat) < 16384 := (x 0).isLt
  have h1 : (x 1 : Nat) < 1024 := (x 1).isLt
  obtain ⟨t, ht⟩ : ∃ t : Fin cfg0.N, t.val = (x 0 : Nat) / 256 := ⟨(⟨(x 0 : Nat) / 256, by omega⟩ : Fin 64), rfl⟩
  refine ⟨t, flush0_10 t, ?_⟩
  obtain ⟨-, -, -, -, -, -, -, -, -, -, ⟨e0, e1⟩, -⟩ := idx_facts t
  show x ∈ ((View.whole main_v97_0).slice (win0_10.rect t)).set
  rw [View.set_slice_whole, Rect.mem_set_unit]
  intro a
  match a with
  | ⟨0, _⟩ => show win0_10.index t 0 * 256 ≤ (x 0 : Nat) ∧ (x 0 : Nat) < win0_10.index t 0 * 256 + 256; rw [e0, ht]; omega
  | ⟨1, _⟩ => show win0_10.index t 1 * 1024 ≤ (x 1 : Nat) ∧ (x 1 : Nat) < win0_10.index t 1 * 1024 + 1024; rw [e1]; omega

theorem final10 (h : (arrK m c).Ok) : (dats m 0 c).arrAt 10 cfg0.N = GO m c :=
  (dats m 0 c).arrAt_eq_of_cover 10 (GO m c) (fun t _ => flushed10 m c h t) fun i => cover10 i

theorem flushed11 (h : (arrK m c).Ok) (t : Fin cfg0.N) (hf : (cfg0.win 11).flush t = true) :
    (dats m 0 c).flushed 11 t = ((cfg0.win 11).blk t).view.read (Elt Ideal) (GRe m c) := by
  have h15 : t.val % 16 = 15 := (flush0_11 t).mp hf
  have ht : t.val < 64 := t.isLt
  show (cfg0.win 11).cut (grid0.coords t) ((dats m 0 c).after 11 t) = _
  rw [after11]
  obtain ⟨-, -, -, -, -, -, -, -, -, -, -, ⟨e0, e1, e2⟩, -⟩ := idx_facts t
  funext j
  obtain ⟨z, z', C, rfl⟩ := (ix_exhaust3 j : ∃ (z z' : Fin 1) (C : Fin 4096), j = ix3 z z' C)
  obtain rfl : z = 0 := Subsingleton.elim _ _
  obtain rfl : z' = 0 := Subsingleton.elim _ _
  rw [View.read_apply]
  have hi : ((cfg0.win 11).blk t).view.emb (ix3 (0 : Fin 1) (0 : Fin 1) C) = ix3 (seq t) (0 : Fin 1) C := by
    funext a
    apply Fin.ext
    match a with
    | ⟨0, _⟩ => show win0_11.index t 0 * 1 + 1 * 0 = t.val / 16; rw [e0] <;> omega
    | ⟨1, _⟩ => show win0_11.index t 1 * 1 + 1 * 0 = 0; rw [e1]
    | ⟨2, _⟩ => show win0_11.index t 2 * 4096 + 1 * (C.val : Nat) = C.val; rw [e2] <;> omega
  rw [hi]
  refine (pay2_at _ C).trans ?_
  have e := ((state_is m c h t.val t rfl C).1)
  rw [h15] at e
  exact e

theorem cover11 (x : S4x1x4096.Idx) : ∃ t, (cfg0.win 11).flush t = true ∧ x ∈ ((cfg0.win 11).blk t).view.set := by
  have h0 : (x 0 : Nat) < 4 := (x 0).isLt
  have h1 : (x 1 : Nat) < 1 := (x 1).isLt
  have h2 : (x 2 : Nat) < 4096 := (x 2).isLt
  obtain ⟨t, ht⟩ : ∃ t : Fin cfg0.N, t.val = 16 * (x 0 : Nat) + 15 := ⟨(⟨16 * (x 0 : Nat) + 15, by omega⟩ : Fin 64), rfl⟩
  refine ⟨t, (flush0_11 t).mpr (by omega), ?_⟩
  obtain ⟨-, -, -, -, -, -, -, -, -, -, -, ⟨e0, e1, e2⟩, -⟩ := idx_facts t
  show x ∈ ((View.whole main_v97_1).slice (win0_11.rect t)).set
  rw [View.set_slice_whole, Rect.mem_set_unit]
  intro a
  match a with
  | ⟨0, _⟩ => show win0_11.index t 0 * 1 ≤ (x 0 : Nat) ∧ (x 0 : Nat) < win0_11.index t 0 * 1 + 1; rw [e0, ht]; omega
  | ⟨1, _⟩ => show win0_11.index t 1 * 1 ≤ (x 1 : Nat) ∧ (x 1 : Nat) < win0_11.index t 1 * 1 + 1; rw [e1]; omega
  | ⟨2, _⟩ => show win0_11.index t 2 * 4096 ≤ (x 2 : Nat) ∧ (x 2 : Nat) < win0_11.index t 2 * 4096 + 4096; rw [e2]; omega

theorem final11 (h : (arrK m c).Ok) : (dats m 0 c).arrAt 11 cfg0.N = GRe m c :=
  (dats m 0 c).arrAt_eq_of_cover 11 (GRe m c) (fun t hf => flushed11 m c h t hf) fun i => cover11 i

theorem flushed12 (h : (arrK m c).Ok) (t : Fin cfg0.N) (hf : (cfg0.win 12).flush t = true) :
    (dats m 0 c).flushed 12 t = ((cfg0.win 12).blk t).view.read (Elt Ideal) (GIm m c) := by
  have h15 : t.val % 16 = 15 := (flush0_12 t).mp hf
  have ht : t.val < 64 := t.isLt
  show (cfg0.win 12).cut (grid0.coords t) ((dats m 0 c).after 12 t) = _
  rw [after12]
  obtain ⟨-, -, -, -, -, -, -, -, -, -, -, -, ⟨e0, e1, e2⟩⟩ := idx_facts t
  funext j
  obtain ⟨z, z', C, rfl⟩ := (ix_exhaust3 j : ∃ (z z' : Fin 1) (C : Fin 4096), j = ix3 z z' C)
  obtain rfl : z = 0 := Subsingleton.elim _ _
  obtain rfl : z' = 0 := Subsingleton.elim _ _
  rw [View.read_apply]
  have hi : ((cfg0.win 12).blk t).view.emb (ix3 (0 : Fin 1) (0 : Fin 1) C) = ix3 (seq t) (0 : Fin 1) C := by
    funext a
    apply Fin.ext
    match a with
    | ⟨0, _⟩ => show win0_12.index t 0 * 1 + 1 * 0 = t.val / 16; rw [e0] <;> omega
    | ⟨1, _⟩ => show win0_12.index t 1 * 1 + 1 * 0 = 0; rw [e1]
    | ⟨2, _⟩ => show win0_12.index t 2 * 4096 + 1 * (C.val : Nat) = C.val; rw [e2] <;> omega
  rw [hi]
  refine (pay3_at _ C).trans ?_
  have e := ((state_is m c h t.val t rfl C).2)
  rw [h15] at e
  exact e

theorem cover12 (x : S4x1x4096.Idx) : ∃ t, (cfg0.win 12).flush t = true ∧ x ∈ ((cfg0.win 12).blk t).view.set := by
  have h0 : (x 0 : Nat) < 4 := (x 0).isLt
  have h1 : (x 1 : Nat) < 1 := (x 1).isLt
  have h2 : (x 2 : Nat) < 4096 := (x 2).isLt
  obtain ⟨t, ht⟩ : ∃ t : Fin cfg0.N, t.val = 16 * (x 0 : Nat) + 15 := ⟨(⟨16 * (x 0 : Nat) + 15, by omega⟩ : Fin 64), rfl⟩
  refine ⟨t, (flush0_12 t).mpr (by omega), ?_⟩
  obtain ⟨-, -, -, -, -, -, -, -, -, -, -, -, ⟨e0, e1, e2⟩⟩ := idx_facts t
  show x ∈ ((View.whole main_v97_2).slice (win0_12.rect t)).set
  rw [View.set_slice_whole, Rect.mem_set_unit]
  intro a
  match a with
  | ⟨0, _⟩ => show win0_12.index t 0 * 1 ≤ (x 0 : Nat) ∧ (x 0 : Nat) < win0_12.index t 0 * 1 + 1; rw [e0, ht]; omega
  | ⟨1, _⟩ => show win0_12.index t 1 * 1 ≤ (x 1 : Nat) ∧ (x 1 : Nat) < win0_12.index t 1 * 1 + 1; rw [e1]; omega
  | ⟨2, _⟩ => show win0_12.index t 2 * 4096 ≤ (x 2 : Nat) ∧ (x 2 : Nat) < win0_12.index t 2 * 4096 + 4096; rw [e2]; omega

theorem final12 (h : (arrK m c).Ok) : (dats m 0 c).arrAt 12 cfg0.N = GIm m c :=
  (dats m 0 c).arrAt_eq_of_cover 12 (GIm m c) (fun t hf => flushed12 m c h t hf) fun i => cover12 i

/-- The three results of the run, with every argument kept. -/
theorem run_value (h : ∀ c, (arrK m c).Ok) (ρ : Dev nD → PrngReg) : θ_run (defs (F := Ideal)) (onTc (τ := τ) (main (F := Ideal))) ⟨m, fun _ => 0, ρ⟩ (fun r => ∀ c : Dev nD,
    r.2.mem ((c.tc : Thread nD τ).loc main_v97_0) = GO m c
      ∧ r.2.mem ((c.tc : Thread nD τ).loc main_v97_1) = GRe m c
      ∧ r.2.mem ((c.tc : Thread nD τ).loc main_v97_2) = GIm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun r q c => ⟨((q.2 c).1 10).trans (final10 m c (h c)), ((q.2 c).1 11).trans (final11 m c (h c)),
      ((q.2 c).1 12).trans (final12 m c (h c)), q.1.1 c⟩)
    (θ_run_and (scan_frame m ρ) (run_main m ρ))

end Cert.Proof.Scan

end
-- ==== Proof.ScanPre.lean ====
/-
  What the precondition says of the arrays: the powers are powers, and the recurrence's arrays hold reals.
-/
module

public import proofs.«01_k».proof.Proof.ScanModel
public import proofs.«01_k».proof.Pre_powers_finite
public import proofs.«01_k».proof.Proof.Gen.Pre_powers_finite
public import Idealize.ShloMosaic.Lib.Pointwise
public import Idealize.ShloMosaic.Lib.ReduceAll
public import Idealize.ShloMosaic.Lib.Affine

@[expose] public section

set_option maxRecDepth 16384

noncomputable section

namespace Cert.Proof.Scan

open Idealize.ShloMosaic Cert.Pre_powers_finite Cert.Pre_powers_finite.Facts

/-- The arrays the recurrence reads. -/
def arrOf (x0 : S16384x3072.Idx → EReal) (x1 x2 : S8x64x64.Idx → EReal) (x3 x4 : S64x1024.Idx → EReal) (x5 x6 : S1x64x16x64.Idx → EReal) (x7 x8 : S1x1024.Idx → EReal) : Arr where
  za r l := x0 (ix2 r l)
  pr t g p := x1 (ix3 t g p)
  pi t g p := x2 (ix3 t g p)
  br g p := x3 (ix2 g p)
  bi g p := x4 (ix2 g p)
  cr g h p := x5 (ix4 (0 : Fin 1) g h p)
  ci g h p := x6 (ix4 (0 : Fin 1) g h p)
  d l := x7 (ix2 (0 : Fin 1) l)
  g l := x8 (ix2 (0 : Fin 1) l)

theorem real_of_lt {x y : EReal} (h : Ideal.cmp .olt (max x (-x)) y = 1#1) : Real1 x := by
  have hlt : max x (-x) < y := by
    by_contra hn
    rw [Ideal.cmp, decide_eq_false hn] at h
    exact absurd h (by decide)
  have ht : max x (-x) ≠ ⊤ := ne_top_of_lt hlt
  induction x using EReal.rec with
  | bot => exact absurd (by simp) ht
  | coe r => exact ⟨r, rfl⟩
  | top => exact absurd (by simp) ht

theorem eq_of_cmp {x y : EReal} (h : Ideal.cmp .oeq x y = 1#1) : x = y := by
  by_contra hn
  rw [Ideal.cmp, decide_eq_false hn] at h
  exact absurd h (by decide)

theorem first_at (X : S8x64x64.Idx → EReal) (t : Fin 7) (g p : Fin 64) :
    broadcastInDim S7x64x64 ![0, 1, 2] bcast_S1x64x64_S7x64x64_0_1_2 (broadcastInDim S1x64x64 ![1, 2] bcast_S64x64_S1x64x64_1_2 (shapeCast S64x64 (extractStridedSlice S1x64x64 ![0, 0, 0] X slices_S8x64x64_S1x64x64_0_0_0) shapeCasts_S1x64x64_S64x64)) (ix3 t g p) = X (ix3 (0 : Fin 8) g p) := by
  pointwise
theorem low_at (X : S8x64x64.Idx → EReal) (t : Fin 7) (g p : Fin 64) :
    extractStridedSlice S7x64x64 ![0, 0, 0] X slices_S8x64x64_S7x64x64_0_0_0 (ix3 t g p) = X (ix3 t.castSucc g p) := by
  pointwise
  rfl
theorem high_at (X : S8x64x64.Idx → EReal) (t : Fin 7) (g p : Fin 64) :
    extractStridedSlice S7x64x64 ![1, 0, 0] X slices_S8x64x64_S7x64x64_1_0_0 (ix3 t g p) = X (ix3 t.succ g p) := by
  pointwise
  exact congrArg (fun s : Fin 8 => X (ix3 s g p)) (Fin.ext (Nat.add_comm 1 t.val))
theorem one_at (X : S8x64x64.Idx → EReal) (g p : Fin 64) :
    shapeCast S64x64 (extractStridedSlice S1x64x64 ![0, 0, 0] X slices_S8x64x64_S1x64x64_0_0_0) shapeCasts_S1x64x64_S64x64 (ix2 g p) = X (ix3 (0 : Fin 8) g p) := by
  pointwise
theorem wide_at (X : S16384x3072.Idx → EReal) (r : Fin 16384) (l : Fin 1024) :
    extractStridedSlice S16384x1024 ![0, 0] X slices_S16384x3072_S16384x1024_0_0 (ix2 r l) = X (ix2 r (wide l)) := by
  pointwise
  rfl

variable (x0 : S16384x3072.Idx → EReal) (x1 x2 : S8x64x64.Idx → EReal) (x3 x4 : S64x1024.Idx → EReal) (x5 x6 : S1x64x16x64.Idx → EReal) (x7 x8 : S1x1024.Idx → EReal)

instance : Subsingleton S_.Idx := ⟨fun a b => funext fun i => i.elim0⟩

theorem ok_of_pre (h : Cert.Pre_powers_finite.fn (F := Ideal) x0 x1 x2 x3 x4 x5 x6 x7 x8 = fun _ => 1#1) : (arrOf x0 x1 x2 x3 x4 x5 x6 x7 x8).Ok := by
  have e := congrFun h (Shape.Idx.first h_S_)
  unfold Cert.Pre_powers_finite.fn fn_part1 fn_part2 fn_part3 at e
  obtain ⟨e, eci⟩ := IntOp.andi_eq_one.1 e
  obtain ⟨e, ebi⟩ := IntOp.andi_eq_one.1 e
  obtain ⟨e, ebr⟩ := IntOp.andi_eq_one.1 e
  obtain ⟨e, epi⟩ := IntOp.andi_eq_one.1 e
  obtain ⟨e, epr⟩ := IntOp.andi_eq_one.1 e
  obtain ⟨e, eza⟩ := IntOp.andi_eq_one.1 e
  obtain ⟨ere, eim⟩ := IntOp.andi_eq_one.1 e
  refine ⟨fun r l => ?_, fun g p => ?_, fun g p => ?_, fun g p => ?_, fun g p => ?_, fun g hh p => ?_, fun τ g p => ?_, fun τ g p => ?_⟩
  · have a := Host.reduce_andi_all _ _ _ _ _ eza (ix2 r l)
    have b := real_of_lt a
    exact (congrArg Real1 (wide_at x0 r l)).mp b
  · have b := real_of_lt (Host.reduce_andi_all _ _ _ _ _ epr (ix2 g p))
    exact (congrArg Real1 (one_at x1 g p)).mp b
  · have b := real_of_lt (Host.reduce_andi_all _ _ _ _ _ epi (ix2 g p))
    exact (congrArg Real1 (one_at x2 g p)).mp b
  · exact real_of_lt (Host.reduce_andi_all _ _ _ _ _ ebr (ix2 g p))
  · exact real_of_lt (Host.reduce_andi_all _ _ _ _ _ ebi (ix2 g p))
  · exact real_of_lt (Host.reduce_andi_all _ _ _ _ _ eci (ix4 (0 : Fin 1) g hh p))
  · have b := eq_of_cmp (Host.reduce_andi_all _ _ _ _ _ ere (ix3 τ g p))
    exact (high_at x1 τ g p).symm.trans (b.trans (congrArg₂ (· - ·) (congrArg₂ (· * ·) (low_at x1 τ g p) (first_at x1 τ g p)) (congrArg₂ (· * ·) (low_at x2 τ g p) (first_at x2 τ g p))))
  · have b := eq_of_cmp (Host.reduce_andi_all _ _ _ _ _ eim (ix3 τ g p))
    exact (high_at x2 τ g p).symm.trans (b.trans (congrArg₂ (· + ·) (congrArg₂ (· * ·) (low_at x1 τ g p) (first_at x2 τ g p)) (congrArg₂ (· * ·) (low_at x2 τ g p) (first_at x1 τ g p))))

end Cert.Proof.Scan

end
-- ==== Proof.ScanClaims.lean ====
/-
  The claims about the recurrence's kernel and its reference.
-/
module

public import proofs.«01_k».proof.Defs
public import proofs.«01_k».proof.Proof.ScanRefValue
public import proofs.«01_k».proof.Proof.ScanValue
public import proofs.«01_k».proof.Proof.ScanPre
public import proofs.«01_k».proof.Proof.Gen.Kernel.Frame

@[expose] public section

set_option maxRecDepth 16384

noncomputable section

namespace Cert.Proof

open Idealize.ShloMosaic Idealize.ShloMosaic.TcCoe Idealize.SL.Sem

theorem frame_ki1 : Cert.quiescent_KernelIdeal (hKernelIdeal := Cert.KernelIdeal.Gen.facts) := fun m ρ _ => Scan.scan_frame (F := Ideal) m ρ

/-! The kernel as written and the kernel in exact arithmetic are one text; the equalities below say so of each part. -/

section Text

attribute [local instance] Cert.Kernel.Gen.facts Cert.KernelIdeal.Gen.facts

theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext x y
  match x, y with
  | 0, (t, s) => rfl

theorem defs_eq : Cert.Kernel.defs (F := Bits) = Cert.KernelIdeal.defs (F := Bits) :=
  congrArg (Pipeline.defs (Cert.Kernel.pcfgs (F := Bits))) bodies_eq

set_option maxHeartbeats 4000000 in
theorem main_part0_eq : Cert.Kernel.main_part0 (F := Bits) = Cert.KernelIdeal.main_part0 (F := Bits) := rfl

set_option maxHeartbeats 4000000 in
theorem main_part1_eq : Cert.Kernel.main_part1 (F := Bits) = Cert.KernelIdeal.main_part1 (F := Bits) := rfl

theorem main_eq : Cert.Kernel.main (F := Bits) = Cert.KernelIdeal.main (F := Bits) := by
  funext d
  exact congrArg₂ (fun a b => (do a d; b d)) main_part0_eq main_part1_eq

end Text

theorem frame_k1 : Cert.quiescent_Kernel (hKernel := Cert.Kernel.Gen.facts) := fun m ρ _ => by
  have h := Scan.scan_frame (F := Bits) m ρ
  rw [← defs_eq, ← main_eq] at h
  exact h

theorem frame_ri1 : Cert.quiescent_ReferenceIdeal (hReferenceIdeal := Cert.ReferenceIdeal.Gen.facts) := ScanRef.frame

/-- The reference's arrays are the kernel's where the arguments agree. -/
theorem arr_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    ScanRef.arrR m' c = Scan.arrK m c := by
  unfold ScanRef.arrR Scan.arrK
  rw [h0, h1, h2, h3, h4, h5, h6, h7, h8]

/-- Where the powers are powers and the recurrence's arrays hold reals, the kernel's result arrays and the reference's are equal. -/
theorem algebraic1 : Cert.algebraic_KernelIdeal_ReferenceIdeal_pre_powers_finite (hKernelIdeal := Cert.KernelIdeal.Gen.facts) (hReferenceIdeal := Cert.ReferenceIdeal.Gen.facts) (hPre_powers_finite := Cert.Pre_powers_finite.Gen.facts) := by
  intro m g m' g' hpre hargs
  have hk : ∀ c, (Scan.arrK m c).Ok := fun c => Scan.ok_of_pre _ _ _ _ _ _ _ _ _ (hpre c)
  refine ⟨fun c => Scan.GO m c, fun c => Scan.GRe m c, fun c => Scan.GIm m c, Scan.run_value m hk g, ?_⟩
  refine (θ_run (Cert.ReferenceIdeal.defs (F := Ideal)) _ _).mono (fun r h c => ?_) (Cert.ReferenceIdeal.Value.run_fold m' g')
  obtain ⟨h0, h1, h2, h3, h4, h5, h6, h7, h8⟩ := hargs c
  have ea := arr_eq m m' c h0 h1 h2 h3 h4 h5 h6 h7 h8
  have hr : (ScanRef.arrR m' c).Ok := ea ▸ hk c
  refine ⟨(h c Cert.ReferenceIdeal.main_v67 rfl).trans ?_, (h c Cert.ReferenceIdeal.main_v68 rfl).trans ?_, (h c Cert.ReferenceIdeal.main_v69 rfl).trans ?_, (h c Cert.ReferenceIdeal.main_arg0 rfl).trans (ScanRef.kept_main_arg0 m' c), (h c Cert.ReferenceIdeal.main_arg1 rfl).trans (ScanRef.kept_main_arg1 m' c), (h c Cert.ReferenceIdeal.main_arg2 rfl).trans (ScanRef.kept_main_arg2 m' c), (h c Cert.ReferenceIdeal.main_arg3 rfl).trans (ScanRef.kept_main_arg3 m' c), (h c Cert.ReferenceIdeal.main_arg4 rfl).trans (ScanRef.kept_main_arg4 m' c), (h c Cert.ReferenceIdeal.main_arg5 rfl).trans (ScanRef.kept_main_arg5 m' c), (h c Cert.ReferenceIdeal.main_arg6 rfl).trans (ScanRef.kept_main_arg6 m' c), (h c Cert.ReferenceIdeal.main_arg7 rfl).trans (ScanRef.kept_main_arg7 m' c), (h c Cert.ReferenceIdeal.main_arg8 rfl).trans (ScanRef.kept_main_arg8 m' c)⟩
  · funext j
    obtain ⟨q, l, rfl⟩ := (Scan.ix_exhaust2 j : ∃ (q : Fin 16384) (l : Fin 1024), j = ix2 q l)
    refine (ScanRef.res_y m' c hr q l).trans ?_
    rw [ea]
    rfl
  · funext j
    obtain ⟨b, z, C, rfl⟩ := (Scan.ix_exhaust3 j : ∃ (b : Fin 4) (z : Fin 1) (C : Fin 4096), j = ix3 b z C)
    obtain rfl : z = 0 := Subsingleton.elim _ _
    refine (ScanRef.res_re m' c hr b C).trans ?_
    rw [ea]
    rfl
  · funext j
    obtain ⟨b, z, C, rfl⟩ := (Scan.ix_exhaust3 j : ∃ (b : Fin 4) (z : Fin 1) (C : Fin 4096), j = ix3 b z C)
    obtain rfl : z = 0 := Subsingleton.elim _ _
    refine (ScanRef.res_im m' c hr b C).trans ?_
    rw [ea]
    rfl

end Cert.Proof

end
-- ==== Proof.FfnModel.lean ====
/-
  The feed-forward block's body as a function of the arrays it reads. A point holds 1024 rows of the sequence and 512 columns of
  each half of the hidden layer. Its two product buffers have 1032 rows: the last eight rows of the block before (zero at a
  sequence's first block), then the block's own products, four chunks of 256 rows. The chunks fill the buffers from the top and
  the convolution reads rows already filled, so a partly filled buffer is written as `upto`: the finished buffer on the first
  rows, anything below.
-/
module

public import proofs.«01_k».proof.Proof.Gen.Kernel2Ideal.Frame
public import proofs.«01_k».proof.Proof.Gen.Kernel2Ideal.Skeleton
public import Idealize.ShloMosaic.Lib.VecWindow

@[expose] public section

noncomputable section

namespace Cert.Proof.Ffn

open Cert.Kernel2Ideal Cert.Kernel2Ideal.Gen
open Idealize.ShloMosaic

section General
variable {α : Type} {s : Shape}

/-- `N` where the coordinate along `a` is below `n`, `x` elsewhere. -/
def upto (a : Fin s.rank) (n : ℕ) (N x : s.Idx → α) : s.Idx → α := fun y => if (y a).val < n then N y else x y

theorem upto_zero (a : Fin s.rank) (N x : s.Idx → α) : upto a 0 N x = x := funext fun y => if_neg (Nat.not_lt_zero _)
theorem upto_all (a : Fin s.rank) {n : ℕ} (h : s.size a ≤ n) (N x : s.Idx → α) : upto a n N x = N :=
  funext fun y => if_pos (lt_of_lt_of_le (y a).isLt h)

/-- Writing the finished array's own strip at the frontier moves the frontier past the strip. -/
theorem put_upto (a : Fin s.rank) (off size : Fin s.rank → ℕ) (N x : s.Idx → α) {n n' : ℕ} (hn : off a = n) (hn' : n' = n + size a)
    (hfull : ∀ b, b ≠ a → off b = 0 ∧ size b = s.size b) (inb : ∀ a, off a + size a ≤ s.size a)
    (w : ((a : Fin s.rank) → Fin (size a)) → α) (hw : w = VecWindow.window N off size inb) :
    VecWindow.put (upto a n N x) off size w = upto a n' N x := by
  subst hn hn' hw
  funext y
  unfold VecWindow.put upto
  by_cases h : ∀ b, off b ≤ (y b).val ∧ (y b).val < off b + size b
  · rw [dif_pos h, if_pos (h a).2]
    refine congrArg N (funext fun b => Fin.ext ?_)
    show off b + 1 * ((y b).val - off b) = (y b).val
    have := (h b).1
    omega
  · rw [dif_neg h]
    have hiff : (y a).val < off a ↔ (y a).val < off a + size a := by
      constructor
      · intro; omega
      · intro h2
        by_contra h3
        refine h fun b => ?_
        by_cases hb : b = a
        · subst hb; exact ⟨by omega, h2⟩
        · obtain ⟨e1, e2⟩ := hfull b hb
          have := (y b).isLt
          exact ⟨by omega, by omega⟩
    simp only [hiff]

/-- Above the frontier a window is the finished array's. -/
theorem window_upto (a : Fin s.rank) (off size : Fin s.rank → ℕ) (N x : s.Idx → α) {n : ℕ} (inb : ∀ a, off a + size a ≤ s.size a)
    (h : off a + size a ≤ n) : VecWindow.window (upto a n N x) off size inb = VecWindow.window N off size inb := by
  funext y
  have e : ((Rect.unit off size inb).emb y a).val = off a + 1 * (y a).val := rfl
  have := (y a).isLt
  have h2 : (y a).val < size a := this
  unfold VecWindow.window upto
  exact if_pos (by omega)

/-- Below the frontier a window is the old array's. -/
theorem window_below (a : Fin s.rank) (off size : Fin s.rank → ℕ) (N x : s.Idx → α) {n : ℕ} (inb : ∀ a, off a + size a ≤ s.size a)
    (h : n ≤ off a) : VecWindow.window (upto a n N x) off size inb = VecWindow.window x off size inb := by
  funext y
  have e : ((Rect.unit off size inb).emb y a).val = off a + 1 * (y a).val := rfl
  unfold VecWindow.window upto
  exact if_neg (by omega)

end General

section Memory
variable {sig : RefSig} {κ : Kind} {sp : Space} {s : Shape} {e : EltTy} {Val : EltTy → Type}

/-- A load from a buffer whose contents are known. -/
theorem load_eq (v : View sig κ sp s e) {f : v.ty.Contents Val} {X : s.Idx → Val e} (h : v.read Val f = X) {off size : Fin s.rank → ℕ}
    (inb : ∀ a, off a + size a ≤ s.size a) : v.readAt Val (Rect.unit off size inb).toLoadRect f = VecWindow.window X off size inb := by
  subst h; rfl

/-- A load above the frontier. -/
theorem load_upto (v : View sig κ sp s e) {f : v.ty.Contents Val} (a : Fin s.rank) {n : ℕ} {N x : s.Idx → Val e} (h : v.read Val f = upto a n N x)
    {off size : Fin s.rank → ℕ} (inb : ∀ a, off a + size a ≤ s.size a) (hle : off a + size a ≤ n) :
    v.readAt Val (Rect.unit off size inb).toLoadRect f = VecWindow.window N off size inb := (load_eq v h inb).trans (window_upto a off size N x inb hle)

/-- A load below the frontier. -/
theorem load_below (v : View sig κ sp s e) {f : v.ty.Contents Val} (a : Fin s.rank) {n : ℕ} {N x : s.Idx → Val e} (h : v.read Val f = upto a n N x)
    {off size : Fin s.rank → ℕ} (inb : ∀ a, off a + size a ≤ s.size a) (hle : n ≤ off a) :
    v.readAt Val (Rect.unit off size inb).toLoadRect f = VecWindow.window x off size inb := (load_eq v h inb).trans (window_below a off size N x inb hle)

theorem read_nil (v : View sig κ sp s e) {f : v.ty.Contents Val} {X : s.Idx → Val e} (h : v.read Val f = X) : v.read Val (v.writes Val f []) = X := by
  rw [View.writes_nil, h]

/-- A store of the finished array's strip at the frontier. -/
theorem store_upto (v : View sig κ sp s e) {f : v.ty.Contents Val} (a : Fin s.rank) {n n' : ℕ} {N x : s.Idx → Val e} {L : List (View.Piece Val s e)}
    (h : v.read Val (v.writes Val f L) = upto a n N x) {off size : Fin s.rank → ℕ} (inb : ∀ a, off a + size a ≤ s.size a)
    (w : (Rect.unit off size inb).shape.Idx → Val e) (hn : off a = n) (hn' : n' = n + size a)
    (hfull : ∀ b, b ≠ a → off b = 0 ∧ size b = s.size b) (hw : w = VecWindow.window N off size inb) :
    v.read Val (v.writes Val f ((⟨Rect.unit off size inb, w⟩ : View.Piece Val s e) :: L)) = upto a n' N x := by
  rw [View.read_writes_cons_put v f inb w L rfl, h]
  exact put_upto a off size N x hn hn' hfull inb w hw

/-- A load of the rectangle the first of two stores wrote, the second being past it. -/
theorem load_first [∀ e, Nonempty (Val e)] (v : View sig κ sp s e) (a : Fin s.rank) {off size off' size' : Fin s.rank → ℕ} (inb : ∀ a, off a + size a ≤ s.size a)
    (inb' : ∀ a, off' a + size' a ≤ s.size a) (w : (Rect.unit off size inb).shape.Idx → Val e) (w' : (Rect.unit off' size' inb').shape.Idx → Val e)
    (h : off a + size a ≤ off' a) :
    v.readCov [(⟨Rect.unit off' size' inb', w'⟩ : View.Piece Val s e), ⟨Rect.unit off size inb, w⟩] (Rect.unit off size inb).toLoadRect = w := by
  refine (load_eq v (View.read_writes_cons_put v _ inb' w' _ rfl) inb).trans ?_
  rw [View.read_writes_cons_put v _ inb w [] rfl]
  refine (VecWindow.window_put_of_disjoint _ off' size' off size inb w' a (Or.inl h)).trans ?_
  exact VecWindow.window_put_same _ _ _ inb w

/-- A store anywhere. -/
theorem store_put (v : View sig κ sp s e) {f : v.ty.Contents Val} {X : s.Idx → Val e} (h : v.read Val f = X)
    {off off' size : Fin s.rank → ℕ} (inb : ∀ a, off a + size a ≤ s.size a) (ho : off = off')
    (w : (Rect.unit off size inb).shape.Idx → Val e) :
    v.read Val (v.writes Val f [(⟨Rect.unit off size inb, w⟩ : View.Piece Val s e)]) = VecWindow.put X off' size w := by
  subst h ho
  rw [View.read_writes_cons_put v f inb w [] rfl, View.writes_nil]

end Memory

variable {F : FTy → Type} [FloatOps F]

/-- The arrays one grid point reads. -/
structure Ins (F : FTy → Type) [FloatOps F] where
  h : Vec F S1024x2048 .bf16
  x1 : Vec F S1024x2048 .f32
  gt : Vec F S1x1x2048 .f32
  wv : Vec F S2048x512 .bf16
  wg : Vec F S2048x512 .bf16
  cwv : Vec F S3x512 .f32
  cwg : Vec F S3x512 .f32
  cbv : Vec F S1x512 .f32
  cbg : Vec F S1x512 .f32
  wd : Vec F S512x2048 .bf16
  gf : Vec F S1x2048 .f32

/-- 256 rows of a product buffer, of the input block and of the output block, from row `o`; row `o` of the convolution's weights. -/
abbrev rd (x : Vec F S1032x512 .f32) (o : ℕ) (inb : ∀ a, (![o, 0] : Fin 2 → ℕ) a + S256x512.size a ≤ S1032x512.size a) : Vec F S256x512 .f32 :=
  VecWindow.window x ![o, 0] S256x512.size inb
abbrev hr (x : Vec F S1024x2048 .bf16) (o : ℕ) (inb : ∀ a, (![o, 0] : Fin 2 → ℕ) a + S256x2048.size a ≤ S1024x2048.size a) : Vec F S256x2048 .bf16 :=
  VecWindow.window x ![o, 0] S256x2048.size inb
abbrev yr (x : Vec F S1024x2048 .f32) (o : ℕ) (inb : ∀ a, (![o, 0] : Fin 2 → ℕ) a + S256x2048.size a ≤ S1024x2048.size a) : Vec F S256x2048 .f32 :=
  VecWindow.window x ![o, 0] S256x2048.size inb
abbrev cr (x : Vec F S3x512 .f32) (o : ℕ) (inb : ∀ a, (![o, 0] : Fin 2 → ℕ) a + S1x512.size a ≤ S3x512.size a) : Vec F S1x512 .f32 :=
  VecWindow.window x ![o, 0] S1x512.size inb

section Point
variable (I : Ins F)

/-- The products of the four chunks of rows with the two halves' weights. -/
def upV : ℕ → Vec F S256x512 .f32
  | 0 => k0_pay10 (hr I.h 0 inb_S1024x2048_S256x2048_0_0) (k0_pay9 I.wv) (constant S256x512 .f32 0x00000000#32)
  | 1 => k0_pay12 (hr I.h 256 inb_S1024x2048_S256x2048_256_0) I.wv
  | 2 => k0_pay16 (hr I.h 512 inb_S1024x2048_S256x2048_512_0) I.wv
  | _ => k0_pay21 (hr I.h 768 inb_S1024x2048_S256x2048_768_0) I.wv
def upG : ℕ → Vec F S256x512 .f32
  | 0 => k0_pay11 (hr I.h 0 inb_S1024x2048_S256x2048_0_0) I.wg
  | 1 => k0_pay13 (hr I.h 256 inb_S1024x2048_S256x2048_256_0) I.wg
  | 2 => k0_pay17 (hr I.h 512 inb_S1024x2048_S256x2048_512_0) I.wg
  | _ => k0_pay22 (hr I.h 768 inb_S1024x2048_S256x2048_768_0) I.wg

/-- A product buffer: eight rows `hl`, then the four chunks `u`. -/
def buf (hl : Vec F S8x512 .f32) (u : ℕ → Vec F S256x512 .f32) : Vec F S1032x512 .f32 := fun y =>
  if h : (y 0).val < 8 then hl (fun a => match a with | 0 => ⟨(y 0).val, h⟩ | 1 => y 1)
  else u (((y 0).val - 8) / 256) (fun a => match a with | 0 => ⟨((y 0).val - 8) % 256, Nat.mod_lt _ (by decide)⟩ | 1 => y 1)

theorem buf_head (hl : Vec F S8x512 .f32) (u : ℕ → Vec F S256x512 .f32) :
    hl = VecWindow.window (buf hl u) ![0, 0] S8x512.size inb_S1032x512_S8x512_0_0 := by
  funext y
  have h8 : (y 0).val < 8 := (y 0).isLt
  unfold VecWindow.window buf
  have e0 : ((Rect.unit (s := S1032x512) ![0, 0] S8x512.size inb_S1032x512_S8x512_0_0).emb y 0).val = 0 + 1 * (y 0).val := rfl
  rw [dif_pos (by omega)]
  refine congrArg hl (funext fun a => Fin.ext ?_)
  match a with
  | 0 => show (y 0).val = 0 + 1 * (y 0).val; omega
  | 1 => show (y 1).val = 0 + 1 * (y 1).val; omega

theorem buf_chunk (hl : Vec F S8x512 .f32) (u : ℕ → Vec F S256x512 .f32) (k o : ℕ) (ho : o = 8 + 256 * k)
    (inb : ∀ a, (![o, 0] : Fin 2 → ℕ) a + S256x512.size a ≤ S1032x512.size a) :
    u k = VecWindow.window (buf hl u) ![o, 0] S256x512.size inb := by
  subst ho
  funext y
  have h8 : (y 0).val < 256 := (y 0).isLt
  unfold VecWindow.window buf
  have e0 : ((Rect.unit (s := S1032x512) ![8 + 256 * k, 0] S256x512.size inb).emb y 0).val = 8 + 256 * k + 1 * (y 0).val := rfl
  rw [dif_neg (by omega)]
  have e1 : (((Rect.unit (s := S1032x512) ![8 + 256 * k, 0] S256x512.size inb).emb y 0).val - 8) / 256 = k := by omega
  rw [e1]
  refine congrArg (u k) (funext fun a => Fin.ext ?_)
  match a with
  | 0 => show (y 0).val = (((Rect.unit (s := S1032x512) ![8 + 256 * k, 0] S256x512.size inb).emb y 0).val - 8) % 256; omega
  | 1 => show (y 1).val = 0 + 1 * (y 1).val; omega

variable (sv sg : Vec F S1032x512 .f32) (y : Vec F S1024x2048 .f32)

/-- The gated activations of the four chunks, from the two product buffers; the last one in the pieces the body computes it in. -/
def act0 : Vec F S256x512 .bf16 := k0_pay14 (rd sv 8 inb_S1032x512_S256x512_8_0) (rd sg 8 inb_S1032x512_S256x512_8_0) (rd sv 7 inb_S1032x512_S256x512_7_0) (rd sg 7 inb_S1032x512_S256x512_7_0) (rd sv 6 inb_S1032x512_S256x512_6_0) (rd sg 6 inb_S1032x512_S256x512_6_0) I.cbv (cr I.cwv 2 inb_S3x512_S1x512_2_0) (cr I.cwv 0 inb_S3x512_S1x512_0_0) (cr I.cwv 1 inb_S3x512_S1x512_1_0) I.cbg (cr I.cwg 2 inb_S3x512_S1x512_2_0) (cr I.cwg 0 inb_S3x512_S1x512_0_0) (cr I.cwg 1 inb_S3x512_S1x512_1_0)
def act1 : Vec F S256x512 .bf16 := k0_pay18 (rd sv 264 inb_S1032x512_S256x512_264_0) (rd sg 264 inb_S1032x512_S256x512_264_0) (rd sv 263 inb_S1032x512_S256x512_263_0) (rd sg 263 inb_S1032x512_S256x512_263_0) (rd sv 262 inb_S1032x512_S256x512_262_0) (rd sg 262 inb_S1032x512_S256x512_262_0) I.cbv (cr I.cwv 2 inb_S3x512_S1x512_2_0) (cr I.cwv 0 inb_S3x512_S1x512_0_0) (cr I.cwv 1 inb_S3x512_S1x512_1_0) I.cbg (cr I.cwg 2 inb_S3x512_S1x512_2_0) (cr I.cwg 0 inb_S3x512_S1x512_0_0) (cr I.cwg 1 inb_S3x512_S1x512_1_0)
def act2 : Vec F S256x512 .bf16 := k0_pay24 (rd sv 520 inb_S1032x512_S256x512_520_0) (rd sg 520 inb_S1032x512_S256x512_520_0) (rd sv 519 inb_S1032x512_S256x512_519_0) (rd sg 519 inb_S1032x512_S256x512_519_0) (rd sv 518 inb_S1032x512_S256x512_518_0) (rd sg 518 inb_S1032x512_S256x512_518_0) (k0_pay23 I.cbv) (cr I.cwv 2 inb_S3x512_S1x512_2_0) (cr I.cwv 0 inb_S3x512_S1x512_0_0) (cr I.cwv 1 inb_S3x512_S1x512_1_0) I.cbg (cr I.cwg 2 inb_S3x512_S1x512_2_0) (cr I.cwg 0 inb_S3x512_S1x512_0_0) (cr I.cwg 1 inb_S3x512_S1x512_1_0)
def act3v : Vec F S256x512 .f32 := k0_pay28 (rd sv 776 inb_S1032x512_S256x512_776_0) (rd sv 775 inb_S1032x512_S256x512_775_0) (rd sv 774 inb_S1032x512_S256x512_774_0) I.cbv (cr I.cwv 2 inb_S3x512_S1x512_2_0) (cr I.cwv 0 inb_S3x512_S1x512_0_0) (cr I.cwv 1 inb_S3x512_S1x512_1_0)

/-- The four chunks of the output block, from the block `y` before. -/
def outC : ℕ → Vec F S256x2048 .f32
  | 0 => k0_pay15 (act0 I sv sg) (yr y 0 inb_S1024x2048_S256x2048_0_0) I.wd
  | 1 => k0_pay20 (act1 I sv sg) (k0_pay19 (yr y 256 inb_S1024x2048_S256x2048_256_0)) I.wd
  | 2 => k0_pay27 (act2 I sv sg) (k0_pay25 (yr y 512 inb_S1024x2048_S256x2048_512_0)) (k0_pay26 I.wd)
  | _ => k0_pay31 (rd sg 776 inb_S1032x512_S256x512_776_0) (rd sg 775 inb_S1032x512_S256x512_775_0) (rd sg 774 inb_S1032x512_S256x512_774_0) (act3v I sv) (k0_pay29 I.cbg) (k0_pay30 (cr I.cwg 2 inb_S3x512_S1x512_2_0)) (cr I.cwg 0 inb_S3x512_S1x512_0_0) (cr I.cwg 1 inb_S3x512_S1x512_1_0) (yr y 768 inb_S1024x2048_S256x2048_768_0) I.wd

/-- The output block after the point's addition. -/
def newY : Vec F S1024x2048 .f32 := fun ix =>
  outC I sv sg y ((ix 0).val / 256) (fun a => match a with | 0 => ⟨(ix 0).val % 256, Nat.mod_lt _ (by decide)⟩ | 1 => ix 1)

theorem newY_chunk (k o : ℕ) (ho : o = 256 * k) (inb : ∀ a, (![o, 0] : Fin 2 → ℕ) a + S256x2048.size a ≤ S1024x2048.size a) :
    outC I sv sg y k = VecWindow.window (newY I sv sg y) ![o, 0] S256x2048.size inb := by
  subst ho
  funext z
  have h8 : (z 0).val < 256 := (z 0).isLt
  unfold VecWindow.window newY
  have e0 : ((Rect.unit (s := S1024x2048) ![256 * k, 0] S256x2048.size inb).emb z 0).val = 256 * k + 1 * (z 0).val := rfl
  have e1 : (((Rect.unit (s := S1024x2048) ![256 * k, 0] S256x2048.size inb).emb z 0).val) / 256 = k := by omega
  rw [e1]
  refine congrArg (outC I sv sg y k) (funext fun a => Fin.ext ?_)
  match a with
  | 0 => show (z 0).val = (((Rect.unit (s := S1024x2048) ![256 * k, 0] S256x2048.size inb).emb z 0).val) % 256; omega
  | 1 => show (z 1).val = 0 + 1 * (z 1).val; omega

end Point

/-- The point is a sequence's first block; its first column block; its last. -/
abbrev firstBlock (i : grid0.Coords) : Prop := k0_cond1 i = 1#1
abbrev firstCol (i : grid0.Coords) : Prop := (Scalar.cmpi .ne (Scalar.extui (Scalar.cmpi .eq (BitVec.ofNat 32 (i 1).val) 0#32)) 0#32) = 1#1
abbrev lastCol (i : grid0.Coords) : Prop := (Scalar.cmpi .ne (Scalar.extui (Scalar.cmpi .eq (BitVec.ofNat 32 (i 1).val) 10#32)) 0#32) = 1#1

/-- The carried rows of the point's columns, among those of all columns. -/
abbrev slab (i : grid0.Coords) (x : Vec F S11x8x512 .f32) : Vec F S1x8x512 .f32 := VecWindow.window x (k0_off2 i) S1x8x512.size (k0_off2_inb i)
abbrev setSlab (i : grid0.Coords) (x : Vec F S11x8x512 .f32) (w : Vec F S1x8x512 .f32) : Vec F S11x8x512 .f32 := VecWindow.put x (k0_off2 i) S1x8x512.size w

open Classical in
/-- The carried rows and the output block a point starts from. -/
def startH (i : grid0.Coords) (z : Vec F S1x8x512 .f32) (x : Vec F S11x8x512 .f32) : Vec F S11x8x512 .f32 := if firstBlock i then setSlab i x z else x
open Classical in
def startY (i : grid0.Coords) (y : Vec F S1024x2048 .f32) : Vec F S1024x2048 .f32 := if firstCol i then k0_pay6 else y
open Classical in
/-- The output block a point leaves. -/
def endY (i : grid0.Coords) (I : Ins F) (y : Vec F S1024x2048 .f32) : Vec F S1024x2048 .f32 := if lastCol i then k0_pay3 I.x1 I.gt y I.gf else y

/-- The finished product buffers, from the carried rows the point starts from. -/
def bufV (I : Ins F) (z : Vec F S1x8x512 .f32) : Vec F S1032x512 .f32 := buf (k0_pay7 z) (upV I)
def bufG (I : Ins F) (z : Vec F S1x8x512 .f32) : Vec F S1032x512 .f32 := buf (k0_pay8 z) (upG I)
/-- Their last eight and last two rows. -/
abbrev last8 (x : Vec F S1032x512 .f32) : Vec F S8x512 .f32 := VecWindow.window x ![1024, 0] S8x512.size inb_S1032x512_S8x512_1024_0
abbrev last2 (x : Vec F S1032x512 .f32) : Vec F S2x512 .f32 := VecWindow.window x ![1030, 0] S2x512.size inb_S1032x512_S2x512_1030_0

end Cert.Proof.Ffn

end
-- ==== Proof.FfnParts.lean ====
/-
  The body's parts: the products of the four chunks of rows, their gated activations and their share of the output block, and
  the rows carried to the next block. Each part is stated on whole arrays, the half-filled ones by how far they are filled.
-/
module

public import proofs.«01_k».proof.Proof.FfnModel
public import Idealize.ShloMosaic.Lib.Scf

@[expose] public section

set_option maxRecDepth 16384
set_option maxHeartbeats 4000000

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem pair_eq {α β : Type} {a a' : α} {b b' : β} (h : a = a') (h' : b = b') : (⟨a, b⟩ : Σ' _ : α, β) = ⟨a', b'⟩ := by
  subst h h'; rfl

/-- What the body is handed and leaves: the inputs, then the three outputs and the four scratch buffers at what is said. -/
def res (c : Dev nD) (arg2 : Memref sig .tc .vmem S1024x2048 .bf16) (arg3 : Memref sig .tc .vmem S1024x2048 .f32) (arg4 : Memref sig .tc .vmem S1x1x2048 .f32) (arg5 : Memref sig .tc .vmem S2048x512 .bf16) (arg6 : Memref sig .tc .vmem S2048x512 .bf16) (arg7 : Memref sig .tc .vmem S3x512 .f32) (arg8 : Memref sig .tc .vmem S3x512 .f32) (arg9 : Memref sig .tc .vmem S1x512 .f32) (arg10 : Memref sig .tc .vmem S1x512 .f32) (arg11 : Memref sig .tc .vmem S512x2048 .bf16) (arg12 : Memref sig .tc .vmem S1x2048 .f32) (arg13 : Memref sig .tc .vmem S1024x2048 .f32) (arg14 : Memref sig .tc .vmem S1x2x512 .f32) (arg15 : Memref sig .tc .vmem S1x2x512 .f32) (arg16 : Memref sig .tc .vmem S1032x512 .f32) (arg17 : Memref sig .tc .vmem S1032x512 .f32) (arg18 : Memref sig .tc .vmem S11x8x512 .f32) (arg19 : Memref sig .tc .vmem S11x8x512 .f32)
    (I : Ins F) (y : Vec F S1024x2048 .f32) (tv tg : Vec F S1x2x512 .f32) (sv sg : Vec F S1032x512 .f32) (hv hg : Vec F S11x8x512 .f32) : sProp 𝕄 :=
  iprop(owns (c : Thread nD τ) arg2 fullShare I.h
    ∗ owns (c : Thread nD τ) arg3 fullShare I.x1
    ∗ owns (c : Thread nD τ) arg4 fullShare I.gt
    ∗ owns (c : Thread nD τ) arg5 fullShare I.wv
    ∗ owns (c : Thread nD τ) arg6 fullShare I.wg
    ∗ owns (c : Thread nD τ) arg7 fullShare I.cwv
    ∗ owns (c : Thread nD τ) arg8 fullShare I.cwg
    ∗ owns (c : Thread nD τ) arg9 fullShare I.cbv
    ∗ owns (c : Thread nD τ) arg10 fullShare I.cbg
    ∗ owns (c : Thread nD τ) arg11 fullShare I.wd
    ∗ owns (c : Thread nD τ) arg12 fullShare I.gf
    ∗ owns (c : Thread nD τ) arg13 fullShare y
    ∗ owns (c : Thread nD τ) arg14 fullShare tv
    ∗ owns (c : Thread nD τ) arg15 fullShare tg
    ∗ owns (c : Thread nD τ) arg16 fullShare sv
    ∗ owns (c : Thread nD τ) arg17 fullShare sg
    ∗ owns (c : Thread nD τ) arg18 fullShare hv
    ∗ owns (c : Thread nD τ) arg19 fullShare hg)

theorem part2_run (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1x2x512 .f32) (harg14 : arg14.IsWhole) (arg15 : Memref sig .tc .vmem S1x2x512 .f32) (harg15 : arg15.IsWhole) (arg16 : Memref sig .tc .vmem S1032x512 .f32) (harg16 : arg16.IsWhole) (arg17 : Memref sig .tc .vmem S1032x512 .f32) (harg17 : arg17.IsWhole) (arg18 : Memref sig .tc .vmem S11x8x512 .f32) (harg18 : arg18.IsWhole) (arg19 : Memref sig .tc .vmem S11x8x512 .f32) (harg19 : arg19.IsWhole)
    (I : Ins F) (y : Vec F S1024x2048 .f32) (tv tg : Vec F S1x2x512 .f32) (sv sg : Vec F S1032x512 .f32) (hv hg : Vec F S11x8x512 .f32) (zv zg : Vec F S1x8x512 .f32) :
    (res c arg2 arg3 arg4 arg5 arg6 arg7 arg8 arg9 arg10 arg11 arg12 arg13 arg14 arg15 arg16 arg17 arg18 arg19 I y tv tg (upto (s := S1032x512) 0 8 (bufV I zv) sv) (upto (s := S1032x512) 0 8 (bufG I zg) sg) hv hg : sProp 𝕄)
    ⊢ wp frame (wpE (defs₀ (F := F)) Variants.none (c : Thread nD τ) none) E (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (hr I.h 0 inb_S1024x2048_S256x2048_0_0) (k0_pay9 I.wv) (constant S256x512 .f32 0x00000000#32))
        (fun r => iprop(⌜r = ⟨(rd (bufV I zv) 8 inb_S1032x512_S256x512_8_0), (rd (bufG I zg) 8 inb_S1032x512_S256x512_8_0), (rd (bufV I zv) 7 inb_S1032x512_S256x512_7_0), (rd (bufG I zg) 7 inb_S1032x512_S256x512_7_0)⟩⌝ ∗ res c arg2 arg3 arg4 arg5 arg6 arg7 arg8 arg9 arg10 arg11 arg12 arg13 arg14 arg15 arg16 arg17 arg18 arg19 I y tv tg (upto (s := S1032x512) 0 520 (bufV I zv) sv) (upto (s := S1032x512) 0 520 (bufG I zg) sg) hv hg)) := by
  simp only [k0_part2_eq_skeleton]
  unfold k0_part2_skel
  unfold res owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩
  have e0 : arg6.view.readAt (Elt F) (Rect.unit (s := S2048x512) ![0, 0] S2048x512.size inb_S2048x512_S2048x512_0_0).toLoadRect f6 = _ := (View.readAt_full _ _ _).trans h6
  have e1 : arg2.view.readAt (Elt F) (Rect.unit (s := S1024x2048) ![256, 0] S256x2048.size inb_S1024x2048_S256x2048_256_0).toLoadRect f2 = _ := load_eq _ h2 _
  have e2 : arg5.view.readAt (Elt F) (Rect.unit (s := S2048x512) ![0, 0] S2048x512.size inb_S2048x512_S2048x512_0_0).toLoadRect f5 = _ := (View.readAt_full _ _ _).trans h5
  sl_exec
  sl_step
  isplitr
  · ipureintro; sl_unfold_run_names
    exact pair_eq ((load_first _ 0 _ _ _ _ (by decide)).trans (buf_chunk _ (upV I) 0 8 rfl _)) (pair_eq ((load_first _ 0 _ _ _ _ (by decide)).trans (buf_chunk _ (upG I) 0 8 rfl _)) (pair_eq (load_upto _ 0 (store_upto (n' := 520) _ 0 (store_upto (n' := 264) _ 0 (read_nil _ h16) _ _ rfl rfl (by decide) (buf_chunk _ (upV I) 0 8 rfl _)) _ _ rfl rfl (by decide) (buf_chunk _ (upV I) 1 264 rfl _)) _ (by decide)) (load_upto _ 0 (store_upto (n' := 520) _ 0 (store_upto (n' := 264) _ 0 (read_nil _ h17) _ _ rfl rfl (by decide) (buf_chunk _ (upG I) 0 8 rfl _)) _ _ rfl rfl (by decide) (buf_chunk _ (upG I) 1 264 rfl _)) _ (by decide))))
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact h15
  isplitl [H16]
  · iexists _; isplitr; swap; · iexact H16
    ipureintro; sl_unfold_run_names; exact store_upto (n' := 520) _ 0 (store_upto (n' := 264) _ 0 (read_nil _ h16) _ _ rfl rfl (by decide) (buf_chunk _ (upV I) 0 8 rfl _)) _ _ rfl rfl (by decide) (buf_chunk _ (upV I) 1 264 rfl _)
  isplitl [H17]
  · iexists _; isplitr; swap; · iexact H17
    ipureintro; sl_unfold_run_names; exact store_upto (n' := 520) _ 0 (store_upto (n' := 264) _ 0 (read_nil _ h17) _ _ rfl rfl (by decide) (buf_chunk _ (upG I) 0 8 rfl _)) _ _ rfl rfl (by decide) (buf_chunk _ (upG I) 1 264 rfl _)
  isplitl [H18]
  · iexists _; isplitr; swap; · iexact H18
    ipureintro; exact h18
  · iexists _; isplitr; swap; · iexact H19
    ipureintro; exact h19

theorem part3_run (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1x2x512 .f32) (harg14 : arg14.IsWhole) (arg15 : Memref sig .tc .vmem S1x2x512 .f32) (harg15 : arg15.IsWhole) (arg16 : Memref sig .tc .vmem S1032x512 .f32) (harg16 : arg16.IsWhole) (arg17 : Memref sig .tc .vmem S1032x512 .f32) (harg17 : arg17.IsWhole) (arg18 : Memref sig .tc .vmem S11x8x512 .f32) (harg18 : arg18.IsWhole) (arg19 : Memref sig .tc .vmem S11x8x512 .f32) (harg19 : arg19.IsWhole)
    (I : Ins F) (y : Vec F S1024x2048 .f32) (tv tg : Vec F S1x2x512 .f32) (sv sg : Vec F S1032x512 .f32) (hv hg : Vec F S11x8x512 .f32) (zv zg : Vec F S1x8x512 .f32) :
    (res c arg2 arg3 arg4 arg5 arg6 arg7 arg8 arg9 arg10 arg11 arg12 arg13 arg14 arg15 arg16 arg17 arg18 arg19 I y tv tg (upto (s := S1032x512) 0 520 (bufV I zv) sv) (upto (s := S1032x512) 0 520 (bufG I zg) sg) hv hg : sProp 𝕄)
    ⊢ wp frame (wpE (defs₀ (F := F)) Variants.none (c : Thread nD τ) none) E (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (rd (bufV I zv) 8 inb_S1032x512_S256x512_8_0) (rd (bufG I zg) 8 inb_S1032x512_S256x512_8_0) (rd (bufV I zv) 7 inb_S1032x512_S256x512_7_0) (rd (bufG I zg) 7 inb_S1032x512_S256x512_7_0))
        (fun r => iprop(⌜r = (act0 I (bufV I zv) (bufG I zg))⌝ ∗ res c arg2 arg3 arg4 arg5 arg6 arg7 arg8 arg9 arg10 arg11 arg12 arg13 arg14 arg15 arg16 arg17 arg18 arg19 I y tv tg (upto (s := S1032x512) 0 520 (bufV I zv) sv) (upto (s := S1032x512) 0 520 (bufG I zg) sg) hv hg)) := by
  simp only [k0_part3_eq_skeleton]
  unfold k0_part3_skel
  unfold res owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩
  have e0 : arg16.view.readAt (Elt F) (Rect.unit (s := S1032x512) ![6, 0] S256x512.size inb_S1032x512_S256x512_6_0).toLoadRect f16 = _ := load_upto _ 0 h16 _ (by decide)
  have e1 : arg17.view.readAt (Elt F) (Rect.unit (s := S1032x512) ![6, 0] S256x512.size inb_S1032x512_S256x512_6_0).toLoadRect f17 = _ := load_upto _ 0 h17 _ (by decide)
  have e2 : arg9.view.readAt (Elt F) (Rect.unit (s := S1x512) ![0, 0] S1x512.size inb_S1x512_S1x512_0_0).toLoadRect f9 = _ := (View.readAt_full _ _ _).trans h9
  have e3 : arg7.view.readAt (Elt F) (Rect.unit (s := S3x512) ![2, 0] S1x512.size inb_S3x512_S1x512_2_0).toLoadRect f7 = _ := load_eq _ h7 _
  have e4 : arg7.view.readAt (Elt F) (Rect.unit (s := S3x512) ![0, 0] S1x512.size inb_S3x512_S1x512_0_0).toLoadRect f7 = _ := load_eq _ h7 _
  have e5 : arg7.view.readAt (Elt F) (Rect.unit (s := S3x512) ![1, 0] S1x512.size inb_S3x512_S1x512_1_0).toLoadRect f7 = _ := load_eq _ h7 _
  have e6 : arg10.view.readAt (Elt F) (Rect.unit (s := S1x512) ![0, 0] S1x512.size inb_S1x512_S1x512_0_0).toLoadRect f10 = _ := (View.readAt_full _ _ _).trans h10
  have e7 : arg8.view.readAt (Elt F) (Rect.unit (s := S3x512) ![2, 0] S1x512.size inb_S3x512_S1x512_2_0).toLoadRect f8 = _ := load_eq _ h8 _
  have e8 : arg8.view.readAt (Elt F) (Rect.unit (s := S3x512) ![0, 0] S1x512.size inb_S3x512_S1x512_0_0).toLoadRect f8 = _ := load_eq _ h8 _
  have e9 : arg8.view.readAt (Elt F) (Rect.unit (s := S3x512) ![1, 0] S1x512.size inb_S3x512_S1x512_1_0).toLoadRect f8 = _ := load_eq _ h8 _
  sl_exec
  sl_step
  isplitr
  · ipureintro; sl_unfold_run_names
    exact rfl
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact h15
  isplitl [H16]
  · iexists _; isplitr; swap; · iexact H16
    ipureintro; exact h16
  isplitl [H17]
  · iexists _; isplitr; swap; · iexact H17
    ipureintro; exact h17
  isplitl [H18]
  · iexists _; isplitr; swap; · iexact H18
    ipureintro; exact h18
  · iexists _; isplitr; swap; · iexact H19
    ipureintro; exact h19

theorem part4_run (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1x2x512 .f32) (harg14 : arg14.IsWhole) (arg15 : Memref sig .tc .vmem S1x2x512 .f32) (harg15 : arg15.IsWhole) (arg16 : Memref sig .tc .vmem S1032x512 .f32) (harg16 : arg16.IsWhole) (arg17 : Memref sig .tc .vmem S1032x512 .f32) (harg17 : arg17.IsWhole) (arg18 : Memref sig .tc .vmem S11x8x512 .f32) (harg18 : arg18.IsWhole) (arg19 : Memref sig .tc .vmem S11x8x512 .f32) (harg19 : arg19.IsWhole)
    (I : Ins F) (y : Vec F S1024x2048 .f32) (tv tg : Vec F S1x2x512 .f32) (sv sg : Vec F S1032x512 .f32) (hv hg : Vec F S11x8x512 .f32) (zv zg : Vec F S1x8x512 .f32) :
    (res c arg2 arg3 arg4 arg5 arg6 arg7 arg8 arg9 arg10 arg11 arg12 arg13 arg14 arg15 arg16 arg17 arg18 arg19 I y tv tg (upto (s := S1032x512) 0 520 (bufV I zv) sv) (upto (s := S1032x512) 0 520 (bufG I zg) sg) hv hg : sProp 𝕄)
    ⊢ wp frame (wpE (defs₀ (F := F)) Variants.none (c : Thread nD τ) none) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (act0 I (bufV I zv) (bufG I zg)))
        (fun r => iprop(⌜r = ⟨(rd (bufV I zv) 264 inb_S1032x512_S256x512_264_0), (rd (bufG I zg) 264 inb_S1032x512_S256x512_264_0), (rd (bufV I zv) 263 inb_S1032x512_S256x512_263_0), (rd (bufG I zg) 263 inb_S1032x512_S256x512_263_0), (rd (bufV I zv) 262 inb_S1032x512_S256x512_262_0), (rd (bufG I zg) 262 inb_S1032x512_S256x512_262_0)⟩⌝ ∗ res c arg2 arg3 arg4 arg5 arg6 arg7 arg8 arg9 arg10 arg11 arg12 arg13 arg14 arg15 arg16 arg17 arg18 arg19 I (upto (s := S1024x2048) 0 256 (newY I (bufV I zv) (bufG I zg) y) y) tv tg (upto (s := S1032x512) 0 776 (bufV I zv) sv) (upto (s := S1032x512) 0 776 (bufG I zg) sg) hv hg)) := by
  simp only [k0_part4_eq_skeleton]
  unfold k0_part4_skel
  unfold res owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩
  have e0 : arg13.view.readAt (Elt F) (Rect.unit (s := S1024x2048) ![0, 0] S256x2048.size inb_S1024x2048_S256x2048_0_0).toLoadRect f13 = _ := load_eq _ h13 _
  have e1 : arg11.view.readAt (Elt F) (Rect.unit (s := S512x2048) ![0, 0] S512x2048.size inb_S512x2048_S512x2048_0_0).toLoadRect f11 = _ := (View.readAt_full _ _ _).trans h11
  have e2 : arg2.view.readAt (Elt F) (Rect.unit (s := S1024x2048) ![512, 0] S256x2048.size inb_S1024x2048_S256x2048_512_0).toLoadRect f2 = _ := load_eq _ h2 _
  have e3 : arg5.view.readAt (Elt F) (Rect.unit (s := S2048x512) ![0, 0] S2048x512.size inb_S2048x512_S2048x512_0_0).toLoadRect f5 = _ := (View.readAt_full _ _ _).trans h5
  have e4 : arg6.view.readAt (Elt F) (Rect.unit (s := S2048x512) ![0, 0] S2048x512.size inb_S2048x512_S2048x512_0_0).toLoadRect f6 = _ := (View.readAt_full _ _ _).trans h6
  have e5 : arg16.view.readAt (Elt F) (Rect.unit (s := S1032x512) ![264, 0] S256x512.size inb_S1032x512_S256x512_264_0).toLoadRect f16 = _ := load_upto _ 0 h16 _ (by decide)
  have e6 : arg17.view.readAt (Elt F) (Rect.unit (s := S1032x512) ![264, 0] S256x512.size inb_S1032x512_S256x512_264_0).toLoadRect f17 = _ := load_upto _ 0 h17 _ (by decide)
  have e7 : arg16.view.readAt (Elt F) (Rect.unit (s := S1032x512) ![263, 0] S256x512.size inb_S1032x512_S256x512_263_0).toLoadRect f16 = _ := load_upto _ 0 h16 _ (by decide)
  have e8 : arg17.view.readAt (Elt F) (Rect.unit (s := S1032x512) ![263, 0] S256x512.size inb_S1032x512_S256x512_263_0).toLoadRect f17 = _ := load_upto _ 0 h17 _ (by decide)
  have e9 : arg16.view.readAt (Elt F) (Rect.unit (s := S1032x512) ![262, 0] S256x512.size inb_S1032x512_S256x512_262_0).toLoadRect f16 = _ := load_upto _ 0 h16 _ (by decide)
  have e10 : arg17.view.readAt (Elt F) (Rect.unit (s := S1032x512) ![262, 0] S256x512.size inb_S1032x512_S256x512_262_0).toLoadRect f17 = _ := load_upto _ 0 h17 _ (by decide)
  sl_exec
  sl_step
  isplitr
  · ipureintro; sl_unfold_run_names
    exact rfl
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; sl_unfold_run_names; exact store_upto (n' := 256) _ 0 (read_nil _ (h13.trans (upto_zero (s := S1024x2048) 0 (newY I (bufV I zv) (bufG I zg) y) y).symm)) _ _ rfl rfl (by decide) (newY_chunk I (bufV I zv) (bufG I zg) y 0 0 rfl _)
  isplitl [H14]
  · iexists _; isplitr; swap; · iexact H14
    ipureintro; exact h14
  isplitl [H15]
  · iexists _; isplitr; swap; · iexact H15
    ipureintro; exact h15
  isplitl [H16]
  · iexists _; isplitr; swap; · iexact H16
    ipureintro; sl_unfold_run_names; exact store_upto (n' := 776) _ 0 (read_nil _ h16) _ _ rfl rfl (by decide) (buf_chunk _ (upV I) 2 520 rfl _)
  isplitl [H17]
  · iexists _; isplitr; swap; · iexact H17
    ipureintro; sl_unfold_run_names; exact store_upto (n' := 776) _ 0 (read_nil _ h17) _ _ rfl rfl (by decide) (buf_chunk _ (upG I) 2 520 rfl _)
  isplitl [H18]
  · iexists _; isplitr; swap; · iexact H18
    ipureintro; exact h18
  · iexists _; isplitr; swap; · iexact H19
    ipureintro; exact h19

theorem part5_run (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1x2x512 .f32) (harg14 : arg14.IsWhole) (arg15 : Memref sig .tc .vmem S1x2x512 .f32) (harg15 : arg15.IsWhole) (arg16 : Memref sig .tc .vmem S1032x512 .f32) (harg16 : arg16.IsWhole) (arg17 : Memref sig .tc .vmem S1032x512 .f32) (harg17 : arg17.IsWhole) (arg18 : Memref sig .tc .vmem S11x8x512 .f32) (harg18 : arg18.IsWhole) (arg19 : Memref sig .tc .vmem S11x8x512 .f32) (harg19 : arg19.IsWhole)
    (I : Ins F) (y : Vec F S1024x2048 .f32) (tv tg : Vec F S1x2x512 .f32) (sv sg : Vec F S1032x512 .f32) (hv hg : Vec F S11x8x512 .f32) (zv zg : Vec F S1x8x512 .f32) :
    (res c arg2 arg3 arg4 arg5 arg6 arg7 arg8 arg9 arg10 arg11 arg12 arg13 arg14 arg15 arg16 arg17 arg18 arg19 I (upto (s := S1024x2048) 0 256 (newY I (bufV I zv) (bufG I zg) y) y) tv tg (upto (s := S1032x512) 0 776 (bufV I zv) sv) (upto (s := S1032x512) 0 776 (bufG I zg) sg) hv hg : sProp 𝕄)
    ⊢ wp frame (wpE (defs₀ (F := F)) Variants.none (c : Thread nD τ) none) E (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (rd (bufV I zv) 264 inb_S1032x512_S256x512_264_0) (rd (bufG I zg) 264 inb_S1032x512_S256x512_264_0) (rd (bufV I zv) 263 inb_S1032x512_S256x512_263_0) (rd (bufG I zg) 263 inb_S1032x512_S256x512_263_0) (rd (bufV I zv) 262 inb_S1032x512_S256x512_262_0) (rd (bufG I zg) 262 inb_S1032x512_S256x512_262_0))
        (fun r => iprop(⌜r = ⟨(act1 I (bufV I zv) (bufG I zg)), k0_pay19 (yr y 256 inb_S1024x2048_S256x2048_256_0)⟩⌝ ∗ res c arg2 arg3 arg4 arg5 arg6 arg7 arg8 arg9 arg10 arg11 arg12 arg13 arg14 arg15 arg16 arg17 arg18 arg19 I (upto (s := S1024x2048) 0 256 (newY I (bufV I zv) (bufG I zg) y) y) tv tg (upto (s := S1032x512) 0 776 (bufV I zv) sv) (upto (s := S1032x512) 0 776 (bufG I zg) sg) hv hg)) := by
  simp only [k0_part5_eq_skeleton]
  unfold k0_part5_skel
  unfold res owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩
  have e0 : arg9.view.readAt (Elt F) (Rect.unit (s := S1x512) ![0, 0] S1x512.size inb_S1x512_S1x512_0_0).toLoadRect f9 = _ := (View.readAt_full _ _ _).trans h9
  have e1 : arg7.view.readAt (Elt F) (Rect.unit (s := S3x512) ![2, 0] S1x512.size inb_S3x512_S1x512_2_0).toLoadRect f7 = _ := load_eq _ h7 _
  have e2 : arg7.view.readAt (Elt F) (Rect.unit (s := S3x512) ![0, 0] S1x512.size inb_S3x512_S1x512_0_0).toLoadRect f7 = _ := load_eq _ h7 _
  have e3 : arg7.view.readAt (Elt F) (Rect.unit (s := S3x512) ![1, 0] S1x512.size inb_S3x512_S1x512_1_0).toLoadRect f7 = _ := load_eq _ h7 _
  have e4 : arg10.view.readAt (Elt F) (Rect.unit (s := S1x512) ![0, 0] S1x512.size inb_S1x512_S1x512_0_0).toLoadRect f10 = _ := (View.readAt_full _ _ _).trans h10
  have e5 : arg8.view.readAt (Elt F) (Rect.unit (s := S3x512) ![2, 0] S1x512.size inb_S3x512_S1x512_2_0).toLoadRect f8 = _ := load_eq _ h8 _
  have e6 : arg8.view.readAt (Elt F) (Rect.unit (s := S3x512) ![0, 0] S1x512.size inb_S3x512_S1x512_0_0).toLoadRect f8 = _ := load_eq _ h8 _
  have e7 : arg8.view.readAt (Elt F) (Rect.unit (s := S3x512) ![1, 0] S1x512.size inb_S3x512_S1x512_1_0).toLoadRect f8 = _ := load_eq _ h8 _
  have e8 : arg13.view.readAt (Elt F) (Rect.unit (s := S1024x2048) ![256, 0] S256x2048.size inb_S1024x2048_S256x2048_256_0).toLoadRect f13 = _ := load_below _ 0 h13 _ (by decide)
  sl_exec
  sl_step
  isplitr
  · ipureintro; sl_unfold_run_names
    exact rfl
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact h15
  isplitl [H16]
  · iexists _; isplitr; swap; · iexact H16
    ipureintro; exact h16
  isplitl [H17]
  · iexists _; isplitr; swap; · iexact H17
    ipureintro; exact h17
  isplitl [H18]
  · iexists _; isplitr; swap; · iexact H18
    ipureintro; exact h18
  · iexists _; isplitr; swap; · iexact H19
    ipureintro; exact h19

theorem part6_run (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1x2x512 .f32) (harg14 : arg14.IsWhole) (arg15 : Memref sig .tc .vmem S1x2x512 .f32) (harg15 : arg15.IsWhole) (arg16 : Memref sig .tc .vmem S1032x512 .f32) (harg16 : arg16.IsWhole) (arg17 : Memref sig .tc .vmem S1032x512 .f32) (harg17 : arg17.IsWhole) (arg18 : Memref sig .tc .vmem S11x8x512 .f32) (harg18 : arg18.IsWhole) (arg19 : Memref sig .tc .vmem S11x8x512 .f32) (harg19 : arg19.IsWhole)
    (I : Ins F) (y : Vec F S1024x2048 .f32) (tv tg : Vec F S1x2x512 .f32) (sv sg : Vec F S1032x512 .f32) (hv hg : Vec F S11x8x512 .f32) (zv zg : Vec F S1x8x512 .f32) :
    (res c arg2 arg3 arg4 arg5 arg6 arg7 arg8 arg9 arg10 arg11 arg12 arg13 arg14 arg15 arg16 arg17 arg18 arg19 I (upto (s := S1024x2048) 0 256 (newY I (bufV I zv) (bufG I zg) y) y) tv tg (upto (s := S1032x512) 0 776 (bufV I zv) sv) (upto (s := S1032x512) 0 776 (bufG I zg) sg) hv hg : sProp 𝕄)
    ⊢ wp frame (wpE (defs₀ (F := F)) Variants.none (c : Thread nD τ) none) E (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (act1 I (bufV I zv) (bufG I zg)) (k0_pay19 (yr y 256 inb_S1024x2048_S256x2048_256_0)))
        (fun r => iprop(⌜r = ⟨(rd (bufV I zv) 520 inb_S1032x512_S256x512_520_0), (rd (bufG I zg) 520 inb_S1032x512_S256x512_520_0), (rd (bufV I zv) 519 inb_S1032x512_S256x512_519_0), (rd (bufG I zg) 519 inb_S1032x512_S256x512_519_0), (rd (bufV I zv) 518 inb_S1032x512_S256x512_518_0), (rd (bufG I zg) 518 inb_S1032x512_S256x512_518_0), k0_pay23 I.cbv⟩⌝ ∗ res c arg2 arg3 arg4 arg5 arg6 arg7 arg8 arg9 arg10 arg11 arg12 arg13 arg14 arg15 arg16 arg17 arg18 arg19 I (upto (s := S1024x2048) 0 512 (newY I (bufV I zv) (bufG I zg) y) y) tv tg (upto (s := S1032x512) 0 1032 (bufV I zv) sv) (upto (s := S1032x512) 0 1032 (bufG I zg) sg) hv hg)) := by
  simp only [k0_part6_eq_skeleton]
  unfold k0_part6_skel
  unfold res owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩
  have e0 : arg11.view.readAt (Elt F) (Rect.unit (s := S512x2048) ![0, 0] S512x2048.size inb_S512x2048_S512x2048_0_0).toLoadRect f11 = _ := (View.readAt_full _ _ _).trans h11
  have e1 : arg13.view.readAt (Elt F) (Rect.unit (s := S1024x2048) ![256, 0] S256x2048.size inb_S1024x2048_S256x2048_256_0).toLoadRect f13 = _ := load_below _ 0 h13 _ (by decide)
  have e2 : arg2.view.readAt (Elt F) (Rect.unit (s := S1024x2048) ![768, 0] S256x2048.size inb_S1024x2048_S256x2048_768_0).toLoadRect f2 = _ := load_eq _ h2 _
  have e3 : arg5.view.readAt (Elt F) (Rect.unit (s := S2048x512) ![0, 0] S2048x512.size inb_S2048x512_S2048x512_0_0).toLoadRect f5 = _ := (View.readAt_full _ _ _).trans h5
  have e4 : arg6.view.readAt (Elt F) (Rect.unit (s := S2048x512) ![0, 0] S2048x512.size inb_S2048x512_S2048x512_0_0).toLoadRect f6 = _ := (View.readAt_full _ _ _).trans h6
  have e5 : arg16.view.readAt (Elt F) (Rect.unit (s := S1032x512) ![520, 0] S256x512.size inb_S1032x512_S256x512_520_0).toLoadRect f16 = _ := load_upto _ 0 h16 _ (by decide)
  have e6 : arg17.view.readAt (Elt F) (Rect.unit (s := S1032x512) ![520, 0] S256x512.size inb_S1032x512_S256x512_520_0).toLoadRect f17 = _ := load_upto _ 0 h17 _ (by decide)
  have e7 : arg16.view.readAt (Elt F) (Rect.unit (s := S1032x512) ![519, 0] S256x512.size inb_S1032x512_S256x512_519_0).toLoadRect f16 = _ := load_upto _ 0 h16 _ (by decide)
  have e8 : arg17.view.readAt (Elt F) (Rect.unit (s := S1032x512) ![519, 0] S256x512.size inb_S1032x512_S256x512_519_0).toLoadRect f17 = _ := load_upto _ 0 h17 _ (by decide)
  have e9 : arg16.view.readAt (Elt F) (Rect.unit (s := S1032x512) ![518, 0] S256x512.size inb_S1032x512_S256x512_518_0).toLoadRect f16 = _ := load_upto _ 0 h16 _ (by decide)
  have e10 : arg17.view.readAt (Elt F) (Rect.unit (s := S1032x512) ![518, 0] S256x512.size inb_S1032x512_S256x512_518_0).toLoadRect f17 = _ := load_upto _ 0 h17 _ (by decide)
  have e11 : arg9.view.readAt (Elt F) (Rect.unit (s := S1x512) ![0, 0] S1x512.size inb_S1x512_S1x512_0_0).toLoadRect f9 = _ := (View.readAt_full _ _ _).trans h9
  sl_exec
  sl_step
  isplitr
  · ipureintro; sl_unfold_run_names
    exact rfl
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; sl_unfold_run_names; exact store_upto (n' := 512) _ 0 (read_nil _ h13) _ _ rfl rfl (by decide) (newY_chunk I (bufV I zv) (bufG I zg) y 1 256 rfl _)
  isplitl [H14]
  · iexists _; isplitr; swap; · iexact H14
    ipureintro; exact h14
  isplitl [H15]
  · iexists _; isplitr; swap; · iexact H15
    ipureintro; exact h15
  isplitl [H16]
  · iexists _; isplitr; swap; · iexact H16
    ipureintro; sl_unfold_run_names; exact store_upto (n' := 1032) _ 0 (read_nil _ h16) _ _ rfl rfl (by decide) (buf_chunk _ (upV I) 3 776 rfl _)
  isplitl [H17]
  · iexists _; isplitr; swap; · iexact H17
    ipureintro; sl_unfold_run_names; exact store_upto (n' := 1032) _ 0 (read_nil _ h17) _ _ rfl rfl (by decide) (buf_chunk _ (upG I) 3 776 rfl _)
  isplitl [H18]
  · iexists _; isplitr; swap; · iexact H18
    ipureintro; exact h18
  · iexists _; isplitr; swap; · iexact H19
    ipureintro; exact h19

theorem part7_run (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1x2x512 .f32) (harg14 : arg14.IsWhole) (arg15 : Memref sig .tc .vmem S1x2x512 .f32) (harg15 : arg15.IsWhole) (arg16 : Memref sig .tc .vmem S1032x512 .f32) (harg16 : arg16.IsWhole) (arg17 : Memref sig .tc .vmem S1032x512 .f32) (harg17 : arg17.IsWhole) (arg18 : Memref sig .tc .vmem S11x8x512 .f32) (harg18 : arg18.IsWhole) (arg19 : Memref sig .tc .vmem S11x8x512 .f32) (harg19 : arg19.IsWhole)
    (I : Ins F) (y : Vec F S1024x2048 .f32) (tv tg : Vec F S1x2x512 .f32) (sv sg : Vec F S1032x512 .f32) (hv hg : Vec F S11x8x512 .f32) (zv zg : Vec F S1x8x512 .f32) :
    (res c arg2 arg3 arg4 arg5 arg6 arg7 arg8 arg9 arg10 arg11 arg12 arg13 arg14 arg15 arg16 arg17 arg18 arg19 I (upto (s := S1024x2048) 0 512 (newY I (bufV I zv) (bufG I zg) y) y) tv tg (upto (s := S1032x512) 0 1032 (bufV I zv) sv) (upto (s := S1032x512) 0 1032 (bufG I zg) sg) hv hg : sProp 𝕄)
    ⊢ wp frame (wpE (defs₀ (F := F)) Variants.none (c : Thread nD τ) none) E (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (rd (bufV I zv) 520 inb_S1032x512_S256x512_520_0) (rd (bufG I zg) 520 inb_S1032x512_S256x512_520_0) (rd (bufV I zv) 519 inb_S1032x512_S256x512_519_0) (rd (bufG I zg) 519 inb_S1032x512_S256x512_519_0) (rd (bufV I zv) 518 inb_S1032x512_S256x512_518_0) (rd (bufG I zg) 518 inb_S1032x512_S256x512_518_0) (k0_pay23 I.cbv))
        (fun r => iprop(⌜r = ⟨(act2 I (bufV I zv) (bufG I zg)), k0_pay25 (yr y 512 inb_S1024x2048_S256x2048_512_0), k0_pay26 I.wd⟩⌝ ∗ res c arg2 arg3 arg4 arg5 arg6 arg7 arg8 arg9 arg10 arg11 arg12 arg13 arg14 arg15 arg16 arg17 arg18 arg19 I (upto (s := S1024x2048) 0 512 (newY I (bufV I zv) (bufG I zg) y) y) tv tg (upto (s := S1032x512) 0 1032 (bufV I zv) sv) (upto (s := S1032x512) 0 1032 (bufG I zg) sg) hv hg)) := by
  simp only [k0_part7_eq_skeleton]
  unfold k0_part7_skel
  unfold res owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩
  have e0 : arg7.view.readAt (Elt F) (Rect.unit (s := S3x512) ![2, 0] S1x512.size inb_S3x512_S1x512_2_0).toLoadRect f7 = _ := load_eq _ h7 _
  have e1 : arg7.view.readAt (Elt F) (Rect.unit (s := S3x512) ![0, 0] S1x512.size inb_S3x512_S1x512_0_0).toLoadRect f7 = _ := load_eq _ h7 _
  have e2 : arg7.view.readAt (Elt F) (Rect.unit (s := S3x512) ![1, 0] S1x512.size inb_S3x512_S1x512_1_0).toLoadRect f7 = _ := load_eq _ h7 _
  have e3 : arg10.view.readAt (Elt F) (Rect.unit (s := S1x512) ![0, 0] S1x512.size inb_S1x512_S1x512_0_0).toLoadRect f10 = _ := (View.readAt_full _ _ _).trans h10
  have e4 : arg8.view.readAt (Elt F) (Rect.unit (s := S3x512) ![2, 0] S1x512.size inb_S3x512_S1x512_2_0).toLoadRect f8 = _ := load_eq _ h8 _
  have e5 : arg8.view.readAt (Elt F) (Rect.unit (s := S3x512) ![0, 0] S1x512.size inb_S3x512_S1x512_0_0).toLoadRect f8 = _ := load_eq _ h8 _
  have e6 : arg8.view.readAt (Elt F) (Rect.unit (s := S3x512) ![1, 0] S1x512.size inb_S3x512_S1x512_1_0).toLoadRect f8 = _ := load_eq _ h8 _
  have e7 : arg13.view.readAt (Elt F) (Rect.unit (s := S1024x2048) ![512, 0] S256x2048.size inb_S1024x2048_S256x2048_512_0).toLoadRect f13 = _ := load_below _ 0 h13 _ (by decide)
  have e8 : arg11.view.readAt (Elt F) (Rect.unit (s := S512x2048) ![0, 0] S512x2048.size inb_S512x2048_S512x2048_0_0).toLoadRect f11 = _ := (View.readAt_full _ _ _).trans h11
  sl_exec
  sl_step
  isplitr
  · ipureintro; sl_unfold_run_names
    exact rfl
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact h15
  isplitl [H16]
  · iexists _; isplitr; swap; · iexact H16
    ipureintro; exact h16
  isplitl [H17]
  · iexists _; isplitr; swap; · iexact H17
    ipureintro; exact h17
  isplitl [H18]
  · iexists _; isplitr; swap; · iexact H18
    ipureintro; exact h18
  · iexists _; isplitr; swap; · iexact H19
    ipureintro; exact h19

theorem part8_run (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1x2x512 .f32) (harg14 : arg14.IsWhole) (arg15 : Memref sig .tc .vmem S1x2x512 .f32) (harg15 : arg15.IsWhole) (arg16 : Memref sig .tc .vmem S1032x512 .f32) (harg16 : arg16.IsWhole) (arg17 : Memref sig .tc .vmem S1032x512 .f32) (harg17 : arg17.IsWhole) (arg18 : Memref sig .tc .vmem S11x8x512 .f32) (harg18 : arg18.IsWhole) (arg19 : Memref sig .tc .vmem S11x8x512 .f32) (harg19 : arg19.IsWhole)
    (I : Ins F) (y : Vec F S1024x2048 .f32) (tv tg : Vec F S1x2x512 .f32) (sv sg : Vec F S1032x512 .f32) (hv hg : Vec F S11x8x512 .f32) (zv zg : Vec F S1x8x512 .f32) :
    (res c arg2 arg3 arg4 arg5 arg6 arg7 arg8 arg9 arg10 arg11 arg12 arg13 arg14 arg15 arg16 arg17 arg18 arg19 I (upto (s := S1024x2048) 0 512 (newY I (bufV I zv) (bufG I zg) y) y) tv tg (upto (s := S1032x512) 0 1032 (bufV I zv) sv) (upto (s := S1032x512) 0 1032 (bufG I zg) sg) hv hg : sProp 𝕄)
    ⊢ wp frame (wpE (defs₀ (F := F)) Variants.none (c : Thread nD τ) none) E (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (act2 I (bufV I zv) (bufG I zg)) (k0_pay25 (yr y 512 inb_S1024x2048_S256x2048_512_0)) (k0_pay26 I.wd))
        (fun r => iprop(⌜r = ⟨(rd (bufG I zg) 776 inb_S1032x512_S256x512_776_0), (rd (bufG I zg) 775 inb_S1032x512_S256x512_775_0), (rd (bufG I zg) 774 inb_S1032x512_S256x512_774_0), (act3v I (bufV I zv)), k0_pay29 I.cbg, k0_pay30 (cr I.cwg 2 inb_S3x512_S1x512_2_0)⟩⌝ ∗ res c arg2 arg3 arg4 arg5 arg6 arg7 arg8 arg9 arg10 arg11 arg12 arg13 arg14 arg15 arg16 arg17 arg18 arg19 I (upto (s := S1024x2048) 0 768 (newY I (bufV I zv) (bufG I zg) y) y) tv tg (upto (s := S1032x512) 0 1032 (bufV I zv) sv) (upto (s := S1032x512) 0 1032 (bufG I zg) sg) hv hg)) := by
  simp only [k0_part8_eq_skeleton]
  unfold k0_part8_skel
  unfold res owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩
  have e0 : arg13.view.readAt (Elt F) (Rect.unit (s := S1024x2048) ![512, 0] S256x2048.size inb_S1024x2048_S256x2048_512_0).toLoadRect f13 = _ := load_below _ 0 h13 _ (by decide)
  have e1 : arg16.view.readAt (Elt F) (Rect.unit (s := S1032x512) ![776, 0] S256x512.size inb_S1032x512_S256x512_776_0).toLoadRect f16 = _ := load_upto _ 0 h16 _ (by decide)
  have e2 : arg17.view.readAt (Elt F) (Rect.unit (s := S1032x512) ![776, 0] S256x512.size inb_S1032x512_S256x512_776_0).toLoadRect f17 = _ := load_upto _ 0 h17 _ (by decide)
  have e3 : arg16.view.readAt (Elt F) (Rect.unit (s := S1032x512) ![775, 0] S256x512.size inb_S1032x512_S256x512_775_0).toLoadRect f16 = _ := load_upto _ 0 h16 _ (by decide)
  have e4 : arg17.view.readAt (Elt F) (Rect.unit (s := S1032x512) ![775, 0] S256x512.size inb_S1032x512_S256x512_775_0).toLoadRect f17 = _ := load_upto _ 0 h17 _ (by decide)
  have e5 : arg16.view.readAt (Elt F) (Rect.unit (s := S1032x512) ![774, 0] S256x512.size inb_S1032x512_S256x512_774_0).toLoadRect f16 = _ := load_upto _ 0 h16 _ (by decide)
  have e6 : arg17.view.readAt (Elt F) (Rect.unit (s := S1032x512) ![774, 0] S256x512.size inb_S1032x512_S256x512_774_0).toLoadRect f17 = _ := load_upto _ 0 h17 _ (by decide)
  have e7 : arg9.view.readAt (Elt F) (Rect.unit (s := S1x512) ![0, 0] S1x512.size inb_S1x512_S1x512_0_0).toLoadRect f9 = _ := (View.readAt_full _ _ _).trans h9
  have e8 : arg7.view.readAt (Elt F) (Rect.unit (s := S3x512) ![2, 0] S1x512.size inb_S3x512_S1x512_2_0).toLoadRect f7 = _ := load_eq _ h7 _
  have e9 : arg7.view.readAt (Elt F) (Rect.unit (s := S3x512) ![0, 0] S1x512.size inb_S3x512_S1x512_0_0).toLoadRect f7 = _ := load_eq _ h7 _
  have e10 : arg7.view.readAt (Elt F) (Rect.unit (s := S3x512) ![1, 0] S1x512.size inb_S3x512_S1x512_1_0).toLoadRect f7 = _ := load_eq _ h7 _
  have e11 : arg10.view.readAt (Elt F) (Rect.unit (s := S1x512) ![0, 0] S1x512.size inb_S1x512_S1x512_0_0).toLoadRect f10 = _ := (View.readAt_full _ _ _).trans h10
  have e12 : arg8.view.readAt (Elt F) (Rect.unit (s := S3x512) ![2, 0] S1x512.size inb_S3x512_S1x512_2_0).toLoadRect f8 = _ := load_eq _ h8 _
  sl_exec
  sl_step
  isplitr
  · ipureintro; sl_unfold_run_names
    exact rfl
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; sl_unfold_run_names; exact store_upto (n' := 768) _ 0 (read_nil _ h13) _ _ rfl rfl (by decide) (newY_chunk I (bufV I zv) (bufG I zg) y 2 512 rfl _)
  isplitl [H14]
  · iexists _; isplitr; swap; · iexact H14
    ipureintro; exact h14
  isplitl [H15]
  · iexists _; isplitr; swap; · iexact H15
    ipureintro; exact h15
  isplitl [H16]
  · iexists _; isplitr; swap; · iexact H16
    ipureintro; exact h16
  isplitl [H17]
  · iexists _; isplitr; swap; · iexact H17
    ipureintro; exact h17
  isplitl [H18]
  · iexists _; isplitr; swap; · iexact H18
    ipureintro; exact h18
  · iexists _; isplitr; swap; · iexact H19
    ipureintro; exact h19

theorem part9_run (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1x2x512 .f32) (harg14 : arg14.IsWhole) (arg15 : Memref sig .tc .vmem S1x2x512 .f32) (harg15 : arg15.IsWhole) (arg16 : Memref sig .tc .vmem S1032x512 .f32) (harg16 : arg16.IsWhole) (arg17 : Memref sig .tc .vmem S1032x512 .f32) (harg17 : arg17.IsWhole) (arg18 : Memref sig .tc .vmem S11x8x512 .f32) (harg18 : arg18.IsWhole) (arg19 : Memref sig .tc .vmem S11x8x512 .f32) (harg19 : arg19.IsWhole)
    (I : Ins F) (y : Vec F S1024x2048 .f32) (tv tg : Vec F S1x2x512 .f32) (sv sg : Vec F S1032x512 .f32) (hv hg : Vec F S11x8x512 .f32) (zv zg : Vec F S1x8x512 .f32) :
    (res c arg2 arg3 arg4 arg5 arg6 arg7 arg8 arg9 arg10 arg11 arg12 arg13 arg14 arg15 arg16 arg17 arg18 arg19 I (upto (s := S1024x2048) 0 768 (newY I (bufV I zv) (bufG I zg) y) y) tv tg (upto (s := S1032x512) 0 1032 (bufV I zv) sv) (upto (s := S1032x512) 0 1032 (bufG I zg) sg) hv hg : sProp 𝕄)
    ⊢ wp frame (wpE (defs₀ (F := F)) Variants.none (c : Thread nD τ) none) E (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (rd (bufG I zg) 776 inb_S1032x512_S256x512_776_0) (rd (bufG I zg) 775 inb_S1032x512_S256x512_775_0) (rd (bufG I zg) 774 inb_S1032x512_S256x512_774_0) (act3v I (bufV I zv)) (k0_pay29 I.cbg) (k0_pay30 (cr I.cwg 2 inb_S3x512_S1x512_2_0)))
        (fun r => iprop(⌜r = last8 (bufG I zg)⌝ ∗ res c arg2 arg3 arg4 arg5 arg6 arg7 arg8 arg9 arg10 arg11 arg12 arg13 arg14 arg15 arg16 arg17 arg18 arg19 I (newY I (bufV I zv) (bufG I zg) y) (k0_pay33 (last2 (bufV I zv))) tg (upto (s := S1032x512) 0 1032 (bufV I zv) sv) (upto (s := S1032x512) 0 1032 (bufG I zg) sg) (setSlab i hv (k0_pay32 (last8 (bufV I zv)))) hg)) := by
  simp only [k0_part9_eq_skeleton]
  unfold k0_part9_skel
  unfold res owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩
  have e0 : arg8.view.readAt (Elt F) (Rect.unit (s := S3x512) ![0, 0] S1x512.size inb_S3x512_S1x512_0_0).toLoadRect f8 = _ := load_eq _ h8 _
  have e1 : arg8.view.readAt (Elt F) (Rect.unit (s := S3x512) ![1, 0] S1x512.size inb_S3x512_S1x512_1_0).toLoadRect f8 = _ := load_eq _ h8 _
  have e2 : arg13.view.readAt (Elt F) (Rect.unit (s := S1024x2048) ![768, 0] S256x2048.size inb_S1024x2048_S256x2048_768_0).toLoadRect f13 = _ := load_below _ 0 h13 _ (by decide)
  have e3 : arg11.view.readAt (Elt F) (Rect.unit (s := S512x2048) ![0, 0] S512x2048.size inb_S512x2048_S512x2048_0_0).toLoadRect f11 = _ := (View.readAt_full _ _ _).trans h11
  have e4 : arg16.view.readAt (Elt F) (Rect.unit (s := S1032x512) ![1024, 0] S8x512.size inb_S1032x512_S8x512_1024_0).toLoadRect f16 = _ := load_upto _ 0 h16 _ (by decide)
  have e5 : arg18.view.readAt (Elt F) (Rect.unit (s := S11x8x512) (k0_off2 i) S1x8x512.size (k0_off2_inb i)).toLoadRect f18 = _ := load_eq _ h18 _
  have e6 : arg16.view.readAt (Elt F) (Rect.unit (s := S1032x512) ![1030, 0] S2x512.size inb_S1032x512_S2x512_1030_0).toLoadRect f16 = _ := load_upto _ 0 h16 _ (by decide)
  have e7 : arg14.view.readAt (Elt F) (Rect.unit (s := S1x2x512) ![0, 0, 0] S1x2x512.size inb_S1x2x512_S1x2x512_0_0_0).toLoadRect f14 = _ := (View.readAt_full _ _ _).trans h14
  have e8 : arg17.view.readAt (Elt F) (Rect.unit (s := S1032x512) ![1024, 0] S8x512.size inb_S1032x512_S8x512_1024_0).toLoadRect f17 = _ := load_upto _ 0 h17 _ (by decide)
  sl_exec
  sl_step
  isplitr
  · ipureintro; sl_unfold_run_names
    exact rfl
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; sl_unfold_run_names; exact (store_upto (n' := 1024) _ 0 (read_nil _ h13) _ _ rfl rfl (by decide) (newY_chunk I (bufV I zv) (bufG I zg) y 3 768 rfl _)).trans (upto_all (s := S1024x2048) 0 (by decide) (newY I (bufV I zv) (bufG I zg) y) y)
  isplitl [H14]
  · iexists _; isplitr; swap; · iexact H14
    ipureintro; sl_unfold_run_names; exact (View.read_writes_full _ _ _ _ _).trans rfl
  isplitl [H15]
  · iexists _; isplitr; swap; · iexact H15
    ipureintro; exact h15
  isplitl [H16]
  · iexists _; isplitr; swap; · iexact H16
    ipureintro; exact h16
  isplitl [H17]
  · iexists _; isplitr; swap; · iexact H17
    ipureintro; exact h17
  isplitl [H18]
  · iexists _; isplitr; swap; · iexact H18
    ipureintro; sl_unfold_run_names; exact store_put _ h18 _ rfl _
  · iexists _; isplitr; swap; · iexact H19
    ipureintro; exact h19

end Cert.Proof.Ffn

end
-- ==== Proof.FfnBody.lean ====
/-
  The feed-forward block's body at a grid point, from its parts: from the block of inputs, the carried rows and the output block
  the point starts from, to what it leaves in the outputs and the carried rows.
-/
module

public import proofs.«01_k».proof.Proof.FfnParts
public import Idealize.ShloMosaic.Lib.Scf

@[expose] public section

set_option maxRecDepth 16384
set_option maxHeartbeats 4000000

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The carried rows just cleared, read back, are the clear rows, whatever was there. -/
theorem slab_cleared (arg : Memref sig .tc .vmem S11x8x512 .f32) (i : grid0.Coords) (x : Vec F S11x8x512 .f32) (w : Vec F S1x8x512 .f32) (hb : firstBlock i) :
    arg.view.readCov (Val := Elt F) [(⟨Rect.unit (s := S11x8x512) (k0_off1 i) S1x8x512.size (k0_off1_inb i hb), w⟩ : View.Piece (Elt F) S11x8x512 .f32)]
      (Rect.unit (s := S11x8x512) (k0_off2 i) S1x8x512.size (k0_off2_inb i)).toLoadRect = slab i (setSlab i x w) := by
  refine (load_eq _ (store_put arg.view rfl (k0_off1_inb i hb) (show k0_off1 i = k0_off2 i from rfl) w) _).trans ?_
  exact (VecWindow.window_put_same _ _ _ _ _).trans (VecWindow.window_put_same x (k0_off2 i) S1x8x512.size (k0_off2_inb i) w).symm

/-- A program followed by what uses its result, when the result is known. -/
theorem wp_part {c : Dev nD} {E : Set ℕ} {α β : Type} {p : Prog (TpuEff nD τ sig (Elt F) Λ₀ .tc) α} {k : α → Prog (TpuEff nD τ sig (Elt F) Λ₀ .tc) β} {v : α}
    {P Q : sProp 𝕄} {R : β → sProp 𝕄} (h1 : P ⊢ wp frame (wpE (defs₀ (F := F)) Variants.none (c : Thread nD τ) none) E p (fun r => iprop(⌜r = v⌝ ∗ Q)))
    (h2 : Q ⊢ wp frame (wpE (defs₀ (F := F)) Variants.none (c : Thread nD τ) none) E (k v) R) :
    P ⊢ wp frame (wpE (defs₀ (F := F)) Variants.none (c : Thread nD τ) none) E (p >>= k) R := by
  rw [wp_bind]
  iintro H
  iapply (wp_wand_r frame _ E)
  isplitl [H]
  · iapply h1; iexact H
  iintro %r ⟨%hr, H⟩
  subst hr
  iapply h2; iexact H

theorem part1_run (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1x2x512 .f32) (harg14 : arg14.IsWhole) (arg15 : Memref sig .tc .vmem S1x2x512 .f32) (harg15 : arg15.IsWhole) (arg16 : Memref sig .tc .vmem S1032x512 .f32) (harg16 : arg16.IsWhole) (arg17 : Memref sig .tc .vmem S1032x512 .f32) (harg17 : arg17.IsWhole) (arg18 : Memref sig .tc .vmem S11x8x512 .f32) (harg18 : arg18.IsWhole) (arg19 : Memref sig .tc .vmem S11x8x512 .f32) (harg19 : arg19.IsWhole)
    (I : Ins F) (y : Vec F S1024x2048 .f32) (tv tg : Vec F S1x2x512 .f32) (sv sg : Vec F S1032x512 .f32) (hv hg : Vec F S11x8x512 .f32) :
    (res c arg2 arg3 arg4 arg5 arg6 arg7 arg8 arg9 arg10 arg11 arg12 arg13 arg14 arg15 arg16 arg17 arg18 arg19 I y tv tg sv sg hv hg : sProp 𝕄)
    ⊢ wp frame (wpE (defs₀ (F := F)) Variants.none (c : Thread nD τ) none) E (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun r => iprop(⌜r = ⟨BitVec.ofNat 32 (i 1).val, (hr I.h 0 inb_S1024x2048_S256x2048_0_0), k0_pay9 I.wv, constant S256x512 .f32 0x00000000#32⟩⌝ ∗ res c arg2 arg3 arg4 arg5 arg6 arg7 arg8 arg9 arg10 arg11 arg12 arg13 arg14 arg15 arg16 arg17 arg18 arg19 I (startY i y) tv tg (upto (s := S1032x512) 0 8 (bufV I (slab i (startH i k0_pay4 hv))) sv) (upto (s := S1032x512) 0 8 (bufG I (slab i (startH i k0_pay5 hg))) sg) (startH i k0_pay4 hv) (startH i k0_pay5 hg))) := by
  simp only [k0_part1_eq_skeleton]
  unfold k0_part1_skel
  unfold res owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩
  have e0 : arg2.view.readAt (Elt F) (Rect.unit (s := S1024x2048) ![0, 0] S256x2048.size inb_S1024x2048_S256x2048_0_0).toLoadRect f2 = _ := load_eq _ h2 _
  have e1 : arg5.view.readAt (Elt F) (Rect.unit (s := S2048x512) ![0, 0] S2048x512.size inb_S2048x512_S2048x512_0_0).toLoadRect f5 = _ := (View.readAt_full _ _ _).trans h5
  by_cases hb : firstBlock i
  all_goals by_cases hc : firstCol i
  · have e9 : startH i (k0_pay4 (F := F)) hv = setSlab i hv k0_pay4 := if_pos hb
    have e10 : startH i (k0_pay5 (F := F)) hg = setSlab i hg k0_pay5 := if_pos hb
    have e11 : startY i y = k0_pay6 := if_pos hc
    rw [e9, e10, e11]
    sl_exec (disch := first | sl_exact hb | sl_exact hc)
    sl_step
    isplitr
    · ipureintro; sl_unfold_run_names; rfl
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; sl_unfold_run_names; exact (View.read_writes_full _ _ _ _ _).trans rfl
    isplitl [H14]
    · iexists _; isplitr; swap; · iexact H14
      ipureintro; exact h14
    isplitl [H15]
    · iexists _; isplitr; swap; · iexact H15
      ipureintro; exact h15
    isplitl [H16]
    · iexists _; isplitr; swap; · iexact H16
      ipureintro; sl_unfold_run_names; exact store_upto (n' := 8) _ 0 (read_nil _ (h16.trans (upto_zero (s := S1032x512) 0 _ _).symm)) _ _ rfl rfl (by decide) ((congrArg k0_pay7 (slab_cleared _ i _ _ hb)).trans (buf_head _ _))
    isplitl [H17]
    · iexists _; isplitr; swap; · iexact H17
      ipureintro; sl_unfold_run_names; exact store_upto (n' := 8) _ 0 (read_nil _ (h17.trans (upto_zero (s := S1032x512) 0 _ _).symm)) _ _ rfl rfl (by decide) ((congrArg k0_pay8 (slab_cleared _ i _ _ hb)).trans (buf_head _ _))
    isplitl [H18]
    · iexists _; isplitr; swap; · iexact H18
      ipureintro; sl_unfold_run_names; exact store_put _ h18 _ rfl _
    · iexists _; isplitr; swap; · iexact H19
      ipureintro; sl_unfold_run_names; exact store_put _ h19 _ rfl _
  · have e9 : startH i (k0_pay4 (F := F)) hv = setSlab i hv k0_pay4 := if_pos hb
    have e10 : startH i (k0_pay5 (F := F)) hg = setSlab i hg k0_pay5 := if_pos hb
    have e11 : startY i y = y := if_neg hc
    rw [e9, e10, e11]
    sl_exec (disch := first | sl_exact hb | sl_exact hc)
    sl_step
    isplitr
    · ipureintro; sl_unfold_run_names; rfl
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; exact h13
    isplitl [H14]
    · iexists _; isplitr; swap; · iexact H14
      ipureintro; exact h14
    isplitl [H15]
    · iexists _; isplitr; swap; · iexact H15
      ipureintro; exact h15
    isplitl [H16]
    · iexists _; isplitr; swap; · iexact H16
      ipureintro; sl_unfold_run_names; exact store_upto (n' := 8) _ 0 (read_nil _ (h16.trans (upto_zero (s := S1032x512) 0 _ _).symm)) _ _ rfl rfl (by decide) ((congrArg k0_pay7 (slab_cleared _ i _ _ hb)).trans (buf_head _ _))
    isplitl [H17]
    · iexists _; isplitr; swap; · iexact H17
      ipureintro; sl_unfold_run_names; exact store_upto (n' := 8) _ 0 (read_nil _ (h17.trans (upto_zero (s := S1032x512) 0 _ _).symm)) _ _ rfl rfl (by decide) ((congrArg k0_pay8 (slab_cleared _ i _ _ hb)).trans (buf_head _ _))
    isplitl [H18]
    · iexists _; isplitr; swap; · iexact H18
      ipureintro; sl_unfold_run_names; exact store_put _ h18 _ rfl _
    · iexists _; isplitr; swap; · iexact H19
      ipureintro; sl_unfold_run_names; exact store_put _ h19 _ rfl _
  · have e9 : startH i (k0_pay4 (F := F)) hv = hv := if_neg hb
    have e10 : startH i (k0_pay5 (F := F)) hg = hg := if_neg hb
    have e11 : startY i y = k0_pay6 := if_pos hc
    rw [e9, e10, e11]
    have e7 : arg18.view.readAt (Elt F) (Rect.unit (s := S11x8x512) (k0_off2 i) S1x8x512.size (k0_off2_inb i)).toLoadRect f18 = slab i hv := load_eq _ h18 _
    have e8 : arg19.view.readAt (Elt F) (Rect.unit (s := S11x8x512) (k0_off2 i) S1x8x512.size (k0_off2_inb i)).toLoadRect f19 = slab i hg := load_eq _ h19 _
    sl_exec (disch := first | sl_exact hb | sl_exact hc)
    sl_step
    isplitr
    · ipureintro; sl_unfold_run_names; rfl
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; sl_unfold_run_names; exact (View.read_writes_full _ _ _ _ _).trans rfl
    isplitl [H14]
    · iexists _; isplitr; swap; · iexact H14
      ipureintro; exact h14
    isplitl [H15]
    · iexists _; isplitr; swap; · iexact H15
      ipureintro; exact h15
    isplitl [H16]
    · iexists _; isplitr; swap; · iexact H16
      ipureintro; sl_unfold_run_names; exact store_upto (n' := 8) _ 0 (read_nil _ (h16.trans (upto_zero (s := S1032x512) 0 _ _).symm)) _ _ rfl rfl (by decide) (buf_head _ _)
    isplitl [H17]
    · iexists _; isplitr; swap; · iexact H17
      ipureintro; sl_unfold_run_names; exact store_upto (n' := 8) _ 0 (read_nil _ (h17.trans (upto_zero (s := S1032x512) 0 _ _).symm)) _ _ rfl rfl (by decide) (buf_head _ _)
    isplitl [H18]
    · iexists _; isplitr; swap; · iexact H18
      ipureintro; exact h18
    · iexists _; isplitr; swap; · iexact H19
      ipureintro; exact h19
  · have e9 : startH i (k0_pay4 (F := F)) hv = hv := if_neg hb
    have e10 : startH i (k0_pay5 (F := F)) hg = hg := if_neg hb
    have e11 : startY i y = y := if_neg hc
    rw [e9, e10, e11]
    have e7 : arg18.view.readAt (Elt F) (Rect.unit (s := S11x8x512) (k0_off2 i) S1x8x512.size (k0_off2_inb i)).toLoadRect f18 = slab i hv := load_eq _ h18 _
    have e8 : arg19.view.readAt (Elt F) (Rect.unit (s := S11x8x512) (k0_off2 i) S1x8x512.size (k0_off2_inb i)).toLoadRect f19 = slab i hg := load_eq _ h19 _
    sl_exec (disch := first | sl_exact hb | sl_exact hc)
    sl_step
    isplitr
    · ipureintro; sl_unfold_run_names; rfl
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; exact h13
    isplitl [H14]
    · iexists _; isplitr; swap; · iexact H14
      ipureintro; exact h14
    isplitl [H15]
    · iexists _; isplitr; swap; · iexact H15
      ipureintro; exact h15
    isplitl [H16]
    · iexists _; isplitr; swap; · iexact H16
      ipureintro; sl_unfold_run_names; exact store_upto (n' := 8) _ 0 (read_nil _ (h16.trans (upto_zero (s := S1032x512) 0 _ _).symm)) _ _ rfl rfl (by decide) (buf_head _ _)
    isplitl [H17]
    · iexists _; isplitr; swap; · iexact H17
      ipureintro; sl_unfold_run_names; exact store_upto (n' := 8) _ 0 (read_nil _ (h17.trans (upto_zero (s := S1032x512) 0 _ _).symm)) _ _ rfl rfl (by decide) (buf_head _ _)
    isplitl [H18]
    · iexists _; isplitr; swap; · iexact H18
      ipureintro; exact h18
    · iexists _; isplitr; swap; · iexact H19
      ipureintro; exact h19

theorem body_run (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1x2x512 .f32) (harg14 : arg14.IsWhole) (arg15 : Memref sig .tc .vmem S1x2x512 .f32) (harg15 : arg15.IsWhole) (arg16 : Memref sig .tc .vmem S1032x512 .f32) (harg16 : arg16.IsWhole) (arg17 : Memref sig .tc .vmem S1032x512 .f32) (harg17 : arg17.IsWhole) (arg18 : Memref sig .tc .vmem S11x8x512 .f32) (harg18 : arg18.IsWhole) (arg19 : Memref sig .tc .vmem S11x8x512 .f32) (harg19 : arg19.IsWhole)
    (I : Ins F) (y : Vec F S1024x2048 .f32) (tv tg : Vec F S1x2x512 .f32) (sv sg : Vec F S1032x512 .f32) (hv hg : Vec F S11x8x512 .f32) :
    (res c arg2 arg3 arg4 arg5 arg6 arg7 arg8 arg9 arg10 arg11 arg12 arg13 arg14 arg15 arg16 arg17 arg18 arg19 I y tv tg sv sg hv hg : sProp 𝕄)
    ⊢ wp frame (wpE (defs₀ (F := F)) Variants.none (c : Thread nD τ) none) E (cc0_ffn_seq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => res c arg2 arg3 arg4 arg5 arg6 arg7 arg8 arg9 arg10 arg11 arg12 arg13 arg14 arg15 arg16 arg17 arg18 arg19 I (endY i I (newY I (bufV I (slab i (startH i k0_pay4 hv))) (bufG I (slab i (startH i k0_pay5 hg))) (startY i y))) (k0_pay33 (last2 (bufV I (slab i (startH i k0_pay4 hv))))) (k0_pay2 (last2 (bufG I (slab i (startH i k0_pay5 hg))))) (bufV I (slab i (startH i k0_pay4 hv))) (bufG I (slab i (startH i k0_pay5 hg))) (setSlab i (startH i k0_pay4 hv) (k0_pay32 (last8 (bufV I (slab i (startH i k0_pay4 hv)))))) (setSlab i (startH i k0_pay5 hg) (k0_pay1 (last8 (bufG I (slab i (startH i k0_pay5 hg))))))) := by
  simp only [cc0_ffn_seq_eq_skeleton]
  unfold cc0_ffn_seq_skel
  refine wp_part (part1_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I y tv tg sv sg hv hg) ?_
  refine wp_part (part2_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I (startY i y) tv tg sv sg (startH i k0_pay4 hv) (startH i k0_pay5 hg) (slab i (startH i k0_pay4 hv)) (slab i (startH i k0_pay5 hg))) ?_
  refine wp_part (part3_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I (startY i y) tv tg sv sg (startH i k0_pay4 hv) (startH i k0_pay5 hg) (slab i (startH i k0_pay4 hv)) (slab i (startH i k0_pay5 hg))) ?_
  refine wp_part (part4_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I (startY i y) tv tg sv sg (startH i k0_pay4 hv) (startH i k0_pay5 hg) (slab i (startH i k0_pay4 hv)) (slab i (startH i k0_pay5 hg))) ?_
  refine wp_part (part5_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I (startY i y) tv tg sv sg (startH i k0_pay4 hv) (startH i k0_pay5 hg) (slab i (startH i k0_pay4 hv)) (slab i (startH i k0_pay5 hg))) ?_
  refine wp_part (part6_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I (startY i y) tv tg sv sg (startH i k0_pay4 hv) (startH i k0_pay5 hg) (slab i (startH i k0_pay4 hv)) (slab i (startH i k0_pay5 hg))) ?_
  refine wp_part (part7_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I (startY i y) tv tg sv sg (startH i k0_pay4 hv) (startH i k0_pay5 hg) (slab i (startH i k0_pay4 hv)) (slab i (startH i k0_pay5 hg))) ?_
  refine wp_part (part8_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I (startY i y) tv tg sv sg (startH i k0_pay4 hv) (startH i k0_pay5 hg) (slab i (startH i k0_pay4 hv)) (slab i (startH i k0_pay5 hg))) ?_
  refine wp_part (part9_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 I (startY i y) tv tg sv sg (startH i k0_pay4 hv) (startH i k0_pay5 hg) (slab i (startH i k0_pay4 hv)) (slab i (startH i k0_pay5 hg))) ?_
  generalize hY : newY I (bufV I (slab i (startH i k0_pay4 hv))) (bufG I (slab i (startH i k0_pay5 hg))) (startY i y) = Y
  unfold res owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩⟩
  rw [upto_all (s := S1032x512) 0 (by decide)] at h16 h17
  have e0 : arg19.view.readAt (Elt F) (Rect.unit (s := S11x8x512) (k0_off2 i) S1x8x512.size (k0_off2_inb i)).toLoadRect f19 = _ := load_eq _ h19 _
  have e1 : arg17.view.readAt (Elt F) (Rect.unit (s := S1032x512) ![1030, 0] S2x512.size inb_S1032x512_S2x512_1030_0).toLoadRect f17 = _ := load_eq _ h17 _
  have d0 : arg3.view.readAt (Elt F) (Rect.unit (s := S1024x2048) ![0, 0] S1024x2048.size inb_S1024x2048_S1024x2048_0_0).toLoadRect f3 = _ := (View.readAt_full _ _ _).trans h3
  have d1 : arg4.view.readAt (Elt F) (Rect.unit (s := S1x1x2048) ![0, 0, 0] S1x1x2048.size inb_S1x1x2048_S1x1x2048_0_0_0).toLoadRect f4 = _ := (View.readAt_full _ _ _).trans h4
  have d2 : arg13.view.readAt (Elt F) (Rect.unit (s := S1024x2048) ![0, 0] S1024x2048.size inb_S1024x2048_S1024x2048_0_0).toLoadRect f13 = _ := (View.readAt_full _ _ _).trans h13
  have d3 : arg12.view.readAt (Elt F) (Rect.unit (s := S1x2048) ![0, 0] S1x2048.size inb_S1x2048_S1x2048_0_0).toLoadRect f12 = _ := (View.readAt_full _ _ _).trans h12
  by_cases hl : lastCol i
  · have e11 : endY i I Y = k0_pay3 I.x1 I.gt Y I.gf := if_pos hl
    rw [e11]
    sl_exec (disch := first | sl_exact hl)
    sl_step
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; sl_unfold_run_names; exact (View.read_writes_full _ _ _ _ _).trans rfl
    isplitl [H14]
    · iexists _; isplitr; swap; · iexact H14
      ipureintro; exact h14
    isplitl [H15]
    · iexists _; isplitr; swap; · iexact H15
      ipureintro; sl_unfold_run_names; exact (View.read_writes_full _ _ _ _ _).trans rfl
    isplitl [H16]
    · iexists _; isplitr; swap; · iexact H16
      ipureintro; exact h16
    isplitl [H17]
    · iexists _; isplitr; swap; · iexact H17
      ipureintro; exact h17
    isplitl [H18]
    · iexists _; isplitr; swap; · iexact H18
      ipureintro; exact h18
    · iexists _; isplitr; swap; · iexact H19
      ipureintro; sl_unfold_run_names; exact store_put _ h19 _ rfl _
  · have e11 : endY i I Y = Y := if_neg hl
    rw [e11]
    sl_exec (disch := first | sl_exact hl)
    sl_step
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro; exact h7
    isplitl [H8]
    · iexists _; isplitr; swap; · iexact H8
      ipureintro; exact h8
    isplitl [H9]
    · iexists _; isplitr; swap; · iexact H9
      ipureintro; exact h9
    isplitl [H10]
    · iexists _; isplitr; swap; · iexact H10
      ipureintro; exact h10
    isplitl [H11]
    · iexists _; isplitr; swap; · iexact H11
      ipureintro; exact h11
    isplitl [H12]
    · iexists _; isplitr; swap; · iexact H12
      ipureintro; exact h12
    isplitl [H13]
    · iexists _; isplitr; swap; · iexact H13
      ipureintro; exact h13
    isplitl [H14]
    · iexists _; isplitr; swap; · iexact H14
      ipureintro; exact h14
    isplitl [H15]
    · iexists _; isplitr; swap; · iexact H15
      ipureintro; sl_unfold_run_names; exact (View.read_writes_full _ _ _ _ _).trans rfl
    isplitl [H16]
    · iexists _; isplitr; swap; · iexact H16
      ipureintro; exact h16
    isplitl [H17]
    · iexists _; isplitr; swap; · iexact H17
      ipureintro; exact h17
    isplitl [H18]
    · iexists _; isplitr; swap; · iexact H18
      ipureintro; exact h18
    · iexists _; isplitr; swap; · iexact H19
      ipureintro; sl_unfold_run_names; exact store_put _ h19 _ rfl _

end Cert.Proof.Ffn

end
-- ==== Proof.FfnFrame.lean ====
/-
  The feed-forward block's frame: the pipeline's proof data (the rows carried from block to block, the output block accumulated
  over the column blocks), the body's obligation at a point from `Ffn.body_run`, the run of the launch and the frame.
-/
module

public import proofs.«01_k».proof.Proof.FfnBody
public import Idealize.ShloMosaic.Lib.Claim

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem t_lt (t : Fin cfg0.N) : t.val < 176 := Nat.lt_of_lt_of_eq t.isLt N_0
theorem coord0 (t : Fin cfg0.N) : (grid0.coords t 0).val = t.val / 11 % 16 := Pipeline.Grid.coords_val t 0 (by decide) rfl
theorem coord1 (t : Fin cfg0.N) : (grid0.coords t 1).val = t.val / 1 % 11 := Pipeline.Grid.coords_val t 1 (by decide) rfl

theorem firstCol_iff (t : Fin cfg0.N) : firstCol (grid0.coords t) ↔ t.val % 11 = 0 := by
  have ht := t_lt t
  have e1 := coord1 t
  simp only [firstCol, e1]
  word_cmp
theorem lastCol_iff (t : Fin cfg0.N) : lastCol (grid0.coords t) ↔ t.val % 11 = 10 := by
  have ht := t_lt t
  have e1 := coord1 t
  simp only [lastCol, e1]
  word_cmp
theorem firstBlock_iff (t : Fin cfg0.N) : firstBlock (grid0.coords t) ↔ t.val / 11 % 4 = 0 := by
  have h : ∀ t : Fin grid0.N, k0_cond1 (grid0.coords t) = 1#1 ↔ t.val / 11 % 4 = 0 := by decide +kernel
  exact h t
theorem off2_eq (t : Fin cfg0.N) : k0_off2 (grid0.coords t) = ![t.val % 11, 0, 0] := by
  have h : ∀ t : Fin grid0.N, k0_off2 (grid0.coords t) = ![t.val % 11, 0, 0] := by decide +kernel
  exact h t

/-- The arrays the body reads at point `t`. -/
def insAt (c : Dev nD) (t : Fin cfg0.N) : Ins F where
  h := iblk m c 0 t
  x1 := iblk m c 1 t
  gt := iblk m c 2 t
  wv := iblk m c 3 t
  wg := iblk m c 4 t
  cwv := iblk m c 5 t
  cwg := iblk m c 6 t
  cbv := iblk m c 7 t
  cbg := iblk m c 8 t
  wd := iblk m c 9 t
  gf := iblk m c 10 t

/-- Point `n` of the grid, for any number. -/
def pt (n : ℕ) : Fin cfg0.N := ⟨n % 176, Nat.lt_of_lt_of_eq (Nat.mod_lt _ (by decide)) N_0.symm⟩
theorem pt_val (t : Fin cfg0.N) : pt t.val = t := Fin.ext (Nat.mod_eq_of_lt (t_lt t))

/-- The last rows of a product buffer are the last chunk's, whatever the rows carried in. -/
theorem last8_buf (hl hl' : Vec F S8x512 .f32) (u : ℕ → Vec F S256x512 .f32) : last8 (buf hl u) = last8 (buf hl' u) := by
  funext y
  unfold last8 VecWindow.window buf
  have e0 : ((Rect.unit (s := S1032x512) ![1024, 0] S8x512.size inb_S1032x512_S8x512_1024_0).emb y 0).val = 1024 + 1 * (y 0).val := rfl
  rw [dif_neg (by omega), dif_neg (by omega)]

/-- The rows point `t` hands to the next block. -/
def nextV (c : Dev nD) (t : Fin cfg0.N) : Vec F S1x8x512 .f32 := k0_pay32 (last8 (bufV (insAt m c t) k0_pay4))
def nextG (c : Dev nD) (t : Fin cfg0.N) : Vec F S1x8x512 .f32 := k0_pay1 (last8 (bufG (insAt m c t) k0_pay5))
/-- The rows point `n` starts from: zero at a sequence's first block, else what the same columns' point of the block before hands on. -/
def carryV (c : Dev nD) (n : ℕ) : Vec F S1x8x512 .f32 := if n / 11 % 4 = 0 then k0_pay4 else nextV m c (pt (n - 11))
def carryG (c : Dev nD) (n : ℕ) : Vec F S1x8x512 .f32 := if n / 11 % 4 = 0 then k0_pay5 else nextG m c (pt (n - 11))
/-- The finished product buffers of point `n`. -/
def fullV (c : Dev nD) (n : ℕ) : Vec F S1032x512 .f32 := bufV (insAt m c (pt n)) (carryV m c n)
def fullG (c : Dev nD) (n : ℕ) : Vec F S1032x512 .f32 := bufG (insAt m c (pt n)) (carryG m c n)
/-- The output block after point `n`'s addition. -/
def acc (c : Dev nD) : ℕ → Vec F S1024x2048 .f32
  | 0 => newY (insAt m c (pt 0)) (fullV m c 0) (fullG m c 0) k0_pay6
  | n + 1 => newY (insAt m c (pt (n + 1))) (fullV m c (n + 1)) (fullG m c (n + 1)) (if (n + 1) % 11 = 0 then k0_pay6 else acc c n)

theorem acc_eq (c : Dev nD) (n : ℕ) : acc m c n = newY (insAt m c (pt n)) (fullV m c n) (fullG m c n) (if n % 11 = 0 then k0_pay6 else acc m c (n - 1)) := by
  cases n with
  | zero => rw [acc]; rfl
  | succ n => rw [acc]; rfl

/-- What the carried rows of all columns hold before point `n`: for each point of the last eleven, what it hands on. -/
def InvH (f : Fin cfg0.N → Vec F S1x8x512 .f32) (n : ℕ) (H : Vec F S11x8x512 .f32) : Prop :=
  ∀ t : Fin cfg0.N, t.val < n → n ≤ t.val + 11 → slab (grid0.coords t) H = f t

theorem window_moved {s : Shape} {e : EltTy} (x : Vec F s e) {o o' size : Fin s.rank → Nat} (h : o = o')
    (p : ∀ a, o a + size a ≤ s.size a) (p' : ∀ a, o' a + size a ≤ s.size a) : VecWindow.window x o size p = VecWindow.window x o' size p' := by
  subst h
  rfl

theorem slab_congr {t t' : Fin cfg0.N} (h : t.val % 11 = t'.val % 11) (H : Vec F S11x8x512 .f32) :
    slab (grid0.coords t) H = slab (grid0.coords t') H := by
  have e : k0_off2 (grid0.coords t) = k0_off2 (grid0.coords t') := by rw [off2_eq, off2_eq, h]
  exact window_moved H e _ _

theorem slab_set (t : Fin cfg0.N) (H : Vec F S11x8x512 .f32) (w : Vec F S1x8x512 .f32) : slab (grid0.coords t) (setSlab (grid0.coords t) H w) = w :=
  VecWindow.window_put_same H _ S1x8x512.size _ w

theorem slab_set_of_ne {t t' : Fin cfg0.N} (h : t.val % 11 ≠ t'.val % 11) (H : Vec F S11x8x512 .f32) (w : Vec F S1x8x512 .f32) :
    slab (grid0.coords t) (setSlab (grid0.coords t') H w) = slab (grid0.coords t) H := by
  refine VecWindow.window_put_of_disjoint H (k0_off2 (grid0.coords t')) S1x8x512.size (k0_off2 (grid0.coords t)) S1x8x512.size _ w (0 : Fin 3) ?_
  rw [off2_eq, off2_eq]
  show t.val % 11 + 1 ≤ t'.val % 11 ∨ t'.val % 11 + 1 ≤ t.val % 11
  omega

theorem slab_start {t t' : Fin cfg0.N} (h : t.val % 11 ≠ t'.val % 11) (z : Vec F S1x8x512 .f32) (H : Vec F S11x8x512 .f32) :
    slab (grid0.coords t) (startH (grid0.coords t') z H) = slab (grid0.coords t) H := by
  unfold startH
  split
  · exact slab_set_of_ne h H z
  · rfl

/-- The rows a point starts from are the ones said. -/
theorem start_slab (f : Fin cfg0.N → Vec F S1x8x512 .f32) (z : Vec F S1x8x512 .f32) (t : Fin cfg0.N) (H : Vec F S11x8x512 .f32) (hH : InvH f t.val H) :
    slab (grid0.coords t) (startH (grid0.coords t) z H) = if t.val / 11 % 4 = 0 then z else f (pt (t.val - 11)) := by
  have ht := t_lt t
  unfold startH
  by_cases h : t.val / 11 % 4 = 0
  · rw [if_pos ((firstBlock_iff t).mpr h), if_pos h]
    exact slab_set t H z
  · rw [if_neg (fun hb => h ((firstBlock_iff t).mp hb)), if_neg h]
    have e : (pt (t.val - 11)).val = t.val - 11 := Nat.mod_eq_of_lt (by omega)
    have h11 : 11 ≤ t.val := by
      by_contra hlt
      exact h (by rw [Nat.div_eq_of_lt (by omega)])
    rw [slab_congr (t' := pt (t.val - 11)) (by omega)]
    exact hH _ (by omega) (by omega)

/-- The invariant after the point's store. -/
theorem inv_step (f : Fin cfg0.N → Vec F S1x8x512 .f32) (z : Vec F S1x8x512 .f32) (t : Fin cfg0.N) (H : Vec F S11x8x512 .f32) (hH : InvH f t.val H)
    (w : Vec F S1x8x512 .f32) (hw : w = f t) : InvH f (t.val + 1) (setSlab (grid0.coords t) (startH (grid0.coords t) z H) w) := by
  intro t' h1 h2
  by_cases h : t'.val = t.val
  · have : t' = t := Fin.ext h
    subst this
    rw [slab_set, hw]
  · have hne : t'.val % 11 ≠ t.val % 11 := by omega
    rw [slab_set_of_ne hne, slab_start hne]
    exact hH t' (by omega) (by omega)

abbrev st0 (t : Fin cfg0.N) : Memref sig .tc .vmem S1024x2048 .bf16 := win0_0.stage (cfg0.slots t 0)
theorem wh0 (t : Fin cfg0.N) : (st0 t).IsWhole := hstage0_0 ((cfg0.slots t 0).cast nbuf0_0)
abbrev st1 (t : Fin cfg0.N) : Memref sig .tc .vmem S1024x2048 .f32 := win0_1.stage (cfg0.slots t 1)
theorem wh1 (t : Fin cfg0.N) : (st1 t).IsWhole := hstage0_1 ((cfg0.slots t 1).cast nbuf0_1)
abbrev st2 (t : Fin cfg0.N) : Memref sig .tc .vmem S1x1x2048 .f32 := win0_2.stage (cfg0.slots t 2)
theorem wh2 (t : Fin cfg0.N) : (st2 t).IsWhole := hstage0_2 ((cfg0.slots t 2).cast nbuf0_2)
abbrev st3 (t : Fin cfg0.N) : Memref sig .tc .vmem S2048x512 .bf16 := win0_3.stage (cfg0.slots t 3)
theorem wh3 (t : Fin cfg0.N) : (st3 t).IsWhole := hstage0_3 ((cfg0.slots t 3).cast nbuf0_3)
abbrev st4 (t : Fin cfg0.N) : Memref sig .tc .vmem S2048x512 .bf16 := win0_4.stage (cfg0.slots t 4)
theorem wh4 (t : Fin cfg0.N) : (st4 t).IsWhole := hstage0_4 ((cfg0.slots t 4).cast nbuf0_4)
abbrev st5 (t : Fin cfg0.N) : Memref sig .tc .vmem S3x512 .f32 := win0_5.stage (cfg0.slots t 5)
theorem wh5 (t : Fin cfg0.N) : (st5 t).IsWhole := hstage0_5 ((cfg0.slots t 5).cast nbuf0_5)
abbrev st6 (t : Fin cfg0.N) : Memref sig .tc .vmem S3x512 .f32 := win0_6.stage (cfg0.slots t 6)
theorem wh6 (t : Fin cfg0.N) : (st6 t).IsWhole := hstage0_6 ((cfg0.slots t 6).cast nbuf0_6)
abbrev st7 (t : Fin cfg0.N) : Memref sig .tc .vmem S1x512 .f32 := win0_7.stage (cfg0.slots t 7)
theorem wh7 (t : Fin cfg0.N) : (st7 t).IsWhole := hstage0_7 ((cfg0.slots t 7).cast nbuf0_7)
abbrev st8 (t : Fin cfg0.N) : Memref sig .tc .vmem S1x512 .f32 := win0_8.stage (cfg0.slots t 8)
theorem wh8 (t : Fin cfg0.N) : (st8 t).IsWhole := hstage0_8 ((cfg0.slots t 8).cast nbuf0_8)
abbrev st9 (t : Fin cfg0.N) : Memref sig .tc .vmem S512x2048 .bf16 := win0_9.stage (cfg0.slots t 9)
theorem wh9 (t : Fin cfg0.N) : (st9 t).IsWhole := hstage0_9 ((cfg0.slots t 9).cast nbuf0_9)
abbrev st10 (t : Fin cfg0.N) : Memref sig .tc .vmem S1x2048 .f32 := win0_10.stage (cfg0.slots t 10)
theorem wh10 (t : Fin cfg0.N) : (st10 t).IsWhole := hstage0_10 ((cfg0.slots t 10).cast nbuf0_10)
abbrev st11 (t : Fin cfg0.N) : Memref sig .tc .vmem S1024x2048 .f32 := win0_11.stage (cfg0.slots t 11)
theorem wh11 (t : Fin cfg0.N) : (st11 t).IsWhole := hstage0_11 ((cfg0.slots t 11).cast nbuf0_11)
abbrev st12 (t : Fin cfg0.N) : Memref sig .tc .vmem S1x2x512 .f32 := win0_12.stage (cfg0.slots t 12)
theorem wh12 (t : Fin cfg0.N) : (st12 t).IsWhole := hstage0_12 ((cfg0.slots t 12).cast nbuf0_12)
abbrev st13 (t : Fin cfg0.N) : Memref sig .tc .vmem S1x2x512 .f32 := win0_13.stage (cfg0.slots t 13)
theorem wh13 (t : Fin cfg0.N) : (st13 t).IsWhole := hstage0_13 ((cfg0.slots t 13).cast nbuf0_13)
abbrev sc0 : Memref sig .tc .vmem S1032x512 .f32 := Memref.whole cc0_scratch0
abbrev sc1 : Memref sig .tc .vmem S1032x512 .f32 := Memref.whole cc0_scratch1
abbrev sc2 : Memref sig .tc .vmem S11x8x512 .f32 := Memref.whole cc0_scratch2
abbrev sc3 : Memref sig .tc .vmem S11x8x512 .f32 := Memref.whole cc0_scratch3

theorem rest_eq (c : Dev nD) : (Pipeline.ΦA spec0 c : sProp 𝕄) = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The invariant before point `n`: the product buffers at anything, the carried rows as `InvH` says. -/
def PhiS (c : Dev nD) (n : ℕ) : sProp 𝕄 :=
  iprop(((∃ d, owns (c : Thread nD τ) sc0 fullShare d) ∗ (∃ d, owns (c : Thread nD τ) sc1 fullShare d) ∗ (∃ H, ⌜InvH (nextV m c) n H⌝ ∗ owns (c : Thread nD τ) sc2 fullShare H) ∗ (∃ H, ⌜InvH (nextG m c) n H⌝ ∗ owns (c : Thread nD τ) sc3 fullShare H)) ∗ (∃ r, prngReg c r))

theorem PhiS_out (c : Dev nD) (n : ℕ) : PhiS m c n ⊢ Pipeline.ΦA spec0 c := by
  rw [PhiS, rest_eq]
  iintro ⟨⟨H0, H1, ⟨%d2, %k2, H2⟩, ⟨%d3, %k3, H3⟩⟩, Hg⟩
  isplitr [Hg]
  · isplitl [H0]; · iexact H0
    isplitl [H1]; · iexact H1
    isplitl [H2]; · iexists _; iexact H2
    iexists _; iexact H3
  iexact Hg

theorem PhiS_zero (c : Dev nD) : Pipeline.ΦA spec0 c ⊢ PhiS m c 0 := by
  rw [PhiS, rest_eq]
  iintro ⟨⟨H0, H1, ⟨%d2, H2⟩, ⟨%d3, H3⟩⟩, Hg⟩
  isplitr [Hg]
  · isplitl [H0]; · iexact H0
    isplitl [H1]; · iexact H1
    isplitl [H2]
    · iexists d2
      isplitr
      · ipureintro; exact fun t h => absurd h (Nat.not_lt_zero _)
      · iexact H2
    iexists d3
    isplitr
    · ipureintro; exact fun t h => absurd h (Nat.not_lt_zero _)
    · iexact H3
  iexact Hg

/-- The output block the body leaves at point `t`. -/
def outAt (c : Dev nD) (t : Fin cfg0.N) : Vec F S1024x2048 .f32 := endY (grid0.coords t) (insAt m c t) (acc m c t.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
    | ⟨12, _⟩ => k0_pay33 (last2 (fullV m c t.val))
    | ⟨13, _⟩ => k0_pay2 (last2 (fullG m c t.val))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outAt m c t := by dsimp only [dats]
theorem after12 (c : Dev nD) (t : Fin cfg0.N) : (dats m 0 c).after 12 t = k0_pay33 (last2 (fullV m c t.val)) := by dsimp only [dats]
theorem after13 (c : Dev nD) (t : Fin cfg0.N) : (dats m 0 c).after 13 t = k0_pay2 (last2 (fullG m c t.val)) := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d

theorem outAt_of_ne (c : Dev nD) (t : Fin cfg0.N) (h : t.val % 11 ≠ 10) : outAt m c t = acc m c t.val := by
  unfold outAt endY
  exact if_neg fun hl => h ((lastCol_iff t).mp hl)

theorem flush11_ne (t : Fin cfg0.N) (h : t.val % 11 ≠ 10) : (cfg0.win 11).flush t = false := by
  cases hf : (cfg0.win 11).flush t with
  | false => rfl
  | true => exact absurd ((flush0_11 t).mp hf) h

/-- Past the first column block, the output block is found as the point before left it. -/
theorem before11 (c : Dev nD) (t : Fin cfg0.N) (h : t.val % 11 ≠ 0) (d) : (dats m 0 c).before 11 t d = acc m c (t.val - 1) := by
  have ht := t_lt t
  rw [(dats m 0 c).before_out_kept 11 rfl t (by omega) (flush11_ne _ (by show (t.val - 1) % 11 ≠ 10; omega)) (fun _ => rfl) (fun _ _ => rfl) d, after11,
    outAt_of_ne m c _ (by show (t.val - 1) % 11 ≠ 10; omega)]

/-- The output block a point adds to. -/
theorem start11 (c : Dev nD) (t : Fin cfg0.N) (d) : startY (grid0.coords t) ((dats m 0 c).before 11 t d) = if t.val % 11 = 0 then k0_pay6 else acc m c (t.val - 1) := by
  unfold startY
  by_cases h : t.val % 11 = 0
  · rw [if_pos ((firstCol_iff t).mpr h), if_pos h]
  · rw [if_neg (fun hc => h ((firstCol_iff t).mp hc)), if_neg h, before11 m c t h d]

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t)
    ∗ owns (c : Thread nD τ) (st13 t) fullShare ((dats m 0 c).after 13 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = PhiS m c (t.val + 1) from rfl, show (dats m 0 c).Φ t.castSucc = PhiS m c t.val from rfl,
    show (dats m 0 c).owesAt () t.succ = (dats m 0 c).owesAt () t.castSucc from rfl,
    after0, after1, after2, after3, after4, after5, after6, after7, after8, after9, after10, after11, after12, after13, PhiS, PhiS]
  iintro ⟨⟨⟨⟨%x0, S0⟩, ⟨%x1, S1⟩, ⟨%hv, %kv, S2⟩, ⟨%hg, %kg, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have ev : slab (grid0.coords t) (startH (grid0.coords t) k0_pay4 hv) = carryV m c t.val := start_slab (nextV m c) k0_pay4 t hv kv
  have eg : slab (grid0.coords t) (startH (grid0.coords t) k0_pay5 hg) = carryG m c t.val := start_slab (nextG m c) k0_pay5 t hg kg
  have fv : bufV (insAt m c t) (carryV m c t.val) = fullV m c t.val := by rw [fullV, pt_val]
  have fg : bufG (insAt m c t) (carryG m c t.val) = fullG m c t.val := by rw [fullG, pt_val]
  have nv : k0_pay32 (last8 (fullV m c t.val)) = nextV m c t := by
    rw [← fv]; exact congrArg k0_pay32 (last8_buf _ _ _)
  have ng : k0_pay1 (last8 (fullG m c t.val)) = nextG m c t := by
    rw [← fg]; exact congrArg k0_pay1 (last8_buf _ _ _)
  have ea : newY (insAt m c t) (fullV m c t.val) (fullG m c t.val) (startY (grid0.coords t) ((dats m 0 c).before 11 t d11)) = acc m c t.val := by
    rw [start11, acc_eq m c t.val, pt_val]
  iapply (wp_wand_r frame _ Set.univ)
  isplitl [H0 H1 H2 H3 H4 H5 H6 H7 H8 H9 H10 H11 H12 H13 S0 S1 S2 S3]
  · iapply (body_run c Set.univ (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) sc0 (Memref.isWhole_whole _) sc1 (Memref.isWhole_whole _) sc2 (Memref.isWhole_whole _) sc3 (Memref.isWhole_whole _)
      (insAt m c t) ((dats m 0 c).before 11 t d11) ((dats m 0 c).before 12 t d12) ((dats m 0 c).before 13 t d13) x0 x1 hv hg)
    unfold res
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    iexact S3
  rw [ev, eg, fv, fg, ea, nv, ng]
  unfold res
  iintro %r ⟨H0, H1, H2, H3, H4, H5, H6, H7, H8, H9, H10, H11, H12, H13, S0, S1, S2, S3⟩
  isplitl [S0 S1 S2 S3 Hg]
  · isplitr [Hg]
    · isplitl [S0]; · iexists _; iexact S0
      isplitl [S1]; · iexists _; iexact S1
      isplitl [S2]
      · iexists _
        isplitr
        swap
        · iexact S2
        · ipureintro; exact inv_step (nextV m c) k0_pay4 t hv kv _ rfl
      iexists _
      isplitr
      swap
      · iexact S3
      · ipureintro; exact inv_step (nextG m c) k0_pay5 t hg kg _ rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := PhiS_zero m c
theorem hout (c : Dev nD) : (dats m 0 c).Φ (Fin.last cfg0.N) ⊢ Pipeline.ΦA spec0 c := PhiS_out m c (Fin.last cfg0.N).val

set_option backward.isDefEq.respectTransparency.types false in
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

theorem ffn_frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.Proof.Ffn

end
-- ==== Proof.FfnRow.lean ====
/-
  The feed-forward block in exact arithmetic, a row of a chunk at a time: each payload at an index is the reference's stage there.
-/
module

public import proofs.«01_k».proof.Proof.FfnFrame
public import proofs.«01_k».proof.Proof.Gen.Reference2Ideal.Read
public import Idealize.ShloMosaic.Lib.Pointwise

@[expose] public section

set_option maxRecDepth 16384

noncomputable section

namespace Cert.Proof.Ffn

open Cert.Kernel2Ideal Cert.Kernel2Ideal.Gen
open Cert.Reference2Ideal.Read
open Idealize.ShloMosaic Idealize.ShloMosaic.TcCoe Idealize.SL.Sem

theorem lt_row (b : Fin 4) (s : Fin 4096) : b.val * 4096 + s.val < 16384 := by omega
theorem lt_ext0 (s : Fin 4096) : s.val < 4098 := by omega
theorem lt_ext1 (s : Fin 4096) : 1 + s.val < 4098 := by omega
theorem lt_ext2 (s : Fin 4096) : 2 + s.val < 4098 := by omega
theorem lt_colV (n : Fin 5632) : n.val < 11264 := by omega
theorem lt_colG (n : Fin 5632) : 5632 + n.val < 11264 := by omega
theorem lt_mod (R : Fin 16384) : R.val % 4096 < 4096 := by omega
theorem lt_tail (r : Fin 2) : 4096 + r.val < 4098 := by omega

section Row

variable (X0 : (⟨S16384x2048, .bf16⟩ : BufTy).Contents (Elt Ideal)) (X1 : (⟨S16384x2048, .f32⟩ : BufTy).Contents (Elt Ideal))
  (X2 : (⟨⟨3, ![4, 1, 2048]⟩, .f32⟩ : BufTy).Contents (Elt Ideal)) (X3 : (⟨⟨3, ![1, 2048, 11264]⟩, .f32⟩ : BufTy).Contents (Elt Ideal))
  (X4 : (⟨⟨3, ![1, 3, 11264]⟩, .f32⟩ : BufTy).Contents (Elt Ideal)) (X5 : (⟨⟨2, ![1, 11264]⟩, .f32⟩ : BufTy).Contents (Elt Ideal))
  (X6 : (⟨⟨3, ![1, 5632, 2048]⟩, .f32⟩ : BufTy).Contents (Elt Ideal)) (X7 : (⟨⟨1, ![2048]⟩, .f32⟩ : BufTy).Contents (Elt Ideal))

section Up

variable (x : Vec Ideal S256x2048 .bf16) (w : Vec Ideal S2048x512 .bf16) (r : Fin 256) (l : Fin 512) (b : Fin 4) (s : Fin 4096) (C : Fin 11264)
  (hx : ∀ k : Fin 2048, x (ix2 r k) = X0 (ix2 (⟨b.val * 4096 + s.val, lt_row b s⟩ : Fin 16384) k)) (hw : ∀ k : Fin 2048, w (ix2 k l) = X3 (ix3 (0 : Fin 1) k C))
include hx hw

theorem up10 : k0_pay10 x (k0_pay9 w) (constant S256x512 .f32 0x00000000#32) (ix2 r l) = val_main_v7 X0 X3 (ix3 b s C) := by
  unfold val_main_v7 val_main_v1 val_main_v0 val_main_v3
  unfold_payloads
  pointwise
  simp only [hx, hw]

theorem up11 : k0_pay11 x w (ix2 r l) = val_main_v7 X0 X3 (ix3 b s C) := by
  unfold val_main_v7 val_main_v1 val_main_v0 val_main_v3
  unfold_payloads
  pointwise
  simp only [hx, hw]

theorem up12 : k0_pay12 x w (ix2 r l) = val_main_v7 X0 X3 (ix3 b s C) := by
  unfold val_main_v7 val_main_v1 val_main_v0 val_main_v3
  unfold_payloads
  pointwise
  simp only [hx, hw]

theorem up13 : k0_pay13 x w (ix2 r l) = val_main_v7 X0 X3 (ix3 b s C) := by
  unfold val_main_v7 val_main_v1 val_main_v0 val_main_v3
  unfold_payloads
  pointwise
  simp only [hx, hw]

theorem up16 : k0_pay16 x w (ix2 r l) = val_main_v7 X0 X3 (ix3 b s C) := by
  unfold val_main_v7 val_main_v1 val_main_v0 val_main_v3
  unfold_payloads
  pointwise
  simp only [hx, hw]

theorem up17 : k0_pay17 x w (ix2 r l) = val_main_v7 X0 X3 (ix3 b s C) := by
  unfold val_main_v7 val_main_v1 val_main_v0 val_main_v3
  unfold_payloads
  pointwise
  simp only [hx, hw]

theorem up21 : k0_pay21 x w (ix2 r l) = val_main_v7 X0 X3 (ix3 b s C) := by
  unfold val_main_v7 val_main_v1 val_main_v0 val_main_v3
  unfold_payloads
  pointwise
  simp only [hx, hw]

theorem up22 : k0_pay22 x w (ix2 r l) = val_main_v7 X0 X3 (ix3 b s C) := by
  unfold val_main_v7 val_main_v1 val_main_v0 val_main_v3
  unfold_payloads
  pointwise
  simp only [hx, hw]

end Up

section Act

variable (a0 b0 a1 b1 a2 b2 : Vec Ideal S256x512 .f32) (cbv cv2 cv0 cv1 cbg cg2 cg0 cg1 : Vec Ideal S1x512 .f32) (r : Fin 256) (l : Fin 512)
  (b : Fin 4) (s : Fin 4096) (n : Fin 5632)
  (ha0 : a0 (ix2 r l) = val_main_v8 X0 X3 (ix3 b (⟨2 + s.val, lt_ext2 s⟩ : Fin 4098) (⟨n.val, lt_colV n⟩ : Fin 11264)))
  (hb0 : b0 (ix2 r l) = val_main_v8 X0 X3 (ix3 b (⟨2 + s.val, lt_ext2 s⟩ : Fin 4098) (⟨5632 + n.val, lt_colG n⟩ : Fin 11264)))
  (ha1 : a1 (ix2 r l) = val_main_v8 X0 X3 (ix3 b (⟨1 + s.val, lt_ext1 s⟩ : Fin 4098) (⟨n.val, lt_colV n⟩ : Fin 11264)))
  (hb1 : b1 (ix2 r l) = val_main_v8 X0 X3 (ix3 b (⟨1 + s.val, lt_ext1 s⟩ : Fin 4098) (⟨5632 + n.val, lt_colG n⟩ : Fin 11264)))
  (ha2 : a2 (ix2 r l) = val_main_v8 X0 X3 (ix3 b (⟨s.val, lt_ext0 s⟩ : Fin 4098) (⟨n.val, lt_colV n⟩ : Fin 11264)))
  (hb2 : b2 (ix2 r l) = val_main_v8 X0 X3 (ix3 b (⟨s.val, lt_ext0 s⟩ : Fin 4098) (⟨5632 + n.val, lt_colG n⟩ : Fin 11264)))
  (hcv : cbv (ix2 (0 : Fin 1) l) = X5 (ix2 (0 : Fin 1) (⟨n.val, lt_colV n⟩ : Fin 11264)))
  (hv0 : cv0 (ix2 (0 : Fin 1) l) = X4 (ix3 (0 : Fin 1) (0 : Fin 3) (⟨n.val, lt_colV n⟩ : Fin 11264)))
  (hv1 : cv1 (ix2 (0 : Fin 1) l) = X4 (ix3 (0 : Fin 1) (1 : Fin 3) (⟨n.val, lt_colV n⟩ : Fin 11264)))
  (hv2 : cv2 (ix2 (0 : Fin 1) l) = X4 (ix3 (0 : Fin 1) (2 : Fin 3) (⟨n.val, lt_colV n⟩ : Fin 11264)))
  (hcg : cbg (ix2 (0 : Fin 1) l) = X5 (ix2 (0 : Fin 1) (⟨5632 + n.val, lt_colG n⟩ : Fin 11264)))
  (hg0 : cg0 (ix2 (0 : Fin 1) l) = X4 (ix3 (0 : Fin 1) (0 : Fin 3) (⟨5632 + n.val, lt_colG n⟩ : Fin 11264)))
  (hg1 : cg1 (ix2 (0 : Fin 1) l) = X4 (ix3 (0 : Fin 1) (1 : Fin 3) (⟨5632 + n.val, lt_colG n⟩ : Fin 11264)))
  (hg2 : cg2 (ix2 (0 : Fin 1) l) = X4 (ix3 (0 : Fin 1) (2 : Fin 3) (⟨5632 + n.val, lt_colG n⟩ : Fin 11264)))

include ha0 ha1 ha2 hcv hv0 hv1 hv2 in
/-- The convolution's sum of the value half. -/
theorem conv28 : k0_pay28 a0 a1 a2 cbv cv2 cv0 cv1 (ix2 r l) = val_main_v31 X0 X3 X4 X5 (ix3 b s (⟨n.val, lt_colV n⟩ : Fin 11264)) := by
  unfold val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v5 val_main_v4
  unfold_payloads
  pointwise
  simp only [ha0, ha1, ha2, hcv, hv0, hv1, hv2]

include ha0 ha1 ha2 hcv hv0 hv1 hv2 hb0 hb1 hb2 hcg hg0 hg1 hg2

theorem act14 : k0_pay14 a0 b0 a1 b1 a2 b2 cbv cv2 cv0 cv1 cbg cg2 cg0 cg1 (ix2 r l) = val_main_v41 X0 X3 X4 X5 (ix3 b s n) := by
  unfold val_main_v41 val_main_v40 val_main_v39 val_main_v38 val_main_cst_1 val_main_v37 val_main_v36 val_main_cst_0 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v5 val_main_v4
  unfold_payloads
  pointwise
  simp only [ha0, ha1, ha2, hcv, hv0, hv1, hv2, hb0, hb1, hb2, hcg, hg0, hg1, hg2]
  rfl

theorem act18 : k0_pay18 a0 b0 a1 b1 a2 b2 cbv cv2 cv0 cv1 cbg cg2 cg0 cg1 (ix2 r l) = val_main_v41 X0 X3 X4 X5 (ix3 b s n) := by
  unfold val_main_v41 val_main_v40 val_main_v39 val_main_v38 val_main_cst_1 val_main_v37 val_main_v36 val_main_cst_0 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v5 val_main_v4
  unfold_payloads
  pointwise
  simp only [ha0, ha1, ha2, hcv, hv0, hv1, hv2, hb0, hb1, hb2, hcg, hg0, hg1, hg2]
  rfl

theorem act24 : k0_pay24 a0 b0 a1 b1 a2 b2 (k0_pay23 cbv) cv2 cv0 cv1 cbg cg2 cg0 cg1 (ix2 r l) = val_main_v41 X0 X3 X4 X5 (ix3 b s n) := by
  unfold val_main_v41 val_main_v40 val_main_v39 val_main_v38 val_main_cst_1 val_main_v37 val_main_v36 val_main_cst_0 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v5 val_main_v4
  unfold_payloads
  pointwise
  simp only [ha0, ha1, ha2, hcv, hv0, hv1, hv2, hb0, hb1, hb2, hcg, hg0, hg1, hg2]
  rfl

end Act

section Out

theorem out15 (a : Vec Ideal S256x512 .bf16) (y : Vec Ideal S256x2048 .f32) (wd : Vec Ideal S512x2048 .bf16) (r : Fin 256) (l : Fin 2048) (Y : EReal) (A W : Fin 512 → EReal)
    (hy : y (ix2 r l) = Y) (ha : ∀ n : Fin 512, a (ix2 r n) = A n) (hw : ∀ n : Fin 512, wd (ix2 n l) = W n) :
    k0_pay15 a y wd (ix2 r l) = Y + ∑ n : Fin 512, A n * W n := by
  unfold_payloads
  pointwise
  simp only [hy, ha, hw]

theorem out20 (a : Vec Ideal S256x512 .bf16) (y : Vec Ideal S256x2048 .f32) (wd : Vec Ideal S512x2048 .bf16) (r : Fin 256) (l : Fin 2048) (Y : EReal) (A W : Fin 512 → EReal)
    (hy : y (ix2 r l) = Y) (ha : ∀ n : Fin 512, a (ix2 r n) = A n) (hw : ∀ n : Fin 512, wd (ix2 n l) = W n) :
    k0_pay20 a (k0_pay19 y) wd (ix2 r l) = Y + ∑ n : Fin 512, A n * W n := by
  unfold_payloads
  pointwise
  simp only [hy, ha, hw]

theorem out27 (a : Vec Ideal S256x512 .bf16) (y : Vec Ideal S256x2048 .f32) (wd : Vec Ideal S512x2048 .bf16) (r : Fin 256) (l : Fin 2048) (Y : EReal) (A W : Fin 512 → EReal)
    (hy : y (ix2 r l) = Y) (ha : ∀ n : Fin 512, a (ix2 r n) = A n) (hw : ∀ n : Fin 512, wd (ix2 n l) = W n) :
    k0_pay27 a (k0_pay25 y) (k0_pay26 wd) (ix2 r l) = Y + ∑ n : Fin 512, A n * W n := by
  unfold_payloads
  pointwise
  simp only [hy, ha, hw]

/-- The last chunk's activation, whose value half is summed before. -/
def act31 (b0 b1 b2 v : Vec Ideal S256x512 .f32) (cbg cg2 cg0 cg1 : Vec Ideal S1x512 .f32) (r : Fin 256) (n : Fin 512) : EReal :=
  let g := cbg (ix2 (0 : Fin 1) n) + cg2 (ix2 (0 : Fin 1) n) * b0 (ix2 r n) + cg0 (ix2 (0 : Fin 1) n) * b2 (ix2 r n) + cg1 (ix2 (0 : Fin 1) n) * b1 (ix2 r n)
  g * Ideal.logistic g * v (ix2 r n)

theorem out31 (b0 b1 b2 v : Vec Ideal S256x512 .f32) (cbg cg2 cg0 cg1 : Vec Ideal S1x512 .f32) (y : Vec Ideal S256x2048 .f32) (wd : Vec Ideal S512x2048 .bf16)
    (r : Fin 256) (l : Fin 2048) (Y : EReal) (A W : Fin 512 → EReal)
    (hy : y (ix2 r l) = Y) (ha : ∀ n : Fin 512, act31 b0 b1 b2 v cbg cg2 cg0 cg1 r n = A n) (hw : ∀ n : Fin 512, wd (ix2 n l) = W n) :
    k0_pay31 b0 b1 b2 v (k0_pay29 cbg) (k0_pay30 cg2) cg0 cg1 y wd (ix2 r l) = Y + ∑ n : Fin 512, A n * W n := by
  unfold_payloads
  pointwise
  simp only [hy, ← ha, hw, act31]

theorem act31_eq (b0 b1 b2 v : Vec Ideal S256x512 .f32) (cbg cg2 cg0 cg1 : Vec Ideal S1x512 .f32) (r : Fin 256) (l : Fin 512) (b : Fin 4) (s : Fin 4096) (n : Fin 5632)
    (hv : v (ix2 r l) = val_main_v31 X0 X3 X4 X5 (ix3 b s (⟨n.val, lt_colV n⟩ : Fin 11264)))
    (hb0 : b0 (ix2 r l) = val_main_v8 X0 X3 (ix3 b (⟨2 + s.val, lt_ext2 s⟩ : Fin 4098) (⟨5632 + n.val, lt_colG n⟩ : Fin 11264)))
    (hb1 : b1 (ix2 r l) = val_main_v8 X0 X3 (ix3 b (⟨1 + s.val, lt_ext1 s⟩ : Fin 4098) (⟨5632 + n.val, lt_colG n⟩ : Fin 11264)))
    (hb2 : b2 (ix2 r l) = val_main_v8 X0 X3 (ix3 b (⟨s.val, lt_ext0 s⟩ : Fin 4098) (⟨5632 + n.val, lt_colG n⟩ : Fin 11264)))
    (hcg : cbg (ix2 (0 : Fin 1) l) = X5 (ix2 (0 : Fin 1) (⟨5632 + n.val, lt_colG n⟩ : Fin 11264)))
    (hg0 : cg0 (ix2 (0 : Fin 1) l) = X4 (ix3 (0 : Fin 1) (0 : Fin 3) (⟨5632 + n.val, lt_colG n⟩ : Fin 11264)))
    (hg1 : cg1 (ix2 (0 : Fin 1) l) = X4 (ix3 (0 : Fin 1) (1 : Fin 3) (⟨5632 + n.val, lt_colG n⟩ : Fin 11264)))
    (hg2 : cg2 (ix2 (0 : Fin 1) l) = X4 (ix3 (0 : Fin 1) (2 : Fin 3) (⟨5632 + n.val, lt_colG n⟩ : Fin 11264)))
    : act31 b0 b1 b2 v cbg cg2 cg0 cg1 r l = val_main_v41 X0 X3 X4 X5 (ix3 b s n) := by
  have hr : val_main_v31 X0 X3 X4 X5 (ix3 b s (⟨5632 + n.val, lt_colG n⟩ : Fin 11264)) = cbg (ix2 (0 : Fin 1) l) + cg2 (ix2 (0 : Fin 1) l) * b0 (ix2 r l) + cg0 (ix2 (0 : Fin 1) l) * b2 (ix2 r l) + cg1 (ix2 (0 : Fin 1) l) * b1 (ix2 r l) := by
    unfold val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v5 val_main_v4
    pointwise
    simp only [hb0, hb1, hb2, hcg, hg0, hg1, hg2]
  unfold act31 val_main_v41 val_main_v40 val_main_v39 val_main_v38 val_main_cst_1 val_main_v37 val_main_v36 val_main_cst_0 val_main_v35 val_main_v34 val_main_v33 val_main_v32
  pointwise
  simp only [hr, hv]
  rfl

/-- The last step at a row: the residual and the norm. -/
theorem end_row (x1 : Vec Ideal S1024x2048 .f32) (gt : Vec Ideal S1x1x2048 .f32) (y : Vec Ideal S1024x2048 .f32) (gf : Vec Ideal S1x2048 .f32)
    (r : Fin 1024) (R : Fin 16384) (b : Fin 4) (hb : b.val = R.val / 4096) (h1 : ∀ l : Fin 2048, x1 (ix2 r l) = X1 (ix2 R l))
    (h2 : ∀ l : Fin 2048, gt (ix3 (0 : Fin 1) (0 : Fin 1) l) = X2 (ix3 b (0 : Fin 1) l))
    (hy : ∀ l : Fin 2048, y (ix2 r l) = val_main_v42 X0 X3 X4 X5 X6 (ix3 b (⟨R.val % 4096, lt_mod R⟩ : Fin 4096) l))
    (h7 : ∀ l : Fin 2048, gf (ix2 (0 : Fin 1) l) = X7 (ix1 l)) (l : Fin 2048) :
    k0_pay3 x1 gt y gf (ix2 r l) = val_main_v61 X0 X1 X2 X3 X4 X5 X6 X7 (ix2 R l) := by
  obtain ⟨b, hb4⟩ := b
  obtain rfl : b = R.val / 4096 := hb
  unfold val_main_v61 val_main_v60 val_main_v59 val_main_v58 val_main_v57 val_main_v56 val_main_v55 val_main_v54 val_main_v53 val_main_cst_4 val_main_v52 val_main_v51 val_main_cst_3 val_main_v50 val_main_v49 val_main_cst_2 val_main_v48 val_main_v47 val_main_v46 val_main_v45 val_main_v44
  unfold_payloads
  pointwise
  simp only [h1, h2, hy, h7]

/-- The reference's extended products: two rows of zeros, then the products. -/
theorem ext_zero (b : Fin 4) (s : Fin 4098) (C : Fin 11264) (h : s.val < 2) : val_main_v8 X0 X3 (ix3 b s C) = 0 := by
  unfold val_main_v8 val_main_v2 val_main_cst
  generalize val_main_v7 X0 X3 = p
  pointwise
  exact dif_pos h

theorem ext_prod (b : Fin 4) (s : Fin 4098) (C : Fin 11264) (s' : Fin 4096) (h : s.val = s'.val + 2) : val_main_v8 X0 X3 (ix3 b s C) = val_main_v7 X0 X3 (ix3 b s' C) := by
  unfold val_main_v8 val_main_v2 val_main_cst
  generalize val_main_v7 X0 X3 = p
  pointwise
  rw [dif_neg (by omega)]
  exact congrArg (fun t : Fin 4096 => p (ix3 b t C)) (Fin.ext (by show s.val - 2 = s'.val; omega))

theorem tail_row (b : Fin 4) (r : Fin 2) (C : Fin 11264) : val_main_v43 X0 X3 (ix3 b r C) = val_main_v8 X0 X3 (ix3 b (⟨4096 + r.val, lt_tail r⟩ : Fin 4098) C) := by
  unfold val_main_v43
  generalize val_main_v8 X0 X3 = p
  pointwise

theorem down_row (b : Fin 4) (s : Fin 4096) (l : Fin 2048) :
    val_main_v42 X0 X3 X4 X5 X6 (ix3 b s l) = ∑ n : Fin 5632, val_main_v41 X0 X3 X4 X5 (ix3 b s n) * X6 (ix3 (0 : Fin 1) n l) := by
  unfold val_main_v42 val_main_v6
  generalize val_main_v41 X0 X3 X4 X5 = p
  pointwise

end Out

end Row

end Cert.Proof.Ffn

end
-- ==== Proof.FfnPoint.lean ====
/-
  A point of the feed-forward block in exact arithmetic: its product buffers are the reference's extended products, its addition to the
  output block is the sum over its 512 columns.
-/
module

public import proofs.«01_k».proof.Proof.FfnRow

@[expose] public section

set_option maxRecDepth 16384

noncomputable section

namespace Cert.Proof.Ffn

open Cert.Kernel2Ideal Cert.Kernel2Ideal.Gen
open Cert.Reference2Ideal.Read
open Idealize.ShloMosaic Idealize.ShloMosaic.TcCoe Idealize.SL.Sem

variable (X0 : (⟨S16384x2048, .bf16⟩ : BufTy).Contents (Elt Ideal)) (X1 : (⟨S16384x2048, .f32⟩ : BufTy).Contents (Elt Ideal))
  (X2 : (⟨⟨3, ![4, 1, 2048]⟩, .f32⟩ : BufTy).Contents (Elt Ideal)) (X3 : (⟨⟨3, ![1, 2048, 11264]⟩, .f32⟩ : BufTy).Contents (Elt Ideal))
  (X4 : (⟨⟨3, ![1, 3, 11264]⟩, .f32⟩ : BufTy).Contents (Elt Ideal)) (X5 : (⟨⟨2, ![1, 11264]⟩, .f32⟩ : BufTy).Contents (Elt Ideal))
  (X6 : (⟨⟨3, ![1, 5632, 2048]⟩, .f32⟩ : BufTy).Contents (Elt Ideal)) (X7 : (⟨⟨1, ![2048]⟩, .f32⟩ : BufTy).Contents (Elt Ideal))

/-- The column of each half under column `l` of column block `j`. -/
def col (j : Fin 11) (l : Fin 512) : Fin 5632 := ⟨512 * j.val + l.val, by omega⟩
def colV (j : Fin 11) (l : Fin 512) : Fin 11264 := ⟨512 * j.val + l.val, by omega⟩
def colG (j : Fin 11) (l : Fin 512) : Fin 11264 := ⟨5632 + (512 * j.val + l.val), by omega⟩
/-- The sequence of block `i`, and the block's row `q` in it. -/
def seqOf (i : Fin 16) : Fin 4 := ⟨i.val / 4, by omega⟩
def posOf (i : Fin 16) (q : Fin 1024) : Fin 4096 := ⟨1024 * (i.val % 4) + q.val, by omega⟩
def rowOf (i : Fin 16) (q : Fin 1024) : Fin 16384 := ⟨1024 * i.val + q.val, by omega⟩
/-- The row of the extended products under row `q` of a product buffer, from the sixth on. -/
def extPos (i : Fin 16) (q : Fin 1032) : Fin 4098 := ⟨1024 * (i.val % 4) + (q.val - 6), by omega⟩

theorem lt_last2 (r : Fin 2) : 1030 + r.val < 1032 := by omega
theorem lt_head (q : Fin 8) : q.val < 1032 := by omega

/-- The arrays of block `i`, column block `j`, are the arguments' windows there. -/
structure Fits (I : Ins Ideal) (i : Fin 16) (j : Fin 11) : Prop where
  h : ∀ (q : Fin 1024) (k : Fin 2048), I.h (ix2 q k) = X0 (ix2 (rowOf i q) k)
  x1 : ∀ (q : Fin 1024) (k : Fin 2048), I.x1 (ix2 q k) = X1 (ix2 (rowOf i q) k)
  gt : ∀ k : Fin 2048, I.gt (ix3 (0 : Fin 1) (0 : Fin 1) k) = X2 (ix3 (seqOf i) (0 : Fin 1) k)
  wv : ∀ (k : Fin 2048) (l : Fin 512), I.wv (ix2 k l) = X3 (ix3 (0 : Fin 1) k (colV j l))
  wg : ∀ (k : Fin 2048) (l : Fin 512), I.wg (ix2 k l) = X3 (ix3 (0 : Fin 1) k (colG j l))
  cwv : ∀ (k : Fin 3) (l : Fin 512), I.cwv (ix2 k l) = X4 (ix3 (0 : Fin 1) k (colV j l))
  cwg : ∀ (k : Fin 3) (l : Fin 512), I.cwg (ix2 k l) = X4 (ix3 (0 : Fin 1) k (colG j l))
  cbv : ∀ l : Fin 512, I.cbv (ix2 (0 : Fin 1) l) = X5 (ix2 (0 : Fin 1) (colV j l))
  cbg : ∀ l : Fin 512, I.cbg (ix2 (0 : Fin 1) l) = X5 (ix2 (0 : Fin 1) (colG j l))
  wd : ∀ (n : Fin 512) (l : Fin 2048), I.wd (ix2 n l) = X6 (ix3 (0 : Fin 1) (col j n) l)
  gf : ∀ l : Fin 2048, I.gf (ix2 (0 : Fin 1) l) = X7 (ix1 l)

/-- Rows `o …` of a matrix, at a row and a column. -/
theorem window_at {A B a : ℕ} {e : EltTy} (x : Vec Ideal ⟨2, ![A, B]⟩ e) (o : ℕ) (inb : ∀ d, (![o, 0] : Fin 2 → ℕ) d + (![a, B] : Fin 2 → ℕ) d ≤ (![A, B] : Fin 2 → ℕ) d)
    (r : Fin a) (l : Fin B) (h : o + r.val < A) :
    VecWindow.window (s := ⟨2, ![A, B]⟩) x ![o, 0] ![a, B] inb (ix2 r l) = x (ix2 (⟨o + r.val, h⟩ : Fin A) l) := by
  unfold VecWindow.window
  refine congrArg x (funext fun d => Fin.ext ?_)
  match d with
  | ⟨0, _⟩ => show o + 1 * r.val = o + r.val; omega
  | ⟨1, _⟩ => show 0 + 1 * l.val = l.val; omega

section Point

variable {I : Ins Ideal} {i : Fin 16} {j : Fin 11} (hI : Fits X0 X1 X2 X3 X4 X5 X6 X7 I i j)

/-- The input rows of a chunk. -/
theorem h_at (hI : Fits X0 X1 X2 X3 X4 X5 X6 X7 I i j) (o : ℕ) (inb) (r : Fin 256) (hq : o + r.val < 1024) (k : Fin 2048) :
    hr I.h o inb (ix2 r k) = X0 (ix2 (⟨(seqOf i).val * 4096 + (posOf i ⟨o + r.val, hq⟩).val, by omega⟩ : Fin 16384) k) := by
  refine (window_at I.h o inb r k hq).trans ((hI.h _ k).trans (congrArg (fun R : Fin 16384 => X0 (ix2 R k)) (Fin.ext ?_)))
  show 1024 * i.val + (o + r.val) = i.val / 4 * 4096 + (1024 * (i.val % 4) + (o + r.val))
  omega

theorem upV_at (hI : Fits X0 X1 X2 X3 X4 X5 X6 X7 I i j) (k : ℕ) (hk : k < 4) (r : Fin 256) (l : Fin 512) :
    upV I k (ix2 r l) = val_main_v7 X0 X3 (ix3 (seqOf i) (posOf i ⟨256 * k + r.val, by omega⟩) (colV j l)) := by
  match k, hk with
  | 0, _ => exact up10 X0 X3 _ _ r l _ _ _ (h_at X0 X1 X2 X3 X4 X5 X6 X7 hI 0 inb_S1024x2048_S256x2048_0_0 r (by omega)) (fun k => hI.wv k l)
  | 1, _ => exact up12 X0 X3 _ _ r l _ _ _ (h_at X0 X1 X2 X3 X4 X5 X6 X7 hI 256 inb_S1024x2048_S256x2048_256_0 r (by omega)) (fun k => hI.wv k l)
  | 2, _ => exact up16 X0 X3 _ _ r l _ _ _ (h_at X0 X1 X2 X3 X4 X5 X6 X7 hI 512 inb_S1024x2048_S256x2048_512_0 r (by omega)) (fun k => hI.wv k l)
  | 3, _ => exact up21 X0 X3 _ _ r l _ _ _ (h_at X0 X1 X2 X3 X4 X5 X6 X7 hI 768 inb_S1024x2048_S256x2048_768_0 r (by omega)) (fun k => hI.wv k l)

theorem upG_at (hI : Fits X0 X1 X2 X3 X4 X5 X6 X7 I i j) (k : ℕ) (hk : k < 4) (r : Fin 256) (l : Fin 512) :
    upG I k (ix2 r l) = val_main_v7 X0 X3 (ix3 (seqOf i) (posOf i ⟨256 * k + r.val, by omega⟩) (colG j l)) := by
  match k, hk with
  | 0, _ => exact up11 X0 X3 _ _ r l _ _ _ (h_at X0 X1 X2 X3 X4 X5 X6 X7 hI 0 inb_S1024x2048_S256x2048_0_0 r (by omega)) (fun k => hI.wg k l)
  | 1, _ => exact up13 X0 X3 _ _ r l _ _ _ (h_at X0 X1 X2 X3 X4 X5 X6 X7 hI 256 inb_S1024x2048_S256x2048_256_0 r (by omega)) (fun k => hI.wg k l)
  | 2, _ => exact up17 X0 X3 _ _ r l _ _ _ (h_at X0 X1 X2 X3 X4 X5 X6 X7 hI 512 inb_S1024x2048_S256x2048_512_0 r (by omega)) (fun k => hI.wg k l)
  | 3, _ => exact up22 X0 X3 _ _ r l _ _ _ (h_at X0 X1 X2 X3 X4 X5 X6 X7 hI 768 inb_S1024x2048_S256x2048_768_0 r (by omega)) (fun k => hI.wg k l)

/-- A product buffer holds the reference's extended products, from its sixth row on; the carried rows hold those before the block. -/
def Full (i : Fin 16) (f : Fin 512 → Fin 11264) (B : Vec Ideal S1032x512 .f32) : Prop :=
  ∀ (q : Fin 1032) (l : Fin 512), 6 ≤ q.val → B (ix2 q l) = val_main_v8 X0 X3 (ix3 (seqOf i) (extPos i q) (f l))
def Carries (i : Fin 16) (f : Fin 512 → Fin 11264) (z : Vec Ideal S1x8x512 .f32) : Prop :=
  ∀ (q : Fin 8) (l : Fin 512), 6 ≤ q.val → z (ix3 (0 : Fin 1) q l) = val_main_v8 X0 X3 (ix3 (seqOf i) (extPos i ⟨q.val, lt_head q⟩) (f l))

theorem full_of (f : Fin 512 → Fin 11264) (u : ℕ → Vec Ideal S256x512 .f32) (hl : Vec Ideal S8x512 .f32) (z : Vec Ideal S1x8x512 .f32)
    (hz : ∀ (q : Fin 8) (l : Fin 512), hl (ix2 q l) = z (ix3 (0 : Fin 1) q l)) (hc : Carries X0 X3 i f z)
    (hu : ∀ (k : ℕ) (hk : k < 4) (r : Fin 256) (l : Fin 512), u k (ix2 r l) = val_main_v7 X0 X3 (ix3 (seqOf i) (posOf i ⟨256 * k + r.val, by omega⟩) (f l))) :
    Full X0 X3 i f (buf hl u) := by
  intro q l hq
  unfold buf
  by_cases h : q.val < 8
  · rw [dif_pos (show ((ix2 q l : S1032x512.Idx) 0).val < 8 from h)]
    refine (congrArg hl ?_).trans ((hz ⟨q.val, h⟩ l).trans (hc ⟨q.val, h⟩ l hq))
    funext a
    match a with
    | 0 => rfl
    | 1 => rfl
  · rw [dif_neg (show ¬ ((ix2 q l : S1032x512.Idx) 0).val < 8 from h)]
    have e : (fun a => match a with | 0 => ⟨(((ix2 q l : S1032x512.Idx) 0).val - 8) % 256, Nat.mod_lt _ (by decide)⟩ | 1 => (ix2 q l : S1032x512.Idx) 1 : S256x512.Idx)
        = ix2 (⟨(q.val - 8) % 256, Nat.mod_lt _ (by decide)⟩ : Fin 256) l := by
      funext a
      match a with
      | 0 => rfl
      | 1 => rfl
    refine (congrArg (u ((q.val - 8) / 256)) e).trans ((hu _ (by omega) _ l).trans (ext_prod X0 X3 _ _ _ _ ?_).symm)
    show 1024 * (i.val % 4) + (q.val - 6) = 1024 * (i.val % 4) + (256 * ((q.val - 8) / 256) + (q.val - 8) % 256) + 2
    omega

theorem pay7_at (z : Vec Ideal S1x8x512 .f32) (q : Fin 8) (l : Fin 512) : k0_pay7 z (ix2 q l) = z (ix3 (0 : Fin 1) q l) := by
  unfold_payloads
  pointwise
theorem pay8_at (z : Vec Ideal S1x8x512 .f32) (q : Fin 8) (l : Fin 512) : k0_pay8 z (ix2 q l) = z (ix3 (0 : Fin 1) q l) := by
  unfold_payloads
  pointwise

theorem fullV_of (hI : Fits X0 X1 X2 X3 X4 X5 X6 X7 I i j) (z : Vec Ideal S1x8x512 .f32) (hc : Carries X0 X3 i (colV j) z) : Full X0 X3 i (colV j) (bufV I z) :=
  full_of X0 X3 (colV j) (upV I) (k0_pay7 z) z (pay7_at z) hc (upV_at X0 X1 X2 X3 X4 X5 X6 X7 hI)
theorem fullG_of (hI : Fits X0 X1 X2 X3 X4 X5 X6 X7 I i j) (z : Vec Ideal S1x8x512 .f32) (hc : Carries X0 X3 i (colG j) z) : Full X0 X3 i (colG j) (bufG I z) :=
  full_of X0 X3 (colG j) (upG I) (k0_pay8 z) z (pay8_at z) hc (upG_at X0 X1 X2 X3 X4 X5 X6 X7 hI)

/-- A sequence's first block starts from zeros. -/
theorem carries_zero (f : Fin 512 → Fin 11264) (h : i.val % 4 = 0) (z : Vec Ideal S1x8x512 .f32) (hz : ∀ (q : Fin 8) (l : Fin 512), z (ix3 (0 : Fin 1) q l) = 0) : Carries X0 X3 i f z := by
  intro q l hq
  refine (hz q l).trans (ext_zero X0 X3 _ _ _ ?_).symm
  show 1024 * (i.val % 4) + (q.val - 6) < 2
  omega
theorem pay4_at (q : Fin 8) (l : Fin 512) : (k0_pay4 (F := Ideal)) (ix3 (0 : Fin 1) q l) = 0 := by
  unfold_payloads
  pointwise
theorem pay5_at (q : Fin 8) (l : Fin 512) : (k0_pay5 (F := Ideal)) (ix3 (0 : Fin 1) q l) = 0 := by
  unfold_payloads
  pointwise

/-- Another block starts from the last rows of the block before. -/
theorem carries_next (f : Fin 512 → Fin 11264) (i' : Fin 16) (hi : i'.val = i.val + 1) (h : i'.val % 4 ≠ 0) (B : Vec Ideal S1032x512 .f32) (hB : Full X0 X3 i f B) (z : Vec Ideal S1x8x512 .f32)
    (hz : ∀ (q : Fin 8) (l : Fin 512), z (ix3 (0 : Fin 1) q l) = last8 B (ix2 q l)) : Carries X0 X3 i' f z := by
  intro q l hq
  refine (hz q l).trans ((window_at B 1024 inb_S1032x512_S8x512_1024_0 q l (by omega)).trans ((hB _ l (by show 6 ≤ 1024 + q.val; omega)).trans ?_))
  have e0 : seqOf i = seqOf i' := Fin.ext (by show i.val / 4 = i'.val / 4; omega)
  have e1 : extPos i ⟨1024 + q.val, by omega⟩ = extPos i' ⟨q.val, by omega⟩ :=
    Fin.ext (by show 1024 * (i.val % 4) + (1024 + q.val - 6) = 1024 * (i'.val % 4) + (q.val - 6); omega)
  rw [e0, e1]
theorem pay32_at (x : Vec Ideal S8x512 .f32) (q : Fin 8) (l : Fin 512) : k0_pay32 x (ix3 (0 : Fin 1) q l) = x (ix2 q l) := by
  unfold_payloads
  pointwise
theorem pay1_at (x : Vec Ideal S8x512 .f32) (q : Fin 8) (l : Fin 512) : k0_pay1 x (ix3 (0 : Fin 1) q l) = x (ix2 q l) := by
  unfold_payloads
  pointwise

/-- A row of a chunk read from a product buffer. -/
theorem rd_at (f : Fin 512 → Fin 11264) (B : Vec Ideal S1032x512 .f32) (hB : Full X0 X3 i f B) (o : ℕ) (ho : 6 ≤ o) (inb) (r : Fin 256) (l : Fin 512) (hq : o + r.val < 1032)
    (S : Fin 4098) (hS : S.val = 1024 * (i.val % 4) + (o + r.val - 6)) (C : Fin 11264) (hC : f l = C) : rd B o inb (ix2 r l) = val_main_v8 X0 X3 (ix3 (seqOf i) S C) := by
  subst hC
  refine (window_at B o inb r l hq).trans ((hB _ l (by show 6 ≤ o + r.val; omega)).trans ?_)
  rw [show extPos i ⟨o + r.val, hq⟩ = S from Fin.ext hS.symm]

theorem cr_at (x : Vec Ideal S3x512 .f32) (k : ℕ) (hk : k < 3) (inb) (l : Fin 512) : cr x k inb (ix2 (0 : Fin 1) l) = x (ix2 (⟨k, hk⟩ : Fin 3) l) :=
  (window_at x k inb (0 : Fin 1) l (by show k + 0 < 3; omega)).trans rfl

/-- What the point adds at a row and a column. -/
def addend (i : Fin 16) (q : Fin 1024) (j : Fin 11) (l : Fin 2048) : EReal :=
  ∑ n : Fin 512, val_main_v41 X0 X3 X4 X5 (ix3 (seqOf i) (posOf i q) (col j n)) * X6 (ix3 (0 : Fin 1) (col j n) l)

theorem yr_at (y : Vec Ideal S1024x2048 .f32) (o : ℕ) (inb) (r : Fin 256) (l : Fin 2048) (hq : o + r.val < 1024) : yr y o inb (ix2 r l) = y (ix2 (⟨o + r.val, hq⟩ : Fin 1024) l) :=
  window_at y o inb r l hq

theorem outC_at (hI : Fits X0 X1 X2 X3 X4 X5 X6 X7 I i j) (sv sg : Vec Ideal S1032x512 .f32) (hv : Full X0 X3 i (colV j) sv) (hg : Full X0 X3 i (colG j) sg)
    (y : Vec Ideal S1024x2048 .f32) (k : ℕ) (hk : k < 4) (r : Fin 256) (l : Fin 2048) :
    outC I sv sg y k (ix2 r l) = y (ix2 (⟨256 * k + r.val, by omega⟩ : Fin 1024) l) + addend X0 X3 X4 X5 X6 i ⟨256 * k + r.val, by omega⟩ j l := by
  have ev : ∀ o, 6 ≤ o → ∀ inb (n : Fin 512), o + r.val < 1032 → ∀ S : Fin 4098, S.val = 1024 * (i.val % 4) + (o + r.val - 6) → ∀ C, colV j n = C →
      rd sv o inb (ix2 r n) = val_main_v8 X0 X3 (ix3 (seqOf i) S C) := fun o ho inb n hq S hS C hC => rd_at X0 X3 (colV j) sv hv o ho inb r n hq S hS C hC
  have eg : ∀ o, 6 ≤ o → ∀ inb (n : Fin 512), o + r.val < 1032 → ∀ S : Fin 4098, S.val = 1024 * (i.val % 4) + (o + r.val - 6) → ∀ C, colG j n = C →
      rd sg o inb (ix2 r n) = val_main_v8 X0 X3 (ix3 (seqOf i) S C) := fun o ho inb n hq S hS C hC => rd_at X0 X3 (colG j) sg hg o ho inb r n hq S hS C hC
  have wv : ∀ k (hk : k < 3) inb (n : Fin 512), cr I.cwv k inb (ix2 (0 : Fin 1) n) = X4 (ix3 (0 : Fin 1) (⟨k, hk⟩ : Fin 3) (colV j n)) :=
    fun k hk inb n => (cr_at I.cwv k hk inb n).trans (hI.cwv _ n)
  have wg : ∀ k (hk : k < 3) inb (n : Fin 512), cr I.cwg k inb (ix2 (0 : Fin 1) n) = X4 (ix3 (0 : Fin 1) (⟨k, hk⟩ : Fin 3) (colG j n)) :=
    fun k hk inb n => (cr_at I.cwg k hk inb n).trans (hI.cwg _ n)
  match k, hk with
  | 0, _ =>
    exact out15 _ _ _ r l _ (fun n => val_main_v41 X0 X3 X4 X5 (ix3 (seqOf i) (posOf i ⟨256 * 0 + r.val, by omega⟩) (col j n))) (fun n => X6 (ix3 (0 : Fin 1) (col j n) l))
      (yr_at y 0 inb_S1024x2048_S256x2048_0_0 r l (by omega))
      (fun n => act14 X0 X3 X4 X5 _ _ _ _ _ _ _ _ _ _ _ _ _ _ r n (seqOf i) (posOf i ⟨256 * 0 + r.val, by omega⟩) (col j n)
        (ev 8 (by decide) _ n (by omega) _ (by show 2 + (1024 * (i.val % 4) + (0 + r.val)) = 1024 * (i.val % 4) + (8 + r.val - 6); omega) _ rfl)
        (eg 8 (by decide) _ n (by omega) _ (by show 2 + (1024 * (i.val % 4) + (0 + r.val)) = 1024 * (i.val % 4) + (8 + r.val - 6); omega) _ rfl)
        (ev 7 (by decide) _ n (by omega) _ (by show 1 + (1024 * (i.val % 4) + (0 + r.val)) = 1024 * (i.val % 4) + (7 + r.val - 6); omega) _ rfl)
        (eg 7 (by decide) _ n (by omega) _ (by show 1 + (1024 * (i.val % 4) + (0 + r.val)) = 1024 * (i.val % 4) + (7 + r.val - 6); omega) _ rfl)
        (ev 6 (by decide) _ n (by omega) _ (by show (1024 * (i.val % 4) + (0 + r.val)) = 1024 * (i.val % 4) + (6 + r.val - 6); omega) _ rfl)
        (eg 6 (by decide) _ n (by omega) _ (by show (1024 * (i.val % 4) + (0 + r.val)) = 1024 * (i.val % 4) + (6 + r.val - 6); omega) _ rfl)
        (hI.cbv n) (wv 0 (by decide) _ n) (wv 1 (by decide) _ n) (wv 2 (by decide) _ n)
        (hI.cbg n) (wg 0 (by decide) _ n) (wg 1 (by decide) _ n) (wg 2 (by decide) _ n))
      (fun n => hI.wd n l)
  | 1, _ =>
    exact out20 _ _ _ r l _ (fun n => val_main_v41 X0 X3 X4 X5 (ix3 (seqOf i) (posOf i ⟨256 * 1 + r.val, by omega⟩) (col j n))) (fun n => X6 (ix3 (0 : Fin 1) (col j n) l))
      (yr_at y 256 inb_S1024x2048_S256x2048_256_0 r l (by omega))
      (fun n => act18 X0 X3 X4 X5 _ _ _ _ _ _ _ _ _ _ _ _ _ _ r n (seqOf i) (posOf i ⟨256 * 1 + r.val, by omega⟩) (col j n)
        (ev 264 (by decide) _ n (by omega) _ (by show 2 + (1024 * (i.val % 4) + (256 + r.val)) = 1024 * (i.val % 4) + (264 + r.val - 6); omega) _ rfl)
        (eg 264 (by decide) _ n (by omega) _ (by show 2 + (1024 * (i.val % 4) + (256 + r.val)) = 1024 * (i.val % 4) + (264 + r.val - 6); omega) _ rfl)
        (ev 263 (by decide) _ n (by omega) _ (by show 1 + (1024 * (i.val % 4) + (256 + r.val)) = 1024 * (i.val % 4) + (263 + r.val - 6); omega) _ rfl)
        (eg 263 (by decide) _ n (by omega) _ (by show 1 + (1024 * (i.val % 4) + (256 + r.val)) = 1024 * (i.val % 4) + (263 + r.val - 6); omega) _ rfl)
        (ev 262 (by decide) _ n (by omega) _ (by show (1024 * (i.val % 4) + (256 + r.val)) = 1024 * (i.val % 4) + (262 + r.val - 6); omega) _ rfl)
        (eg 262 (by decide) _ n (by omega) _ (by show (1024 * (i.val % 4) + (256 + r.val)) = 1024 * (i.val % 4) + (262 + r.val - 6); omega) _ rfl)
        (hI.cbv n) (wv 0 (by decide) _ n) (wv 1 (by decide) _ n) (wv 2 (by decide) _ n)
        (hI.cbg n) (wg 0 (by decide) _ n) (wg 1 (by decide) _ n) (wg 2 (by decide) _ n))
      (fun n => hI.wd n l)
  | 2, _ =>
    exact out27 _ _ _ r l _ (fun n => val_main_v41 X0 X3 X4 X5 (ix3 (seqOf i) (posOf i ⟨256 * 2 + r.val, by omega⟩) (col j n))) (fun n => X6 (ix3 (0 : Fin 1) (col j n) l))
      (yr_at y 512 inb_S1024x2048_S256x2048_512_0 r l (by omega))
      (fun n => act24 X0 X3 X4 X5 _ _ _ _ _ _ _ _ _ _ _ _ _ _ r n (seqOf i) (posOf i ⟨256 * 2 + r.val, by omega⟩) (col j n)
        (ev 520 (by decide) _ n (by omega) _ (by show 2 + (1024 * (i.val % 4) + (512 + r.val)) = 1024 * (i.val % 4) + (520 + r.val - 6); omega) _ rfl)
        (eg 520 (by decide) _ n (by omega) _ (by show 2 + (1024 * (i.val % 4) + (512 + r.val)) = 1024 * (i.val % 4) + (520 + r.val - 6); omega) _ rfl)
        (ev 519 (by decide) _ n (by omega) _ (by show 1 + (1024 * (i.val % 4) + (512 + r.val)) = 1024 * (i.val % 4) + (519 + r.val - 6); omega) _ rfl)
        (eg 519 (by decide) _ n (by omega) _ (by show 1 + (1024 * (i.val % 4) + (512 + r.val)) = 1024 * (i.val % 4) + (519 + r.val - 6); omega) _ rfl)
        (ev 518 (by decide) _ n (by omega) _ (by show (1024 * (i.val % 4) + (512 + r.val)) = 1024 * (i.val % 4) + (518 + r.val - 6); omega) _ rfl)
        (eg 518 (by decide) _ n (by omega) _ (by show (1024 * (i.val % 4) + (512 + r.val)) = 1024 * (i.val % 4) + (518 + r.val - 6); omega) _ rfl)
        (hI.cbv n) (wv 0 (by decide) _ n) (wv 1 (by decide) _ n) (wv 2 (by decide) _ n)
        (hI.cbg n) (wg 0 (by decide) _ n) (wg 1 (by decide) _ n) (wg 2 (by decide) _ n))
      (fun n => hI.wd n l)
  | 3, _ =>
    exact out31 _ _ _ _ _ _ _ _ _ _ r l _ (fun n => val_main_v41 X0 X3 X4 X5 (ix3 (seqOf i) (posOf i ⟨256 * 3 + r.val, by omega⟩) (col j n))) (fun n => X6 (ix3 (0 : Fin 1) (col j n) l))
      (yr_at y 768 inb_S1024x2048_S256x2048_768_0 r l (by omega))
      (fun n => act31_eq X0 X3 X4 X5 _ _ _ _ _ _ _ _ r n (seqOf i) (posOf i ⟨256 * 3 + r.val, by omega⟩) (col j n)
        (conv28 X0 X3 X4 X5 _ _ _ _ _ _ _ r n (seqOf i) (posOf i ⟨256 * 3 + r.val, by omega⟩) (col j n)
          (ev 776 (by decide) _ n (by omega) _ (by show 2 + (1024 * (i.val % 4) + (768 + r.val)) = 1024 * (i.val % 4) + (776 + r.val - 6); omega) _ rfl)
          (ev 775 (by decide) _ n (by omega) _ (by show 1 + (1024 * (i.val % 4) + (768 + r.val)) = 1024 * (i.val % 4) + (775 + r.val - 6); omega) _ rfl)
          (ev 774 (by decide) _ n (by omega) _ (by show (1024 * (i.val % 4) + (768 + r.val)) = 1024 * (i.val % 4) + (774 + r.val - 6); omega) _ rfl)
          (hI.cbv n) (wv 0 (by decide) _ n) (wv 1 (by decide) _ n) (wv 2 (by decide) _ n))
        (eg 776 (by decide) _ n (by omega) _ (by show 2 + (1024 * (i.val % 4) + (768 + r.val)) = 1024 * (i.val % 4) + (776 + r.val - 6); omega) _ rfl)
        (eg 775 (by decide) _ n (by omega) _ (by show 1 + (1024 * (i.val % 4) + (768 + r.val)) = 1024 * (i.val % 4) + (775 + r.val - 6); omega) _ rfl)
        (eg 774 (by decide) _ n (by omega) _ (by show (1024 * (i.val % 4) + (768 + r.val)) = 1024 * (i.val % 4) + (774 + r.val - 6); omega) _ rfl)
        (hI.cbg n) (wg 0 (by decide) _ n) (wg 1 (by decide) _ n) (wg 2 (by decide) _ n))
      (fun n => hI.wd n l)

theorem newY_at (hI : Fits X0 X1 X2 X3 X4 X5 X6 X7 I i j) (sv sg : Vec Ideal S1032x512 .f32) (hv : Full X0 X3 i (colV j) sv) (hg : Full X0 X3 i (colG j) sg)
    (y : Vec Ideal S1024x2048 .f32) (q : Fin 1024) (l : Fin 2048) :
    newY I sv sg y (ix2 q l) = y (ix2 q l) + addend X0 X3 X4 X5 X6 i q j l := by
  have e : (fun a => match a with | 0 => ⟨((ix2 q l : S1024x2048.Idx) 0).val % 256, Nat.mod_lt _ (by decide)⟩ | 1 => (ix2 q l : S1024x2048.Idx) 1 : S256x2048.Idx)
      = ix2 (⟨q.val % 256, Nat.mod_lt _ (by decide)⟩ : Fin 256) l := by
    funext a
    match a with
    | 0 => rfl
    | 1 => rfl
  have hq : (⟨256 * (q.val / 256) + q.val % 256, by omega⟩ : Fin 1024) = q := Fin.ext (by show 256 * (q.val / 256) + q.val % 256 = q.val; omega)
  unfold newY
  refine (congrArg (outC I sv sg y (q.val / 256)) e).trans ((outC_at X0 X1 X2 X3 X4 X5 X6 X7 hI sv sg hv hg y (q.val / 256) (by omega) _ l).trans ?_)
  show y (ix2 (⟨256 * (q.val / 256) + q.val % 256, by omega⟩ : Fin 1024) l) + addend X0 X3 X4 X5 X6 i ⟨256 * (q.val / 256) + q.val % 256, by omega⟩ j l = _
  rw [hq]

/-- The sum over the first column blocks, as a sum over the columns. -/
def term (i : Fin 16) (q : Fin 1024) (l : Fin 2048) (n : ℕ) : EReal :=
  if h : n < 5632 then val_main_v41 X0 X3 X4 X5 (ix3 (seqOf i) (posOf i q) (⟨n, h⟩ : Fin 5632)) * X6 (ix3 (0 : Fin 1) (⟨n, h⟩ : Fin 5632) l) else 0

theorem addend_eq (q : Fin 1024) (l : Fin 2048) : addend X0 X3 X4 X5 X6 i q j l = ∑ n ∈ Finset.range 512, term X0 X3 X4 X5 X6 i q l (512 * j.val + n) := by
  rw [Finset.sum_range]
  refine Finset.sum_congr rfl fun n _ => ?_
  unfold term
  rw [dif_pos (show 512 * j.val + n.val < 5632 by omega)]
  rfl

theorem sum_step (q : Fin 1024) (l : Fin 2048) (J : ℕ) (hJ : j.val = J) :
    (∑ n ∈ Finset.range (512 * J), term X0 X3 X4 X5 X6 i q l n) + addend X0 X3 X4 X5 X6 i q j l = ∑ n ∈ Finset.range (512 * (J + 1)), term X0 X3 X4 X5 X6 i q l n := by
  subst hJ
  rw [addend_eq, show 512 * (j.val + 1) = 512 * j.val + 512 by omega, Finset.sum_range_add]

theorem sum_all (q : Fin 1024) (l : Fin 2048) : ∑ n ∈ Finset.range 5632, term X0 X3 X4 X5 X6 i q l n = val_main_v42 X0 X3 X4 X5 X6 (ix3 (seqOf i) (posOf i q) l) := by
  rw [down_row, Finset.sum_range]
  refine Finset.sum_congr rfl fun n _ => ?_
  unfold term
  rw [dif_pos n.isLt]

theorem pay6_at (q : Fin 1024) (l : Fin 2048) : (k0_pay6 (F := Ideal)) (ix2 q l) = 0 := by
  unfold_payloads
  pointwise

theorem pay33_at (B : Vec Ideal S1032x512 .f32) (f : Fin 512 → Fin 11264) (hB : Full X0 X3 i f B) (r : Fin 2) (l : Fin 512) :
    k0_pay33 (last2 B) (ix3 (0 : Fin 1) r l) = val_main_v8 X0 X3 (ix3 (seqOf i) (extPos i ⟨1030 + r.val, lt_last2 r⟩) (f l)) := by
  have e : k0_pay33 (last2 B) (ix3 (0 : Fin 1) r l) = last2 B (ix2 r l) := by
    unfold_payloads
    generalize last2 B = x
    pointwise
  exact e.trans ((window_at B 1030 inb_S1032x512_S2x512_1030_0 r l (by omega)).trans (hB _ l (by show 6 ≤ 1030 + r.val; omega)))
theorem pay2_at (B : Vec Ideal S1032x512 .f32) (f : Fin 512 → Fin 11264) (hB : Full X0 X3 i f B) (r : Fin 2) (l : Fin 512) :
    k0_pay2 (last2 B) (ix3 (0 : Fin 1) r l) = val_main_v8 X0 X3 (ix3 (seqOf i) (extPos i ⟨1030 + r.val, lt_last2 r⟩) (f l)) := by
  have e : k0_pay2 (last2 B) (ix3 (0 : Fin 1) r l) = last2 B (ix2 r l) := by
    unfold_payloads
    generalize last2 B = x
    pointwise
  exact e.trans ((window_at B 1030 inb_S1032x512_S2x512_1030_0 r l (by omega)).trans (hB _ l (by show 6 ≤ 1030 + r.val; omega)))

end Point

end Cert.Proof.Ffn

end
-- ==== Proof.FfnValue.lean ====
/-
  The value of the feed-forward block (`Kernel2Ideal`) in exact arithmetic: both results are the reference's.
-/
module

public import proofs.«01_k».proof.Proof.FfnPoint
public import Idealize.ShloMosaic.Lib.StableHlo.ReadAt

@[expose] public section

set_option maxRecDepth 16384

noncomputable section

namespace Cert.Proof.Ffn

open Cert.Kernel2Ideal Cert.Kernel2Ideal.Gen
open Cert.Reference2Ideal.Read
open Idealize.ShloMosaic Idealize.ShloMosaic.TcCoe Idealize.SL.Sem
open Idealize.ShloMosaic.Pipeline (Dat)

variable (m : (ℓ : Loc nD τ sig) → Buf (Elt Ideal) ℓ)

theorem ix_exhaust2 {a b : Nat} (j : (⟨2, ![a, b]⟩ : Shape).Idx) : ∃ (r : Fin a) (l : Fin b), j = ix2 r l :=
  ⟨j 0, j 1, by funext k; match k with | ⟨0, _⟩ => rfl | ⟨1, _⟩ => rfl⟩
theorem ix_exhaust3 {a b d : Nat} (j : (⟨3, ![a, b, d]⟩ : Shape).Idx) : ∃ (q : Fin a) (r : Fin b) (l : Fin d), j = ix3 q r l :=
  ⟨j 0, j 1, j 2, by funext k; match k with | ⟨0, _⟩ => rfl | ⟨1, _⟩ => rfl | ⟨2, _⟩ => rfl⟩

/-- The block and the column block of a point. -/
def iOf (t : Fin cfg0.N) : Fin 16 := ⟨t.val / 11, by have := t_lt t; omega⟩
def jOf (t : Fin cfg0.N) : Fin 11 := ⟨t.val % 11, by omega⟩

/-- Where each window's block stands at each point. -/
theorem idx_facts : ∀ t : Fin cfg0.N,
    (win0_0.index t 0 = t.val / 11 ∧ win0_0.index t 1 = 0) ∧ (win0_1.index t 0 = t.val / 11 ∧ win0_1.index t 1 = 0)
    ∧ (win0_2.index t 0 = t.val / 44 ∧ win0_2.index t 1 = 0 ∧ win0_2.index t 2 = 0)
    ∧ (win0_3.index t 0 = 0 ∧ win0_3.index t 1 = t.val % 11) ∧ (win0_4.index t 0 = 0 ∧ win0_4.index t 1 = t.val % 11 + 11)
    ∧ (win0_5.index t 0 = 0 ∧ win0_5.index t 1 = t.val % 11) ∧ (win0_6.index t 0 = 0 ∧ win0_6.index t 1 = t.val % 11 + 11)
    ∧ (win0_7.index t 0 = 0 ∧ win0_7.index t 1 = t.val % 11) ∧ (win0_8.index t 0 = 0 ∧ win0_8.index t 1 = t.val % 11 + 11)
    ∧ (win0_9.index t 0 = t.val % 11 ∧ win0_9.index t 1 = 0) ∧ (win0_10.index t 0 = 0 ∧ win0_10.index t 1 = 0)
    ∧ (win0_11.index t 0 = t.val / 11 ∧ win0_11.index t 1 = 0)
    ∧ (win0_12.index t 0 = t.val / 11 ∧ win0_12.index t 1 = 0 ∧ win0_12.index t 2 = t.val % 11)
    ∧ (win0_13.index t 0 = t.val / 11 ∧ win0_13.index t 1 = 0 ∧ win0_13.index t 2 = t.val % 11) :=
  (by decide +kernel : ∀ t : Fin grid0.N, _)

theorem blk0 (c : Dev nD) (t : Fin cfg0.N) (q : Fin 1024) (k : Fin 2048) :
    (iblk m c 0 t : Vec Ideal S1024x2048 .bf16) (ix2 q k) = m ((c : Thread nD τ).loc main_arg0) (ix2 (rowOf (iOf t) q) k) := by
  obtain ⟨⟨e0, e1⟩, -⟩ := idx_facts t
  unfold iblk
  rw [View.read_apply]
  have hi : ((cfg0.win 0).blk t).view.emb (ix2 q k) = (ix2 (rowOf (iOf t) q) k) := by
    funext a
    apply Fin.ext
    match a with
    | ⟨0, _⟩ => show win0_0.index t 0 * 1024 + 1 * (q.val : Nat) = 1024 * (t.val / 11) + q.val; rw [e0] <;> omega
    | ⟨1, _⟩ => show win0_0.index t 1 * 2048 + 1 * (k.val : Nat) = k.val; rw [e1] <;> omega
  rw [hi]
  show V m c main_arg0 (ix2 (rowOf (iOf t) q) k) = _
  rw [V_main_arg0]

theorem blk1 (c : Dev nD) (t : Fin cfg0.N) (q : Fin 1024) (k : Fin 2048) :
    (iblk m c 1 t : Vec Ideal S1024x2048 .f32) (ix2 q k) = m ((c : Thread nD τ).loc main_arg1) (ix2 (rowOf (iOf t) q) k) := by
  obtain ⟨-, ⟨e0, e1⟩, -⟩ := idx_facts t
  unfold iblk
  rw [View.read_apply]
  have hi : ((cfg0.win 1).blk t).view.emb (ix2 q k) = (ix2 (rowOf (iOf t) q) k) := by
    funext a
    apply Fin.ext
    match a with
    | ⟨0, _⟩ => show win0_1.index t 0 * 1024 + 1 * (q.val : Nat) = 1024 * (t.val / 11) + q.val; rw [e0] <;> omega
    | ⟨1, _⟩ => show win0_1.index t 1 * 2048 + 1 * (k.val : Nat) = k.val; rw [e1] <;> omega
  rw [hi]
  show V m c main_arg1 (ix2 (rowOf (iOf t) q) k) = _
  rw [V_main_arg1]

theorem blk2 (c : Dev nD) (t : Fin cfg0.N) (l : Fin 2048) :
    (iblk m c 2 t : Vec Ideal S1x1x2048 .f32) (ix3 (0 : Fin 1) (0 : Fin 1) l) = m ((c : Thread nD τ).loc main_arg2) (ix3 (seqOf (iOf t)) (0 : Fin 1) l) := by
  obtain ⟨-, -, ⟨e0, e1, e2⟩, -⟩ := idx_facts t
  unfold iblk
  rw [View.read_apply]
  have hi : ((cfg0.win 2).blk t).view.emb (ix3 (0 : Fin 1) (0 : Fin 1) l) = (ix3 (seqOf (iOf t)) (0 : Fin 1) l) := by
    funext a
    apply Fin.ext
    match a with
    | ⟨0, _⟩ => show win0_2.index t 0 * 1 + 1 * (0 : Nat) = t.val / 11 / 4; rw [e0] <;> omega
    | ⟨1, _⟩ => show win0_2.index t 1 * 1 + 1 * (0 : Nat) = 0; rw [e1] <;> omega
    | ⟨2, _⟩ => show win0_2.index t 2 * 2048 + 1 * (l.val : Nat) = l.val; rw [e2] <;> omega
  rw [hi]
  show V m c main_arg2 (ix3 (seqOf (iOf t)) (0 : Fin 1) l) = _
  rw [V_main_arg2]

theorem blk3 (c : Dev nD) (t : Fin cfg0.N) (k : Fin 2048) (l : Fin 512) :
    (iblk m c 3 t : Vec Ideal S2048x512 .bf16) (ix2 k l) = m ((c : Thread nD τ).loc main_arg3) (ix3 (0 : Fin 1) k (colV (jOf t) l)) := by
  obtain ⟨-, -, -, ⟨e0, e1⟩, -⟩ := idx_facts t
  unfold iblk
  rw [View.read_apply]
  have hi : ((cfg0.win 3).blk t).view.emb (ix2 k l) = (ix2 k (colV (jOf t) l)) := by
    funext a
    apply Fin.ext
    match a with
    | ⟨0, _⟩ => show win0_3.index t 0 * 2048 + 1 * (k.val : Nat) = k.val; rw [e0] <;> omega
    | ⟨1, _⟩ => show win0_3.index t 1 * 512 + 1 * (l.val : Nat) = 512 * (t.val % 11) + l.val; rw [e1] <;> omega
  rw [hi]
  show V m c main_v1 (ix2 k (colV (jOf t) l)) = _
  unfold V V0 hostOps0
  after_reads_at
  try rfl

theorem blk4 (c : Dev nD) (t : Fin cfg0.N) (k : Fin 2048) (l : Fin 512) :
    (iblk m c 4 t : Vec Ideal S2048x512 .bf16) (ix2 k l) = m ((c : Thread nD τ).loc main_arg3) (ix3 (0 : Fin 1) k (colG (jOf t) l)) := by
  obtain ⟨-, -, -, -, ⟨e0, e1⟩, -⟩ := idx_facts t
  unfold iblk
  rw [View.read_apply]
  have hi : ((cfg0.win 4).blk t).view.emb (ix2 k l) = (ix2 k (colG (jOf t) l)) := by
    funext a
    apply Fin.ext
    match a with
    | ⟨0, _⟩ => show win0_4.index t 0 * 2048 + 1 * (k.val : Nat) = k.val; rw [e0] <;> omega
    | ⟨1, _⟩ => show win0_4.index t 1 * 512 + 1 * (l.val : Nat) = 5632 + (512 * (t.val % 11) + l.val); rw [e1] <;> omega
  rw [hi]
  show V m c main_v1 (ix2 k (colG (jOf t) l)) = _
  unfold V V0 hostOps0
  after_reads_at
  try rfl

theorem blk5 (c : Dev nD) (t : Fin cfg0.N) (k : Fin 3) (l : Fin 512) :
    (iblk m c 5 t : Vec Ideal S3x512 .f32) (ix2 k l) = m ((c : Thread nD τ).loc main_arg4) (ix3 (0 : Fin 1) k (colV (jOf t) l)) := by
  obtain ⟨-, -, -, -, -, ⟨e0, e1⟩, -⟩ := idx_facts t
  unfold iblk
  rw [View.read_apply]
  have hi : ((cfg0.win 5).blk t).view.emb (ix2 k l) = (ix2 k (colV (jOf t) l)) := by
    funext a
    apply Fin.ext
    match a with
    | ⟨0, _⟩ => show win0_5.index t 0 * 3 + 1 * (k.val : Nat) = k.val; rw [e0] <;> omega
    | ⟨1, _⟩ => show win0_5.index t 1 * 512 + 1 * (l.val : Nat) = 512 * (t.val % 11) + l.val; rw [e1] <;> omega
  rw [hi]
  show V m c main_v2 (ix2 k (colV (jOf t) l)) = _
  unfold V V0 hostOps0
  after_reads_at
  try rfl

theorem blk6 (c : Dev nD) (t : Fin cfg0.N) (k : Fin 3) (l : Fin 512) :
    (iblk m c 6 t : Vec Ideal S3x512 .f32) (ix2 k l) = m ((c : Thread nD τ).loc main_arg4) (ix3 (0 : Fin 1) k (colG (jOf t) l)) := by
  obtain ⟨-, -, -, -, -, -, ⟨e0, e1⟩, -⟩ := idx_facts t
  unfold iblk
  rw [View.read_apply]
  have hi : ((cfg0.win 6).blk t).view.emb (ix2 k l) = (ix2 k (colG (jOf t) l)) := by
    funext a
    apply Fin.ext
    match a with
    | ⟨0, _⟩ => show win0_6.index t 0 * 3 + 1 * (k.val : Nat) = k.val; rw [e0] <;> omega
    | ⟨1, _⟩ => show win0_6.index t 1 * 512 + 1 * (l.val : Nat) = 5632 + (512 * (t.val % 11) + l.val); rw [e1] <;> omega
  rw [hi]
  show V m c main_v2 (ix2 k (colG (jOf t) l)) = _
  unfold V V0 hostOps0
  after_reads_at
  try rfl

theorem blk7 (c : Dev nD) (t : Fin cfg0.N) (l : Fin 512) :
    (iblk m c 7 t : Vec Ideal S1x512 .f32) (ix2 (0 : Fin 1) l) = m ((c : Thread nD τ).loc main_arg5) (ix2 (0 : Fin 1) (colV (jOf t) l)) := by
  obtain ⟨-, -, -, -, -, -, -, ⟨e0, e1⟩, -⟩ := idx_facts t
  unfold iblk
  rw [View.read_apply]
  have hi : ((cfg0.win 7).blk t).view.emb (ix2 (0 : Fin 1) l) = (ix2 (0 : Fin 1) (colV (jOf t) l)) := by
    funext a
    apply Fin.ext
    match a with
    | ⟨0, _⟩ => show win0_7.index t 0 * 1 + 1 * (0 : Nat) = 0; rw [e0] <;> omega
    | ⟨1, _⟩ => show win0_7.index t 1 * 512 + 1 * (l.val : Nat) = 512 * (t.val % 11) + l.val; rw [e1] <;> omega
  rw [hi]
  show V m c main_v6 (ix2 (0 : Fin 1) (colV (jOf t) l)) = _
  unfold V V0 hostOps0
  after_reads_at
  try rfl

theorem blk8 (c : Dev nD) (t : Fin cfg0.N) (l : Fin 512) :
    (iblk m c 8 t : Vec Ideal S1x512 .f32) (ix2 (0 : Fin 1) l) = m ((c : Thread nD τ).loc main_arg5) (ix2 (0 : Fin 1) (colG (jOf t) l)) := by
  obtain ⟨-, -, -, -, -, -, -, -, ⟨e0, e1⟩, -⟩ := idx_facts t
  unfold iblk
  rw [View.read_apply]
  have hi : ((cfg0.win 8).blk t).view.emb (ix2 (0 : Fin 1) l) = (ix2 (0 : Fin 1) (colG (jOf t) l)) := by
    funext a
    apply Fin.ext
    match a with
    | ⟨0, _⟩ => show win0_8.index t 0 * 1 + 1 * (0 : Nat) = 0; rw [e0] <;> omega
    | ⟨1, _⟩ => show win0_8.index t 1 * 512 + 1 * (l.val : Nat) = 5632 + (512 * (t.val % 11) + l.val); rw [e1] <;> omega
  rw [hi]
  show V m c main_v6 (ix2 (0 : Fin 1) (colG (jOf t) l)) = _
  unfold V V0 hostOps0
  after_reads_at
  try rfl

theorem blk9 (c : Dev nD) (t : Fin cfg0.N) (n : Fin 512) (l : Fin 2048) :
    (iblk m c 9 t : Vec Ideal S512x2048 .bf16) (ix2 n l) = m ((c : Thread nD τ).loc main_arg6) (ix3 (0 : Fin 1) (col (jOf t) n) l) := by
  obtain ⟨-, -, -, -, -, -, -, -, -, ⟨e0, e1⟩, -⟩ := idx_facts t
  unfold iblk
  rw [View.read_apply]
  have hi : ((cfg0.win 9).blk t).view.emb (ix2 n l) = (ix2 (col (jOf t) n) l) := by
    funext a
    apply Fin.ext
    match a with
    | ⟨0, _⟩ => show win0_9.index t 0 * 512 + 1 * (n.val : Nat) = 512 * (t.val % 11) + n.val; rw [e0] <;> omega
    | ⟨1, _⟩ => show win0_9.index t 1 * 2048 + 1 * (l.val : Nat) = l.val; rw [e1] <;> omega
  rw [hi]
  show V m c main_v5 (ix2 (col (jOf t) n) l) = _
  unfold V V0 hostOps0
  after_reads_at
  try rfl

theorem blk10 (c : Dev nD) (t : Fin cfg0.N) (l : Fin 2048) :
    (iblk m c 10 t : Vec Ideal S1x2048 .f32) (ix2 (0 : Fin 1) l) = m ((c : Thread nD τ).loc main_arg7) (ix1 l) := by
  obtain ⟨-, -, -, -, -, -, -, -, -, -, ⟨e0, e1⟩, -⟩ := idx_facts t
  unfold iblk
  rw [View.read_apply]
  have hi : ((cfg0.win 10).blk t).view.emb (ix2 (0 : Fin 1) l) = (ix2 (0 : Fin 1) l) := by
    funext a
    apply Fin.ext
    match a with
    | ⟨0, _⟩ => show win0_10.index t 0 * 1 + 1 * (0 : Nat) = 0; rw [e0] <;> omega
    | ⟨1, _⟩ => show win0_10.index t 1 * 2048 + 1 * (l.val : Nat) = l.val; rw [e1] <;> omega
  rw [hi]
  show V m c main_v7 (ix2 (0 : Fin 1) l) = _
  unfold V V0 hostOps0
  after_reads_at
  try rfl

theorem fits (c : Dev nD) (t : Fin cfg0.N) : Fits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (insAt m c t) (iOf t) (jOf t) where
  h q k := blk0 m c t q k
  x1 q k := blk1 m c t q k
  gt k := blk2 m c t k
  wv k l := blk3 m c t k l
  wg k l := blk4 m c t k l
  cwv k l := blk5 m c t k l
  cwg k l := blk6 m c t k l
  cbv l := blk7 m c t l
  cbg l := blk8 m c t l
  wd n l := blk9 m c t n l
  gf l := blk10 m c t l

/-- The product buffers of every point are the reference's extended products. -/
theorem full_at (c : Dev nD) (n : ℕ) : ∀ t : Fin cfg0.N, t.val = n →
    Full (m ((c : Thread nD τ).loc main_arg0)) (m ((c : Thread nD τ).loc main_arg3)) (iOf t) (colV (jOf t)) (fullV m c t.val) ∧ Full (m ((c : Thread nD τ).loc main_arg0)) (m ((c : Thread nD τ).loc main_arg3)) (iOf t) (colG (jOf t)) (fullG m c t.val) := by
  induction n using Nat.strong_induction_on with
  | _ n ih =>
    intro t ht
    have h176 := t_lt t
    unfold fullV fullG
    rw [pt_val]
    by_cases h : t.val / 11 % 4 = 0
    · rw [carryV, carryG, if_pos h, if_pos h]
      exact ⟨fullV_of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (fits m c t) _ (carries_zero (m ((c : Thread nD τ).loc main_arg0)) (m ((c : Thread nD τ).loc main_arg3)) _ h _ pay4_at), fullG_of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (fits m c t) _ (carries_zero (m ((c : Thread nD τ).loc main_arg0)) (m ((c : Thread nD τ).loc main_arg3)) _ h _ pay5_at)⟩
    · rw [carryV, carryG, if_neg h, if_neg h]
      have h11 : 11 ≤ t.val := by
        by_contra hlt
        exact h (by rw [Nat.div_eq_of_lt (by omega)])
      have e : (pt (t.val - 11)).val = t.val - 11 := Nat.mod_eq_of_lt (by omega)
      obtain ⟨fv, fg⟩ := ih (t.val - 11) (by omega) (pt (t.val - 11)) e
      have ei : (iOf t).val = (iOf (pt (t.val - 11))).val + 1 := by
        show t.val / 11 = (pt (t.val - 11)).val / 11 + 1
        omega
      have ej : jOf (pt (t.val - 11)) = jOf t := Fin.ext (by show (pt (t.val - 11)).val % 11 = t.val % 11; omega)
      rw [ej] at fv fg
      have hv : last8 (bufV (insAt m c (pt (t.val - 11))) (k0_pay4 (F := Ideal))) = last8 (fullV m c (pt (t.val - 11)).val) := by
        unfold fullV
        rw [pt_val]
        exact last8_buf _ _ _
      have hg : last8 (bufG (insAt m c (pt (t.val - 11))) (k0_pay5 (F := Ideal))) = last8 (fullG m c (pt (t.val - 11)).val) := by
        unfold fullG
        rw [pt_val]
        exact last8_buf _ _ _
      exact ⟨fullV_of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (fits m c t) _ (carries_next (m ((c : Thread nD τ).loc main_arg0)) (m ((c : Thread nD τ).loc main_arg3)) _ (iOf t) ei h _ fv _ fun q l => (pay32_at _ q l).trans (congrFun hv _)),
        fullG_of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (fits m c t) _ (carries_next (m ((c : Thread nD τ).loc main_arg0)) (m ((c : Thread nD τ).loc main_arg3)) _ (iOf t) ei h _ fg _ fun q l => (pay1_at _ q l).trans (congrFun hg _))⟩

/-- The output block after a point's addition: the sum over the columns so far. -/
theorem acc_at (c : Dev nD) (n : ℕ) : ∀ t : Fin cfg0.N, t.val = n → ∀ (q : Fin 1024) (l : Fin 2048),
    acc m c t.val (ix2 q l) = ∑ x ∈ Finset.range (512 * (t.val % 11 + 1)), term (m ((c : Thread nD τ).loc main_arg0)) (m ((c : Thread nD τ).loc main_arg3)) (m ((c : Thread nD τ).loc main_arg4)) (m ((c : Thread nD τ).loc main_arg5)) (m ((c : Thread nD τ).loc main_arg6)) (iOf t) q l x := by
  induction n with
  | zero =>
    intro t ht q l
    obtain ⟨fv, fg⟩ := full_at m c _ t rfl
    rw [acc_eq, pt_val, if_pos (by omega), newY_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (fits m c t) _ _ fv fg, pay6_at, ← sum_step (m ((c : Thread nD τ).loc main_arg0)) (m ((c : Thread nD τ).loc main_arg3)) (m ((c : Thread nD τ).loc main_arg4)) (m ((c : Thread nD τ).loc main_arg5)) (m ((c : Thread nD τ).loc main_arg6)) q l (t.val % 11) (j := jOf t) rfl, ht]
    rw [Nat.zero_mod, Nat.mul_zero, Finset.sum_range_zero]
  | succ n ih =>
    intro t ht q l
    have h176 := t_lt t
    obtain ⟨fv, fg⟩ := full_at m c _ t rfl
    rw [acc_eq, pt_val, newY_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (fits m c t) _ _ fv fg, ← sum_step (m ((c : Thread nD τ).loc main_arg0)) (m ((c : Thread nD τ).loc main_arg3)) (m ((c : Thread nD τ).loc main_arg4)) (m ((c : Thread nD τ).loc main_arg5)) (m ((c : Thread nD τ).loc main_arg6)) q l (t.val % 11) (j := jOf t) rfl]
    refine congrArg (· + _) ?_
    by_cases h : t.val % 11 = 0
    · rw [if_pos h, pay6_at, h, Nat.mul_zero, Finset.sum_range_zero]
    · rw [if_neg h]
      have e : (pt (t.val - 1)).val = t.val - 1 := Nat.mod_eq_of_lt (by omega)
      have hi := ih (pt (t.val - 1)) (by omega) q l
      have ei : iOf (pt (t.val - 1)) = iOf t := Fin.ext (by show (pt (t.val - 1)).val / 11 = t.val / 11; omega)
      rw [e, ei] at hi
      rw [hi, show (t.val - 1) % 11 + 1 = t.val % 11 by omega]

/-! ## The result arrays -/

/-- The first result, as a function of the arguments. -/
abbrev GY (c : Dev nD) : S16384x2048.Idx → EReal := val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
/-- The last two rows of every block's extended products, of the two halves. -/
def GV (c : Dev nD) : S16x2x5632.Idx → EReal := fun x =>
  val_main_v8 (F := Ideal) (m ((c : Thread nD τ).loc main_arg0)) (m ((c : Thread nD τ).loc main_arg3)) (ix3 (seqOf (x 0)) (extPos (x 0) (⟨1030 + (x 1).val, lt_last2 (x 1)⟩ : Fin 1032)) (⟨(x 2).val, lt_colV (x 2)⟩ : Fin 11264))
def GG (c : Dev nD) : S16x2x5632.Idx → EReal := fun x =>
  val_main_v8 (F := Ideal) (m ((c : Thread nD τ).loc main_arg0)) (m ((c : Thread nD τ).loc main_arg3)) (ix3 (seqOf (x 0)) (extPos (x 0) (⟨1030 + (x 1).val, lt_last2 (x 1)⟩ : Fin 1032)) (⟨5632 + (x 2).val, lt_colG (x 2)⟩ : Fin 11264))
/-- The second result. -/
abbrev GT (c : Dev nD) : S4x2x11264.Idx → EReal := val_main_v43 (F := Ideal) (m ((c : Thread nD τ).loc main_arg0)) (m ((c : Thread nD τ).loc main_arg3))

theorem flushed11 (c : Dev nD) (t : Fin cfg0.N) (hf : (cfg0.win 11).flush t = true) :
    (dats m 0 c).flushed 11 t = ((cfg0.win 11).blk t).view.read (Elt Ideal) (GY m c) := by
  have h10 : t.val % 11 = 10 := (flush0_11 t).mp hf
  show (cfg0.win 11).cut (grid0.coords t) ((dats m 0 c).after 11 t) = _
  rw [after11]
  obtain ⟨-, -, -, -, -, -, -, -, -, -, -, ⟨e0, e1⟩, -⟩ := idx_facts t
  funext j
  obtain ⟨q, l, rfl⟩ := (ix_exhaust2 j : ∃ (q : Fin 1024) (l : Fin 2048), j = ix2 q l)
  rw [View.read_apply]
  have hi : ((cfg0.win 11).blk t).view.emb (ix2 q l) = ix2 (rowOf (iOf t) q) l := by
    funext a
    apply Fin.ext
    match a with
    | ⟨0, _⟩ => show win0_11.index t 0 * 1024 + 1 * (q.val : Nat) = 1024 * (t.val / 11) + q.val; rw [e0] <;> omega
    | ⟨1, _⟩ => show win0_11.index t 1 * 2048 + 1 * (l.val : Nat) = l.val; rw [e1] <;> omega
  rw [hi]
  show outAt m c t (ix2 q l) = GY m c (ix2 (rowOf (iOf t) q) l)
  unfold outAt endY
  rw [if_pos ((lastCol_iff t).mpr h10)]
  refine end_row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ _ _ _ q (rowOf (iOf t) q) (seqOf (iOf t)) ?_ (blk1 m c t q) (blk2 m c t) (fun l => ?_) (blk10 m c t) l
  · show t.val / 11 / 4 = (1024 * (t.val / 11) + q.val) / 4096
    omega
  · rw [acc_at m c _ t rfl, h10, show 512 * (10 + 1) = 5632 from rfl, sum_all]
    refine congrArg (fun s : Fin 4096 => val_main_v42 (m ((c : Thread nD τ).loc main_arg0)) (m ((c : Thread nD τ).loc main_arg3)) (m ((c : Thread nD τ).loc main_arg4)) (m ((c : Thread nD τ).loc main_arg5)) (m ((c : Thread nD τ).loc main_arg6)) (ix3 (seqOf (iOf t)) s l)) (Fin.ext ?_)
    show 1024 * (t.val / 11 % 4) + q.val = (1024 * (t.val / 11) + q.val) % 4096
    omega

theorem flushed12 (c : Dev nD) (t : Fin cfg0.N) :
    (dats m 0 c).flushed 12 t = ((cfg0.win 12).blk t).view.read (Elt Ideal) (GV m c) := by
  show (cfg0.win 12).cut (grid0.coords t) ((dats m 0 c).after 12 t) = _
  rw [after12]
  obtain ⟨-, -, -, -, -, -, -, -, -, -, -, -, ⟨e0, e1, e2⟩, -⟩ := idx_facts t
  funext j
  obtain ⟨z, r, l, rfl⟩ := (ix_exhaust3 j : ∃ (z : Fin 1) (r : Fin 2) (l : Fin 512), j = ix3 z r l)
  obtain rfl : z = 0 := Subsingleton.elim _ _
  rw [View.read_apply]
  have hi : ((cfg0.win 12).blk t).view.emb (ix3 (0 : Fin 1) r l) = ix3 (iOf t) r (col (jOf t) l) := by
    funext a
    apply Fin.ext
    match a with
    | ⟨0, _⟩ => show win0_12.index t 0 * 1 + 1 * 0 = t.val / 11; rw [e0] <;> omega
    | ⟨1, _⟩ => show win0_12.index t 1 * 2 + 1 * (r.val : Nat) = r.val; rw [e1] <;> omega
    | ⟨2, _⟩ => show win0_12.index t 2 * 512 + 1 * (l.val : Nat) = 512 * (t.val % 11) + l.val; rw [e2] <;> omega
  rw [hi]
  exact pay33_at (m ((c : Thread nD τ).loc main_arg0)) (m ((c : Thread nD τ).loc main_arg3)) (i := iOf t) _ (colV (jOf t)) (full_at m c _ t rfl).1 r l

theorem cover12 (x : S16x2x5632.Idx) : ∃ t : Fin cfg0.N, (cfg0.win 12).flush t = true ∧ x ∈ ((cfg0.win 12).blk t).view.set := by
  have h0 : (x 0 : Nat) < 16 := (x 0).isLt
  have h1 : (x 1 : Nat) < 2 := (x 1).isLt
  have h2 : (x 2 : Nat) < 5632 := (x 2).isLt
  obtain ⟨t, ht⟩ : ∃ t : Fin cfg0.N, t.val = 11 * (x 0 : Nat) + (x 2 : Nat) / 512 := ⟨(⟨11 * (x 0 : Nat) + (x 2 : Nat) / 512, by omega⟩ : Fin 176), rfl⟩
  refine ⟨t, flush0_12 t, ?_⟩
  obtain ⟨-, -, -, -, -, -, -, -, -, -, -, -, ⟨e0, e1, e2⟩, -⟩ := idx_facts t
  show x ∈ ((View.whole main_v8_1).slice (win0_12.rect t)).set
  rw [View.set_slice_whole, Rect.mem_set_unit]
  intro a
  match a with
  | ⟨0, _⟩ =>
    show win0_12.index t 0 * 1 ≤ (x 0 : Nat) ∧ (x 0 : Nat) < win0_12.index t 0 * 1 + 1
    rw [e0, ht]
    omega
  | ⟨1, _⟩ =>
    show win0_12.index t 1 * 2 ≤ (x 1 : Nat) ∧ (x 1 : Nat) < win0_12.index t 1 * 2 + 2
    rw [e1]
    omega
  | ⟨2, _⟩ =>
    show win0_12.index t 2 * 512 ≤ (x 2 : Nat) ∧ (x 2 : Nat) < win0_12.index t 2 * 512 + 512
    rw [e2, ht]
    omega

theorem final12 (c : Dev nD) : (dats m 0 c).arrAt 12 cfg0.N = GV m c :=
  (dats m 0 c).arrAt_eq_of_cover 12 (GV m c) (fun t _ => flushed12 m c t) fun i => cover12 i

theorem flushed13 (c : Dev nD) (t : Fin cfg0.N) :
    (dats m 0 c).flushed 13 t = ((cfg0.win 13).blk t).view.read (Elt Ideal) (GG m c) := by
  show (cfg0.win 13).cut (grid0.coords t) ((dats m 0 c).after 13 t) = _
  rw [after13]
  obtain ⟨-, -, -, -, -, -, -, -, -, -, -, -, -, ⟨e0, e1, e2⟩⟩ := idx_facts t
  funext j
  obtain ⟨z, r, l, rfl⟩ := (ix_exhaust3 j : ∃ (z : Fin 1) (r : Fin 2) (l : Fin 512), j = ix3 z r l)
  obtain rfl : z = 0 := Subsingleton.elim _ _
  rw [View.read_apply]
  have hi : ((cfg0.win 13).blk t).view.emb (ix3 (0 : Fin 1) r l) = ix3 (iOf t) r (col (jOf t) l) := by
    funext a
    apply Fin.ext
    match a with
    | ⟨0, _⟩ => show win0_13.index t 0 * 1 + 1 * 0 = t.val / 11; rw [e0] <;> omega
    | ⟨1, _⟩ => show win0_13.index t 1 * 2 + 1 * (r.val : Nat) = r.val; rw [e1] <;> omega
    | ⟨2, _⟩ => show win0_13.index t 2 * 512 + 1 * (l.val : Nat) = 512 * (t.val % 11) + l.val; rw [e2] <;> omega
  rw [hi]
  exact pay2_at (m ((c : Thread nD τ).loc main_arg0)) (m ((c : Thread nD τ).loc main_arg3)) (i := iOf t) _ (colG (jOf t)) (full_at m c _ t rfl).2 r l

theorem cover13 (x : S16x2x5632.Idx) : ∃ t : Fin cfg0.N, (cfg0.win 13).flush t = true ∧ x ∈ ((cfg0.win 13).blk t).view.set := by
  have h0 : (x 0 : Nat) < 16 := (x 0).isLt
  have h1 : (x 1 : Nat) < 2 := (x 1).isLt
  have h2 : (x 2 : Nat) < 5632 := (x 2).isLt
  obtain ⟨t, ht⟩ : ∃ t : Fin cfg0.N, t.val = 11 * (x 0 : Nat) + (x 2 : Nat) / 512 := ⟨(⟨11 * (x 0 : Nat) + (x 2 : Nat) / 512, by omega⟩ : Fin 176), rfl⟩
  refine ⟨t, flush0_13 t, ?_⟩
  obtain ⟨-, -, -, -, -, -, -, -, -, -, -, -, -, ⟨e0, e1, e2⟩⟩ := idx_facts t
  show x ∈ ((View.whole main_v8_2).slice (win0_13.rect t)).set
  rw [View.set_slice_whole, Rect.mem_set_unit]
  intro a
  match a with
  | ⟨0, _⟩ =>
    show win0_13.index t 0 * 1 ≤ (x 0 : Nat) ∧ (x 0 : Nat) < win0_13.index t 0 * 1 + 1
    rw [e0, ht]
    omega
  | ⟨1, _⟩ =>
    show win0_13.index t 1 * 2 ≤ (x 1 : Nat) ∧ (x 1 : Nat) < win0_13.index t 1 * 2 + 2
    rw [e1]
    omega
  | ⟨2, _⟩ =>
    show win0_13.index t 2 * 512 ≤ (x 2 : Nat) ∧ (x 2 : Nat) < win0_13.index t 2 * 512 + 512
    rw [e2, ht]
    omega

theorem final13 (c : Dev nD) : (dats m 0 c).arrAt 13 cfg0.N = GG m c :=
  (dats m 0 c).arrAt_eq_of_cover 13 (GG m c) (fun t _ => flushed13 m c t) fun i => cover13 i

theorem cover11 (x : S16384x2048.Idx) : ∃ t : Fin cfg0.N, (cfg0.win 11).flush t = true ∧ x ∈ ((cfg0.win 11).blk t).view.set := by
  have h0 : (x 0 : Nat) < 16384 := (x 0).isLt
  have h1 : (x 1 : Nat) < 2048 := (x 1).isLt
  obtain ⟨t, ht⟩ : ∃ t : Fin cfg0.N, t.val = 11 * ((x 0 : Nat) / 1024) + 10 := ⟨(⟨11 * ((x 0 : Nat) / 1024) + 10, by omega⟩ : Fin 176), rfl⟩
  refine ⟨t, (flush0_11 t).mpr (by omega), ?_⟩
  obtain ⟨-, -, -, -, -, -, -, -, -, -, -, ⟨e0, e1⟩, -⟩ := idx_facts t
  show x ∈ ((View.whole main_v8_0).slice (win0_11.rect t)).set
  rw [View.set_slice_whole, Rect.mem_set_unit]
  intro a
  match a with
  | ⟨0, _⟩ =>
    show win0_11.index t 0 * 1024 ≤ (x 0 : Nat) ∧ (x 0 : Nat) < win0_11.index t 0 * 1024 + 1024
    rw [e0, ht]
    omega
  | ⟨1, _⟩ =>
    show win0_11.index t 1 * 2048 ≤ (x 1 : Nat) ∧ (x 1 : Nat) < win0_11.index t 1 * 2048 + 2048
    rw [e1]
    omega

theorem final11 (c : Dev nD) : (dats m 0 c).arrAt 11 cfg0.N = GY m c :=
  (dats m 0 c).arrAt_eq_of_cover 11 (GY m c) (fun t hf => flushed11 m c t hf) fun i => cover11 i

/-! ## The host operations after the region -/

theorem lt_last (b : Fin 4) : 3 + 4 * b.val < 16 := by omega

theorem tail_at (W : Valuation τ sig (Elt Ideal)) (b : Fin 4) (r : Fin 2) (C : Fin 11264) :
    (StableHlo.after (List.flatten [hostOps1]) W (Proc.devRef .tc main_v10) : S4x2x11264.Idx → EReal) (ix3 b r C)
      = if h : C.val < 5632 then (W (Proc.devRef .tc main_v8_1) : S16x2x5632.Idx → EReal) (ix3 (⟨3 + 4 * b.val, lt_last b⟩ : Fin 16) r (⟨C.val, h⟩ : Fin 5632))
        else (W (Proc.devRef .tc main_v8_2) : S16x2x5632.Idx → EReal) (ix3 (⟨3 + 4 * b.val, lt_last b⟩ : Fin 16) r (⟨C.val - 5632, by omega⟩ : Fin 5632)) := by
  unfold hostOps1
  after_reads_at
  rfl

/-- The arrays of the region's exit. -/
abbrev WX (c : Dev nD) : Valuation τ sig (Elt Ideal) :=
  Pipeline.withArrays spec0 c (V0 m c) fun w => (dats m 0 c).arrAt w cfg0.N

theorem WX_arr (c : Dev nD) (w : Fin cfg0.W) : WX m c (Proc.devRef .tc (Pipeline.arrRef spec0 w)) = (dats m 0 c).arrAt w cfg0.N :=
  Pipeline.withArrays_arr_shared spec0 c (V0 m c) _ ((dats m 0 c).arrAt_sharedIn sharedIn0 (V0 m c) (A_eq m c) cfg0.N) w

theorem result_tail (c : Dev nD) : Pipeline.afterTail₀ cfgs (dats m) 0 (V0 m) [hostOps1] c main_v10 = GT m c := by
  show (StableHlo.after (List.flatten [hostOps1]) (WX m c) (Proc.devRef .tc main_v10) : S4x2x11264.Idx → EReal) = _
  have h1 : (WX m c (Proc.devRef .tc main_v8_1) : S16x2x5632.Idx → EReal) = GV m c := (WX_arr m c 12).trans (final12 m c)
  have h2 : (WX m c (Proc.devRef .tc main_v8_2) : S16x2x5632.Idx → EReal) = GG m c := (WX_arr m c 13).trans (final13 m c)
  funext j
  obtain ⟨b, r, C, rfl⟩ := (ix_exhaust3 j : ∃ (b : Fin 4) (r : Fin 2) (C : Fin 11264), j = ix3 b r C)
  rw [tail_at, h1, h2]
  refine Eq.trans ?_ (tail_row (m ((c : Thread nD τ).loc main_arg0)) (m ((c : Thread nD τ).loc main_arg3)) b r C).symm
  have es : seqOf (⟨3 + 4 * b.val, lt_last b⟩ : Fin 16) = b := Fin.ext (by show (3 + 4 * b.val) / 4 = b.val; omega)
  have ep : extPos (⟨3 + 4 * b.val, lt_last b⟩ : Fin 16) (⟨1030 + r.val, lt_last2 r⟩ : Fin 1032) = (⟨4096 + r.val, lt_tail r⟩ : Fin 4098) :=
    Fin.ext (by show 1024 * ((3 + 4 * b.val) % 4) + ((1030 + r.val) - 6) = 4096 + r.val; omega)
  split_ifs with h
  · show val_main_v8 (F := Ideal) (m ((c : Thread nD τ).loc main_arg0)) (m ((c : Thread nD τ).loc main_arg3)) (ix3 (seqOf (⟨3 + 4 * b.val, lt_last b⟩ : Fin 16)) (extPos (⟨3 + 4 * b.val, lt_last b⟩ : Fin 16) (⟨1030 + r.val, lt_last2 r⟩ : Fin 1032)) _) = _
    rw [es, ep]
    rfl
  · show val_main_v8 (F := Ideal) (m ((c : Thread nD τ).loc main_arg0)) (m ((c : Thread nD τ).loc main_arg3)) (ix3 (seqOf (⟨3 + 4 * b.val, lt_last b⟩ : Fin 16)) (extPos (⟨3 + 4 * b.val, lt_last b⟩ : Fin 16) (⟨1030 + r.val, lt_last2 r⟩ : Fin 1032)) (⟨5632 + (C.val - 5632), _⟩ : Fin 11264)) = _
    rw [es, ep]
    refine congrArg (fun x : Fin 11264 => val_main_v8 (F := Ideal) (m ((c : Thread nD τ).loc main_arg0)) (m ((c : Thread nD τ).loc main_arg3)) (ix3 b (⟨4096 + r.val, lt_tail r⟩ : Fin 4098) x)) (Fin.ext ?_)
    show 5632 + (C.val - 5632) = C.val
    omega

/-- Both results of the run, with every argument kept. -/
theorem run_value (ρ : Dev nD → PrngReg) : θ_run (defs (F := Ideal)) (onTc (τ := τ) (main (F := Ideal))) ⟨m, fun _ => 0, ρ⟩ (fun r => ∀ c : Dev nD,
    r.2.mem ((c.tc : Thread nD τ).loc main_v8_0) = GY m c
      ∧ r.2.mem ((c.tc : Thread nD τ).loc main_v10) = GT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨((h.2 c).1 11).trans (final11 m c),
      ((h.2 c).2 main_v10 (Pipeline.mem_restRefs_of main_v10 (by decide) (by decide))).trans (result_tail m c), h.1.1 c⟩)
    (θ_run_and (ffn_frame m ρ) (run_main m ρ))

end Cert.Proof.Ffn

end
-- ==== Proof.FfnClaims.lean ====
/-
  The claims about the feed-forward block: its frames, and that it agrees with its reference.
-/
module

public import proofs.«01_k».proof.Defs
public import proofs.«01_k».proof.Proof.FfnValue
public import proofs.«01_k».proof.Proof.Gen.Kernel2.Frame
public import Idealize.ShloMosaic.Lib.Quiescent

@[expose] public section

set_option maxRecDepth 16384

noncomputable section

namespace Cert.Proof

open Idealize.ShloMosaic Idealize.ShloMosaic.TcCoe Idealize.SL.Sem

theorem frame_ki2 : Cert.quiescent_Kernel2Ideal (hKernel2Ideal := Cert.Kernel2Ideal.Gen.facts) := fun m ρ _ => Ffn.ffn_frame (F := Ideal) m ρ

/-! The kernel as written and the kernel in exact arithmetic are one text; the equalities below say so of each part. -/

namespace FfnText

attribute [local instance] Cert.Kernel2.Gen.facts Cert.Kernel2Ideal.Gen.facts

set_option maxHeartbeats 8000000 in
theorem bodies_eq : Cert.Kernel2.defs₀ (F := Bits) = Cert.Kernel2Ideal.defs₀ (F := Bits) := by
  unfold Cert.Kernel2.defs₀ Cert.Kernel2Ideal.defs₀
  refine congrArg (Defs.onTc (nD := Cert.Kernel2.nD) (τ := Cert.Kernel2.τ) (sig := Cert.Kernel2.sig) (Val := Elt Bits) (Λ := Cert.Kernel2.Λ₀)) ?_
  funext x y
  match x, y with
  | 0, (t, s) => rfl

theorem defs_eq : Cert.Kernel2.defs (F := Bits) = Cert.Kernel2Ideal.defs (F := Bits) :=
  congrArg (Pipeline.defs (Cert.Kernel2.pcfgs (F := Bits))) bodies_eq

set_option maxHeartbeats 4000000 in
theorem main_eq : Cert.Kernel2.main (F := Bits) = Cert.Kernel2Ideal.main (F := Bits) := rfl

end FfnText

theorem frame_k2 : Cert.quiescent_Kernel2 (hKernel2 := Cert.Kernel2.Gen.facts) := fun m ρ _ => by
  have h := Ffn.ffn_frame (F := Bits) m ρ
  rw [← FfnText.defs_eq, ← FfnText.main_eq] at h
  exact h

theorem frame_ri2 : Cert.quiescent_Reference2Ideal (hReference2Ideal := Cert.Reference2Ideal.Gen.facts) := fun m g _ =>
  (θ_run (Cert.Reference2Ideal.defs (F := Ideal)) _ _).mono (fun r h => ⟨fun c => (h c).2.2, sem_eq_zero_of_no_sems (by decide) r.2⟩) (Cert.Reference2Ideal.Value.run (F := Ideal) m g)

/-- From equal arguments the kernel's result arrays and the reference's are equal. -/
theorem algebraic2 : Cert.algebraic_Kernel2Ideal_Reference2Ideal (hKernel2Ideal := Cert.Kernel2Ideal.Gen.facts) (hReference2Ideal := Cert.Reference2Ideal.Gen.facts) := by
  intro m g m' g' _ hargs
  refine ⟨fun c => Ffn.GY m c, fun c => Ffn.GT m c, Ffn.run_value m g, ?_⟩
  refine (θ_run (Cert.Reference2Ideal.defs (F := Ideal)) _ _).mono (fun r h c => ?_) (Cert.Reference2Ideal.Value.run (F := Ideal) m' g')
  obtain ⟨p0, p1, hk⟩ := h c
  obtain ⟨h0, h1, h2, h3, h4, h5, h6, h7⟩ := hargs c
  refine ⟨p0.trans ?_, p1.trans ?_, hk⟩
  · refine (Cert.Reference2Ideal.Read.val_main_v61_eq ..).trans ?_
    rw [h0, h1, h2, h3, h4, h5, h6, h7]
  · refine (Cert.Reference2Ideal.Read.val_main_v43_eq ..).trans ?_
    rw [h0, h3]

end Cert.Proof

end
-- ==== Proof.Outproj.lean ====
/-
  The value of the output projection (`Kernel4Ideal`) in exact arithmetic: every row of both result arrays is the reference's row.
-/
module

public import proofs.«01_k».proof.Proof.Gen.Kernel4Ideal.Value
public import proofs.«01_k».proof.Proof.Gen.Reference4Ideal.Read
public import Idealize.ShloMosaic.Lib.Pointwise
public import Idealize.ShloMosaic.Lib.StableHlo.ReadAt

@[expose] public section

set_option maxRecDepth 16384

noncomputable section

namespace Cert.Proof.Outproj

open Idealize.ShloMosaic Idealize.ShloMosaic.TcCoe Idealize.SL.Sem
open Cert.Kernel4Ideal Cert.Kernel4Ideal.Gen
open Cert.Reference4Ideal.Read
open Idealize.ShloMosaic.Pipeline (Dat)

/-! ## One row of a block -/

section Row

variable (X0 : (⟨S16384x2048, .f32⟩ : BufTy).Contents (Elt Ideal)) (X1 X2 : (⟨S16384x1024, .bf16⟩ : BufTy).Contents (Elt Ideal))
  (X3 : (⟨⟨3, ![1, 2048, 2048]⟩, .f32⟩ : BufTy).Contents (Elt Ideal)) (X4 X5 X6 : (⟨⟨3, ![4, 1, 2048]⟩, .f32⟩ : BufTy).Contents (Elt Ideal))
  (X7 : (⟨⟨2, ![1, 2048]⟩, .f32⟩ : BufTy).Contents (Elt Ideal))
  (x0 : Vec Ideal S512x2048 .f32) (x1 x2 : Vec Ideal S512x1024 .bf16) (x3 : Vec Ideal S2048x2048 .bf16)
  (x4 x5 x6 : Vec Ideal S1x1x2048 .f32) (x7 : Vec Ideal S1x2048 .f32)
  (r : Fin 512) (R : Fin 16384) (b : Fin 4)

/-- The first result at row `r` of a block whose rows are the arrays' rows from `R - r` on: the reference's row `R`. -/
theorem x1_row (hb : b.val = R.val / 4096) (h0 : ∀ l : Fin 2048, x0 (ix2 r l) = X0 (ix2 R l)) (h1 : ∀ l : Fin 1024, x1 (ix2 r l) = X1 (ix2 R l))
    (h2 : ∀ l : Fin 1024, x2 (ix2 r l) = X2 (ix2 R l)) (h3 : ∀ k l : Fin 2048, x3 (ix2 k l) = X3 (ix3 (0 : Fin 1) k l))
    (h4 : ∀ l : Fin 2048, x4 (ix3 (0 : Fin 1) (0 : Fin 1) l) = X4 (ix3 b (0 : Fin 1) l)) (l : Fin 2048) :
    k0_pay2 x1 x2 x0 x4 x3 (ix2 r l) = val_main_v29 X0 X1 X2 X3 X4 (ix2 R l) := by
  obtain ⟨b, hb4⟩ := b
  obtain rfl : b = R.val / 4096 := hb
  unfold val_main_v29 val_main_v8 val_main_v3 val_main_v7 val_main_v6 val_main_v5 val_main_v4 val_main_v2 val_main_v1 val_main_v0
  unfold_payloads
  pointwise
  simp only [h0, h1, h2, h3, h4]

/-- The second result at that row. -/
theorem h2_row (hb : b.val = R.val / 4096) (h0 : ∀ l : Fin 2048, x0 (ix2 r l) = X0 (ix2 R l)) (h1 : ∀ l : Fin 1024, x1 (ix2 r l) = X1 (ix2 R l))
    (h2 : ∀ l : Fin 1024, x2 (ix2 r l) = X2 (ix2 R l)) (h3 : ∀ k l : Fin 2048, x3 (ix2 k l) = X3 (ix3 (0 : Fin 1) k l))
    (h4 : ∀ l : Fin 2048, x4 (ix3 (0 : Fin 1) (0 : Fin 1) l) = X4 (ix3 b (0 : Fin 1) l))
    (h5 : ∀ l : Fin 2048, x5 (ix3 (0 : Fin 1) (0 : Fin 1) l) = X5 (ix3 b (0 : Fin 1) l))
    (h6 : ∀ l : Fin 2048, x6 (ix3 (0 : Fin 1) (0 : Fin 1) l) = X6 (ix3 b (0 : Fin 1) l))
    (h7 : ∀ l : Fin 2048, x7 (ix2 (0 : Fin 1) l) = X7 (ix2 (0 : Fin 1) l)) (l : Fin 2048) :
    k0_pay1 (k0_pay3 x1 x2 x0 x4 x3 x7 x5) x6 (ix2 r l) = val_main_v31 X0 X1 X2 X3 X4 X5 X6 X7 (ix2 R l) := by
  have hx : ∀ l : Fin 2048, k0_pay2 x1 x2 x0 x4 x3 (ix2 r l) = val_main_v29 X0 X1 X2 X3 X4 (ix2 R l) :=
    x1_row X0 X1 X2 X3 X4 x0 x1 x2 x3 x4 r R b hb h0 h1 h2 h3 h4
  have hv : ∀ l : Fin 2048, val_main_v8 X0 X1 X2 X3 X4 (ix3 (⟨R.val / 4096, by omega⟩ : Fin 4) (⟨R.val % 4096, by omega⟩ : Fin 4096) l)
      = val_main_v29 X0 X1 X2 X3 X4 (ix2 R l) := by
    intro l
    unfold val_main_v29
    pointwise
  obtain ⟨b, hb4⟩ := b
  obtain rfl : b = R.val / 4096 := hb
  unfold val_main_v31 val_main_v30 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_cst val_main_cst_0 val_main_cst_1 val_main_cst_2
  unfold k0_pay1 k0_pay3
  pointwise
  simp only [hx, hv, h5, h6, h7]

end Row

variable (m : (ℓ : Loc nD τ sig) → Buf (Elt Ideal) ℓ)

/-! ## The windows' blocks -/

/-- Where each window's block stands at each point: the row windows at the point's own block, the modulation windows at the
    row of the prompt that the block belongs to, the weights whole. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = t.val / 8 ∧ win0_4.index t 1 = 0 ∧ win0_4.index t 2 = 0)
    ∧ (win0_5.index t 0 = t.val / 8 ∧ win0_5.index t 1 = 0 ∧ win0_5.index t 2 = 0)
    ∧ (win0_6.index t 0 = t.val / 8 ∧ win0_6.index t 1 = 0 ∧ win0_6.index t 2 = 0)
    ∧ (win0_7.index t 0 = 0 ∧ win0_7.index t 1 = 0)
    ∧ (win0_8.index t 0 = t.val ∧ win0_8.index t 1 = 0) ∧ (win0_9.index t 0 = t.val ∧ win0_9.index t 1 = 0) :=
  (by decide +kernel : ∀ t : Fin grid0.N, _)

/-- The array row under row `r` of block `t`. -/
abbrev row (t : Fin cfg0.N) (r : Fin 512) : Fin 16384 := ⟨512 * t.val + r.val, by have h : t.val < 32 := t.isLt; omega⟩

/-- The prompt row that block `t` belongs to. -/
abbrev who (t : Fin cfg0.N) : Fin 4 := ⟨t.val / 8, by have h : t.val < 32 := t.isLt; omega⟩

theorem blk0 (c : Dev nD) (t : Fin cfg0.N) (r : Fin 512) (l : Fin 2048) :
    (iblk m c 0 t : Vec Ideal S512x2048 .f32) (ix2 r l) = m ((c : Thread nD τ).loc main_arg0) (ix2 (row t r) l) := by
  obtain ⟨⟨e0, e1⟩, -⟩ := idx_facts t
  unfold iblk
  rw [View.read_apply]
  have hi : ((cfg0.win 0).blk t).view.emb (ix2 r l) = (ix2 (row t r) l) := by
    funext a
    apply Fin.ext
    match a with
    | ⟨0, _⟩ => show win0_0.index t 0 * 512 + 1 * (r.val : Nat) = 512 * t.val + r.val; rw [e0] <;> omega
    | ⟨1, _⟩ => show win0_0.index t 1 * 2048 + 1 * (l.val : Nat) = l.val; rw [e1] <;> omega
  rw [hi]
  show V m c main_arg0 (ix2 (row t r) l) = _
  rw [V_main_arg0]

theorem blk1 (c : Dev nD) (t : Fin cfg0.N) (r : Fin 512) (l : Fin 1024) :
    (iblk m c 1 t : Vec Ideal S512x1024 .bf16) (ix2 r l) = m ((c : Thread nD τ).loc main_arg1) (ix2 (row t r) l) := by
  obtain ⟨-, ⟨e0, e1⟩, -⟩ := idx_facts t
  unfold iblk
  rw [View.read_apply]
  have hi : ((cfg0.win 1).blk t).view.emb (ix2 r l) = (ix2 (row t r) l) := by
    funext a
    apply Fin.ext
    match a with
    | ⟨0, _⟩ => show win0_1.index t 0 * 512 + 1 * (r.val : Nat) = 512 * t.val + r.val; rw [e0] <;> omega
    | ⟨1, _⟩ => show win0_1.index t 1 * 1024 + 1 * (l.val : Nat) = l.val; rw [e1] <;> omega
  rw [hi]
  show V m c main_arg1 (ix2 (row t r) l) = _
  rw [V_main_arg1]

theorem blk2 (c : Dev nD) (t : Fin cfg0.N) (r : Fin 512) (l : Fin 1024) :
    (iblk m c 2 t : Vec Ideal S512x1024 .bf16) (ix2 r l) = m ((c : Thread nD τ).loc main_arg2) (ix2 (row t r) l) := by
  obtain ⟨-, -, ⟨e0, e1⟩, -⟩ := idx_facts t
  unfold iblk
  rw [View.read_apply]
  have hi : ((cfg0.win 2).blk t).view.emb (ix2 r l) = (ix2 (row t r) l) := by
    funext a
    apply Fin.ext
    match a with
    | ⟨0, _⟩ => show win0_2.index t 0 * 512 + 1 * (r.val : Nat) = 512 * t.val + r.val; rw [e0] <;> omega
    | ⟨1, _⟩ => show win0_2.index t 1 * 1024 + 1 * (l.val : Nat) = l.val; rw [e1] <;> omega
  rw [hi]
  show V m c main_arg2 (ix2 (row t r) l) = _
  rw [V_main_arg2]

theorem blk3 (c : Dev nD) (t : Fin cfg0.N) (k : Fin 2048) (l : Fin 2048) :
    (iblk m c 3 t : Vec Ideal S2048x2048 .bf16) (ix2 k l) = m ((c : Thread nD τ).loc main_arg3) (ix3 (0 : Fin 1) k l) := by
  obtain ⟨-, -, -, ⟨e0, e1⟩, -⟩ := idx_facts t
  unfold iblk
  rw [View.read_apply]
  have hi : ((cfg0.win 3).blk t).view.emb (ix2 k l) = (ix2 k l) := by
    funext a
    apply Fin.ext
    match a with
    | ⟨0, _⟩ => show win0_3.index t 0 * 2048 + 1 * (k.val : Nat) = k.val; rw [e0] <;> omega
    | ⟨1, _⟩ => show win0_3.index t 1 * 2048 + 1 * (l.val : Nat) = l.val; rw [e1] <;> omega
  rw [hi]
  show V m c main_v1 (ix2 k l) = _
  unfold V hostOps0
  after_reads_at

theorem blk4 (c : Dev nD) (t : Fin cfg0.N) (l : Fin 2048) :
    (iblk m c 4 t : Vec Ideal S1x1x2048 .f32) (ix3 (0 : Fin 1) (0 : Fin 1) l) = m ((c : Thread nD τ).loc main_arg4) (ix3 (who t) (0 : Fin 1) l) := by
  obtain ⟨-, -, -, -, ⟨e0, e1, e2⟩, -⟩ := idx_facts t
  unfold iblk
  rw [View.read_apply]
  have hi : ((cfg0.win 4).blk t).view.emb (ix3 (0 : Fin 1) (0 : Fin 1) l) = (ix3 (who t) (0 : Fin 1) l) := by
    funext a
    apply Fin.ext
    match a with
    | ⟨0, _⟩ => show win0_4.index t 0 * 1 + 1 * (0 : Nat) = t.val / 8; rw [e0] <;> omega
    | ⟨1, _⟩ => show win0_4.index t 1 * 1 + 1 * (0 : Nat) = 0; rw [e1] <;> omega
    | ⟨2, _⟩ => show win0_4.index t 2 * 2048 + 1 * (l.val : Nat) = l.val; rw [e2] <;> omega
  rw [hi]
  show V m c main_arg4 (ix3 (who t) (0 : Fin 1) l) = _
  rw [V_main_arg4]

theorem blk5 (c : Dev nD) (t : Fin cfg0.N) (l : Fin 2048) :
    (iblk m c 5 t : Vec Ideal S1x1x2048 .f32) (ix3 (0 : Fin 1) (0 : Fin 1) l) = m ((c : Thread nD τ).loc main_arg5) (ix3 (who t) (0 : Fin 1) l) := by
  obtain ⟨-, -, -, -, -, ⟨e0, e1, e2⟩, -⟩ := idx_facts t
  unfold iblk
  rw [View.read_apply]
  have hi : ((cfg0.win 5).blk t).view.emb (ix3 (0 : Fin 1) (0 : Fin 1) l) = (ix3 (who t) (0 : Fin 1) l) := by
    funext a
    apply Fin.ext
    match a with
    | ⟨0, _⟩ => show win0_5.index t 0 * 1 + 1 * (0 : Nat) = t.val / 8; rw [e0] <;> omega
    | ⟨1, _⟩ => show win0_5.index t 1 * 1 + 1 * (0 : Nat) = 0; rw [e1] <;> omega
    | ⟨2, _⟩ => show win0_5.index t 2 * 2048 + 1 * (l.val : Nat) = l.val; rw [e2] <;> omega
  rw [hi]
  show V m c main_arg5 (ix3 (who t) (0 : Fin 1) l) = _
  rw [V_main_arg5]

theorem blk6 (c : Dev nD) (t : Fin cfg0.N) (l : Fin 2048) :
    (iblk m c 6 t : Vec Ideal S1x1x2048 .f32) (ix3 (0 : Fin 1) (0 : Fin 1) l) = m ((c : Thread nD τ).loc main_arg6) (ix3 (who t) (0 : Fin 1) l) := by
  obtain ⟨-, -, -, -, -, -, ⟨e0, e1, e2⟩, -⟩ := idx_facts t
  unfold iblk
  rw [View.read_apply]
  have hi : ((cfg0.win 6).blk t).view.emb (ix3 (0 : Fin 1) (0 : Fin 1) l) = (ix3 (who t) (0 : Fin 1) l) := by
    funext a
    apply Fin.ext
    match a with
    | ⟨0, _⟩ => show win0_6.index t 0 * 1 + 1 * (0 : Nat) = t.val / 8; rw [e0] <;> omega
    | ⟨1, _⟩ => show win0_6.index t 1 * 1 + 1 * (0 : Nat) = 0; rw [e1] <;> omega
    | ⟨2, _⟩ => show win0_6.index t 2 * 2048 + 1 * (l.val : Nat) = l.val; rw [e2] <;> omega
  rw [hi]
  show V m c main_arg6 (ix3 (who t) (0 : Fin 1) l) = _
  rw [V_main_arg6]

theorem blk7 (c : Dev nD) (t : Fin cfg0.N) (l : Fin 2048) :
    (iblk m c 7 t : Vec Ideal S1x2048 .f32) (ix2 (0 : Fin 1) l) = m ((c : Thread nD τ).loc main_arg7) (ix2 (0 : Fin 1) l) := by
  obtain ⟨-, -, -, -, -, -, -, ⟨e0, e1⟩, -⟩ := idx_facts t
  unfold iblk
  rw [View.read_apply]
  have hi : ((cfg0.win 7).blk t).view.emb (ix2 (0 : Fin 1) l) = (ix2 (0 : Fin 1) l) := by
    funext a
    apply Fin.ext
    match a with
    | ⟨0, _⟩ => show win0_7.index t 0 * 1 + 1 * (0 : Nat) = 0; rw [e0] <;> omega
    | ⟨1, _⟩ => show win0_7.index t 1 * 2048 + 1 * (l.val : Nat) = l.val; rw [e1] <;> omega
  rw [hi]
  show V m c main_v3 (ix2 (0 : Fin 1) l) = _
  unfold V hostOps0
  after_reads_at

/-! ## The result arrays -/

theorem flush_all8 : ∀ t : Fin cfg0.N, (cfg0.win 8).flush t = true := (by decide +kernel : ∀ t : Fin grid0.N, win0_8.flush t = true)
theorem flush_all9 : ∀ t : Fin cfg0.N, (cfg0.win 9).flush t = true := (by decide +kernel : ∀ t : Fin grid0.N, win0_9.flush t = true)

/-- The first result, as a function of the arguments. -/
abbrev G8 (c : Dev nD) : S16384x2048.Idx → EReal := val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The second result. -/
abbrev G9 (c : Dev nD) : S16384x2048.Idx → EReal := val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem z2 : (![0, 0] : Fin 2 → Nat) = fun _ => 0 := funext fun a => by fin_cases a <;> rfl
theorem z3 : (![0, 0, 0] : Fin 3 → Nat) = fun _ => 0 := funext fun a => by fin_cases a <;> rfl

theorem ix_exhaust {a b : Nat} (j : (⟨2, ![a, b]⟩ : Shape).Idx) : ∃ (r : Fin a) (l : Fin b), j = ix2 r l :=
  ⟨j 0, j 1, funext fun d => by fin_cases d <;> rfl⟩

theorem who_row (t : Fin cfg0.N) (r : Fin 512) : (who t).val = (row t r).val / 4096 := by
  show t.val / 8 = (512 * t.val + r.val) / 4096
  omega

theorem flushed8 (c : Dev nD) (t : Fin cfg0.N) :
    (dats m 0 c).flushed 8 t = ((cfg0.win 8).blk t).view.read (Elt Ideal) (G8 m c) := by
  rw [Cert.Kernel4Ideal.Value.flushed8]
  obtain ⟨-, -, -, -, -, -, -, -, ⟨e0, e1⟩, -⟩ := idx_facts t
  funext j
  obtain ⟨r, l, rfl⟩ := (ix_exhaust j : ∃ (r : Fin 512) (l : Fin 2048), j = ix2 r l)
  rw [View.read_apply]
  have hi : ((cfg0.win 8).blk t).view.emb (ix2 r l) = ix2 (row t r) l := by
    funext a
    apply Fin.ext
    match a with
    | ⟨0, _⟩ => show win0_8.index t 0 * 512 + 1 * (r.val : Nat) = 512 * t.val + r.val; rw [e0]; omega
    | ⟨1, _⟩ => show win0_8.index t 1 * 2048 + 1 * (l.val : Nat) = l.val; rw [e1]; omega
  rw [hi]
  show out0_8 (F := Ideal) _ _ _ _ _ _ _ _ (ix2 r l) = G8 m c (ix2 (row t r) l)
  unfold out0_8
  rw [View.canon_unit_zero z2]
  simp only [View.ld_unit_zero (S := S512x2048) z2, View.ld_unit_zero (S := S512x1024) z2, View.ld_unit_zero (S := S2048x2048) z2, View.ld_unit_zero (S := S1x1x2048) z3]
  exact x1_row _ _ _ _ _ _ _ _ _ _ r (row t r) (who t) (who_row t r) (blk0 m c t r) (blk1 m c t r) (blk2 m c t r) (blk3 m c t) (blk4 m c t) l

theorem flushed9 (c : Dev nD) (t : Fin cfg0.N) :
    (dats m 0 c).flushed 9 t = ((cfg0.win 9).blk t).view.read (Elt Ideal) (G9 m c) := by
  rw [Cert.Kernel4Ideal.Value.flushed9]
  obtain ⟨-, -, -, -, -, -, -, -, -, ⟨e0, e1⟩⟩ := idx_facts t
  funext j
  obtain ⟨r, l, rfl⟩ := (ix_exhaust j : ∃ (r : Fin 512) (l : Fin 2048), j = ix2 r l)
  rw [View.read_apply]
  have hi : ((cfg0.win 9).blk t).view.emb (ix2 r l) = ix2 (row t r) l := by
    funext a
    apply Fin.ext
    match a with
    | ⟨0, _⟩ => show win0_9.index t 0 * 512 + 1 * (r.val : Nat) = 512 * t.val + r.val; rw [e0]; omega
    | ⟨1, _⟩ => show win0_9.index t 1 * 2048 + 1 * (l.val : Nat) = l.val; rw [e1]; omega
  rw [hi]
  show out0_9 (F := Ideal) _ _ _ _ _ _ _ _ (ix2 r l) = G9 m c (ix2 (row t r) l)
  unfold out0_9
  rw [View.canon_unit_zero z2]
  simp only [View.ld_unit_zero (S := S512x2048) z2, View.ld_unit_zero (S := S512x1024) z2, View.ld_unit_zero (S := S2048x2048) z2, View.ld_unit_zero (S := S1x1x2048) z3, View.ld_unit_zero (S := S1x2048) z2]
  exact h2_row _ _ _ _ _ _ _ _ _ _ _ _ _ _ _ _ r (row t r) (who t) (who_row t r) (blk0 m c t r) (blk1 m c t r) (blk2 m c t r) (blk3 m c t) (blk4 m c t)
    (blk5 m c t) (blk6 m c t) (blk7 m c t) l

/-- Every index of the array lies in the block of the point its row belongs to. -/
theorem cover8 (i : S16384x2048.Idx) : ∃ t : Fin cfg0.N, (cfg0.win 8).flush t = true ∧ i ∈ ((cfg0.win 8).blk t).view.set := by
  have h0 : (i 0 : Nat) < 16384 := (i 0).isLt
  have h1 : (i 1 : Nat) < 2048 := (i 1).isLt
  obtain ⟨t, ht⟩ : ∃ t : Fin cfg0.N, t.val = (i 0 : Nat) / 512 := ⟨(⟨(i 0 : Nat) / 512, by omega⟩ : Fin 32), rfl⟩
  refine ⟨t, flush_all8 t, ?_⟩
  obtain ⟨-, -, -, -, -, -, -, -, ⟨e0, e1⟩, -⟩ := idx_facts t
  show i ∈ ((View.whole main_v4_0).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    rw [e0, ht]
    omega
  | ⟨1, _⟩ =>
    show win0_8.index t 1 * 2048 ≤ (i 1 : Nat) ∧ (i 1 : Nat) < win0_8.index t 1 * 2048 + 2048
    rw [e1]
    omega

/-- Every index of the array lies in the block of the point its row belongs to. -/
theorem cover9 (i : S16384x2048.Idx) : ∃ t : Fin cfg0.N, (cfg0.win 9).flush t = true ∧ i ∈ ((cfg0.win 9).blk t).view.set := by
  have h0 : (i 0 : Nat) < 16384 := (i 0).isLt
  have h1 : (i 1 : Nat) < 2048 := (i 1).isLt
  obtain ⟨t, ht⟩ : ∃ t : Fin cfg0.N, t.val = (i 0 : Nat) / 512 := ⟨(⟨(i 0 : Nat) / 512, by omega⟩ : Fin 32), rfl⟩
  refine ⟨t, flush_all9 t, ?_⟩
  obtain ⟨-, -, -, -, -, -, -, -, -, ⟨e0, e1⟩⟩ := idx_facts t
  show i ∈ ((View.whole main_v4_1).slice (win0_9.rect t)).set
  rw [View.set_slice_whole, Rect.mem_set_unit]
  intro a
  match a with
  | ⟨0, _⟩ =>
    show win0_9.index t 0 * 512 ≤ (i 0 : Nat) ∧ (i 0 : Nat) < win0_9.index t 0 * 512 + 512
    rw [e0, ht]
    omega
  | ⟨1, _⟩ =>
    show win0_9.index t 1 * 2048 ≤ (i 1 : Nat) ∧ (i 1 : Nat) < win0_9.index t 1 * 2048 + 2048
    rw [e1]
    omega

/-- The first result array after the run. -/
theorem final8 (c : Dev nD) : (dats m 0 c).arrAt 8 cfg0.N = G8 m c :=
  (dats m 0 c).arrAt_eq_of_cover 8 (G8 m c) (fun t _ => flushed8 m c t) fun i => cover8 i

/-- The second. -/
theorem final9 (c : Dev nD) : (dats m 0 c).arrAt 9 cfg0.N = G9 m c :=
  (dats m 0 c).arrAt_eq_of_cover 9 (G9 m c) (fun t _ => flushed9 m c t) fun i => cover9 i

end Cert.Proof.Outproj

end
-- ==== Proof.Inproj.lean ====
/-
  The value of the first norm and the combined projection (`Kernel3Ideal`) in exact arithmetic: every row of the five result
  arrays is the reference's row.
-/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit.Tiles
public import Idealize.ShloMosaic.Lib.StableHlo.ReadAt

@[expose] public section

set_option maxRecDepth 16384

noncomputable section

namespace Cert.Proof.Inproj

open Idealize.ShloMosaic Idealize.ShloMosaic.TcCoe Idealize.SL.Sem
open Cert.Kernel3Ideal Cert.Kernel3Ideal.Gen
open Cert.Reference3Ideal.Read
open Idealize.ShloMosaic.Pipeline (Dat)

/-! ## One row of a block -/

/-- An entry of a block's projection: the normalised row against one column of the padded weights. -/
abbrev zb (h : FVec Ideal S256x2048 .bf16) (w : Vec Ideal S2048x5120 .bf16) (r : Fin 256) (q : Fin 5120) : EReal :=
  ∑ k : Fin 2048, h (ix2 r k) * w (ix2 k q)

/-- A load of 512 columns of the weights from column `o` on, at an index. -/
theorem ld_cols (w : Vec Ideal S2048x5120 .bf16) (o : Nat) (ho : o + 512 ≤ 5120) (inb : ∀ a, (![0, o] : Fin 2 → Nat) a + S2048x512.size a ≤ S2048x5120.size a)
    (k : Fin 2048) (l : Fin 512) :
    View.ld w (Rect.unit (s := S2048x5120) ![0, o] S2048x512.size inb) (ix2 k l) = w (ix2 k (⟨o + l.val, by omega⟩ : Fin 5120)) :=
  View.ld_unit_apply_of w _ _ inb (ix2 k l) (ix2 k (⟨o + l.val, by omega⟩ : Fin 5120)) fun a => by
    match a with
    | ⟨0, _⟩ => show k.val = 0 + k.val; omega
    | ⟨1, _⟩ => rfl

theorem pay1_at (h : FVec Ideal S256x2048 .bf16) (w : Vec Ideal S2048x512 .bf16) (r : Fin 256) (l : Fin 512) :
    k0_pay1 h w (ix2 r l) = ∑ k : Fin 2048, h (ix2 r k) * w (ix2 k l) := by
  unfold k0_pay1
  pointwise

theorem pay6_at (h : FVec Ideal S256x2048 .bf16) (w : Vec Ideal S2048x512 .bf16) (r : Fin 256) (l : Fin 512) :
    k0_pay6 h w (ix2 r l) = ∑ k : Fin 2048, h (ix2 r k) * w (ix2 k l) := by
  unfold k0_pay6
  pointwise

theorem pay7_at (h : FVec Ideal S256x2048 .bf16) (w : Vec Ideal S2048x512 .bf16) (r : Fin 256) (l : Fin 512) :
    k0_pay7 h w (ix2 r l) = ∑ k : Fin 2048, h (ix2 r k) * w (ix2 k l) := by
  unfold k0_pay7
  pointwise

theorem pay8_at (h : FVec Ideal S256x2048 .bf16) (w : Vec Ideal S2048x512 .bf16) (r : Fin 256) (l : Fin 512) :
    k0_pay8 h w (ix2 r l) = ∑ k : Fin 2048, h (ix2 r k) * w (ix2 k l) := by
  unfold k0_pay8
  pointwise

theorem pay9_at (h : FVec Ideal S256x2048 .bf16) (w : Vec Ideal S2048x512 .bf16) (r : Fin 256) (l : Fin 512) :
    k0_pay9 h w (ix2 r l) = ∑ k : Fin 2048, h (ix2 r k) * w (ix2 k l) := by
  unfold k0_pay9
  pointwise

theorem pay10_at (h : FVec Ideal S256x2048 .bf16) (w : Vec Ideal S2048x512 .bf16) (r : Fin 256) (l : Fin 512) :
    k0_pay10 h w (ix2 r l) = ∑ k : Fin 2048, h (ix2 r k) * w (ix2 k l) := by
  unfold k0_pay10
  pointwise

theorem pay11_at (h : FVec Ideal S256x2048 .bf16) (w : Vec Ideal S2048x512 .bf16) (r : Fin 256) (l : Fin 512) :
    k0_pay11 h w (ix2 r l) = ∑ k : Fin 2048, h (ix2 r k) * w (ix2 k l) := by
  unfold k0_pay11
  pointwise

theorem pay2_at (h : FVec Ideal S256x2048 .bf16) (w : Vec Ideal S2048x512 .bf16) (r : Fin 256) (l : Fin 128) :
    k0_pay2 h w (ix2 r l) = ∑ k : Fin 2048, h (ix2 r k) * w (ix2 k (⟨l.val, by omega⟩ : Fin 512)) := by
  unfold k0_pay2
  pointwise

theorem pay4_at (x : Vec Ideal S256x2048 .f32) (g : Vec Ideal S1x2048 .f32) (sc sh : Vec Ideal S1x1x2048 .f32) (w : Vec Ideal S2048x512 .bf16)
    (r : Fin 256) (l : Fin 512) :
    k0_pay4 x g sc sh w (ix2 r l) = ∑ k : Fin 2048, k0_pay3 x g sc sh (ix2 r k) * w (ix2 k l) := by
  unfold k0_pay4
  pointwise

theorem pay5_at (x : Vec Ideal S256x2048 .f32) (g : Vec Ideal S1x2048 .f32) (sc sh : Vec Ideal S1x1x2048 .f32) (w : Vec Ideal S2048x512 .bf16)
    (r : Fin 256) (l : Fin 512) :
    k0_pay5 x g sc sh w (ix2 r l) = ∑ k : Fin 2048, k0_pay3 x g sc sh (ix2 r k) * w (ix2 k l) := by
  unfold k0_pay5
  pointwise

section Row

variable (X0 : (⟨S16384x2048, .f32⟩ : BufTy).Contents (Elt Ideal)) (X1 X2 : (⟨⟨3, ![4, 1, 2048]⟩, .f32⟩ : BufTy).Contents (Elt Ideal))
  (X3 : (⟨⟨2, ![1, 2048]⟩, .f32⟩ : BufTy).Contents (Elt Ideal)) (X4 : (⟨⟨3, ![1, 2048, 4656]⟩, .f32⟩ : BufTy).Contents (Elt Ideal))
  (x0 : Vec Ideal S256x2048 .f32) (x1 x2 : Vec Ideal S1x1x2048 .f32) (x3 : Vec Ideal S1x2048 .f32) (x4 : Vec Ideal S2048x5120 .bf16)
  (r : Fin 256) (R : Fin 16384) (b : Fin 4)

/-- The normalised and modulated row. -/
theorem h_row (hb : b.val = R.val / 4096) (h0 : ∀ l : Fin 2048, x0 (ix2 r l) = X0 (ix2 R l))
    (h1 : ∀ l : Fin 2048, x1 (ix3 (0 : Fin 1) (0 : Fin 1) l) = X1 (ix3 b (0 : Fin 1) l))
    (h2 : ∀ l : Fin 2048, x2 (ix3 (0 : Fin 1) (0 : Fin 1) l) = X2 (ix3 b (0 : Fin 1) l))
    (h3 : ∀ l : Fin 2048, x3 (ix2 (0 : Fin 1) l) = X3 (ix2 (0 : Fin 1) l)) (l : Fin 2048) :
    k0_pay3 x0 x3 x1 x2 (ix2 r l)
      = val_main_v20 X0 X1 X2 X3 (ix3 (⟨R.val / 4096, by omega⟩ : Fin 4) (⟨R.val % 4096, by omega⟩ : Fin 4096) l) := by
  have hR : (⟨4096 * (R.val / 4096) + R.val % 4096, by omega⟩ : Fin 16384) = R := Fin.ext (by show 4096 * (R.val / 4096) + R.val % 4096 = R.val; omega)
  obtain ⟨b, hb4⟩ := b
  obtain rfl : b = R.val / 4096 := hb
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  unfold_payloads
  pointwise
  simp only [h0, h1, h2, h3, hR]

/-- The padding value: the integer zero, converted. -/
theorem sitofp_zero : (FloatOps.sitofp (F := Ideal) .f32 (0#32) : EReal) = 0 := by
  show ((((0#32 : BitVec 32).toInt : ℝ)) : EReal) = 0
  simp

/-- The reference's projection at an index. -/
theorem z_ref (R : Fin 16384) (q : Fin 4656) :
    val_main_v23 X0 X1 X2 X3 X4 (ix2 R q)
      = ∑ k : Fin 2048, val_main_v20 X0 X1 X2 X3 (ix3 (⟨R.val / 4096, by omega⟩ : Fin 4) (⟨R.val % 4096, by omega⟩ : Fin 4096) k) * X4 (ix3 (0 : Fin 1) k q) := by
  unfold val_main_v23 val_main_v22 val_main_v21
  pointwise

end Row

variable (m : (ℓ : Loc nD τ sig) → Buf (Elt Ideal) ℓ)

/-! ## The windows' blocks -/

/-- Where each window's block stands at each point. -/
theorem idx_facts : ∀ t : Fin cfg0.N,
    (win0_0.index t 0 = t.val ∧ win0_0.index t 1 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) :=
  (by decide +kernel : ∀ t : Fin grid0.N, _)

/-- The array row under row `r` of block `t`. -/
abbrev row (t : Fin cfg0.N) (r : Fin 256) : Fin 16384 := ⟨256 * t.val + r.val, by have h : t.val < 64 := t.isLt; omega⟩

/-- The prompt row that block `t` belongs to. -/
abbrev who (t : Fin cfg0.N) : Fin 4 := ⟨t.val / 16, by have h : t.val < 64 := t.isLt; omega⟩

theorem who_row (t : Fin cfg0.N) (r : Fin 256) : (who t).val = (row t r).val / 4096 := by
  show t.val / 16 = (256 * t.val + r.val) / 4096
  omega

theorem blk0 (c : Dev nD) (t : Fin cfg0.N) (r : Fin 256) (l : Fin 2048) :
    (iblk m c 0 t : Vec Ideal S256x2048 .f32) (ix2 r l) = m ((c : Thread nD τ).loc main_arg0) (ix2 (row t r) l) := by
  obtain ⟨⟨e0, e1⟩, -⟩ := idx_facts t
  unfold iblk
  rw [View.read_apply]
  have hi : ((cfg0.win 0).blk t).view.emb (ix2 r l) = (ix2 (row t r) l) := by
    funext a
    apply Fin.ext
    match a with
    | ⟨0, _⟩ => show win0_0.index t 0 * 256 + 1 * (r.val : Nat) = 256 * t.val + r.val; rw [e0] <;> omega
    | ⟨1, _⟩ => show win0_0.index t 1 * 2048 + 1 * (l.val : Nat) = l.val; rw [e1] <;> omega
  rw [hi]
  show V m c main_arg0 (ix2 (row t r) l) = _
  rw [V_main_arg0]

theorem blk1 (c : Dev nD) (t : Fin cfg0.N) (l : Fin 2048) :
    (iblk m c 1 t : Vec Ideal S1x1x2048 .f32) (ix3 (0 : Fin 1) (0 : Fin 1) l) = m ((c : Thread nD τ).loc main_arg1) (ix3 (who t) (0 : Fin 1) l) := by
  obtain ⟨-, ⟨e0, e1, e2⟩, -⟩ := idx_facts t
  unfold iblk
  rw [View.read_apply]
  have hi : ((cfg0.win 1).blk t).view.emb (ix3 (0 : Fin 1) (0 : Fin 1) l) = (ix3 (who t) (0 : Fin 1) l) := by
    funext a
    apply Fin.ext
    match a with
    | ⟨0, _⟩ => show win0_1.index t 0 * 1 + 1 * (0 : Nat) = t.val / 16; rw [e0] <;> omega
    | ⟨1, _⟩ => show win0_1.index t 1 * 1 + 1 * (0 : Nat) = 0; rw [e1] <;> omega
    | ⟨2, _⟩ => show win0_1.index t 2 * 2048 + 1 * (l.val : Nat) = l.val; rw [e2] <;> omega
  rw [hi]
  show V m c main_arg1 (ix3 (who t) (0 : Fin 1) l) = _
  rw [V_main_arg1]

theorem blk2 (c : Dev nD) (t : Fin cfg0.N) (l : Fin 2048) :
    (iblk m c 2 t : Vec Ideal S1x1x2048 .f32) (ix3 (0 : Fin 1) (0 : Fin 1) l) = m ((c : Thread nD τ).loc main_arg2) (ix3 (who t) (0 : Fin 1) l) := by
  obtain ⟨-, -, ⟨e0, e1, e2⟩, -⟩ := idx_facts t
  unfold iblk
  rw [View.read_apply]
  have hi : ((cfg0.win 2).blk t).view.emb (ix3 (0 : Fin 1) (0 : Fin 1) l) = (ix3 (who t) (0 : Fin 1) l) := by
    funext a
    apply Fin.ext
    match a with
    | ⟨0, _⟩ => show win0_2.index t 0 * 1 + 1 * (0 : Nat) = t.val / 16; rw [e0] <;> omega
    | ⟨1, _⟩ => show win0_2.index t 1 * 1 + 1 * (0 : Nat) = 0; rw [e1] <;> omega
    | ⟨2, _⟩ => show win0_2.index t 2 * 2048 + 1 * (l.val : Nat) = l.val; rw [e2] <;> omega
  rw [hi]
  show V m c main_arg2 (ix3 (who t) (0 : Fin 1) l) = _
  rw [V_main_arg2]

theorem blk3 (c : Dev nD) (t : Fin cfg0.N) (l : Fin 2048) :
    (iblk m c 3 t : Vec Ideal S1x2048 .f32) (ix2 (0 : Fin 1) l) = m ((c : Thread nD τ).loc main_arg3) (ix2 (0 : Fin 1) l) := by
  obtain ⟨-, -, -, ⟨e0, e1⟩, -⟩ := idx_facts t
  unfold iblk
  rw [View.read_apply]
  have hi : ((cfg0.win 3).blk t).view.emb (ix2 (0 : Fin 1) l) = (ix2 (0 : Fin 1) l) := by
    funext a
    apply Fin.ext
    match a with
    | ⟨0, _⟩ => show win0_3.index t 0 * 1 + 1 * (0 : Nat) = 0; rw [e0] <;> omega
    | ⟨1, _⟩ => show win0_3.index t 1 * 2048 + 1 * (l.val : Nat) = l.val; rw [e1] <;> omega
  rw [hi]
  show V m c main_v4 (ix2 (0 : Fin 1) l) = _
  unfold V hostOps0
  after_reads_at

theorem blk4 (c : Dev nD) (t : Fin cfg0.N) (k : Fin 2048) (q : Fin 5120) :
    (iblk m c 4 t : Vec Ideal S2048x5120 .bf16) (ix2 k q) = if h : q.val < 4656 then m ((c : Thread nD τ).loc main_arg4) (ix3 (0 : Fin 1) k (⟨q.val, h⟩ : Fin 4656)) else (0 : EReal) := by
  obtain ⟨-, -, -, -, ⟨e0, e1⟩, -⟩ := idx_facts t
  unfold iblk
  rw [View.read_apply]
  have hi : ((cfg0.win 4).blk t).view.emb (ix2 k q) = (ix2 k q) := by
    funext a
    apply Fin.ext
    match a with
    | ⟨0, _⟩ => show win0_4.index t 0 * 2048 + 1 * (k.val : Nat) = k.val; rw [e0] <;> omega
    | ⟨1, _⟩ => show win0_4.index t 1 * 5120 + 1 * (q.val : Nat) = q.val; rw [e1] <;> omega
  rw [hi]
  show V m c main_v2 (ix2 k q) = _
  unfold V hostOps0
  after_reads_at
  simp only [sitofp_zero]

/-! ## The result arrays -/

theorem z2 : (![0, 0] : Fin 2 → Nat) = fun _ => 0 := funext fun a => by fin_cases a <;> rfl
theorem z3 : (![0, 0, 0] : Fin 3 → Nat) = fun _ => 0 := funext fun a => by fin_cases a <;> rfl

theorem ix_exhaust {a b : Nat} (j : (⟨2, ![a, b]⟩ : Shape).Idx) : ∃ (r : Fin a) (l : Fin b), j = ix2 r l :=
  ⟨j 0, j 1, funext fun d => by fin_cases d <;> rfl⟩

/-- The rows of block `t` after the norm. -/
abbrev hblk (c : Dev nD) (t : Fin cfg0.N) : FVec Ideal S256x2048 .bf16 := k0_pay3 (iblk m c 0 t) (iblk m c 3 t) (iblk m c 1 t) (iblk m c 2 t)

/-- The reference's projection of the arguments. -/
abbrev zref (c : Dev nD) : (⟨2, ![16384, 4656]⟩ : Shape).Idx → EReal := val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- An entry of a block's projection below the padding is the reference's. -/
theorem z_blk (c : Dev nD) (t : Fin cfg0.N) (r : Fin 256) (q : Fin 5120) (hq : q.val < 4656) :
    zb (hblk m c t) (iblk m c 4 t) r q = zref m c (ix2 (row t r) (⟨q.val, hq⟩ : Fin 4656)) := by
  unfold zref
  rw [z_ref]
  refine Finset.sum_congr rfl fun k _ => ?_
  rw [blk4, dif_pos hq]
  rw [show hblk m c t (ix2 r k) = _ from h_row _ _ _ _ _ _ _ _ r (row t r) (who t) (who_row t r) (blk0 m c t r) (blk1 m c t) (blk2 m c t) (blk3 m c t) k]

/-- In the padding it is zero. -/
theorem z_pad (c : Dev nD) (t : Fin cfg0.N) (r : Fin 256) (q : Fin 5120) (hq : ¬ q.val < 4656) :
    zb (hblk m c t) (iblk m c 4 t) r q = 0 := by
  refine Finset.sum_eq_zero fun k _ => ?_
  rw [blk4, dif_neg hq, mul_zero]

theorem flush_all5 : ∀ t : Fin cfg0.N, (cfg0.win 5).flush t = true := (by decide +kernel : ∀ t : Fin grid0.N, win0_5.flush t = true)

abbrev G5 (c : Dev nD) : S16384x3072.Idx → EReal := val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem G5_at (c : Dev nD) (R : Fin 16384) (l : Fin 3072) : G5 m c (ix2 R l) = zref m c (ix2 R (⟨0 + l.val, by omega⟩ : Fin 4656)) := by
  unfold G5 val_main_v26 zref
  generalize val_main_v23 (F := Ideal) _ _ _ _ _ = z
  pointwise

theorem tile9 (c : Dev nD) (t : Fin cfg0.N) (r : Fin 256) (l : Fin 3072) :
    View.TileAt (Val := Elt Ideal) (e := .f32) (S := S256x3072) (ix2 r l) ![0, 2560] S256x512.size (k0_pay9 (hblk m c t) (View.ld (iblk m c 4 t : Vec Ideal S2048x5120 .bf16) r0_13))
      (zb (hblk m c t) (iblk m c 4 t) r (⟨l.val, by omega⟩ : Fin 5120)) := by
  intro x hx
  obtain ⟨r', l', rfl⟩ := (ix_exhaust x : ∃ (r : Fin 256) (l : Fin 512), x = ix2 r l)
  have h0 : r.val = 0 + r'.val := hx 0
  have h1 : l.val = 2560 + l'.val := hx 1
  obtain rfl : r = r' := Fin.ext (by omega)
  rw [pay9_at]
  refine Finset.sum_congr rfl fun k _ => ?_
  rw [ld_cols _ 2560 (by omega)]
  rw [show (⟨l.val, by omega⟩ : Fin 5120) = ⟨2560 + l'.val, by omega⟩ from Fin.ext h1]

theorem tile8 (c : Dev nD) (t : Fin cfg0.N) (r : Fin 256) (l : Fin 3072) :
    View.TileAt (Val := Elt Ideal) (e := .f32) (S := S256x3072) (ix2 r l) ![0, 2048] S256x512.size (k0_pay8 (hblk m c t) (View.ld (iblk m c 4 t : Vec Ideal S2048x5120 .bf16) r0_11))
      (zb (hblk m c t) (iblk m c 4 t) r (⟨l.val, by omega⟩ : Fin 5120)) := by
  intro x hx
  obtain ⟨r', l', rfl⟩ := (ix_exhaust x : ∃ (r : Fin 256) (l : Fin 512), x = ix2 r l)
  have h0 : r.val = 0 + r'.val := hx 0
  have h1 : l.val = 2048 + l'.val := hx 1
  obtain rfl : r = r' := Fin.ext (by omega)
  rw [pay8_at]
  refine Finset.sum_congr rfl fun k _ => ?_
  rw [ld_cols _ 2048 (by omega)]
  rw [show (⟨l.val, by omega⟩ : Fin 5120) = ⟨2048 + l'.val, by omega⟩ from Fin.ext h1]

theorem tile7 (c : Dev nD) (t : Fin cfg0.N) (r : Fin 256) (l : Fin 3072) :
    View.TileAt (Val := Elt Ideal) (e := .f32) (S := S256x3072) (ix2 r l) ![0, 1536] S256x512.size (k0_pay7 (hblk m c t) (View.ld (iblk m c 4 t : Vec Ideal S2048x5120 .bf16) r0_9))
      (zb (hblk m c t) (iblk m c 4 t) r (⟨l.val, by omega⟩ : Fin 5120)) := by
  intro x hx
  obtain ⟨r', l', rfl⟩ := (ix_exhaust x : ∃ (r : Fin 256) (l : Fin 512), x = ix2 r l)
  have h0 : r.val = 0 + r'.val := hx 0
  have h1 : l.val = 1536 + l'.val := hx 1
  obtain rfl : r = r' := Fin.ext (by omega)
  rw [pay7_at]
  refine Finset.sum_congr rfl fun k _ => ?_
  rw [ld_cols _ 1536 (by omega)]
  rw [show (⟨l.val, by omega⟩ : Fin 5120) = ⟨1536 + l'.val, by omega⟩ from Fin.ext h1]

theorem tile6 (c : Dev nD) (t : Fin cfg0.N) (r : Fin 256) (l : Fin 3072) :
    View.TileAt (Val := Elt Ideal) (e := .f32) (S := S256x3072) (ix2 r l) ![0, 1024] S256x512.size (k0_pay6 (hblk m c t) (View.ld (iblk m c 4 t : Vec Ideal S2048x5120 .bf16) r0_7))
      (zb (hblk m c t) (iblk m c 4 t) r (⟨l.val, by omega⟩ : Fin 5120)) := by
  intro x hx
  obtain ⟨r', l', rfl⟩ := (ix_exhaust x : ∃ (r : Fin 256) (l : Fin 512), x = ix2 r l)
  have h0 : r.val = 0 + r'.val := hx 0
  have h1 : l.val = 1024 + l'.val := hx 1
  obtain rfl : r = r' := Fin.ext (by omega)
  rw [pay6_at]
  refine Finset.sum_congr rfl fun k _ => ?_
  rw [ld_cols _ 1024 (by omega)]
  rw [show (⟨l.val, by omega⟩ : Fin 5120) = ⟨1024 + l'.val, by omega⟩ from Fin.ext h1]

theorem tile5 (c : Dev nD) (t : Fin cfg0.N) (r : Fin 256) (l : Fin 3072) :
    View.TileAt (Val := Elt Ideal) (e := .f32) (S := S256x3072) (ix2 r l) ![0, 512] S256x512.size (k0_pay5 (iblk m c 0 t) (iblk m c 3 t) (iblk m c 1 t) (iblk m c 2 t) (View.ld (iblk m c 4 t : Vec Ideal S2048x5120 .bf16) r0_5))
      (zb (hblk m c t) (iblk m c 4 t) r (⟨l.val, by omega⟩ : Fin 5120)) := by
  intro x hx
  obtain ⟨r', l', rfl⟩ := (ix_exhaust x : ∃ (r : Fin 256) (l : Fin 512), x = ix2 r l)
  have h0 : r.val = 0 + r'.val := hx 0
  have h1 : l.val = 512 + l'.val := hx 1
  obtain rfl : r = r' := Fin.ext (by omega)
  rw [pay5_at]
  refine Finset.sum_congr rfl fun k _ => ?_
  rw [ld_cols _ 512 (by omega)]
  rw [show (⟨l.val, by omega⟩ : Fin 5120) = ⟨512 + l'.val, by omega⟩ from Fin.ext h1]

theorem tile4 (c : Dev nD) (t : Fin cfg0.N) (r : Fin 256) (l : Fin 3072) :
    View.TileAt (Val := Elt Ideal) (e := .f32) (S := S256x3072) (ix2 r l) ![0, 0] S256x512.size (k0_pay4 (iblk m c 0 t) (iblk m c 3 t) (iblk m c 1 t) (iblk m c 2 t) (View.ld (iblk m c 4 t : Vec Ideal S2048x5120 .bf16) r0_3))
      (zb (hblk m c t) (iblk m c 4 t) r (⟨l.val, by omega⟩ : Fin 5120)) := by
  intro x hx
  obtain ⟨r', l', rfl⟩ := (ix_exhaust x : ∃ (r : Fin 256) (l : Fin 512), x = ix2 r l)
  have h0 : r.val = 0 + r'.val := hx 0
  have h1 : l.val = 0 + l'.val := hx 1
  obtain rfl : r = r' := Fin.ext (by omega)
  rw [pay4_at]
  refine Finset.sum_congr rfl fun k _ => ?_
  rw [ld_cols _ 0 (by omega)]
  rw [show (⟨l.val, by omega⟩ : Fin 5120) = ⟨0 + l'.val, by omega⟩ from Fin.ext h1]

theorem flushed5 (c : Dev nD) (t : Fin cfg0.N) :
    (dats m 0 c).flushed 5 t = ((cfg0.win 5).blk t).view.read (Elt Ideal) (G5 m c) := by
  rw [Cert.Kernel3Ideal.Value.flushed5]
  obtain ⟨-, -, -, -, -, ⟨e0, e1⟩, -⟩ := idx_facts t
  funext j
  obtain ⟨r, l, rfl⟩ := (ix_exhaust j : ∃ (r : Fin 256) (l : Fin 3072), j = ix2 r l)
  rw [View.read_apply]
  have hi : ((cfg0.win 5).blk t).view.emb (ix2 r l) = ix2 (row t r) l := by
    funext a
    apply Fin.ext
    match a with
    | ⟨0, _⟩ => show win0_5.index t 0 * 256 + 1 * (r.val : Nat) = 256 * t.val + r.val; rw [e0]; omega
    | ⟨1, _⟩ => show win0_5.index t 1 * 3072 + 1 * (l.val : Nat) = l.val; rw [e1]; omega
  rw [hi]
  show out0_5 (F := Ideal) _ _ _ _ _ (ix2 r l) = G5 m c (ix2 (row t r) l)
  unfold_out out0_5
  simp only [View.ld_unit_zero (S := S256x2048) z2, View.ld_unit_zero (S := S1x2048) z2, View.ld_unit_zero (S := S1x1x2048) z3]
  refine Eq.trans (View.canon_eq_of_allAt _ _ (zb (hblk m c t) (iblk m c 4 t) r (⟨l.val, by omega⟩ : Fin 5120)) (View.cover_of_tiled_head _ _ _ rfl _) (View.allAt_cons_unit _ _ _ _ _ (tile9 m c t r l) (View.allAt_cons_unit _ _ _ _ _ (tile8 m c t r l) (View.allAt_cons_unit _ _ _ _ _ (tile7 m c t r l) (View.allAt_cons_unit _ _ _ _ _ (tile6 m c t r l) (View.allAt_cons_unit _ _ _ _ _ (tile5 m c t r l) (View.allAt_cons_unit _ _ _ _ _ (tile4 m c t r l) (View.allAt_nil _ _)))))))) ?_
  rw [z_blk m c t r _ (by show l.val < 4656; omega), G5_at]
  congr 2
  exact Fin.ext (by show l.val = 0 + l.val; omega)

/-- Every index of the array lies in the block of the point its row belongs to. -/
theorem cover5 (i : S16384x3072.Idx) : ∃ t : Fin cfg0.N, (cfg0.win 5).flush t = true ∧ i ∈ ((cfg0.win 5).blk t).view.set := by
  have h0 : (i 0 : Nat) < 16384 := (i 0).isLt
  have h1 : (i 1 : Nat) < 3072 := (i 1).isLt
  obtain ⟨t, ht⟩ : ∃ t : Fin cfg0.N, t.val = (i 0 : Nat) / 256 := ⟨(⟨(i 0 : Nat) / 256, by omega⟩ : Fin 64), rfl⟩
  refine ⟨t, flush_all5 t, ?_⟩
  obtain ⟨-, -, -, -, -, ⟨e0, e1⟩, -⟩ := idx_facts t
  show i ∈ ((View.whole main_v5_0).slice (win0_5.rect t)).set
  rw [View.set_slice_whole, Rect.mem_set_unit]
  intro a
  match a with
  | ⟨0, _⟩ =>
    show win0_5.index t 0 * 256 ≤ (i 0 : Nat) ∧ (i 0 : Nat) < win0_5.index t 0 * 256 + 256
    rw [e0, ht]
    omega
  | ⟨1, _⟩ =>
    show win0_5.index t 1 * 3072 ≤ (i 1 : Nat) ∧ (i 1 : Nat) < win0_5.index t 1 * 3072 + 3072
    rw [e1]
    omega

theorem final5 (c : Dev nD) : (dats m 0 c).arrAt 5 cfg0.N = G5 m c :=
  (dats m 0 c).arrAt_eq_of_cover 5 (G5 m c) (fun t _ => flushed5 m c t) fun i => cover5 i

theorem flush_all6 : ∀ t : Fin cfg0.N, (cfg0.win 6).flush t = true := (by decide +kernel : ∀ t : Fin grid0.N, win0_6.flush t = true)

abbrev G6 (c : Dev nD) : S16384x512.Idx → EReal := val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem G6_at (c : Dev nD) (R : Fin 16384) (l : Fin 512) : G6 m c (ix2 R l) = zref m c (ix2 R (⟨3072 + l.val, by omega⟩ : Fin 4656)) := by
  unfold G6 val_main_v27 zref
  generalize val_main_v23 (F := Ideal) _ _ _ _ _ = z
  pointwise

theorem flushed6 (c : Dev nD) (t : Fin cfg0.N) :
    (dats m 0 c).flushed 6 t = ((cfg0.win 6).blk t).view.read (Elt Ideal) (G6 m c) := by
  rw [Cert.Kernel3Ideal.Value.flushed6]
  obtain ⟨-, -, -, -, -, -, ⟨e0, e1⟩, -⟩ := idx_facts t
  funext j
  obtain ⟨r, l, rfl⟩ := (ix_exhaust j : ∃ (r : Fin 256) (l : Fin 512), j = ix2 r l)
  rw [View.read_apply]
  have hi : ((cfg0.win 6).blk t).view.emb (ix2 r l) = ix2 (row t r) l := by
    funext a
    apply Fin.ext
    match a with
    | ⟨0, _⟩ => show win0_6.index t 0 * 256 + 1 * (r.val : Nat) = 256 * t.val + r.val; rw [e0]; omega
    | ⟨1, _⟩ => show win0_6.index t 1 * 512 + 1 * (l.val : Nat) = l.val; rw [e1]; omega
  rw [hi]
  show out0_6 (F := Ideal) _ _ _ _ _ (ix2 r l) = G6 m c (ix2 (row t r) l)
  unfold_out out0_6
  simp only [View.ld_unit_zero (S := S256x2048) z2, View.ld_unit_zero (S := S1x2048) z2, View.ld_unit_zero (S := S1x1x2048) z3]
  rw [View.canon_unit_zero z2, pay10_at]
  refine (Finset.sum_congr rfl fun k _ => by rw [ld_cols _ 3072 (by omega)]).trans ?_
  refine (z_blk m c t r (⟨3072 + l.val, by omega⟩ : Fin 5120) (by show 3072 + l.val < 4656; omega)).trans ?_
  rw [G6_at]

/-- Every index of the array lies in the block of the point its row belongs to. -/
theorem cover6 (i : S16384x512.Idx) : ∃ t : Fin cfg0.N, (cfg0.win 6).flush t = true ∧ i ∈ ((cfg0.win 6).blk t).view.set := by
  have h0 : (i 0 : Nat) < 16384 := (i 0).isLt
  have h1 : (i 1 : Nat) < 512 := (i 1).isLt
  obtain ⟨t, ht⟩ : ∃ t : Fin cfg0.N, t.val = (i 0 : Nat) / 256 := ⟨(⟨(i 0 : Nat) / 256, by omega⟩ : Fin 64), rfl⟩
  refine ⟨t, flush_all6 t, ?_⟩
  obtain ⟨-, -, -, -, -, -, ⟨e0, e1⟩, -⟩ := idx_facts t
  show i ∈ ((View.whole main_v5_1).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + 256
    rw [e0, ht]
    omega
  | ⟨1, _⟩ =>
    show win0_6.index t 1 * 512 ≤ (i 1 : Nat) ∧ (i 1 : Nat) < win0_6.index t 1 * 512 + 512
    rw [e1]
    omega

theorem final6 (c : Dev nD) : (dats m 0 c).arrAt 6 cfg0.N = G6 m c :=
  (dats m 0 c).arrAt_eq_of_cover 6 (G6 m c) (fun t _ => flushed6 m c t) fun i => cover6 i

theorem flush_all7 : ∀ t : Fin cfg0.N, (cfg0.win 7).flush t = true := (by decide +kernel : ∀ t : Fin grid0.N, win0_7.flush t = true)

abbrev G7 (c : Dev nD) : S16384x512.Idx → EReal := val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem G7_at (c : Dev nD) (R : Fin 16384) (l : Fin 512) : G7 m c (ix2 R l) = zref m c (ix2 R (⟨3584 + l.val, by omega⟩ : Fin 4656)) := by
  unfold G7 val_main_v28 zref
  generalize val_main_v23 (F := Ideal) _ _ _ _ _ = z
  pointwise

theorem flushed7 (c : Dev nD) (t : Fin cfg0.N) :
    (dats m 0 c).flushed 7 t = ((cfg0.win 7).blk t).view.read (Elt Ideal) (G7 m c) := by
  rw [Cert.Kernel3Ideal.Value.flushed7]
  obtain ⟨-, -, -, -, -, -, -, ⟨e0, e1⟩, -⟩ := idx_facts t
  funext j
  obtain ⟨r, l, rfl⟩ := (ix_exhaust j : ∃ (r : Fin 256) (l : Fin 512), j = ix2 r l)
  rw [View.read_apply]
  have hi : ((cfg0.win 7).blk t).view.emb (ix2 r l) = ix2 (row t r) l := by
    funext a
    apply Fin.ext
    match a with
    | ⟨0, _⟩ => show win0_7.index t 0 * 256 + 1 * (r.val : Nat) = 256 * t.val + r.val; rw [e0]; omega
    | ⟨1, _⟩ => show win0_7.index t 1 * 512 + 1 * (l.val : Nat) = l.val; rw [e1]; omega
  rw [hi]
  show out0_7 (F := Ideal) _ _ _ _ _ (ix2 r l) = G7 m c (ix2 (row t r) l)
  unfold_out out0_7
  simp only [View.ld_unit_zero (S := S256x2048) z2, View.ld_unit_zero (S := S1x2048) z2, View.ld_unit_zero (S := S1x1x2048) z3]
  rw [View.canon_unit_zero z2, pay11_at]
  refine (Finset.sum_congr rfl fun k _ => by rw [ld_cols _ 3584 (by omega)]).trans ?_
  refine (z_blk m c t r (⟨3584 + l.val, by omega⟩ : Fin 5120) (by show 3584 + l.val < 4656; omega)).trans ?_
  rw [G7_at]

/-- Every index of the array lies in the block of the point its row belongs to. -/
theorem cover7 (i : S16384x512.Idx) : ∃ t : Fin cfg0.N, (cfg0.win 7).flush t = true ∧ i ∈ ((cfg0.win 7).blk t).view.set := by
  have h0 : (i 0 : Nat) < 16384 := (i 0).isLt
  have h1 : (i 1 : Nat) < 512 := (i 1).isLt
  obtain ⟨t, ht⟩ : ∃ t : Fin cfg0.N, t.val = (i 0 : Nat) / 256 := ⟨(⟨(i 0 : Nat) / 256, by omega⟩ : Fin 64), rfl⟩
  refine ⟨t, flush_all7 t, ?_⟩
  obtain ⟨-, -, -, -, -, -, -, ⟨e0, e1⟩, -⟩ := idx_facts t
  show i ∈ ((View.whole main_v5_2).slice (win0_7.rect t)).set
  rw [View.set_slice_whole, Rect.mem_set_unit]
  intro a
  match a with
  | ⟨0, _⟩ =>
    show win0_7.index t 0 * 256 ≤ (i 0 : Nat) ∧ (i 0 : Nat) < win0_7.index t 0 * 256 + 256
    rw [e0, ht]
    omega
  | ⟨1, _⟩ =>
    show win0_7.index t 1 * 512 ≤ (i 1 : Nat) ∧ (i 1 : Nat) < win0_7.index t 1 * 512 + 512
    rw [e1]
    omega

theorem final7 (c : Dev nD) : (dats m 0 c).arrAt 7 cfg0.N = G7 m c :=
  (dats m 0 c).arrAt_eq_of_cover 7 (G7 m c) (fun t _ => flushed7 m c t) fun i => cover7 i

theorem flush_all8 : ∀ t : Fin cfg0.N, (cfg0.win 8).flush t = true := (by decide +kernel : ∀ t : Fin grid0.N, win0_8.flush t = true)

abbrev G8 (c : Dev nD) : S16384x512.Idx → EReal := val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem G8_at (c : Dev nD) (R : Fin 16384) (l : Fin 512) : G8 m c (ix2 R l) = zref m c (ix2 R (⟨4096 + l.val, by omega⟩ : Fin 4656)) := by
  unfold G8 val_main_v29 zref
  generalize val_main_v23 (F := Ideal) _ _ _ _ _ = z
  pointwise

theorem flushed8 (c : Dev nD) (t : Fin cfg0.N) :
    (dats m 0 c).flushed 8 t = ((cfg0.win 8).blk t).view.read (Elt Ideal) (G8 m c) := by
  rw [Cert.Kernel3Ideal.Value.flushed8]
  obtain ⟨-, -, -, -, -, -, -, -, ⟨e0, e1⟩, -⟩ := idx_facts t
  funext j
  obtain ⟨r, l, rfl⟩ := (ix_exhaust j : ∃ (r : Fin 256) (l : Fin 512), j = ix2 r l)
  rw [View.read_apply]
  have hi : ((cfg0.win 8).blk t).view.emb (ix2 r l) = ix2 (row t r) l := by
    funext a
    apply Fin.ext
    match a with
    | ⟨0, _⟩ => show win0_8.index t 0 * 256 + 1 * (r.val : Nat) = 256 * t.val + r.val; rw [e0]; omega
    | ⟨1, _⟩ => show win0_8.index t 1 * 512 + 1 * (l.val : Nat) = l.val; rw [e1]; omega
  rw [hi]
  show out0_8 (F := Ideal) _ _ _ _ _ (ix2 r l) = G8 m c (ix2 (row t r) l)
  unfold_out out0_8
  simp only [View.ld_unit_zero (S := S256x2048) z2, View.ld_unit_zero (S := S1x2048) z2, View.ld_unit_zero (S := S1x1x2048) z3]
  rw [View.canon_unit_zero z2, pay1_at]
  refine (Finset.sum_congr rfl fun k _ => by rw [ld_cols _ 4096 (by omega)]).trans ?_
  refine (z_blk m c t r (⟨4096 + l.val, by omega⟩ : Fin 5120) (by show 4096 + l.val < 4656; omega)).trans ?_
  rw [G8_at]

/-- Every index of the array lies in the block of the point its row belongs to. -/
theorem cover8 (i : S16384x512.Idx) : ∃ t : Fin cfg0.N, (cfg0.win 8).flush t = true ∧ i ∈ ((cfg0.win 8).blk t).view.set := by
  have h0 : (i 0 : Nat) < 16384 := (i 0).isLt
  have h1 : (i 1 : Nat) < 512 := (i 1).isLt
  obtain ⟨t, ht⟩ : ∃ t : Fin cfg0.N, t.val = (i 0 : Nat) / 256 := ⟨(⟨(i 0 : Nat) / 256, by omega⟩ : Fin 64), rfl⟩
  refine ⟨t, flush_all8 t, ?_⟩
  obtain ⟨-, -, -, -, -, -, -, -, ⟨e0, e1⟩, -⟩ := idx_facts t
  show i ∈ ((View.whole main_v5_3).slice (win0_8.rect t)).set
  rw [View.set_slice_whole, Rect.mem_set_unit]
  intro a
  match a with
  | ⟨0, _⟩ =>
    show win0_8.index t 0 * 256 ≤ (i 0 : Nat) ∧ (i 0 : Nat) < win0_8.index t 0 * 256 + 256
    rw [e0, ht]
    omega
  | ⟨1, _⟩ =>
    show win0_8.index t 1 * 512 ≤ (i 1 : Nat) ∧ (i 1 : Nat) < win0_8.index t 1 * 512 + 512
    rw [e1]
    omega

theorem final8 (c : Dev nD) : (dats m 0 c).arrAt 8 cfg0.N = G8 m c :=
  (dats m 0 c).arrAt_eq_of_cover 8 (G8 m c) (fun t _ => flushed8 m c t) fun i => cover8 i

theorem flush_all9 : ∀ t : Fin cfg0.N, (cfg0.win 9).flush t = true := (by decide +kernel : ∀ t : Fin grid0.N, win0_9.flush t = true)

abbrev G9 (c : Dev nD) : S16384x128.Idx → EReal := val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem G9_at (c : Dev nD) (R : Fin 16384) (l : Fin 128) :
    G9 m c (ix2 R l) = if h : l.val < 48 then zref m c (ix2 R (⟨4608 + l.val, by omega⟩ : Fin 4656)) else (0 : EReal) := by
  unfold G9 val_main_v25 val_main_v24 val_main_call0_v0 val_main_c zref
  generalize val_main_v23 (F := Ideal) _ _ _ _ _ = z
  pointwise
  try simp only [sitofp_zero]

theorem flushed9 (c : Dev nD) (t : Fin cfg0.N) :
    (dats m 0 c).flushed 9 t = ((cfg0.win 9).blk t).view.read (Elt Ideal) (G9 m c) := by
  rw [Cert.Kernel3Ideal.Value.flushed9]
  obtain ⟨-, -, -, -, -, -, -, -, -, ⟨e0, e1⟩⟩ := idx_facts t
  funext j
  obtain ⟨r, l, rfl⟩ := (ix_exhaust j : ∃ (r : Fin 256) (l : Fin 128), j = ix2 r l)
  rw [View.read_apply]
  have hi : ((cfg0.win 9).blk t).view.emb (ix2 r l) = ix2 (row t r) l := by
    funext a
    apply Fin.ext
    match a with
    | ⟨0, _⟩ => show win0_9.index t 0 * 256 + 1 * (r.val : Nat) = 256 * t.val + r.val; rw [e0]; omega
    | ⟨1, _⟩ => show win0_9.index t 1 * 128 + 1 * (l.val : Nat) = l.val; rw [e1]; omega
  rw [hi]
  show out0_9 (F := Ideal) _ _ _ _ _ (ix2 r l) = G9 m c (ix2 (row t r) l)
  unfold_out out0_9
  simp only [View.ld_unit_zero (S := S256x2048) z2, View.ld_unit_zero (S := S1x2048) z2, View.ld_unit_zero (S := S1x1x2048) z3]
  rw [View.canon_unit_zero z2, pay2_at]
  refine (Finset.sum_congr rfl fun k _ => by rw [ld_cols _ 4608 (by omega)]).trans ?_
  rw [G9_at]
  by_cases h : l.val < 48
  · rw [dif_pos h]
    exact z_blk m c t r (⟨4608 + l.val, by omega⟩ : Fin 5120) (by show 4608 + l.val < 4656; omega)
  · rw [dif_neg h]
    exact z_pad m c t r (⟨4608 + l.val, by omega⟩ : Fin 5120) (by show ¬ 4608 + l.val < 4656; omega)

/-- Every index of the array lies in the block of the point its row belongs to. -/
theorem cover9 (i : S16384x128.Idx) : ∃ t : Fin cfg0.N, (cfg0.win 9).flush t = true ∧ i ∈ ((cfg0.win 9).blk t).view.set := by
  have h0 : (i 0 : Nat) < 16384 := (i 0).isLt
  have h1 : (i 1 : Nat) < 128 := (i 1).isLt
  obtain ⟨t, ht⟩ : ∃ t : Fin cfg0.N, t.val = (i 0 : Nat) / 256 := ⟨(⟨(i 0 : Nat) / 256, by omega⟩ : Fin 64), rfl⟩
  refine ⟨t, flush_all9 t, ?_⟩
  obtain ⟨-, -, -, -, -, -, -, -, -, ⟨e0, e1⟩⟩ := idx_facts t
  show i ∈ ((View.whole main_v5_4).slice (win0_9.rect t)).set
  rw [View.set_slice_whole, Rect.mem_set_unit]
  intro a
  match a with
  | ⟨0, _⟩ =>
    show win0_9.index t 0 * 256 ≤ (i 0 : Nat) ∧ (i 0 : Nat) < win0_9.index t 0 * 256 + 256
    rw [e0, ht]
    omega
  | ⟨1, _⟩ =>
    show win0_9.index t 1 * 128 ≤ (i 1 : Nat) ∧ (i 1 : Nat) < win0_9.index t 1 * 128 + 128
    rw [e1]
    omega

theorem final9 (c : Dev nD) : (dats m 0 c).arrAt 9 cfg0.N = G9 m c :=
  (dats m 0 c).arrAt_eq_of_cover 9 (G9 m c) (fun t _ => flushed9 m c t) fun i => cover9 i

end Cert.Proof.Inproj

end
-- ==== Proof.ClaimsProj.lean ====
/-
  The claims about the input and the output projection: their frames, and that they agree with their references.
-/
module

public import proofs.«01_k».proof.Defs
public import proofs.«01_k».proof.Proof.Outproj
public import proofs.«01_k».proof.Proof.Inproj
public import proofs.«01_k».proof.Proof.Gen.Kernel3.Frame
public import proofs.«01_k».proof.Proof.Gen.Kernel4.Frame
public import Idealize.ShloMosaic.Lib.Quiescent

@[expose] public section

noncomputable section

namespace Cert.Proof

open Idealize.ShloMosaic Idealize.ShloMosaic.TcCoe Idealize.SL.Sem

theorem frame_k3 : Cert.quiescent_Kernel3 (hKernel3 := Cert.Kernel3.Gen.facts) := fun m g _ => Cert.Kernel3.Gen.frame m g

theorem frame_ki3 : Cert.quiescent_Kernel3Ideal (hKernel3Ideal := Cert.Kernel3Ideal.Gen.facts) := fun m g _ => Cert.Kernel3Ideal.Gen.frame m g

theorem frame_ri3 : Cert.quiescent_Reference3Ideal (hReference3Ideal := Cert.Reference3Ideal.Gen.facts) := fun m g _ =>
  (θ_run (Cert.Reference3Ideal.defs (F := Ideal)) _ _).mono (fun r h => ⟨fun c => (h c).2.2.2.2.2, sem_eq_zero_of_no_sems (by decide) r.2⟩) (Cert.Reference3Ideal.Value.run (F := Ideal) m g)

/-- From equal arguments the kernel's result arrays and the reference's are equal. -/
theorem algebraic3 : Cert.algebraic_Kernel3Ideal_Reference3Ideal (hKernel3Ideal := Cert.Kernel3Ideal.Gen.facts) (hReference3Ideal := Cert.Reference3Ideal.Gen.facts) := by
  intro m g m' g' _ hargs
  refine ⟨fun c => Inproj.G5 m c, fun c => Inproj.G6 m c, fun c => Inproj.G7 m c, fun c => Inproj.G8 m c, fun c => Inproj.G9 m c,
    (θ_run (Cert.Kernel3Ideal.defs (F := Ideal)) _ _).mono (fun r h c => ?_) (Cert.Kernel3Ideal.Value.run_blocks (F := Ideal) m g), ?_⟩
  · obtain ⟨p0, p1, p2, p3, p4, hk⟩ := h c
    exact ⟨p0.trans (Inproj.final5 m c), p1.trans (Inproj.final6 m c), p2.trans (Inproj.final7 m c), p3.trans (Inproj.final8 m c), p4.trans (Inproj.final9 m c), hk⟩
  · refine (θ_run (Cert.Reference3Ideal.defs (F := Ideal)) _ _).mono (fun r h c => ?_) (Cert.Reference3Ideal.Value.run (F := Ideal) m' g')
    obtain ⟨p0, p1, p2, p3, p4, hk⟩ := h c
    obtain ⟨h0, h1, h2, h3, h4⟩ := hargs c
    refine ⟨p0.trans ?_, p1.trans ?_, p2.trans ?_, p3.trans ?_, p4.trans ?_, hk⟩
    · refine (Cert.Reference3Ideal.Read.val_main_v26_eq ..).trans ?_
      rw [h0, h1, h2, h3, h4]
    · refine (Cert.Reference3Ideal.Read.val_main_v27_eq ..).trans ?_
      rw [h0, h1, h2, h3, h4]
    · refine (Cert.Reference3Ideal.Read.val_main_v28_eq ..).trans ?_
      rw [h0, h1, h2, h3, h4]
    · refine (Cert.Reference3Ideal.Read.val_main_v29_eq ..).trans ?_
      rw [h0, h1, h2, h3, h4]
    · refine (Cert.Reference3Ideal.Read.val_main_v25_eq ..).trans ?_
      rw [h0, h1, h2, h3, h4]

theorem frame_k4 : Cert.quiescent_Kernel4 (hKernel4 := Cert.Kernel4.Gen.facts) := fun m g _ => Cert.Kernel4.Gen.frame m g

theorem frame_ki4 : Cert.quiescent_Kernel4Ideal (hKernel4Ideal := Cert.Kernel4Ideal.Gen.facts) := fun m g _ => Cert.Kernel4Ideal.Gen.frame m g

theorem frame_ri4 : Cert.quiescent_Reference4Ideal (hReference4Ideal := Cert.Reference4Ideal.Gen.facts) := fun m g _ =>
  (θ_run (Cert.Reference4Ideal.defs (F := Ideal)) _ _).mono (fun r h => ⟨fun c => (h c).2.2, sem_eq_zero_of_no_sems (by decide) r.2⟩) (Cert.Reference4Ideal.Value.run (F := Ideal) m g)

/-- From equal arguments the kernel's result arrays and the reference's are equal. -/
theorem algebraic4 : Cert.algebraic_Kernel4Ideal_Reference4Ideal (hKernel4Ideal := Cert.Kernel4Ideal.Gen.facts) (hReference4Ideal := Cert.Reference4Ideal.Gen.facts) := by
  intro m g m' g' _ hargs
  refine ⟨fun c => Outproj.G8 m c, fun c => Outproj.G9 m c,
    (θ_run (Cert.Kernel4Ideal.defs (F := Ideal)) _ _).mono (fun r h c => ?_) (Cert.Kernel4Ideal.Value.run_blocks (F := Ideal) m g), ?_⟩
  · obtain ⟨p0, p1, hk⟩ := h c
    exact ⟨p0.trans (Outproj.final8 m c), p1.trans (Outproj.final9 m c), hk⟩
  · refine (θ_run (Cert.Reference4Ideal.defs (F := Ideal)) _ _).mono (fun r h c => ?_) (Cert.Reference4Ideal.Value.run (F := Ideal) m' g')
    obtain ⟨p0, p1, hk⟩ := h c
    obtain ⟨h0, h1, h2, h3, h4, h5, h6, h7⟩ := hargs c
    refine ⟨p0.trans ?_, p1.trans ?_, hk⟩
    · refine (Cert.Reference4Ideal.Read.val_main_v29_eq ..).trans ?_
      rw [h0, h1, h2, h3, h4]
    · refine (Cert.Reference4Ideal.Read.val_main_v31_eq ..).trans ?_
      rw [h0, h1, h2, h3, h4, h5, h6, h7]

end Cert.Proof

end
-- ==== Proof.InprojS.lean ====
/-
  The value of the first norm and the combined projection on the samples (`Kernel5Ideal`) in exact arithmetic: every row of the five result
  arrays is the reference's row.
-/
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit.Tiles
public import Idealize.ShloMosaic.Lib.StableHlo.ReadAt

@[expose] public section

set_option maxRecDepth 16384

noncomputable section

namespace Cert.Proof.InprojS

open Idealize.ShloMosaic Idealize.ShloMosaic.TcCoe Idealize.SL.Sem
open Cert.Kernel5Ideal Cert.Kernel5Ideal.Gen
open Cert.Reference5Ideal.Read
open Idealize.ShloMosaic.Pipeline (Dat)

/-! ## One row of a block -/

/-- An entry of a block's projection: the normalised row against one column of the padded weights. -/
abbrev zb (h : FVec Ideal S32x2048 .bf16) (w : Vec Ideal S2048x5120 .bf16) (r : Fin 32) (q : Fin 5120) : EReal :=
  ∑ k : Fin 2048, h (ix2 r k) * w (ix2 k q)

/-- A load of 512 columns of the weights from column `o` on, at an index. -/
theorem ld_cols (w : Vec Ideal S2048x5120 .bf16) (o : Nat) (ho : o + 512 ≤ 5120) (inb : ∀ a, (![0, o] : Fin 2 → Nat) a + S2048x512.size a ≤ S2048x5120.size a)
    (k : Fin 2048) (l : Fin 512) :
    View.ld w (Rect.unit (s := S2048x5120) ![0, o] S2048x512.size inb) (ix2 k l) = w (ix2 k (⟨o + l.val, by omega⟩ : Fin 5120)) :=
  View.ld_unit_apply_of w _ _ inb (ix2 k l) (ix2 k (⟨o + l.val, by omega⟩ : Fin 5120)) fun a => by
    match a with
    | ⟨0, _⟩ => show k.val = 0 + k.val; omega
    | ⟨1, _⟩ => rfl

theorem pay1_at (h : FVec Ideal S32x2048 .bf16) (w : Vec Ideal S2048x512 .bf16) (r : Fin 32) (l : Fin 512) :
    k0_pay1 h w (ix2 r l) = ∑ k : Fin 2048, h (ix2 r k) * w (ix2 k l) := by
  unfold k0_pay1
  pointwise

theorem pay6_at (h : FVec Ideal S32x2048 .bf16) (w : Vec Ideal S2048x512 .bf16) (r : Fin 32) (l : Fin 512) :
    k0_pay6 h w (ix2 r l) = ∑ k : Fin 2048, h (ix2 r k) * w (ix2 k l) := by
  unfold k0_pay6
  pointwise

theorem pay7_at (h : FVec Ideal S32x2048 .bf16) (w : Vec Ideal S2048x512 .bf16) (r : Fin 32) (l : Fin 512) :
    k0_pay7 h w (ix2 r l) = ∑ k : Fin 2048, h (ix2 r k) * w (ix2 k l) := by
  unfold k0_pay7
  pointwise

theorem pay8_at (h : FVec Ideal S32x2048 .bf16) (w : Vec Ideal S2048x512 .bf16) (r : Fin 32) (l : Fin 512) :
    k0_pay8 h w (ix2 r l) = ∑ k : Fin 2048, h (ix2 r k) * w (ix2 k l) := by
  unfold k0_pay8
  pointwise

theorem pay9_at (h : FVec Ideal S32x2048 .bf16) (w : Vec Ideal S2048x512 .bf16) (r : Fin 32) (l : Fin 512) :
    k0_pay9 h w (ix2 r l) = ∑ k : Fin 2048, h (ix2 r k) * w (ix2 k l) := by
  unfold k0_pay9
  pointwise

theorem pay10_at (h : FVec Ideal S32x2048 .bf16) (w : Vec Ideal S2048x512 .bf16) (r : Fin 32) (l : Fin 512) :
    k0_pay10 h w (ix2 r l) = ∑ k : Fin 2048, h (ix2 r k) * w (ix2 k l) := by
  unfold k0_pay10
  pointwise

theorem pay11_at (h : FVec Ideal S32x2048 .bf16) (w : Vec Ideal S2048x512 .bf16) (r : Fin 32) (l : Fin 512) :
    k0_pay11 h w (ix2 r l) = ∑ k : Fin 2048, h (ix2 r k) * w (ix2 k l) := by
  unfold k0_pay11
  pointwise

theorem pay2_at (h : FVec Ideal S32x2048 .bf16) (w : Vec Ideal S2048x512 .bf16) (r : Fin 32) (l : Fin 128) :
    k0_pay2 h w (ix2 r l) = ∑ k : Fin 2048, h (ix2 r k) * w (ix2 k (⟨l.val, by omega⟩ : Fin 512)) := by
  unfold k0_pay2
  pointwise

theorem pay4_at (x : Vec Ideal S32x2048 .f32) (g : Vec Ideal S1x2048 .f32) (sc sh : Vec Ideal S1x32x2048 .f32) (w : Vec Ideal S2048x512 .bf16)
    (r : Fin 32) (l : Fin 512) :
    k0_pay4 x g sc sh w (ix2 r l) = ∑ k : Fin 2048, k0_pay3 x g sc sh (ix2 r k) * w (ix2 k l) := by
  unfold k0_pay4
  pointwise

theorem pay5_at (x : Vec Ideal S32x2048 .f32) (g : Vec Ideal S1x2048 .f32) (sc sh : Vec Ideal S1x32x2048 .f32) (w : Vec Ideal S2048x512 .bf16)
    (r : Fin 32) (l : Fin 512) :
    k0_pay5 x g sc sh w (ix2 r l) = ∑ k : Fin 2048, k0_pay3 x g sc sh (ix2 r k) * w (ix2 k l) := by
  unfold k0_pay5
  pointwise

section Row

variable (X0 : (⟨S32x2048, .f32⟩ : BufTy).Contents (Elt Ideal)) (X1 X2 : (⟨⟨3, ![1, 32, 2048]⟩, .f32⟩ : BufTy).Contents (Elt Ideal))
  (X3 : (⟨⟨2, ![1, 2048]⟩, .f32⟩ : BufTy).Contents (Elt Ideal)) (X4 : (⟨⟨3, ![1, 2048, 4656]⟩, .f32⟩ : BufTy).Contents (Elt Ideal))
  (x0 : Vec Ideal S32x2048 .f32) (x1 x2 : Vec Ideal S1x32x2048 .f32) (x3 : Vec Ideal S1x2048 .f32) (x4 : Vec Ideal S2048x5120 .bf16)
  (r : Fin 32) (R : Fin 32)

/-- The normalised and modulated row. -/
theorem h_row (h0 : ∀ l : Fin 2048, x0 (ix2 r l) = X0 (ix2 R l))
    (h1 : ∀ l : Fin 2048, x1 (ix3 (0 : Fin 1) r l) = X1 (ix3 (0 : Fin 1) R l))
    (h2 : ∀ l : Fin 2048, x2 (ix3 (0 : Fin 1) r l) = X2 (ix3 (0 : Fin 1) R l))
    (h3 : ∀ l : Fin 2048, x3 (ix2 (0 : Fin 1) l) = X3 (ix2 (0 : Fin 1) l)) (l : Fin 2048) :
    k0_pay3 x0 x3 x1 x2 (ix2 r l) = val_main_v20 X0 X1 X2 X3 (ix3 R (0 : Fin 1) l) := by
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  unfold_payloads
  pointwise
  simp only [h0, h1, h2, h3]

/-- The padding value: the integer zero, converted. -/
theorem sitofp_zero : (FloatOps.sitofp (F := Ideal) .f32 (0#32) : EReal) = 0 := by
  show ((((0#32 : BitVec 32).toInt : ℝ)) : EReal) = 0
  simp

/-- The reference's projection at an index. -/
theorem z_ref (R : Fin 32) (q : Fin 4656) :
    val_main_v23 X0 X1 X2 X3 X4 (ix2 R q)
      = ∑ k : Fin 2048, val_main_v20 X0 X1 X2 X3 (ix3 R (0 : Fin 1) k) * X4 (ix3 (0 : Fin 1) k q) := by
  unfold val_main_v23 val_main_v22 val_main_v21
  pointwise

end Row

variable (m : (ℓ : Loc nD τ sig) → Buf (Elt Ideal) ℓ)

/-! ## The windows' blocks -/

/-- Where each window's block stands at each point. -/
theorem idx_facts : ∀ t : Fin cfg0.N,
    (win0_0.index t 0 = t.val ∧ win0_0.index t 1 = 0)
    ∧ (win0_1.index t 0 = 0 ∧ win0_1.index t 1 = 0 ∧ win0_1.index t 2 = 0)
    ∧ (win0_2.index t 0 = 0 ∧ win0_2.index t 1 = 0 ∧ win0_2.index t 2 = 0)
    ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) :=
  (by decide +kernel : ∀ t : Fin grid0.N, _)

/-- The array row under row `r` of block `t`. -/
abbrev row (t : Fin cfg0.N) (r : Fin 32) : Fin 32 := ⟨32 * t.val + r.val, by have h : t.val < 1 := t.isLt; omega⟩

theorem blk0 (c : Dev nD) (t : Fin cfg0.N) (r : Fin 32) (l : Fin 2048) :
    (iblk m c 0 t : Vec Ideal S32x2048 .f32) (ix2 r l) = m ((c : Thread nD τ).loc main_arg0) (ix2 (row t r) l) := by
  obtain ⟨⟨e0, e1⟩, -⟩ := idx_facts t
  unfold iblk
  rw [View.read_apply]
  have hi : ((cfg0.win 0).blk t).view.emb (ix2 r l) = (ix2 (row t r) l) := by
    funext a
    apply Fin.ext
    match a with
    | ⟨0, _⟩ => show win0_0.index t 0 * 32 + 1 * (r.val : Nat) = 32 * t.val + r.val; rw [e0] <;> omega
    | ⟨1, _⟩ => show win0_0.index t 1 * 2048 + 1 * (l.val : Nat) = l.val; rw [e1] <;> omega
  rw [hi]
  show V m c main_arg0 (ix2 (row t r) l) = _
  rw [V_main_arg0]

theorem blk1 (c : Dev nD) (t : Fin cfg0.N) (r : Fin 32) (l : Fin 2048) :
    (iblk m c 1 t : Vec Ideal S1x32x2048 .f32) (ix3 (0 : Fin 1) r l) = m ((c : Thread nD τ).loc main_arg1) (ix3 (0 : Fin 1) (row t r) l) := by
  obtain ⟨-, ⟨e0, e1, e2⟩, -⟩ := idx_facts t
  unfold iblk
  rw [View.read_apply]
  have hi : ((cfg0.win 1).blk t).view.emb (ix3 (0 : Fin 1) r l) = (ix3 (0 : Fin 1) (row t r) l) := by
    funext a
    apply Fin.ext
    match a with
    | ⟨0, _⟩ => show win0_1.index t 0 * 1 + 1 * (0 : Nat) = 0; rw [e0]
    | ⟨1, _⟩ => show win0_1.index t 1 * 32 + 1 * (r.val : Nat) = 32 * t.val + r.val; have ht : t.val < 1 := t.isLt; rw [e1] <;> omega
    | ⟨2, _⟩ => show win0_1.index t 2 * 2048 + 1 * (l.val : Nat) = l.val; rw [e2] <;> omega
  rw [hi]
  show V m c main_arg1 (ix3 (0 : Fin 1) (row t r) l) = _
  rw [V_main_arg1]

theorem blk2 (c : Dev nD) (t : Fin cfg0.N) (r : Fin 32) (l : Fin 2048) :
    (iblk m c 2 t : Vec Ideal S1x32x2048 .f32) (ix3 (0 : Fin 1) r l) = m ((c : Thread nD τ).loc main_arg2) (ix3 (0 : Fin 1) (row t r) l) := by
  obtain ⟨-, -, ⟨e0, e1, e2⟩, -⟩ := idx_facts t
  unfold iblk
  rw [View.read_apply]
  have hi : ((cfg0.win 2).blk t).view.emb (ix3 (0 : Fin 1) r l) = (ix3 (0 : Fin 1) (row t r) l) := by
    funext a
    apply Fin.ext
    match a with
    | ⟨0, _⟩ => show win0_2.index t 0 * 1 + 1 * (0 : Nat) = 0; rw [e0]
    | ⟨1, _⟩ => show win0_2.index t 1 * 32 + 1 * (r.val : Nat) = 32 * t.val + r.val; have ht : t.val < 1 := t.isLt; rw [e1] <;> omega
    | ⟨2, _⟩ => show win0_2.index t 2 * 2048 + 1 * (l.val : Nat) = l.val; rw [e2] <;> omega
  rw [hi]
  show V m c main_arg2 (ix3 (0 : Fin 1) (row t r) l) = _
  rw [V_main_arg2]

theorem blk3 (c : Dev nD) (t : Fin cfg0.N) (l : Fin 2048) :
    (iblk m c 3 t : Vec Ideal S1x2048 .f32) (ix2 (0 : Fin 1) l) = m ((c : Thread nD τ).loc main_arg3) (ix2 (0 : Fin 1) l) := by
  obtain ⟨-, -, -, ⟨e0, e1⟩, -⟩ := idx_facts t
  unfold iblk
  rw [View.read_apply]
  have hi : ((cfg0.win 3).blk t).view.emb (ix2 (0 : Fin 1) l) = (ix2 (0 : Fin 1) l) := by
    funext a
    apply Fin.ext
    match a with
    | ⟨0, _⟩ => show win0_3.index t 0 * 1 + 1 * (0 : Nat) = 0; rw [e0] <;> omega
    | ⟨1, _⟩ => show win0_3.index t 1 * 2048 + 1 * (l.val : Nat) = l.val; rw [e1] <;> omega
  rw [hi]
  show V m c main_v4 (ix2 (0 : Fin 1) l) = _
  unfold V hostOps0
  after_reads_at

theorem blk4 (c : Dev nD) (t : Fin cfg0.N) (k : Fin 2048) (q : Fin 5120) :
    (iblk m c 4 t : Vec Ideal S2048x5120 .bf16) (ix2 k q) = if h : q.val < 4656 then m ((c : Thread nD τ).loc main_arg4) (ix3 (0 : Fin 1) k (⟨q.val, h⟩ : Fin 4656)) else (0 : EReal) := by
  obtain ⟨-, -, -, -, ⟨e0, e1⟩, -⟩ := idx_facts t
  unfold iblk
  rw [View.read_apply]
  have hi : ((cfg0.win 4).blk t).view.emb (ix2 k q) = (ix2 k q) := by
    funext a
    apply Fin.ext
    match a with
    | ⟨0, _⟩ => show win0_4.index t 0 * 2048 + 1 * (k.val : Nat) = k.val; rw [e0] <;> omega
    | ⟨1, _⟩ => show win0_4.index t 1 * 5120 + 1 * (q.val : Nat) = q.val; rw [e1] <;> omega
  rw [hi]
  show V m c main_v2 (ix2 k q) = _
  unfold V hostOps0
  after_reads_at
  simp only [sitofp_zero]

/-! ## The result arrays -/

theorem z2 : (![0, 0] : Fin 2 → Nat) = fun _ => 0 := funext fun a => by fin_cases a <;> rfl
theorem z3 : (![0, 0, 0] : Fin 3 → Nat) = fun _ => 0 := funext fun a => by fin_cases a <;> rfl

theorem ix_exhaust {a b : Nat} (j : (⟨2, ![a, b]⟩ : Shape).Idx) : ∃ (r : Fin a) (l : Fin b), j = ix2 r l :=
  ⟨j 0, j 1, funext fun d => by fin_cases d <;> rfl⟩

/-- The rows of block `t` after the norm. -/
abbrev hblk (c : Dev nD) (t : Fin cfg0.N) : FVec Ideal S32x2048 .bf16 := k0_pay3 (iblk m c 0 t) (iblk m c 3 t) (iblk m c 1 t) (iblk m c 2 t)

/-- The reference's projection of the arguments. -/
abbrev zref (c : Dev nD) : (⟨2, ![32, 4656]⟩ : Shape).Idx → EReal := val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- An entry of a block's projection below the padding is the reference's. -/
theorem z_blk (c : Dev nD) (t : Fin cfg0.N) (r : Fin 32) (q : Fin 5120) (hq : q.val < 4656) :
    zb (hblk m c t) (iblk m c 4 t) r q = zref m c (ix2 (row t r) (⟨q.val, hq⟩ : Fin 4656)) := by
  unfold zref
  rw [z_ref]
  refine Finset.sum_congr rfl fun k _ => ?_
  rw [blk4, dif_pos hq]
  rw [show hblk m c t (ix2 r k) = _ from h_row _ _ _ _ _ _ _ _ r (row t r) (blk0 m c t r) (blk1 m c t r) (blk2 m c t r) (blk3 m c t) k]

/-- In the padding it is zero. -/
theorem z_pad (c : Dev nD) (t : Fin cfg0.N) (r : Fin 32) (q : Fin 5120) (hq : ¬ q.val < 4656) :
    zb (hblk m c t) (iblk m c 4 t) r q = 0 := by
  refine Finset.sum_eq_zero fun k _ => ?_
  rw [blk4, dif_neg hq, mul_zero]

theorem flush_all5 : ∀ t : Fin cfg0.N, (cfg0.win 5).flush t = true := (by decide +kernel : ∀ t : Fin grid0.N, win0_5.flush t = true)

abbrev G5 (c : Dev nD) : S32x3072.Idx → EReal := val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem G5_at (c : Dev nD) (R : Fin 32) (l : Fin 3072) : G5 m c (ix2 R l) = zref m c (ix2 R (⟨0 + l.val, by omega⟩ : Fin 4656)) := by
  unfold G5 val_main_v26 zref
  generalize val_main_v23 (F := Ideal) _ _ _ _ _ = z
  pointwise

theorem tile9 (c : Dev nD) (t : Fin cfg0.N) (r : Fin 32) (l : Fin 3072) :
    View.TileAt (Val := Elt Ideal) (e := .f32) (S := S32x3072) (ix2 r l) ![0, 2560] S32x512.size (k0_pay9 (hblk m c t) (View.ld (iblk m c 4 t : Vec Ideal S2048x5120 .bf16) r0_13))
      (zb (hblk m c t) (iblk m c 4 t) r (⟨l.val, by omega⟩ : Fin 5120)) := by
  intro x hx
  obtain ⟨r', l', rfl⟩ := (ix_exhaust x : ∃ (r : Fin 32) (l : Fin 512), x = ix2 r l)
  have h0 : r.val = 0 + r'.val := hx 0
  have h1 : l.val = 2560 + l'.val := hx 1
  obtain rfl : r = r' := Fin.ext (by omega)
  rw [pay9_at]
  refine Finset.sum_congr rfl fun k _ => ?_
  rw [ld_cols _ 2560 (by omega)]
  rw [show (⟨l.val, by omega⟩ : Fin 5120) = ⟨2560 + l'.val, by omega⟩ from Fin.ext h1]

theorem tile8 (c : Dev nD) (t : Fin cfg0.N) (r : Fin 32) (l : Fin 3072) :
    View.TileAt (Val := Elt Ideal) (e := .f32) (S := S32x3072) (ix2 r l) ![0, 2048] S32x512.size (k0_pay8 (hblk m c t) (View.ld (iblk m c 4 t : Vec Ideal S2048x5120 .bf16) r0_11))
      (zb (hblk m c t) (iblk m c 4 t) r (⟨l.val, by omega⟩ : Fin 5120)) := by
  intro x hx
  obtain ⟨r', l', rfl⟩ := (ix_exhaust x : ∃ (r : Fin 32) (l : Fin 512), x = ix2 r l)
  have h0 : r.val = 0 + r'.val := hx 0
  have h1 : l.val = 2048 + l'.val := hx 1
  obtain rfl : r = r' := Fin.ext (by omega)
  rw [pay8_at]
  refine Finset.sum_congr rfl fun k _ => ?_
  rw [ld_cols _ 2048 (by omega)]
  rw [show (⟨l.val, by omega⟩ : Fin 5120) = ⟨2048 + l'.val, by omega⟩ from Fin.ext h1]

theorem tile7 (c : Dev nD) (t : Fin cfg0.N) (r : Fin 32) (l : Fin 3072) :
    View.TileAt (Val := Elt Ideal) (e := .f32) (S := S32x3072) (ix2 r l) ![0, 1536] S32x512.size (k0_pay7 (hblk m c t) (View.ld (iblk m c 4 t : Vec Ideal S2048x5120 .bf16) r0_9))
      (zb (hblk m c t) (iblk m c 4 t) r (⟨l.val, by omega⟩ : Fin 5120)) := by
  intro x hx
  obtain ⟨r', l', rfl⟩ := (ix_exhaust x : ∃ (r : Fin 32) (l : Fin 512), x = ix2 r l)
  have h0 : r.val = 0 + r'.val := hx 0
  have h1 : l.val = 1536 + l'.val := hx 1
  obtain rfl : r = r' := Fin.ext (by omega)
  rw [pay7_at]
  refine Finset.sum_congr rfl fun k _ => ?_
  rw [ld_cols _ 1536 (by omega)]
  rw [show (⟨l.val, by omega⟩ : Fin 5120) = ⟨1536 + l'.val, by omega⟩ from Fin.ext h1]

theorem tile6 (c : Dev nD) (t : Fin cfg0.N) (r : Fin 32) (l : Fin 3072) :
    View.TileAt (Val := Elt Ideal) (e := .f32) (S := S32x3072) (ix2 r l) ![0, 1024] S32x512.size (k0_pay6 (hblk m c t) (View.ld (iblk m c 4 t : Vec Ideal S2048x5120 .bf16) r0_7))
      (zb (hblk m c t) (iblk m c 4 t) r (⟨l.val, by omega⟩ : Fin 5120)) := by
  intro x hx
  obtain ⟨r', l', rfl⟩ := (ix_exhaust x : ∃ (r : Fin 32) (l : Fin 512), x = ix2 r l)
  have h0 : r.val = 0 + r'.val := hx 0
  have h1 : l.val = 1024 + l'.val := hx 1
  obtain rfl : r = r' := Fin.ext (by omega)
  rw [pay6_at]
  refine Finset.sum_congr rfl fun k _ => ?_
  rw [ld_cols _ 1024 (by omega)]
  rw [show (⟨l.val, by omega⟩ : Fin 5120) = ⟨1024 + l'.val, by omega⟩ from Fin.ext h1]

theorem tile5 (c : Dev nD) (t : Fin cfg0.N) (r : Fin 32) (l : Fin 3072) :
    View.TileAt (Val := Elt Ideal) (e := .f32) (S := S32x3072) (ix2 r l) ![0, 512] S32x512.size (k0_pay5 (iblk m c 0 t) (iblk m c 3 t) (iblk m c 1 t) (iblk m c 2 t) (View.ld (iblk m c 4 t : Vec Ideal S2048x5120 .bf16) r0_5))
      (zb (hblk m c t) (iblk m c 4 t) r (⟨l.val, by omega⟩ : Fin 5120)) := by
  intro x hx
  obtain ⟨r', l', rfl⟩ := (ix_exhaust x : ∃ (r : Fin 32) (l : Fin 512), x = ix2 r l)
  have h0 : r.val = 0 + r'.val := hx 0
  have h1 : l.val = 512 + l'.val := hx 1
  obtain rfl : r = r' := Fin.ext (by omega)
  rw [pay5_at]
  refine Finset.sum_congr rfl fun k _ => ?_
  rw [ld_cols _ 512 (by omega)]
  rw [show (⟨l.val, by omega⟩ : Fin 5120) = ⟨512 + l'.val, by omega⟩ from Fin.ext h1]

theorem tile4 (c : Dev nD) (t : Fin cfg0.N) (r : Fin 32) (l : Fin 3072) :
    View.TileAt (Val := Elt Ideal) (e := .f32) (S := S32x3072) (ix2 r l) ![0, 0] S32x512.size (k0_pay4 (iblk m c 0 t) (iblk m c 3 t) (iblk m c 1 t) (iblk m c 2 t) (View.ld (iblk m c 4 t : Vec Ideal S2048x5120 .bf16) r0_3))
      (zb (hblk m c t) (iblk m c 4 t) r (⟨l.val, by omega⟩ : Fin 5120)) := by
  intro x hx
  obtain ⟨r', l', rfl⟩ := (ix_exhaust x : ∃ (r : Fin 32) (l : Fin 512), x = ix2 r l)
  have h0 : r.val = 0 + r'.val := hx 0
  have h1 : l.val = 0 + l'.val := hx 1
  obtain rfl : r = r' := Fin.ext (by omega)
  rw [pay4_at]
  refine Finset.sum_congr rfl fun k _ => ?_
  rw [ld_cols _ 0 (by omega)]
  rw [show (⟨l.val, by omega⟩ : Fin 5120) = ⟨0 + l'.val, by omega⟩ from Fin.ext h1]

theorem flushed5 (c : Dev nD) (t : Fin cfg0.N) :
    (dats m 0 c).flushed 5 t = ((cfg0.win 5).blk t).view.read (Elt Ideal) (G5 m c) := by
  rw [Cert.Kernel5Ideal.Value.flushed5]
  obtain ⟨-, -, -, -, -, ⟨e0, e1⟩, -⟩ := idx_facts t
  funext j
  obtain ⟨r, l, rfl⟩ := (ix_exhaust j : ∃ (r : Fin 32) (l : Fin 3072), j = ix2 r l)
  rw [View.read_apply]
  have hi : ((cfg0.win 5).blk t).view.emb (ix2 r l) = ix2 (row t r) l := by
    funext a
    apply Fin.ext
    match a with
    | ⟨0, _⟩ => show win0_5.index t 0 * 32 + 1 * (r.val : Nat) = 32 * t.val + r.val; rw [e0]; omega
    | ⟨1, _⟩ => show win0_5.index t 1 * 3072 + 1 * (l.val : Nat) = l.val; rw [e1]; omega
  rw [hi]
  show out0_5 (F := Ideal) _ _ _ _ _ (ix2 r l) = G5 m c (ix2 (row t r) l)
  unfold_out out0_5
  simp only [View.ld_unit_zero (S := S32x2048) z2, View.ld_unit_zero (S := S1x2048) z2, View.ld_unit_zero (S := S1x32x2048) z3]
  refine Eq.trans (View.canon_eq_of_allAt _ _ (zb (hblk m c t) (iblk m c 4 t) r (⟨l.val, by omega⟩ : Fin 5120)) (View.cover_of_tiled_head _ _ _ rfl _) (View.allAt_cons_unit _ _ _ _ _ (tile9 m c t r l) (View.allAt_cons_unit _ _ _ _ _ (tile8 m c t r l) (View.allAt_cons_unit _ _ _ _ _ (tile7 m c t r l) (View.allAt_cons_unit _ _ _ _ _ (tile6 m c t r l) (View.allAt_cons_unit _ _ _ _ _ (tile5 m c t r l) (View.allAt_cons_unit _ _ _ _ _ (tile4 m c t r l) (View.allAt_nil _ _)))))))) ?_
  rw [z_blk m c t r _ (by show l.val < 4656; omega), G5_at]
  congr 2
  exact Fin.ext (by show l.val = 0 + l.val; omega)

/-- Every index of the array lies in the block of the point its row belongs to. -/
theorem cover5 (i : S32x3072.Idx) : ∃ t : Fin cfg0.N, (cfg0.win 5).flush t = true ∧ i ∈ ((cfg0.win 5).blk t).view.set := by
  have h0 : (i 0 : Nat) < 32 := (i 0).isLt
  have h1 : (i 1 : Nat) < 3072 := (i 1).isLt
  obtain ⟨t, ht⟩ : ∃ t : Fin cfg0.N, t.val = (i 0 : Nat) / 32 := ⟨(⟨(i 0 : Nat) / 32, by omega⟩ : Fin 1), rfl⟩
  refine ⟨t, flush_all5 t, ?_⟩
  obtain ⟨-, -, -, -, -, ⟨e0, e1⟩, -⟩ := idx_facts t
  show i ∈ ((View.whole main_v5_0).slice (win0_5.rect t)).set
  rw [View.set_slice_whole, Rect.mem_set_unit]
  intro a
  match a with
  | ⟨0, _⟩ =>
    show win0_5.index t 0 * 32 ≤ (i 0 : Nat) ∧ (i 0 : Nat) < win0_5.index t 0 * 32 + 32
    rw [e0, ht]
    omega
  | ⟨1, _⟩ =>
    show win0_5.index t 1 * 3072 ≤ (i 1 : Nat) ∧ (i 1 : Nat) < win0_5.index t 1 * 3072 + 3072
    rw [e1]
    omega

theorem final5 (c : Dev nD) : (dats m 0 c).arrAt 5 cfg0.N = G5 m c :=
  (dats m 0 c).arrAt_eq_of_cover 5 (G5 m c) (fun t _ => flushed5 m c t) fun i => cover5 i

theorem flush_all6 : ∀ t : Fin cfg0.N, (cfg0.win 6).flush t = true := (by decide +kernel : ∀ t : Fin grid0.N, win0_6.flush t = true)

abbrev G6 (c : Dev nD) : S32x512.Idx → EReal := val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem G6_at (c : Dev nD) (R : Fin 32) (l : Fin 512) : G6 m c (ix2 R l) = zref m c (ix2 R (⟨3072 + l.val, by omega⟩ : Fin 4656)) := by
  unfold G6 val_main_v27 zref
  generalize val_main_v23 (F := Ideal) _ _ _ _ _ = z
  pointwise

theorem flushed6 (c : Dev nD) (t : Fin cfg0.N) :
    (dats m 0 c).flushed 6 t = ((cfg0.win 6).blk t).view.read (Elt Ideal) (G6 m c) := by
  rw [Cert.Kernel5Ideal.Value.flushed6]
  obtain ⟨-, -, -, -, -, -, ⟨e0, e1⟩, -⟩ := idx_facts t
  funext j
  obtain ⟨r, l, rfl⟩ := (ix_exhaust j : ∃ (r : Fin 32) (l : Fin 512), j = ix2 r l)
  rw [View.read_apply]
  have hi : ((cfg0.win 6).blk t).view.emb (ix2 r l) = ix2 (row t r) l := by
    funext a
    apply Fin.ext
    match a with
    | ⟨0, _⟩ => show win0_6.index t 0 * 32 + 1 * (r.val : Nat) = 32 * t.val + r.val; rw [e0]; omega
    | ⟨1, _⟩ => show win0_6.index t 1 * 512 + 1 * (l.val : Nat) = l.val; rw [e1]; omega
  rw [hi]
  show out0_6 (F := Ideal) _ _ _ _ _ (ix2 r l) = G6 m c (ix2 (row t r) l)
  unfold_out out0_6
  simp only [View.ld_unit_zero (S := S32x2048) z2, View.ld_unit_zero (S := S1x2048) z2, View.ld_unit_zero (S := S1x32x2048) z3]
  rw [View.canon_unit_zero z2, pay10_at]
  refine (Finset.sum_congr rfl fun k _ => by rw [ld_cols _ 3072 (by omega)]).trans ?_
  refine (z_blk m c t r (⟨3072 + l.val, by omega⟩ : Fin 5120) (by show 3072 + l.val < 4656; omega)).trans ?_
  rw [G6_at]

/-- Every index of the array lies in the block of the point its row belongs to. -/
theorem cover6 (i : S32x512.Idx) : ∃ t : Fin cfg0.N, (cfg0.win 6).flush t = true ∧ i ∈ ((cfg0.win 6).blk t).view.set := by
  have h0 : (i 0 : Nat) < 32 := (i 0).isLt
  have h1 : (i 1 : Nat) < 512 := (i 1).isLt
  obtain ⟨t, ht⟩ : ∃ t : Fin cfg0.N, t.val = (i 0 : Nat) / 32 := ⟨(⟨(i 0 : Nat) / 32, by omega⟩ : Fin 1), rfl⟩
  refine ⟨t, flush_all6 t, ?_⟩
  obtain ⟨-, -, -, -, -, -, ⟨e0, e1⟩, -⟩ := idx_facts t
  show i ∈ ((View.whole main_v5_1).slice (win0_6.rect t)).set
  rw [View.set_slice_whole, Rect.mem_set_unit]
  intro a
  match a with
  | ⟨0, _⟩ =>
    show win0_6.index t 0 * 32 ≤ (i 0 : Nat) ∧ (i 0 : Nat) < win0_6.index t 0 * 32 + 32
    rw [e0, ht]
    omega
  | ⟨1, _⟩ =>
    show win0_6.index t 1 * 512 ≤ (i 1 : Nat) ∧ (i 1 : Nat) < win0_6.index t 1 * 512 + 512
    rw [e1]
    omega

theorem final6 (c : Dev nD) : (dats m 0 c).arrAt 6 cfg0.N = G6 m c :=
  (dats m 0 c).arrAt_eq_of_cover 6 (G6 m c) (fun t _ => flushed6 m c t) fun i => cover6 i

theorem flush_all7 : ∀ t : Fin cfg0.N, (cfg0.win 7).flush t = true := (by decide +kernel : ∀ t : Fin grid0.N, win0_7.flush t = true)

abbrev G7 (c : Dev nD) : S32x512.Idx → EReal := val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem G7_at (c : Dev nD) (R : Fin 32) (l : Fin 512) : G7 m c (ix2 R l) = zref m c (ix2 R (⟨3584 + l.val, by omega⟩ : Fin 4656)) := by
  unfold G7 val_main_v28 zref
  generalize val_main_v23 (F := Ideal) _ _ _ _ _ = z
  pointwise

theorem flushed7 (c : Dev nD) (t : Fin cfg0.N) :
    (dats m 0 c).flushed 7 t = ((cfg0.win 7).blk t).view.read (Elt Ideal) (G7 m c) := by
  rw [Cert.Kernel5Ideal.Value.flushed7]
  obtain ⟨-, -, -, -, -, -, -, ⟨e0, e1⟩, -⟩ := idx_facts t
  funext j
  obtain ⟨r, l, rfl⟩ := (ix_exhaust j : ∃ (r : Fin 32) (l : Fin 512), j = ix2 r l)
  rw [View.read_apply]
  have hi : ((cfg0.win 7).blk t).view.emb (ix2 r l) = ix2 (row t r) l := by
    funext a
    apply Fin.ext
    match a with
    | ⟨0, _⟩ => show win0_7.index t 0 * 32 + 1 * (r.val : Nat) = 32 * t.val + r.val; rw [e0]; omega
    | ⟨1, _⟩ => show win0_7.index t 1 * 512 + 1 * (l.val : Nat) = l.val; rw [e1]; omega
  rw [hi]
  show out0_7 (F := Ideal) _ _ _ _ _ (ix2 r l) = G7 m c (ix2 (row t r) l)
  unfold_out out0_7
  simp only [View.ld_unit_zero (S := S32x2048) z2, View.ld_unit_zero (S := S1x2048) z2, View.ld_unit_zero (S := S1x32x2048) z3]
  rw [View.canon_unit_zero z2, pay11_at]
  refine (Finset.sum_congr rfl fun k _ => by rw [ld_cols _ 3584 (by omega)]).trans ?_
  refine (z_blk m c t r (⟨3584 + l.val, by omega⟩ : Fin 5120) (by show 3584 + l.val < 4656; omega)).trans ?_
  rw [G7_at]

/-- Every index of the array lies in the block of the point its row belongs to. -/
theorem cover7 (i : S32x512.Idx) : ∃ t : Fin cfg0.N, (cfg0.win 7).flush t = true ∧ i ∈ ((cfg0.win 7).blk t).view.set := by
  have h0 : (i 0 : Nat) < 32 := (i 0).isLt
  have h1 : (i 1 : Nat) < 512 := (i 1).isLt
  obtain ⟨t, ht⟩ : ∃ t : Fin cfg0.N, t.val = (i 0 : Nat) / 32 := ⟨(⟨(i 0 : Nat) / 32, by omega⟩ : Fin 1), rfl⟩
  refine ⟨t, flush_all7 t, ?_⟩
  obtain ⟨-, -, -, -, -, -, -, ⟨e0, e1⟩, -⟩ := idx_facts t
  show i ∈ ((View.whole main_v5_2).slice (win0_7.rect t)).set
  rw [View.set_slice_whole, Rect.mem_set_unit]
  intro a
  match a with
  | ⟨0, _⟩ =>
    show win0_7.index t 0 * 32 ≤ (i 0 : Nat) ∧ (i 0 : Nat) < win0_7.index t 0 * 32 + 32
    rw [e0, ht]
    omega
  | ⟨1, _⟩ =>
    show win0_7.index t 1 * 512 ≤ (i 1 : Nat) ∧ (i 1 : Nat) < win0_7.index t 1 * 512 + 512
    rw [e1]
    omega

theorem final7 (c : Dev nD) : (dats m 0 c).arrAt 7 cfg0.N = G7 m c :=
  (dats m 0 c).arrAt_eq_of_cover 7 (G7 m c) (fun t _ => flushed7 m c t) fun i => cover7 i

theorem flush_all8 : ∀ t : Fin cfg0.N, (cfg0.win 8).flush t = true := (by decide +kernel : ∀ t : Fin grid0.N, win0_8.flush t = true)

abbrev G8 (c : Dev nD) : S32x512.Idx → EReal := val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem G8_at (c : Dev nD) (R : Fin 32) (l : Fin 512) : G8 m c (ix2 R l) = zref m c (ix2 R (⟨4096 + l.val, by omega⟩ : Fin 4656)) := by
  unfold G8 val_main_v29 zref
  generalize val_main_v23 (F := Ideal) _ _ _ _ _ = z
  pointwise

theorem flushed8 (c : Dev nD) (t : Fin cfg0.N) :
    (dats m 0 c).flushed 8 t = ((cfg0.win 8).blk t).view.read (Elt Ideal) (G8 m c) := by
  rw [Cert.Kernel5Ideal.Value.flushed8]
  obtain ⟨-, -, -, -, -, -, -, -, ⟨e0, e1⟩, -⟩ := idx_facts t
  funext j
  obtain ⟨r, l, rfl⟩ := (ix_exhaust j : ∃ (r : Fin 32) (l : Fin 512), j = ix2 r l)
  rw [View.read_apply]
  have hi : ((cfg0.win 8).blk t).view.emb (ix2 r l) = ix2 (row t r) l := by
    funext a
    apply Fin.ext
    match a with
    | ⟨0, _⟩ => show win0_8.index t 0 * 32 + 1 * (r.val : Nat) = 32 * t.val + r.val; rw [e0]; omega
    | ⟨1, _⟩ => show win0_8.index t 1 * 512 + 1 * (l.val : Nat) = l.val; rw [e1]; omega
  rw [hi]
  show out0_8 (F := Ideal) _ _ _ _ _ (ix2 r l) = G8 m c (ix2 (row t r) l)
  unfold_out out0_8
  simp only [View.ld_unit_zero (S := S32x2048) z2, View.ld_unit_zero (S := S1x2048) z2, View.ld_unit_zero (S := S1x32x2048) z3]
  rw [View.canon_unit_zero z2, pay1_at]
  refine (Finset.sum_congr rfl fun k _ => by rw [ld_cols _ 4096 (by omega)]).trans ?_
  refine (z_blk m c t r (⟨4096 + l.val, by omega⟩ : Fin 5120) (by show 4096 + l.val < 4656; omega)).trans ?_
  rw [G8_at]

/-- Every index of the array lies in the block of the point its row belongs to. -/
theorem cover8 (i : S32x512.Idx) : ∃ t : Fin cfg0.N, (cfg0.win 8).flush t = true ∧ i ∈ ((cfg0.win 8).blk t).view.set := by
  have h0 : (i 0 : Nat) < 32 := (i 0).isLt
  have h1 : (i 1 : Nat) < 512 := (i 1).isLt
  obtain ⟨t, ht⟩ : ∃ t : Fin cfg0.N, t.val = (i 0 : Nat) / 32 := ⟨(⟨(i 0 : Nat) / 32, by omega⟩ : Fin 1), rfl⟩
  refine ⟨t, flush_all8 t, ?_⟩
  obtain ⟨-, -, -, -, -, -, -, -, ⟨e0, e1⟩, -⟩ := idx_facts t
  show i ∈ ((View.whole main_v5_3).slice (win0_8.rect t)).set
  rw [View.set_slice_whole, Rect.mem_set_unit]
  intro a
  match a with
  | ⟨0, _⟩ =>
    show win0_8.index t 0 * 32 ≤ (i 0 : Nat) ∧ (i 0 : Nat) < win0_8.index t 0 * 32 + 32
    rw [e0, ht]
    omega
  | ⟨1, _⟩ =>
    show win0_8.index t 1 * 512 ≤ (i 1 : Nat) ∧ (i 1 : Nat) < win0_8.index t 1 * 512 + 512
    rw [e1]
    omega

theorem final8 (c : Dev nD) : (dats m 0 c).arrAt 8 cfg0.N = G8 m c :=
  (dats m 0 c).arrAt_eq_of_cover 8 (G8 m c) (fun t _ => flushed8 m c t) fun i => cover8 i

theorem flush_all9 : ∀ t : Fin cfg0.N, (cfg0.win 9).flush t = true := (by decide +kernel : ∀ t : Fin grid0.N, win0_9.flush t = true)

abbrev G9 (c : Dev nD) : S32x128.Idx → EReal := val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem G9_at (c : Dev nD) (R : Fin 32) (l : Fin 128) :
    G9 m c (ix2 R l) = if h : l.val < 48 then zref m c (ix2 R (⟨4608 + l.val, by omega⟩ : Fin 4656)) else (0 : EReal) := by
  unfold G9 val_main_v25 val_main_v24 val_main_call0_v0 val_main_c zref
  generalize val_main_v23 (F := Ideal) _ _ _ _ _ = z
  pointwise
  try simp only [sitofp_zero]

theorem flushed9 (c : Dev nD) (t : Fin cfg0.N) :
    (dats m 0 c).flushed 9 t = ((cfg0.win 9).blk t).view.read (Elt Ideal) (G9 m c) := by
  rw [Cert.Kernel5Ideal.Value.flushed9]
  obtain ⟨-, -, -, -, -, -, -, -, -, ⟨e0, e1⟩⟩ := idx_facts t
  funext j
  obtain ⟨r, l, rfl⟩ := (ix_exhaust j : ∃ (r : Fin 32) (l : Fin 128), j = ix2 r l)
  rw [View.read_apply]
  have hi : ((cfg0.win 9).blk t).view.emb (ix2 r l) = ix2 (row t r) l := by
    funext a
    apply Fin.ext
    match a with
    | ⟨0, _⟩ => show win0_9.index t 0 * 32 + 1 * (r.val : Nat) = 32 * t.val + r.val; rw [e0]; omega
    | ⟨1, _⟩ => show win0_9.index t 1 * 128 + 1 * (l.val : Nat) = l.val; rw [e1]; omega
  rw [hi]
  show out0_9 (F := Ideal) _ _ _ _ _ (ix2 r l) = G9 m c (ix2 (row t r) l)
  unfold_out out0_9
  simp only [View.ld_unit_zero (S := S32x2048) z2, View.ld_unit_zero (S := S1x2048) z2, View.ld_unit_zero (S := S1x32x2048) z3]
  rw [View.canon_unit_zero z2, pay2_at]
  refine (Finset.sum_congr rfl fun k _ => by rw [ld_cols _ 4608 (by omega)]).trans ?_
  rw [G9_at]
  by_cases h : l.val < 48
  · rw [dif_pos h]
    exact z_blk m c t r (⟨4608 + l.val, by omega⟩ : Fin 5120) (by show 4608 + l.val < 4656; omega)
  · rw [dif_neg h]
    exact z_pad m c t r (⟨4608 + l.val, by omega⟩ : Fin 5120) (by show ¬ 4608 + l.val < 4656; omega)

/-- Every index of the array lies in the block of the point its row belongs to. -/
theorem cover9 (i : S32x128.Idx) : ∃ t : Fin cfg0.N, (cfg0.win 9).flush t = true ∧ i ∈ ((cfg0.win 9).blk t).view.set := by
  have h0 : (i 0 : Nat) < 32 := (i 0).isLt
  have h1 : (i 1 : Nat) < 128 := (i 1).isLt
  obtain ⟨t, ht⟩ : ∃ t : Fin cfg0.N, t.val = (i 0 : Nat) / 32 := ⟨(⟨(i 0 : Nat) / 32, by omega⟩ : Fin 1), rfl⟩
  refine ⟨t, flush_all9 t, ?_⟩
  obtain ⟨-, -, -, -, -, -, -, -, -, ⟨e0, e1⟩⟩ := idx_facts t
  show i ∈ ((View.whole main_v5_4).slice (win0_9.rect t)).set
  rw [View.set_slice_whole, Rect.mem_set_unit]
  intro a
  match a with
  | ⟨0, _⟩ =>
    show win0_9.index t 0 * 32 ≤ (i 0 : Nat) ∧ (i 0 : Nat) < win0_9.index t 0 * 32 + 32
    rw [e0, ht]
    omega
  | ⟨1, _⟩ =>
    show win0_9.index t 1 * 128 ≤ (i 1 : Nat) ∧ (i 1 : Nat) < win0_9.index t 1 * 128 + 128
    rw [e1]
    omega

theorem final9 (c : Dev nD) : (dats m 0 c).arrAt 9 cfg0.N = G9 m c :=
  (dats m 0 c).arrAt_eq_of_cover 9 (G9 m c) (fun t _ => flushed9 m c t) fun i => cover9 i

end Cert.Proof.InprojS

end
-- ==== Proof.SampleProj.lean ====
/-
  The claims about the samples' input projection: its frames, and that it agrees with its reference.
-/
module

public import proofs.«01_k».proof.Defs
public import proofs.«01_k».proof.Proof.InprojS
public import proofs.«01_k».proof.Proof.Gen.Kernel5.Frame
public import Idealize.ShloMosaic.Lib.Quiescent

@[expose] public section

noncomputable section

namespace Cert.Proof

open Idealize.ShloMosaic Idealize.ShloMosaic.TcCoe Idealize.SL.Sem

theorem frame_k5 : Cert.quiescent_Kernel5 (hKernel5 := Cert.Kernel5.Gen.facts) := fun m g _ => Cert.Kernel5.Gen.frame m g

theorem frame_ki5 : Cert.quiescent_Kernel5Ideal (hKernel5Ideal := Cert.Kernel5Ideal.Gen.facts) := fun m g _ => Cert.Kernel5Ideal.Gen.frame m g

theorem frame_ri5 : Cert.quiescent_Reference5Ideal (hReference5Ideal := Cert.Reference5Ideal.Gen.facts) := fun m g _ =>
  (θ_run (Cert.Reference5Ideal.defs (F := Ideal)) _ _).mono (fun r h => ⟨fun c => (h c).2.2.2.2.2, sem_eq_zero_of_no_sems (by decide) r.2⟩) (Cert.Reference5Ideal.Value.run (F := Ideal) m g)

/-- From equal arguments the kernel's result arrays and the reference's are equal. -/
theorem algebraic5 : Cert.algebraic_Kernel5Ideal_Reference5Ideal (hKernel5Ideal := Cert.Kernel5Ideal.Gen.facts) (hReference5Ideal := Cert.Reference5Ideal.Gen.facts) := by
  intro m g m' g' _ hargs
  refine ⟨fun c => InprojS.G5 m c, fun c => InprojS.G6 m c, fun c => InprojS.G7 m c, fun c => InprojS.G8 m c, fun c => InprojS.G9 m c,
    (θ_run (Cert.Kernel5Ideal.defs (F := Ideal)) _ _).mono (fun r h c => ?_) (Cert.Kernel5Ideal.Value.run_blocks (F := Ideal) m g), ?_⟩
  · obtain ⟨p0, p1, p2, p3, p4, hk⟩ := h c
    exact ⟨p0.trans (InprojS.final5 m c), p1.trans (InprojS.final6 m c), p2.trans (InprojS.final7 m c), p3.trans (InprojS.final8 m c), p4.trans (InprojS.final9 m c), hk⟩
  · refine (θ_run (Cert.Reference5Ideal.defs (F := Ideal)) _ _).mono (fun r h c => ?_) (Cert.Reference5Ideal.Value.run (F := Ideal) m' g')
    obtain ⟨p0, p1, p2, p3, p4, hk⟩ := h c
    obtain ⟨h0, h1, h2, h3, h4⟩ := hargs c
    refine ⟨p0.trans ?_, p1.trans ?_, p2.trans ?_, p3.trans ?_, p4.trans ?_, hk⟩
    · refine (Cert.Reference5Ideal.Read.val_main_v26_eq ..).trans ?_
      rw [h0, h1, h2, h3, h4]
    · refine (Cert.Reference5Ideal.Read.val_main_v27_eq ..).trans ?_
      rw [h0, h1, h2, h3, h4]
    · refine (Cert.Reference5Ideal.Read.val_main_v28_eq ..).trans ?_
      rw [h0, h1, h2, h3, h4]
    · refine (Cert.Reference5Ideal.Read.val_main_v29_eq ..).trans ?_
      rw [h0, h1, h2, h3, h4]
    · refine (Cert.Reference5Ideal.Read.val_main_v25_eq ..).trans ?_
      rw [h0, h1, h2, h3, h4]

end Cert.Proof

end
-- ==== Proof.KvPrep.lean ====
/-
  The new rows of the compressed and the selected branch (`Kernel6Ideal`) with the positions last: each block is the transpose of its rows.
-/
module

public import proofs.«01_k».proof.Defs
public import proofs.«01_k».proof.Proof.Gen.Kernel6.Frame
public import proofs.«01_k».proof.Proof.Gen.Kernel6Ideal.Frame
public import Idealize.ShloMosaic.Lib.Pipeline.Value
public import proofs.«01_k».proof.Proof.Gen.Reference6Ideal.Read
public import Idealize.ShloMosaic.Lib.Pointwise
public import Idealize.ShloMosaic.Lib.Quiescent

@[expose] public section

set_option maxRecDepth 16384

noncomputable section

namespace Cert.Proof

open Idealize.ShloMosaic Idealize.ShloMosaic.TcCoe Idealize.SL.Sem

namespace KvPrep

open Cert.Kernel6Ideal Cert.Kernel6Ideal.Gen
open Cert.Reference6Ideal.Read
open Idealize.ShloMosaic.Pipeline (Dat)

theorem chan_lt (s : Fin 2) (g : Fin 4) (d : Fin 64) : 256 * s.val + 64 * g.val + d.val < 512 := by
  have := s.isLt; have := g.isLt; have := d.isLt; omega

/-- The column of key or value `s`, group `g`, channel `d`. -/
def chan (s : Fin 2) (g : Fin 4) (d : Fin 64) : Fin 512 := ⟨256 * s.val + 64 * g.val + d.val, chan_lt s g d⟩

theorem trow_lt (b : Fin 4) (T : Fin 4096) : 4096 * b.val + T.val < 16384 := by have := b.isLt; have := T.isLt; omega

def trow (b : Fin 4) (T : Fin 4096) : Fin 16384 := ⟨4096 * b.val + T.val, trow_lt b T⟩

theorem pay3_at (x : Vec Ideal S512x512 .f32) (s : Fin 2) (g : Fin 4) (d : Fin 64) (q : Fin 512) :
    k0_pay3 (F := Ideal) x (ix5 (0 : Fin 1) s g d q) = x (ix2 q (chan s g d)) := by
  unfold k0_pay3
  pointwise
  refine congrArg (fun l : Fin 512 => x (ix2 q l)) (Fin.ext ?_)
  show _ = 256 * s.val + 64 * g.val + d.val
  simp only []
  omega

theorem pay5_at (x : Vec Ideal S512x512 .f32) (s : Fin 2) (g : Fin 4) (d : Fin 64) (q : Fin 512) :
    k0_pay5 (F := Ideal) x (ix5 (0 : Fin 1) s g d q) = x (ix2 q (chan s g d)) := by
  unfold k0_pay5 k0_pay4
  pointwise
  refine congrArg (fun l : Fin 512 => x (ix2 q l)) (Fin.ext ?_)
  show _ = 256 * s.val + 64 * g.val + d.val
  simp only []
  omega

theorem val_main_v1_at (x : (⟨⟨2, ![16384, 512]⟩, .f32⟩ : BufTy).Contents (Elt Ideal)) (b : Fin 4) (s : Fin 2) (g : Fin 4) (d : Fin 64) (T : Fin 4096) :
    val_main_v1 (F := Ideal) x (ix5 b s g d T) = x (ix2 (trow b T) (chan s g d)) := by
  rw [val_main_v1_apply, val_main_v0_apply]
  have hb := b.isLt; have hT := T.isLt; have hs := s.isLt; have hg := g.isLt; have hd := d.isLt
  refine congrArg x (funext fun a => Fin.ext ?_)
  match a with
  | ⟨0, _⟩ => show ((((b.val * 4096 + T.val) * 2 + s.val) * 4 + g.val) * 64 + d.val) / 512 = 4096 * b.val + T.val; omega
  | ⟨1, _⟩ => show ((((b.val * 4096 + T.val) * 2 + s.val) * 4 + g.val) * 64 + d.val) % 512 = 256 * s.val + 64 * g.val + d.val; omega

theorem val_main_v3_at (x : (⟨⟨2, ![16384, 512]⟩, .f32⟩ : BufTy).Contents (Elt Ideal)) (b : Fin 4) (s : Fin 2) (g : Fin 4) (d : Fin 64) (T : Fin 4096) :
    val_main_v3 (F := Ideal) x (ix5 b s g d T) = x (ix2 (trow b T) (chan s g d)) := by
  rw [val_main_v3_apply, val_main_v2_apply]
  have hb := b.isLt; have hT := T.isLt; have hs := s.isLt; have hg := g.isLt; have hd := d.isLt
  refine congrArg x (funext fun a => Fin.ext ?_)
  match a with
  | ⟨0, _⟩ => show ((((b.val * 4096 + T.val) * 2 + s.val) * 4 + g.val) * 64 + d.val) / 512 = 4096 * b.val + T.val; omega
  | ⟨1, _⟩ => show ((((b.val * 4096 + T.val) * 2 + s.val) * 4 + g.val) * 64 + d.val) % 512 = 256 * s.val + 64 * g.val + d.val; omega

variable (m : (ℓ : Loc nD τ sig) → Buf (Elt Ideal) ℓ)

theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0)
    ∧ (win0_3.index t 0 = t.val / 8 ∧ win0_3.index t 1 = 0 ∧ win0_3.index t 2 = 0 ∧ win0_3.index t 3 = 0 ∧ win0_3.index t 4 = t.val % 8)
    ∧ (win0_4.index t 0 = t.val / 8 ∧ win0_4.index t 1 = 0 ∧ win0_4.index t 2 = 0 ∧ win0_4.index t 3 = 0 ∧ win0_4.index t 4 = t.val % 8) :=
  (by decide +kernel : ∀ t : Fin grid0.N, _)

theorem row_lt (t : Fin cfg0.N) (q : Fin 512) : 512 * t.val + q.val < 16384 := by have h : t.val < 32 := t.isLt; have := q.isLt; omega
theorem who_lt (t : Fin cfg0.N) : t.val / 8 < 4 := by have h : t.val < 32 := t.isLt; omega
theorem pos_lt (t : Fin cfg0.N) (q : Fin 512) : 512 * (t.val % 8) + q.val < 4096 := by have := q.isLt; omega

/-- The array row, the sequence and the position under row `q` of block `t`. -/
def row (t : Fin cfg0.N) (q : Fin 512) : Fin 16384 := ⟨512 * t.val + q.val, row_lt t q⟩
def who (t : Fin cfg0.N) : Fin 4 := ⟨t.val / 8, who_lt t⟩
def pos (t : Fin cfg0.N) (q : Fin 512) : Fin 4096 := ⟨512 * (t.val % 8) + q.val, pos_lt t q⟩

theorem z2 : (![0, 0] : Fin 2 → Nat) = fun _ => 0 := funext fun a => by fin_cases a <;> rfl
theorem z5 : (![0, 0, 0, 0, 0] : Fin 5 → Nat) = fun _ => 0 := funext fun a => by fin_cases a <;> rfl

theorem ix_exhaust5 {a b d e f : Nat} (j : (⟨5, ![a, b, d, e, f]⟩ : Shape).Idx) :
    ∃ (q : Fin a) (r : Fin b) (l : Fin d) (k : Fin e) (n : Fin f), j = ix5 q r l k n := ⟨j 0, j 1, j 2, j 3, j 4, eq_ix5 j⟩

theorem blk0 (c : Dev nD) (t : Fin cfg0.N) (q l : Fin 512) :
    (iblk m c 0 t : Vec Ideal S512x512 .f32) (ix2 q l) = m ((c : Thread nD τ).loc main_arg0) (ix2 (row t q) l) := by
  obtain ⟨⟨e0, e1⟩, -⟩ := idx_facts t
  unfold iblk
  rw [View.read_apply]
  have hi : ((cfg0.win 0).blk t).view.emb (ix2 q l) = (ix2 (row t q) l) := by
    funext a
    apply Fin.ext
    match a with
    | ⟨0, _⟩ => show win0_0.index t 0 * 512 + 1 * (q.val : Nat) = 512 * t.val + q.val; rw [e0] <;> omega
    | ⟨1, _⟩ => show win0_0.index t 1 * 512 + 1 * (l.val : Nat) = l.val; rw [e1] <;> omega
  rw [hi]
  show V m c main_arg0 (ix2 (row t q) l) = _
  rw [V_main_arg0]

theorem blk1 (c : Dev nD) (t : Fin cfg0.N) (q l : Fin 512) :
    (iblk m c 1 t : Vec Ideal S512x512 .f32) (ix2 q l) = m ((c : Thread nD τ).loc main_arg1) (ix2 (row t q) l) := by
  obtain ⟨-, ⟨e0, e1⟩, -⟩ := idx_facts t
  unfold iblk
  rw [View.read_apply]
  have hi : ((cfg0.win 1).blk t).view.emb (ix2 q l) = (ix2 (row t q) l) := by
    funext a
    apply Fin.ext
    match a with
    | ⟨0, _⟩ => show win0_1.index t 0 * 512 + 1 * (q.val : Nat) = 512 * t.val + q.val; rw [e0] <;> omega
    | ⟨1, _⟩ => show win0_1.index t 1 * 512 + 1 * (l.val : Nat) = l.val; rw [e1] <;> omega
  rw [hi]
  show V m c main_arg1 (ix2 (row t q) l) = _
  rw [V_main_arg1]

abbrev G3 (c : Dev nD) : S4x2x4x64x4096.Idx → EReal := val_main_v1 (F := Ideal) (m ((c : Thread nD τ).loc main_arg0))

theorem flushed3 (c : Dev nD) (t : Fin cfg0.N) :
    (dats m 0 c).flushed 3 t = ((cfg0.win 3).blk t).view.read (Elt Ideal) (G3 m c) := by
  have hfl : (dats m 0 c).flushed 3 t = (cfg0.win 3).cut (grid0.coords t) (out0_3 (iblk m c 0 t) (iblk m c 1 t) (iblk m c 2 t)) := by
    show (cfg0.win 3).cut (grid0.coords t) ((dats m 0 c).after 3 t) = _
    rw [after0_3]
  rw [hfl]
  obtain ⟨-, -, -, ⟨e0, e1, e2, e3, e4⟩, -⟩ := idx_facts t
  have ht : t.val < 32 := t.isLt
  funext j
  obtain ⟨z, s, g, d, q, rfl⟩ := (ix_exhaust5 j : ∃ (z : Fin 1) (s : Fin 2) (g : Fin 4) (d : Fin 64) (q : Fin 512), j = ix5 z s g d q)
  obtain rfl : z = 0 := Subsingleton.elim _ _
  rw [View.read_apply]
  have hi : ((cfg0.win 3).blk t).view.emb (ix5 (0 : Fin 1) s g d q) = ix5 (who t) s g d (pos t q) := by
    funext a
    apply Fin.ext
    match a with
    | ⟨0, _⟩ => show win0_3.index t 0 * 1 + 1 * 0 = t.val / 8; rw [e0] <;> omega
    | ⟨1, _⟩ => show win0_3.index t 1 * 2 + 1 * (s.val : Nat) = s.val; rw [e1] <;> omega
    | ⟨2, _⟩ => show win0_3.index t 2 * 4 + 1 * (g.val : Nat) = g.val; rw [e2] <;> omega
    | ⟨3, _⟩ => show win0_3.index t 3 * 64 + 1 * (d.val : Nat) = d.val; rw [e3] <;> omega
    | ⟨4, _⟩ => show win0_3.index t 4 * 512 + 1 * (q.val : Nat) = 512 * (t.val % 8) + q.val; rw [e4] <;> omega
  rw [hi]
  show out0_3 (F := Ideal) _ _ _ (ix5 (0 : Fin 1) s g d q) = G3 m c (ix5 (who t) s g d (pos t q))
  unfold out0_3
  rw [View.canon_unit_zero z5, View.ld_unit_zero (S := S512x512) z2, pay3_at, blk0]
  refine Eq.trans ?_ (val_main_v1_at _ _ _ _ _ _).symm
  refine congrArg (fun R : Fin 16384 => m ((c : Thread nD τ).loc main_arg0) (ix2 R (chan s g d))) (Fin.ext ?_)
  show 512 * t.val + q.val = 4096 * (t.val / 8) + (512 * (t.val % 8) + q.val)
  omega

/-- Every index of the array lies in the block of a point. -/
theorem cover3 (i : S4x2x4x64x4096.Idx) : ∃ t : Fin cfg0.N, (cfg0.win 3).flush t = true ∧ i ∈ ((cfg0.win 3).blk t).view.set := by
  have h0 : (i 0 : Nat) < 4 := (i 0).isLt
  have h1 : (i 1 : Nat) < 2 := (i 1).isLt
  have h2 : (i 2 : Nat) < 4 := (i 2).isLt
  have h3 : (i 3 : Nat) < 64 := (i 3).isLt
  have h4 : (i 4 : Nat) < 4096 := (i 4).isLt
  obtain ⟨t, ht⟩ : ∃ t : Fin cfg0.N, t.val = 8 * (i 0 : Nat) + (i 4 : Nat) / 512 := ⟨(⟨8 * (i 0 : Nat) + (i 4 : Nat) / 512, by omega⟩ : Fin 32), rfl⟩
  refine ⟨t, flush0_3 t, ?_⟩
  obtain ⟨-, -, -, ⟨e0, e1, e2, e3, e4⟩, -⟩ := idx_facts t
  show i ∈ ((View.whole main_v0_0).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1; rw [e0, ht]; omega
  | ⟨1, _⟩ => show win0_3.index t 1 * 2 ≤ (i 1 : Nat) ∧ (i 1 : Nat) < win0_3.index t 1 * 2 + 2; rw [e1]; omega
  | ⟨2, _⟩ => show win0_3.index t 2 * 4 ≤ (i 2 : Nat) ∧ (i 2 : Nat) < win0_3.index t 2 * 4 + 4; rw [e2]; omega
  | ⟨3, _⟩ => show win0_3.index t 3 * 64 ≤ (i 3 : Nat) ∧ (i 3 : Nat) < win0_3.index t 3 * 64 + 64; rw [e3]; omega
  | ⟨4, _⟩ => show win0_3.index t 4 * 512 ≤ (i 4 : Nat) ∧ (i 4 : Nat) < win0_3.index t 4 * 512 + 512; rw [e4, ht]; omega

theorem final3 (c : Dev nD) : (dats m 0 c).arrAt 3 cfg0.N = G3 m c :=
  (dats m 0 c).arrAt_eq_of_cover 3 (G3 m c) (fun t _ => flushed3 m c t) fun i => cover3 i

abbrev G4 (c : Dev nD) : S4x2x4x64x4096.Idx → EReal := val_main_v3 (F := Ideal) (m ((c : Thread nD τ).loc main_arg1))

theorem flushed4 (c : Dev nD) (t : Fin cfg0.N) :
    (dats m 0 c).flushed 4 t = ((cfg0.win 4).blk t).view.read (Elt Ideal) (G4 m c) := by
  have hfl : (dats m 0 c).flushed 4 t = (cfg0.win 4).cut (grid0.coords t) (out0_4 (iblk m c 0 t) (iblk m c 1 t) (iblk m c 2 t)) := by
    show (cfg0.win 4).cut (grid0.coords t) ((dats m 0 c).after 4 t) = _
    rw [after0_4]
  rw [hfl]
  obtain ⟨-, -, -, -, e0, e1, e2, e3, e4⟩ := idx_facts t
  have ht : t.val < 32 := t.isLt
  funext j
  obtain ⟨z, s, g, d, q, rfl⟩ := (ix_exhaust5 j : ∃ (z : Fin 1) (s : Fin 2) (g : Fin 4) (d : Fin 64) (q : Fin 512), j = ix5 z s g d q)
  obtain rfl : z = 0 := Subsingleton.elim _ _
  rw [View.read_apply]
  have hi : ((cfg0.win 4).blk t).view.emb (ix5 (0 : Fin 1) s g d q) = ix5 (who t) s g d (pos t q) := by
    funext a
    apply Fin.ext
    match a with
    | ⟨0, _⟩ => show win0_4.index t 0 * 1 + 1 * 0 = t.val / 8; rw [e0] <;> omega
    | ⟨1, _⟩ => show win0_4.index t 1 * 2 + 1 * (s.val : Nat) = s.val; rw [e1] <;> omega
    | ⟨2, _⟩ => show win0_4.index t 2 * 4 + 1 * (g.val : Nat) = g.val; rw [e2] <;> omega
    | ⟨3, _⟩ => show win0_4.index t 3 * 64 + 1 * (d.val : Nat) = d.val; rw [e3] <;> omega
    | ⟨4, _⟩ => show win0_4.index t 4 * 512 + 1 * (q.val : Nat) = 512 * (t.val % 8) + q.val; rw [e4] <;> omega
  rw [hi]
  show out0_4 (F := Ideal) _ _ _ (ix5 (0 : Fin 1) s g d q) = G4 m c (ix5 (who t) s g d (pos t q))
  unfold out0_4
  rw [View.canon_unit_zero z5, View.ld_unit_zero (S := S512x512) z2, pay5_at, blk1]
  refine Eq.trans ?_ (val_main_v3_at _ _ _ _ _ _).symm
  refine congrArg (fun R : Fin 16384 => m ((c : Thread nD τ).loc main_arg1) (ix2 R (chan s g d))) (Fin.ext ?_)
  show 512 * t.val + q.val = 4096 * (t.val / 8) + (512 * (t.val % 8) + q.val)
  omega

/-- Every index of the array lies in the block of a point. -/
theorem cover4 (i : S4x2x4x64x4096.Idx) : ∃ t : Fin cfg0.N, (cfg0.win 4).flush t = true ∧ i ∈ ((cfg0.win 4).blk t).view.set := by
  have h0 : (i 0 : Nat) < 4 := (i 0).isLt
  have h1 : (i 1 : Nat) < 2 := (i 1).isLt
  have h2 : (i 2 : Nat) < 4 := (i 2).isLt
  have h3 : (i 3 : Nat) < 64 := (i 3).isLt
  have h4 : (i 4 : Nat) < 4096 := (i 4).isLt
  obtain ⟨t, ht⟩ : ∃ t : Fin cfg0.N, t.val = 8 * (i 0 : Nat) + (i 4 : Nat) / 512 := ⟨(⟨8 * (i 0 : Nat) + (i 4 : Nat) / 512, by omega⟩ : Fin 32), rfl⟩
  refine ⟨t, flush0_4 t, ?_⟩
  obtain ⟨-, -, -, -, e0, e1, e2, e3, e4⟩ := idx_facts t
  show i ∈ ((View.whole main_v0_1).slice (win0_4.rect t)).set
  rw [View.set_slice_whole, Rect.mem_set_unit]
  intro a
  match a with
  | ⟨0, _⟩ => show win0_4.index t 0 * 1 ≤ (i 0 : Nat) ∧ (i 0 : Nat) < win0_4.index t 0 * 1 + 1; rw [e0, ht]; omega
  | ⟨1, _⟩ => show win0_4.index t 1 * 2 ≤ (i 1 : Nat) ∧ (i 1 : Nat) < win0_4.index t 1 * 2 + 2; rw [e1]; omega
  | ⟨2, _⟩ => show win0_4.index t 2 * 4 ≤ (i 2 : Nat) ∧ (i 2 : Nat) < win0_4.index t 2 * 4 + 4; rw [e2]; omega
  | ⟨3, _⟩ => show win0_4.index t 3 * 64 ≤ (i 3 : Nat) ∧ (i 3 : Nat) < win0_4.index t 3 * 64 + 64; rw [e3]; omega
  | ⟨4, _⟩ => show win0_4.index t 4 * 512 ≤ (i 4 : Nat) ∧ (i 4 : Nat) < win0_4.index t 4 * 512 + 512; rw [e4, ht]; omega

theorem final4 (c : Dev nD) : (dats m 0 c).arrAt 4 cfg0.N = G4 m c :=
  (dats m 0 c).arrAt_eq_of_cover 4 (G4 m c) (fun t _ => flushed4 m c t) fun i => cover4 i

/-- The run leaves the two result arrays at their contents after the last point, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end KvPrep

theorem frame_k6 : Cert.quiescent_Kernel6 (hKernel6 := Cert.Kernel6.Gen.facts) := fun m g _ => Cert.Kernel6.Gen.frame m g

theorem frame_ki6 : Cert.quiescent_Kernel6Ideal (hKernel6Ideal := Cert.Kernel6Ideal.Gen.facts) := fun m g _ => Cert.Kernel6Ideal.Gen.frame m g

theorem frame_ri6 : Cert.quiescent_Reference6Ideal (hReference6Ideal := Cert.Reference6Ideal.Gen.facts) := fun m g _ =>
  (θ_run (Cert.Reference6Ideal.defs (F := Ideal)) _ _).mono (fun r h => ⟨fun c => (h c).2.2, sem_eq_zero_of_no_sems (by decide) r.2⟩) (Cert.Reference6Ideal.Value.run (F := Ideal) m g)

/-- From equal arguments the kernel's result arrays and the reference's are equal. -/
theorem algebraic6 : Cert.algebraic_Kernel6Ideal_Reference6Ideal (hKernel6Ideal := Cert.Kernel6Ideal.Gen.facts) (hReference6Ideal := Cert.Reference6Ideal.Gen.facts) := by
  intro m g m' g' _ hargs
  refine ⟨fun c => KvPrep.G3 m c, fun c => KvPrep.G4 m c,
    (θ_run (Cert.Kernel6Ideal.defs (F := Ideal)) _ _).mono (fun r h c => ?_) (KvPrep.run m g), ?_⟩
  · obtain ⟨p0, p1, hk⟩ := h c
    exact ⟨p0.trans (KvPrep.final3 m c), p1.trans (KvPrep.final4 m c), hk⟩
  · refine (θ_run (Cert.Reference6Ideal.defs (F := Ideal)) _ _).mono (fun r h c => ?_) (Cert.Reference6Ideal.Value.run (F := Ideal) m' g')
    obtain ⟨p0, p1, hk⟩ := h c
    obtain ⟨h0, h1, h2⟩ := hargs c
    refine ⟨p0.trans ?_, p1.trans ?_, hk⟩
    · refine (Cert.Reference6Ideal.Read.val_main_v1_eq ..).trans ?_
      rw [h0]
    · refine (Cert.Reference6Ideal.Read.val_main_v3_eq ..).trans ?_
      rw [h1]

end Cert.Proof

end
-- ==== Proof.StepState.lean ====
/-
  The recurrence's step of the samples (`Kernel7Ideal`): the new state, a chunk of 512 columns at a time from block-diagonal input weights.
-/
module

public import proofs.«01_k».proof.Defs
public import proofs.«01_k».proof.Proof.Gen.Kernel7.Frame
public import proofs.«01_k».proof.Proof.Gen.Kernel7Ideal.Value
public import proofs.«01_k».proof.Proof.Gen.Reference7Ideal.Read
public import Idealize.ShloMosaic.Lib.Pointwise
public import Idealize.ShloMosaic.Lib.Pipeline.ValueKit.Tiles
public import Idealize.ShloMosaic.Lib.StableHlo.ReadAt
public import Idealize.ShloMosaic.Lib.Quiescent

@[expose] public section

set_option maxRecDepth 16384

noncomputable section

namespace Cert.Proof

open Idealize.ShloMosaic Idealize.ShloMosaic.TcCoe Idealize.SL.Sem

namespace Step

open Cert.Kernel7Ideal Cert.Kernel7Ideal.Gen
open Cert.Reference7Ideal.Read
open Idealize.ShloMosaic.Pipeline (Dat)

theorem ix_exhaust2 {a b : Nat} (j : (⟨2, ![a, b]⟩ : Shape).Idx) : ∃ (q : Fin a) (r : Fin b), j = ix2 q r := ⟨j 0, j 1, eq_ix2 j⟩

/-! ## Columns -/

/-- The block-diagonal pattern's element. -/
theorem eye_at (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal) = if a = b then 1 else 0 := by
  have h : IntOp.cmpi CmpIPredicate.eq (IntOp.addi (BitVec.ofNat 32 a) 0#32) (BitVec.ofNat 32 b) = if a = b then 1#1 else 0#1 := by
    have : ∀ a b : Fin 8, IntOp.cmpi CmpIPredicate.eq (IntOp.addi (BitVec.ofNat 32 a.val) 0#32) (BitVec.ofNat 32 b.val) = if a.val = b.val then 1#1 else 0#1 := by decide
    exact this ⟨a, ha⟩ ⟨b, hb⟩
  rw [h]
  show (((if a = b then 1#1 else 0#1 : BitVec 1).toNat : ℝ) : EReal) = _
  by_cases e : a = b
  · simp [e]
  · simp [e]

theorem lo_lt (l : Fin 512) : l.val < 1024 := by have := l.isLt; omega
theorem hi_lt (l : Fin 512) : 512 + l.val < 1024 := by have := l.isLt; omega
theorem g8_lt (j a : Fin 8) : j.val * 8 + a.val < 64 := by have := j.isLt; have := a.isLt; omega
theorem m64_lt (l : Fin 512) : l.val % 64 < 64 := Nat.mod_lt _ (by decide)

/-- A column's place among the real and among the imaginary parts; the group of a chunk's place; a column's mode. -/
def lo (l : Fin 512) : Fin 1024 := ⟨l.val, lo_lt l⟩
def hi (l : Fin 512) : Fin 1024 := ⟨512 + l.val, hi_lt l⟩
def g8 (j a : Fin 8) : Fin 64 := ⟨j.val * 8 + a.val, g8_lt j a⟩
def m64 (l : Fin 512) : Fin 64 := ⟨l.val % 64, m64_lt l⟩

theorem dite_lo {l : Fin 512} {n : ℕ} (hn : n = l.val) (x : n < 512 → EReal) (y : ¬ n < 512 → EReal) (z : EReal)
    (h : ∀ e, x e = z) : (if e : n < 512 then x e else y e) = z := by
  have e : n < 512 := by have := l.isLt; omega
  rw [dif_pos e]; exact h e

theorem dite_hi {l : Fin 512} {n : ℕ} (hn : n = 512 + l.val) (x : n < 512 → EReal) (y : ¬ n < 512 → EReal) (z : EReal)
    (h : ∀ e, y e = z) : (if e : n < 512 then x e else y e) = z := by
  have e : ¬ n < 512 := by omega
  rw [dif_neg e]; exact h e

theorem p128_lt (a : Fin 8) (h : Fin 16) : a.val * 16 + h.val < 128 := by have := a.isLt; have := h.isLt; omega
theorem chunk_lt (L : Fin 4096) : L.val / 512 < 8 := by have := L.isLt; omega
theorem inner_lt (L : Fin 4096) : L.val % 512 < 512 := Nat.mod_lt _ (by decide)
theorem place_lt (L : Fin 4096) : L.val % 512 / 64 < 8 := by omega
theorem grp_lt (L : Fin 4096) : L.val / 64 < 64 := by have := L.isLt; omega
theorem mode_lt (L : Fin 4096) : L.val % 64 < 64 := Nat.mod_lt _ (by decide)
theorem ucol_lt (k : Fin 8) (q : Fin 128) : 128 * k.val + q.val < 1024 := by have := k.isLt; have := q.isLt; omega
theorem wide_lt (g : Fin 64) (h : Fin 16) : g.val * 16 + h.val < 3072 := by have := g.isLt; have := h.isLt; omega
theorem bcol_lt (p : Fin 64) (h : Fin 16) : p.val * 16 + h.val < 1024 := by have := p.isLt; have := h.isLt; omega
theorem in_wide (l : Fin 1024) : l.val < 3072 := by have := l.isLt; omega

/-- Input channel `h` of place `a` in a chunk; a state column's chunk, its column there, its place, its group and its mode. -/
def p128 (a : Fin 8) (h : Fin 16) : Fin 128 := ⟨a.val * 16 + h.val, p128_lt a h⟩
def chunk (L : Fin 4096) : Fin 8 := ⟨L.val / 512, chunk_lt L⟩
def inner (L : Fin 4096) : Fin 512 := ⟨L.val % 512, inner_lt L⟩
def place (L : Fin 4096) : Fin 8 := ⟨L.val % 512 / 64, place_lt L⟩
def grp (L : Fin 4096) : Fin 64 := ⟨L.val / 64, grp_lt L⟩
def mode (L : Fin 4096) : Fin 64 := ⟨L.val % 64, mode_lt L⟩
/-- The input column `q` of a chunk; the input column of a group's channel; the weight column of a mode's channel. -/
def ucol (k : Fin 8) (q : Fin 128) : Fin 1024 := ⟨128 * k.val + q.val, ucol_lt k q⟩
def wide (g : Fin 64) (h : Fin 16) : Fin 3072 := ⟨g.val * 16 + h.val, wide_lt g h⟩
def bcol (p : Fin 64) (h : Fin 16) : Fin 1024 := ⟨p.val * 16 + h.val, bcol_lt p h⟩

theorem split128 (f : Fin 128 → EReal) : ∑ x, f x = ∑ a : Fin 8, ∑ h : Fin 16, f (p128 a h) := by
  rw [← Equiv.sum_comp (finProdFinEquiv (m := 8) (n := 16)) f, Fintype.sum_prod_type]
  refine Finset.sum_congr rfl fun a _ => Finset.sum_congr rfl fun h _ => congrArg f (Fin.ext ?_)
  show h.val + 16 * a.val = a.val * 16 + h.val
  omega

theorem sum_blk (g : Fin 8) (f : Fin 8 → Fin 16 → EReal) :
    ∑ q : Fin 8, ∑ c : Fin 16, f q c * (if q.val = g.val then 1 else 0) = ∑ c : Fin 16, f g c := by
  rw [Finset.sum_eq_single g]
  · simp
  · intro q _ hq
    refine Finset.sum_eq_zero fun c _ => ?_
    rw [if_neg fun e => hq (Fin.ext e), mul_zero]
  · intro h
    exact absurd (Finset.mem_univ g) h

/-! ## The new state of a row and a column, from the staged blocks and from the arguments -/

def stR (x0 : S32x1024.Idx → EReal) (x4 : S8x128x1024.Idx → EReal) (x6 x7 : S8x4096.Idx → EReal) (x2 x3 : S32x4096.Idx → EReal) (r : Fin 32) (L : Fin 4096) : EReal :=
  (∑ q : Fin 128, x0 (ix2 r (ucol (chunk L) q)) * x4 (ix3 (chunk L) q (lo (inner L)))) + (x6 (ix2 (0 : Fin 8) L) * x2 (ix2 r L) - x7 (ix2 (0 : Fin 8) L) * x3 (ix2 r L))

def stI (x0 : S32x1024.Idx → EReal) (x4 : S8x128x1024.Idx → EReal) (x6 x7 : S8x4096.Idx → EReal) (x2 x3 : S32x4096.Idx → EReal) (r : Fin 32) (L : Fin 4096) : EReal :=
  (∑ q : Fin 128, x0 (ix2 r (ucol (chunk L) q)) * x4 (ix3 (chunk L) q (hi (inner L)))) + (x6 (ix2 (0 : Fin 8) L) * x3 (ix2 r L) + x7 (ix2 (0 : Fin 8) L) * x2 (ix2 r L))

def newR (x0 : S32x3072.Idx → EReal) (x1 x2 : S1x32x64x64.Idx → EReal) (x3 x4 : S8x64x64.Idx → EReal) (x5 : S64x1024.Idx → EReal) (r : Fin 32) (L : Fin 4096) : EReal :=
  (∑ h : Fin 16, x0 (ix2 r (wide (grp L) h)) * x5 (ix2 (grp L) (bcol (mode L) h)))
    + (x3 (ix3 (0 : Fin 8) (grp L) (mode L)) * x1 (ix4 (0 : Fin 1) r (grp L) (mode L)) - x4 (ix3 (0 : Fin 8) (grp L) (mode L)) * x2 (ix4 (0 : Fin 1) r (grp L) (mode L)))

def newI (x0 : S32x3072.Idx → EReal) (x1 x2 : S1x32x64x64.Idx → EReal) (x3 x4 : S8x64x64.Idx → EReal) (x6 : S64x1024.Idx → EReal) (r : Fin 32) (L : Fin 4096) : EReal :=
  (∑ h : Fin 16, x0 (ix2 r (wide (grp L) h)) * x6 (ix2 (grp L) (bcol (mode L) h)))
    + (x3 (ix3 (0 : Fin 8) (grp L) (mode L)) * x2 (ix4 (0 : Fin 1) r (grp L) (mode L)) + x4 (ix3 (0 : Fin 8) (grp L) (mode L)) * x1 (ix4 (0 : Fin 1) r (grp L) (mode L)))

/-! ## A chunk's store -/

theorem payR_at (u : Vec Ideal S32x128 .f32) (w : Vec Ideal S1x128x1024 .bf16) (a b : Vec Ideal S1x512 .f32) (x y : Vec Ideal S32x512 .f32) (r : Fin 32) (l : Fin 512) :
    k0_pay7 (F := Ideal) u w a b x y (ix2 r l) = ((∑ q : Fin 128, u (ix2 r q) * w (ix3 (0 : Fin 1) q (lo l)))
      + (a (ix2 (0 : Fin 1) l) * x (ix2 r l) - b (ix2 (0 : Fin 1) l) * y (ix2 r l)) : EReal) := by
  unfold_payloads
  pointwise
  rfl

theorem payI_at (u : Vec Ideal S32x128 .f32) (w : Vec Ideal S1x128x1024 .bf16) (a b : Vec Ideal S1x512 .f32) (x y : Vec Ideal S32x512 .f32) (r : Fin 32) (l : Fin 512) :
    k0_pay8 (F := Ideal) u w a b x y (ix2 r l) = ((∑ q : Fin 128, u (ix2 r q) * w (ix3 (0 : Fin 1) q (hi l)))
      + (a (ix2 (0 : Fin 1) l) * y (ix2 r l) + b (ix2 (0 : Fin 1) l) * x (ix2 r l)) : EReal) := by
  unfold_payloads
  pointwise
  rfl

theorem tileR (x0 : Vec Ideal S32x1024 .f32) (x4 : Vec Ideal S8x128x1024 .bf16) (x6 x7 : Vec Ideal S8x4096 .f32) (x2 x3 : Vec Ideal S32x4096 .f32) (r : Fin 32) (L : Fin 4096)
    (o u : ℕ) (k : Fin 8) (ho : o = 512 * k.val) (hu : u = 128 * k.val)
    (i0 : ∀ a, (![0, u] : Fin 2 → ℕ) a + (![32, 128] : Fin 2 → ℕ) a ≤ S32x1024.size a) (i4 : ∀ a, (![k.val, 0, 0] : Fin 3 → ℕ) a + (![1, 128, 1024] : Fin 3 → ℕ) a ≤ S8x128x1024.size a)
    (i6 : ∀ a, (![0, o] : Fin 2 → ℕ) a + (![1, 512] : Fin 2 → ℕ) a ≤ S8x4096.size a) (i2 : ∀ a, (![0, o] : Fin 2 → ℕ) a + (![32, 512] : Fin 2 → ℕ) a ≤ S32x4096.size a) :
    View.TileAt (Val := Elt Ideal) (S := S32x4096) (e := .f32) (ix2 r L) ![0, o] ![32, 512]
      (k0_pay7 (F := Ideal) (View.ld x0 (Rect.unit ![0, u] ![32, 128] i0)) (View.ld x4 (Rect.unit ![k.val, 0, 0] ![1, 128, 1024] i4)) (View.ld x6 (Rect.unit ![0, o] ![1, 512] i6))
        (View.ld x7 (Rect.unit ![0, o] ![1, 512] i6)) (View.ld x2 (Rect.unit ![0, o] ![32, 512] i2)) (View.ld x3 (Rect.unit ![0, o] ![32, 512] i2))) (stR x0 x4 x6 x7 x2 x3 r L) := by
  intro x hx
  obtain ⟨r', l, rfl⟩ := (ix_exhaust2 x : ∃ (r' : Fin 32) (l : Fin 512), x = ix2 r' l)
  have h0 : r.val = 0 + r'.val := hx 0
  have h1 : L.val = o + l.val := hx 1
  obtain rfl : r' = r := Fin.ext (by omega)
  have hl := l.isLt
  have hk : chunk L = k := Fin.ext (by show L.val / 512 = k.val; omega)
  have hi : inner L = l := Fin.ext (by show L.val % 512 = l.val; omega)
  refine (payR_at _ _ _ _ _ _ r' l).trans ?_
  unfold stR
  rw [hk, hi]
  have e2 : ∀ X : Vec Ideal S32x4096 .f32, (View.ld X (Rect.unit ![0, o] ![32, 512] i2) : Vec Ideal S32x512 .f32) (ix2 r' l) = X (ix2 r' L) := fun X =>
    congrArg X (funext fun a => Fin.ext (by
      match a with
      | ⟨0, _⟩ => show 0 + 1 * r'.val = r'.val; omega
      | ⟨1, _⟩ => show o + 1 * l.val = L.val; omega))
  have e6 : ∀ X : Vec Ideal S8x4096 .f32, (View.ld X (Rect.unit ![0, o] ![1, 512] i6) : Vec Ideal S1x512 .f32) (ix2 (0 : Fin 1) l) = X (ix2 (0 : Fin 8) L) := fun X =>
    congrArg X (funext fun a => Fin.ext (by
      match a with
      | ⟨0, _⟩ => rfl
      | ⟨1, _⟩ => show o + 1 * l.val = L.val; omega))
  rw [e2 x2, e2 x3, e6 x6, e6 x7]
  refine congrArg (· + _) (Finset.sum_congr rfl fun q _ => congrArg₂ (· * ·) (congrArg x0 (funext fun a => Fin.ext ?_)) (congrArg x4 (funext fun a => Fin.ext ?_)))
  · match a with
    | ⟨0, _⟩ => show 0 + 1 * r'.val = r'.val; omega
    | ⟨1, _⟩ => show u + 1 * q.val = 128 * k.val + q.val; omega
  · match a with
    | ⟨0, _⟩ => show k.val + 1 * 0 = k.val; omega
    | ⟨1, _⟩ => show 0 + 1 * q.val = q.val; omega
    | ⟨2, _⟩ => show 0 + 1 * (l.val) = l.val; omega

theorem tileI (x0 : Vec Ideal S32x1024 .f32) (x4 : Vec Ideal S8x128x1024 .bf16) (x6 x7 : Vec Ideal S8x4096 .f32) (x2 x3 : Vec Ideal S32x4096 .f32) (r : Fin 32) (L : Fin 4096)
    (o u : ℕ) (k : Fin 8) (ho : o = 512 * k.val) (hu : u = 128 * k.val)
    (i0 : ∀ a, (![0, u] : Fin 2 → ℕ) a + (![32, 128] : Fin 2 → ℕ) a ≤ S32x1024.size a) (i4 : ∀ a, (![k.val, 0, 0] : Fin 3 → ℕ) a + (![1, 128, 1024] : Fin 3 → ℕ) a ≤ S8x128x1024.size a)
    (i6 : ∀ a, (![0, o] : Fin 2 → ℕ) a + (![1, 512] : Fin 2 → ℕ) a ≤ S8x4096.size a) (i2 : ∀ a, (![0, o] : Fin 2 → ℕ) a + (![32, 512] : Fin 2 → ℕ) a ≤ S32x4096.size a) :
    View.TileAt (Val := Elt Ideal) (S := S32x4096) (e := .f32) (ix2 r L) ![0, o] ![32, 512]
      (k0_pay8 (F := Ideal) (View.ld x0 (Rect.unit ![0, u] ![32, 128] i0)) (View.ld x4 (Rect.unit ![k.val, 0, 0] ![1, 128, 1024] i4)) (View.ld x6 (Rect.unit ![0, o] ![1, 512] i6))
        (View.ld x7 (Rect.unit ![0, o] ![1, 512] i6)) (View.ld x2 (Rect.unit ![0, o] ![32, 512] i2)) (View.ld x3 (Rect.unit ![0, o] ![32, 512] i2))) (stI x0 x4 x6 x7 x2 x3 r L) := by
  intro x hx
  obtain ⟨r', l, rfl⟩ := (ix_exhaust2 x : ∃ (r' : Fin 32) (l : Fin 512), x = ix2 r' l)
  have h0 : r.val = 0 + r'.val := hx 0
  have h1 : L.val = o + l.val := hx 1
  obtain rfl : r' = r := Fin.ext (by omega)
  have hl := l.isLt
  have hk : chunk L = k := Fin.ext (by show L.val / 512 = k.val; omega)
  have hi : inner L = l := Fin.ext (by show L.val % 512 = l.val; omega)
  refine (payI_at _ _ _ _ _ _ r' l).trans ?_
  unfold stI
  rw [hk, hi]
  have e2 : ∀ X : Vec Ideal S32x4096 .f32, (View.ld X (Rect.unit ![0, o] ![32, 512] i2) : Vec Ideal S32x512 .f32) (ix2 r' l) = X (ix2 r' L) := fun X =>
    congrArg X (funext fun a => Fin.ext (by
      match a with
      | ⟨0, _⟩ => show 0 + 1 * r'.val = r'.val; omega
      | ⟨1, _⟩ => show o + 1 * l.val = L.val; omega))
  have e6 : ∀ X : Vec Ideal S8x4096 .f32, (View.ld X (Rect.unit ![0, o] ![1, 512] i6) : Vec Ideal S1x512 .f32) (ix2 (0 : Fin 1) l) = X (ix2 (0 : Fin 8) L) := fun X =>
    congrArg X (funext fun a => Fin.ext (by
      match a with
      | ⟨0, _⟩ => rfl
      | ⟨1, _⟩ => show o + 1 * l.val = L.val; omega))
  rw [e2 x2, e2 x3, e6 x6, e6 x7]
  refine congrArg (· + _) (Finset.sum_congr rfl fun q _ => congrArg₂ (· * ·) (congrArg x0 (funext fun a => Fin.ext ?_)) (congrArg x4 (funext fun a => Fin.ext ?_)))
  · match a with
    | ⟨0, _⟩ => show 0 + 1 * r'.val = r'.val; omega
    | ⟨1, _⟩ => show u + 1 * q.val = 128 * k.val + q.val; omega
  · match a with
    | ⟨0, _⟩ => show k.val + 1 * 0 = k.val; omega
    | ⟨1, _⟩ => show 0 + 1 * q.val = q.val; omega
    | ⟨2, _⟩ => show 0 + 1 * (512 + l.val) = 512 + l.val; omega

/-! ## The reference -/

theorem ab_re (x : S8x64x64.Idx → EReal) (r : Fin 32) (g p : Fin 64) : val_main_v13 (F := Ideal) x (ix3 r g p) = x (ix3 (0 : Fin 8) g p) := by
  rw [val_main_v13_apply, val_main_v12_apply, val_main_v1_apply, val_main_v0_apply]
  have hg := g.isLt
  have hp := p.isLt
  refine congrArg x (funext fun a => Fin.ext ?_)
  match a with
  | ⟨0, _⟩ => rfl
  | ⟨1, _⟩ => show (g.val * 64 + p.val) / 64 % 64 = g.val; omega
  | ⟨2, _⟩ => show (g.val * 64 + p.val) % 64 = p.val; omega

theorem ab_im (x : S8x64x64.Idx → EReal) (r : Fin 32) (g p : Fin 64) : val_main_v16 (F := Ideal) x (ix3 r g p) = x (ix3 (0 : Fin 8) g p) := by
  rw [val_main_v16_apply, val_main_v15_apply, val_main_v3_apply, val_main_v2_apply]
  have hg := g.isLt
  have hp := p.isLt
  refine congrArg x (funext fun a => Fin.ext ?_)
  match a with
  | ⟨0, _⟩ => rfl
  | ⟨1, _⟩ => show (g.val * 64 + p.val) / 64 % 64 = g.val; omega
  | ⟨2, _⟩ => show (g.val * 64 + p.val) % 64 = p.val; omega

theorem ab_re2 (x : S8x64x64.Idx → EReal) (r : Fin 32) (g p : Fin 64) : val_main_v23 (F := Ideal) x (ix3 r g p) = x (ix3 (0 : Fin 8) g p) := by
  rw [val_main_v23_apply, val_main_v22_apply, val_main_v1_apply, val_main_v0_apply]
  have hg := g.isLt
  have hp := p.isLt
  refine congrArg x (funext fun a => Fin.ext ?_)
  match a with
  | ⟨0, _⟩ => rfl
  | ⟨1, _⟩ => show (g.val * 64 + p.val) / 64 % 64 = g.val; omega
  | ⟨2, _⟩ => show (g.val * 64 + p.val) % 64 = p.val; omega

theorem ab_im2 (x : S8x64x64.Idx → EReal) (r : Fin 32) (g p : Fin 64) : val_main_v26 (F := Ideal) x (ix3 r g p) = x (ix3 (0 : Fin 8) g p) := by
  rw [val_main_v26_apply, val_main_v25_apply, val_main_v3_apply, val_main_v2_apply]
  have hg := g.isLt
  have hp := p.isLt
  refine congrArg x (funext fun a => Fin.ext ?_)
  match a with
  | ⟨0, _⟩ => rfl
  | ⟨1, _⟩ => show (g.val * 64 + p.val) / 64 % 64 = g.val; omega
  | ⟨2, _⟩ => show (g.val * 64 + p.val) % 64 = p.val; omega

theorem h0_re (x : S1x32x64x64.Idx → EReal) (r : Fin 32) (g p : Fin 64) : val_main_v8 (F := Ideal) x (ix3 r g p) = x (ix4 (0 : Fin 1) r g p) := by
  rw [val_main_v8_apply]
  have hr := r.isLt
  have hg := g.isLt
  have hp := p.isLt
  refine congrArg x (funext fun a => Fin.ext ?_)
  match a with
  | ⟨0, _⟩ => rfl
  | ⟨1, _⟩ => show ((r.val * 64 + g.val) * 64 + p.val) / 4096 % 32 = r.val; omega
  | ⟨2, _⟩ => show ((r.val * 64 + g.val) * 64 + p.val) / 64 % 64 = g.val; omega
  | ⟨3, _⟩ => show ((r.val * 64 + g.val) * 64 + p.val) % 64 = p.val; omega

theorem h0_im (x : S1x32x64x64.Idx → EReal) (r : Fin 32) (g p : Fin 64) : val_main_v9 (F := Ideal) x (ix3 r g p) = x (ix4 (0 : Fin 1) r g p) := by
  rw [val_main_v9_apply]
  have hr := r.isLt
  have hg := g.isLt
  have hp := p.isLt
  refine congrArg x (funext fun a => Fin.ext ?_)
  match a with
  | ⟨0, _⟩ => rfl
  | ⟨1, _⟩ => show ((r.val * 64 + g.val) * 64 + p.val) / 4096 % 32 = r.val; omega
  | ⟨2, _⟩ => show ((r.val * 64 + g.val) * 64 + p.val) / 64 % 64 = g.val; omega
  | ⟨3, _⟩ => show ((r.val * 64 + g.val) * 64 + p.val) % 64 = p.val; omega

theorem refR_at (x0 : S32x3072.Idx → EReal) (x1 x2 : S1x32x64x64.Idx → EReal) (x3 x4 : S8x64x64.Idx → EReal) (x5 : S64x1024.Idx → EReal) (r : Fin 32) (L : Fin 4096) :
    val_main_v30 (F := Ideal) x0 x1 x2 x3 x4 x5 (ix2 r L) = newR x0 x1 x2 x3 x4 x5 r L := by
  have hr := r.isLt
  have hL := L.isLt
  have e : idx_main_v30 (ix2 r L) = ix3 r (grp L) (mode L) := by
    funext a
    apply Fin.ext
    match a with
    | ⟨0, _⟩ => show (r.val * 4096 + L.val) / 4096 = r.val; omega
    | ⟨1, _⟩ => show (r.val * 4096 + L.val) / 64 % 64 = L.val / 64; omega
    | ⟨2, _⟩ => show (r.val * 4096 + L.val) % 64 = L.val % 64; omega
  rw [val_main_v30_apply, e, val_main_v19_apply]
  refine congrArg₂ (· + ·) ?_ ?_
  · rw [val_main_v11_apply, val_main_v10_apply]
    refine Finset.sum_congr rfl fun h _ => ?_
    rw [mul_comm, val_main_v4_apply, val_main_v7_apply, val_main_v6_apply]
    have hg := (grp L).isLt
    have hm := (mode L).isLt
    have hh := h.isLt
    refine congrArg₂ (· * ·) (congrArg x0 (funext fun a => Fin.ext ?_)) (congrArg x5 (funext fun a => Fin.ext ?_))
    · match a with
      | ⟨0, _⟩ => show ((r.val * 64 + (grp L).val) * 16 + h.val) / 1024 = r.val; omega
      | ⟨1, _⟩ => show ((r.val * 64 + (grp L).val) * 16 + h.val) % 1024 = (grp L).val * 16 + h.val; omega
    · match a with
      | ⟨0, _⟩ => show (((grp L).val * 64 + (mode L).val) * 16 + h.val) / 1024 = (grp L).val; omega
      | ⟨1, _⟩ => show (((grp L).val * 64 + (mode L).val) * 16 + h.val) % 1024 = (mode L).val * 16 + h.val; omega
  · rw [val_main_v18_apply, val_main_v14_apply, val_main_v17_apply]
    exact congrArg₂ (fun a b : EReal => a - b) (congrArg₂ (· * ·) (ab_re x3 r (grp L) (mode L)) (h0_re x1 r (grp L) (mode L)))
      (congrArg₂ (· * ·) (ab_im x4 r (grp L) (mode L)) (h0_im x2 r (grp L) (mode L)))

theorem refI_at (x0 : S32x3072.Idx → EReal) (x1 x2 : S1x32x64x64.Idx → EReal) (x3 x4 : S8x64x64.Idx → EReal) (x6 : S64x1024.Idx → EReal) (r : Fin 32) (L : Fin 4096) :
    val_main_v31 (F := Ideal) x0 x1 x2 x3 x4 x6 (ix2 r L) = newI x0 x1 x2 x3 x4 x6 r L := by
  have hr := r.isLt
  have hL := L.isLt
  have e : idx_main_v31 (ix2 r L) = ix3 r (grp L) (mode L) := by
    funext a
    apply Fin.ext
    match a with
    | ⟨0, _⟩ => show (r.val * 4096 + L.val) / 4096 = r.val; omega
    | ⟨1, _⟩ => show (r.val * 4096 + L.val) / 64 % 64 = L.val / 64; omega
    | ⟨2, _⟩ => show (r.val * 4096 + L.val) % 64 = L.val % 64; omega
  rw [val_main_v31_apply, e, val_main_v29_apply]
  refine congrArg₂ (· + ·) ?_ ?_
  · rw [val_main_v21_apply, val_main_v20_apply]
    refine Finset.sum_congr rfl fun h _ => ?_
    rw [mul_comm, val_main_v5_apply, val_main_v7_apply, val_main_v6_apply]
    have hg := (grp L).isLt
    have hm := (mode L).isLt
    have hh := h.isLt
    refine congrArg₂ (· * ·) (congrArg x0 (funext fun a => Fin.ext ?_)) (congrArg x6 (funext fun a => Fin.ext ?_))
    · match a with
      | ⟨0, _⟩ => show ((r.val * 64 + (grp L).val) * 16 + h.val) / 1024 = r.val; omega
      | ⟨1, _⟩ => show ((r.val * 64 + (grp L).val) * 16 + h.val) % 1024 = (grp L).val * 16 + h.val; omega
    · match a with
      | ⟨0, _⟩ => show (((grp L).val * 64 + (mode L).val) * 16 + h.val) / 1024 = (grp L).val; omega
      | ⟨1, _⟩ => show (((grp L).val * 64 + (mode L).val) * 16 + h.val) % 1024 = (mode L).val * 16 + h.val; omega
  · rw [val_main_v28_apply, val_main_v24_apply, val_main_v27_apply]
    exact congrArg₂ (fun a b : EReal => a + b) (congrArg₂ (· * ·) (ab_re2 x3 r (grp L) (mode L)) (h0_im x2 r (grp L) (mode L)))
      (congrArg₂ (· * ·) (ab_im2 x4 r (grp L) (mode L)) (h0_re x1 r (grp L) (mode L)))

/-! ## The kernel's arrays -/

variable (m : (ℓ : Loc nD τ sig) → Buf (Elt Ideal) ℓ)

abbrev a0 (c : Dev nD) : S32x3072.Idx → EReal := m ((c : Thread nD τ).loc main_arg0)
abbrev a1 (c : Dev nD) : S1x32x64x64.Idx → EReal := m ((c : Thread nD τ).loc main_arg1)
abbrev a2 (c : Dev nD) : S1x32x64x64.Idx → EReal := m ((c : Thread nD τ).loc main_arg2)
abbrev a3 (c : Dev nD) : S8x64x64.Idx → EReal := m ((c : Thread nD τ).loc main_arg3)
abbrev a4 (c : Dev nD) : S8x64x64.Idx → EReal := m ((c : Thread nD τ).loc main_arg4)
abbrev a5 (c : Dev nD) : S64x1024.Idx → EReal := m ((c : Thread nD τ).loc main_arg5)
abbrev a6 (c : Dev nD) : S64x1024.Idx → EReal := m ((c : Thread nD τ).loc main_arg6)

theorem idx_facts : ∀ t : Fin cfg0.N,
    (win0_0.index t 0 = 0 ∧ win0_0.index t 1 = 0) ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_6.index t 0 = 0 ∧ win0_6.index t 1 = 0) ∧ (win0_7.index t 0 = 0 ∧ win0_7.index t 1 = 0) ∧ True :=
  (by decide +kernel : ∀ t : Fin grid0.N, _)

theorem out_facts11 : ∀ t : Fin cfg0.N, win0_11.index t 0 = 0 ∧ win0_11.index t 1 = 0 := (by decide +kernel : ∀ t : Fin grid0.N, _)
theorem out_facts12 : ∀ t : Fin cfg0.N, win0_12.index t 0 = 0 ∧ win0_12.index t 1 = 0 := (by decide +kernel : ∀ t : Fin grid0.N, _)
theorem flush_all11 : ∀ t : Fin cfg0.N, (cfg0.win 11).flush t = true := (by decide +kernel : ∀ t : Fin grid0.N, _)
theorem flush_all12 : ∀ t : Fin cfg0.N, (cfg0.win 12).flush t = true := (by decide +kernel : ∀ t : Fin grid0.N, _)

theorem blk0 (c : Dev nD) (t : Fin cfg0.N) (r : Fin 32) (l : Fin 1024) :
    (iblk m c 0 t : Vec Ideal S32x1024 .f32) (ix2 r l) = (V m c (Pipeline.arrRef spec0 0) : S32x3072.Idx → EReal) (ix2 r (⟨l.val, in_wide l⟩ : Fin 3072)) := by
  obtain ⟨⟨e0, e1⟩, -⟩ := idx_facts t
  unfold iblk
  rw [View.read_apply]
  have hi : ((cfg0.win 0).blk t).view.emb (ix2 r l) = (ix2 r (⟨l.val, in_wide l⟩ : Fin 3072)) := by
    funext a
    apply Fin.ext
    match a with
    | ⟨0, _⟩ => show win0_0.index t 0 * 32 + 1 * (r.val : Nat) = r.val; rw [e0] <;> omega
    | ⟨1, _⟩ => show win0_0.index t 1 * 1024 + 1 * (l.val : Nat) = l.val; rw [e1] <;> omega
  rw [hi]
  rfl

theorem blk2 (c : Dev nD) (t : Fin cfg0.N) (r : Fin 32) (l : Fin 4096) :
    (iblk m c 2 t : Vec Ideal S32x4096 .f32) (ix2 r l) = (V m c (Pipeline.arrRef spec0 2) : S32x4096.Idx → EReal) (ix2 r l) := by
  obtain ⟨-, ⟨e0, e1⟩, -⟩ := idx_facts t
  unfold iblk
  rw [View.read_apply]
  have hi : ((cfg0.win 2).blk t).view.emb (ix2 r l) = (ix2 r l) := by
    funext a
    apply Fin.ext
    match a with
    | ⟨0, _⟩ => show win0_2.index t 0 * 32 + 1 * (r.val : Nat) = r.val; rw [e0] <;> omega
    | ⟨1, _⟩ => show win0_2.index t 1 * 4096 + 1 * (l.val : Nat) = l.val; rw [e1] <;> omega
  rw [hi]
  rfl

theorem blk3 (c : Dev nD) (t : Fin cfg0.N) (r : Fin 32) (l : Fin 4096) :
    (iblk m c 3 t : Vec Ideal S32x4096 .f32) (ix2 r l) = (V m c (Pipeline.arrRef spec0 3) : S32x4096.Idx → EReal) (ix2 r l) := by
  obtain ⟨-, -, ⟨e0, e1⟩, -⟩ := idx_facts t
  unfold iblk
  rw [View.read_apply]
  have hi : ((cfg0.win 3).blk t).view.emb (ix2 r l) = (ix2 r l) := by
    funext a
    apply Fin.ext
    match a with
    | ⟨0, _⟩ => show win0_3.index t 0 * 32 + 1 * (r.val : Nat) = r.val; rw [e0] <;> omega
    | ⟨1, _⟩ => show win0_3.index t 1 * 4096 + 1 * (l.val : Nat) = l.val; rw [e1] <;> omega
  rw [hi]
  rfl

theorem blk4 (c : Dev nD) (t : Fin cfg0.N) (j : Fin 8) (q : Fin 128) (l : Fin 1024) :
    (iblk m c 4 t : Vec Ideal S8x128x1024 .bf16) (ix3 j q l) = (V m c (Pipeline.arrRef spec0 4) : S8x128x1024.Idx → EReal) (ix3 j q l) := by
  obtain ⟨-, -, -, ⟨e0, e1, e2⟩, -⟩ := idx_facts t
  unfold iblk
  rw [View.read_apply]
  have hi : ((cfg0.win 4).blk t).view.emb (ix3 j q l) = (ix3 j q l) := by
    funext a
    apply Fin.ext
    match a with
    | ⟨0, _⟩ => show win0_4.index t 0 * 8 + 1 * (j.val : Nat) = j.val; rw [e0] <;> omega
    | ⟨1, _⟩ => show win0_4.index t 1 * 128 + 1 * (q.val : Nat) = q.val; rw [e1] <;> omega
    | ⟨2, _⟩ => show win0_4.index t 2 * 1024 + 1 * (l.val : Nat) = l.val; rw [e2] <;> omega
  rw [hi]
  rfl

theorem blk6 (c : Dev nD) (t : Fin cfg0.N) (r : Fin 8) (l : Fin 4096) :
    (iblk m c 6 t : Vec Ideal S8x4096 .f32) (ix2 r l) = (V m c (Pipeline.arrRef spec0 6) : S8x4096.Idx → EReal) (ix2 r l) := by
  obtain ⟨-, -, -, -, ⟨e0, e1⟩, -⟩ := idx_facts t
  unfold iblk
  rw [View.read_apply]
  have hi : ((cfg0.win 6).blk t).view.emb (ix2 r l) = (ix2 r l) := by
    funext a
    apply Fin.ext
    match a with
    | ⟨0, _⟩ => show win0_6.index t 0 * 8 + 1 * (r.val : Nat) = r.val; rw [e0] <;> omega
    | ⟨1, _⟩ => show win0_6.index t 1 * 4096 + 1 * (l.val : Nat) = l.val; rw [e1] <;> omega
  rw [hi]
  rfl

theorem blk7 (c : Dev nD) (t : Fin cfg0.N) (r : Fin 8) (l : Fin 4096) :
    (iblk m c 7 t : Vec Ideal S8x4096 .f32) (ix2 r l) = (V m c (Pipeline.arrRef spec0 7) : S8x4096.Idx → EReal) (ix2 r l) := by
  obtain ⟨-, -, -, -, -, ⟨e0, e1⟩, -⟩ := idx_facts t
  unfold iblk
  rw [View.read_apply]
  have hi : ((cfg0.win 7).blk t).view.emb (ix2 r l) = (ix2 r l) := by
    funext a
    apply Fin.ext
    match a with
    | ⟨0, _⟩ => show win0_7.index t 0 * 8 + 1 * (r.val : Nat) = r.val; rw [e0] <;> omega
    | ⟨1, _⟩ => show win0_7.index t 1 * 4096 + 1 * (l.val : Nat) = l.val; rw [e1] <;> omega
  rw [hi]
  rfl

/-! ## The arrays that the host prepares -/

theorem za_host (c : Dev nD) (r : Fin 32) (l : Fin 3072) :
    (V m c (Pipeline.arrRef spec0 0) : S32x3072.Idx → EReal) (ix2 r l) = a0 m c (ix2 r l) :=
  congrFun (V_main_arg0 m c) (ix2 r l)

theorem h0r_host (c : Dev nD) (r : Fin 32) (L : Fin 4096) :
    (V m c (Pipeline.arrRef spec0 2) : S32x4096.Idx → EReal) (ix2 r L) = a1 m c (ix4 (0 : Fin 1) r (grp L) (mode L)) := by
  unfold V hostOps0 hostOps0_1 hostOps0_2 hostOps0_3 hostOps0_4 hostOps0_5 hostOps0_6 hostOps0_7 hostOps0_8 hostOps0_9 hostOps0_10 hostOps0_11 hostOps0_12
  after_reads_at
  rfl

theorem h0i_host (c : Dev nD) (r : Fin 32) (L : Fin 4096) :
    (V m c (Pipeline.arrRef spec0 3) : S32x4096.Idx → EReal) (ix2 r L) = a2 m c (ix4 (0 : Fin 1) r (grp L) (mode L)) := by
  unfold V hostOps0 hostOps0_1 hostOps0_2 hostOps0_3 hostOps0_4 hostOps0_5 hostOps0_6 hostOps0_7 hostOps0_8 hostOps0_9 hostOps0_10 hostOps0_11 hostOps0_12
  after_reads_at
  rfl

theorem pr_host (c : Dev nD) (r : Fin 8) (L : Fin 4096) :
    (V m c (Pipeline.arrRef spec0 6) : S8x4096.Idx → EReal) (ix2 r L) = a3 m c (ix3 r (grp L) (mode L)) := by
  unfold V hostOps0 hostOps0_1 hostOps0_2 hostOps0_3 hostOps0_4 hostOps0_5 hostOps0_6 hostOps0_7 hostOps0_8 hostOps0_9 hostOps0_10 hostOps0_11 hostOps0_12
  after_reads_at
  rfl

theorem pi_host (c : Dev nD) (r : Fin 8) (L : Fin 4096) :
    (V m c (Pipeline.arrRef spec0 7) : S8x4096.Idx → EReal) (ix2 r L) = a4 m c (ix3 r (grp L) (mode L)) := by
  unfold V hostOps0 hostOps0_1 hostOps0_2 hostOps0_3 hostOps0_4 hostOps0_5 hostOps0_6 hostOps0_7 hostOps0_8 hostOps0_9 hostOps0_10 hostOps0_11 hostOps0_12
  after_reads_at
  rfl

theorem w1R_host (c : Dev nD) (j : Fin 8) (q : Fin 128) (l : Fin 512) (a : Fin 8) (h : Fin 16) (ha : q.val / 16 = a.val) (hh : q.val % 16 = h.val) :
    (V m c (Pipeline.arrRef spec0 4) : S8x128x1024.Idx → EReal) (ix3 j q (lo l))
      = a5 m c (ix2 (g8 j a) (bcol (m64 l) h)) * (if a.val = l.val / 64 then 1 else 0) := by
  unfold V hostOps0 hostOps0_1 hostOps0_2 hostOps0_3 hostOps0_4 hostOps0_5 hostOps0_6 hostOps0_7 hostOps0_8 hostOps0_9 hostOps0_10 hostOps0_11 hostOps0_12
  repeat after_reads_at
  have hq := q.isLt
  have hl := l.isLt
  refine dite_lo (l := l) (rfl : (lo l).val = l.val) _ _ _ fun e => ?_
  refine congrArg₂ (· * ·) (congrArg _ (congrArg₂ ix2 (Fin.ext ?_) (Fin.ext ?_))) ((eye_at _ _ ?_ ?_).trans ?_)
  · show j.val * 8 + q.val / 16 = j.val * 8 + a.val
    rw [ha]
  · show l.val % 64 * 16 + q.val % 16 = l.val % 64 * 16 + h.val
    rw [hh]
  · omega
  · show l.val / 64 < 8
    omega
  · have e2 : l.val / 64 = l.val / 64 := by omega
    show (if q.val / 16 = l.val / 64 then (1 : EReal) else 0) = _
    rw [ha, e2]

theorem w1I_host (c : Dev nD) (j : Fin 8) (q : Fin 128) (l : Fin 512) (a : Fin 8) (h : Fin 16) (ha : q.val / 16 = a.val) (hh : q.val % 16 = h.val) :
    (V m c (Pipeline.arrRef spec0 4) : S8x128x1024.Idx → EReal) (ix3 j q (hi l))
      = a6 m c (ix2 (g8 j a) (bcol (m64 l) h)) * (if a.val = l.val / 64 then 1 else 0) := by
  unfold V hostOps0 hostOps0_1 hostOps0_2 hostOps0_3 hostOps0_4 hostOps0_5 hostOps0_6 hostOps0_7 hostOps0_8 hostOps0_9 hostOps0_10 hostOps0_11 hostOps0_12
  repeat after_reads_at
  have hq := q.isLt
  have hl := l.isLt
  refine dite_hi (l := l) (rfl : (hi l).val = 512 + l.val) _ _ _ fun e => ?_
  refine congrArg₂ (· * ·) (congrArg _ (congrArg₂ ix2 (Fin.ext ?_) (Fin.ext ?_))) ((eye_at _ _ ?_ ?_).trans ?_)
  · show j.val * 8 + q.val / 16 = j.val * 8 + a.val
    rw [ha]
  · show (512 + l.val - 512) % 64 * 16 + q.val % 16 = l.val % 64 * 16 + h.val
    rw [hh] <;> omega
  · omega
  · show (512 + l.val - 512) / 64 < 8
    omega
  · have e2 : (512 + l.val - 512) / 64 = l.val / 64 := by omega
    show (if q.val / 16 = (512 + l.val - 512) / 64 then (1 : EReal) else 0) = _
    rw [ha, e2]

theorem stR_args (c : Dev nD) (t : Fin cfg0.N) (r : Fin 32) (L : Fin 4096) :
    stR (iblk m c 0 t) (iblk m c 4 t) (iblk m c 6 t) (iblk m c 7 t) (iblk m c 2 t) (iblk m c 3 t) r L = newR (a0 m c) (a1 m c) (a2 m c) (a3 m c) (a4 m c) (a5 m c) r L := by
  unfold stR newR
  rw [blk2 m c t r L, blk3 m c t r L, blk6 m c t 0 L, blk7 m c t 0 L, h0r_host, h0i_host, pr_host, pi_host, split128]
  refine congrArg (· + _) (Eq.trans ?_ (sum_blk (place L) (fun a h => a0 m c (ix2 r (wide (g8 (chunk L) a) h)) * a5 m c (ix2 (g8 (chunk L) a) (bcol (m64 (inner L)) h))) |>.trans ?_))
  · refine Finset.sum_congr rfl fun a _ => Finset.sum_congr rfl fun h _ => ?_
    have hh := h.isLt
    rw [mul_assoc]
    refine congrArg₂ (· * ·) ?_ ?_
    · refine (blk0 m c t r _).trans ?_
      refine (za_host m c r _).trans (congrArg (fun l : Fin 3072 => a0 m c (ix2 r l)) (Fin.ext ?_))
      show 128 * (L.val / 512) + (a.val * 16 + h.val) = (L.val / 512 * 8 + a.val) * 16 + h.val
      omega
    · refine (blk4 m c t (chunk L) (p128 a h) _).trans ?_
      refine w1R_host m c (chunk L) (p128 a h) (inner L) a h ?_ ?_
      · show (a.val * 16 + h.val) / 16 = a.val; omega
      · show (a.val * 16 + h.val) % 16 = h.val; omega
  · refine Finset.sum_congr rfl fun h _ => ?_
    have e1 : g8 (chunk L) (place L) = grp L := Fin.ext (by show L.val / 512 * 8 + L.val % 512 / 64 = L.val / 64; omega)
    have e2 : m64 (inner L) = mode L := Fin.ext (by show L.val % 512 % 64 = L.val % 64; omega)
    rw [e1, e2]

theorem stI_args (c : Dev nD) (t : Fin cfg0.N) (r : Fin 32) (L : Fin 4096) :
    stI (iblk m c 0 t) (iblk m c 4 t) (iblk m c 6 t) (iblk m c 7 t) (iblk m c 2 t) (iblk m c 3 t) r L = newI (a0 m c) (a1 m c) (a2 m c) (a3 m c) (a4 m c) (a6 m c) r L := by
  unfold stI newI
  rw [blk2 m c t r L, blk3 m c t r L, blk6 m c t 0 L, blk7 m c t 0 L, h0r_host, h0i_host, pr_host, pi_host, split128]
  refine congrArg (· + _) (Eq.trans ?_ (sum_blk (place L) (fun a h => a0 m c (ix2 r (wide (g8 (chunk L) a) h)) * a6 m c (ix2 (g8 (chunk L) a) (bcol (m64 (inner L)) h))) |>.trans ?_))
  · refine Finset.sum_congr rfl fun a _ => Finset.sum_congr rfl fun h _ => ?_
    have hh := h.isLt
    rw [mul_assoc]
    refine congrArg₂ (· * ·) ?_ ?_
    · refine (blk0 m c t r _).trans ?_
      refine (za_host m c r _).trans (congrArg (fun l : Fin 3072 => a0 m c (ix2 r l)) (Fin.ext ?_))
      show 128 * (L.val / 512) + (a.val * 16 + h.val) = (L.val / 512 * 8 + a.val) * 16 + h.val
      omega
    · refine (blk4 m c t (chunk L) (p128 a h) _).trans ?_
      refine w1I_host m c (chunk L) (p128 a h) (inner L) a h ?_ ?_
      · show (a.val * 16 + h.val) / 16 = a.val; omega
      · show (a.val * 16 + h.val) % 16 = h.val; omega
  · refine Finset.sum_congr rfl fun h _ => ?_
    have e1 : g8 (chunk L) (place L) = grp L := Fin.ext (by show L.val / 512 * 8 + L.val % 512 / 64 = L.val / 64; omega)
    have e2 : m64 (inner L) = mode L := Fin.ext (by show L.val % 512 % 64 = L.val % 64; omega)
    rw [e1, e2]

/-! ## The two result arrays -/

theorem out11_at (c : Dev nD) (t : Fin cfg0.N) (r : Fin 32) (L : Fin 4096) :
    (outsAt0 m c t).2.1 (ix2 r L) = stR (iblk m c 0 t) (iblk m c 4 t) (iblk m c 6 t) (iblk m c 7 t) (iblk m c 2 t) (iblk m c 3 t) r L := by
  unfold outsAt0 out0_A_11 kernelRun0_A
  dsimp only
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, View.read_writes_junk_eq_canon, View.readAt_eq_ld, Memref.IsWhole.read_unread]
  refine View.canon_eq_of_allAt _ _ _ (View.cover_of_tiled_head _ _ _ rfl _) ?_
  exact (View.allAt_cons_unit _ _ _ _ _ (tileR _ _ _ _ _ _ r L 3584 896 7 rfl rfl inb_S32x1024_S32x128_0_896 inb_S8x128x1024_S1x128x1024_7_0_0 inb_S8x4096_S1x512_0_3584 inb_S32x4096_S32x512_0_3584)
    (View.allAt_cons_unit _ _ _ _ _ (tileR _ _ _ _ _ _ r L 3072 768 6 rfl rfl inb_S32x1024_S32x128_0_768 inb_S8x128x1024_S1x128x1024_6_0_0 inb_S8x4096_S1x512_0_3072 inb_S32x4096_S32x512_0_3072)
    (View.allAt_cons_unit _ _ _ _ _ (tileR _ _ _ _ _ _ r L 2560 640 5 rfl rfl inb_S32x1024_S32x128_0_640 inb_S8x128x1024_S1x128x1024_5_0_0 inb_S8x4096_S1x512_0_2560 inb_S32x4096_S32x512_0_2560)
    (View.allAt_cons_unit _ _ _ _ _ (tileR _ _ _ _ _ _ r L 2048 512 4 rfl rfl inb_S32x1024_S32x128_0_512 inb_S8x128x1024_S1x128x1024_4_0_0 inb_S8x4096_S1x512_0_2048 inb_S32x4096_S32x512_0_2048)
    (View.allAt_cons_unit _ _ _ _ _ (tileR _ _ _ _ _ _ r L 1536 384 3 rfl rfl inb_S32x1024_S32x128_0_384 inb_S8x128x1024_S1x128x1024_3_0_0 inb_S8x4096_S1x512_0_1536 inb_S32x4096_S32x512_0_1536)
    (View.allAt_cons_unit _ _ _ _ _ (tileR _ _ _ _ _ _ r L 1024 256 2 rfl rfl inb_S32x1024_S32x128_0_256 inb_S8x128x1024_S1x128x1024_2_0_0 inb_S8x4096_S1x512_0_1024 inb_S32x4096_S32x512_0_1024)
    (View.allAt_cons_unit _ _ _ _ _ (tileR _ _ _ _ _ _ r L 512 128 1 rfl rfl inb_S32x1024_S32x128_0_128 inb_S8x128x1024_S1x128x1024_1_0_0 inb_S8x4096_S1x512_0_512 inb_S32x4096_S32x512_0_512)
    (View.allAt_cons_unit _ _ _ _ _ (tileR _ _ _ _ _ _ r L 0 0 0 rfl rfl inb_S32x1024_S32x128_0_0 inb_S8x128x1024_S1x128x1024_0_0_0 inb_S8x4096_S1x512_0_0 inb_S32x4096_S32x512_0_0)
    (View.allAt_nil _ _)))))))))

theorem out12_at (c : Dev nD) (t : Fin cfg0.N) (r : Fin 32) (L : Fin 4096) :
    (outsAt0 m c t).2.2 (ix2 r L) = stI (iblk m c 0 t) (iblk m c 4 t) (iblk m c 6 t) (iblk m c 7 t) (iblk m c 2 t) (iblk m c 3 t) r L := by
  unfold outsAt0 out0_A_12 kernelRun0_A
  dsimp only
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, View.read_writes_junk_eq_canon, View.readAt_eq_ld, Memref.IsWhole.read_unread]
  refine View.canon_eq_of_allAt _ _ _ (View.cover_of_tiled_head _ _ _ rfl _) ?_
  exact (View.allAt_cons_unit _ _ _ _ _ (tileI _ _ _ _ _ _ r L 3584 896 7 rfl rfl inb_S32x1024_S32x128_0_896 inb_S8x128x1024_S1x128x1024_7_0_0 inb_S8x4096_S1x512_0_3584 inb_S32x4096_S32x512_0_3584)
    (View.allAt_cons_unit _ _ _ _ _ (tileI _ _ _ _ _ _ r L 3072 768 6 rfl rfl inb_S32x1024_S32x128_0_768 inb_S8x128x1024_S1x128x1024_6_0_0 inb_S8x4096_S1x512_0_3072 inb_S32x4096_S32x512_0_3072)
    (View.allAt_cons_unit _ _ _ _ _ (tileI _ _ _ _ _ _ r L 2560 640 5 rfl rfl inb_S32x1024_S32x128_0_640 inb_S8x128x1024_S1x128x1024_5_0_0 inb_S8x4096_S1x512_0_2560 inb_S32x4096_S32x512_0_2560)
    (View.allAt_cons_unit _ _ _ _ _ (tileI _ _ _ _ _ _ r L 2048 512 4 rfl rfl inb_S32x1024_S32x128_0_512 inb_S8x128x1024_S1x128x1024_4_0_0 inb_S8x4096_S1x512_0_2048 inb_S32x4096_S32x512_0_2048)
    (View.allAt_cons_unit _ _ _ _ _ (tileI _ _ _ _ _ _ r L 1536 384 3 rfl rfl inb_S32x1024_S32x128_0_384 inb_S8x128x1024_S1x128x1024_3_0_0 inb_S8x4096_S1x512_0_1536 inb_S32x4096_S32x512_0_1536)
    (View.allAt_cons_unit _ _ _ _ _ (tileI _ _ _ _ _ _ r L 1024 256 2 rfl rfl inb_S32x1024_S32x128_0_256 inb_S8x128x1024_S1x128x1024_2_0_0 inb_S8x4096_S1x512_0_1024 inb_S32x4096_S32x512_0_1024)
    (View.allAt_cons_unit _ _ _ _ _ (tileI _ _ _ _ _ _ r L 512 128 1 rfl rfl inb_S32x1024_S32x128_0_128 inb_S8x128x1024_S1x128x1024_1_0_0 inb_S8x4096_S1x512_0_512 inb_S32x4096_S32x512_0_512)
    (View.allAt_cons_unit _ _ _ _ _ (tileI _ _ _ _ _ _ r L 0 0 0 rfl rfl inb_S32x1024_S32x128_0_0 inb_S8x128x1024_S1x128x1024_0_0_0 inb_S8x4096_S1x512_0_0 inb_S32x4096_S32x512_0_0)
    (View.allAt_nil _ _)))))))))

abbrev G11 (c : Dev nD) : S32x4096.Idx → EReal := val_main_v30 (F := Ideal) (a0 m c) (a1 m c) (a2 m c) (a3 m c) (a4 m c) (a5 m c)

theorem flushed11 (c : Dev nD) (t : Fin cfg0.N) :
    (dats m 0 c).flushed 11 t = ((cfg0.win 11).blk t).view.read (Elt Ideal) (G11 m c) := by
  rw [Cert.Kernel7Ideal.Value.flushed11]
  funext j
  obtain ⟨r, L, rfl⟩ := (ix_exhaust2 j : ∃ (r : Fin 32) (L : Fin 4096), j = ix2 r L)
  rw [View.read_apply]
  have hi : ((cfg0.win 11).blk t).view.emb (ix2 r L) = ix2 r L := by
    obtain ⟨e0, e1⟩ := out_facts11 t
    funext a
    apply Fin.ext
    match a with
    | ⟨0, _⟩ => show win0_11.index t 0 * 32 + 1 * (r.val : Nat) = r.val; rw [e0] <;> omega
    | ⟨1, _⟩ => show win0_11.index t 1 * 4096 + 1 * (L.val : Nat) = L.val; rw [e1] <;> omega
  rw [hi]
  show (outsAt0 m c t).2.1 (ix2 r L) = G11 m c (ix2 r L)
  exact (out11_at m c t r L).trans ((stR_args m c t r L).trans (refR_at _ _ _ _ _ _ r L).symm)

theorem cover11 (i : S32x4096.Idx) : ∃ t : Fin cfg0.N, (cfg0.win 11).flush t = true ∧ i ∈ ((cfg0.win 11).blk t).view.set := by
  have h0 : (i 0 : Nat) < 32 := (i 0).isLt
  have h1 : (i 1 : Nat) < 4096 := (i 1).isLt
  refine ⟨t0_0, flush_all11 t0_0, ?_⟩
  obtain ⟨e0, e1⟩ := out_facts11 t0_0
  show i ∈ ((View.whole main_v101_1).slice (win0_11.rect t0_0)).set
  rw [View.set_slice_whole, Rect.mem_set_unit]
  intro a
  match a with
  | ⟨0, _⟩ => show win0_11.index t0_0 0 * 32 ≤ (i 0 : Nat) ∧ (i 0 : Nat) < win0_11.index t0_0 0 * 32 + 32; rw [e0]; omega
  | ⟨1, _⟩ => show win0_11.index t0_0 1 * 4096 ≤ (i 1 : Nat) ∧ (i 1 : Nat) < win0_11.index t0_0 1 * 4096 + 4096; rw [e1]; omega

theorem final11 (c : Dev nD) : (dats m 0 c).arrAt 11 cfg0.N = G11 m c :=
  (dats m 0 c).arrAt_eq_of_cover 11 (G11 m c) (fun t _ => flushed11 m c t) fun i => cover11 i

abbrev G12 (c : Dev nD) : S32x4096.Idx → EReal := val_main_v31 (F := Ideal) (a0 m c) (a1 m c) (a2 m c) (a3 m c) (a4 m c) (a6 m c)

theorem flushed12 (c : Dev nD) (t : Fin cfg0.N) :
    (dats m 0 c).flushed 12 t = ((cfg0.win 12).blk t).view.read (Elt Ideal) (G12 m c) := by
  rw [Cert.Kernel7Ideal.Value.flushed12]
  funext j
  obtain ⟨r, L, rfl⟩ := (ix_exhaust2 j : ∃ (r : Fin 32) (L : Fin 4096), j = ix2 r L)
  rw [View.read_apply]
  have hi : ((cfg0.win 12).blk t).view.emb (ix2 r L) = ix2 r L := by
    obtain ⟨e0, e1⟩ := out_facts12 t
    funext a
    apply Fin.ext
    match a with
    | ⟨0, _⟩ => show win0_12.index t 0 * 32 + 1 * (r.val : Nat) = r.val; rw [e0] <;> omega
    | ⟨1, _⟩ => show win0_12.index t 1 * 4096 + 1 * (L.val : Nat) = L.val; rw [e1] <;> omega
  rw [hi]
  show (outsAt0 m c t).2.2 (ix2 r L) = G12 m c (ix2 r L)
  exact (out12_at m c t r L).trans ((stI_args m c t r L).trans (refI_at _ _ _ _ _ _ r L).symm)

theorem cover12 (i : S32x4096.Idx) : ∃ t : Fin cfg0.N, (cfg0.win 12).flush t = true ∧ i ∈ ((cfg0.win 12).blk t).view.set := by
  have h0 : (i 0 : Nat) < 32 := (i 0).isLt
  have h1 : (i 1 : Nat) < 4096 := (i 1).isLt
  refine ⟨t0_0, flush_all12 t0_0, ?_⟩
  obtain ⟨e0, e1⟩ := out_facts12 t0_0
  show i ∈ ((View.whole main_v101_2).slice (win0_12.rect t0_0)).set
  rw [View.set_slice_whole, Rect.mem_set_unit]
  intro a
  match a with
  | ⟨0, _⟩ => show win0_12.index t0_0 0 * 32 ≤ (i 0 : Nat) ∧ (i 0 : Nat) < win0_12.index t0_0 0 * 32 + 32; rw [e0]; omega
  | ⟨1, _⟩ => show win0_12.index t0_0 1 * 4096 ≤ (i 1 : Nat) ∧ (i 1 : Nat) < win0_12.index t0_0 1 * 4096 + 4096; rw [e1]; omega

theorem final12 (c : Dev nD) : (dats m 0 c).arrAt 12 cfg0.N = G12 m c :=
  (dats m 0 c).arrAt_eq_of_cover 12 (G12 m c) (fun t _ => flushed12 m c t) fun i => cover12 i

end Step

theorem frame_k7 : Cert.quiescent_Kernel7 (hKernel7 := Cert.Kernel7.Gen.facts) := fun m g _ => Cert.Kernel7.Gen.frame m g

theorem frame_ki7 : Cert.quiescent_Kernel7Ideal (hKernel7Ideal := Cert.Kernel7Ideal.Gen.facts) := fun m g _ => Cert.Kernel7Ideal.Gen.frame m g

theorem frame_ri7 : Cert.quiescent_Reference7Ideal (hReference7Ideal := Cert.Reference7Ideal.Gen.facts) := fun m g _ =>
  (θ_run (Cert.Reference7Ideal.defs (F := Ideal)) _ _).mono (fun r h => ⟨fun c => (h c).2.2, sem_eq_zero_of_no_sems (by decide) r.2⟩) (Cert.Reference7Ideal.Value.run (F := Ideal) m g)

/-- From equal arguments the kernel's new states and the reference's are equal. -/
theorem algebraic7 : Cert.algebraic_Kernel7Ideal_Reference7Ideal (hKernel7Ideal := Cert.Kernel7Ideal.Gen.facts) (hReference7Ideal := Cert.Reference7Ideal.Gen.facts) := by
  intro m g m' g' _ hargs
  refine ⟨fun c => Step.G11 m c, fun c => Step.G12 m c,
    (θ_run (Cert.Kernel7Ideal.defs (F := Ideal)) _ _).mono (fun r h c => ?_) (Cert.Kernel7Ideal.Value.run_blocks (F := Ideal) m g), ?_⟩
  · obtain ⟨-, p1, p2, hk⟩ := h c
    exact ⟨p1.trans (Step.final11 m c), p2.trans (Step.final12 m c), hk⟩
  · refine (θ_run (Cert.Reference7Ideal.defs (F := Ideal)) _ _).mono (fun r h c => ?_) (Cert.Reference7Ideal.Value.run (F := Ideal) m' g')
    obtain ⟨p0, p1, hk⟩ := h c
    obtain ⟨h0, h1, h2, h3, h4, h5, h6, h7, h8, h9, h10⟩ := hargs c
    refine ⟨p0.trans ?_, p1.trans ?_, hk⟩
    · refine (Cert.Reference7Ideal.Read.val_main_v30_eq ..).trans ?_
      rw [h0, h1, h2, h3, h4, h5]
    · refine (Cert.Reference7Ideal.Read.val_main_v31_eq ..).trans ?_
      rw [h0, h1, h2, h3, h4, h6]

end Cert.Proof

end
-- ==== Proof.FfnStep.lean ====
/-
  The feed-forward step of the samples (`Kernel8Ideal`): one token's products, the convolution from the two kept rows, the down
  projection summed over eleven column blocks, the residual and the norm.
-/
module

public import proofs.«01_k».proof.Defs
public import proofs.«01_k».proof.Proof.Gen.Kernel8.Frame
public import proofs.«01_k».proof.Proof.Gen.Kernel8Ideal.Frame
public import proofs.«01_k».proof.Proof.Gen.Reference8Ideal.Read
public import Idealize.ShloMosaic.Lib.Pointwise
public import Idealize.ShloMosaic.Lib.Pipeline.ValueKit.Tiles
public import Idealize.ShloMosaic.Lib.StableHlo.ReadAt
public import Idealize.ShloMosaic.Lib.Quiescent

@[expose] public section

set_option maxRecDepth 16384

noncomputable section

namespace Cert.Proof

open Idealize.ShloMosaic Idealize.ShloMosaic.TcCoe Idealize.SL.Sem

namespace FfnStep

open Cert.Kernel8Ideal Cert.Kernel8Ideal.Gen
open Cert.Reference8Ideal.Read
open Idealize.ShloMosaic.Pipeline (Dat)

theorem ix_exhaust2 {a b : Nat} (j : (⟨2, ![a, b]⟩ : Shape).Idx) : ∃ (q : Fin a) (r : Fin b), j = ix2 q r := ⟨j 0, j 1, eq_ix2 j⟩
theorem ix_exhaust3 {a b d : Nat} (j : (⟨3, ![a, b, d]⟩ : Shape).Idx) : ∃ (q : Fin a) (r : Fin b) (l : Fin d), j = ix3 q r l := ⟨j 0, j 1, j 2, eq_ix3 j⟩

/-- The column of each half under column `l` of column block `j`. -/
def col (j : Fin 11) (l : Fin 512) : Fin 5632 := ⟨512 * j.val + l.val, by omega⟩
def valCol (n : Fin 5632) : Fin 11264 := ⟨n.val, by omega⟩
def gateCol (n : Fin 5632) : Fin 11264 := ⟨5632 + n.val, by omega⟩

/-! ## The reference, an element at a time -/

section Reference

variable (X0 : (⟨S32x2048, .bf16⟩ : BufTy).Contents (Elt Ideal)) (X1 : (⟨S32x2048, .f32⟩ : BufTy).Contents (Elt Ideal))
  (X2 : (⟨⟨3, ![1, 32, 2048]⟩, .f32⟩ : BufTy).Contents (Elt Ideal)) (X3 : (⟨⟨3, ![1, 2048, 11264]⟩, .f32⟩ : BufTy).Contents (Elt Ideal))
  (X4 : (⟨⟨3, ![1, 3, 11264]⟩, .f32⟩ : BufTy).Contents (Elt Ideal)) (X5 : (⟨⟨2, ![1, 11264]⟩, .f32⟩ : BufTy).Contents (Elt Ideal))
  (X6 : (⟨⟨3, ![1, 5632, 2048]⟩, .f32⟩ : BufTy).Contents (Elt Ideal)) (X7 : (⟨⟨1, ![2048]⟩, .f32⟩ : BufTy).Contents (Elt Ideal))
  (X8 : (⟨⟨4, ![1, 32, 2, 11264]⟩, .f32⟩ : BufTy).Contents (Elt Ideal))

/-- The token's product: the third row of the extended ones. -/
theorem ext_new (r : Fin 32) (C : Fin 11264) : val_main_v8 X0 X3 X8 (ix3 r (2 : Fin 3) C) = val_main_v7 X0 X3 (ix3 r (0 : Fin 1) C) := by
  unfold val_main_v8
  generalize val_main_v7 X0 X3 = p
  generalize val_main_v2 X8 = s
  pointwise

/-- The two kept rows. -/
theorem ext_old (r : Fin 32) (s : Fin 2) (C : Fin 11264) : val_main_v8 X0 X3 X8 (ix3 r (⟨s.val, by omega⟩ : Fin 3) C) = X8 (ix4 (0 : Fin 1) r s C) := by
  unfold val_main_v8
  generalize val_main_v7 X0 X3 = p
  unfold val_main_v2
  pointwise

/-- The convolution at a column. -/
def conv (r : Fin 32) (C : Fin 11264) : EReal :=
  X5 (ix2 (0 : Fin 1) C) + X4 (ix3 (0 : Fin 1) (2 : Fin 3) C) * val_main_v7 X0 X3 (ix3 r (0 : Fin 1) C) + X4 (ix3 (0 : Fin 1) (0 : Fin 3) C) * X8 (ix4 (0 : Fin 1) r (0 : Fin 2) C)
    + X4 (ix3 (0 : Fin 1) (1 : Fin 3) C) * X8 (ix4 (0 : Fin 1) r (1 : Fin 2) C)

theorem conv_row (r : Fin 32) (C : Fin 11264) : val_main_v31 X0 X3 X4 X5 X8 (ix3 r (0 : Fin 1) C) = conv X0 X3 X4 X5 X8 r C := by
  unfold conv
  rw [← ext_new X0 X3 X8, ← ext_old X0 X3 X8 r 0, ← ext_old X0 X3 X8 r 1]
  unfold val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v5 val_main_v4
  generalize val_main_v8 X0 X3 X8 = p
  pointwise
  try rfl

/-- The activation at a column. -/
def act (r : Fin 32) (n : Fin 5632) : EReal :=
  conv X0 X3 X4 X5 X8 r (gateCol n) * Ideal.logistic (conv X0 X3 X4 X5 X8 r (gateCol n)) * conv X0 X3 X4 X5 X8 r (valCol n)

theorem act_row (r : Fin 32) (n : Fin 5632) : val_main_v41 X0 X3 X4 X5 X8 (ix3 r (0 : Fin 1) n) = act X0 X3 X4 X5 X8 r n := by
  unfold act
  rw [← conv_row, ← conv_row]
  unfold val_main_v41 val_main_v40 val_main_v39 val_main_v38 val_main_v37 val_main_v36 val_main_v35 val_main_v34 val_main_v33 val_main_v32 val_main_cst val_main_cst_0
  generalize val_main_v31 X0 X3 X4 X5 X8 = p
  pointwise
  rfl

/-- A column's part of the down projection. -/
def term (r : Fin 32) (l : Fin 2048) (n : ℕ) : EReal :=
  if h : n < 5632 then act X0 X3 X4 X5 X8 r (⟨n, h⟩ : Fin 5632) * X6 (ix3 (0 : Fin 1) (⟨n, h⟩ : Fin 5632) l) else 0

theorem down_row (r : Fin 32) (l : Fin 2048) :
    val_main_v42 X0 X3 X4 X5 X6 X8 (ix3 r (0 : Fin 1) l) = ∑ n ∈ Finset.range 5632, term X0 X3 X4 X5 X6 X8 r l n := by
  have e : val_main_v42 X0 X3 X4 X5 X6 X8 (ix3 r (0 : Fin 1) l) = ∑ n : Fin 5632, val_main_v41 X0 X3 X4 X5 X8 (ix3 r (0 : Fin 1) n) * X6 (ix3 (0 : Fin 1) n l) := by
    unfold val_main_v42 val_main_v6
    generalize val_main_v41 X0 X3 X4 X5 X8 = p
    pointwise
  rw [e, Finset.sum_range]
  refine Finset.sum_congr rfl fun n _ => ?_
  unfold term
  rw [dif_pos n.isLt, act_row]

/-- The columns of a block added to those before. -/
theorem sum_step (r : Fin 32) (l : Fin 2048) (j : Fin 11) :
    (∑ n ∈ Finset.range (512 * j.val), term X0 X3 X4 X5 X6 X8 r l n) + ∑ n : Fin 512, act X0 X3 X4 X5 X8 r (col j n) * X6 (ix3 (0 : Fin 1) (col j n) l)
      = ∑ n ∈ Finset.range (512 * (j.val + 1)), term X0 X3 X4 X5 X6 X8 r l n := by
  rw [show 512 * (j.val + 1) = 512 * j.val + 512 by omega, Finset.sum_range_add]
  refine congrArg (_ + ·) ?_
  rw [Finset.sum_range]
  refine Finset.sum_congr rfl fun n _ => ?_
  unfold term
  rw [dif_pos (show 512 * j.val + n.val < 5632 by omega)]
  rfl

/-- The new state: the second kept row, then the product. -/
theorem tail_row (r : Fin 32) (s : Fin 2) (C : Fin 11264) :
    val_main_v43 X0 X3 X8 (ix3 r s C) = if s.val < 1 then X8 (ix4 (0 : Fin 1) r (1 : Fin 2) C) else val_main_v7 X0 X3 (ix3 r (0 : Fin 1) C) := by
  rw [← ext_new X0 X3 X8, ← ext_old X0 X3 X8 r 1]
  unfold val_main_v43
  generalize val_main_v8 X0 X3 X8 = p
  pointwise
  match s with
  | 0 => rfl
  | 1 => rfl

/-- The last step at a row: the residual and the norm. -/
theorem end_row (x1 : Vec Ideal S32x2048 .f32) (gt : Vec Ideal S1x32x2048 .f32) (y : Vec Ideal S32x2048 .f32) (gf : Vec Ideal S1x2048 .f32) (r : Fin 32)
    (h1 : ∀ l : Fin 2048, x1 (ix2 r l) = X1 (ix2 r l)) (h2 : ∀ l : Fin 2048, gt (ix3 (0 : Fin 1) r l) = X2 (ix3 (0 : Fin 1) r l))
    (hy : ∀ l : Fin 2048, y (ix2 r l) = val_main_v42 X0 X3 X4 X5 X6 X8 (ix3 r (0 : Fin 1) l))
    (h7 : ∀ l : Fin 2048, gf (ix2 (0 : Fin 1) l) = X7 (ix1 l)) (l : Fin 2048) :
    k0_pay1 x1 gt y gf (ix2 r l) = val_main_v61 X0 X1 X2 X3 X4 X5 X6 X7 X8 (ix2 r l) := by
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_cst_1 val_main_cst_2 val_main_cst_3
  unfold_payloads
  pointwise
  simp only [h1, h2, hy, h7]

end Reference

/-! ## The payloads, an element at a time -/

theorem up2 (x : Vec Ideal S32x2048 .bf16) (w : Vec Ideal S2048x512 .bf16) (r : Fin 32) (l : Fin 512) (C : Fin 11264)
    (X0 : (⟨S32x2048, .bf16⟩ : BufTy).Contents (Elt Ideal)) (X3 : (⟨⟨3, ![1, 2048, 11264]⟩, .f32⟩ : BufTy).Contents (Elt Ideal))
    (hx : ∀ k : Fin 2048, x (ix2 r k) = X0 (ix2 r k)) (hw : ∀ k : Fin 2048, w (ix2 k l) = X3 (ix3 (0 : Fin 1) k C)) :
    k0_pay2 x w (ix2 r l) = val_main_v7 X0 X3 (ix3 r (0 : Fin 1) C) := by
  unfold val_main_v7 val_main_v1 val_main_v0 val_main_v3
  unfold_payloads
  pointwise
  simp only [hx, hw]

theorem up3 (x : Vec Ideal S32x2048 .bf16) (w : Vec Ideal S2048x512 .bf16) : k0_pay3 x w = k0_pay2 x w := rfl

/-- The convolution's sum of the value half, without the last row. -/
theorem pay7_at (x : Vec Ideal S32x2048 .bf16) (w : Vec Ideal S2048x512 .bf16) (s : Vec Ideal S32x512 .f32) (cb c2 c0 : Vec Ideal S1x512 .f32) (r : Fin 32) (l : Fin 512) :
    k0_pay7 x w s cb c2 c0 (ix2 r l) = cb (ix2 (0 : Fin 1) l) + c2 (ix2 (0 : Fin 1) l) * k0_pay2 x w (ix2 r l) + c0 (ix2 (0 : Fin 1) l) * s (ix2 r l) := by
  unfold k0_pay7
  generalize k0_pay2 x w = u
  pointwise

/-- The point's addition, from its columns' activations. -/
theorem pay8_at (u s1v s1g s0g v : Vec Ideal S32x512 .f32) (c1v cbg c2g c0g c1g : Vec Ideal S1x512 .f32) (wd : Vec Ideal S512x2048 .bf16) (r : Fin 32) (l : Fin 2048) :
    k0_pay8 u (k0_pay4 s1v) (k0_pay5 s1g) (k0_pay6 s0g) v c1v cbg c2g c0g c1g wd (ix2 r l)
      = ∑ n : Fin 512, (let g := cbg (ix2 (0 : Fin 1) n) + c2g (ix2 (0 : Fin 1) n) * u (ix2 r n) + c0g (ix2 (0 : Fin 1) n) * s0g (ix2 r n) + c1g (ix2 (0 : Fin 1) n) * s1g (ix2 r n)
          g * Ideal.logistic g * (v (ix2 r n) + c1v (ix2 (0 : Fin 1) n) * s1v (ix2 r n))) * wd (ix2 n l) := by
  unfold_payloads
  pointwise

theorem pay9_at (u s1v s1g s0g v : FVec Ideal S32x512 .f32) (c1v cbg c2g c0g c1g : Vec Ideal S1x512 .f32) (wd : Vec Ideal S512x2048 .bf16) (y : Vec Ideal S32x2048 .f32) (r : Fin 32) (l : Fin 2048) :
    k0_pay9 u s1v s1g s0g v c1v cbg c2g c0g c1g wd y (ix2 r l) = y (ix2 r l) + k0_pay8 u s1v s1g s0g v c1v cbg c2g c0g c1g wd (ix2 r l) := by
  unfold k0_pay9
  generalize k0_pay8 u s1v s1g s0g v c1v cbg c2g c0g c1g wd = p
  pointwise

/-! ## A point -/

variable (m : (ℓ : Loc nD τ sig) → Buf (Elt Ideal) ℓ)

abbrev a0 (c : Dev nD) : S32x2048.Idx → EReal := m ((c : Thread nD τ).loc main_arg0)
abbrev a1 (c : Dev nD) : S32x2048.Idx → EReal := m ((c : Thread nD τ).loc main_arg1)
abbrev a2 (c : Dev nD) : S1x32x2048.Idx → EReal := m ((c : Thread nD τ).loc main_arg2)
abbrev a3 (c : Dev nD) : S1x2048x11264.Idx → EReal := m ((c : Thread nD τ).loc main_arg3)
abbrev a4 (c : Dev nD) : S1x3x11264.Idx → EReal := m ((c : Thread nD τ).loc main_arg4)
abbrev a5 (c : Dev nD) : S1x11264.Idx → EReal := m ((c : Thread nD τ).loc main_arg5)
abbrev a6 (c : Dev nD) : S1x5632x2048.Idx → EReal := m ((c : Thread nD τ).loc main_arg6)
abbrev a7 (c : Dev nD) : S2048.Idx → EReal := m ((c : Thread nD τ).loc main_arg7)
abbrev a8 (c : Dev nD) : S1x32x2x11264.Idx → EReal := m ((c : Thread nD τ).loc main_arg8)

theorem t_lt (t : Fin cfg0.N) : t.val < 11 := lt_of_lt_of_eq t.isLt (show cfg0.N = 11 from N_0)
def jOf (t : Fin cfg0.N) : Fin 11 := ⟨t.val, t_lt t⟩

/-- Where each window's block stands at each point. -/
theorem idx_facts : ∀ t : Fin cfg0.N,
    (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0)
    ∧ (win0_3.index t 0 = 0 ∧ win0_3.index t 1 = t.val) ∧ (win0_4.index t 0 = 0 ∧ win0_4.index t 1 = t.val + 11)
    ∧ (win0_5.index t 0 = 0 ∧ win0_5.index t 1 = t.val) ∧ (win0_6.index t 0 = 0 ∧ win0_6.index t 1 = t.val + 11)
    ∧ (win0_7.index t 0 = 0 ∧ win0_7.index t 1 = t.val) ∧ (win0_8.index t 0 = 0 ∧ win0_8.index t 1 = t.val + 11)
    ∧ (win0_9.index t 0 = t.val ∧ win0_9.index t 1 = 0) ∧ (win0_10.index t 0 = 0 ∧ win0_10.index t 1 = 0)
    ∧ (win0_11.index t 0 = 0 ∧ win0_11.index t 1 = t.val) ∧ (win0_12.index t 0 = 0 ∧ win0_12.index t 1 = t.val + 11)
    ∧ (win0_13.index t 0 = 0 ∧ win0_13.index t 1 = t.val) ∧ (win0_14.index t 0 = 0 ∧ win0_14.index t 1 = t.val + 11)
    ∧ (win0_15.index t 0 = 0 ∧ win0_15.index t 1 = 0)
    ∧ (win0_16.index t 0 = 0 ∧ win0_16.index t 1 = t.val) ∧ (win0_17.index t 0 = 0 ∧ win0_17.index t 1 = t.val) :=
  (by decide +kernel : ∀ t : Fin grid0.N, _)

theorem blk0 (c : Dev nD) (t : Fin cfg0.N) (r : Fin 32) (k : Fin 2048) :
    (iblk m c 0 t : Vec Ideal S32x2048 .bf16) (ix2 r k) = a0 m c (ix2 r k) := by
  obtain ⟨⟨e0, e1⟩, -⟩ := idx_facts t
  unfold iblk
  rw [View.read_apply]
  have hi : ((cfg0.win 0).blk t).view.emb (ix2 r k) = (ix2 r k) := by
    funext a
    apply Fin.ext
    match a with
    | ⟨0, _⟩ => show win0_0.index t 0 * 32 + 1 * (r.val : Nat) = r.val; rw [e0] <;> omega
    | ⟨1, _⟩ => show win0_0.index t 1 * 2048 + 1 * (k.val : Nat) = k.val; rw [e1] <;> omega
  rw [hi]
  show V m c main_arg0 (ix2 r k) = _
  rw [V_main_arg0]

theorem blk1 (c : Dev nD) (t : Fin cfg0.N) (r : Fin 32) (k : Fin 2048) :
    (iblk m c 1 t : Vec Ideal S32x2048 .f32) (ix2 r k) = a1 m c (ix2 r k) := by
  obtain ⟨-, ⟨e0, e1⟩, -⟩ := idx_facts t
  unfold iblk
  rw [View.read_apply]
  have hi : ((cfg0.win 1).blk t).view.emb (ix2 r k) = (ix2 r k) := by
    funext a
    apply Fin.ext
    match a with
    | ⟨0, _⟩ => show win0_1.index t 0 * 32 + 1 * (r.val : Nat) = r.val; rw [e0] <;> omega
    | ⟨1, _⟩ => show win0_1.index t 1 * 2048 + 1 * (k.val : Nat) = k.val; rw [e1] <;> omega
  rw [hi]
  show V m c main_arg1 (ix2 r k) = _
  rw [V_main_arg1]

theorem blk2 (c : Dev nD) (t : Fin cfg0.N) (r : Fin 32) (k : Fin 2048) :
    (iblk m c 2 t : Vec Ideal S1x32x2048 .f32) (ix3 (0 : Fin 1) r k) = a2 m c (ix3 (0 : Fin 1) r k) := by
  obtain ⟨-, -, ⟨e0, e1, e2⟩, -⟩ := idx_facts t
  unfold iblk
  rw [View.read_apply]
  have hi : ((cfg0.win 2).blk t).view.emb (ix3 (0 : Fin 1) r k) = (ix3 (0 : Fin 1) r k) := by
    funext a
    apply Fin.ext
    match a with
    | ⟨0, _⟩ => show win0_2.index t 0 * 1 + 1 * (0 : Nat) = 0; rw [e0] <;> omega
    | ⟨1, _⟩ => show win0_2.index t 1 * 32 + 1 * (r.val : Nat) = r.val; rw [e1] <;> omega
    | ⟨2, _⟩ => show win0_2.index t 2 * 2048 + 1 * (k.val : Nat) = k.val; rw [e2] <;> omega
  rw [hi]
  show V m c main_arg2 (ix3 (0 : Fin 1) r k) = _
  rw [V_main_arg2]

theorem blk3 (c : Dev nD) (t : Fin cfg0.N) (k : Fin 2048) (l : Fin 512) :
    (iblk m c 3 t : Vec Ideal S2048x512 .bf16) (ix2 k l) = a3 m c (ix3 (0 : Fin 1) k (valCol (col (jOf t) l))) := by
  obtain ⟨-, -, -, ⟨e0, e1⟩, -⟩ := idx_facts t
  unfold iblk
  rw [View.read_apply]
  have hi : ((cfg0.win 3).blk t).view.emb (ix2 k l) = (ix2 k (valCol (col (jOf t) l))) := by
    funext a
    apply Fin.ext
    match a with
    | ⟨0, _⟩ => show win0_3.index t 0 * 2048 + 1 * (k.val : Nat) = k.val; rw [e0] <;> omega
    | ⟨1, _⟩ => show win0_3.index t 1 * 512 + 1 * (l.val : Nat) = 512 * t.val + l.val; rw [e1] <;> omega
  rw [hi]
  show (V m c main_v1 : S2048x11264.Idx → EReal) (ix2 k (valCol (col (jOf t) l))) = _
  unfold V V0 hostOps0
  after_reads_at
  try rfl

theorem blk4 (c : Dev nD) (t : Fin cfg0.N) (k : Fin 2048) (l : Fin 512) :
    (iblk m c 4 t : Vec Ideal S2048x512 .bf16) (ix2 k l) = a3 m c (ix3 (0 : Fin 1) k (gateCol (col (jOf t) l))) := by
  obtain ⟨-, -, -, -, ⟨e0, e1⟩, -⟩ := idx_facts t
  unfold iblk
  rw [View.read_apply]
  have hi : ((cfg0.win 4).blk t).view.emb (ix2 k l) = (ix2 k (gateCol (col (jOf t) l))) := by
    funext a
    apply Fin.ext
    match a with
    | ⟨0, _⟩ => show win0_4.index t 0 * 2048 + 1 * (k.val : Nat) = k.val; rw [e0] <;> omega
    | ⟨1, _⟩ => show win0_4.index t 1 * 512 + 1 * (l.val : Nat) = 5632 + (512 * t.val + l.val); rw [e1] <;> omega
  rw [hi]
  show (V m c main_v1 : S2048x11264.Idx → EReal) (ix2 k (gateCol (col (jOf t) l))) = _
  unfold V V0 hostOps0
  after_reads_at
  try rfl

theorem blk5 (c : Dev nD) (t : Fin cfg0.N) (k : Fin 3) (l : Fin 512) :
    (iblk m c 5 t : Vec Ideal S3x512 .f32) (ix2 k l) = a4 m c (ix3 (0 : Fin 1) k (valCol (col (jOf t) l))) := by
  obtain ⟨-, -, -, -, -, ⟨e0, e1⟩, -⟩ := idx_facts t
  unfold iblk
  rw [View.read_apply]
  have hi : ((cfg0.win 5).blk t).view.emb (ix2 k l) = (ix2 k (valCol (col (jOf t) l))) := by
    funext a
    apply Fin.ext
    match a with
    | ⟨0, _⟩ => show win0_5.index t 0 * 3 + 1 * (k.val : Nat) = k.val; rw [e0] <;> omega
    | ⟨1, _⟩ => show win0_5.index t 1 * 512 + 1 * (l.val : Nat) = 512 * t.val + l.val; rw [e1] <;> omega
  rw [hi]
  show (V m c main_v2 : S3x11264.Idx → EReal) (ix2 k (valCol (col (jOf t) l))) = _
  unfold V V0 hostOps0
  after_reads_at
  try rfl

theorem blk6 (c : Dev nD) (t : Fin cfg0.N) (k : Fin 3) (l : Fin 512) :
    (iblk m c 6 t : Vec Ideal S3x512 .f32) (ix2 k l) = a4 m c (ix3 (0 : Fin 1) k (gateCol (col (jOf t) l))) := by
  obtain ⟨-, -, -, -, -, -, ⟨e0, e1⟩, -⟩ := idx_facts t
  unfold iblk
  rw [View.read_apply]
  have hi : ((cfg0.win 6).blk t).view.emb (ix2 k l) = (ix2 k (gateCol (col (jOf t) l))) := by
    funext a
    apply Fin.ext
    match a with
    | ⟨0, _⟩ => show win0_6.index t 0 * 3 + 1 * (k.val : Nat) = k.val; rw [e0] <;> omega
    | ⟨1, _⟩ => show win0_6.index t 1 * 512 + 1 * (l.val : Nat) = 5632 + (512 * t.val + l.val); rw [e1] <;> omega
  rw [hi]
  show (V m c main_v2 : S3x11264.Idx → EReal) (ix2 k (gateCol (col (jOf t) l))) = _
  unfold V V0 hostOps0
  after_reads_at
  try rfl

theorem blk7 (c : Dev nD) (t : Fin cfg0.N) (l : Fin 512) :
    (iblk m c 7 t : Vec Ideal S1x512 .f32) (ix2 (0 : Fin 1) l) = a5 m c (ix2 (0 : Fin 1) (valCol (col (jOf t) l))) := by
  obtain ⟨-, -, -, -, -, -, -, ⟨e0, e1⟩, -⟩ := idx_facts t
  unfold iblk
  rw [View.read_apply]
  have hi : ((cfg0.win 7).blk t).view.emb (ix2 (0 : Fin 1) l) = (ix2 (0 : Fin 1) (valCol (col (jOf t) l))) := by
    funext a
    apply Fin.ext
    match a with
    | ⟨0, _⟩ => show win0_7.index t 0 * 1 + 1 * (0 : Nat) = 0; rw [e0] <;> omega
    | ⟨1, _⟩ => show win0_7.index t 1 * 512 + 1 * (l.val : Nat) = 512 * t.val + l.val; rw [e1] <;> omega
  rw [hi]
  show (V m c main_v7 : S1x11264.Idx → EReal) (ix2 (0 : Fin 1) (valCol (col (jOf t) l))) = _
  unfold V V0 hostOps0
  after_reads_at
  try rfl

theorem blk8 (c : Dev nD) (t : Fin cfg0.N) (l : Fin 512) :
    (iblk m c 8 t : Vec Ideal S1x512 .f32) (ix2 (0 : Fin 1) l) = a5 m c (ix2 (0 : Fin 1) (gateCol (col (jOf t) l))) := by
  obtain ⟨-, -, -, -, -, -, -, -, ⟨e0, e1⟩, -⟩ := idx_facts t
  unfold iblk
  rw [View.read_apply]
  have hi : ((cfg0.win 8).blk t).view.emb (ix2 (0 : Fin 1) l) = (ix2 (0 : Fin 1) (gateCol (col (jOf t) l))) := by
    funext a
    apply Fin.ext
    match a with
    | ⟨0, _⟩ => show win0_8.index t 0 * 1 + 1 * (0 : Nat) = 0; rw [e0] <;> omega
    | ⟨1, _⟩ => show win0_8.index t 1 * 512 + 1 * (l.val : Nat) = 5632 + (512 * t.val + l.val); rw [e1] <;> omega
  rw [hi]
  show (V m c main_v7 : S1x11264.Idx → EReal) (ix2 (0 : Fin 1) (gateCol (col (jOf t) l))) = _
  unfold V V0 hostOps0
  after_reads_at
  try rfl

theorem blk9 (c : Dev nD) (t : Fin cfg0.N) (n : Fin 512) (l : Fin 2048) :
    (iblk m c 9 t : Vec Ideal S512x2048 .bf16) (ix2 n l) = a6 m c (ix3 (0 : Fin 1) (col (jOf t) n) l) := by
  obtain ⟨-, -, -, -, -, -, -, -, -, ⟨e0, e1⟩, -⟩ := idx_facts t
  unfold iblk
  rw [View.read_apply]
  have hi : ((cfg0.win 9).blk t).view.emb (ix2 n l) = (ix2 (col (jOf t) n) l) := by
    funext a
    apply Fin.ext
    match a with
    | ⟨0, _⟩ => show win0_9.index t 0 * 512 + 1 * (n.val : Nat) = 512 * t.val + n.val; rw [e0] <;> omega
    | ⟨1, _⟩ => show win0_9.index t 1 * 2048 + 1 * (l.val : Nat) = l.val; rw [e1] <;> omega
  rw [hi]
  show (V m c main_v5 : S5632x2048.Idx → EReal) (ix2 (col (jOf t) n) l) = _
  unfold V V0 hostOps0
  after_reads_at
  try rfl

theorem blk10 (c : Dev nD) (t : Fin cfg0.N) (l : Fin 2048) :
    (iblk m c 10 t : Vec Ideal S1x2048 .f32) (ix2 (0 : Fin 1) l) = a7 m c (ix1 l) := by
  obtain ⟨-, -, -, -, -, -, -, -, -, -, ⟨e0, e1⟩, -⟩ := idx_facts t
  unfold iblk
  rw [View.read_apply]
  have hi : ((cfg0.win 10).blk t).view.emb (ix2 (0 : Fin 1) l) = (ix2 (0 : Fin 1) l) := by
    funext a
    apply Fin.ext
    match a with
    | ⟨0, _⟩ => show win0_10.index t 0 * 1 + 1 * (0 : Nat) = 0; rw [e0] <;> omega
    | ⟨1, _⟩ => show win0_10.index t 1 * 2048 + 1 * (l.val : Nat) = l.val; rw [e1] <;> omega
  rw [hi]
  show (V m c main_v12 : S1x2048.Idx → EReal) (ix2 (0 : Fin 1) l) = _
  unfold V V0 hostOps0
  after_reads_at
  try rfl

theorem blk11 (c : Dev nD) (t : Fin cfg0.N) (r : Fin 32) (l : Fin 512) :
    (iblk m c 11 t : Vec Ideal S32x512 .f32) (ix2 r l) = a8 m c (ix4 (0 : Fin 1) r (0 : Fin 2) (valCol (col (jOf t) l))) := by
  obtain ⟨-, -, -, -, -, -, -, -, -, -, -, ⟨e0, e1⟩, -⟩ := idx_facts t
  unfold iblk
  rw [View.read_apply]
  have hi : ((cfg0.win 11).blk t).view.emb (ix2 r l) = (ix2 r (valCol (col (jOf t) l))) := by
    funext a
    apply Fin.ext
    match a with
    | ⟨0, _⟩ => show win0_11.index t 0 * 32 + 1 * (r.val : Nat) = r.val; rw [e0] <;> omega
    | ⟨1, _⟩ => show win0_11.index t 1 * 512 + 1 * (l.val : Nat) = 512 * t.val + l.val; rw [e1] <;> omega
  rw [hi]
  show (V m c main_v9 : S32x11264.Idx → EReal) (ix2 r (valCol (col (jOf t) l))) = _
  unfold V V0 hostOps0
  after_reads_at
  try rfl

theorem blk12 (c : Dev nD) (t : Fin cfg0.N) (r : Fin 32) (l : Fin 512) :
    (iblk m c 12 t : Vec Ideal S32x512 .f32) (ix2 r l) = a8 m c (ix4 (0 : Fin 1) r (0 : Fin 2) (gateCol (col (jOf t) l))) := by
  obtain ⟨-, -, -, -, -, -, -, -, -, -, -, -, ⟨e0, e1⟩, -⟩ := idx_facts t
  unfold iblk
  rw [View.read_apply]
  have hi : ((cfg0.win 12).blk t).view.emb (ix2 r l) = (ix2 r (gateCol (col (jOf t) l))) := by
    funext a
    apply Fin.ext
    match a with
    | ⟨0, _⟩ => show win0_12.index t 0 * 32 + 1 * (r.val : Nat) = r.val; rw [e0] <;> omega
    | ⟨1, _⟩ => show win0_12.index t 1 * 512 + 1 * (l.val : Nat) = 5632 + (512 * t.val + l.val); rw [e1] <;> omega
  rw [hi]
  show (V m c main_v9 : S32x11264.Idx → EReal) (ix2 r (gateCol (col (jOf t) l))) = _
  unfold V V0 hostOps0
  after_reads_at
  try rfl

theorem blk13 (c : Dev nD) (t : Fin cfg0.N) (r : Fin 32) (l : Fin 512) :
    (iblk m c 13 t : Vec Ideal S32x512 .f32) (ix2 r l) = a8 m c (ix4 (0 : Fin 1) r (1 : Fin 2) (valCol (col (jOf t) l))) := by
  obtain ⟨-, -, -, -, -, -, -, -, -, -, -, -, -, ⟨e0, e1⟩, -⟩ := idx_facts t
  unfold iblk
  rw [View.read_apply]
  have hi : ((cfg0.win 13).blk t).view.emb (ix2 r l) = (ix2 r (valCol (col (jOf t) l))) := by
    funext a
    apply Fin.ext
    match a with
    | ⟨0, _⟩ => show win0_13.index t 0 * 32 + 1 * (r.val : Nat) = r.val; rw [e0] <;> omega
    | ⟨1, _⟩ => show win0_13.index t 1 * 512 + 1 * (l.val : Nat) = 512 * t.val + l.val; rw [e1] <;> omega
  rw [hi]
  show (V m c main_v11 : S32x11264.Idx → EReal) (ix2 r (valCol (col (jOf t) l))) = _
  unfold V V0 hostOps0
  after_reads_at
  try rfl

theorem blk14 (c : Dev nD) (t : Fin cfg0.N) (r : Fin 32) (l : Fin 512) :
    (iblk m c 14 t : Vec Ideal S32x512 .f32) (ix2 r l) = a8 m c (ix4 (0 : Fin 1) r (1 : Fin 2) (gateCol (col (jOf t) l))) := by
  obtain ⟨-, -, -, -, -, -, -, -, -, -, -, -, -, -, ⟨e0, e1⟩, -⟩ := idx_facts t
  unfold iblk
  rw [View.read_apply]
  have hi : ((cfg0.win 14).blk t).view.emb (ix2 r l) = (ix2 r (gateCol (col (jOf t) l))) := by
    funext a
    apply Fin.ext
    match a with
    | ⟨0, _⟩ => show win0_14.index t 0 * 32 + 1 * (r.val : Nat) = r.val; rw [e0] <;> omega
    | ⟨1, _⟩ => show win0_14.index t 1 * 512 + 1 * (l.val : Nat) = 5632 + (512 * t.val + l.val); rw [e1] <;> omega
  rw [hi]
  show (V m c main_v11 : S32x11264.Idx → EReal) (ix2 r (gateCol (col (jOf t) l))) = _
  unfold V V0 hostOps0
  after_reads_at
  try rfl

theorem z2 : (![0, 0] : Fin 2 → Nat) = fun _ => 0 := funext fun a => by fin_cases a <;> rfl
theorem z3 : (![0, 0, 0] : Fin 3 → Nat) = fun _ => 0 := funext fun a => by fin_cases a <;> rfl

/-- A row of the convolution's weights. -/
abbrev cr (x : Vec Ideal S3x512 .f32) (k : ℕ) (inb : ∀ a, (![k, 0] : Fin 2 → ℕ) a + (![1, 512] : Fin 2 → ℕ) a ≤ S3x512.size a) : Vec Ideal S1x512 .f32 :=
  View.ld x (Rect.unit ![k, 0] ![1, 512] inb)

theorem cr_at (x : Vec Ideal S3x512 .f32) (k : Fin 3) (inb) (l : Fin 512) : cr x k.val inb (ix2 (0 : Fin 1) l) = x (ix2 k l) :=
  View.ld_unit_apply_of x _ _ inb (ix2 (0 : Fin 1) l) (ix2 k l) fun a => by
    match a with
    | ⟨0, _⟩ => show k.val = k.val + 0; omega
    | ⟨1, _⟩ => show l.val = 0 + l.val; omega

/-- What the point adds, and the products it leaves. -/
def addY (c : Dev nD) (t : Fin cfg0.N) : Vec Ideal S32x2048 .f32 :=
  k0_pay8 (F := Ideal) (k0_pay3 (iblk m c 0 t) (iblk m c 4 t)) (k0_pay4 (iblk m c 13 t)) (k0_pay5 (iblk m c 14 t)) (k0_pay6 (iblk m c 12 t))
    (k0_pay7 (iblk m c 0 t) (iblk m c 3 t) (iblk m c 11 t) (iblk m c 7 t) (cr (iblk m c 5 t) 2 inb_S3x512_S1x512_2_0) (cr (iblk m c 5 t) 0 inb_S3x512_S1x512_0_0))
    (cr (iblk m c 5 t) 1 inb_S3x512_S1x512_1_0) (iblk m c 8 t) (cr (iblk m c 6 t) 2 inb_S3x512_S1x512_2_0) (cr (iblk m c 6 t) 0 inb_S3x512_S1x512_0_0)
    (cr (iblk m c 6 t) 1 inb_S3x512_S1x512_1_0) (iblk m c 9 t)

theorem newV_at (c : Dev nD) (t : Fin cfg0.N) (r : Fin 32) (l : Fin 512) :
    k0_pay2 (F := Ideal) (iblk m c 0 t) (iblk m c 3 t) (ix2 r l) = val_main_v7 (F := Ideal) (a0 m c) (a3 m c) (ix3 r (0 : Fin 1) (valCol (col (jOf t) l))) :=
  up2 _ _ r l _ _ _ (fun k => blk0 m c t r k) (fun k => blk3 m c t k l)
theorem newG_at (c : Dev nD) (t : Fin cfg0.N) (r : Fin 32) (l : Fin 512) :
    k0_pay3 (F := Ideal) (iblk m c 0 t) (iblk m c 4 t) (ix2 r l) = val_main_v7 (F := Ideal) (a0 m c) (a3 m c) (ix3 r (0 : Fin 1) (gateCol (col (jOf t) l))) :=
  up2 _ _ r l _ _ _ (fun k => blk0 m c t r k) (fun k => blk4 m c t k l)

theorem addY_at (c : Dev nD) (t : Fin cfg0.N) (r : Fin 32) (l : Fin 2048) :
    addY m c t (ix2 r l) = ∑ n : Fin 512, act (a0 m c) (a3 m c) (a4 m c) (a5 m c) (a8 m c) r (col (jOf t) n) * a6 m c (ix3 (0 : Fin 1) (col (jOf t) n) l) := by
  unfold addY
  rw [pay8_at]
  refine Finset.sum_congr rfl fun n _ => ?_
  unfold act conv
  dsimp only
  rw [pay7_at, newV_at, newG_at, blk9]
  have v2 := (cr_at (iblk m c 5 t) 2 inb_S3x512_S1x512_2_0 n).trans (blk5 m c t 2 n)
  have v1 := (cr_at (iblk m c 5 t) 1 inb_S3x512_S1x512_1_0 n).trans (blk5 m c t 1 n)
  have v0 := (cr_at (iblk m c 5 t) 0 inb_S3x512_S1x512_0_0 n).trans (blk5 m c t 0 n)
  have g2 := (cr_at (iblk m c 6 t) 2 inb_S3x512_S1x512_2_0 n).trans (blk6 m c t 2 n)
  have g1 := (cr_at (iblk m c 6 t) 1 inb_S3x512_S1x512_1_0 n).trans (blk6 m c t 1 n)
  have g0 := (cr_at (iblk m c 6 t) 0 inb_S3x512_S1x512_0_0 n).trans (blk6 m c t 0 n)
  rw [blk7, blk8, blk11, blk12, blk13, blk14]
  simp only [Fin.val_zero, Fin.val_one, Fin.val_two] at v2 v1 v0 g2 g1 g0
  rw [v2, v1, v0, g2, g1, g0]

theorem firstY (c : Dev nD) (t : Fin cfg0.N) (h0 : t.val % 11 = 0) (h1 : ¬1 ≤ t.val) (h2 : ¬t.val % 11 = 10) : (outsAt0 m c t.val t.isLt).1 = addY m c t := by
  rw [outsAt0_A m c t h0 h1 h2]
  unfold out0_A_15 kernelRun0_A
  dsimp only
  unfold kernelRun0_A.sl.r kernelRun0_A.sl.r_1 kernelRun0_A.sl.r_2 kernelRun0_A.sl.r_3 kernelRun0_A.sl.r_4
  simp only [View.read_writes_junk_eq_canon, View.readAt_eq_ld, Memref.IsWhole.read_unread]
  rw [View.canon_unit_zero z2]
  simp only [View.ld_unit_zero (S := S32x2048) z2, View.ld_unit_zero (S := S2048x512) z2, View.ld_unit_zero (S := S32x512) z2, View.ld_unit_zero (S := S1x512) z2, View.ld_unit_zero (S := S512x2048) z2]
  rfl

theorem nextY (c : Dev nD) (t : Fin cfg0.N) (h0 : ¬t.val % 11 = 0) (h1 : 1 ≤ t.val) (h2 : ¬t.val % 11 = 10) (r : Fin 32) (l : Fin 2048) :
    (outsAt0 m c t.val t.isLt).1 (ix2 r l) = (outsAt0 m c (t.val - 1) (Nat.lt_of_le_of_lt (Nat.sub_le _ _) t.isLt)).1 (ix2 r l) + addY m c t (ix2 r l) := by
  rw [outsAt0_B m c t h0 h1 h2]
  unfold out0_B_15 kernelRun0_B
  dsimp only
  unfold kernelRun0_B.sl.r kernelRun0_B.sl.r_1 kernelRun0_B.sl.r_2 kernelRun0_B.sl.r_3 kernelRun0_B.sl.r_4
  simp only [View.read_writes_junk_eq_canon, View.readAt_eq_ld, Memref.IsWhole.read_unread]
  rw [View.canon_unit_zero z2]
  simp only [View.ld_unit_zero (S := S32x2048) z2, View.ld_unit_zero (S := S2048x512) z2, View.ld_unit_zero (S := S32x512) z2, View.ld_unit_zero (S := S1x512) z2, View.ld_unit_zero (S := S512x2048) z2]
  exact pay9_at ..

theorem lastY (c : Dev nD) (t : Fin cfg0.N) (h0 : ¬t.val % 11 = 0) (h1 : 1 ≤ t.val) (h2 : t.val % 11 = 10) : ∃ y : Vec Ideal S32x2048 .f32,
    (∀ (r : Fin 32) (l : Fin 2048), y (ix2 r l) = (outsAt0 m c (t.val - 1) (Nat.lt_of_le_of_lt (Nat.sub_le _ _) t.isLt)).1 (ix2 r l) + addY m c t (ix2 r l))
      ∧ (outsAt0 m c t.val t.isLt).1 = k0_pay1 (F := Ideal) (iblk m c 1 t) (iblk m c 2 t) y (iblk m c 10 t) := by
  rw [outsAt0_C m c t h0 h1 h2]
  unfold out0_C_15 kernelRun0_C
  dsimp only
  unfold kernelRun0_C.sl.v72 kernelRun0_C.sl.H15_1
  unfold kernelRun0_C.sl.r kernelRun0_C.sl.r_1 kernelRun0_C.sl.r_2 kernelRun0_C.sl.r_3 kernelRun0_C.sl.r_4
  simp only [View.read_writes_junk_eq_canon, View.readAt_eq_ld, Memref.IsWhole.read_unread]
  rw [View.canon_cons_unit_zero z2, View.readCov_unit_zero _ z2]
  simp only [View.ld_unit_zero (S := S32x2048) z2, View.ld_unit_zero (S := S2048x512) z2, View.ld_unit_zero (S := S32x512) z2, View.ld_unit_zero (S := S1x512) z2, View.ld_unit_zero (S := S512x2048) z2, View.ld_unit_zero (S := S1x2048) z2, View.ld_unit_zero (S := S1x32x2048) z3]
  exact ⟨_, fun r l => pay9_at .., rfl⟩

theorem out16 (c : Dev nD) (t : Fin cfg0.N) : (outsAt0 m c t.val t.isLt).2.1 = k0_pay2 (F := Ideal) (iblk m c 0 t) (iblk m c 3 t) := by
  have ht := t_lt t
  by_cases h0 : t.val % 11 = 0
  · rw [outsAt0_A m c t h0 (by omega) (by omega)]
    unfold out0_A_16 kernelRun0_A
    dsimp only
    try unfold kernelRun0_A.sl.r
    simp only [View.read_writes_junk_eq_canon, View.readAt_eq_ld, Memref.IsWhole.read_unread]
    rw [View.canon_unit_zero z2]
    simp only [View.ld_unit_zero (S := S32x2048) z2, View.ld_unit_zero (S := S2048x512) z2, View.ld_unit_zero (S := S32x512) z2, View.ld_unit_zero (S := S1x512) z2, View.ld_unit_zero (S := S512x2048) z2]
  · by_cases h2 : t.val % 11 = 10
    · rw [outsAt0_C m c t h0 (by omega) h2]
      unfold out0_C_16 kernelRun0_C
      dsimp only
      try unfold kernelRun0_C.sl.r
      simp only [View.read_writes_junk_eq_canon, View.readAt_eq_ld, Memref.IsWhole.read_unread]
      rw [View.canon_unit_zero z2]
      simp only [View.ld_unit_zero (S := S32x2048) z2, View.ld_unit_zero (S := S2048x512) z2, View.ld_unit_zero (S := S32x512) z2, View.ld_unit_zero (S := S1x512) z2, View.ld_unit_zero (S := S512x2048) z2]
    · rw [outsAt0_B m c t h0 (by omega) h2]
      unfold out0_B_16 kernelRun0_B
      dsimp only
      try unfold kernelRun0_B.sl.r
      simp only [View.read_writes_junk_eq_canon, View.readAt_eq_ld, Memref.IsWhole.read_unread]
      rw [View.canon_unit_zero z2]
      simp only [View.ld_unit_zero (S := S32x2048) z2, View.ld_unit_zero (S := S2048x512) z2, View.ld_unit_zero (S := S32x512) z2, View.ld_unit_zero (S := S1x512) z2, View.ld_unit_zero (S := S512x2048) z2]

theorem out17 (c : Dev nD) (t : Fin cfg0.N) : (outsAt0 m c t.val t.isLt).2.2 = k0_pay3 (F := Ideal) (iblk m c 0 t) (iblk m c 4 t) := by
  have ht := t_lt t
  by_cases h0 : t.val % 11 = 0
  · rw [outsAt0_A m c t h0 (by omega) (by omega)]
    unfold out0_A_17 kernelRun0_A
    dsimp only
    try unfold kernelRun0_A.sl.r
    simp only [View.read_writes_junk_eq_canon, View.readAt_eq_ld, Memref.IsWhole.read_unread]
    rw [View.canon_unit_zero z2]
    simp only [View.ld_unit_zero (S := S32x2048) z2, View.ld_unit_zero (S := S2048x512) z2, View.ld_unit_zero (S := S32x512) z2, View.ld_unit_zero (S := S1x512) z2, View.ld_unit_zero (S := S512x2048) z2]
  · by_cases h2 : t.val % 11 = 10
    · rw [outsAt0_C m c t h0 (by omega) h2]
      unfold out0_C_17 kernelRun0_C
      dsimp only
      try unfold kernelRun0_C.sl.r
      simp only [View.read_writes_junk_eq_canon, View.readAt_eq_ld, Memref.IsWhole.read_unread]
      rw [View.canon_unit_zero z2]
      simp only [View.ld_unit_zero (S := S32x2048) z2, View.ld_unit_zero (S := S2048x512) z2, View.ld_unit_zero (S := S32x512) z2, View.ld_unit_zero (S := S1x512) z2, View.ld_unit_zero (S := S512x2048) z2]
    · rw [outsAt0_B m c t h0 (by omega) h2]
      unfold out0_B_17 kernelRun0_B
      dsimp only
      try unfold kernelRun0_B.sl.r
      simp only [View.read_writes_junk_eq_canon, View.readAt_eq_ld, Memref.IsWhole.read_unread]
      rw [View.canon_unit_zero z2]
      simp only [View.ld_unit_zero (S := S32x2048) z2, View.ld_unit_zero (S := S2048x512) z2, View.ld_unit_zero (S := S32x512) z2, View.ld_unit_zero (S := S1x512) z2, View.ld_unit_zero (S := S512x2048) z2]

/-- The output block before the last point: the sum over the columns so far. -/
theorem acc_at (c : Dev nD) (r : Fin 32) (l : Fin 2048) (n : ℕ) : ∀ t : Fin cfg0.N, t.val = n → n < 10 →
    (outsAt0 m c t.val t.isLt).1 (ix2 r l) = ∑ x ∈ Finset.range (512 * (t.val + 1)), term (a0 m c) (a3 m c) (a4 m c) (a5 m c) (a6 m c) (a8 m c) r l x := by
  induction n with
  | zero =>
    intro t ht _
    rw [firstY m c t (by omega) (by omega) (by omega), addY_at]
    refine Eq.trans ?_ (sum_step (a0 m c) (a3 m c) (a4 m c) (a5 m c) (a6 m c) (a8 m c) r l (jOf t))
    rw [show (jOf t).val = 0 from ht, Nat.mul_zero, Finset.sum_range_zero, zero_add]
  | succ n ih =>
    intro t ht hn
    rw [nextY m c t (by omega) (by omega) (by omega), addY_at]
    refine Eq.trans ?_ (sum_step (a0 m c) (a3 m c) (a4 m c) (a5 m c) (a6 m c) (a8 m c) r l (jOf t))
    refine congrArg (· + _) ((ih ⟨t.val - 1, Nat.lt_of_le_of_lt (Nat.sub_le _ _) t.isLt⟩ (by show t.val - 1 = n; omega) (by omega)).trans ?_)
    show ∑ x ∈ Finset.range (512 * (t.val - 1 + 1)), _ = ∑ x ∈ Finset.range (512 * t.val), _
    rw [show t.val - 1 + 1 = t.val by omega]

/-! ## The result arrays -/

/-- The first result, as a function of the arguments. -/
abbrev GY (c : Dev nD) : S32x2048.Idx → EReal := val_main_v61 (F := Ideal) (a0 m c) (a1 m c) (a2 m c) (a3 m c) (a4 m c) (a5 m c) (a6 m c) (a7 m c) (a8 m c)
/-- The token's products, of the two halves. -/
def GV (c : Dev nD) : S32x5632.Idx → EReal := fun x => val_main_v7 (F := Ideal) (a0 m c) (a3 m c) (ix3 (x 0 : Fin 32) (0 : Fin 1) (valCol (x 1)))
def GG (c : Dev nD) : S32x5632.Idx → EReal := fun x => val_main_v7 (F := Ideal) (a0 m c) (a3 m c) (ix3 (x 0 : Fin 32) (0 : Fin 1) (gateCol (x 1)))
/-- The second result. -/
abbrev GT (c : Dev nD) : S32x2x11264.Idx → EReal := val_main_v43 (F := Ideal) (a0 m c) (a3 m c) (a8 m c)

theorem lastY_at (c : Dev nD) (t : Fin cfg0.N) (h2 : t.val % 11 = 10) (r : Fin 32) (l : Fin 2048) : (outsAt0 m c t.val t.isLt).1 (ix2 r l) = GY m c (ix2 r l) := by
  have ht := t_lt t
  obtain ⟨y, hy, e⟩ := lastY m c t (by omega) (by omega) h2
  rw [e]
  refine end_row (a0 m c) (a1 m c) (a2 m c) (a3 m c) (a4 m c) (a5 m c) (a6 m c) (a7 m c) (a8 m c) _ _ y _ r (fun l => blk1 m c t r l) (fun l => blk2 m c t r l) (fun l => ?_) (fun l => blk10 m c t l) l
  rw [hy, addY_at, down_row]
  have hs := sum_step (a0 m c) (a3 m c) (a4 m c) (a5 m c) (a6 m c) (a8 m c) r l (jOf t)
  rw [show (jOf t).val = 10 from (by show t.val = 10; omega)] at hs
  refine Eq.trans (congrArg (· + _) ((acc_at m c r l 9 ⟨t.val - 1, Nat.lt_of_le_of_lt (Nat.sub_le _ _) t.isLt⟩ (by show t.val - 1 = 9; omega) (by omega)).trans ?_)) hs
  show ∑ x ∈ Finset.range (512 * (t.val - 1 + 1)), _ = ∑ x ∈ Finset.range (512 * 10), _
  rw [show t.val - 1 + 1 = 10 by omega]

theorem flushed15 (c : Dev nD) (t : Fin cfg0.N) (hf : (cfg0.win 15).flush t = true) :
    (dats m 0 c).flushed 15 t = ((cfg0.win 15).blk t).view.read (Elt Ideal) (GY m c) := by
  have h10 : t.val % 11 = 10 := (flush0_15 t).mp hf
  show (cfg0.win 15).cut (grid0.coords t) ((dats m 0 c).after 15 t) = _
  rw [after0_15]
  obtain ⟨-, -, -, -, -, -, -, -, -, -, -, -, -, -, -, ⟨e0, e1⟩, -⟩ := idx_facts t
  funext j
  obtain ⟨r, l, rfl⟩ := (ix_exhaust2 j : ∃ (r : Fin 32) (l : Fin 2048), j = ix2 r l)
  rw [View.read_apply]
  have hi : ((cfg0.win 15).blk t).view.emb (ix2 r l) = ix2 r l := by
    funext a
    apply Fin.ext
    match a with
    | ⟨0, _⟩ => show win0_15.index t 0 * 32 + 1 * (r.val : Nat) = r.val; rw [e0] <;> omega
    | ⟨1, _⟩ => show win0_15.index t 1 * 2048 + 1 * (l.val : Nat) = l.val; rw [e1] <;> omega
  rw [hi]
  exact lastY_at m c t h10 r l

theorem cover15 (x : S32x2048.Idx) : ∃ t : Fin cfg0.N, (cfg0.win 15).flush t = true ∧ x ∈ ((cfg0.win 15).blk t).view.set := by
  have h0 : (x 0 : Nat) < 32 := (x 0).isLt
  have h1 : (x 1 : Nat) < 2048 := (x 1).isLt
  refine ⟨t0_10, (flush0_15 t0_10).mpr rfl, ?_⟩
  obtain ⟨-, -, -, -, -, -, -, -, -, -, -, -, -, -, -, ⟨e0, e1⟩, -⟩ := idx_facts t0_10
  show x ∈ ((View.whole main_v13_0).slice (win0_15.rect t0_10)).set
  rw [View.set_slice_whole, Rect.mem_set_unit]
  intro a
  match a with
  | ⟨0, _⟩ => show win0_15.index t0_10 0 * 32 ≤ (x 0 : Nat) ∧ (x 0 : Nat) < win0_15.index t0_10 0 * 32 + 32; rw [e0]; omega
  | ⟨1, _⟩ => show win0_15.index t0_10 1 * 2048 ≤ (x 1 : Nat) ∧ (x 1 : Nat) < win0_15.index t0_10 1 * 2048 + 2048; rw [e1]; omega

theorem final15 (c : Dev nD) : (dats m 0 c).arrAt 15 cfg0.N = GY m c :=
  (dats m 0 c).arrAt_eq_of_cover 15 (GY m c) (fun t hf => flushed15 m c t hf) fun i => cover15 i

theorem flushed16 (c : Dev nD) (t : Fin cfg0.N) :
    (dats m 0 c).flushed 16 t = ((cfg0.win 16).blk t).view.read (Elt Ideal) (GV m c) := by
  show (cfg0.win 16).cut (grid0.coords t) ((dats m 0 c).after 16 t) = _
  rw [after0_16, out16]
  obtain ⟨-, -, -, -, -, -, -, -, -, -, -, -, -, -, -, -, ⟨e0, e1⟩, -⟩ := idx_facts t
  funext j
  obtain ⟨r, l, rfl⟩ := (ix_exhaust2 j : ∃ (r : Fin 32) (l : Fin 512), j = ix2 r l)
  rw [View.read_apply]
  have hi : ((cfg0.win 16).blk t).view.emb (ix2 r l) = ix2 r (col (jOf t) l) := by
    funext a
    apply Fin.ext
    match a with
    | ⟨0, _⟩ => show win0_16.index t 0 * 32 + 1 * (r.val : Nat) = r.val; rw [e0] <;> omega
    | ⟨1, _⟩ => show win0_16.index t 1 * 512 + 1 * (l.val : Nat) = 512 * t.val + l.val; rw [e1] <;> omega
  rw [hi]
  exact newV_at m c t r l

theorem cover16 (x : S32x5632.Idx) : ∃ t : Fin cfg0.N, (cfg0.win 16).flush t = true ∧ x ∈ ((cfg0.win 16).blk t).view.set := by
  have h0 : (x 0 : Nat) < 32 := (x 0).isLt
  have h1 : (x 1 : Nat) < 5632 := (x 1).isLt
  obtain ⟨t, ht⟩ : ∃ t : Fin cfg0.N, t.val = (x 1 : Nat) / 512 := ⟨(⟨(x 1 : Nat) / 512, by omega⟩ : Fin 11), rfl⟩
  refine ⟨t, flush0_16 t, ?_⟩
  obtain ⟨-, -, -, -, -, -, -, -, -, -, -, -, -, -, -, -, ⟨e0, e1⟩, -⟩ := idx_facts t
  show x ∈ ((View.whole main_v13_1).slice (win0_16.rect t)).set
  rw [View.set_slice_whole, Rect.mem_set_unit]
  intro a
  match a with
  | ⟨0, _⟩ => show win0_16.index t 0 * 32 ≤ (x 0 : Nat) ∧ (x 0 : Nat) < win0_16.index t 0 * 32 + 32; rw [e0]; omega
  | ⟨1, _⟩ => show win0_16.index t 1 * 512 ≤ (x 1 : Nat) ∧ (x 1 : Nat) < win0_16.index t 1 * 512 + 512; rw [e1, ht]; omega

theorem final16 (c : Dev nD) : (dats m 0 c).arrAt 16 cfg0.N = GV m c :=
  (dats m 0 c).arrAt_eq_of_cover 16 (GV m c) (fun t _ => flushed16 m c t) fun i => cover16 i

theorem flushed17 (c : Dev nD) (t : Fin cfg0.N) :
    (dats m 0 c).flushed 17 t = ((cfg0.win 17).blk t).view.read (Elt Ideal) (GG m c) := by
  show (cfg0.win 17).cut (grid0.coords t) ((dats m 0 c).after 17 t) = _
  rw [after0_17, out17]
  obtain ⟨-, -, -, -, -, -, -, -, -, -, -, -, -, -, -, -, -, ⟨e0, e1⟩⟩ := idx_facts t
  funext j
  obtain ⟨r, l, rfl⟩ := (ix_exhaust2 j : ∃ (r : Fin 32) (l : Fin 512), j = ix2 r l)
  rw [View.read_apply]
  have hi : ((cfg0.win 17).blk t).view.emb (ix2 r l) = ix2 r (col (jOf t) l) := by
    funext a
    apply Fin.ext
    match a with
    | ⟨0, _⟩ => show win0_17.index t 0 * 32 + 1 * (r.val : Nat) = r.val; rw [e0] <;> omega
    | ⟨1, _⟩ => show win0_17.index t 1 * 512 + 1 * (l.val : Nat) = 512 * t.val + l.val; rw [e1] <;> omega
  rw [hi]
  exact newG_at m c t r l

theorem cover17 (x : S32x5632.Idx) : ∃ t : Fin cfg0.N, (cfg0.win 17).flush t = true ∧ x ∈ ((cfg0.win 17).blk t).view.set := by
  have h0 : (x 0 : Nat) < 32 := (x 0).isLt
  have h1 : (x 1 : Nat) < 5632 := (x 1).isLt
  obtain ⟨t, ht⟩ : ∃ t : Fin cfg0.N, t.val = (x 1 : Nat) / 512 := ⟨(⟨(x 1 : Nat) / 512, by omega⟩ : Fin 11), rfl⟩
  refine ⟨t, flush0_17 t, ?_⟩
  obtain ⟨-, -, -, -, -, -, -, -, -, -, -, -, -, -, -, -, -, ⟨e0, e1⟩⟩ := idx_facts t
  show x ∈ ((View.whole main_v13_2).slice (win0_17.rect t)).set
  rw [View.set_slice_whole, Rect.mem_set_unit]
  intro a
  match a with
  | ⟨0, _⟩ => show win0_17.index t 0 * 32 ≤ (x 0 : Nat) ∧ (x 0 : Nat) < win0_17.index t 0 * 32 + 32; rw [e0]; omega
  | ⟨1, _⟩ => show win0_17.index t 1 * 512 ≤ (x 1 : Nat) ∧ (x 1 : Nat) < win0_17.index t 1 * 512 + 512; rw [e1, ht]; omega

theorem final17 (c : Dev nD) : (dats m 0 c).arrAt 17 cfg0.N = GG m c :=
  (dats m 0 c).arrAt_eq_of_cover 17 (GG m c) (fun t _ => flushed17 m c t) fun i => cover17 i

/-! ## The host operations after the region -/

theorem tail_at (W : Valuation τ sig (Elt Ideal)) (r : Fin 32) (s : Fin 2) (C : Fin 11264) :
    (StableHlo.after (List.flatten [hostOps1]) W (Proc.devRef .tc main_v17) : S32x2x11264.Idx → EReal) (ix3 r s C)
      = if s.val < 1 then (W (Proc.devRef .tc main_v11) : S32x11264.Idx → EReal) (ix2 r C)
        else if h : C.val < 5632 then (W (Proc.devRef .tc main_v13_1) : S32x5632.Idx → EReal) (ix2 r (⟨C.val, h⟩ : Fin 5632))
        else (W (Proc.devRef .tc main_v13_2) : S32x5632.Idx → EReal) (ix2 r (⟨C.val - 5632, by omega⟩ : Fin 5632)) := by
  unfold hostOps1
  after_reads_at
  rfl

/-- The arrays of the region's exit. -/
abbrev WX (c : Dev nD) : Valuation τ sig (Elt Ideal) :=
  Pipeline.withArrays spec0 c (V0 m c) fun w => (dats m 0 c).arrAt w cfg0.N

theorem WX_arr (c : Dev nD) (w : Fin cfg0.W) : WX m c (Proc.devRef .tc (Pipeline.arrRef spec0 w)) = (dats m 0 c).arrAt w cfg0.N :=
  Pipeline.withArrays_arr_shared spec0 c (V0 m c) _ ((dats m 0 c).arrAt_sharedIn sharedIn0 (V0 m c) (A_eq m c) cfg0.N) w

/-- The kept row the host passes on. -/
theorem kept_row (c : Dev nD) (r : Fin 32) (C : Fin 11264) : (V m c main_v11 : S32x11264.Idx → EReal) (ix2 r C) = a8 m c (ix4 (0 : Fin 1) r (1 : Fin 2) C) := by
  unfold V V0 hostOps0
  after_reads_at
  try rfl

theorem result_tail (c : Dev nD) : Pipeline.afterTail₀ cfgs (dats m) 0 (V0 m) [hostOps1] c main_v17 = GT m c := by
  show (StableHlo.after (List.flatten [hostOps1]) (WX m c) (Proc.devRef .tc main_v17) : S32x2x11264.Idx → EReal) = _
  have h1 : (WX m c (Proc.devRef .tc main_v13_1) : S32x5632.Idx → EReal) = GV m c := (WX_arr m c 16).trans (final16 m c)
  have h2 : (WX m c (Proc.devRef .tc main_v13_2) : S32x5632.Idx → EReal) = GG m c := (WX_arr m c 17).trans (final17 m c)
  have h3 : (WX m c (Proc.devRef .tc main_v11) : S32x11264.Idx → EReal) = V m c main_v11 := (WX_arr m c 13).trans (((dats m 0 c).arrAt_in 13 rfl _).trans (A_eq m c 13))
  funext j
  obtain ⟨r, s, C, rfl⟩ := (ix_exhaust3 j : ∃ (r : Fin 32) (s : Fin 2) (C : Fin 11264), j = ix3 r s C)
  rw [tail_at, h1, h2, h3, kept_row]
  refine Eq.trans ?_ (tail_row (a0 m c) (a3 m c) (a8 m c) r s C).symm
  refine congrArg (fun z => if s.val < 1 then _ else z) ?_
  split_ifs with h
  · rfl
  · refine congrArg (fun x : Fin 11264 => val_main_v7 (F := Ideal) (a0 m c) (a3 m c) (ix3 r (0 : Fin 1) x)) (Fin.ext ?_)
    show 5632 + (C.val - 5632) = C.val
    omega

end FfnStep

theorem frame_k8 : Cert.quiescent_Kernel8 (hKernel8 := Cert.Kernel8.Gen.facts) := fun m g _ => Cert.Kernel8.Gen.frame m g

theorem frame_ki8 : Cert.quiescent_Kernel8Ideal (hKernel8Ideal := Cert.Kernel8Ideal.Gen.facts) := fun m g _ => Cert.Kernel8Ideal.Gen.frame m g

theorem frame_ri8 : Cert.quiescent_Reference8Ideal (hReference8Ideal := Cert.Reference8Ideal.Gen.facts) := fun m g _ =>
  (θ_run (Cert.Reference8Ideal.defs (F := Ideal)) _ _).mono (fun r h => ⟨fun c => (h c).2.2, sem_eq_zero_of_no_sems (by decide) r.2⟩) (Cert.Reference8Ideal.Value.run (F := Ideal) m g)

/-- From equal arguments the kernel's results and the reference's are equal. -/
theorem algebraic8 : Cert.algebraic_Kernel8Ideal_Reference8Ideal (hKernel8Ideal := Cert.Kernel8Ideal.Gen.facts) (hReference8Ideal := Cert.Reference8Ideal.Gen.facts) := by
  intro m g m' g' _ hargs
  refine ⟨fun c => FfnStep.GY m c, fun c => FfnStep.GT m c,
    (θ_run (Cert.Kernel8Ideal.defs (F := Ideal)) _ _).mono (fun r h c => ?_) (θ_run_and (Cert.Kernel8Ideal.Gen.unchanged (F := Ideal) m g) (Cert.Kernel8Ideal.Gen.run_main (F := Ideal) m g)), ?_⟩
  · exact ⟨((h.2 c).1 15).trans (FfnStep.final15 m c),
      ((h.2 c).2 Cert.Kernel8Ideal.main_v17 (Pipeline.mem_restRefs_of Cert.Kernel8Ideal.main_v17 (by decide) (by decide))).trans (FfnStep.result_tail m c), h.1 c⟩
  · refine (θ_run (Cert.Reference8Ideal.defs (F := Ideal)) _ _).mono (fun r h c => ?_) (Cert.Reference8Ideal.Value.run (F := Ideal) m' g')
    obtain ⟨p0, p1, hk⟩ := h c
    obtain ⟨h0, h1, h2, h3, h4, h5, h6, h7, h8⟩ := hargs c
    refine ⟨p0.trans ?_, p1.trans ?_, hk⟩
    · refine (Cert.Reference8Ideal.Read.val_main_v61_eq ..).trans ?_
      rw [h0, h1, h2, h3, h4, h5, h6, h7, h8]
    · refine (Cert.Reference8Ideal.Read.val_main_v43_eq ..).trans ?_
      rw [h0, h3, h8]

end Cert.Proof

end
-- ==== Proof.lean ====
/-
  The certificate's claim, put together from the modules that prove its parts.
-/
module

public import proofs.«01_k».proof.Defs
public import proofs.«01_k».proof.Proof.ScanClaims
public import proofs.«01_k».proof.Proof.Gen.Pre_powers_finite
public import proofs.«01_k».proof.Proof.FfnClaims
public import proofs.«01_k».proof.Proof.ClaimsProj
public import proofs.«01_k».proof.Proof.SampleProj
public import proofs.«01_k».proof.Proof.KvPrep
public import proofs.«01_k».proof.Proof.StepState
public import proofs.«01_k».proof.Proof.FfnStep

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_powers_finite.Gen.facts,
    frame_k1, frame_ki1, fun m g _ => frame_ki1 m g trivial, frame_ri1, fun m g _ => frame_ri1 m g trivial, frame_k2, frame_ki2, frame_ri2, frame_k3, frame_ki3, frame_ri3, frame_k4, frame_ki4, frame_ri4, frame_k5, frame_ki5, frame_ri5, frame_k6, frame_ki6, frame_ri6, frame_k7, frame_ki7, frame_ri7, frame_k8, frame_ki8, frame_ri8,
    trivial, algebraic1, trivial, algebraic2, trivial, algebraic3, trivial, algebraic4, trivial, algebraic5, trivial, algebraic6, trivial, algebraic7, trivial, algebraic8⟩

end Cert.Proof

end
